-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_top23 [hPre_top23 : Cert.Pre_top23.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_top23.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4)) (m ((c.tc : Thread Cert.Kernel23Ideal.nD Cert.Kernel23Ideal.τ).loc Cert.Kernel23Ideal.main_arg5))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_top23 [hPre_top23 : Cert.Pre_top23.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_top23.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4)) (m ((c.tc : Thread Cert.Reference23Ideal.nD Cert.Reference23Ideal.τ).loc Cert.Reference23Ideal.main_arg5))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_reals34 [hPre_reals34 : Cert.Pre_reals34.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_reals34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_reals34 [hPre_reals34 : Cert.Pre_reals34.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_reals34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Kernel23Ideal_pre_top23 [hKernel23Ideal : Cert.Kernel23Ideal.Facts] [hPre_top23 : Cert.Pre_top23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_top23 m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Reference23Ideal_pre_top23 [hReference23Ideal : Cert.Reference23Ideal.Facts] [hPre_top23 : Cert.Pre_top23.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_top23 m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Kernel34Ideal_pre_reals34 [hKernel34Ideal : Cert.Kernel34Ideal.Facts] [hPre_reals34 : Cert.Pre_reals34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_reals34 m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Reference34Ideal_pre_reals34 [hReference34Ideal : Cert.Reference34Ideal.Facts] [hPre_reals34 : Cert.Pre_reals34.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_reals34 m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v593) = v0 c
          ∧ r.2.mem ((c.tc : Thread Cert.ReferenceIdeal.nD Cert.ReferenceIdeal.τ).loc Cert.ReferenceIdeal.main_v594) = v1 c
          ∧ r.2.mem ((c.tc : Thread Cert.ReferenceIdeal.nD Cert.ReferenceIdeal.τ).loc Cert.ReferenceIdeal.main_v595) = v2 c
          ∧ r.2.mem ((c.tc : Thread Cert.ReferenceIdeal.nD Cert.ReferenceIdeal.τ).loc Cert.ReferenceIdeal.main_v596) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v25)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v25) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v26_0)) (v1 : (c : Dev Cert.Kernel10Ideal.nD) → Buf (Elt Ideal) ((c.tc : Thread Cert.Kernel10Ideal.nD Cert.Kernel10Ideal.τ).loc Cert.Kernel10Ideal.main_v26_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v26_0) = v0 c
          ∧ r.2.mem ((c.tc : Thread Cert.Kernel10Ideal.nD Cert.Kernel10Ideal.τ).loc Cert.Kernel10Ideal.main_v26_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v19) = v0 c
          ∧ r.2.mem ((c.tc : Thread Cert.Reference16Ideal.nD Cert.Reference16Ideal.τ).loc Cert.Reference16Ideal.main_v20) = v1 c
          ∧ r.2.mem ((c.tc : Thread Cert.Reference16Ideal.nD Cert.Reference16Ideal.τ).loc Cert.Reference16Ideal.main_v21) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v28) = v0 c
          ∧ r.2.mem ((c.tc : Thread Cert.Reference17Ideal.nD Cert.Reference17Ideal.τ).loc Cert.Reference17Ideal.main_v29) = v1 c
          ∧ r.2.mem ((c.tc : Thread Cert.Reference17Ideal.nD Cert.Reference17Ideal.τ).loc Cert.Reference17Ideal.main_v30) = v2 c
          ∧ r.2.mem ((c.tc : Thread Cert.Reference17Ideal.nD Cert.Reference17Ideal.τ).loc Cert.Reference17Ideal.main_v31) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_v19) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v233) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v15) = v0 c
          ∧ r.2.mem ((c.tc : Thread Cert.Reference22Ideal.nD Cert.Reference22Ideal.τ).loc Cert.Reference22Ideal.main_v14) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_top23 [hKernel23Ideal : Cert.Kernel23Ideal.Facts] [hReference23Ideal : Cert.Reference23Ideal.Facts] [hPre_top23 : Cert.Pre_top23.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_top23 m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal_pre_reals34 [hKernel34Ideal : Cert.Kernel34Ideal.Facts] [hReference34Ideal : Cert.Reference34Ideal.Facts] [hPre_reals34 : Cert.Pre_reals34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_reals34 m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v2_0)) (v1 : (c : Dev Cert.Kernel34Ideal.nD) → Buf (Elt Ideal) ((c.tc : Thread Cert.Kernel34Ideal.nD Cert.Kernel34Ideal.τ).loc Cert.Kernel34Ideal.main_v2_1)) (v2 : (c : Dev Cert.Kernel34Ideal.nD) → Buf (Elt Ideal) ((c.tc : Thread Cert.Kernel34Ideal.nD Cert.Kernel34Ideal.τ).loc Cert.Kernel34Ideal.main_v2_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v2_0) = v0 c
          ∧ r.2.mem ((c.tc : Thread Cert.Kernel34Ideal.nD Cert.Kernel34Ideal.τ).loc Cert.Kernel34Ideal.main_v2_1) = v1 c
          ∧ r.2.mem ((c.tc : Thread Cert.Kernel34Ideal.nD Cert.Kernel34Ideal.τ).loc Cert.Kernel34Ideal.main_v2_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v57) = v0 c
          ∧ r.2.mem ((c.tc : Thread Cert.Reference34Ideal.nD Cert.Reference34Ideal.τ).loc Cert.Reference34Ideal.main_v58) = v1 c
          ∧ r.2.mem ((c.tc : Thread Cert.Reference34Ideal.nD Cert.Reference34Ideal.τ).loc Cert.Reference34Ideal.main_v59) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_top23 : Cert.Pre_top23.Facts) (hPre_reals34 : Cert.Pre_reals34.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_top23 (hKernel23Ideal := hKernel23Ideal) (hPre_top23 := hPre_top23)
    ∧ quiescent_Reference23Ideal (hReference23Ideal := hReference23Ideal)
    ∧ quiescent_Reference23Ideal_pre_top23 (hReference23Ideal := hReference23Ideal) (hPre_top23 := hPre_top23)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Kernel34Ideal_pre_reals34 (hKernel34Ideal := hKernel34Ideal) (hPre_reals34 := hPre_reals34)
    ∧ quiescent_Reference34Ideal (hReference34Ideal := hReference34Ideal)
    ∧ quiescent_Reference34Ideal_pre_reals34 (hReference34Ideal := hReference34Ideal) (hPre_reals34 := hPre_reals34)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_top23 (hKernel23Ideal := hKernel23Ideal) (hReference23Ideal := hReference23Ideal) (hPre_top23 := hPre_top23)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal_pre_reals34 (hKernel34Ideal := hKernel34Ideal) (hReference34Ideal := hReference34Ideal) (hPre_reals34 := hPre_reals34)
-- ==== Pre_reals34.lean ====
abbrev S2048x512 : Shape := ⟨2, ![2048, 512]⟩
abbrev S512 : Shape := ⟨1, ![512]⟩
abbrev S_ : Shape := ⟨0, ![]⟩
abbrev S1x512 : Shape := ⟨2, ![1, 512]⟩

class Facts : Prop where
  bcast_S_S2048x512 : S_.BroadcastsInDim S2048x512 (![] : Fin 0 → Fin S2048x512.rank)
  bcast_S_S512 : S_.BroadcastsInDim S512 (![] : Fin 0 → Fin S512.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)

variable [Facts]

def fn {F : FTy → Type} [FloatOps F] (main_arg0 : FVec F S2048x512 .f32) (main_arg1 : FVec F S2048x512 .f32) (main_arg2 : FVec F S512 .f32) (main_arg3 : FVec F S512 .f32) : IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S512 .f32 := Host.absf main_arg2
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : IVec S1x512 1 := broadcastInDim S1x512 ![1] bcast_S512_S1x512_1 main_v5
  let main_v7 : IVec S2048x512 1 := broadcastInDim S2048x512 ![0, 1] bcast_S1x512_S2048x512_0_1 main_v6
  let main_v8 : IVec S2048x512 1 := andi main_v2 main_v7
  main_v8
-- ==== Pre_top23.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)

variable [Facts]

def fn {F : FTy → Type} [FloatOps F] (main_arg0 : FVec F S2048x512 .bf16) (main_arg1 : FVec F S2048x512 .bf16) (main_arg2 : FVec F S2048x512 .bf16) (main_arg3 : FVec F S2048x512 .f32) (main_arg4 : FVec F S2048x512 .f32) (main_arg5 : FVec F S2048x512 .f32) : IVec S2048x512 1 :=
  let main_v0 : FVec F S2048x512 .f32 := maximumf main_arg3 main_arg4
  let main_v1 : FVec F S2048x512 .f32 := maximumf main_v0 main_arg5
  let main_v2 : FVec F S2048x512 .f32 := Host.absf main_v1
  let main_cst : FVec F S_ .f32 := constant S_ .f32 0x7F800000#32
  let main_v3 : FVec F S2048x512 .f32 := broadcastInDim S2048x512 ![] bcast_S_S2048x512 main_cst
  let main_v4 : IVec S2048x512 1 := cmpf .olt main_v2 main_v3
  main_v4
-- ==== Kernel.lean ====
abbrev S2048x512 : Shape := ⟨2, ![2048, 512]⟩
abbrev S2048x7680 : Shape := ⟨2, ![2048, 7680]⟩
abbrev S31x512 : Shape := ⟨2, ![31, 512]⟩
abbrev S_ : Shape := ⟨0, ![]⟩
abbrev S32x512 : Shape := ⟨2, ![32, 512]⟩
abbrev S1x512 : Shape := ⟨2, ![1, 512]⟩
abbrev S2048x128 : Shape := ⟨2, ![2048, 128]⟩
abbrev S32x128 : Shape := ⟨2, ![32, 128]⟩
abbrev S1x128 : Shape := ⟨2, ![1, 128]⟩
abbrev S2080x128 : Shape := ⟨2, ![2080, 128]⟩
abbrev S128 : Shape := ⟨1, ![128]⟩
abbrev S160x128 : Shape := ⟨2, ![160, 128]⟩
abbrev S128x128 : Shape := ⟨2, ![128, 128]⟩

abbrev nBuf : Space → Nat
  | .hbm => 10
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x7680, .bf16⟩
  | .hbm, ⟨2, _⟩ => ⟨S31x512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S2048x512, .bf16⟩
  | .hbm, ⟨7, _⟩ => ⟨S2048x512, .bf16⟩
  | .hbm, ⟨8, _⟩ => ⟨S32x512, .f32⟩
  | .hbm, ⟨9, _⟩ => ⟨S1x512, .f32⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S32x128, .f32⟩
  | .local _ .vmem, ⟨7, _⟩ => ⟨S32x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S32x128, .f32⟩
  | .local _ .vmem, ⟨13, _⟩ => ⟨S32x128, .f32⟩
  | .local _ .vmem, ⟨14, _⟩ => ⟨S1x128, .f32⟩
  | .local _ .vmem, ⟨15, _⟩ => ⟨S1x128, .f32⟩
  | .local _ .vmem, ⟨16, _⟩ => ⟨S2080x128, .f32⟩
  | .local _ .vmem, ⟨17, _⟩ => ⟨S2080x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v35 : BitVec 32 := Scalar.addi c0_i32 c16_i32
  let c1_i32 : BitVec 32 := 1#32
  ⟨c0_i32, v35, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v36 : BitVec 32 := Scalar.muli arg11 c128_i32
  v36
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v36 : BitVec 32 := Scalar.muli arg11 c128_i32
  let v37 : BitVec 32 := v36
  let v38 : Index := Scalar.indexCast v37
  let c0_26 : Index := 0#32
  ![v38.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v36 : BitVec 32 := Scalar.muli arg11 c128_i32
  let v37 : BitVec 32 := v36
  let v461 : Index := Scalar.indexCast v37
  let c0_155 : Index := 0#32
  ![v461.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x512 : Shape := ⟨2, ![2048, 512]⟩
abbrev S2048x7680 : Shape := ⟨2, ![2048, 7680]⟩
abbrev S31x512 : Shape := ⟨2, ![31, 512]⟩
abbrev S_ : Shape := ⟨0, ![]⟩
abbrev S512 : Shape := ⟨1, ![512]⟩
abbrev S30x512 : Shape := ⟨2, ![30, 512]⟩
abbrev S2078x512 : Shape := ⟨2, ![2078, 512]⟩
abbrev S1x512 : Shape := ⟨2, ![1, 512]⟩
abbrev S32x512 : Shape := ⟨2, ![32, 512]⟩

abbrev nBuf : Space → Nat
  | .hbm => 737
  | .vmem => 0
  | .smem => 0
  | _ => 0

abbrev hbmTy0_0 (i : Nat) : BufTy := match i % 128 with
  | 0 => ⟨S2048x512, .f32⟩
  | 1 => ⟨S2048x7680, .bf16⟩
  | 2 => ⟨S31x512, .f32⟩
  | 3 => ⟨S_, .f32⟩
  | 4 => ⟨S512, .f32⟩
  | 5 => ⟨S2048x512, .bf16⟩
  | 6 => ⟨S2048x512, .f32⟩
  | 7 => ⟨S2048x512, .bf16⟩
  | 8 => ⟨S2048x512, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S_, .f32⟩
  | 15 => ⟨S2048x512, .f32⟩
  | 16 => ⟨S2048x512, .f32⟩
  | 17 => ⟨S_, .f32⟩
  | 18 => ⟨S2048x512, .f32⟩
  | 19 => ⟨S2048x512, .f32⟩
  | 20 => ⟨S2048x512, .f32⟩
  | 21 => ⟨S2048x512, .f32⟩
  | 22 => ⟨S_, .f32⟩
  | 23 => ⟨S30x512, .f32⟩
  | 24 => ⟨S2078x512, .f32⟩
  | 25 => ⟨S_, .f32⟩
  | 26 => ⟨S30x512, .f32⟩
  | 27 => ⟨S_, .f32⟩
  | 28 => ⟨S2048x512, .f32⟩
  | 29 => ⟨S1x512, .f32⟩
  | 30 => ⟨S2048x512, .f32⟩
  | 31 => ⟨S2048x512, .f32⟩
  | 32 => ⟨S1x512, .f32⟩
  | 33 => ⟨S512, .f32⟩
  | 34 => ⟨S2048x512, .f32⟩
  | 35 => ⟨S1x512, .f32⟩
  | 36 => ⟨S2048x512, .f32⟩
  | 37 => ⟨S2048x512, .f32⟩
  | 38 => ⟨S2048x512, .f32⟩
  | 39 => ⟨S1x512, .f32⟩
  | 40 => ⟨S512, .f32⟩
  | 41 => ⟨S2048x512, .f32⟩
  | 42 => ⟨S1x512, .f32⟩
  | 43 => ⟨S2048x512, .f32⟩
  | 44 => ⟨S2048x512, .f32⟩
  | 45 => ⟨S2048x512, .f32⟩
  | 46 => ⟨S1x512, .f32⟩
  | 47 => ⟨S512, .f32⟩
  | 48 => ⟨S2048x512, .f32⟩
  | 49 => ⟨S1x512, .f32⟩
  | 50 => ⟨S2048x512, .f32⟩
  | 51 => ⟨S2048x512, .f32⟩
  | 52 => ⟨S2048x512, .f32⟩
  | 53 => ⟨S1x512, .f32⟩
  | 54 => ⟨S512, .f32⟩
  | 55 => ⟨S2048x512, .f32⟩
  | 56 => ⟨S1x512, .f32⟩
  | 57 => ⟨S2048x512, .f32⟩
  | 58 => ⟨S2048x512, .f32⟩
  | 59 => ⟨S2048x512, .f32⟩
  | 60 => ⟨S1x512, .f32⟩
  | 61 => ⟨S512, .f32⟩
  | 62 => ⟨S2048x512, .f32⟩
  | 63 => ⟨S1x512, .f32⟩
  | 64 => ⟨S2048x512, .f32⟩
  | 65 => ⟨S2048x512, .f32⟩
  | 66 => ⟨S2048x512, .f32⟩
  | 67 => ⟨S1x512, .f32⟩
  | 68 => ⟨S512, .f32⟩
  | 69 => ⟨S2048x512, .f32⟩
  | 70 => ⟨S1x512, .f32⟩
  | 71 => ⟨S2048x512, .f32⟩
  | 72 => ⟨S2048x512, .f32⟩
  | 73 => ⟨S2048x512, .f32⟩
  | 74 => ⟨S1x512, .f32⟩
  | 75 => ⟨S512, .f32⟩
  | 76 => ⟨S2048x512, .f32⟩
  | 77 => ⟨S1x512, .f32⟩
  | 78 => ⟨S2048x512, .f32⟩
  | 79 => ⟨S2048x512, .f32⟩
  | 80 => ⟨S2048x512, .f32⟩
  | 81 => ⟨S1x512, .f32⟩
  | 82 => ⟨S512, .f32⟩
  | 83 => ⟨S2048x512, .f32⟩
  | 84 => ⟨S1x512, .f32⟩
  | 85 => ⟨S2048x512, .f32⟩
  | 86 => ⟨S2048x512, .f32⟩
  | 87 => ⟨S2048x512, .f32⟩
  | 88 => ⟨S1x512, .f32⟩
  | 89 => ⟨S512, .f32⟩
  | 90 => ⟨S2048x512, .f32⟩
  | 91 => ⟨S1x512, .f32⟩
  | 92 => ⟨S2048x512, .f32⟩
  | 93 => ⟨S2048x512, .f32⟩
  | 94 => ⟨S2048x512, .f32⟩
  | 95 => ⟨S1x512, .f32⟩
  | 96 => ⟨S512, .f32⟩
  | 97 => ⟨S2048x512, .f32⟩
  | 98 => ⟨S1x512, .f32⟩
  | 99 => ⟨S2048x512, .f32⟩
  | 100 => ⟨S2048x512, .f32⟩
  | 101 => ⟨S2048x512, .f32⟩
  | 102 => ⟨S1x512, .f32⟩
  | 103 => ⟨S512, .f32⟩
  | 104 => ⟨S2048x512, .f32⟩
  | 105 => ⟨S1x512, .f32⟩
  | 106 => ⟨S2048x512, .f32⟩
  | 107 => ⟨S2048x512, .f32⟩
  | 108 => ⟨S2048x512, .f32⟩
  | 109 => ⟨S1x512, .f32⟩
  | 110 => ⟨S512, .f32⟩
  | 111 => ⟨S2048x512, .f32⟩
  | 112 => ⟨S1x512, .f32⟩
  | 113 => ⟨S2048x512, .f32⟩
  | 114 => ⟨S2048x512, .f32⟩
  | 115 => ⟨S2048x512, .f32⟩
  | 116 => ⟨S1x512, .f32⟩
  | 117 => ⟨S512, .f32⟩
  | 118 => ⟨S2048x512, .f32⟩
  | 119 => ⟨S1x512, .f32⟩
  | 120 => ⟨S2048x512, .f32⟩
  | 121 => ⟨S2048x512, .f32⟩
  | 122 => ⟨S2048x512, .f32⟩
  | 123 => ⟨S1x512, .f32⟩
  | 124 => ⟨S512, .f32⟩
  | 125 => ⟨S2048x512, .f32⟩
  | 126 => ⟨S1x512, .f32⟩
  | 127 => ⟨S2048x512, .f32⟩
  | _ => ⟨S2048x512, .f32⟩

abbrev hbmTy0_1 (i : Nat) : BufTy := match i % 128 with
  | 0 => ⟨S2048x512, .f32⟩
  | 1 => ⟨S2048x512, .f32⟩
  | 2 => ⟨S1x512, .f32⟩
  | 3 => ⟨S512, .f32⟩
  | 4 => ⟨S2048x512, .f32⟩
  | 5 => ⟨S1x512, .f32⟩
  | 6 => ⟨S2048x512, .f32⟩
  | 7 => ⟨S2048x512, .f32⟩
  | 8 => ⟨S2048x512, .f32⟩
  | 9 => ⟨S1x512, .f32⟩
  | 10 => ⟨S512, .f32⟩
  | 11 => ⟨S2048x512, .f32⟩
  | 12 => ⟨S1x512, .f32⟩
  | 13 => ⟨S2048x512, .f32⟩
  | 14 => ⟨S2048x512, .f32⟩
  | 15 => ⟨S2048x512, .f32⟩
  | 16 => ⟨S1x512, .f32⟩
  | 17 => ⟨S512, .f32⟩
  | 18 => ⟨S2048x512, .f32⟩
  | 19 => ⟨S1x512, .f32⟩
  | 20 => ⟨S2048x512, .f32⟩
  | 21 => ⟨S2048x512, .f32⟩
  | 22 => ⟨S2048x512, .f32⟩
  | 23 => ⟨S1x512, .f32⟩
  | 24 => ⟨S512, .f32⟩
  | 25 => ⟨S2048x512, .f32⟩
  | 26 => ⟨S1x512, .f32⟩
  | 27 => ⟨S2048x512, .f32⟩
  | 28 => ⟨S2048x512, .f32⟩
  | 29 => ⟨S2048x512, .f32⟩
  | 30 => ⟨S1x512, .f32⟩
  | 31 => ⟨S512, .f32⟩
  | 32 => ⟨S2048x512, .f32⟩
  | 33 => ⟨S1x512, .f32⟩
  | 34 => ⟨S2048x512, .f32⟩
  | 35 => ⟨S2048x512, .f32⟩
  | 36 => ⟨S2048x512, .f32⟩
  | 37 => ⟨S1x512, .f32⟩
  | 38 => ⟨S512, .f32⟩
  | 39 => ⟨S2048x512, .f32⟩
  | 40 => ⟨S1x512, .f32⟩
  | 41 => ⟨S2048x512, .f32⟩
  | 42 => ⟨S2048x512, .f32⟩
  | 43 => ⟨S2048x512, .f32⟩
  | 44 => ⟨S1x512, .f32⟩
  | 45 => ⟨S512, .f32⟩
  | 46 => ⟨S2048x512, .f32⟩
  | 47 => ⟨S1x512, .f32⟩
  | 48 => ⟨S2048x512, .f32⟩
  | 49 => ⟨S2048x512, .f32⟩
  | 50 => ⟨S2048x512, .f32⟩
  | 51 => ⟨S1x512, .f32⟩
  | 52 => ⟨S512, .f32⟩
  | 53 => ⟨S2048x512, .f32⟩
  | 54 => ⟨S1x512, .f32⟩
  | 55 => ⟨S2048x512, .f32⟩
  | 56 => ⟨S2048x512, .f32⟩
  | 57 => ⟨S2048x512, .f32⟩
  | 58 => ⟨S1x512, .f32⟩
  | 59 => ⟨S512, .f32⟩
  | 60 => ⟨S2048x512, .f32⟩
  | 61 => ⟨S1x512, .f32⟩
  | 62 => ⟨S2048x512, .f32⟩
  | 63 => ⟨S2048x512, .f32⟩
  | 64 => ⟨S2048x512, .f32⟩
  | 65 => ⟨S1x512, .f32⟩
  | 66 => ⟨S512, .f32⟩
  | 67 => ⟨S2048x512, .f32⟩
  | 68 => ⟨S1x512, .f32⟩
  | 69 => ⟨S2048x512, .f32⟩
  | 70 => ⟨S2048x512, .f32⟩
  | 71 => ⟨S2048x512, .f32⟩
  | 72 => ⟨S1x512, .f32⟩
  | 73 => ⟨S512, .f32⟩
  | 74 => ⟨S2048x512, .f32⟩
  | 75 => ⟨S1x512, .f32⟩
  | 76 => ⟨S2048x512, .f32⟩
  | 77 => ⟨S2048x512, .f32⟩
  | 78 => ⟨S2048x512, .f32⟩
  | 79 => ⟨S1x512, .f32⟩
  | 80 => ⟨S512, .f32⟩
  | 81 => ⟨S2048x512, .f32⟩
  | 82 => ⟨S1x512, .f32⟩
  | 83 => ⟨S2048x512, .f32⟩
  | 84 => ⟨S2048x512, .f32⟩
  | 85 => ⟨S2048x512, .f32⟩
  | 86 => ⟨S1x512, .f32⟩
  | 87 => ⟨S512, .f32⟩
  | 88 => ⟨S2048x512, .f32⟩
  | 89 => ⟨S1x512, .f32⟩
  | 90 => ⟨S2048x512, .f32⟩
  | 91 => ⟨S2048x512, .f32⟩
  | 92 => ⟨S2048x512, .f32⟩
  | 93 => ⟨S1x512, .f32⟩
  | 94 => ⟨S512, .f32⟩
  | 95 => ⟨S2048x512, .f32⟩
  | 96 => ⟨S1x512, .f32⟩
  | 97 => ⟨S2048x512, .f32⟩
  | 98 => ⟨S2048x512, .f32⟩
  | 99 => ⟨S2048x512, .f32⟩
  | 100 => ⟨S1x512, .f32⟩
  | 101 => ⟨S512, .f32⟩
  | 102 => ⟨S2048x512, .f32⟩
  | 103 => ⟨S1x512, .f32⟩
  | 104 => ⟨S2048x512, .f32⟩
  | 105 => ⟨S2048x512, .f32⟩
  | 106 => ⟨S2048x512, .f32⟩
  | 107 => ⟨S1x512, .f32⟩
  | 108 => ⟨S512, .f32⟩
  | 109 => ⟨S2048x512, .f32⟩
  | 110 => ⟨S1x512, .f32⟩
  | 111 => ⟨S2048x512, .f32⟩
  | 112 => ⟨S2048x512, .f32⟩
  | 113 => ⟨S2048x512, .f32⟩
  | 114 => ⟨S1x512, .f32⟩
  | 115 => ⟨S512, .f32⟩
  | 116 => ⟨S2048x512, .f32⟩
  | 117 => ⟨S1x512, .f32⟩
  | 118 => ⟨S2048x512, .f32⟩
  | 119 => ⟨S2048x512, .f32⟩
  | 120 => ⟨S2048x512, .f32⟩
  | 121 => ⟨S2048x512, .f32⟩
  | 122 => ⟨S2048x512, .f32⟩
  | 123 => ⟨S2048x512, .f32⟩
  | 124 => ⟨S2048x512, .f32⟩
  | 125 => ⟨S2048x512, .f32⟩
  | 126 => ⟨S_, .f32⟩
  | 127 => ⟨S512, .f32⟩
  | _ => ⟨S2048x512, .f32⟩

abbrev hbmTy0_2 (i : Nat) : BufTy := match i % 128 with
  | 0 => ⟨S1x512, .f32⟩
  | 1 => ⟨S_, .f32⟩
  | 2 => ⟨S512, .f32⟩
  | 3 => ⟨S_, .f32⟩
  | 4 => ⟨S2078x512, .f32⟩
  | 5 => ⟨S1x512, .f32⟩
  | 6 => ⟨S_, .f32⟩
  | 7 => ⟨S31x512, .f32⟩
  | 8 => ⟨S2048x512, .f32⟩
  | 9 => ⟨S2048x512, .f32⟩
  | 10 => ⟨S2048x512, .f32⟩
  | 11 => ⟨S_, .f32⟩
  | 12 => ⟨S512, .f32⟩
  | 13 => ⟨S1x512, .f32⟩
  | 14 => ⟨S_, .f32⟩
  | 15 => ⟨S512, .f32⟩
  | 16 => ⟨S_, .f32⟩
  | 17 => ⟨S2078x512, .f32⟩
  | 18 => ⟨S2078x512, .f32⟩
  | 19 => ⟨S1x512, .f32⟩
  | 20 => ⟨S_, .f32⟩
  | 21 => ⟨S31x512, .f32⟩
  | 22 => ⟨S31x512, .f32⟩
  | 23 => ⟨S2048x512, .f32⟩
  | 24 => ⟨S2048x512, .f32⟩
  | 25 => ⟨S2048x512, .f32⟩
  | 26 => ⟨S_, .f32⟩
  | 27 => ⟨S512, .f32⟩
  | 28 => ⟨S1x512, .f32⟩
  | 29 => ⟨S_, .f32⟩
  | 30 => ⟨S512, .f32⟩
  | 31 => ⟨S_, .f32⟩
  | 32 => ⟨S2078x512, .f32⟩
  | 33 => ⟨S2078x512, .f32⟩
  | 34 => ⟨S1x512, .f32⟩
  | 35 => ⟨S_, .f32⟩
  | 36 => ⟨S31x512, .f32⟩
  | 37 => ⟨S31x512, .f32⟩
  | 38 => ⟨S2048x512, .f32⟩
  | 39 => ⟨S2048x512, .f32⟩
  | 40 => ⟨S2048x512, .f32⟩
  | 41 => ⟨S_, .f32⟩
  | 42 => ⟨S512, .f32⟩
  | 43 => ⟨S1x512, .f32⟩
  | 44 => ⟨S_, .f32⟩
  | 45 => ⟨S512, .f32⟩
  | 46 => ⟨S_, .f32⟩
  | 47 => ⟨S2078x512, .f32⟩
  | 48 => ⟨S2078x512, .f32⟩
  | 49 => ⟨S1x512, .f32⟩
  | 50 => ⟨S_, .f32⟩
  | 51 => ⟨S31x512, .f32⟩
  | 52 => ⟨S31x512, .f32⟩
  | 53 => ⟨S2048x512, .f32⟩
  | 54 => ⟨S2048x512, .f32⟩
  | 55 => ⟨S2048x512, .f32⟩
  | 56 => ⟨S_, .f32⟩
  | 57 => ⟨S512, .f32⟩
  | 58 => ⟨S1x512, .f32⟩
  | 59 => ⟨S_, .f32⟩
  | 60 => ⟨S512, .f32⟩
  | 61 => ⟨S_, .f32⟩
  | 62 => ⟨S2078x512, .f32⟩
  | 63 => ⟨S2078x512, .f32⟩
  | 64 => ⟨S1x512, .f32⟩
  | 65 => ⟨S_, .f32⟩
  | 66 => ⟨S31x512, .f32⟩
  | 67 => ⟨S31x512, .f32⟩
  | 68 => ⟨S2048x512, .f32⟩
  | 69 => ⟨S2048x512, .f32⟩
  | 70 => ⟨S2048x512, .f32⟩
  | 71 => ⟨S_, .f32⟩
  | 72 => ⟨S512, .f32⟩
  | 73 => ⟨S1x512, .f32⟩
  | 74 => ⟨S_, .f32⟩
  | 75 => ⟨S512, .f32⟩
  | 76 => ⟨S_, .f32⟩
  | 77 => ⟨S2078x512, .f32⟩
  | 78 => ⟨S2078x512, .f32⟩
  | 79 => ⟨S1x512, .f32⟩
  | 80 => ⟨S_, .f32⟩
  | 81 => ⟨S31x512, .f32⟩
  | 82 => ⟨S31x512, .f32⟩
  | 83 => ⟨S2048x512, .f32⟩
  | 84 => ⟨S2048x512, .f32⟩
  | 85 => ⟨S2048x512, .f32⟩
  | 86 => ⟨S_, .f32⟩
  | 87 => ⟨S512, .f32⟩
  | 88 => ⟨S1x512, .f32⟩
  | 89 => ⟨S_, .f32⟩
  | 90 => ⟨S512, .f32⟩
  | 91 => ⟨S_, .f32⟩
  | 92 => ⟨S2078x512, .f32⟩
  | 93 => ⟨S2078x512, .f32⟩
  | 94 => ⟨S1x512, .f32⟩
  | 95 => ⟨S_, .f32⟩
  | 96 => ⟨S31x512, .f32⟩
  | 97 => ⟨S31x512, .f32⟩
  | 98 => ⟨S2048x512, .f32⟩
  | 99 => ⟨S2048x512, .f32⟩
  | 100 => ⟨S2048x512, .f32⟩
  | 101 => ⟨S_, .f32⟩
  | 102 => ⟨S512, .f32⟩
  | 103 => ⟨S1x512, .f32⟩
  | 104 => ⟨S_, .f32⟩
  | 105 => ⟨S512, .f32⟩
  | 106 => ⟨S_, .f32⟩
  | 107 => ⟨S2078x512, .f32⟩
  | 108 => ⟨S2078x512, .f32⟩
  | 109 => ⟨S1x512, .f32⟩
  | 110 => ⟨S_, .f32⟩
  | 111 => ⟨S31x512, .f32⟩
  | 112 => ⟨S31x512, .f32⟩
  | 113 => ⟨S2048x512, .f32⟩
  | 114 => ⟨S2048x512, .f32⟩
  | 115 => ⟨S2048x512, .f32⟩
  | 116 => ⟨S_, .f32⟩
  | 117 => ⟨S512, .f32⟩
  | 118 => ⟨S1x512, .f32⟩
  | 119 => ⟨S_, .f32⟩
  | 120 => ⟨S512, .f32⟩
  | 121 => ⟨S_, .f32⟩
  | 122 => ⟨S2078x512, .f32⟩
  | 123 => ⟨S2078x512, .f32⟩
  | 124 => ⟨S1x512, .f32⟩
  | 125 => ⟨S_, .f32⟩
  | 126 => ⟨S31x512, .f32⟩
  | 127 => ⟨S31x512, .f32⟩
  | _ => ⟨S2048x512, .f32⟩

abbrev hbmTy0_3 (i : Nat) : BufTy := match i % 128 with
  | 0 => ⟨S2048x512, .f32⟩
  | 1 => ⟨S2048x512, .f32⟩
  | 2 => ⟨S2048x512, .f32⟩
  | 3 => ⟨S_, .f32⟩
  | 4 => ⟨S512, .f32⟩
  | 5 => ⟨S1x512, .f32⟩
  | 6 => ⟨S_, .f32⟩
  | 7 => ⟨S512, .f32⟩
  | 8 => ⟨S_, .f32⟩
  | 9 => ⟨S2078x512, .f32⟩
  | 10 => ⟨S2078x512, .f32⟩
  | 11 => ⟨S1x512, .f32⟩
  | 12 => ⟨S_, .f32⟩
  | 13 => ⟨S31x512, .f32⟩
  | 14 => ⟨S31x512, .f32⟩
  | 15 => ⟨S2048x512, .f32⟩
  | 16 => ⟨S2048x512, .f32⟩
  | 17 => ⟨S2048x512, .f32⟩
  | 18 => ⟨S_, .f32⟩
  | 19 => ⟨S512, .f32⟩
  | 20 => ⟨S1x512, .f32⟩
  | 21 => ⟨S_, .f32⟩
  | 22 => ⟨S512, .f32⟩
  | 23 => ⟨S_, .f32⟩
  | 24 => ⟨S2078x512, .f32⟩
  | 25 => ⟨S2078x512, .f32⟩
  | 26 => ⟨S1x512, .f32⟩
  | 27 => ⟨S_, .f32⟩
  | 28 => ⟨S31x512, .f32⟩
  | 29 => ⟨S31x512, .f32⟩
  | 30 => ⟨S2048x512, .f32⟩
  | 31 => ⟨S2048x512, .f32⟩
  | 32 => ⟨S2048x512, .f32⟩
  | 33 => ⟨S_, .f32⟩
  | 34 => ⟨S512, .f32⟩
  | 35 => ⟨S1x512, .f32⟩
  | 36 => ⟨S_, .f32⟩
  | 37 => ⟨S512, .f32⟩
  | 38 => ⟨S_, .f32⟩
  | 39 => ⟨S2078x512, .f32⟩
  | 40 => ⟨S2078x512, .f32⟩
  | 41 => ⟨S1x512, .f32⟩
  | 42 => ⟨S_, .f32⟩
  | 43 => ⟨S31x512, .f32⟩
  | 44 => ⟨S31x512, .f32⟩
  | 45 => ⟨S2048x512, .f32⟩
  | 46 => ⟨S2048x512, .f32⟩
  | 47 => ⟨S2048x512, .f32⟩
  | 48 => ⟨S_, .f32⟩
  | 49 => ⟨S512, .f32⟩
  | 50 => ⟨S1x512, .f32⟩
  | 51 => ⟨S_, .f32⟩
  | 52 => ⟨S512, .f32⟩
  | 53 => ⟨S_, .f32⟩
  | 54 => ⟨S2078x512, .f32⟩
  | 55 => ⟨S2078x512, .f32⟩
  | 56 => ⟨S1x512, .f32⟩
  | 57 => ⟨S_, .f32⟩
  | 58 => ⟨S31x512, .f32⟩
  | 59 => ⟨S31x512, .f32⟩
  | 60 => ⟨S2048x512, .f32⟩
  | 61 => ⟨S2048x512, .f32⟩
  | 62 => ⟨S2048x512, .f32⟩
  | 63 => ⟨S_, .f32⟩
  | 64 => ⟨S512, .f32⟩
  | 65 => ⟨S1x512, .f32⟩
  | 66 => ⟨S_, .f32⟩
  | 67 => ⟨S512, .f32⟩
  | 68 => ⟨S_, .f32⟩
  | 69 => ⟨S2078x512, .f32⟩
  | 70 => ⟨S2078x512, .f32⟩
  | 71 => ⟨S1x512, .f32⟩
  | 72 => ⟨S_, .f32⟩
  | 73 => ⟨S31x512, .f32⟩
  | 74 => ⟨S31x512, .f32⟩
  | 75 => ⟨S2048x512, .f32⟩
  | 76 => ⟨S2048x512, .f32⟩
  | 77 => ⟨S2048x512, .f32⟩
  | 78 => ⟨S_, .f32⟩
  | 79 => ⟨S512, .f32⟩
  | 80 => ⟨S1x512, .f32⟩
  | 81 => ⟨S_, .f32⟩
  | 82 => ⟨S512, .f32⟩
  | 83 => ⟨S_, .f32⟩
  | 84 => ⟨S2078x512, .f32⟩
  | 85 => ⟨S2078x512, .f32⟩
  | 86 => ⟨S1x512, .f32⟩
  | 87 => ⟨S_, .f32⟩
  | 88 => ⟨S31x512, .f32⟩
  | 89 => ⟨S31x512, .f32⟩
  | 90 => ⟨S2048x512, .f32⟩
  | 91 => ⟨S2048x512, .f32⟩
  | 92 => ⟨S2048x512, .f32⟩
  | 93 => ⟨S_, .f32⟩
  | 94 => ⟨S512, .f32⟩
  | 95 => ⟨S1x512, .f32⟩
  | 96 => ⟨S_, .f32⟩
  | 97 => ⟨S512, .f32⟩
  | 98 => ⟨S_, .f32⟩
  | 99 => ⟨S2078x512, .f32⟩
  | 100 => ⟨S2078x512, .f32⟩
  | 101 => ⟨S1x512, .f32⟩
  | 102 => ⟨S_, .f32⟩
  | 103 => ⟨S31x512, .f32⟩
  | 104 => ⟨S31x512, .f32⟩
  | 105 => ⟨S2048x512, .f32⟩
  | 106 => ⟨S2048x512, .f32⟩
  | 107 => ⟨S2048x512, .f32⟩
  | 108 => ⟨S_, .f32⟩
  | 109 => ⟨S512, .f32⟩
  | 110 => ⟨S1x512, .f32⟩
  | 111 => ⟨S_, .f32⟩
  | 112 => ⟨S512, .f32⟩
  | 113 => ⟨S_, .f32⟩
  | 114 => ⟨S2078x512, .f32⟩
  | 115 => ⟨S2078x512, .f32⟩
  | 116 => ⟨S1x512, .f32⟩
  | 117 => ⟨S_, .f32⟩
  | 118 => ⟨S31x512, .f32⟩
  | 119 => ⟨S31x512, .f32⟩
  | 120 => ⟨S2048x512, .f32⟩
  | 121 => ⟨S2048x512, .f32⟩
  | 122 => ⟨S2048x512, .f32⟩
  | 123 => ⟨S_, .f32⟩
  | 124 => ⟨S512, .f32⟩
  | 125 => ⟨S1x512, .f32⟩
  | 126 => ⟨S_, .f32⟩
  | 127 => ⟨S512, .f32⟩
  | _ => ⟨S2048x512, .f32⟩

abbrev hbmTy0_4 (i : Nat) : BufTy := match i % 128 with
  | 0 => ⟨S_, .f32⟩
  | 1 => ⟨S2078x512, .f32⟩
  | 2 => ⟨S2078x512, .f32⟩
  | 3 => ⟨S1x512, .f32⟩
  | 4 => ⟨S_, .f32⟩
  | 5 => ⟨S31x512, .f32⟩
  | 6 => ⟨S31x512, .f32⟩
  | 7 => ⟨S2048x512, .f32⟩
  | 8 => ⟨S2048x512, .f32⟩
  | 9 => ⟨S2048x512, .f32⟩
  | 10 => ⟨S_, .f32⟩
  | 11 => ⟨S512, .f32⟩
  | 12 => ⟨S1x512, .f32⟩
  | 13 => ⟨S_, .f32⟩
  | 14 => ⟨S512, .f32⟩
  | 15 => ⟨S_, .f32⟩
  | 16 => ⟨S2078x512, .f32⟩
  | 17 => ⟨S2078x512, .f32⟩
  | 18 => ⟨S1x512, .f32⟩
  | 19 => ⟨S_, .f32⟩
  | 20 => ⟨S31x512, .f32⟩
  | 21 => ⟨S31x512, .f32⟩
  | 22 => ⟨S2048x512, .f32⟩
  | 23 => ⟨S2048x512, .f32⟩
  | 24 => ⟨S2048x512, .f32⟩
  | 25 => ⟨S_, .f32⟩
  | 26 => ⟨S512, .f32⟩
  | 27 => ⟨S1x512, .f32⟩
  | 28 => ⟨S_, .f32⟩
  | 29 => ⟨S512, .f32⟩
  | 30 => ⟨S_, .f32⟩
  | 31 => ⟨S2078x512, .f32⟩
  | 32 => ⟨S2078x512, .f32⟩
  | 33 => ⟨S1x512, .f32⟩
  | 34 => ⟨S_, .f32⟩
  | 35 => ⟨S31x512, .f32⟩
  | 36 => ⟨S31x512, .f32⟩
  | 37 => ⟨S2048x512, .f32⟩
  | 38 => ⟨S2048x512, .f32⟩
  | 39 => ⟨S2048x512, .f32⟩
  | 40 => ⟨S_, .f32⟩
  | 41 => ⟨S512, .f32⟩
  | 42 => ⟨S1x512, .f32⟩
  | 43 => ⟨S_, .f32⟩
  | 44 => ⟨S512, .f32⟩
  | 45 => ⟨S_, .f32⟩
  | 46 => ⟨S2078x512, .f32⟩
  | 47 => ⟨S2078x512, .f32⟩
  | 48 => ⟨S1x512, .f32⟩
  | 49 => ⟨S_, .f32⟩
  | 50 => ⟨S31x512, .f32⟩
  | 51 => ⟨S31x512, .f32⟩
  | 52 => ⟨S2048x512, .f32⟩
  | 53 => ⟨S2048x512, .f32⟩
  | 54 => ⟨S2048x512, .f32⟩
  | 55 => ⟨S_, .f32⟩
  | 56 => ⟨S512, .f32⟩
  | 57 => ⟨S1x512, .f32⟩
  | 58 => ⟨S_, .f32⟩
  | 59 => ⟨S512, .f32⟩
  | 60 => ⟨S_, .f32⟩
  | 61 => ⟨S2078x512, .f32⟩
  | 62 => ⟨S2078x512, .f32⟩
  | 63 => ⟨S1x512, .f32⟩
  | 64 => ⟨S_, .f32⟩
  | 65 => ⟨S31x512, .f32⟩
  | 66 => ⟨S31x512, .f32⟩
  | 67 => ⟨S2048x512, .f32⟩
  | 68 => ⟨S2048x512, .f32⟩
  | 69 => ⟨S2048x512, .f32⟩
  | 70 => ⟨S_, .f32⟩
  | 71 => ⟨S512, .f32⟩
  | 72 => ⟨S1x512, .f32⟩
  | 73 => ⟨S_, .f32⟩
  | 74 => ⟨S512, .f32⟩
  | 75 => ⟨S_, .f32⟩
  | 76 => ⟨S2078x512, .f32⟩
  | 77 => ⟨S2078x512, .f32⟩
  | 78 => ⟨S1x512, .f32⟩
  | 79 => ⟨S_, .f32⟩
  | 80 => ⟨S31x512, .f32⟩
  | 81 => ⟨S31x512, .f32⟩
  | 82 => ⟨S2048x512, .f32⟩
  | 83 => ⟨S2048x512, .f32⟩
  | 84 => ⟨S2048x512, .f32⟩
  | 85 => ⟨S_, .f32⟩
  | 86 => ⟨S512, .f32⟩
  | 87 => ⟨S1x512, .f32⟩
  | 88 => ⟨S_, .f32⟩
  | 89 => ⟨S512, .f32⟩
  | 90 => ⟨S_, .f32⟩
  | 91 => ⟨S2078x512, .f32⟩
  | 92 => ⟨S2078x512, .f32⟩
  | 93 => ⟨S1x512, .f32⟩
  | 94 => ⟨S_, .f32⟩
  | 95 => ⟨S31x512, .f32⟩
  | 96 => ⟨S31x512, .f32⟩
  | 97 => ⟨S2048x512, .f32⟩
  | 98 => ⟨S2048x512, .f32⟩
  | 99 => ⟨S2048x512, .f32⟩
  | 100 => ⟨S_, .f32⟩
  | 101 => ⟨S512, .f32⟩
  | 102 => ⟨S1x512, .f32⟩
  | 103 => ⟨S_, .f32⟩
  | 104 => ⟨S512, .f32⟩
  | 105 => ⟨S_, .f32⟩
  | 106 => ⟨S2078x512, .f32⟩
  | 107 => ⟨S2078x512, .f32⟩
  | 108 => ⟨S1x512, .f32⟩
  | 109 => ⟨S_, .f32⟩
  | 110 => ⟨S31x512, .f32⟩
  | 111 => ⟨S31x512, .f32⟩
  | 112 => ⟨S2048x512, .f32⟩
  | 113 => ⟨S2048x512, .f32⟩
  | 114 => ⟨S2048x512, .f32⟩
  | 115 => ⟨S_, .f32⟩
  | 116 => ⟨S512, .f32⟩
  | 117 => ⟨S1x512, .f32⟩
  | 118 => ⟨S_, .f32⟩
  | 119 => ⟨S512, .f32⟩
  | 120 => ⟨S_, .f32⟩
  | 121 => ⟨S2078x512, .f32⟩
  | 122 => ⟨S2078x512, .f32⟩
  | 123 => ⟨S1x512, .f32⟩
  | 124 => ⟨S_, .f32⟩
  | 125 => ⟨S31x512, .f32⟩
  | 126 => ⟨S31x512, .f32⟩
  | 127 => ⟨S2048x512, .f32⟩
  | _ => ⟨S2048x512, .f32⟩

abbrev hbmTy0_5 (i : Nat) : BufTy := match i % 128 with
  | 0 => ⟨S2048x512, .f32⟩
  | 1 => ⟨S2048x512, .f32⟩
  | 2 => ⟨S_, .f32⟩
  | 3 => ⟨S512, .f32⟩
  | 4 => ⟨S1x512, .f32⟩
  | 5 => ⟨S_, .f32⟩
  | 6 => ⟨S512, .f32⟩
  | 7 => ⟨S_, .f32⟩
  | 8 => ⟨S2078x512, .f32⟩
  | 9 => ⟨S2078x512, .f32⟩
  | 10 => ⟨S1x512, .f32⟩
  | 11 => ⟨S_, .f32⟩
  | 12 => ⟨S31x512, .f32⟩
  | 13 => ⟨S31x512, .f32⟩
  | 14 => ⟨S2048x512, .f32⟩
  | 15 => ⟨S2048x512, .f32⟩
  | 16 => ⟨S2048x512, .f32⟩
  | 17 => ⟨S_, .f32⟩
  | 18 => ⟨S512, .f32⟩
  | 19 => ⟨S1x512, .f32⟩
  | 20 => ⟨S_, .f32⟩
  | 21 => ⟨S512, .f32⟩
  | 22 => ⟨S_, .f32⟩
  | 23 => ⟨S2078x512, .f32⟩
  | 24 => ⟨S2078x512, .f32⟩
  | 25 => ⟨S1x512, .f32⟩
  | 26 => ⟨S_, .f32⟩
  | 27 => ⟨S31x512, .f32⟩
  | 28 => ⟨S31x512, .f32⟩
  | 29 => ⟨S2048x512, .f32⟩
  | 30 => ⟨S2048x512, .f32⟩
  | 31 => ⟨S2048x512, .f32⟩
  | 32 => ⟨S_, .f32⟩
  | 33 => ⟨S512, .f32⟩
  | 34 => ⟨S1x512, .f32⟩
  | 35 => ⟨S_, .f32⟩
  | 36 => ⟨S512, .f32⟩
  | 37 => ⟨S_, .f32⟩
  | 38 => ⟨S2078x512, .f32⟩
  | 39 => ⟨S2078x512, .f32⟩
  | 40 => ⟨S1x512, .f32⟩
  | 41 => ⟨S_, .f32⟩
  | 42 => ⟨S31x512, .f32⟩
  | 43 => ⟨S31x512, .f32⟩
  | 44 => ⟨S2048x512, .f32⟩
  | 45 => ⟨S2048x512, .f32⟩
  | 46 => ⟨S2048x512, .f32⟩
  | 47 => ⟨S_, .f32⟩
  | 48 => ⟨S512, .f32⟩
  | 49 => ⟨S1x512, .f32⟩
  | 50 => ⟨S_, .f32⟩
  | 51 => ⟨S512, .f32⟩
  | 52 => ⟨S_, .f32⟩
  | 53 => ⟨S2078x512, .f32⟩
  | 54 => ⟨S2078x512, .f32⟩
  | 55 => ⟨S1x512, .f32⟩
  | 56 => ⟨S_, .f32⟩
  | 57 => ⟨S31x512, .f32⟩
  | 58 => ⟨S31x512, .f32⟩
  | 59 => ⟨S2048x512, .f32⟩
  | 60 => ⟨S2048x512, .f32⟩
  | 61 => ⟨S2048x512, .f32⟩
  | 62 => ⟨S_, .f32⟩
  | 63 => ⟨S512, .f32⟩
  | 64 => ⟨S1x512, .f32⟩
  | 65 => ⟨S_, .f32⟩
  | 66 => ⟨S512, .f32⟩
  | 67 => ⟨S_, .f32⟩
  | 68 => ⟨S2078x512, .f32⟩
  | 69 => ⟨S2078x512, .f32⟩
  | 70 => ⟨S1x512, .f32⟩
  | 71 => ⟨S_, .f32⟩
  | 72 => ⟨S31x512, .f32⟩
  | 73 => ⟨S31x512, .f32⟩
  | 74 => ⟨S_, .f32⟩
  | 75 => ⟨S512, .f32⟩
  | 76 => ⟨S1x512, .f32⟩
  | 77 => ⟨S_, .f32⟩
  | 78 => ⟨S512, .f32⟩
  | 79 => ⟨S30x512, .f32⟩
  | 80 => ⟨S2048x512, .f32⟩
  | 81 => ⟨S2048x512, .f32⟩
  | 82 => ⟨S2048x512, .f32⟩
  | 83 => ⟨S2048x512, .f32⟩
  | 84 => ⟨S2048x512, .bf16⟩
  | 85 => ⟨S_, .bf16⟩
  | 86 => ⟨S2048x7680, .bf16⟩
  | 87 => ⟨S2048x512, .bf16⟩
  | 88 => ⟨S_, .bf16⟩
  | 89 => ⟨S2048x7680, .bf16⟩
  | 90 => ⟨S2048x7680, .bf16⟩
  | 91 => ⟨S2048x512, .bf16⟩
  | 92 => ⟨S2048x512, .bf16⟩
  | 93 => ⟨S_, .i32⟩
  | 94 => ⟨S_, .f32⟩
  | 95 => ⟨S32x512, .f32⟩
  | 96 => ⟨S1x512, .f32⟩
  | _ => ⟨S2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_cst_6 : Ref sig .tc := ⟨.hbm, 254, rfl⟩
abbrev main_v244 : Ref sig .tc := ⟨.hbm, 255, rfl⟩
abbrev main_v245 : Ref sig .tc := ⟨.hbm, 256, rfl⟩
abbrev main_cst_7 : Ref sig .tc := ⟨.hbm, 257, rfl⟩
abbrev main_v246 : Ref sig .tc := ⟨.hbm, 258, rfl⟩
abbrev main_cst_8 : Ref sig .tc := ⟨.hbm, 259, rfl⟩
abbrev main_v247 : Ref sig .tc := ⟨.hbm, 260, rfl⟩
abbrev main_v248 : Ref sig .tc := ⟨.hbm, 261, rfl⟩
abbrev main_cst_9 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_cst_10 : Ref sig .tc := ⟨.hbm, 267, rfl⟩
abbrev main_v253 : Ref sig .tc := ⟨.hbm, 268, rfl⟩
abbrev main_v254 : Ref sig .tc := ⟨.hbm, 269, rfl⟩
abbrev main_cst_11 : Ref sig .tc := ⟨.hbm, 270, rfl⟩
abbrev main_v255 : Ref sig .tc := ⟨.hbm, 271, rfl⟩
abbrev main_cst_12 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_cst_13 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_cst_14 : Ref sig .tc := ⟨.hbm, 282, rfl⟩
abbrev main_v264 : Ref sig .tc := ⟨.hbm, 283, rfl⟩
abbrev main_v265 : Ref sig .tc := ⟨.hbm, 284, rfl⟩
abbrev main_cst_15 : Ref sig .tc := ⟨.hbm, 285, rfl⟩
abbrev main_v266 : Ref sig .tc := ⟨.hbm, 286, rfl⟩
abbrev main_cst_16 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_cst_17 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_cst_18 : Ref sig .tc := ⟨.hbm, 297, rfl⟩
abbrev main_v275 : Ref sig .tc := ⟨.hbm, 298, rfl⟩
abbrev main_v276 : Ref sig .tc := ⟨.hbm, 299, rfl⟩
abbrev main_cst_19 : Ref sig .tc := ⟨.hbm, 300, rfl⟩
abbrev main_v277 : Ref sig .tc := ⟨.hbm, 301, rfl⟩
abbrev main_cst_20 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_cst_21 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_v284 : Ref sig .tc := ⟨.hbm, 310, rfl⟩
abbrev main_v285 : Ref sig .tc := ⟨.hbm, 311, rfl⟩
abbrev main_cst_22 : Ref sig .tc := ⟨.hbm, 312, rfl⟩
abbrev main_v286 : Ref sig .tc := ⟨.hbm, 313, rfl⟩
abbrev main_v287 : Ref sig .tc := ⟨.hbm, 314, rfl⟩
abbrev main_cst_23 : Ref sig .tc := ⟨.hbm, 315, rfl⟩
abbrev main_v288 : Ref sig .tc := ⟨.hbm, 316, rfl⟩
abbrev main_cst_24 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_cst_25 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_v295 : Ref sig .tc := ⟨.hbm, 325, rfl⟩
abbrev main_v296 : Ref sig .tc := ⟨.hbm, 326, rfl⟩
abbrev main_cst_26 : Ref sig .tc := ⟨.hbm, 327, rfl⟩
abbrev main_v297 : Ref sig .tc := ⟨.hbm, 328, rfl⟩
abbrev main_v298 : Ref sig .tc := ⟨.hbm, 329, rfl⟩
abbrev main_cst_27 : Ref sig .tc := ⟨.hbm, 330, rfl⟩
abbrev main_v299 : Ref sig .tc := ⟨.hbm, 331, rfl⟩
abbrev main_cst_28 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_cst_29 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_cst_30 : Ref sig .tc := ⟨.hbm, 342, rfl⟩
abbrev main_v308 : Ref sig .tc := ⟨.hbm, 343, rfl⟩
abbrev main_v309 : Ref sig .tc := ⟨.hbm, 344, rfl⟩
abbrev main_cst_31 : Ref sig .tc := ⟨.hbm, 345, rfl⟩
abbrev main_v310 : Ref sig .tc := ⟨.hbm, 346, rfl⟩
abbrev main_cst_32 : Ref sig .tc := ⟨.hbm, 347, rfl⟩
abbrev main_v311 : Ref sig .tc := ⟨.hbm, 348, rfl⟩
abbrev main_v312 : Ref sig .tc := ⟨.hbm, 349, rfl⟩
abbrev main_v313 : Ref sig .tc := ⟨.hbm, 350, rfl⟩
abbrev main_cst_33 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_cst_34 : Ref sig .tc := ⟨.hbm, 357, rfl⟩
abbrev main_v319 : Ref sig .tc := ⟨.hbm, 358, rfl⟩
abbrev main_v320 : Ref sig .tc := ⟨.hbm, 359, rfl⟩
abbrev main_cst_35 : Ref sig .tc := ⟨.hbm, 360, rfl⟩
abbrev main_v321 : Ref sig .tc := ⟨.hbm, 361, rfl⟩
abbrev main_cst_36 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_cst_37 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_cst_38 : Ref sig .tc := ⟨.hbm, 372, rfl⟩
abbrev main_v330 : Ref sig .tc := ⟨.hbm, 373, rfl⟩
abbrev main_v331 : Ref sig .tc := ⟨.hbm, 374, rfl⟩
abbrev main_cst_39 : Ref sig .tc := ⟨.hbm, 375, rfl⟩
abbrev main_v332 : Ref sig .tc := ⟨.hbm, 376, rfl⟩
abbrev main_cst_40 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_cst_41 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_cst_42 : Ref sig .tc := ⟨.hbm, 387, rfl⟩
abbrev main_v341 : Ref sig .tc := ⟨.hbm, 388, rfl⟩
abbrev main_v342 : Ref sig .tc := ⟨.hbm, 389, rfl⟩
abbrev main_cst_43 : Ref sig .tc := ⟨.hbm, 390, rfl⟩
abbrev main_v343 : Ref sig .tc := ⟨.hbm, 391, rfl⟩
abbrev main_cst_44 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_cst_45 : Ref sig .tc := ⟨.hbm, 396, rfl⟩
abbrev main_v347 : Ref sig .tc := ⟨.hbm, 397, rfl⟩
abbrev main_v348 : Ref sig .tc := ⟨.hbm, 398, rfl⟩
abbrev main_v349 : Ref sig .tc := ⟨.hbm, 399, rfl⟩
abbrev main_v350 : Ref sig .tc := ⟨.hbm, 400, rfl⟩
abbrev main_v351 : Ref sig .tc := ⟨.hbm, 401, rfl⟩
abbrev main_cst_46 : Ref sig .tc := ⟨.hbm, 402, rfl⟩
abbrev main_v352 : Ref sig .tc := ⟨.hbm, 403, rfl⟩
abbrev main_v353 : Ref sig .tc := ⟨.hbm, 404, rfl⟩
abbrev main_cst_47 : Ref sig .tc := ⟨.hbm, 405, rfl⟩
abbrev main_v354 : Ref sig .tc := ⟨.hbm, 406, rfl⟩
abbrev main_cst_48 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_cst_49 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_v361 : Ref sig .tc := ⟨.hbm, 415, rfl⟩
abbrev main_v362 : Ref sig .tc := ⟨.hbm, 416, rfl⟩
abbrev main_cst_50 : Ref sig .tc := ⟨.hbm, 417, rfl⟩
abbrev main_v363 : Ref sig .tc := ⟨.hbm, 418, rfl⟩
abbrev main_v364 : Ref sig .tc := ⟨.hbm, 419, rfl⟩
abbrev main_cst_51 : Ref sig .tc := ⟨.hbm, 420, rfl⟩
abbrev main_v365 : Ref sig .tc := ⟨.hbm, 421, rfl⟩
abbrev main_cst_52 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_cst_53 : Ref sig .tc := ⟨.hbm, 426, rfl⟩
abbrev main_v369 : Ref sig .tc := ⟨.hbm, 427, rfl⟩
abbrev main_v370 : Ref sig .tc := ⟨.hbm, 428, rfl⟩
abbrev main_v371 : Ref sig .tc := ⟨.hbm, 429, rfl⟩
abbrev main_v372 : Ref sig .tc := ⟨.hbm, 430, rfl⟩
abbrev main_v373 : Ref sig .tc := ⟨.hbm, 431, rfl⟩
abbrev main_cst_54 : Ref sig .tc := ⟨.hbm, 432, rfl⟩
abbrev main_v374 : Ref sig .tc := ⟨.hbm, 433, rfl⟩
abbrev main_v375 : Ref sig .tc := ⟨.hbm, 434, rfl⟩
abbrev main_cst_55 : Ref sig .tc := ⟨.hbm, 435, rfl⟩
abbrev main_v376 : Ref sig .tc := ⟨.hbm, 436, rfl⟩
abbrev main_cst_56 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_cst_57 : Ref sig .tc := ⟨.hbm, 441, rfl⟩
abbrev main_v380 : Ref sig .tc := ⟨.hbm, 442, rfl⟩
abbrev main_v381 : Ref sig .tc := ⟨.hbm, 443, rfl⟩
abbrev main_v382 : Ref sig .tc := ⟨.hbm, 444, rfl⟩
abbrev main_v383 : Ref sig .tc := ⟨.hbm, 445, rfl⟩
abbrev main_v384 : Ref sig .tc := ⟨.hbm, 446, rfl⟩
abbrev main_cst_58 : Ref sig .tc := ⟨.hbm, 447, rfl⟩
abbrev main_v385 : Ref sig .tc := ⟨.hbm, 448, rfl⟩
abbrev main_v386 : Ref sig .tc := ⟨.hbm, 449, rfl⟩
abbrev main_cst_59 : Ref sig .tc := ⟨.hbm, 450, rfl⟩
abbrev main_v387 : Ref sig .tc := ⟨.hbm, 451, rfl⟩
abbrev main_cst_60 : Ref sig .tc := ⟨.hbm, 452, rfl⟩
abbrev main_v388 : Ref sig .tc := ⟨.hbm, 453, rfl⟩
abbrev main_v389 : Ref sig .tc := ⟨.hbm, 454, rfl⟩
abbrev main_v390 : Ref sig .tc := ⟨.hbm, 455, rfl⟩
abbrev main_cst_61 : Ref sig .tc := ⟨.hbm, 456, rfl⟩
abbrev main_v391 : Ref sig .tc := ⟨.hbm, 457, rfl⟩
abbrev main_v392 : Ref sig .tc := ⟨.hbm, 458, rfl⟩
abbrev main_v393 : Ref sig .tc := ⟨.hbm, 459, rfl⟩
abbrev main_v394 : Ref sig .tc := ⟨.hbm, 460, rfl⟩
abbrev main_v395 : Ref sig .tc := ⟨.hbm, 461, rfl⟩
abbrev main_cst_62 : Ref sig .tc := ⟨.hbm, 462, rfl⟩
abbrev main_v396 : Ref sig .tc := ⟨.hbm, 463, rfl⟩
abbrev main_v397 : Ref sig .tc := ⟨.hbm, 464, rfl⟩
abbrev main_cst_63 : Ref sig .tc := ⟨.hbm, 465, rfl⟩
abbrev main_v398 : Ref sig .tc := ⟨.hbm, 466, rfl⟩
abbrev main_cst_64 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_cst_65 : Ref sig .tc := ⟨.hbm, 471, rfl⟩
abbrev main_v402 : Ref sig .tc := ⟨.hbm, 472, rfl⟩
abbrev main_v403 : Ref sig .tc := ⟨.hbm, 473, rfl⟩
abbrev main_v404 : Ref sig .tc := ⟨.hbm, 474, rfl⟩
abbrev main_v405 : Ref sig .tc := ⟨.hbm, 475, rfl⟩
abbrev main_v406 : Ref sig .tc := ⟨.hbm, 476, rfl⟩
abbrev main_cst_66 : Ref sig .tc := ⟨.hbm, 477, rfl⟩
abbrev main_v407 : Ref sig .tc := ⟨.hbm, 478, rfl⟩
abbrev main_v408 : Ref sig .tc := ⟨.hbm, 479, rfl⟩
abbrev main_cst_67 : Ref sig .tc := ⟨.hbm, 480, rfl⟩
abbrev main_v409 : Ref sig .tc := ⟨.hbm, 481, rfl⟩
abbrev main_cst_68 : Ref sig .tc := ⟨.hbm, 482, rfl⟩
abbrev main_v410 : Ref sig .tc := ⟨.hbm, 483, rfl⟩
abbrev main_v411 : Ref sig .tc := ⟨.hbm, 484, rfl⟩
abbrev main_v412 : Ref sig .tc := ⟨.hbm, 485, rfl⟩
abbrev main_cst_69 : Ref sig .tc := ⟨.hbm, 486, rfl⟩
abbrev main_v413 : Ref sig .tc := ⟨.hbm, 487, rfl⟩
abbrev main_v414 : Ref sig .tc := ⟨.hbm, 488, rfl⟩
abbrev main_v415 : Ref sig .tc := ⟨.hbm, 489, rfl⟩
abbrev main_v416 : Ref sig .tc := ⟨.hbm, 490, rfl⟩
abbrev main_v417 : Ref sig .tc := ⟨.hbm, 491, rfl⟩
abbrev main_cst_70 : Ref sig .tc := ⟨.hbm, 492, rfl⟩
abbrev main_v418 : Ref sig .tc := ⟨.hbm, 493, rfl⟩
abbrev main_v419 : Ref sig .tc := ⟨.hbm, 494, rfl⟩
abbrev main_cst_71 : Ref sig .tc := ⟨.hbm, 495, rfl⟩
abbrev main_v420 : Ref sig .tc := ⟨.hbm, 496, rfl⟩
abbrev main_cst_72 : Ref sig .tc := ⟨.hbm, 497, rfl⟩
abbrev main_v421 : Ref sig .tc := ⟨.hbm, 498, rfl⟩
abbrev main_v422 : Ref sig .tc := ⟨.hbm, 499, rfl⟩
abbrev main_v423 : Ref sig .tc := ⟨.hbm, 500, rfl⟩
abbrev main_cst_73 : Ref sig .tc := ⟨.hbm, 501, rfl⟩
abbrev main_v424 : Ref sig .tc := ⟨.hbm, 502, rfl⟩
abbrev main_v425 : Ref sig .tc := ⟨.hbm, 503, rfl⟩
abbrev main_v426 : Ref sig .tc := ⟨.hbm, 504, rfl⟩
abbrev main_v427 : Ref sig .tc := ⟨.hbm, 505, rfl⟩
abbrev main_v428 : Ref sig .tc := ⟨.hbm, 506, rfl⟩
abbrev main_cst_74 : Ref sig .tc := ⟨.hbm, 507, rfl⟩
abbrev main_v429 : Ref sig .tc := ⟨.hbm, 508, rfl⟩
abbrev main_v430 : Ref sig .tc := ⟨.hbm, 509, rfl⟩
abbrev main_cst_75 : Ref sig .tc := ⟨.hbm, 510, rfl⟩
abbrev main_v431 : Ref sig .tc := ⟨.hbm, 511, rfl⟩
abbrev main_cst_76 : Ref sig .tc := ⟨.hbm, 512, rfl⟩
abbrev main_v432 : Ref sig .tc := ⟨.hbm, 513, rfl⟩
abbrev main_v433 : Ref sig .tc := ⟨.hbm, 514, rfl⟩
abbrev main_v434 : Ref sig .tc := ⟨.hbm, 515, rfl⟩
abbrev main_cst_77 : Ref sig .tc := ⟨.hbm, 516, rfl⟩
abbrev main_v435 : Ref sig .tc := ⟨.hbm, 517, rfl⟩
abbrev main_v436 : Ref sig .tc := ⟨.hbm, 518, rfl⟩
abbrev main_v437 : Ref sig .tc := ⟨.hbm, 519, rfl⟩
abbrev main_v438 : Ref sig .tc := ⟨.hbm, 520, rfl⟩
abbrev main_v439 : Ref sig .tc := ⟨.hbm, 521, rfl⟩
abbrev main_cst_78 : Ref sig .tc := ⟨.hbm, 522, rfl⟩
abbrev main_v440 : Ref sig .tc := ⟨.hbm, 523, rfl⟩
abbrev main_v441 : Ref sig .tc := ⟨.hbm, 524, rfl⟩
abbrev main_cst_79 : Ref sig .tc := ⟨.hbm, 525, rfl⟩
abbrev main_v442 : Ref sig .tc := ⟨.hbm, 526, rfl⟩
abbrev main_cst_80 : Ref sig .tc := ⟨.hbm, 527, rfl⟩
abbrev main_v443 : Ref sig .tc := ⟨.hbm, 528, rfl⟩
abbrev main_v444 : Ref sig .tc := ⟨.hbm, 529, rfl⟩
abbrev main_v445 : Ref sig .tc := ⟨.hbm, 530, rfl⟩
abbrev main_cst_81 : Ref sig .tc := ⟨.hbm, 531, rfl⟩
abbrev main_v446 : Ref sig .tc := ⟨.hbm, 532, rfl⟩
abbrev main_v447 : Ref sig .tc := ⟨.hbm, 533, rfl⟩
abbrev main_v448 : Ref sig .tc := ⟨.hbm, 534, rfl⟩
abbrev main_v449 : Ref sig .tc := ⟨.hbm, 535, rfl⟩
abbrev main_v450 : Ref sig .tc := ⟨.hbm, 536, rfl⟩
abbrev main_cst_82 : Ref sig .tc := ⟨.hbm, 537, rfl⟩
abbrev main_v451 : Ref sig .tc := ⟨.hbm, 538, rfl⟩
abbrev main_v452 : Ref sig .tc := ⟨.hbm, 539, rfl⟩
abbrev main_cst_83 : Ref sig .tc := ⟨.hbm, 540, rfl⟩
abbrev main_v453 : Ref sig .tc := ⟨.hbm, 541, rfl⟩
abbrev main_cst_84 : Ref sig .tc := ⟨.hbm, 542, rfl⟩
abbrev main_v454 : Ref sig .tc := ⟨.hbm, 543, rfl⟩
abbrev main_v455 : Ref sig .tc := ⟨.hbm, 544, rfl⟩
abbrev main_v456 : Ref sig .tc := ⟨.hbm, 545, rfl⟩
abbrev main_cst_85 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_v460 : Ref sig .tc := ⟨.hbm, 550, rfl⟩
abbrev main_v461 : Ref sig .tc := ⟨.hbm, 551, rfl⟩
abbrev main_cst_86 : Ref sig .tc := ⟨.hbm, 552, rfl⟩
abbrev main_v462 : Ref sig .tc := ⟨.hbm, 553, rfl⟩
abbrev main_v463 : Ref sig .tc := ⟨.hbm, 554, rfl⟩
abbrev main_cst_87 : Ref sig .tc := ⟨.hbm, 555, rfl⟩
abbrev main_v464 : Ref sig .tc := ⟨.hbm, 556, rfl⟩
abbrev main_cst_88 : Ref sig .tc := ⟨.hbm, 557, rfl⟩
abbrev main_v465 : Ref sig .tc := ⟨.hbm, 558, rfl⟩
abbrev main_v466 : Ref sig .tc := ⟨.hbm, 559, rfl⟩
abbrev main_v467 : Ref sig .tc := ⟨.hbm, 560, rfl⟩
abbrev main_cst_89 : Ref sig .tc := ⟨.hbm, 561, rfl⟩
abbrev main_v468 : Ref sig .tc := ⟨.hbm, 562, rfl⟩
abbrev main_v469 : Ref sig .tc := ⟨.hbm, 563, rfl⟩
abbrev main_v470 : Ref sig .tc := ⟨.hbm, 564, rfl⟩
abbrev main_v471 : Ref sig .tc := ⟨.hbm, 565, rfl⟩
abbrev main_v472 : Ref sig .tc := ⟨.hbm, 566, rfl⟩
abbrev main_cst_90 : Ref sig .tc := ⟨.hbm, 567, rfl⟩
abbrev main_v473 : Ref sig .tc := ⟨.hbm, 568, rfl⟩
abbrev main_v474 : Ref sig .tc := ⟨.hbm, 569, rfl⟩
abbrev main_cst_91 : Ref sig .tc := ⟨.hbm, 570, rfl⟩
abbrev main_v475 : Ref sig .tc := ⟨.hbm, 571, rfl⟩
abbrev main_cst_92 : Ref sig .tc := ⟨.hbm, 572, rfl⟩
abbrev main_v476 : Ref sig .tc := ⟨.hbm, 573, rfl⟩
abbrev main_v477 : Ref sig .tc := ⟨.hbm, 574, rfl⟩
abbrev main_v478 : Ref sig .tc := ⟨.hbm, 575, rfl⟩
abbrev main_cst_93 : Ref sig .tc := ⟨.hbm, 576, rfl⟩
abbrev main_v479 : Ref sig .tc := ⟨.hbm, 577, rfl⟩
abbrev main_v480 : Ref sig .tc := ⟨.hbm, 578, rfl⟩
abbrev main_v481 : Ref sig .tc := ⟨.hbm, 579, rfl⟩
abbrev main_v482 : Ref sig .tc := ⟨.hbm, 580, rfl⟩
abbrev main_v483 : Ref sig .tc := ⟨.hbm, 581, rfl⟩
abbrev main_cst_94 : Ref sig .tc := ⟨.hbm, 582, rfl⟩
abbrev main_v484 : Ref sig .tc := ⟨.hbm, 583, rfl⟩
abbrev main_v485 : Ref sig .tc := ⟨.hbm, 584, rfl⟩
abbrev main_cst_95 : Ref sig .tc := ⟨.hbm, 585, rfl⟩
abbrev main_v486 : Ref sig .tc := ⟨.hbm, 586, rfl⟩
abbrev main_cst_96 : Ref sig .tc := ⟨.hbm, 587, rfl⟩
abbrev main_v487 : Ref sig .tc := ⟨.hbm, 588, rfl⟩
abbrev main_v488 : Ref sig .tc := ⟨.hbm, 589, rfl⟩
abbrev main_v489 : Ref sig .tc := ⟨.hbm, 590, rfl⟩
abbrev main_cst_97 : Ref sig .tc := ⟨.hbm, 591, rfl⟩
abbrev main_v490 : Ref sig .tc := ⟨.hbm, 592, rfl⟩
abbrev main_v491 : Ref sig .tc := ⟨.hbm, 593, rfl⟩
abbrev main_v492 : Ref sig .tc := ⟨.hbm, 594, rfl⟩
abbrev main_v493 : Ref sig .tc := ⟨.hbm, 595, rfl⟩
abbrev main_v494 : Ref sig .tc := ⟨.hbm, 596, rfl⟩
abbrev main_cst_98 : Ref sig .tc := ⟨.hbm, 597, rfl⟩
abbrev main_v495 : Ref sig .tc := ⟨.hbm, 598, rfl⟩
abbrev main_v496 : Ref sig .tc := ⟨.hbm, 599, rfl⟩
abbrev main_cst_99 : Ref sig .tc := ⟨.hbm, 600, rfl⟩
abbrev main_v497 : Ref sig .tc := ⟨.hbm, 601, rfl⟩
abbrev main_cst_100 : Ref sig .tc := ⟨.hbm, 602, rfl⟩
abbrev main_v498 : Ref sig .tc := ⟨.hbm, 603, rfl⟩
abbrev main_v499 : Ref sig .tc := ⟨.hbm, 604, rfl⟩
abbrev main_v500 : Ref sig .tc := ⟨.hbm, 605, rfl⟩
abbrev main_cst_101 : Ref sig .tc := ⟨.hbm, 606, rfl⟩
abbrev main_v501 : Ref sig .tc := ⟨.hbm, 607, rfl⟩
abbrev main_v502 : Ref sig .tc := ⟨.hbm, 608, rfl⟩
abbrev main_v503 : Ref sig .tc := ⟨.hbm, 609, rfl⟩
abbrev main_v504 : Ref sig .tc := ⟨.hbm, 610, rfl⟩
abbrev main_v505 : Ref sig .tc := ⟨.hbm, 611, rfl⟩
abbrev main_cst_102 : Ref sig .tc := ⟨.hbm, 612, rfl⟩
abbrev main_v506 : Ref sig .tc := ⟨.hbm, 613, rfl⟩
abbrev main_v507 : Ref sig .tc := ⟨.hbm, 614, rfl⟩
abbrev main_cst_103 : Ref sig .tc := ⟨.hbm, 615, rfl⟩
abbrev main_v508 : Ref sig .tc := ⟨.hbm, 616, rfl⟩
abbrev main_cst_104 : Ref sig .tc := ⟨.hbm, 617, rfl⟩
abbrev main_v509 : Ref sig .tc := ⟨.hbm, 618, rfl⟩
abbrev main_v510 : Ref sig .tc := ⟨.hbm, 619, rfl⟩
abbrev main_v511 : Ref sig .tc := ⟨.hbm, 620, rfl⟩
abbrev main_cst_105 : Ref sig .tc := ⟨.hbm, 621, rfl⟩
abbrev main_v512 : Ref sig .tc := ⟨.hbm, 622, rfl⟩
abbrev main_v513 : Ref sig .tc := ⟨.hbm, 623, rfl⟩
abbrev main_v514 : Ref sig .tc := ⟨.hbm, 624, rfl⟩
abbrev main_v515 : Ref sig .tc := ⟨.hbm, 625, rfl⟩
abbrev main_v516 : Ref sig .tc := ⟨.hbm, 626, rfl⟩
abbrev main_cst_106 : Ref sig .tc := ⟨.hbm, 627, rfl⟩
abbrev main_v517 : Ref sig .tc := ⟨.hbm, 628, rfl⟩
abbrev main_v518 : Ref sig .tc := ⟨.hbm, 629, rfl⟩
abbrev main_cst_107 : Ref sig .tc := ⟨.hbm, 630, rfl⟩
abbrev main_v519 : Ref sig .tc := ⟨.hbm, 631, rfl⟩
abbrev main_cst_108 : Ref sig .tc := ⟨.hbm, 632, rfl⟩
abbrev main_v520 : Ref sig .tc := ⟨.hbm, 633, rfl⟩
abbrev main_v521 : Ref sig .tc := ⟨.hbm, 634, rfl⟩
abbrev main_v522 : Ref sig .tc := ⟨.hbm, 635, rfl⟩
abbrev main_cst_109 : Ref sig .tc := ⟨.hbm, 636, rfl⟩
abbrev main_v523 : Ref sig .tc := ⟨.hbm, 637, rfl⟩
abbrev main_v524 : Ref sig .tc := ⟨.hbm, 638, rfl⟩
abbrev main_v525 : Ref sig .tc := ⟨.hbm, 639, rfl⟩
abbrev main_v526 : Ref sig .tc := ⟨.hbm, 640, rfl⟩
abbrev main_v527 : Ref sig .tc := ⟨.hbm, 641, rfl⟩
abbrev main_cst_110 : Ref sig .tc := ⟨.hbm, 642, rfl⟩
abbrev main_v528 : Ref sig .tc := ⟨.hbm, 643, rfl⟩
abbrev main_v529 : Ref sig .tc := ⟨.hbm, 644, rfl⟩
abbrev main_cst_111 : Ref sig .tc := ⟨.hbm, 645, rfl⟩
abbrev main_v530 : Ref sig .tc := ⟨.hbm, 646, rfl⟩
abbrev main_cst_112 : Ref sig .tc := ⟨.hbm, 647, rfl⟩
abbrev main_v531 : Ref sig .tc := ⟨.hbm, 648, rfl⟩
abbrev main_v532 : Ref sig .tc := ⟨.hbm, 649, rfl⟩
abbrev main_v533 : Ref sig .tc := ⟨.hbm, 650, rfl⟩
abbrev main_cst_113 : Ref sig .tc := ⟨.hbm, 651, rfl⟩
abbrev main_v534 : Ref sig .tc := ⟨.hbm, 652, rfl⟩
abbrev main_v535 : Ref sig .tc := ⟨.hbm, 653, rfl⟩
abbrev main_v536 : Ref sig .tc := ⟨.hbm, 654, rfl⟩
abbrev main_v537 : Ref sig .tc := ⟨.hbm, 655, rfl⟩
abbrev main_v538 : Ref sig .tc := ⟨.hbm, 656, rfl⟩
abbrev main_cst_114 : Ref sig .tc := ⟨.hbm, 657, rfl⟩
abbrev main_v539 : Ref sig .tc := ⟨.hbm, 658, rfl⟩
abbrev main_v540 : Ref sig .tc := ⟨.hbm, 659, rfl⟩
abbrev main_cst_115 : Ref sig .tc := ⟨.hbm, 660, rfl⟩
abbrev main_v541 : Ref sig .tc := ⟨.hbm, 661, rfl⟩
abbrev main_cst_116 : Ref sig .tc := ⟨.hbm, 662, rfl⟩
abbrev main_v542 : Ref sig .tc := ⟨.hbm, 663, rfl⟩
abbrev main_v543 : Ref sig .tc := ⟨.hbm, 664, rfl⟩
abbrev main_v544 : Ref sig .tc := ⟨.hbm, 665, rfl⟩
abbrev main_cst_117 : Ref sig .tc := ⟨.hbm, 666, rfl⟩
abbrev main_v545 : Ref sig .tc := ⟨.hbm, 667, rfl⟩
abbrev main_v546 : Ref sig .tc := ⟨.hbm, 668, rfl⟩
abbrev main_v547 : Ref sig .tc := ⟨.hbm, 669, rfl⟩
abbrev main_v548 : Ref sig .tc := ⟨.hbm, 670, rfl⟩
abbrev main_v549 : Ref sig .tc := ⟨.hbm, 671, rfl⟩
abbrev main_cst_118 : Ref sig .tc := ⟨.hbm, 672, rfl⟩
abbrev main_v550 : Ref sig .tc := ⟨.hbm, 673, rfl⟩
abbrev main_v551 : Ref sig .tc := ⟨.hbm, 674, rfl⟩
abbrev main_cst_119 : Ref sig .tc := ⟨.hbm, 675, rfl⟩
abbrev main_v552 : Ref sig .tc := ⟨.hbm, 676, rfl⟩
abbrev main_cst_120 : Ref sig .tc := ⟨.hbm, 677, rfl⟩
abbrev main_v553 : Ref sig .tc := ⟨.hbm, 678, rfl⟩
abbrev main_v554 : Ref sig .tc := ⟨.hbm, 679, rfl⟩
abbrev main_v555 : Ref sig .tc := ⟨.hbm, 680, rfl⟩
abbrev main_cst_121 : Ref sig .tc := ⟨.hbm, 681, rfl⟩
abbrev main_v556 : Ref sig .tc := ⟨.hbm, 682, rfl⟩
abbrev main_v557 : Ref sig .tc := ⟨.hbm, 683, rfl⟩
abbrev main_v558 : Ref sig .tc := ⟨.hbm, 684, rfl⟩
abbrev main_v559 : Ref sig .tc := ⟨.hbm, 685, rfl⟩
abbrev main_v560 : Ref sig .tc := ⟨.hbm, 686, rfl⟩
abbrev main_cst_122 : Ref sig .tc := ⟨.hbm, 687, rfl⟩
abbrev main_v561 : Ref sig .tc := ⟨.hbm, 688, rfl⟩
abbrev main_v562 : Ref sig .tc := ⟨.hbm, 689, rfl⟩
abbrev main_cst_123 : Ref sig .tc := ⟨.hbm, 690, rfl⟩
abbrev main_v563 : Ref sig .tc := ⟨.hbm, 691, rfl⟩
abbrev main_cst_124 : Ref sig .tc := ⟨.hbm, 692, rfl⟩
abbrev main_v564 : Ref sig .tc := ⟨.hbm, 693, rfl⟩
abbrev main_v565 : Ref sig .tc := ⟨.hbm, 694, rfl⟩
abbrev main_v566 : Ref sig .tc := ⟨.hbm, 695, rfl⟩
abbrev main_cst_125 : Ref sig .tc := ⟨.hbm, 696, rfl⟩
abbrev main_v567 : Ref sig .tc := ⟨.hbm, 697, rfl⟩
abbrev main_v568 : Ref sig .tc := ⟨.hbm, 698, rfl⟩
abbrev main_v569 : Ref sig .tc := ⟨.hbm, 699, rfl⟩
abbrev main_v570 : Ref sig .tc := ⟨.hbm, 700, rfl⟩
abbrev main_v571 : Ref sig .tc := ⟨.hbm, 701, rfl⟩
abbrev main_cst_126 : Ref sig .tc := ⟨.hbm, 702, rfl⟩
abbrev main_v572 : Ref sig .tc := ⟨.hbm, 703, rfl⟩
abbrev main_v573 : Ref sig .tc := ⟨.hbm, 704, rfl⟩
abbrev main_cst_127 : Ref sig .tc := ⟨.hbm, 705, rfl⟩
abbrev main_v574 : Ref sig .tc := ⟨.hbm, 706, rfl⟩
abbrev main_cst_128 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_cst_129 : Ref sig .tc := ⟨.hbm, 711, rfl⟩
abbrev main_v578 : Ref sig .tc := ⟨.hbm, 712, rfl⟩
abbrev main_v579 : Ref sig .tc := ⟨.hbm, 713, rfl⟩
abbrev main_cst_130 : Ref sig .tc := ⟨.hbm, 714, rfl⟩
abbrev main_v580 : Ref sig .tc := ⟨.hbm, 715, rfl⟩
abbrev main_v581 : Ref sig .tc := ⟨.hbm, 716, rfl⟩
abbrev main_cst_131 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩
abbrev main_v588 : Ref sig .tc := ⟨.hbm, 724, rfl⟩
abbrev main_cst_132 : Ref sig .tc := ⟨.hbm, 725, rfl⟩
abbrev main_v589 : Ref sig .tc := ⟨.hbm, 726, rfl⟩
abbrev main_v590 : Ref sig .tc := ⟨.hbm, 727, rfl⟩
abbrev main_cst_133 : Ref sig .tc := ⟨.hbm, 728, rfl⟩
abbrev main_v591 : Ref sig .tc := ⟨.hbm, 729, rfl⟩
abbrev main_v592 : Ref sig .tc := ⟨.hbm, 730, rfl⟩
abbrev main_v593 : Ref sig .tc := ⟨.hbm, 731, rfl⟩
abbrev main_v594 : Ref sig .tc := ⟨.hbm, 732, rfl⟩
abbrev main_c : Ref sig .tc := ⟨.hbm, 733, rfl⟩
abbrev main_call0_v0 : Ref sig .tc := ⟨.hbm, 734, rfl⟩
abbrev main_v595 : Ref sig .tc := ⟨.hbm, 735, rfl⟩
abbrev main_v596 : Ref sig .tc := ⟨.hbm, 736, rfl⟩

abbrev nD : Nat := 1
abbrev τ : Topo := Topo.v7x

variable {F : FTy → Type} [FloatOps F]
-- ==== Kernel2.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S2048x1024 : Shape := ⟨2, ![2048, 1024]⟩
abbrev S4096x1024 : Shape := ⟨2, ![4096, 1024]⟩
abbrev S2048x4096 : Shape := ⟨2, ![2048, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4096x1024, .bf16⟩
  | .hbm, ⟨2, _⟩ => ⟨S2048x4096, .bf16⟩
  | .hbm, ⟨3, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .bf16⟩
  | .hbm, ⟨2, _⟩ => ⟨S2048x4096, .bf16⟩
  | .hbm, ⟨3, _⟩ => ⟨S4096x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel4.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x1024, .f32⟩
  | .hbm, ⟨10, _⟩ => ⟨S1024x4096, .f32⟩
  | .hbm, ⟨11, _⟩ => ⟨S4096x1024, .f32⟩
  | .hbm, ⟨12, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x4096 : Shape := ⟨2, ![2048, 4096]⟩
abbrev S1024x4096 : Shape := ⟨2, ![1024, 4096]⟩
abbrev S2048x1024 : Shape := ⟨2, ![2048, 1024]⟩
abbrev S1024 : Shape := ⟨1, ![1024]⟩
abbrev S1x1024 : Shape := ⟨2, ![1, 1024]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S1x1024, .f32⟩
  | .hbm, ⟨8, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_26 : BitVec 32 := 0#32
  let v49 : BitVec 1 := Scalar.cmpi .eq arg0 c0_i32_26
  let v50 : BitVec 32 := Scalar.extui v49
  let c0_i32_27 : BitVec 32 := 0#32
  let v51 : BitVec 1 := Scalar.cmpi .ne v50 c0_i32_27
  v51

def k0_cond5 (i : grid0.Coords) : BitVec 1 :=
  let arg0 : BitVec 32 := BitVec.ofNat 32 (i 0).val
  let c0_i32_28 : BitVec 32 := 0#32
  let v52 : BitVec 1 := Scalar.cmpi .sgt arg0 c0_i32_28
  let v53 : BitVec 32 := Scalar.extui v52
  let c0_i32_29 : BitVec 32 := 0#32
  let v54 : BitVec 1 := Scalar.cmpi .ne v53 c0_i32_29
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference6Ideal.lean ====
abbrev S2048x4096 : Shape := ⟨2, ![2048, 4096]⟩
abbrev S1024x4096 : Shape := ⟨2, ![1024, 4096]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x4096, .f32⟩
  | .hbm, ⟨6, _⟩ => ⟨S1024x4096, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x4096, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | .hbm, ⟨56, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel7.lean ====
abbrev S2048x4096 : Shape := ⟨2, ![2048, 4096]⟩
abbrev S4096x1024 : Shape := ⟨2, ![4096, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S2048x4096, .f32⟩
  | .hbm, ⟨4, _⟩ => ⟨S4096x1024, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x1024, .f32⟩
  | .hbm, ⟨10, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S2048x1024 : Shape := ⟨2, ![2048, 1024]⟩
abbrev S1024x7680 : Shape := ⟨2, ![1024, 7680]⟩
abbrev S1024x960 : Shape := ⟨2, ![1024, 960]⟩
abbrev S_ : Shape := ⟨0, ![]⟩
abbrev S1024x1024 : Shape := ⟨2, ![1024, 1024]⟩
abbrev S1x1024x1024 : Shape := ⟨3, ![1, 1024, 1024]⟩
abbrev S8x1024x1024 : Shape := ⟨3, ![8, 1024, 1024]⟩
abbrev S2048x7680 : Shape := ⟨2, ![2048, 7680]⟩
abbrev S1024x1920 : Shape := ⟨2, ![1024, 1920]⟩
abbrev S1024x896 : Shape := ⟨2, ![1024, 896]⟩
abbrev S1024x128 : Shape := ⟨2, ![1024, 128]⟩

abbrev nBuf : Space → Nat
  | .hbm => 44
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x7680, .bf16⟩
  | .hbm, ⟨2, _⟩ => ⟨S1024x960, .bf16⟩
  | .hbm, ⟨3, _⟩ => ⟨S_, .i32⟩
  | .hbm, ⟨4, _⟩ => ⟨S_, .bf16⟩
  | .hbm, ⟨5, _⟩ => ⟨S1024x1024, .bf16⟩
  | .hbm, ⟨6, _⟩ => ⟨S1024x960, .bf16⟩
  | .hbm, ⟨7, _⟩ => ⟨S_, .i32⟩
  | .hbm, ⟨8, _⟩ => ⟨S_, .bf16⟩
  | .hbm, ⟨9, _⟩ => ⟨S1024x1024, .bf16⟩
  | .hbm, ⟨10, _⟩ => ⟨S1024x960, .bf16⟩
  | .hbm, ⟨11, _⟩ => ⟨S_, .i32⟩
  | .hbm, ⟨12, _⟩ => ⟨S_, .bf16⟩
  | .hbm, ⟨13, _⟩ => ⟨S1024x1024, .bf16⟩
  | .hbm, ⟨14, _⟩ => ⟨S1024x960, .bf16⟩
  | .hbm, ⟨15, _⟩ => ⟨S_, .i32⟩
  | .hbm, ⟨16, _⟩ => ⟨S_, .bf16⟩
  | .hbm, ⟨17, _⟩ => ⟨S1024x1024, .bf16⟩
  | .hbm, ⟨18, _⟩ => ⟨S1024x960, .bf16⟩
  | .hbm, ⟨19, _⟩ => ⟨S_, .i32⟩
  | .hbm, ⟨20, _⟩ => ⟨S_, .bf16⟩
  | .hbm, ⟨21, _⟩ => ⟨S1024x1024, .bf16⟩
  | .hbm, ⟨22, _⟩ => ⟨S1024x960, .bf16⟩
  | .hbm, ⟨23, _⟩ => ⟨S_, .i32⟩
  | .hbm, ⟨24, _⟩ => ⟨S_, .bf16⟩
  | .hbm, ⟨25, _⟩ => ⟨S1024x1024, .bf16⟩
  | .hbm, ⟨26, _⟩ => ⟨S1024x960, .bf16⟩
  | .hbm, ⟨27, _⟩ => ⟨S_, .i32⟩
  | .hbm, ⟨28, _⟩ => ⟨S_, .bf16⟩
  | .hbm, ⟨29, _⟩ => ⟨S1024x1024, .bf16⟩
  | .hbm, ⟨30, _⟩ => ⟨S1024x960, .bf16⟩
  | .hbm, ⟨31, _⟩ => ⟨S_, .i32⟩
  | .hbm, ⟨32, _⟩ => ⟨S_, .bf16⟩
  | .hbm, ⟨33, _⟩ => ⟨S1024x1024, .bf16⟩
  | .hbm, ⟨34, _⟩ => ⟨S1x1024x1024, .bf16⟩
  | .hbm, ⟨35, _⟩ => ⟨S1x1024x1024, .bf16⟩
  | .hbm, ⟨36, _⟩ => ⟨S1x1024x1024, .bf16⟩
  | .hbm, ⟨37, _⟩ => ⟨S1x1024x1024, .bf16⟩
  | .hbm, ⟨38, _⟩ => ⟨S1x1024x1024, .bf16⟩
  | .hbm, ⟨39, _⟩ => ⟨S1x1024x1024, .bf16⟩
  | .hbm, ⟨40, _⟩ => ⟨S1x1024x1024, .bf16⟩
  | .hbm, ⟨41, _⟩ => ⟨S1x1024x1024, .bf16⟩
  | .hbm, ⟨42, _⟩ => ⟨S8x1024x1024, .bf16⟩
  | .hbm, ⟨43, _⟩ => ⟨S2048x7680, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1920, .bf16⟩
  | .local _ .vmem, ⟨7, _⟩ => ⟨S1024x1920, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call2_v0 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_call3_v0 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_call4_v0 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_call5_v0 : Ref sig .tc := ⟨.hbm, 24, rfl⟩
abbrev main_v11 : Ref sig .tc := ⟨.hbm, 25, rfl⟩
abbrev main_v12 : Ref sig .tc := ⟨.hbm, 26, rfl⟩
abbrev main_c_5 : Ref sig .tc := ⟨.hbm, 27, rfl⟩
abbrev main_call6_v0 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_call7_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1920 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2048x1024 : Shape := ⟨2, ![2048, 1024]⟩
abbrev S1024x7680 : Shape := ⟨2, ![1024, 7680]⟩
abbrev S2048x7680 : Shape := ⟨2, ![2048, 7680]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x7680, .bf16⟩
  | .hbm, ⟨2, _⟩ => ⟨S2048x1024, .f32⟩
  | .hbm, ⟨3, _⟩ => ⟨S1024x7680, .f32⟩
  | .hbm, ⟨4, _⟩ => ⟨S2048x7680, .f32⟩
  | .hbm, ⟨5, _⟩ => ⟨S2048x7680, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S2048x7680 : Shape := ⟨2, ![2048, 7680]⟩
abbrev S8x1024x1024 : Shape := ⟨3, ![8, 1024, 1024]⟩
abbrev S2048x512 : Shape := ⟨2, ![2048, 512]⟩
abbrev S2048x1920 : Shape := ⟨2, ![2048, 1920]⟩
abbrev S2x512x1024 : Shape := ⟨3, ![2, 512, 1024]⟩
abbrev S512x1920 : Shape := ⟨2, ![512, 1920]⟩
abbrev S512x1024 : Shape := ⟨2, ![512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x7680, .bf16⟩
  | .hbm, ⟨2, _⟩ => ⟨S8x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1920, .bf16⟩
  | .local _ .vmem, ⟨3, _⟩ => ⟨S2048x1920, .bf16⟩
  | .local _ .vmem, ⟨4, _⟩ => ⟨S2x512x1024, .bf16⟩
  | .local _ .vmem, ⟨5, _⟩ => ⟨S2x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x1024 : Shape := ⟨2, ![2048, 1024]⟩
abbrev S2048x7680 : Shape := ⟨2, ![2048, 7680]⟩
abbrev S_ : Shape := ⟨0, ![]⟩
abbrev S1024x7680 : Shape := ⟨2, ![1024, 7680]⟩
abbrev S7680x1024 : Shape := ⟨2, ![7680, 1024]⟩
abbrev S1024x4x1920 : Shape := ⟨3, ![1024, 4, 1920]⟩
abbrev S1024x4x1024 : Shape := ⟨3, ![1024, 4, 1024]⟩
abbrev S1024x4x1x1024 : Shape := ⟨4, ![1024, 4, 1, 1024]⟩
abbrev S1024x4x2x1024 : Shape := ⟨4, ![1024, 4, 2, 1024]⟩
abbrev S4x2x1024x1024 : Shape := ⟨4, ![4, 2, 1024, 1024]⟩
abbrev S8x1024x1024 : Shape := ⟨3, ![8, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x7680, .bf16⟩
  | .hbm, ⟨2, _⟩ => ⟨S_, .f32⟩
  | .hbm, ⟨3, _⟩ => ⟨S1024x7680, .f32⟩
  | .hbm, ⟨4, _⟩ => ⟨S2048x1024, .f32⟩
  | .hbm, ⟨5, _⟩ => ⟨S2048x7680, .f32⟩
  | .hbm, ⟨6, _⟩ => ⟨S2048x7680, .f32⟩
  | .hbm, ⟨7, _⟩ => ⟨S7680x1024, .f32⟩
  | .hbm, ⟨8, _⟩ => ⟨S1024x7680, .f32⟩
  | .hbm, ⟨9, _⟩ => ⟨S1024x7680, .bf16⟩
  | .hbm, ⟨10, _⟩ => ⟨S1024x4x1920, .bf16⟩
  | .hbm, ⟨11, _⟩ => ⟨S1024x4x1024, .bf16⟩
  | .hbm, ⟨12, _⟩ => ⟨S1024x4x1024, .bf16⟩
  | .hbm, ⟨13, _⟩ => ⟨S1024x4x1x1024, .bf16⟩
  | .hbm, ⟨14, _⟩ => ⟨S1024x4x1x1024, .bf16⟩
  | .hbm, ⟨15, _⟩ => ⟨S1024x4x2x1024, .bf16⟩
  | .hbm, ⟨16, _⟩ => ⟨S4x2x1024x1024, .bf16⟩
  | .hbm, ⟨17, _⟩ => ⟨S8x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel10.lean ====
abbrev S2048x7680 : Shape := ⟨2, ![2048, 7680]⟩
abbrev S1024x7680 : Shape := ⟨2, ![1024, 7680]⟩
abbrev S2048x1024 : Shape := ⟨2, ![2048, 1024]⟩
abbrev S1024 : Shape := ⟨1, ![1024]⟩
abbrev S1024x960 : Shape := ⟨2, ![1024, 960]⟩
abbrev S_ : Shape := ⟨0, ![]⟩
abbrev S1024x1024 : Shape := ⟨2, ![1024, 1024]⟩
abbrev S1x1024x1024 : Shape := ⟨3, ![1, 1024, 1024]⟩
abbrev S8x1024x1024 : Shape := ⟨3, ![8, 1024, 1024]⟩
abbrev S1x1024 : Shape := ⟨2, ![1, 1024]⟩
abbrev S512x1920 : Shape := ⟨2, ![512, 1920]⟩
abbrev S512x1024 : Shape := ⟨2, ![512, 1024]⟩
abbrev S1024x896 : Shape := ⟨2, ![1024, 896]⟩
abbrev S1024x128 : Shape := ⟨2, ![1024, 128]⟩
abbrev S512x896 : Shape := ⟨2, ![512, 896]⟩
abbrev S512x128 : Shape := ⟨2, ![512, 128]⟩
abbrev S512 : Shape := ⟨1, ![512]⟩
abbrev S512x1 : Shape := ⟨2, ![512, 1]⟩

abbrev nBuf : Space → Nat
  | .hbm => 49
  | .vmem => 15
  | .smem => 0
  | _ => 0

abbrev bufTy : (tb : Table) → Fin (tcTables nBuf tb) → BufTy
  | .hbm, ⟨0, _⟩ => ⟨S2048x7680, .bf16⟩
  | .hbm, ⟨1, _⟩ => ⟨S1024x7680, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024x960, .bf16⟩
  | .hbm, ⟨6, _⟩ => ⟨S_, .i32⟩
  | .hbm, ⟨7, _⟩ => ⟨S_, .bf16⟩
  | .hbm, ⟨8, _⟩ => ⟨S1024x1024, .bf16⟩
  | .hbm, ⟨9, _⟩ => ⟨S1024x960, .bf16⟩
  | .hbm, ⟨10, _⟩ => ⟨S_, .i32⟩
  | .hbm, ⟨11, _⟩ => ⟨S_, .bf16⟩
  | .hbm, ⟨12, _⟩ => ⟨S1024x1024, .bf16⟩
  | .hbm, ⟨13, _⟩ => ⟨S1024x960, .bf16⟩
  | .hbm, ⟨14, _⟩ => ⟨S_, .i32⟩
  | .hbm, ⟨15, _⟩ => ⟨S_, .bf16⟩
  | .hbm, ⟨16, _⟩ => ⟨S1024x1024, .bf16⟩
  | .hbm, ⟨17, _⟩ => ⟨S1024x960, .bf16⟩
  | .hbm, ⟨18, _⟩ => ⟨S_, .i32⟩
  | .hbm, ⟨19, _⟩ => ⟨S_, .bf16⟩
  | .hbm, ⟨20, _⟩ => ⟨S1024x1024, .bf16⟩
  | .hbm, ⟨21, _⟩ => ⟨S1024x960, .bf16⟩
  | .hbm, ⟨22, _⟩ => ⟨S_, .i32⟩
  | .hbm, ⟨23, _⟩ => ⟨S_, .bf16⟩
  | .hbm, ⟨24, _⟩ => ⟨S1024x1024, .bf16⟩
  | .hbm, ⟨25, _⟩ => ⟨S1024x960, .bf16⟩
  | .hbm, ⟨26, _⟩ => ⟨S_, .i32⟩
  | .hbm, ⟨27, _⟩ => ⟨S_, .bf16⟩
  | .hbm, ⟨28, _⟩ => ⟨S1024x1024, .bf16⟩
  | .hbm, ⟨29, _⟩ => ⟨S1024x960, .bf16⟩
  | .hbm, ⟨30, _⟩ => ⟨S_, .i32⟩
  | .hbm, ⟨31, _⟩ => ⟨S_, .bf16⟩
  | .hbm, ⟨32, _⟩ => ⟨S1024x1024, .bf16⟩
  | .hbm, ⟨33, _⟩ => ⟨S1024x960, .bf16⟩
  | .hbm, ⟨34, _⟩ => ⟨S_, .i32⟩
  | .hbm, ⟨35, _⟩ => ⟨S_, .bf16⟩
  | .hbm, ⟨36, _⟩ => ⟨S1024x1024, .bf16⟩
  | .hbm, ⟨37, _⟩ => ⟨S1x1024x1024, .bf16⟩
  | .hbm, ⟨38, _⟩ => ⟨S1x1024x1024, .bf16⟩
  | .hbm, ⟨39, _⟩ => ⟨S1x1024x1024, .bf16⟩
  | .hbm, ⟨40, _⟩ => ⟨S1x1024x1024, .bf16⟩
  | .hbm, ⟨41, _⟩ => ⟨S1x1024x1024, .bf16⟩
  | .hbm, ⟨42, _⟩ => ⟨S1x1024x1024, .bf16⟩
  | .hbm, ⟨43, _⟩ => ⟨S1x1024x1024, .bf16⟩
  | .hbm, ⟨44, _⟩ => ⟨S1x1024x1024, .bf16⟩
  | .hbm, ⟨45, _⟩ => ⟨S8x1024x1024, .bf16⟩
  | .hbm, ⟨46, _⟩ => ⟨S1x1024, .f32⟩
  | .hbm, ⟨47, _⟩ => ⟨S2048x1024, .f32⟩
  | .hbm, ⟨48, _⟩ => ⟨S1x1024, .f32⟩
  | .local _ .vmem, ⟨0, _⟩ => ⟨S512x1920, .bf16⟩
  | .local _ .vmem, ⟨1, _⟩ => ⟨S512x1920, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_call4_v0 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_call5_v0 : Ref sig .tc := ⟨.hbm, 27, rfl⟩
abbrev main_v11 : Ref sig .tc := ⟨.hbm, 28, rfl⟩
abbrev main_v12 : Ref sig .tc := ⟨.hbm, 29, rfl⟩
abbrev main_c_5 : Ref sig .tc := ⟨.hbm, 30, rfl⟩
abbrev main_call6_v0 : Ref sig .tc := ⟨.hbm, 31, rfl⟩
abbrev main_v13 : Ref sig .tc := ⟨.hbm, 32, rfl⟩
abbrev main_v14 : Ref sig .tc := ⟨.hbm, 33, rfl⟩
abbrev main_c_6 : Ref sig .tc := ⟨.hbm, 34, rfl⟩
abbrev main_call7_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_14 : BitVec 32 := 3#32
  let v25 : BitVec 1 := Scalar.cmpi .eq arg1 c3_i32_14
  let v26 : BitVec 32 := Scalar.extui v25
  let c0_i32_15 : BitVec 32 := 0#32
  let v27 : BitVec 1 := Scalar.cmpi .ne v26 c0_i32_15
  v27

def k0_cond4 (i : grid0.Coords) : BitVec 1 :=
  let arg0 : BitVec 32 := BitVec.ofNat 32 (i 0).val
  let c0_i32_32 : BitVec 32 := 0#32
  let v61 : BitVec 1 := Scalar.cmpi .eq arg0 c0_i32_32
  let v62 : BitVec 32 := Scalar.extui v61
  let c0_i32_33 : BitVec 32 := 0#32
  let v63 : BitVec 1 := Scalar.cmpi .ne v62 c0_i32_33
  v63

def k0_cond5 (i : grid0.Coords) : BitVec 1 :=
  let arg0 : BitVec 32 := BitVec.ofNat 32 (i 0).val
  let c0_i32_34 : BitVec 32 := 0#32
  let v64 : BitVec 1 := Scalar.cmpi .sgt arg0 c0_i32_34
  let v65 : BitVec 32 := Scalar.extui v64
  let c0_i32_35 : BitVec 32 := 0#32
  let v66 : BitVec 1 := Scalar.cmpi .ne v65 c0_i32_35
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference10Ideal.lean ====
abbrev S2048x7680 : Shape := ⟨2, ![2048, 7680]⟩
abbrev S1024x7680 : Shape := ⟨2, ![1024, 7680]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x7680, .bf16⟩
  | .hbm, ⟨1, _⟩ => ⟨S1024x7680, .bf16⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x7680, .f32⟩
  | .hbm, ⟨6, _⟩ => ⟨S1024x7680, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x7680, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S1x1024, .f32⟩
  | _, _ => ⟨S2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2048x1024 : Shape := ⟨2, ![2048, 1024]⟩
abbrev S512x1024 : Shape := ⟨2, ![512, 1024]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S_, .f32⟩
  | .hbm, ⟨3, _⟩ => ⟨S2048x512, .f32⟩
  | .hbm, ⟨4, _⟩ => ⟨S2048x1024, .f32⟩
  | .hbm, ⟨5, _⟩ => ⟨S512x1024, .f32⟩
  | .hbm, ⟨6, _⟩ => ⟨S2048x1024, .f32⟩
  | .hbm, ⟨7, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S512x1024, .bf16⟩
  | .local _ .vmem, ⟨0, _⟩ => ⟨S2048x512, .bf16⟩
  | .local _ .vmem, ⟨1, _⟩ => ⟨S2048x1024, .bf16⟩
  | .local _ .vmem, ⟨2, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S2048x512 : Shape := ⟨2, ![2048, 512]⟩
abbrev S512x1024 : Shape := ⟨2, ![512, 1024]⟩
abbrev S2048x7680 : Shape := ⟨2, ![2048, 7680]⟩
abbrev S2048x1024 : Shape := ⟨2, ![2048, 1024]⟩
abbrev S1024x512 : Shape := ⟨2, ![1024, 512]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x1024, .bf16⟩
  | .hbm, ⟨3, _⟩ => ⟨S512x1024, .bf16⟩
  | .hbm, ⟨4, _⟩ => ⟨S2048x7680, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S2048x512 : Shape := ⟨2, ![2048, 512]⟩
abbrev S512x1024 : Shape := ⟨2, ![512, 1024]⟩
abbrev S2048x7680 : Shape := ⟨2, ![2048, 7680]⟩
abbrev S2048x1024 : Shape := ⟨2, ![2048, 1024]⟩
abbrev S2048x2048 : Shape := ⟨2, ![2048, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S512x1024, .bf16⟩
  | .hbm, ⟨3, _⟩ => ⟨S512x1024, .bf16⟩
  | .hbm, ⟨4, _⟩ => ⟨S2048x7680, .bf16⟩
  | .hbm, ⟨5, _⟩ => ⟨S2048x512, .f32⟩
  | .hbm, ⟨6, _⟩ => ⟨S2048x512, .f32⟩
  | .hbm, ⟨7, _⟩ => ⟨S512x1024, .f32⟩
  | .hbm, ⟨8, _⟩ => ⟨S512x1024, .f32⟩
  | .hbm, ⟨9, _⟩ => ⟨S2048x7680, .f32⟩
  | .hbm, ⟨10, _⟩ => ⟨S2048x1024, .f32⟩
  | .hbm, ⟨11, _⟩ => ⟨S2048x1024, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | .hbm, ⟨27, _⟩ => ⟨S2048x1024, .bf16⟩
  | .hbm, ⟨28, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel17.lean ====
abbrev S2048x1024 : Shape := ⟨2, ![2048, 1024]⟩
abbrev S2048x7680 : Shape := ⟨2, ![2048, 7680]⟩
abbrev S1024x512 : Shape := ⟨2, ![1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x7680, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S2048x1024 : Shape := ⟨2, ![2048, 1024]⟩
abbrev S2048x7680 : Shape := ⟨2, ![2048, 7680]⟩
abbrev S2048x2048 : Shape := ⟨2, ![2048, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x7680, .bf16⟩
  | .hbm, ⟨2, _⟩ => ⟨S2048x1024, .bf16⟩
  | .hbm, ⟨3, _⟩ => ⟨S2048x1024, .bf16⟩
  | .hbm, ⟨4, _⟩ => ⟨S2048x7680, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x2048, .f32⟩
  | .hbm, ⟨32, _⟩ => ⟨S2048x2048, .f32⟩
  | .hbm, ⟨33, _⟩ => ⟨S2048x1024, .f32⟩
  | .hbm, ⟨34, _⟩ => ⟨S2048x1024, .f32⟩
  | .hbm, ⟨35, _⟩ => ⟨S2048x1024, .bf16⟩
  | .hbm, ⟨36, _⟩ => ⟨S2048x1024, .bf16⟩
  | .hbm, ⟨37, _⟩ => ⟨S2048x1024, .bf16⟩
  | .hbm, ⟨38, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel18.lean ====
abbrev S2048x1024 : Shape := ⟨2, ![2048, 1024]⟩
abbrev S1024 : Shape := ⟨1, ![1024]⟩
abbrev S8x128 : Shape := ⟨2, ![8, 128]⟩
abbrev S1x1024 : Shape := ⟨2, ![1, 1024]⟩
abbrev S2048 : Shape := ⟨1, ![2048]⟩
abbrev S2048x1 : Shape := ⟨2, ![2048, 1]⟩

abbrev nBuf : Space → Nat
  | .hbm => 5
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x128, .f32⟩
  | .hbm, ⟨3, _⟩ => ⟨S1x1024, .f32⟩
  | .hbm, ⟨4, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference18Ideal.lean ====
abbrev S2048x1024 : Shape := ⟨2, ![2048, 1024]⟩
abbrev S1024 : Shape := ⟨1, ![1024]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x128, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel19.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference19Ideal.lean ====
abbrev S2048x4096 : Shape := ⟨2, ![2048, 4096]⟩
abbrev S4096x1024 : Shape := ⟨2, ![4096, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1024, .f32⟩
  | .hbm, ⟨4, _⟩ => ⟨S2048x4096, .f32⟩
  | .hbm, ⟨5, _⟩ => ⟨S4096x1024, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel20.lean ====
abbrev S2048x512 : Shape := ⟨2, ![2048, 512]⟩
abbrev S512 : Shape := ⟨1, ![512]⟩
abbrev S1x512 : Shape := ⟨2, ![1, 512]⟩
abbrev S2048 : Shape := ⟨1, ![2048]⟩
abbrev S2048x1 : Shape := ⟨2, ![2048, 1]⟩

abbrev nBuf : Space → Nat
  | .hbm => 6
  | .vmem => 4
  | .smem => 0
  | _ => 0

abbrev bufTy : (tb : Table) → Fin (tcTables nBuf tb) → BufTy
  | .hbm, ⟨0, _⟩ => ⟨S2048x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S1x512, .f32⟩
  | .hbm, ⟨5, _⟩ => ⟨S2048x512, .bf16⟩
  | .local _ .vmem, ⟨0, _⟩ => ⟨S2048x512, .f32⟩
  | .local _ .vmem, ⟨1, _⟩ => ⟨S1x512, .f32⟩
  | .local _ .vmem, ⟨2, _⟩ => ⟨S1x512, .f32⟩
  | .local _ .vmem, ⟨3, _⟩ => ⟨S2048x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference20Ideal.lean ====
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x512, .f32⟩
  | .hbm, ⟨23, _⟩ => ⟨S2048x512, .f32⟩
  | .hbm, ⟨24, _⟩ => ⟨S1x512, .f32⟩
  | .hbm, ⟨25, _⟩ => ⟨S2048x512, .f32⟩
  | .hbm, ⟨26, _⟩ => ⟨S2048x512, .f32⟩
  | .hbm, ⟨27, _⟩ => ⟨S1x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel21.lean ====
abbrev S2048x7680 : Shape := ⟨2, ![2048, 7680]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S2048x512 : Shape := ⟨2, ![2048, 512]⟩
abbrev S2048x128 : Shape := ⟨2, ![2048, 128]⟩
abbrev S32x128 : Shape := ⟨2, ![32, 128]⟩
abbrev S1x128 : Shape := ⟨2, ![1, 128]⟩
abbrev S2080x128 : Shape := ⟨2, ![2080, 128]⟩
abbrev S160x128 : Shape := ⟨2, ![160, 128]⟩
abbrev S128x128 : Shape := ⟨2, ![128, 128]⟩

abbrev nBuf : Space → Nat
  | .hbm => 8
  | .vmem => 11
  | .smem => 0
  | _ => 0

abbrev bufTy : (tb : Table) → Fin (tcTables nBuf tb) → BufTy
  | .hbm, ⟨0, _⟩ => ⟨S2048x7680, .bf16⟩
  | .hbm, ⟨1, _⟩ => ⟨S31x512, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S1x512, .f32⟩
  | .hbm, ⟨7, _⟩ => ⟨S2048x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S2080x128, .f32⟩
  | _, _ => ⟨S2048x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v23 : BitVec 32 := Scalar.addi c0_i32 c16_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v24 : BitVec 32 := Scalar.muli arg7 c128_i32
  v24
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v24 : BitVec 32 := Scalar.muli arg7 c128_i32
  let v25 : BitVec 32 := v24
  let v26 : Index := Scalar.indexCast v25
  let c0_14 : Index := 0#32
  ![v26.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v24 : BitVec 32 := Scalar.muli arg7 c128_i32
  let v25 : BitVec 32 := v24
  let v193 : Index := Scalar.indexCast v25
  let c0_17 : Index := 0#32
  ![v193.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S2048x7680 : Shape := ⟨2, ![2048, 7680]⟩
abbrev S31x512 : Shape := ⟨2, ![31, 512]⟩
abbrev S512 : Shape := ⟨1, ![512]⟩
abbrev S2048x512 : Shape := ⟨2, ![2048, 512]⟩
abbrev S_ : Shape := ⟨0, ![]⟩
abbrev S30x512 : Shape := ⟨2, ![30, 512]⟩
abbrev S2078x512 : Shape := ⟨2, ![2078, 512]⟩
abbrev S1x512 : Shape := ⟨2, ![1, 512]⟩

abbrev nBuf : Space → Nat
  | .hbm => 241
  | .vmem => 0
  | .smem => 0
  | _ => 0

abbrev hbmTy0_0 (i : Nat) : BufTy := match i % 128 with
  | 0 => ⟨S2048x7680, .bf16⟩
  | 1 => ⟨S31x512, .f32⟩
  | 2 => ⟨S512, .f32⟩
  | 3 => ⟨S2048x512, .bf16⟩
  | 4 => ⟨S2048x512, .f32⟩
  | 5 => ⟨S2048x512, .bf16⟩
  | 6 => ⟨S2048x512, .f32⟩
  | 7 => ⟨S2048x512, .f32⟩
  | 8 => ⟨S2048x512, .f32⟩
  | 9 => ⟨S_, .f32⟩
  | 10 => ⟨S2048x512, .f32⟩
  | 11 => ⟨S2048x512, .f32⟩
  | 12 => ⟨S_, .f32⟩
  | 13 => ⟨S2048x512, .f32⟩
  | 14 => ⟨S2048x512, .f32⟩
  | 15 => ⟨S2048x512, .f32⟩
  | 16 => ⟨S_, .f32⟩
  | 17 => ⟨S30x512, .f32⟩
  | 18 => ⟨S2078x512, .f32⟩
  | 19 => ⟨S_, .f32⟩
  | 20 => ⟨S2048x512, .f32⟩
  | 21 => ⟨S1x512, .f32⟩
  | 22 => ⟨S2048x512, .f32⟩
  | 23 => ⟨S2048x512, .f32⟩
  | 24 => ⟨S1x512, .f32⟩
  | 25 => ⟨S512, .f32⟩
  | 26 => ⟨S2048x512, .f32⟩
  | 27 => ⟨S1x512, .f32⟩
  | 28 => ⟨S2048x512, .f32⟩
  | 29 => ⟨S2048x512, .f32⟩
  | 30 => ⟨S2048x512, .f32⟩
  | 31 => ⟨S1x512, .f32⟩
  | 32 => ⟨S512, .f32⟩
  | 33 => ⟨S2048x512, .f32⟩
  | 34 => ⟨S1x512, .f32⟩
  | 35 => ⟨S2048x512, .f32⟩
  | 36 => ⟨S2048x512, .f32⟩
  | 37 => ⟨S2048x512, .f32⟩
  | 38 => ⟨S1x512, .f32⟩
  | 39 => ⟨S512, .f32⟩
  | 40 => ⟨S2048x512, .f32⟩
  | 41 => ⟨S1x512, .f32⟩
  | 42 => ⟨S2048x512, .f32⟩
  | 43 => ⟨S2048x512, .f32⟩
  | 44 => ⟨S2048x512, .f32⟩
  | 45 => ⟨S1x512, .f32⟩
  | 46 => ⟨S512, .f32⟩
  | 47 => ⟨S2048x512, .f32⟩
  | 48 => ⟨S1x512, .f32⟩
  | 49 => ⟨S2048x512, .f32⟩
  | 50 => ⟨S2048x512, .f32⟩
  | 51 => ⟨S2048x512, .f32⟩
  | 52 => ⟨S1x512, .f32⟩
  | 53 => ⟨S512, .f32⟩
  | 54 => ⟨S2048x512, .f32⟩
  | 55 => ⟨S1x512, .f32⟩
  | 56 => ⟨S2048x512, .f32⟩
  | 57 => ⟨S2048x512, .f32⟩
  | 58 => ⟨S2048x512, .f32⟩
  | 59 => ⟨S1x512, .f32⟩
  | 60 => ⟨S512, .f32⟩
  | 61 => ⟨S2048x512, .f32⟩
  | 62 => ⟨S1x512, .f32⟩
  | 63 => ⟨S2048x512, .f32⟩
  | 64 => ⟨S2048x512, .f32⟩
  | 65 => ⟨S2048x512, .f32⟩
  | 66 => ⟨S1x512, .f32⟩
  | 67 => ⟨S512, .f32⟩
  | 68 => ⟨S2048x512, .f32⟩
  | 69 => ⟨S1x512, .f32⟩
  | 70 => ⟨S2048x512, .f32⟩
  | 71 => ⟨S2048x512, .f32⟩
  | 72 => ⟨S2048x512, .f32⟩
  | 73 => ⟨S1x512, .f32⟩
  | 74 => ⟨S512, .f32⟩
  | 75 => ⟨S2048x512, .f32⟩
  | 76 => ⟨S1x512, .f32⟩
  | 77 => ⟨S2048x512, .f32⟩
  | 78 => ⟨S2048x512, .f32⟩
  | 79 => ⟨S2048x512, .f32⟩
  | 80 => ⟨S1x512, .f32⟩
  | 81 => ⟨S512, .f32⟩
  | 82 => ⟨S2048x512, .f32⟩
  | 83 => ⟨S1x512, .f32⟩
  | 84 => ⟨S2048x512, .f32⟩
  | 85 => ⟨S2048x512, .f32⟩
  | 86 => ⟨S2048x512, .f32⟩
  | 87 => ⟨S1x512, .f32⟩
  | 88 => ⟨S512, .f32⟩
  | 89 => ⟨S2048x512, .f32⟩
  | 90 => ⟨S1x512, .f32⟩
  | 91 => ⟨S2048x512, .f32⟩
  | 92 => ⟨S2048x512, .f32⟩
  | 93 => ⟨S2048x512, .f32⟩
  | 94 => ⟨S1x512, .f32⟩
  | 95 => ⟨S512, .f32⟩
  | 96 => ⟨S2048x512, .f32⟩
  | 97 => ⟨S1x512, .f32⟩
  | 98 => ⟨S2048x512, .f32⟩
  | 99 => ⟨S2048x512, .f32⟩
  | 100 => ⟨S2048x512, .f32⟩
  | 101 => ⟨S1x512, .f32⟩
  | 102 => ⟨S512, .f32⟩
  | 103 => ⟨S2048x512, .f32⟩
  | 104 => ⟨S1x512, .f32⟩
  | 105 => ⟨S2048x512, .f32⟩
  | 106 => ⟨S2048x512, .f32⟩
  | 107 => ⟨S2048x512, .f32⟩
  | 108 => ⟨S1x512, .f32⟩
  | 109 => ⟨S512, .f32⟩
  | 110 => ⟨S2048x512, .f32⟩
  | 111 => ⟨S1x512, .f32⟩
  | 112 => ⟨S2048x512, .f32⟩
  | 113 => ⟨S2048x512, .f32⟩
  | 114 => ⟨S2048x512, .f32⟩
  | 115 => ⟨S1x512, .f32⟩
  | 116 => ⟨S512, .f32⟩
  | 117 => ⟨S2048x512, .f32⟩
  | 118 => ⟨S1x512, .f32⟩
  | 119 => ⟨S2048x512, .f32⟩
  | 120 => ⟨S2048x512, .f32⟩
  | 121 => ⟨S2048x512, .f32⟩
  | 122 => ⟨S1x512, .f32⟩
  | 123 => ⟨S512, .f32⟩
  | 124 => ⟨S2048x512, .f32⟩
  | 125 => ⟨S1x512, .f32⟩
  | 126 => ⟨S2048x512, .f32⟩
  | 127 => ⟨S2048x512, .f32⟩
  | _ => ⟨S2048x7680, .bf16⟩

abbrev hbmTy0_1 (i : Nat) : BufTy := match i % 128 with
  | 0 => ⟨S2048x512, .f32⟩
  | 1 => ⟨S1x512, .f32⟩
  | 2 => ⟨S512, .f32⟩
  | 3 => ⟨S2048x512, .f32⟩
  | 4 => ⟨S1x512, .f32⟩
  | 5 => ⟨S2048x512, .f32⟩
  | 6 => ⟨S2048x512, .f32⟩
  | 7 => ⟨S2048x512, .f32⟩
  | 8 => ⟨S1x512, .f32⟩
  | 9 => ⟨S512, .f32⟩
  | 10 => ⟨S2048x512, .f32⟩
  | 11 => ⟨S1x512, .f32⟩
  | 12 => ⟨S2048x512, .f32⟩
  | 13 => ⟨S2048x512, .f32⟩
  | 14 => ⟨S2048x512, .f32⟩
  | 15 => ⟨S1x512, .f32⟩
  | 16 => ⟨S512, .f32⟩
  | 17 => ⟨S2048x512, .f32⟩
  | 18 => ⟨S1x512, .f32⟩
  | 19 => ⟨S2048x512, .f32⟩
  | 20 => ⟨S2048x512, .f32⟩
  | 21 => ⟨S2048x512, .f32⟩
  | 22 => ⟨S1x512, .f32⟩
  | 23 => ⟨S512, .f32⟩
  | 24 => ⟨S2048x512, .f32⟩
  | 25 => ⟨S1x512, .f32⟩
  | 26 => ⟨S2048x512, .f32⟩
  | 27 => ⟨S2048x512, .f32⟩
  | 28 => ⟨S2048x512, .f32⟩
  | 29 => ⟨S1x512, .f32⟩
  | 30 => ⟨S512, .f32⟩
  | 31 => ⟨S2048x512, .f32⟩
  | 32 => ⟨S1x512, .f32⟩
  | 33 => ⟨S2048x512, .f32⟩
  | 34 => ⟨S2048x512, .f32⟩
  | 35 => ⟨S2048x512, .f32⟩
  | 36 => ⟨S1x512, .f32⟩
  | 37 => ⟨S512, .f32⟩
  | 38 => ⟨S2048x512, .f32⟩
  | 39 => ⟨S1x512, .f32⟩
  | 40 => ⟨S2048x512, .f32⟩
  | 41 => ⟨S2048x512, .f32⟩
  | 42 => ⟨S2048x512, .f32⟩
  | 43 => ⟨S1x512, .f32⟩
  | 44 => ⟨S512, .f32⟩
  | 45 => ⟨S2048x512, .f32⟩
  | 46 => ⟨S1x512, .f32⟩
  | 47 => ⟨S2048x512, .f32⟩
  | 48 => ⟨S2048x512, .f32⟩
  | 49 => ⟨S2048x512, .f32⟩
  | 50 => ⟨S1x512, .f32⟩
  | 51 => ⟨S512, .f32⟩
  | 52 => ⟨S2048x512, .f32⟩
  | 53 => ⟨S1x512, .f32⟩
  | 54 => ⟨S2048x512, .f32⟩
  | 55 => ⟨S2048x512, .f32⟩
  | 56 => ⟨S2048x512, .f32⟩
  | 57 => ⟨S1x512, .f32⟩
  | 58 => ⟨S512, .f32⟩
  | 59 => ⟨S2048x512, .f32⟩
  | 60 => ⟨S1x512, .f32⟩
  | 61 => ⟨S2048x512, .f32⟩
  | 62 => ⟨S2048x512, .f32⟩
  | 63 => ⟨S2048x512, .f32⟩
  | 64 => ⟨S1x512, .f32⟩
  | 65 => ⟨S512, .f32⟩
  | 66 => ⟨S2048x512, .f32⟩
  | 67 => ⟨S1x512, .f32⟩
  | 68 => ⟨S2048x512, .f32⟩
  | 69 => ⟨S2048x512, .f32⟩
  | 70 => ⟨S2048x512, .f32⟩
  | 71 => ⟨S1x512, .f32⟩
  | 72 => ⟨S512, .f32⟩
  | 73 => ⟨S2048x512, .f32⟩
  | 74 => ⟨S1x512, .f32⟩
  | 75 => ⟨S2048x512, .f32⟩
  | 76 => ⟨S2048x512, .f32⟩
  | 77 => ⟨S2048x512, .f32⟩
  | 78 => ⟨S1x512, .f32⟩
  | 79 => ⟨S512, .f32⟩
  | 80 => ⟨S2048x512, .f32⟩
  | 81 => ⟨S1x512, .f32⟩
  | 82 => ⟨S2048x512, .f32⟩
  | 83 => ⟨S2048x512, .f32⟩
  | 84 => ⟨S2048x512, .f32⟩
  | 85 => ⟨S1x512, .f32⟩
  | 86 => ⟨S512, .f32⟩
  | 87 => ⟨S2048x512, .f32⟩
  | 88 => ⟨S1x512, .f32⟩
  | 89 => ⟨S2048x512, .f32⟩
  | 90 => ⟨S2048x512, .f32⟩
  | 91 => ⟨S2048x512, .f32⟩
  | 92 => ⟨S1x512, .f32⟩
  | 93 => ⟨S512, .f32⟩
  | 94 => ⟨S2048x512, .f32⟩
  | 95 => ⟨S1x512, .f32⟩
  | 96 => ⟨S2048x512, .f32⟩
  | 97 => ⟨S2048x512, .f32⟩
  | 98 => ⟨S2048x512, .f32⟩
  | 99 => ⟨S1x512, .f32⟩
  | 100 => ⟨S512, .f32⟩
  | 101 => ⟨S2048x512, .f32⟩
  | 102 => ⟨S1x512, .f32⟩
  | 103 => ⟨S2048x512, .f32⟩
  | 104 => ⟨S2048x512, .f32⟩
  | 105 => ⟨S2048x512, .f32⟩
  | 106 => ⟨S1x512, .f32⟩
  | 107 => ⟨S512, .f32⟩
  | 108 => ⟨S2048x512, .f32⟩
  | 109 => ⟨S1x512, .f32⟩
  | 110 => ⟨S2048x512, .f32⟩
  | 111 => ⟨S2048x512, .f32⟩
  | 112 => ⟨S2048x512, .f32⟩
  | _ => ⟨S2048x7680, .bf16⟩

abbrev hbmTy (i : Nat) : BufTy := match i / 128 with
  | 0 => hbmTy0_0 i
  | 1 => hbmTy0_1 i
  | _ => ⟨S2048x7680, .bf16⟩

abbrev bufTy : (tb : Table) → Fin (tcTables nBuf tb) → BufTy
  | .hbm, ⟨i, _⟩ => hbmTy i
  | _, _ => ⟨S2048x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩

abbrev nD : Nat := 1
abbrev τ : Topo := Topo.v7x

variable {F : FTy → Type} [FloatOps F]
-- ==== Kernel22.lean ====
abbrev S2048x1024 : Shape := ⟨2, ![2048, 1024]⟩
abbrev S1x1 : Shape := ⟨2, ![1, 1]⟩
abbrev S1024x1024 : Shape := ⟨2, ![1024, 1024]⟩
abbrev S1x1024 : Shape := ⟨2, ![1, 1024]⟩
abbrev S1024 : Shape := ⟨1, ![1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v17 : BitVec 1 := Scalar.cmpi .eq arg0 c1_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel23.lean ====
abbrev S2048x512 : Shape := ⟨2, ![2048, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S2048x512 : Shape := ⟨2, ![2048, 512]⟩
abbrev S1x2048x512 : Shape := ⟨3, ![1, 2048, 512]⟩
abbrev S3x2048x512 : Shape := ⟨3, ![3, 2048, 512]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S1x2048x512, .f32⟩
  | .hbm, ⟨7, _⟩ => ⟨S1x2048x512, .f32⟩
  | .hbm, ⟨8, _⟩ => ⟨S1x2048x512, .f32⟩
  | .hbm, ⟨9, _⟩ => ⟨S3x2048x512, .f32⟩
  | .hbm, ⟨10, _⟩ => ⟨S_, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S1x2048x512, .f32⟩
  | .hbm, ⟨16, _⟩ => ⟨S3x2048x512, .f32⟩
  | .hbm, ⟨17, _⟩ => ⟨S3x2048x512, .f32⟩
  | .hbm, ⟨18, _⟩ => ⟨S3x2048x512, .f32⟩
  | .hbm, ⟨19, _⟩ => ⟨S_, .f32⟩
  | .hbm, ⟨20, _⟩ => ⟨S2048x512, .f32⟩
  | .hbm, ⟨21, _⟩ => ⟨S1x2048x512, .f32⟩
  | .hbm, ⟨22, _⟩ => ⟨S3x2048x512, .f32⟩
  | .hbm, ⟨23, _⟩ => ⟨S3x2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S1x2048x512, .f32⟩
  | .hbm, ⟨28, _⟩ => ⟨S1x2048x512, .f32⟩
  | .hbm, ⟨29, _⟩ => ⟨S1x2048x512, .f32⟩
  | .hbm, ⟨30, _⟩ => ⟨S3x2048x512, .f32⟩
  | .hbm, ⟨31, _⟩ => ⟨S3x2048x512, .f32⟩
  | .hbm, ⟨32, _⟩ => ⟨S_, .f32⟩
  | .hbm, ⟨33, _⟩ => ⟨S2048x512, .f32⟩
  | .hbm, ⟨34, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel24.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel24Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel25Ideal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel26Ideal.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S4x64 : Shape := ⟨2, ![4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S32x24 : Shape := ⟨2, ![32, 24]⟩

abbrev nBuf : Space → Nat
  | .hbm => 7
  | .vmem => 7
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S32x24, .f32⟩
  | .local _ .vmem, ⟨0, _⟩ => ⟨S32x24, .f32⟩
  | .local _ .vmem, ⟨1, _⟩ => ⟨S32x24, .f32⟩
  | .local _ .vmem, ⟨2, _⟩ => ⟨S32x24, .f32⟩
  | .local _ .vmem, ⟨3, _⟩ => ⟨S32x24, .f32⟩
  | .local _ .vmem, ⟨4, _⟩ => ⟨S32x24, .f32⟩
  | .local _ .vmem, ⟨5, _⟩ => ⟨S32x24, .f32⟩
  | .local _ .vmem, ⟨6, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel27Ideal.lean ====
abbrev S32x24 : Shape := ⟨2, ![32, 24]⟩

abbrev nBuf : Space → Nat
  | .hbm => 7
  | .vmem => 7
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S32x24, .f32⟩
  | .local _ .vmem, ⟨0, _⟩ => ⟨S32x24, .f32⟩
  | .local _ .vmem, ⟨1, _⟩ => ⟨S32x24, .f32⟩
  | .local _ .vmem, ⟨2, _⟩ => ⟨S32x24, .f32⟩
  | .local _ .vmem, ⟨3, _⟩ => ⟨S32x24, .f32⟩
  | .local _ .vmem, ⟨4, _⟩ => ⟨S32x24, .f32⟩
  | .local _ .vmem, ⟨5, _⟩ => ⟨S32x24, .f32⟩
  | .local _ .vmem, ⟨6, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S32x24 : Shape := ⟨2, ![32, 24]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S_, .f32⟩
  | .hbm, ⟨5, _⟩ => ⟨S32x24, .f32⟩
  | .hbm, ⟨6, _⟩ => ⟨S32x24, .f32⟩
  | .hbm, ⟨7, _⟩ => ⟨S_, .f32⟩
  | .hbm, ⟨8, _⟩ => ⟨S32x24, .f32⟩
  | .hbm, ⟨9, _⟩ => ⟨S32x24, .f32⟩
  | .hbm, ⟨10, _⟩ => ⟨S32x24, .f32⟩
  | .hbm, ⟨11, _⟩ => ⟨S_, .f32⟩
  | .hbm, ⟨12, _⟩ => ⟨S32x24, .f32⟩
  | .hbm, ⟨13, _⟩ => ⟨S32x24, .f32⟩
  | .hbm, ⟨14, _⟩ => ⟨S32x24, .f32⟩
  | .hbm, ⟨15, _⟩ => ⟨S_, .f32⟩
  | .hbm, ⟨16, _⟩ => ⟨S32x24, .f32⟩
  | .hbm, ⟨17, _⟩ => ⟨S32x24, .f32⟩
  | .hbm, ⟨18, _⟩ => ⟨S32x24, .f32⟩
  | .hbm, ⟨19, _⟩ => ⟨S_, .f32⟩
  | .hbm, ⟨20, _⟩ => ⟨S32x24, .f32⟩
  | .hbm, ⟨21, _⟩ => ⟨S32x24, .f32⟩
  | .hbm, ⟨22, _⟩ => ⟨S_, .f32⟩
  | .hbm, ⟨23, _⟩ => ⟨S32x24, .f32⟩
  | .hbm, ⟨24, _⟩ => ⟨S32x24, .f32⟩
  | .hbm, ⟨25, _⟩ => ⟨S32x24, .f32⟩
  | .hbm, ⟨26, _⟩ => ⟨S_, .f32⟩
  | .hbm, ⟨27, _⟩ => ⟨S32x24, .f32⟩
  | .hbm, ⟨28, _⟩ => ⟨S32x24, .f32⟩
  | .hbm, ⟨29, _⟩ => ⟨S32x24, .f32⟩
  | .hbm, ⟨30, _⟩ => ⟨S_, .f32⟩
  | .hbm, ⟨31, _⟩ => ⟨S32x24, .f32⟩
  | .hbm, ⟨32, _⟩ => ⟨S32x24, .f32⟩
  | .hbm, ⟨33, _⟩ => ⟨S32x24, .f32⟩
  | .hbm, ⟨34, _⟩ => ⟨S_, .f32⟩
  | .hbm, ⟨35, _⟩ => ⟨S32x24, .f32⟩
  | .hbm, ⟨36, _⟩ => ⟨S32x24, .f32⟩
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S124x64 : Shape := ⟨2, ![124, 64]⟩

abbrev nBuf : Space → Nat
  | .hbm => 7
  | .vmem => 7
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S124x64, .f32⟩
  | .hbm, ⟨5, _⟩ => ⟨S124x64, .f32⟩
  | .hbm, ⟨6, _⟩ => ⟨S124x64, .f32⟩
  | .local _ .vmem, ⟨0, _⟩ => ⟨S124x64, .f32⟩
  | .local _ .vmem, ⟨1, _⟩ => ⟨S124x64, .f32⟩
  | .local _ .vmem, ⟨2, _⟩ => ⟨S124x64, .f32⟩
  | .local _ .vmem, ⟨3, _⟩ => ⟨S124x64, .f32⟩
  | .local _ .vmem, ⟨4, _⟩ => ⟨S124x64, .f32⟩
  | .local _ .vmem, ⟨5, _⟩ => ⟨S124x64, .f32⟩
  | .local _ .vmem, ⟨6, _⟩ => ⟨S124x64, .f32⟩
  | _, _ => ⟨S124x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel28Ideal.lean ====
abbrev S124x64 : Shape := ⟨2, ![124, 64]⟩

abbrev nBuf : Space → Nat
  | .hbm => 7
  | .vmem => 7
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S124x64, .f32⟩
  | .hbm, ⟨5, _⟩ => ⟨S124x64, .f32⟩
  | .hbm, ⟨6, _⟩ => ⟨S124x64, .f32⟩
  | .local _ .vmem, ⟨0, _⟩ => ⟨S124x64, .f32⟩
  | .local _ .vmem, ⟨1, _⟩ => ⟨S124x64, .f32⟩
  | .local _ .vmem, ⟨2, _⟩ => ⟨S124x64, .f32⟩
  | .local _ .vmem, ⟨3, _⟩ => ⟨S124x64, .f32⟩
  | .local _ .vmem, ⟨4, _⟩ => ⟨S124x64, .f32⟩
  | .local _ .vmem, ⟨5, _⟩ => ⟨S124x64, .f32⟩
  | .local _ .vmem, ⟨6, _⟩ => ⟨S124x64, .f32⟩
  | _, _ => ⟨S124x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S124x64 : Shape := ⟨2, ![124, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S_, .f32⟩
  | .hbm, ⟨5, _⟩ => ⟨S124x64, .f32⟩
  | .hbm, ⟨6, _⟩ => ⟨S124x64, .f32⟩
  | .hbm, ⟨7, _⟩ => ⟨S_, .f32⟩
  | .hbm, ⟨8, _⟩ => ⟨S124x64, .f32⟩
  | .hbm, ⟨9, _⟩ => ⟨S124x64, .f32⟩
  | .hbm, ⟨10, _⟩ => ⟨S124x64, .f32⟩
  | .hbm, ⟨11, _⟩ => ⟨S_, .f32⟩
  | .hbm, ⟨12, _⟩ => ⟨S124x64, .f32⟩
  | .hbm, ⟨13, _⟩ => ⟨S124x64, .f32⟩
  | .hbm, ⟨14, _⟩ => ⟨S124x64, .f32⟩
  | .hbm, ⟨15, _⟩ => ⟨S_, .f32⟩
  | .hbm, ⟨16, _⟩ => ⟨S124x64, .f32⟩
  | .hbm, ⟨17, _⟩ => ⟨S124x64, .f32⟩
  | .hbm, ⟨18, _⟩ => ⟨S124x64, .f32⟩
  | .hbm, ⟨19, _⟩ => ⟨S_, .f32⟩
  | .hbm, ⟨20, _⟩ => ⟨S124x64, .f32⟩
  | .hbm, ⟨21, _⟩ => ⟨S124x64, .f32⟩
  | .hbm, ⟨22, _⟩ => ⟨S_, .f32⟩
  | .hbm, ⟨23, _⟩ => ⟨S124x64, .f32⟩
  | .hbm, ⟨24, _⟩ => ⟨S124x64, .f32⟩
  | .hbm, ⟨25, _⟩ => ⟨S124x64, .f32⟩
  | .hbm, ⟨26, _⟩ => ⟨S_, .f32⟩
  | .hbm, ⟨27, _⟩ => ⟨S124x64, .f32⟩
  | .hbm, ⟨28, _⟩ => ⟨S124x64, .f32⟩
  | .hbm, ⟨29, _⟩ => ⟨S124x64, .f32⟩
  | .hbm, ⟨30, _⟩ => ⟨S_, .f32⟩
  | .hbm, ⟨31, _⟩ => ⟨S124x64, .f32⟩
  | .hbm, ⟨32, _⟩ => ⟨S124x64, .f32⟩
  | .hbm, ⟨33, _⟩ => ⟨S124x64, .f32⟩
  | .hbm, ⟨34, _⟩ => ⟨S_, .f32⟩
  | .hbm, ⟨35, _⟩ => ⟨S124x64, .f32⟩
  | .hbm, ⟨36, _⟩ => ⟨S124x64, .f32⟩
  | _, _ => ⟨S124x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2048x128 : Shape := ⟨2, ![2048, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel29Ideal.lean ====
abbrev S2048x128 : Shape := ⟨2, ![2048, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel30Ideal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S4096x512 : Shape := ⟨2, ![4096, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel31Ideal.lean ====
abbrev S4096x512 : Shape := ⟨2, ![4096, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S4096x512 : Shape := ⟨2, ![4096, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel32Ideal.lean ====
abbrev S2048x1024 : Shape := ⟨2, ![2048, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4096x960 : Shape := ⟨2, ![4096, 960]⟩
abbrev S512x960 : Shape := ⟨2, ![512, 960]⟩

abbrev nBuf : Space → Nat
  | .hbm => 7
  | .vmem => 14
  | .smem => 0
  | _ => 0

abbrev bufTy : (tb : Table) → Fin (tcTables nBuf tb) → BufTy
  | .hbm, ⟨0, _⟩ => ⟨S4096x960, .f32⟩
  | .hbm, ⟨1, _⟩ => ⟨S4096x960, .f32⟩
  | .hbm, ⟨2, _⟩ => ⟨S4096x960, .f32⟩
  | .hbm, ⟨3, _⟩ => ⟨S4096x960, .f32⟩
  | .hbm, ⟨4, _⟩ => ⟨S4096x960, .f32⟩
  | .hbm, ⟨5, _⟩ => ⟨S4096x960, .f32⟩
  | .hbm, ⟨6, _⟩ => ⟨S4096x960, .f32⟩
  | .local _ .vmem, ⟨0, _⟩ => ⟨S512x960, .f32⟩
  | .local _ .vmem, ⟨1, _⟩ => ⟨S512x960, .f32⟩
  | .local _ .vmem, ⟨2, _⟩ => ⟨S512x960, .f32⟩
  | .local _ .vmem, ⟨3, _⟩ => ⟨S512x960, .f32⟩
  | .local _ .vmem, ⟨4, _⟩ => ⟨S512x960, .f32⟩
  | .local _ .vmem, ⟨5, _⟩ => ⟨S512x960, .f32⟩
  | .local _ .vmem, ⟨6, _⟩ => ⟨S512x960, .f32⟩
  | .local _ .vmem, ⟨7, _⟩ => ⟨S512x960, .f32⟩
  | .local _ .vmem, ⟨8, _⟩ => ⟨S512x960, .f32⟩
  | .local _ .vmem, ⟨9, _⟩ => ⟨S512x960, .f32⟩
  | .local _ .vmem, ⟨10, _⟩ => ⟨S512x960, .f32⟩
  | .local _ .vmem, ⟨11, _⟩ => ⟨S512x960, .f32⟩
  | .local _ .vmem, ⟨12, _⟩ => ⟨S512x960, .f32⟩
  | .local _ .vmem, ⟨13, _⟩ => ⟨S512x960, .f32⟩
  | _, _ => ⟨S4096x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S4096x960 : Shape := ⟨2, ![4096, 960]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x960, .f32⟩
  | .hbm, ⟨1, _⟩ => ⟨S4096x960, .f32⟩
  | .hbm, ⟨2, _⟩ => ⟨S4096x960, .f32⟩
  | .hbm, ⟨3, _⟩ => ⟨S4096x960, .f32⟩
  | .hbm, ⟨4, _⟩ => ⟨S_, .f32⟩
  | .hbm, ⟨5, _⟩ => ⟨S4096x960, .f32⟩
  | .hbm, ⟨6, _⟩ => ⟨S4096x960, .f32⟩
  | .hbm, ⟨7, _⟩ => ⟨S_, .f32⟩
  | .hbm, ⟨8, _⟩ => ⟨S4096x960, .f32⟩
  | .hbm, ⟨9, _⟩ => ⟨S4096x960, .f32⟩
  | .hbm, ⟨10, _⟩ => ⟨S4096x960, .f32⟩
  | .hbm, ⟨11, _⟩ => ⟨S_, .f32⟩
  | .hbm, ⟨12, _⟩ => ⟨S4096x960, .f32⟩
  | .hbm, ⟨13, _⟩ => ⟨S4096x960, .f32⟩
  | .hbm, ⟨14, _⟩ => ⟨S4096x960, .f32⟩
  | .hbm, ⟨15, _⟩ => ⟨S_, .f32⟩
  | .hbm, ⟨16, _⟩ => ⟨S4096x960, .f32⟩
  | .hbm, ⟨17, _⟩ => ⟨S4096x960, .f32⟩
  | .hbm, ⟨18, _⟩ => ⟨S4096x960, .f32⟩
  | .hbm, ⟨19, _⟩ => ⟨S_, .f32⟩
  | .hbm, ⟨20, _⟩ => ⟨S4096x960, .f32⟩
  | .hbm, ⟨21, _⟩ => ⟨S4096x960, .f32⟩
  | .hbm, ⟨22, _⟩ => ⟨S_, .f32⟩
  | .hbm, ⟨23, _⟩ => ⟨S4096x960, .f32⟩
  | .hbm, ⟨24, _⟩ => ⟨S4096x960, .f32⟩
  | .hbm, ⟨25, _⟩ => ⟨S4096x960, .f32⟩
  | .hbm, ⟨26, _⟩ => ⟨S_, .f32⟩
  | .hbm, ⟨27, _⟩ => ⟨S4096x960, .f32⟩
  | .hbm, ⟨28, _⟩ => ⟨S4096x960, .f32⟩
  | .hbm, ⟨29, _⟩ => ⟨S4096x960, .f32⟩
  | .hbm, ⟨30, _⟩ => ⟨S_, .f32⟩
  | .hbm, ⟨31, _⟩ => ⟨S4096x960, .f32⟩
  | .hbm, ⟨32, _⟩ => ⟨S4096x960, .f32⟩
  | .hbm, ⟨33, _⟩ => ⟨S4096x960, .f32⟩
  | .hbm, ⟨34, _⟩ => ⟨S_, .f32⟩
  | .hbm, ⟨35, _⟩ => ⟨S4096x960, .f32⟩
  | .hbm, ⟨36, _⟩ => ⟨S4096x960, .f32⟩
  | _, _ => ⟨S4096x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S2048x512 : Shape := ⟨2, ![2048, 512]⟩
abbrev S512 : Shape := ⟨1, ![512]⟩
abbrev S1x512 : Shape := ⟨2, ![1, 512]⟩
abbrev S2048 : Shape := ⟨1, ![2048]⟩
abbrev S2048x1 : Shape := ⟨2, ![2048, 1]⟩

abbrev nBuf : Space → Nat
  | .hbm => 9
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S1x512, .f32⟩
  | .hbm, ⟨6, _⟩ => ⟨S2048x512, .f32⟩
  | .hbm, ⟨7, _⟩ => ⟨S1x512, .f32⟩
  | .hbm, ⟨8, _⟩ => ⟨S1x512, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S1x512, .f32⟩
  | .local _ .vmem, ⟨4, _⟩ => ⟨S2048x512, .f32⟩
  | .local _ .vmem, ⟨5, _⟩ => ⟨S1x512, .f32⟩
  | .local _ .vmem, ⟨6, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference34Ideal.lean ====
abbrev S2048x512 : Shape := ⟨2, ![2048, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x512 : Shape := ⟨2, ![1, 512]⟩

abbrev nBuf : Space → Nat
  | .hbm => 95
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x512, .f32⟩
  | .hbm, ⟨28, _⟩ => ⟨S2048x512, .f32⟩
  | .hbm, ⟨29, _⟩ => ⟨S1x512, .f32⟩
  | .hbm, ⟨30, _⟩ => ⟨S2048x512, .f32⟩
  | .hbm, ⟨31, _⟩ => ⟨S2048x512, .f32⟩
  | .hbm, ⟨32, _⟩ => ⟨S1x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S_, .f32⟩
  | .hbm, ⟨56, _⟩ => ⟨S512, .f32⟩
  | .hbm, ⟨57, _⟩ => ⟨S2048x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S2048x512, .f32⟩
  | .hbm, ⟨62, _⟩ => ⟨S2048x512, .f32⟩
  | .hbm, ⟨63, _⟩ => ⟨S_, .f32⟩
  | .hbm, ⟨64, _⟩ => ⟨S512, .f32⟩
  | .hbm, ⟨65, _⟩ => ⟨S2048x512, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x512, .f32⟩
  | .hbm, ⟨70, _⟩ => ⟨S2048x512, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x512, .f32⟩
  | .hbm, ⟨78, _⟩ => ⟨S2048x512, .f32⟩
  | .hbm, ⟨79, _⟩ => ⟨S2048x512, .f32⟩
  | .hbm, ⟨80, _⟩ => ⟨S2048x512, .f32⟩
  | .hbm, ⟨81, _⟩ => ⟨S2048x512, .f32⟩
  | .hbm, ⟨82, _⟩ => ⟨S2048x512, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x512, .f32⟩
  | .hbm, ⟨92, _⟩ => ⟨S2048x512, .f32⟩
  | .hbm, ⟨93, _⟩ => ⟨S1x512, .f32⟩
  | .hbm, ⟨94, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_cst_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_v53 : Ref sig .tc := ⟨.hbm, 87, rfl⟩
abbrev main_v54 : Ref sig .tc := ⟨.hbm, 88, rfl⟩
abbrev main_cst_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Proof.ConvTile.lean ====
/-
  The convolution's backward kernel, one tile of 128 rows at a time, as plain functions of vectors, over any floats.

  For each of the 31 taps, in the kernel's order `p = 0 … 30`, the kernel rotates the 160-row windows of the padded
  cotangent and of the padded gated input by `rot p = p / 4` rows and reads 128 rows of each at a multiple of eight:
  tap `p` stands for the weight row `30 - lag p`, with `lag p = 8 * (p % 4) + p / 4`. `dzTile` is the cotangent of the
  gated input on the tile, `dwRow` what the tile adds to one row of the weight's gradient, `daTile` and `dgTile` the
  two results stored for the tile.
-/
module

public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Conv

open Cert.KernelIdeal.Gen Idealize.ShloMosaic Idealize.ShloMosaic.TcCoe

variable {F : FTy → Type} [FloatOps F]

/-- The lag of tap `p` in the kernel's order: how many rows later the output row it reaches lies. -/
def lag (p : ℕ) : ℕ := 8 * (p % 4) + p / 4

/-- A window of 160 rows turned by `b` rows. -/
def turned (b : ℕ) (x : FVec F S160x128 .f32) : FVec F S160x128 .f32 :=
  if b = 0 then x else dynamicRotate 0 (BitVec.ofNat 32 b) none x rotates_S160x128_d0

/-- A window of 160 rows turned back by `b` rows. -/
def turnedBack (b : ℕ) (x : FVec F S160x128 .f32) : FVec F S160x128 .f32 :=
  if b = 0 then x else dynamicRotate 0 (BitVec.ofNat 32 (160 - b)) none x rotates_S160x128_d0

theorem slices_rows (o : ℕ) (h : o ≤ 32) : S160x128.Slices ![o, 0] S128x128 :=
  ⟨rfl, fun a => by fin_cases a; exacts [(by show o + 128 ≤ 160; omega), (by show 0 + 128 ≤ 128; omega)]⟩

theorem slices_row (o : ℕ) (h : o ≤ 30) : S32x128.Slices ![o, 0] S1x128 :=
  ⟨rfl, fun a => by fin_cases a; exacts [(by show o + 1 ≤ 32; omega), (by show 0 + 128 ≤ 128; omega)]⟩

/-- The cotangent of the gated input on a tile after the first taps. `w` is the weight, `d` the window of the padded
    cotangent that starts at the tile's first row. -/
def dzAcc (w : FVec F S32x128 .f32) (d : FVec F S160x128 .f32) : ℕ → FVec F S128x128 .f32
  | 0 => broadcast S128x128 (Scalar.ofBits .f32 0x00000000#32 : F .f32)
  | p + 1 => addf (dzAcc w d p)
      (mulf (broadcastTo S128x128 (extractStridedSlice S1x128 ![30 - lag p, 0] w (slices_row _ (by omega))) broadcasts_S1x128_S128x128)
        (extractStridedSlice S128x128 ![8 * (p % 4), 0] (turnedBack (p / 4) d) (slices_rows _ (by omega))))

/-- … after all 31. -/
def dzTile (w : FVec F S32x128 .f32) (d : FVec F S160x128 .f32) : FVec F S128x128 .f32 := dzAcc w d 31

/-- The logistic function on a tile, as the kernel writes it. -/
def sgTile (g : FVec F S128x128 .bf16) : FVec F S128x128 .f32 :=
  divf (broadcast S128x128 (Scalar.ofBits .f32 0x3F800000#32 : F .f32))
    (addf (broadcast S128x128 (Scalar.ofBits .f32 0x3F800000#32 : F .f32))
      (exp (subf (broadcast S128x128 (Scalar.ofBits .f32 0x00000000#32 : F .f32)) (extf .f32 g bitsLt_bf16_f32))))

/-- The gradient of the value half on a tile. -/
def daTile (w : FVec F S32x128 .f32) (d : FVec F S160x128 .f32) (g : FVec F S128x128 .bf16) : FVec F S128x128 .bf16 :=
  truncf .bf16 (mulf (dzTile w d) (sgTile g)) bitsLt_bf16_f32

/-- The gradient of the gate half on a tile. -/
def dgTile (w : FVec F S32x128 .f32) (d : FVec F S160x128 .f32) (a g : FVec F S128x128 .bf16) : FVec F S128x128 .bf16 :=
  truncf .bf16 (mulf (mulf (mulf (dzTile w d) (extf .f32 a bitsLt_bf16_f32)) (sgTile g))
    (subf (broadcast S128x128 (Scalar.ofBits .f32 0x3F800000#32 : F .f32)) (sgTile g))) bitsLt_bf16_f32

/-- What the tile makes of row `30 - lag p` of the weight's gradient, `r` being that row before. `z` is the window of the
    padded gated input that starts at the tile's first row, `d` the cotangent's. -/
def dwRow (p : ℕ) (z d : FVec F S160x128 .f32) (r : FVec F S1x128 .f32) : FVec F S1x128 .f32 :=
  addf (shapeCast S1x128 r shapeCasts_S1x128_S1x128)
    (shapeCast S1x128
      (multiReduction .add [0] S128
        (mulf (extractStridedSlice S128x128 ![0, 0] d (slices_rows 0 (by omega)))
          (extractStridedSlice S128x128 ![32 - 8 * (p % 4), 0] (turned (p / 4) z) (slices_rows _ (by omega))))
        0x00000000#32 reduces_S128x128_S128 (.inl rfl) rfl) shapeCasts_S128_S1x128)

theorem row_inb (p : ℕ) : ∀ a, (![30 - lag p, 0] : Fin 2 → ℕ) a + S1x128.size a ≤ S32x128.size a := fun a => by
  fin_cases a; exacts [(by show 30 - lag p + 1 ≤ 32; omega), (by show 0 + 128 ≤ 128; omega)]

/-- The 31 row stores of a tile into the weight's gradient, newest first, over contents `f` of the gradient's buffer. -/
def dwPieces (arg7 : Memref sig .tc .vmem S32x128 .f32) (z d : FVec F S160x128 .f32)
    (f : BufTy.Contents (Elt F) arg7.view.ty) : List (View.Piece (Elt F) S32x128 .f32) :=
  View.tilePieces (NT := 31) (s := S32x128) S1x128.size (fun p => ![30 - lag p.val, 0]) (fun p => row_inb p.val)
    (fun p => dwRow p.val z d (arg7.view.readAt (Elt F) (Rect.unit (s := S32x128) ![30 - lag p.val, 0] S1x128.size (row_inb p.val)).toLoadRect f))
    31 le_rfl

end Cert.KernelIdeal.Conv

end
-- ==== Proof.ConvTrip.lean ====
/-
  What one trip of the backward convolution kernel's loop writes: the rows of the two tile results and the 31 rows of
  the weight's gradient, as the functions of `ConvTile`.
-/
module

public import proofs.«01_k».proof.Proof.ConvTile

@[expose] public section

set_option maxRecDepth 16384

noncomputable section

namespace Cert.KernelIdeal.Conv

open Cert.KernelIdeal.Gen Idealize.ShloMosaic Idealize.ShloMosaic.TcCoe

variable {F : FTy → Type} [FloatOps F]

section Trip

variable (𝒱 : Variants) (c : Dev nD) (bd : Option 𝒱.V) (i : grid0.Coords) (arg1 : Memref sig .tc .vmem S2048x128 .f32) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S32x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S32x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole)
  (w : Vec F S32x128 .f32) (X2 : BufTy.Contents (Elt F) arg2.view.ty) (X3 : BufTy.Contents (Elt F) arg3.view.ty) (X9 : BufTy.Contents (Elt F) arg9.view.ty) (X10 : BufTy.Contents (Elt F) arg10.view.ty)
  (k : Fin k0_t1_loop.trips) (f5 : BufTy.Contents (Elt F) arg5.view.ty) (f6 : BufTy.Contents (Elt F) arg6.view.ty) (f7 : BufTy.Contents (Elt F) arg7.view.ty)

/-- The window of 160 rows of a padded buffer that trip `k` reads. -/
abbrev winAt (m : Memref sig .tc .vmem S2080x128 .f32) (X : BufTy.Contents (Elt F) m.view.ty) (k : Fin k0_t1_loop.trips) : Vec F S160x128 .f32 :=
  m.view.readAt (Elt F) (Rect.unit (s := S2080x128) (k0_off1 k) S160x128.size (k0_off1_inb k)).toLoadRect X

/-- The tile of 128 rows that trip `k` reads. -/
abbrev tileAt (m : Memref sig .tc .vmem S2048x128 .bf16) (X : BufTy.Contents (Elt F) m.view.ty) (k : Fin k0_t1_loop.trips) : Vec F S128x128 .bf16 :=
  m.view.readAt (Elt F) (Rect.unit (s := S2048x128) (k0_off2 k) S128x128.size (k0_off2_inb k)).toLoadRect X

set_option maxHeartbeats 1000000 in
theorem trip_da :
    (trip_k0_t1 (F := F) 𝒱 c bd i arg1 harg1 arg2 harg2 arg3 harg3 arg4 harg4 arg5 harg5 arg6 harg6 arg7 harg7 arg8 harg8 arg9 harg9 arg10 harg10 w X2 X3 X9 X10 k).1 f5 f6 f7
      = [⟨Rect.unit (s := S2048x128) (k0_off2 k) S128x128.size (k0_off2_inb k), daTile (k0_pay2 w) (winAt arg10 X10 k) (tileAt arg3 X3 k)⟩] := by
  unfold trip_k0_t1
  rfl

set_option maxHeartbeats 1000000 in
theorem trip_dg :
    (trip_k0_t1 (F := F) 𝒱 c bd i arg1 harg1 arg2 harg2 arg3 harg3 arg4 harg4 arg5 harg5 arg6 harg6 arg7 harg7 arg8 harg8 arg9 harg9 arg10 harg10 w X2 X3 X9 X10 k).2.1 f5 f6 f7
      = [⟨Rect.unit (s := S2048x128) (k0_off2 k) S128x128.size (k0_off2_inb k), dgTile (k0_pay2 w) (winAt arg10 X10 k) (tileAt arg2 X2 k) (tileAt arg3 X3 k)⟩] := by
  unfold trip_k0_t1
  rfl

set_option maxHeartbeats 4000000 in
theorem trip_dw :
    (trip_k0_t1 (F := F) 𝒱 c bd i arg1 harg1 arg2 harg2 arg3 harg3 arg4 harg4 arg5 harg5 arg6 harg6 arg7 harg7 arg8 harg8 arg9 harg9 arg10 harg10 w X2 X3 X9 X10 k).2.2.1 f5 f6 f7
      = dwPieces arg7 (winAt arg9 X9 k) (winAt arg10 X10 k) f7 := by
  unfold trip_k0_t1
  rfl

end Trip

end Cert.KernelIdeal.Conv

end
-- ==== Proof.ConvBlock.lean ====
/-
  The convolution's backward kernel on one block of 128 channels, as plain functions of the block's inputs, over any
  floats: the two padded buffers, the two results `DA` and `DG` tile by tile, the weight's gradient `DW` accumulated
  over the sixteen tiles. With them what the loop's stores leave in the buffers, read back (`read_dw`, `read_tile`).
-/
module

public import proofs.«01_k».proof.Proof.ConvTrip
public import Idealize.ShloMosaic.Lib.ValueIdxCore

@[expose] public section

set_option maxRecDepth 16384

noncomputable section

namespace Cert.KernelIdeal.Conv

open Cert.KernelIdeal.Gen Idealize.ShloMosaic Idealize.ShloMosaic.TcCoe Idealize.ShloMosaic.ValueIdx

variable {F : FTy → Type} [FloatOps F]

/-- The gated input under 32 rows of zeros. -/
def zpad (a g : Vec F S2048x128 .bf16) : Vec F S2080x128 .f32 := fun y =>
  if h : (y 0).val < 32 then k0_pay80 (F := F) (ix2 ⟨(y 0).val, h⟩ (y 1))
  else k0_pay81 a g (ix2 ⟨(y 0).val - 32, by have := (y 0).isLt; change _ < 2080 at this; omega⟩ (y 1))

/-- The cotangent above 32 rows of zeros. -/
def dpad (d : Vec F S2048x128 .f32) : Vec F S2080x128 .f32 := fun y =>
  if h : (y 0).val < 2048 then k0_pay82 d (ix2 ⟨(y 0).val, h⟩ (y 1))
  else k0_pay83 (F := F) (ix2 ⟨(y 0).val - 2048, by have := (y 0).isLt; change _ < 2080 at this; omega⟩ (y 1))

theorem win_inb (k : ℕ) (hk : k < 16) : ∀ a, (![128 * k, 0] : Fin 2 → ℕ) a + S160x128.size a ≤ S2080x128.size a := fun a => by
  fin_cases a; exacts [(by show 128 * k + 160 ≤ 2080; omega), (by show 0 + 128 ≤ 128; omega)]

theorem tile_inb (k : ℕ) (hk : k < 16) : ∀ a, (![128 * k, 0] : Fin 2 → ℕ) a + S128x128.size a ≤ S2048x128.size a := fun a => by
  fin_cases a; exacts [(by show 128 * k + 128 ≤ 2048; omega), (by show 0 + 128 ≤ 128; omega)]

/-- The 160 rows of a padded buffer from tile `k`'s first row on. -/
def win (x : Vec F S2080x128 .f32) (k : ℕ) (hk : k < 16) : Vec F S160x128 .f32 :=
  VecWindow.window x ![128 * k, 0] S160x128.size (win_inb k hk)

/-- Tile `k` of a block. -/
def til (x : Vec F S2048x128 .bf16) (k : ℕ) (hk : k < 16) : Vec F S128x128 .bf16 :=
  VecWindow.window x ![128 * k, 0] S128x128.size (tile_inb k hk)

/-- A block put together from its tiles. -/
def tiled (P : (k : ℕ) → k < 16 → Vec F S128x128 .bf16) : Vec F S2048x128 .bf16 := fun y =>
  P ((y 0).val / 128) (by have := (y 0).isLt; change _ < 2048 at this; omega)
    (ix2 ⟨(y 0).val % 128, Nat.mod_lt _ (by decide)⟩ (y 1))

/-- The gradient of the value half on the block. -/
def DA (d : Vec F S2048x128 .f32) (g : Vec F S2048x128 .bf16) (w : Vec F S32x128 .f32) : Vec F S2048x128 .bf16 :=
  tiled fun k hk => daTile (k0_pay2 w) (win (dpad d) k hk) (til g k hk)

/-- The gradient of the gate half on the block. -/
def DG (d : Vec F S2048x128 .f32) (a g : Vec F S2048x128 .bf16) (w : Vec F S32x128 .f32) : Vec F S2048x128 .bf16 :=
  tiled fun k hk => dgTile (k0_pay2 w) (win (dpad d) k hk) (til a k hk) (til g k hk)

theorem onerow_inb (j : ℕ) (hj : j < 31) : ∀ a, (![j, 0] : Fin 2 → ℕ) a + S1x128.size a ≤ S32x128.size a := fun a => by
  fin_cases a; exacts [(by show j + 1 ≤ 32; omega), (by show 0 + 128 ≤ 128; omega)]

/-- The tap whose lag is `q`. -/
def tapOf (q : ℕ) : ℕ := 4 * (q % 8) + q / 8

theorem lag_tapOf (q : ℕ) (h : q < 31) : lag (tapOf q) = q := by unfold lag tapOf; omega
theorem tapOf_lt (q : ℕ) (h : q < 31) : tapOf q < 31 := by unfold tapOf; omega
theorem tapOf_lag (p : ℕ) (h : p < 31) : tapOf (lag p) = p := by unfold lag tapOf; omega
theorem lag_lt (p : ℕ) (h : p < 31) : lag p < 31 := by unfold lag; omega

/-- The weight's gradient after one more tile, whose windows are `z` and `d`; `x` is the gradient before. -/
def dwStep (z d : Vec F S160x128 .f32) (x : Vec F S32x128 .f32) : Vec F S32x128 .f32 := fun y =>
  if h : (y 0).val < 31 then
    dwRow (tapOf (30 - (y 0).val)) z d (VecWindow.window x ![(y 0).val, 0] S1x128.size (onerow_inb _ h)) (ix2 0 (y 1))
  else x y

/-- The weight's gradient after the first `k` tiles. -/
def DW (d : Vec F S2048x128 .f32) (a g : Vec F S2048x128 .bf16) : (k : ℕ) → k ≤ 16 → Vec F S32x128 .f32
  | 0, _ => k0_pay84 (F := F)
  | k + 1, hk => dwStep (win (zpad a g) k hk) (win (dpad d) k hk) (DW d a g k (Nat.le_of_succ_le hk))

/-- The 31 row stores of a tile, read back. -/
theorem read_dw (arg7 : Memref sig .tc .vmem S32x128 .f32) (z d : FVec F S160x128 .f32) (f : BufTy.Contents (Elt F) arg7.view.ty) :
    arg7.view.read (Elt F) (arg7.view.writes (Elt F) f (dwPieces arg7 z d f)) = dwStep z d (arg7.view.read (Elt F) f) := by
  funext y
  unfold dwStep
  by_cases h : (y 0).val < 31
  · have hq : 30 - (y 0).val < 31 := by omega
    have e : 30 - lag (tapOf (30 - (y 0).val)) = (y 0).val := by rw [lag_tapOf _ hq]; omega
    rw [dif_pos h]
    refine (View.read_tilePieces (NT := 31) arg7.view f S1x128.size _ _ _ 31 le_rfl y ⟨tapOf (30 - (y 0).val), tapOf_lt _ hq⟩ (tapOf_lt _ hq) (ix2 0 (y 1)) ?_ 0 ?_).trans ?_
    · intro a; fin_cases a
      · show (y 0).val = 30 - lag (tapOf (30 - (y 0).val)) + 0
        omega
      · show (y 1).val = 0 + (y 1).val
        omega
    · intro i' hi'
      show (y 0).val < 30 - lag i'.val ∨ 30 - lag i'.val + 1 ≤ (y 0).val
      by_contra hc
      push Not at hc
      have hl := lag_lt i'.val i'.isLt
      have e' : lag i'.val = 30 - (y 0).val := by omega
      exact hi' (Fin.ext (by rw [← tapOf_lag i'.val i'.isLt, e']))
    · show dwRow _ z d _ _ = _
      rw [View.readAt_unit arg7.view f (row_inb _) (show ![30 - lag (tapOf (30 - (y 0).val)), 0] = ![(y 0).val, 0] by rw [e]) (onerow_inb _ h)]
  · rw [dif_neg h]
    refine View.read_tilePieces_miss (NT := 31) arg7.view f S1x128.size _ _ _ 31 le_rfl y 0 ?_
    intro i' _
    show (y 0).val < 30 - lag i'.val ∨ 30 - lag i'.val + 1 ≤ (y 0).val
    omega

/-- One tile store over contents whose earlier tiles are in place puts the next tile in place. -/
theorem read_tile (m : Memref sig .tc .vmem S2048x128 .bf16) (f : BufTy.Contents (Elt F) m.view.ty) (P : (k : ℕ) → k < 16 → Vec F S128x128 .bf16)
    (k : Fin k0_t1_loop.trips) (hk : k.val < 16) (v : Vec F S128x128 .bf16) (hv : v = P k.val hk)
    (hf : ∀ y, (y 0).val < 128 * k.val → m.view.read (Elt F) f y = tiled P y) :
    ∀ y, (y 0).val < 128 * (k.val + 1) →
      m.view.read (Elt F) (m.view.writes (Elt F) f [⟨Rect.unit (s := S2048x128) (k0_off2 k) S128x128.size (k0_off2_inb k), v⟩]) y = tiled P y := by
  intro y hy
  subst hv
  by_cases h : (y 0).val < 128 * k.val
  · exact (View.read_writes_cons_rows_of_not_mem m.view f (k0_off2_inb k) _ _ y (k0_off2_eq k) rfl (.inl h)).trans (hf y h)
  · have e : (y 0).val / 128 = k.val := by omega
    refine (View.read_writes_cons_rows_of_mem m.view f (k0_off2_inb k) _ _ y (ix2 ⟨(y 0).val % 128, Nat.mod_lt _ (by decide)⟩ (y 1)) (k0_off2_eq k)
      (by show (y 0).val = 128 * k.val + (y 0).val % 128; omega) rfl).trans ?_
    unfold tiled
    simp only [e]

/-- The padded gated input, as the two stores leave it. -/
theorem read_zpad (m : Memref sig .tc .vmem S2080x128 .f32) (f : BufTy.Contents (Elt F) m.view.ty) (a g : Vec F S2048x128 .bf16) (h0 h1) :
    m.view.read (Elt F) (m.view.writes (Elt F) f [⟨Rect.unit (s := S2080x128) ![32, 0] S2048x128.size h0, k0_pay81 a g⟩, ⟨Rect.unit (s := S2080x128) ![0, 0] S32x128.size h1, k0_pay80 (F := F)⟩]) = zpad a g := by
  funext y
  have hy := (y 0).isLt; change _ < 2080 at hy
  unfold zpad
  by_cases h : (y 0).val < 32
  · rw [dif_pos h]
    exact (View.read_writes_cons_rows_of_not_mem m.view f h0 _ _ y rfl rfl (.inl h)).trans
      (View.read_writes_cons_rows_of_mem m.view f h1 _ _ y (ix2 ⟨(y 0).val, h⟩ (y 1)) rfl (Nat.zero_add _).symm rfl)
  · rw [dif_neg h]
    exact View.read_writes_cons_rows_of_mem m.view f h0 _ _ y (ix2 ⟨(y 0).val - 32, by omega⟩ (y 1)) rfl
      (by show (y 0).val = 32 + ((y 0).val - 32); omega) rfl

/-- The padded cotangent, as the two stores leave it. -/
theorem read_dpad (m : Memref sig .tc .vmem S2080x128 .f32) (f : BufTy.Contents (Elt F) m.view.ty) (d : Vec F S2048x128 .f32) (h0 h1) :
    m.view.read (Elt F) (m.view.writes (Elt F) f [⟨Rect.unit (s := S2080x128) ![2048, 0] S32x128.size h0, k0_pay83 (F := F)⟩, ⟨Rect.unit (s := S2080x128) ![0, 0] S2048x128.size h1, k0_pay82 d⟩]) = dpad d := by
  funext y
  have hy := (y 0).isLt; change _ < 2080 at hy
  unfold dpad
  by_cases h : (y 0).val < 2048
  · rw [dif_pos h]
    exact (View.read_writes_cons_rows_of_not_mem m.view f h0 _ _ y rfl rfl (.inl h)).trans
      (View.read_writes_cons_rows_of_mem m.view f h1 _ _ y (ix2 ⟨(y 0).val, h⟩ (y 1)) rfl (Nat.zero_add _).symm rfl)
  · rw [dif_neg h]
    exact View.read_writes_cons_rows_of_mem m.view f h0 _ _ y (ix2 ⟨(y 0).val - 2048, by omega⟩ (y 1)) rfl
      (by show (y 0).val = 2048 + ((y 0).val - 2048); omega) rfl

end Cert.KernelIdeal.Conv

end
-- ==== Proof.ConvRun.lean ====
/-
  The backward convolution kernel's body on one block: from whole buffers it ends with the two tiled results, the
  weight's gradient and the bias's, as the functions of `ConvBlock`. After `k` tiles of the loop the
  rows below `128 * k` of the two results are in place and the weight's gradient is `DW … k` (`tiles_done`).
-/
module

public import proofs.«01_k».proof.Proof.ConvBlock
public import proofs.«01_k».proof.Proof.Gen.KernelIdeal.Frame.Runs

@[expose] public section

set_option maxRecDepth 16384

noncomputable section

namespace Cert.KernelIdeal.Conv

open Cert.KernelIdeal.Gen Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem trips_eq : k0_t1_loop.trips = 16 := by decide +kernel

section Body

variable (c : Dev nD) (i : grid0.Coords) (arg1 : Memref sig .tc .vmem S2048x128 .f32) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S32x128 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S32x128 .f32) (harg7 : arg7.IsWhole) (arg8 : Memref sig .tc .vmem S1x128 .f32) (harg8 : arg8.IsWhole) (arg9 : Memref sig .tc .vmem S2080x128 .f32) (harg9 : arg9.IsWhole) (arg10 : Memref sig .tc .vmem S2080x128 .f32) (harg10 : arg10.IsWhole)
  (d : Vec F S2048x128 .f32) (a g : Vec F S2048x128 .bf16) (w : Vec F S32x128 .f32)
  (X9 : BufTy.Contents (Elt F) arg9.view.ty) (X10 : BufTy.Contents (Elt F) arg10.view.ty)

set_option maxHeartbeats 1000000 in
/-- What the first `k` tiles leave: the rows below `128 * k` of the two results, and the weight's gradient `DW … k`. -/
theorem tiles_done (h9 : arg9.view.read (Elt F) X9 = zpad a g) (h10 : arg10.view.read (Elt F) X10 = dpad d)
    (G5 : BufTy.Contents (Elt F) arg5.view.ty) (G6 : BufTy.Contents (Elt F) arg6.view.ty) (G7 : BufTy.Contents (Elt F) arg7.view.ty)
    (h7 : arg7.view.read (Elt F) G7 = k0_pay84 (F := F)) : ∀ (k : ℕ) (hk : k ≤ 16),
      let L := pb_k0_t1 (F := F) Variants.none c none i arg1 harg1 arg2 harg2 arg3 harg3 arg4 harg4 arg5 harg5 arg6 harg6 arg7 harg7 arg8 harg8 arg9 harg9 arg10 harg10 w (harg2.unread a) (harg3.unread g) X9 X10 G5 G6 G7 k
      (∀ y, (y 0).val < 128 * k → arg5.view.read (Elt F) (arg5.view.writes (Elt F) G5 L.1) y = DA d g w y)
      ∧ (∀ y, (y 0).val < 128 * k → arg6.view.read (Elt F) (arg6.view.writes (Elt F) G6 L.2.1) y = DG d a g w y)
      ∧ arg7.view.read (Elt F) (arg7.view.writes (Elt F) G7 L.2.2) = DW d a g k hk
  | 0, _ => ⟨fun y h => absurd h (by omega), fun y h => absurd h (by omega), h7⟩
  | k + 1, hk => by
    obtain ⟨i5, i6, i7⟩ := tiles_done h9 h10 G5 G6 G7 h7 k (Nat.le_of_succ_le hk)
    have hk' : k < k0_t1_loop.trips := by rw [trips_eq]; exact hk
    have e9 : winAt arg9 X9 ⟨k, hk'⟩ = win (zpad a g) k hk := by
      rw [← h9]; exact View.readAt_unit arg9.view X9 (k0_off1_inb ⟨k, hk'⟩) (k0_off1_eq ⟨k, hk'⟩) (win_inb _ hk)
    have e10 : winAt arg10 X10 ⟨k, hk'⟩ = win (dpad d) k hk := by
      rw [← h10]; exact View.readAt_unit arg10.view X10 (k0_off1_inb ⟨k, hk'⟩) (k0_off1_eq ⟨k, hk'⟩) (win_inb _ hk)
    have e2 : tileAt arg2 (harg2.unread a) ⟨k, hk'⟩ = til a k hk :=
      (View.readAt_unit arg2.view _ (k0_off2_inb ⟨k, hk'⟩) (k0_off2_eq ⟨k, hk'⟩) (tile_inb _ hk)).trans (by rw [harg2.read_unread]; rfl)
    have e3 : tileAt arg3 (harg3.unread g) ⟨k, hk'⟩ = til g k hk :=
      (View.readAt_unit arg3.view _ (k0_off2_inb ⟨k, hk'⟩) (k0_off2_eq ⟨k, hk'⟩) (tile_inb _ hk)).trans (by rw [harg3.read_unread]; rfl)
    have e := pb_k0_t1_succ (F := F) Variants.none c none i arg1 harg1 arg2 harg2 arg3 harg3 arg4 harg4 arg5 harg5 arg6 harg6 arg7 harg7 arg8 harg8 arg9 harg9 arg10 harg10 w (harg2.unread a) (harg3.unread g) X9 X10 G5 G6 G7 ⟨k, hk'⟩
    dsimp only at e i5 i6 i7
    rw [trip_da, trip_dg, trip_dw, e9, e10, e2, e3] at e
    intro L
    rw [show L = _ from e]
    dsimp only
    simp only [View.writes_append]
    exact ⟨read_tile arg5 _ _ ⟨k, hk'⟩ hk _ rfl i5, read_tile arg6 _ _ ⟨k, hk'⟩ hk _ rfl i6, by rw [read_dw, i7]; rfl⟩

/-- What all sixteen tiles leave. -/
theorem tiles_all (h9 : arg9.view.read (Elt F) X9 = zpad a g) (h10 : arg10.view.read (Elt F) X10 = dpad d) (w' : Vec F S32x128 .f32) (hw : w' = w)
    (G5 : BufTy.Contents (Elt F) arg5.view.ty) (G6 : BufTy.Contents (Elt F) arg6.view.ty) (G7 : BufTy.Contents (Elt F) arg7.view.ty)
    (h7 : arg7.view.read (Elt F) G7 = k0_pay84 (F := F)) :
      let L := pb_k0_t1 (F := F) Variants.none c none i arg1 harg1 arg2 harg2 arg3 harg3 arg4 harg4 arg5 harg5 arg6 harg6 arg7 harg7 arg8 harg8 arg9 harg9 arg10 harg10 w' (harg2.unread a) (harg3.unread g) X9 X10 G5 G6 G7 k0_t1_loop.trips
      arg5.view.read (Elt F) (arg5.view.writes (Elt F) G5 L.1) = DA d g w ∧ arg6.view.read (Elt F) (arg6.view.writes (Elt F) G6 L.2.1) = DG d a g w
      ∧ arg7.view.read (Elt F) (arg7.view.writes (Elt F) G7 L.2.2) = DW d a g 16 le_rfl := by
  subst hw
  rw [trips_eq]
  obtain ⟨i5, i6, i7⟩ := tiles_done c i arg1 harg1 arg2 harg2 arg3 harg3 arg4 harg4 arg5 harg5 arg6 harg6 arg7 harg7 arg8 harg8 arg9 harg9 arg10 harg10 d a g w' X9 X10 h9 h10 G5 G6 G7 h7 16 le_rfl
  exact ⟨funext fun y => i5 y (y 0).isLt, funext fun y => i6 y (y 0).isLt, i7⟩

set_option maxHeartbeats 1000000 in
/-- The body's run. -/
theorem body_run (K : PUnit → sProp 𝕄) :
    iprop(owns (c : Thread nD τ) arg1 fullShare d ∗ owns (c : Thread nD τ) arg2 fullShare a ∗ owns (c : Thread nD τ) arg3 fullShare g ∗ owns (c : Thread nD τ) arg4 fullShare w
        ∗ (∃ x, owns (c : Thread nD τ) arg5 fullShare x) ∗ (∃ x, owns (c : Thread nD τ) arg6 fullShare x) ∗ (∃ x, owns (c : Thread nD τ) arg7 fullShare x) ∗ (∃ x, owns (c : Thread nD τ) arg8 fullShare x)
        ∗ (∃ x, owns (c : Thread nD τ) arg9 fullShare x) ∗ (∃ x, owns (c : Thread nD τ) arg10 fullShare x)
        ∗ (iprop(owns (c : Thread nD τ) arg1 fullShare d ∗ owns (c : Thread nD τ) arg2 fullShare a ∗ owns (c : Thread nD τ) arg3 fullShare g ∗ owns (c : Thread nD τ) arg4 fullShare w
            ∗ owns (c : Thread nD τ) arg5 fullShare (DA d g w) ∗ owns (c : Thread nD τ) arg6 fullShare (DG d a g w) ∗ owns (c : Thread nD τ) arg7 fullShare (DW d a g 16 le_rfl) ∗ owns (c : Thread nD τ) arg8 fullShare (k0_pay1 d)
            ∗ (∃ x, owns (c : Thread nD τ) arg9 fullShare x) ∗ (∃ x, owns (c : Thread nD τ) arg10 fullShare x)) -∗ K PUnit.unit))
      ⊢ wp frame (wpE (defs₀ (F := F)) Variants.none c none) Set.univ (cc0_conv_bwd i arg1 harg1 arg2 harg2 arg3 harg3 arg4 harg4 arg5 harg5 arg6 harg6 arg7 harg7 arg8 harg8 arg9 harg9 arg10 harg10) K := by
  simp only [cc0_conv_bwd_eq_skeleton]; unfold cc0_conv_bwd_skel
  simp only [k0_part12_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf1; obtain rfl := harg2.eq_unread hf2; obtain rfl := harg3.eq_unread hf3; obtain rfl := harg4.eq_unread hf4
  sl_exec
  have r1 : arg1.view.readAt (Elt F) (Rect.unit (s := S2048x128) ![0, 0] S2048x128.size inb_S2048x128_S2048x128_0_0).toLoadRect (harg1.unread d) = d :=
    (View.readAt_full _ _ _).trans (harg1.read_unread d)
  have r2 : arg2.view.readAt (Elt F) (Rect.unit (s := S2048x128) ![0, 0] S2048x128.size inb_S2048x128_S2048x128_0_0).toLoadRect (harg2.unread a) = a :=
    (View.readAt_full _ _ _).trans (harg2.read_unread a)
  have r3 : arg3.view.readAt (Elt F) (Rect.unit (s := S2048x128) ![0, 0] S2048x128.size inb_S2048x128_S2048x128_0_0).toLoadRect (harg3.unread g) = g :=
    (View.readAt_full _ _ _).trans (harg3.read_unread g)
  have r4 : arg4.view.readAt (Elt F) (Rect.unit (s := S32x128) ![0, 0] S32x128.size inb_S32x128_S32x128_0_0).toLoadRect (harg4.unread w) = w :=
    (View.readAt_full _ _ _).trans (harg4.read_unread w)
  rw [View.writes_append]
  have T := tiles_all c i arg1 harg1 arg2 harg2 arg3 harg3 arg4 harg4 arg5 harg5 arg6 harg6 arg7 harg7 arg8 harg8 arg9 harg9 arg10 harg10 d a g w
    (arg9.view.writes (Elt F) arg9.view.junk [⟨Rect.unit (s := S2080x128) ![32, 0] S2048x128.size inb_S2080x128_S2048x128_32_0, k0_pay81 (arg2.view.readAt (Elt F) (Rect.unit (s := S2048x128) ![0, 0] S2048x128.size inb_S2048x128_S2048x128_0_0).toLoadRect (harg2.unread a)) (arg3.view.readAt (Elt F) (Rect.unit (s := S2048x128) ![0, 0] S2048x128.size inb_S2048x128_S2048x128_0_0).toLoadRect (harg3.unread g))⟩, ⟨Rect.unit (s := S2080x128) ![0, 0] S32x128.size inb_S2080x128_S32x128_0_0, k0_pay80 (F := F)⟩])
    (arg10.view.writes (Elt F) arg10.view.junk [⟨Rect.unit (s := S2080x128) ![2048, 0] S32x128.size inb_S2080x128_S32x128_2048_0, k0_pay83 (F := F)⟩, ⟨Rect.unit (s := S2080x128) ![0, 0] S2048x128.size inb_S2080x128_S2048x128_0_0, k0_pay82 (arg1.view.readAt (Elt F) (Rect.unit (s := S2048x128) ![0, 0] S2048x128.size inb_S2048x128_S2048x128_0_0).toLoadRect (harg1.unread d))⟩])
    ((read_zpad arg9 _ _ _ _ _).trans (by rw [r2, r3])) ((read_dpad arg10 _ _ _ _).trans (by rw [r1])) _ r4 f5 f6
    (arg7.view.writes (Elt F) arg7.view.junk [⟨Rect.unit (s := S32x128) ![0, 0] S32x128.size inb_S32x128_S32x128_0_0, k0_pay84 (F := F)⟩])
    (View.read_writes_full _ _ _ _ _)
  dsimp only at T
  obtain ⟨T5, T6, T7⟩ := T
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    exact T5
  isplitl [H6]
  · iexists _; isplitr; swap; · iexact H6
    ipureintro
    exact T6
  isplitl [H7]
  · iexists _; isplitr; swap; · iexact H7
    ipureintro
    exact T7
  isplitl [H8]
  · iexists _; isplitr; swap; · iexact H8
    ipureintro
    exact (View.read_writes_full _ _ _ _ _).trans (congrArg k0_pay1 r1)
  isplitl [H9]
  · iexists _, _; isplitr; swap; · iexact H9
    ipureintro; rfl
  iexists _, _; isplitr; swap; · iexact H10
  ipureintro; rfl

end Body

end Cert.KernelIdeal.Conv

end
-- ==== Proof.ConvLaunch.lean ====
/-
  The backward convolution kernel's launch: the pipeline's proof data (each result's block after grid point `t` is the
  function of `ConvBlock` at that point's input blocks), the body's obligation by `body_run`, the run of @main and the
  frame, over any floats.
-/
module

public import proofs.«01_k».proof.Proof.ConvRun
public import Idealize.ShloMosaic.Lib.Claim

@[expose] public section

set_option maxRecDepth 16384

noncomputable section

namespace Cert.KernelIdeal.Conv

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => DA (iblk m c 0 t) (iblk m c 2 t) (iblk m c 3 t)
    | ⟨5, _⟩ => DG (iblk m c 0 t) (iblk m c 1 t) (iblk m c 2 t) (iblk m c 3 t)
    | ⟨6, _⟩ => DW (iblk m c 0 t) (iblk m c 1 t) (iblk m c 2 t) 16 le_rfl
    | ⟨7, _⟩ => k0_pay1 (iblk m c 0 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = DA (iblk m c 0 t) (iblk m c 2 t) (iblk m c 3 t) := by dsimp only [dats]
theorem after_5 (c : Dev nD) (t : Fin cfg0.N) : (dats m 0 c).after 5 t = DG (iblk m c 0 t) (iblk m c 1 t) (iblk m c 2 t) (iblk m c 3 t) := by dsimp only [dats]
theorem after_6 (c : Dev nD) (t : Fin cfg0.N) : (dats m 0 c).after 6 t = DW (iblk m c 0 t) (iblk m c 1 t) (iblk m c 2 t) 16 le_rfl := by dsimp only [dats]
theorem after_7 (c : Dev nD) (t : Fin cfg0.N) : (dats m 0 c).after 7 t = k0_pay1 (iblk m c 0 t) := by dsimp only [dats]

theorem before_0 (c : Dev nD) (t : Fin cfg0.N) (x) : (dats m 0 c).before 0 t x = iblk m c 0 t :=
  before0_0_of m (dats m 0 c) (A_eq m c 0) (after_0 m c) t x
theorem before_1 (c : Dev nD) (t : Fin cfg0.N) (x) : (dats m 0 c).before 1 t x = iblk m c 1 t :=
  before0_1_of m (dats m 0 c) (A_eq m c 1) (after_1 m c) t x
theorem before_2 (c : Dev nD) (t : Fin cfg0.N) (x) : (dats m 0 c).before 2 t x = iblk m c 2 t :=
  before0_2_of m (dats m 0 c) (A_eq m c 2) (after_2 m c) t x
theorem before_3 (c : Dev nD) (t : Fin cfg0.N) (x) : (dats m 0 c).before 3 t x = iblk m c 3 t :=
  before0_3_of m (dats m 0 c) (A_eq m c 3) (after_3 m c) t x

set_option maxHeartbeats 800000 in
/-- The body at any grid point. -/
theorem sound_body (c : Dev nD) (t : Fin cfg0.N) :
    iprop((dats m 0 c).Φ t.castSucc ∗ (dats m 0 c).owesAt () t.castSucc
        ∗ (∃ x, owns (c : Thread nD τ) (ms0_0 t) fullShare ((dats m 0 c).before 0 t x)) ∗ (∃ x, owns (c : Thread nD τ) (ms0_1 t) fullShare ((dats m 0 c).before 1 t x)) ∗ (∃ x, owns (c : Thread nD τ) (ms0_2 t) fullShare ((dats m 0 c).before 2 t x)) ∗ (∃ x, owns (c : Thread nD τ) (ms0_3 t) fullShare ((dats m 0 c).before 3 t x)) ∗ (∃ x, owns (c : Thread nD τ) (ms0_4 t) fullShare ((dats m 0 c).before 4 t x)) ∗ (∃ x, owns (c : Thread nD τ) (ms0_5 t) fullShare ((dats m 0 c).before 5 t x)) ∗ (∃ x, owns (c : Thread nD τ) (ms0_6 t) fullShare ((dats m 0 c).before 6 t x)) ∗ (∃ x, owns (c : Thread nD τ) (ms0_7 t) fullShare ((dats m 0 c).before 7 t x)))
      ⊢ wp frame (wpE (defs₀ (F := F)) Variants.none c none) Set.univ (bodyAt0 t)
          (fun _ => iprop((dats m 0 c).Φ t.succ ∗ (dats m 0 c).owesAt () t.succ
            ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t))) := by
  unfold bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) : defs₀ (F := F) .tc cfg0.body (cfg0.bodyArgs t (cfg0.slots t)) = bodyAt0 t := by
  unfold defs₀; rw [Defs.onTc_tc]

/-- The library's body obligation. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run of @main: every array of the pipeline ends as the proof data says, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_quiescent m ρ))

end Cert.KernelIdeal.Conv

end
-- ==== Proof.ConvIdeal.lean ====
/-
  The tile and block functions of the convolution's backward kernel at the extended reals, entry by entry.
-/
module

public import proofs.«01_k».proof.Proof.ConvBlock
public import Idealize.ShloMosaic.Lib.KernelVsHost
public import Idealize.ShloMosaic.Lib.IdealHost
public import Idealize.ShloMosaic.Lib.Pipeline.Value
public import Idealize.ShloMosaic.Lib.Pointwise.Reduce

@[expose] public section

set_option maxRecDepth 16384

noncomputable section

namespace Cert.KernelIdeal.Conv

open Cert.KernelIdeal.Gen Idealize.ShloMosaic.TcCoe Idealize.ShloMosaic.ValueIdx
open Idealize.ShloMosaic hiding ix0 ix1 ix2
open scoped BigOperators

/-- The logistic function, as the kernel computes it. -/
def sg (x : EReal) : EReal := Ideal.div 1 (1 + Ideal.exp (-x))

/-- A column of an array, zero past its rows. -/
def colz {n m : ℕ} (x : (⟨2, ![n, m]⟩ : Shape).Idx → EReal) (c : Fin m) (s : ℕ) : EReal :=
  if h : s < n then x (ix2 ⟨s, h⟩ c) else 0

theorem colz_of {n m : ℕ} (x : (⟨2, ![n, m]⟩ : Shape).Idx → EReal) (c : Fin m) (s : ℕ) (h : s < n) :
    colz x c s = x (ix2 ⟨s, h⟩ c) := dif_pos h

/-- A column under 30 rows of zeros. -/
def under (z : ℕ → EReal) (s : ℕ) : EReal := if s < 30 then 0 else z (s - 30)

/-- The causal convolution's input gradient at row `t`: 31 taps of the cotangent from that row on. -/
def dzAt (w ct : ℕ → EReal) (t : ℕ) : EReal := ∑ q : Fin 31, w (30 - q.val) * ct (t + q.val)

/-- The convolution's weight gradient at tap `j`. -/
def dwAt (ct z : ℕ → EReal) (j : ℕ) : EReal := ∑ t : Fin 2048, ct t.val * under z (t.val + j)

theorem sgTile_apply (g : FVec Ideal S128x128 .bf16) (i : S128x128.Idx) : sgTile g i = sg (g i) := by
  show Ideal.div (Ideal.ofBits .f32 0x3F800000#32) (Ideal.ofBits .f32 0x3F800000#32 + Ideal.exp (Ideal.ofBits .f32 0x00000000#32 - g i)) = _
  simp only [Ideal.ofBits_zero_f32, Ideal.ofBits_one_f32, zero_sub]
  rfl

theorem turnedBack_apply (b : ℕ) (hb : b < 8) (x : FVec Ideal S160x128 .f32) (r : Fin 160) (c : Fin 128) (h : r.val + b < 160) :
    turnedBack b x (ix2 r c) = x (ix2 ⟨r.val + b, h⟩ c) := by
  unfold turnedBack
  split
  · rename_i h0; subst h0; rfl
  · refine dynamicRotate_apply 0 _ x _ _ _ ?_
    intro a
    have e : (BitVec.ofNat 32 (160 - b)).toNat = 160 - b := by
      rw [BitVec.toNat_ofNat]; exact Nat.mod_eq_of_lt (by omega)
    rw [e]
    match a with
    | ⟨0, _⟩ => show r.val + b = (r.val + 160 - (160 - b) % 160) % 160; omega
    | ⟨1, _⟩ => rfl

theorem turned_apply (b : ℕ) (hb : b < 8) (x : FVec Ideal S160x128 .f32) (r : Fin 160) (c : Fin 128) (h : b ≤ r.val) :
    turned b x (ix2 r c) = x (ix2 ⟨r.val - b, by omega⟩ c) := by
  unfold turned
  split
  · rename_i h0; subst h0; rfl
  · refine dynamicRotate_apply 0 _ x _ _ _ ?_
    intro a
    have e : (BitVec.ofNat 32 b).toNat = b := by
      rw [BitVec.toNat_ofNat]; exact Nat.mod_eq_of_lt (by omega)
    rw [e]
    match a with
    | ⟨0, _⟩ => show r.val - b = (r.val + 160 - b % 160) % 160; omega
    | ⟨1, _⟩ => rfl

/-- The cotangent of the gated input on a tile: the sum over the taps taken so far. -/
theorem dzAcc_apply (w : FVec Ideal S32x128 .f32) (d : FVec Ideal S160x128 .f32) (r c : Fin 128) (n : ℕ) (hn : n ≤ 31) :
    dzAcc w d n (ix2 r c) = ∑ p : Fin n, w (ix2 ⟨30 - lag p.val, by omega⟩ c)
      * d (ix2 ⟨r.val + lag p.val, by have := lag_lt p.val (by omega); omega⟩ c) := by
  induction n with
  | zero =>
    show Ideal.ofBits .f32 0x00000000#32 = _
    rw [Ideal.ofBits_zero_f32]; rfl
  | succ p ih =>
    have hl := lag_lt p (by omega)
    show dzAcc w d p (ix2 r c) + (broadcastTo S128x128 _ _ (ix2 r c)) * (extractStridedSlice S128x128 _ _ _ (ix2 r c)) = _
    rw [ih (by omega), Fin.sum_univ_castSucc]
    congr 1
    congr 1
    · refine extractStridedSlice_apply _ w _ _ (ix2 ⟨30 - lag p, by omega⟩ c) ?_
      intro a
      match a with
      | ⟨0, _⟩ => rfl
      | ⟨1, _⟩ => show c.val = 0 + c.val; omega
    · refine (extractStridedSlice_apply _ _ _ _ (ix2 ⟨8 * (p % 4) + r.val, by omega⟩ c) ?_).trans ?_
      · intro a
        match a with
        | ⟨0, _⟩ => rfl
        | ⟨1, _⟩ => show c.val = 0 + c.val; omega
      · rw [turnedBack_apply _ (by omega) _ _ _ (by show 8 * (p % 4) + r.val + p / 4 < 160; unfold lag at hl; omega)]
        congr 2
        apply Fin.ext
        show 8 * (p % 4) + r.val + p / 4 = r.val + lag p
        unfold lag; omega

/-- Row `30 - lag p` of the weight's gradient after a tile. -/
theorem dwRow_apply (p : ℕ) (hp : p < 31) (z d : FVec Ideal S160x128 .f32) (x : FVec Ideal S1x128 .f32) (c : Fin 128) :
    dwRow p z d x (ix2 0 c) = x (ix2 0 c) + ∑ r : Fin 128, d (ix2 ⟨r.val, by omega⟩ c)
      * z (ix2 ⟨32 + r.val - lag p, by omega⟩ c) := by
  have hl := lag_lt p hp
  show shapeCast S1x128 x _ (ix2 0 c) + shapeCast S1x128 _ _ (ix2 0 c) = _
  congr 1
  · refine shapeCast_apply x _ _ _ rfl
  · refine (shapeCast_apply _ _ _ (ix1 c) (by
      rw [Shape.rowMajor_val_one, Shape.rowMajor_val_two]; show c.val = 0 * 128 + c.val; omega)).trans ?_
    refine (Ideal.reduceAdd_r2_a0 _ _ _).trans ?_
    refine Finset.sum_congr rfl fun r _ => ?_
    show extractStridedSlice S128x128 _ _ _ _ * extractStridedSlice S128x128 _ _ _ _ = _
    congr 1
    · refine extractStridedSlice_apply _ d _ _ _ ?_
      intro a
      match a with
      | ⟨0, _⟩ => show r.val = 0 + r.val; omega
      | ⟨1, _⟩ => show c.val = 0 + c.val; omega
    · have hr : r.val < 128 := r.isLt
      refine (extractStridedSlice_apply _ _ _ _ (ix2 ⟨32 - 8 * (p % 4) + r.val, by omega⟩ c) ?_).trans ?_
      · intro a
        match a with
        | ⟨0, _⟩ => rfl
        | ⟨1, _⟩ => show c.val = 0 + c.val; omega
      · rw [turned_apply _ (by omega) _ _ _ (by show p / 4 ≤ 32 - 8 * (p % 4) + r.val; omega)]
        congr 2
        apply Fin.ext
        show 32 - 8 * (p % 4) + r.val - p / 4 = 32 + r.val - lag p
        unfold lag; omega

/-- The taps in the kernel's order and in the order of their lags. -/
def lagEquiv : Fin 31 ≃ Fin 31 where
  toFun p := ⟨lag p.val, lag_lt p.val p.isLt⟩
  invFun q := ⟨tapOf q.val, tapOf_lt q.val q.isLt⟩
  left_inv p := Fin.ext (tapOf_lag p.val p.isLt)
  right_inv q := Fin.ext (lag_tapOf q.val q.isLt)

theorem dpad_apply (d : Vec Ideal S2048x128 .f32) (s : Fin 2080) (c : Fin 128) : dpad d (ix2 s c) = colz d c s.val := by
  unfold dpad colz
  by_cases h : s.val < 2048
  · rw [dif_pos (show (ix2 s c 0).val < 2048 from h), dif_pos h]
    exact shapeCast_apply d _ _ _ rfl
  · rw [dif_neg (show ¬(ix2 s c 0).val < 2048 from h), dif_neg h]
    exact (shapeCast_apply (s := S32x128) (broadcast S32x128 (Scalar.ofBits (F := Ideal) .f32 0x00000000#32)) shapeCasts_S32x128_S32x128 _ (ix2 (⟨s.val - 2048, by omega⟩ : Fin 32) c) rfl).trans Ideal.ofBits_zero_f32

/-- The gated input. -/
def gated {s : Shape} (a g : s.Idx → EReal) (i : s.Idx) : EReal := a i * sg (g i)

theorem zpad_apply (a g : Vec Ideal S2048x128 .bf16) (s : Fin 2080) (c : Fin 128) (h2 : 2 ≤ s.val) :
    zpad a g (ix2 s c) = under (colz (gated a g) c) (s.val - 2) := by
  unfold zpad under
  by_cases h : s.val < 32
  · rw [dif_pos (show (ix2 s c 0).val < 32 from h), if_pos (by omega)]
    exact (shapeCast_apply (s := S32x128) (broadcast S32x128 (Scalar.ofBits (F := Ideal) .f32 0x00000000#32)) shapeCasts_S32x128_S32x128 _ (ix2 (⟨s.val, h⟩ : Fin 32) c) rfl).trans Ideal.ofBits_zero_f32
  · rw [dif_neg (show ¬(ix2 s c 0).val < 32 from h), if_neg (by omega), show s.val - 2 - 30 = s.val - 32 by omega,
      colz_of _ _ _ (by omega)]
    unfold k0_pay81
    refine (shapeCast_apply (s := S2048x128) _ _ _ (ix2 (⟨s.val - 32, by omega⟩ : Fin 2048) c) rfl).trans ?_
    show a _ * Ideal.div (Ideal.ofBits .f32 0x3F800000#32) (Ideal.ofBits .f32 0x3F800000#32 + Ideal.exp (Ideal.ofBits .f32 0x00000000#32 - g _)) = _
    simp only [Ideal.ofBits_zero_f32, Ideal.ofBits_one_f32, zero_sub]
    rfl

theorem win_apply (x : Vec Ideal S2080x128 .f32) (k : ℕ) (hk : k < 16) (r : Fin 160) (c : Fin 128) :
    win x k hk (ix2 r c) = x (ix2 ⟨128 * k + r.val, by omega⟩ c) := by
  refine congrArg x (funext fun a => Fin.ext ?_)
  match a with
  | ⟨0, _⟩ => show 128 * k + 1 * r.val = 128 * k + r.val; omega
  | ⟨1, _⟩ => show 0 + 1 * c.val = c.val; omega

theorem til_apply (x : Vec Ideal S2048x128 .bf16) (k : ℕ) (hk : k < 16) (r : Fin 128) (c : Fin 128) :
    til x k hk (ix2 r c) = x (ix2 ⟨128 * k + r.val, by omega⟩ c) := by
  refine congrArg x (funext fun a => Fin.ext ?_)
  match a with
  | ⟨0, _⟩ => show 128 * k + 1 * r.val = 128 * k + r.val; omega
  | ⟨1, _⟩ => show 0 + 1 * c.val = c.val; omega

theorem dzTile_apply (w : Vec Ideal S32x128 .f32) (d : Vec Ideal S2048x128 .f32) (k : ℕ) (hk : k < 16) (r c : Fin 128) :
    dzTile (k0_pay2 w) (win (dpad d) k hk) (ix2 r c) = dzAt (colz w c) (colz d c) (128 * k + r.val) := by
  unfold dzTile
  rw [dzAcc_apply _ _ _ _ 31 le_rfl]
  unfold dzAt
  refine Fintype.sum_equiv lagEquiv _ _ fun p => ?_
  have hl := lag_lt p.val p.isLt
  rw [win_apply, dpad_apply, colz_of w c (30 - (lagEquiv p).val) (by omega)]
  congr 1
  · exact shapeCast_apply w _ _ _ rfl
  · congr 1
    show 128 * k + (r.val + lag p.val) = 128 * k + r.val + lag p.val
    omega

theorem DA_apply (d : Vec Ideal S2048x128 .f32) (g : Vec Ideal S2048x128 .bf16) (w : Vec Ideal S32x128 .f32) (t : Fin 2048) (c : Fin 128) :
    DA d g w (ix2 t c) = dzAt (colz w c) (colz d c) t.val * sg (g (ix2 t c)) := by
  have ht : 128 * (t.val / 128) + t.val % 128 = t.val := by omega
  show dzTile (F := Ideal) _ _ (ix2 (⟨t.val % 128, _⟩ : Fin 128) c) * sgTile (F := Ideal) _ (ix2 (⟨t.val % 128, _⟩ : Fin 128) c) = _
  rw [dzTile_apply, sgTile_apply, til_apply]
  simp only [ht]

theorem DG_apply (d : Vec Ideal S2048x128 .f32) (a g : Vec Ideal S2048x128 .bf16) (w : Vec Ideal S32x128 .f32) (t : Fin 2048) (c : Fin 128) :
    DG d a g w (ix2 t c) = dzAt (colz w c) (colz d c) t.val * a (ix2 t c) * sg (g (ix2 t c)) * (1 - sg (g (ix2 t c))) := by
  have ht : 128 * (t.val / 128) + t.val % 128 = t.val := by omega
  show dzTile (F := Ideal) _ _ (ix2 (⟨t.val % 128, _⟩ : Fin 128) c) * til (F := Ideal) a (t.val / 128) (by omega) (ix2 (⟨t.val % 128, _⟩ : Fin 128) c)
    * sgTile (F := Ideal) _ (ix2 (⟨t.val % 128, _⟩ : Fin 128) c) * (Ideal.ofBits .f32 0x3F800000#32 - sgTile (F := Ideal) _ (ix2 (⟨t.val % 128, _⟩ : Fin 128) c)) = _
  rw [dzTile_apply, sgTile_apply, til_apply, til_apply, Ideal.ofBits_one_f32]
  simp only [ht]

theorem dwStep_apply (d : Vec Ideal S2048x128 .f32) (a g : Vec Ideal S2048x128 .bf16) (k : ℕ) (hk : k < 16) (x : Vec Ideal S32x128 .f32)
    (j : Fin 32) (c : Fin 128) (hj : j.val < 31) :
    dwStep (win (zpad a g) k hk) (win (dpad d) k hk) x (ix2 j c) = x (ix2 j c) + ∑ r : Fin 128,
      colz d c (128 * k + r.val) * under (colz (gated a g) c) (128 * k + r.val + j.val) := by
  unfold dwStep
  rw [dif_pos (show (ix2 j c 0).val < 31 from hj)]
  have hl : lag (tapOf (30 - j.val)) = 30 - j.val := lag_tapOf _ (by omega)
  refine (dwRow_apply _ (tapOf_lt _ (by show 30 - j.val < 31; omega)) _ _ _ _).trans ?_
  congr 1
  · refine congrArg x (funext fun b => Fin.ext ?_)
    match b with
    | ⟨0, _⟩ => show j.val + 1 * 0 = j.val; omega
    | ⟨1, _⟩ => show 0 + 1 * c.val = c.val; omega
  · refine Finset.sum_congr rfl fun r _ => ?_
    have hr : r.val < 128 := r.isLt
    rw [win_apply, dpad_apply, win_apply]
    congr 1
    refine (zpad_apply a g _ c ?_).trans ?_
    · show 2 ≤ 128 * k + (32 + r.val - lag (tapOf (30 - j.val))); omega
    · congr 1
      show 128 * k + (32 + r.val - lag (tapOf (30 - j.val))) - 2 = _; omega

theorem DW_apply (d : Vec Ideal S2048x128 .f32) (a g : Vec Ideal S2048x128 .bf16) (j : Fin 32) (c : Fin 128) (n : ℕ) (hn : n ≤ 16) :
    DW d a g n hn (ix2 j c) = if j.val < 31 then ∑ k : Fin n, ∑ r : Fin 128,
      colz d c (128 * k.val + r.val) * under (colz (gated a g) c) (128 * k.val + r.val + j.val) else 0 := by
  induction n with
  | zero => simp only [Finset.univ_eq_empty, Finset.sum_empty, ite_self]; exact Ideal.ofBits_zero_f32
  | succ k ih =>
    show dwStep _ _ (DW d a g k _) (ix2 j c) = _
    by_cases hj : j.val < 31
    · rw [dwStep_apply _ _ _ _ _ _ _ _ hj, ih, if_pos hj, if_pos hj, Fin.sum_univ_castSucc (n := k)]
      rfl
    · rw [if_neg hj]
      unfold dwStep
      rw [dif_neg (show ¬(ix2 j c 0).val < 31 from hj), ih, if_neg hj]

/-- The weight's gradient on the block. -/
theorem DW_apply_all (d : Vec Ideal S2048x128 .f32) (a g : Vec Ideal S2048x128 .bf16) (j : Fin 32) (c : Fin 128) :
    DW d a g 16 le_rfl (ix2 j c) = if j.val < 31 then dwAt (colz d c) (colz (gated a g) c) j.val else 0 := by
  rw [DW_apply]
  refine if_congr Iff.rfl ?_ rfl
  unfold dwAt
  rw [← Finset.sum_product']
  refine Fintype.sum_equiv (finProdFinEquiv (m := 16) (n := 128)) _ _ fun x => ?_
  have e : (finProdFinEquiv x).val = 128 * x.1.val + x.2.val := by
    show x.2.val + 128 * x.1.val = _; omega
  simp only [e]

/-- The bias's gradient on the block. -/
theorem db_apply (d : Vec Ideal S2048x128 .f32) (c : Fin 128) : k0_pay1 d (ix2 0 c) = ∑ t : Fin 2048, d (ix2 t c) := by
  unfold k0_pay1
  refine (shapeCast_apply _ _ _ (ix1 c) (by
    exact (Shape.rowMajor_val_one (ix1 c)).trans (((Shape.rowMajor_val_two (ix2 (0 : Fin 1) c)).trans (by show 0 * 128 + c.val = c.val; omega)).symm))).trans ?_
  exact Ideal.reduceAdd_r2_a0 _ _ _

end Cert.KernelIdeal.Conv

end
-- ==== Proof.ConvArrays.lean ====
/-
  The backward convolution kernel's result arrays at the extended reals, entry by entry in the arguments: the blocks
  the grid points read are 128 columns of the arguments, the blocks they write back 128 columns of the results.
-/
module

public import proofs.«01_k».proof.Proof.ConvLaunch
public import proofs.«01_k».proof.Proof.ConvIdeal
public import Idealize.ShloMosaic.Lib.Pipeline.Value

@[expose] public section

set_option maxRecDepth 16384

noncomputable section

namespace Cert.KernelIdeal.Conv

open Cert.KernelIdeal.Gen Idealize.ShloMosaic.TcCoe Idealize.ShloMosaic.ValueIdx
open Idealize.ShloMosaic hiding ix0 ix1 ix2
open Idealize.SL.Sem
open Idealize.ShloMosaic.Pipeline (Dat)

variable (m : (ℓ : Loc nD τ sig) → Buf (Elt Ideal) ℓ)

/-- The arguments: the cotangent, the projection's output (value half in columns 0…511, gate half in 512…1023), the taps. -/
abbrev argD (c : Dev nD) : Vec Ideal S2048x512 .f32 := m ((c : Thread nD τ).loc main_arg0)
abbrev argU (c : Dev nD) : Vec Ideal S2048x7680 .bf16 := m ((c : Thread nD τ).loc main_arg1)
abbrev argW (c : Dev nD) : Vec Ideal S31x512 .f32 := m ((c : Thread nD τ).loc main_arg2)

/-- The weight the host pads to 32 rows. -/
theorem V_main_v0 (c : Dev nD) : V m c main_v0
    = pad S32x512 ![0, 0] ![1, 0] ![0, 0] (argW m c) (sitofp .f32 (constantI S_ 32 0#32) : FVec Ideal S_ .f32) pads_S31x512_S32x512_010_000 h_S_ := by
  show StableHlo.after (List.flatten [hostOps0, hostOps0_1]) (fun b => m (c, b)) (Proc.devRef .tc main_v0) = _
  simp only [hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp

theorem index0 : ∀ t : Fin cfg0.N, (win0_0.index t 0 = 0 ∧ win0_0.index t 1 = t.val) ∧ (win0_1.index t 0 = 0 ∧ win0_1.index t 1 = t.val)
    ∧ (win0_2.index t 0 = 0 ∧ win0_2.index t 1 = t.val + 4) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val) :=
  (by decide +kernel : ∀ t : Fin grid0.N, _)

theorem iblk0 (c : Dev nD) (t : Fin cfg0.N) (r : Fin 2048) (l : Fin 128) (h : 128 * t.val + l.val < 512) :
    iblk m c 0 t (ix2 r l) = argD m c (ix2 r ⟨128 * t.val + l.val, h⟩) := by
  obtain ⟨⟨e0, e1⟩, -⟩ := index0 t
  show V m c main_arg0 _ = _
  rw [V_main_arg0]
  refine congrArg (argD m c) (funext fun a => Fin.ext ?_)
  match a with
  | ⟨0, _⟩ => show win0_0.index t 0 * 2048 + 1 * r.val = r.val; rw [e0]; omega
  | ⟨1, _⟩ => show win0_0.index t 1 * 128 + 1 * l.val = 128 * t.val + l.val; rw [e1]; omega

theorem iblk1 (c : Dev nD) (t : Fin cfg0.N) (r : Fin 2048) (l : Fin 128) (h : 128 * t.val + l.val < 7680) :
    iblk m c 1 t (ix2 r l) = argU m c (ix2 r ⟨128 * t.val + l.val, h⟩) := by
  obtain ⟨-, ⟨e0, e1⟩, -⟩ := index0 t
  show V m c main_arg1 _ = _
  rw [V_main_arg1]
  refine congrArg (argU m c) (funext fun a => Fin.ext ?_)
  match a with
  | ⟨0, _⟩ => show win0_1.index t 0 * 2048 + 1 * r.val = r.val; rw [e0]; omega
  | ⟨1, _⟩ => show win0_1.index t 1 * 128 + 1 * l.val = 128 * t.val + l.val; rw [e1]; omega

theorem iblk2 (c : Dev nD) (t : Fin cfg0.N) (r : Fin 2048) (l : Fin 128) (h : 512 + (128 * t.val + l.val) < 7680) :
    iblk m c 2 t (ix2 r l) = argU m c (ix2 r ⟨512 + (128 * t.val + l.val), h⟩) := by
  obtain ⟨-, -, ⟨e0, e1⟩, -⟩ := index0 t
  show V m c main_arg1 _ = _
  rw [V_main_arg1]
  refine congrArg (argU m c) (funext fun a => Fin.ext ?_)
  match a with
  | ⟨0, _⟩ => show win0_2.index t 0 * 2048 + 1 * r.val = r.val; rw [e0]; omega
  | ⟨1, _⟩ => show win0_2.index t 1 * 128 + 1 * l.val = 512 + (128 * t.val + l.val); rw [e1]; omega

theorem iblk3 (c : Dev nD) (t : Fin cfg0.N) (j : Fin 31) (l : Fin 128) (h : 128 * t.val + l.val < 512) :
    iblk m c 3 t (ix2 ⟨j.val, by omega⟩ l) = argW m c (ix2 j ⟨128 * t.val + l.val, h⟩) := by
  obtain ⟨-, -, -, ⟨e0, e1⟩, -⟩ := index0 t
  show V m c main_v0 _ = _
  rw [V_main_v0]
  refine pad_apply_of_inside _ _ _ (argW m c) _ _ _ _ (ix2 j ⟨128 * t.val + l.val, h⟩) fun a => ?_
  match a with
  | ⟨0, _⟩ => show win0_3.index t 0 * 32 + 1 * j.val = 0 + j.val * 1; rw [e0]; omega
  | ⟨1, _⟩ => show win0_3.index t 1 * 128 + 1 * l.val = 0 + (128 * t.val + l.val) * 1; rw [e1]; omega

/-- The grid point whose blocks hold column `ch`. -/
def ptOf (ch : Fin 512) : Fin cfg0.N := ⟨ch.val / 128, by show ch.val / 128 < 4; omega⟩
/-- … and the lane there. -/
def laneOf (ch : Fin 512) : Fin 128 := ⟨ch.val % 128, by omega⟩

theorem pt_lane (ch : Fin 512) : 128 * (ptOf ch).val + (laneOf ch).val = ch.val := by
  show 128 * (ch.val / 128) + ch.val % 128 = ch.val; omega

theorem inj4 : ∀ t t' : Fin cfg0.N, win0_4.index t = win0_4.index t' → t = t' :=
  (by decide +kernel : ∀ t t' : Fin grid0.N, win0_4.index t = win0_4.index t' → t = t')

/-- Result 0 at an entry is what the grid point of its column wrote there. -/
theorem arr4 (c : Dev nD) (r : Fin 2048) (ch : Fin 512) :
    ((dats m 0 c).arrAt 4 cfg0.N : Vec Ideal S2048x512 .bf16) (ix2 r ch) = (dats m 0 c).after 4 (ptOf ch) (ix2 r (laneOf ch)) := by
  obtain ⟨-, -, -, -, ⟨e0, e1⟩, -⟩ := index0 (ptOf ch)
  have h := (dats m 0 c).read_blk_arrAt_eq_flushed 4 (fun t t' _ _ hne => (cfg0.win 4).disjoint_blk fun h => hne (inj4 t t' h))
    cfg0.N (ptOf ch) (ptOf ch).isLt (flush0_4 _)
  refine Eq.trans (congrArg _ (funext fun a => Fin.ext ?_)) (congrFun h (ix2 r (laneOf ch)))
  have hp := pt_lane ch
  match a with
  | ⟨0, _⟩ => show r.val = win0_4.index (ptOf ch) 0 * 2048 + 1 * r.val; rw [e0]; omega
  | ⟨1, _⟩ => show ch.val = win0_4.index (ptOf ch) 1 * 128 + 1 * (laneOf ch).val; rw [e1]; omega

theorem inj5 : ∀ t t' : Fin cfg0.N, win0_5.index t = win0_5.index t' → t = t' :=
  (by decide +kernel : ∀ t t' : Fin grid0.N, win0_5.index t = win0_5.index t' → t = t')

/-- Result 1 at an entry is what the grid point of its column wrote there. -/
theorem arr5 (c : Dev nD) (r : Fin 2048) (ch : Fin 512) :
    ((dats m 0 c).arrAt 5 cfg0.N : Vec Ideal S2048x512 .bf16) (ix2 r ch) = (dats m 0 c).after 5 (ptOf ch) (ix2 r (laneOf ch)) := by
  obtain ⟨-, -, -, -, -, ⟨e0, e1⟩, -⟩ := index0 (ptOf ch)
  have h := (dats m 0 c).read_blk_arrAt_eq_flushed 5 (fun t t' _ _ hne => (cfg0.win 5).disjoint_blk fun h => hne (inj5 t t' h))
    cfg0.N (ptOf ch) (ptOf ch).isLt (flush0_5 _)
  refine Eq.trans (congrArg _ (funext fun a => Fin.ext ?_)) (congrFun h (ix2 r (laneOf ch)))
  have hp := pt_lane ch
  match a with
  | ⟨0, _⟩ => show r.val = win0_5.index (ptOf ch) 0 * 2048 + 1 * r.val; rw [e0]; omega
  | ⟨1, _⟩ => show ch.val = win0_5.index (ptOf ch) 1 * 128 + 1 * (laneOf ch).val; rw [e1]; omega

theorem inj6 : ∀ t t' : Fin cfg0.N, win0_6.index t = win0_6.index t' → t = t' :=
  (by decide +kernel : ∀ t t' : Fin grid0.N, win0_6.index t = win0_6.index t' → t = t')

/-- Result 2 at an entry is what the grid point of its column wrote there. -/
theorem arr6 (c : Dev nD) (r : Fin 32) (ch : Fin 512) :
    ((dats m 0 c).arrAt 6 cfg0.N : Vec Ideal S32x512 .f32) (ix2 r ch) = (dats m 0 c).after 6 (ptOf ch) (ix2 r (laneOf ch)) := by
  obtain ⟨-, -, -, -, -, -, ⟨e0, e1⟩, -⟩ := index0 (ptOf ch)
  have h := (dats m 0 c).read_blk_arrAt_eq_flushed 6 (fun t t' _ _ hne => (cfg0.win 6).disjoint_blk fun h => hne (inj6 t t' h))
    cfg0.N (ptOf ch) (ptOf ch).isLt (flush0_6 _)
  refine Eq.trans (congrArg _ (funext fun a => Fin.ext ?_)) (congrFun h (ix2 r (laneOf ch)))
  have hp := pt_lane ch
  match a with
  | ⟨0, _⟩ => show r.val = win0_6.index (ptOf ch) 0 * 32 + 1 * r.val; rw [e0]; omega
  | ⟨1, _⟩ => show ch.val = win0_6.index (ptOf ch) 1 * 128 + 1 * (laneOf ch).val; rw [e1]; omega

theorem inj7 : ∀ t t' : Fin cfg0.N, win0_7.index t = win0_7.index t' → t = t' :=
  (by decide +kernel : ∀ t t' : Fin grid0.N, win0_7.index t = win0_7.index t' → t = t')

/-- Result 3 at an entry is what the grid point of its column wrote there. -/
theorem arr7 (c : Dev nD) (r : Fin 1) (ch : Fin 512) :
    ((dats m 0 c).arrAt 7 cfg0.N : Vec Ideal S1x512 .f32) (ix2 r ch) = (dats m 0 c).after 7 (ptOf ch) (ix2 r (laneOf ch)) := by
  obtain ⟨-, -, -, -, -, -, -, ⟨e0, e1⟩⟩ := index0 (ptOf ch)
  have h := (dats m 0 c).read_blk_arrAt_eq_flushed 7 (fun t t' _ _ hne => (cfg0.win 7).disjoint_blk fun h => hne (inj7 t t' h))
    cfg0.N (ptOf ch) (ptOf ch).isLt (flush0_7 _)
  refine Eq.trans (congrArg _ (funext fun a => Fin.ext ?_)) (congrFun h (ix2 r (laneOf ch)))
  have hp := pt_lane ch
  match a with
  | ⟨0, _⟩ => show r.val = win0_7.index (ptOf ch) 0 * 1 + 1 * r.val; rw [e0]; omega
  | ⟨1, _⟩ => show ch.val = win0_7.index (ptOf ch) 1 * 128 + 1 * (laneOf ch).val; rw [e1]; omega

theorem cols0 (c : Dev nD) (ch : Fin 512) (s : ℕ) :
    colz (n := 2048) (iblk m c 0 (ptOf ch)) (laneOf ch) s = colz (argD m c) ch s := by
  have hp := pt_lane ch
  unfold colz
  refine dite_congr rfl (fun h => ?_) fun _ => rfl
  refine (iblk0 m c (ptOf ch) ⟨s, h⟩ (laneOf ch) (by omega)).trans ?_
  congr 2; exact Fin.ext hp

/-- The value half and the gate half of the projection. -/
def valU (u : Vec Ideal S2048x7680 .bf16) : S2048x512.Idx → EReal := fun i => u (ix2 (i 0) ⟨(i 1).val, by have := idx2_lt1 i; omega⟩)
def gateU (u : Vec Ideal S2048x7680 .bf16) : S2048x512.Idx → EReal := fun i => u (ix2 (i 0) ⟨512 + (i 1).val, by have := idx2_lt1 i; omega⟩)

theorem val_at (c : Dev nD) (ch : Fin 512) (r : Fin 2048) :
    iblk m c 1 (ptOf ch) (ix2 r (laneOf ch)) = valU (argU m c) (ix2 r ch) := by
  have hp := pt_lane ch
  refine (iblk1 m c (ptOf ch) r (laneOf ch) (by omega)).trans ?_
  unfold valU; congr 2; exact Fin.ext hp

theorem gate_at (c : Dev nD) (ch : Fin 512) (r : Fin 2048) :
    iblk m c 2 (ptOf ch) (ix2 r (laneOf ch)) = gateU (argU m c) (ix2 r ch) := by
  have hp := pt_lane ch
  refine (iblk2 m c (ptOf ch) r (laneOf ch) (by omega)).trans ?_
  unfold gateU; congr 2; exact Fin.ext (congrArg (512 + ·) hp)

/-- The padded weight's columns are the argument's at the 31 taps. -/
theorem dz_cols (c : Dev nD) (ch : Fin 512) (t : ℕ) :
    dzAt (colz (n := 32) (iblk m c 3 (ptOf ch)) (laneOf ch)) (colz (n := 2048) (iblk m c 0 (ptOf ch)) (laneOf ch)) t
      = dzAt (colz (argW m c) ch) (colz (argD m c) ch) t := by
  have hp := pt_lane ch
  unfold dzAt
  refine Finset.sum_congr rfl fun q _ => ?_
  have hq := q.isLt
  congr 1
  · rw [colz_of _ _ _ (by omega : 30 - q.val < 32), colz_of _ _ _ (by omega : 30 - q.val < 31)]
    refine (iblk3 m c (ptOf ch) ⟨30 - q.val, by omega⟩ (laneOf ch) (by omega)).trans ?_
    congr 2; exact Fin.ext hp
  · exact cols0 m c ch _

/-! ## The four results as functions of the arguments -/

/-- The cotangent of the convolution's input. -/
def dzF (d : S2048x512.Idx → EReal) (w : S31x512.Idx → EReal) : S2048x512.Idx → EReal :=
  fun i => dzAt (colz (n := 31) w (i 1)) (colz (n := 2048) d (i 1)) (i 0).val

def daF (d : S2048x512.Idx → EReal) (u : S2048x7680.Idx → EReal) (w : S31x512.Idx → EReal) : S2048x512.Idx → EReal :=
  fun i => dzF d w i * sg (gateU u i)

def dgF (d : S2048x512.Idx → EReal) (u : S2048x7680.Idx → EReal) (w : S31x512.Idx → EReal) : S2048x512.Idx → EReal :=
  fun i => dzF d w i * valU u i * sg (gateU u i) * (1 - sg (gateU u i))

def dwF (d : S2048x512.Idx → EReal) (u : S2048x7680.Idx → EReal) : S32x512.Idx → EReal := fun i =>
  if (i 0).val < 31 then dwAt (colz (n := 2048) d (i 1)) (colz (n := 2048) (gated (valU u) (gateU u)) (i 1)) (i 0).val else 0

def dbF (d : S2048x512.Idx → EReal) : S1x512.Idx → EReal := fun i => ∑ t : Fin 2048, d (ix2 t (i 1))

theorem final4 (c : Dev nD) : (dats m 0 c).arrAt 4 cfg0.N = daF (argD m c) (argU m c) (argW m c) := by
  funext i
  obtain ⟨r, ch, rfl⟩ : ∃ (r : Fin 2048) (ch : Fin 512), i = ix2 r ch := ⟨i 0, i 1, ValueIdx.eq_ix2 i⟩
  refine (arr4 m c r ch).trans ?_
  rw [after_4]
  refine (DA_apply _ _ _ _ _).trans ?_
  rw [dz_cols, gate_at]
  rfl

theorem final5 (c : Dev nD) : (dats m 0 c).arrAt 5 cfg0.N = dgF (argD m c) (argU m c) (argW m c) := by
  funext i
  obtain ⟨r, ch, rfl⟩ : ∃ (r : Fin 2048) (ch : Fin 512), i = ix2 r ch := ⟨i 0, i 1, ValueIdx.eq_ix2 i⟩
  refine (arr5 m c r ch).trans ?_
  rw [after_5]
  refine (DG_apply _ _ _ _ _ _).trans ?_
  rw [dz_cols, gate_at, val_at]
  rfl

theorem final6 (c : Dev nD) : (dats m 0 c).arrAt 6 cfg0.N = dwF (argD m c) (argU m c) := by
  funext i
  obtain ⟨r, ch, rfl⟩ : ∃ (r : Fin 32) (ch : Fin 512), i = ix2 r ch := ⟨i 0, i 1, ValueIdx.eq_ix2 i⟩
  refine (arr6 m c r ch).trans ?_
  rw [after_6]
  refine (DW_apply_all _ _ _ _ _).trans ?_
  unfold dwF
  refine if_congr Iff.rfl ?_ rfl
  have e : colz (gated (iblk m c 1 (ptOf ch)) (iblk m c 2 (ptOf ch)) : S2048x128.Idx → EReal) (laneOf ch)
      = colz (n := 2048) (gated (valU (argU m c)) (gateU (argU m c))) ch := by
    funext s
    unfold colz
    refine dite_congr rfl (fun h => ?_) fun _ => rfl
    unfold gated
    rw [val_at, gate_at]
  have e0 : colz (n := 2048) (iblk m c 0 (ptOf ch)) (laneOf ch) = colz (n := 2048) (argD m c) ch := funext (cols0 m c ch)
  exact congrArg₂ (fun x y => dwAt x y r.val) e0 e

theorem final7 (c : Dev nD) : (dats m 0 c).arrAt 7 cfg0.N = dbF (argD m c) := by
  funext i
  obtain ⟨r, ch, rfl⟩ : ∃ (r : Fin 1) (ch : Fin 512), i = ix2 r ch := ⟨i 0, i 1, ValueIdx.eq_ix2 i⟩
  obtain rfl : r = 0 := Subsingleton.elim _ _
  refine (arr7 m c 0 ch).trans ?_
  rw [after_7]
  refine (db_apply _ _).trans ?_
  refine Finset.sum_congr rfl fun t _ => ?_
  have hp := pt_lane ch
  refine (iblk0 m c (ptOf ch) t (laneOf ch) (by omega)).trans ?_
  congr 2; exact Fin.ext hp

variable (ρ : Dev nD → PrngReg)

/-- The run of @main: the four results as functions of the arguments, the arguments unchanged. -/
theorem run : θ_run defs (onTc (τ := τ) (main (F := Ideal))) ⟨m, fun _ => 0, ρ⟩ fun r => ∀ c : Dev nD,
      r.2.mem ((c.tc : Thread nD τ).loc main_v1_0) = daF (argD m c) (argU m c) (argW m c)
      ∧ r.2.mem ((c.tc : Thread nD τ).loc main_v1_1) = dgF (argD m c) (argU m c) (argW m c)
      ∧ r.2.mem ((c.tc : Thread nD τ).loc main_v1_2) = dwF (argD m c) (argU m c)
      ∧ r.2.mem ((c.tc : Thread nD τ).loc main_v1_3) = dbF (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 4).trans (final4 m c), ((h.1 c).1 5).trans (final5 m c), ((h.1 c).1 6).trans (final6 m c),
    ((h.1 c).1 7).trans (final7 m c), h.2.1 c⟩) (θ_run_and (run_post m ρ) (frame m ρ))

end Cert.KernelIdeal.Conv

end
-- ==== Proof.ConvReference.lean ====
/-
  The reference's four results at the extended reals, entry by entry: the same functions of the arguments as the
  kernel's (`ConvArrays`). The reference differentiates a sum of 31 shifted products, so its input gradient is a sum of
  31 padded products (`dzSum`) and its weight gradient a sum of 31 padded rows (`dwSum`), taken from the last tap on.
-/
module

public import proofs.«01_k».proof.Proof.Gen.ReferenceIdeal.Run
public import proofs.«01_k».proof.Proof.ConvArrays

@[expose] public section

set_option maxRecDepth 16384

noncomputable section

namespace Cert.ReferenceIdeal.Conv

open Cert.ReferenceIdeal Cert.ReferenceIdeal.Gen Cert.ReferenceIdeal.Value Idealize.ShloMosaic.TcCoe Idealize.ShloMosaic.ValueIdx
open Idealize.ShloMosaic hiding ix0 ix1 ix2
open Idealize.ShloMosaic.StableHlo Idealize.SL.Sem
open Cert.KernelIdeal.Conv (colz colz_of under dzAt dwAt sg gated valU gateU dzF daF dgF dwF dbF)
open scoped BigOperators

theorem pads_col (q : ℕ) (hq : q < 31) : S2048x512.Pads (![q, 0] : Fin 2 → ℕ) ![30 - q, 0] ![0, 0] S2078x512 :=
  ⟨rfl, fun a => by
    match a with
    | ⟨0, _⟩ => show 2078 = q + 2048 + 2047 * 0 + (30 - q); omega
    | ⟨1, _⟩ => rfl⟩

theorem pads_row (q : ℕ) (hq : q < 31) : S1x512.Pads (![q, 0] : Fin 2 → ℕ) ![30 - q, 0] ![0, 0] S31x512 :=
  ⟨rfl, fun a => by
    match a with
    | ⟨0, _⟩ => show 31 = q + 1 + 0 * 0 + (30 - q); omega
    | ⟨1, _⟩ => rfl⟩

theorem slices_tap (q : ℕ) (hq : q < 31) : S31x512.Slices ![q, 0] S1x512 :=
  ⟨rfl, fun a => by fin_cases a; exacts [(by show q + 1 ≤ 31; omega), (by show 0 + 512 ≤ 512; omega)]⟩

theorem slices_shift (q : ℕ) (hq : q < 31) : S2078x512.Slices ![q, 0] S2048x512 :=
  ⟨rfl, fun a => by fin_cases a; exacts [(by show q + 2048 ≤ 2078; omega), (by show 0 + 512 ≤ 512; omega)]⟩

variable (V0 : Valuation τ sig (Elt Ideal))

abbrev rD : FVec Ideal S2048x512 .f32 := V0 (Proc.devRef .tc main_arg0)
abbrev rU : FVec Ideal S2048x7680 .bf16 := V0 (Proc.devRef .tc main_arg1)
abbrev rW : FVec Ideal S31x512 .f32 := V0 (Proc.devRef .tc main_arg2)

/-- Tap `q`'s product with the cotangent, padded to where the tap's shift put it. -/
def dzTerm (q : ℕ) (hq : q < 31) : FVec Ideal S2078x512 .f32 :=
  pad S2078x512 ![q, 0] ![30 - q, 0] ![0, 0] (mulf (broadcastInDim S2048x512 ![0, 1] bcast_S1x512_S2048x512_0_1
    (broadcastInDim S1x512 ![1] bcast_S512_S1x512_1 (shapeCast S512 (extractStridedSlice S1x512 ![q, 0] (rW V0) (slices_tap q hq)) shapeCasts_S1x512_S512)))
    (shapeCast S2048x512 (rD V0) shapeCasts_S2048x512_S2048x512)) (constant S_ .f32 0x00000000#32) (pads_col q hq) h_S_

/-- The sum of the padded products of the taps `30, …, 30 - n`. -/
def dzSum : (n : ℕ) → n < 31 → FVec Ideal S2078x512 .f32
  | 0, _ => dzTerm V0 30 (by omega)
  | n + 1, h => addf (dzSum n (by omega)) (dzTerm V0 (29 - n) (by omega))

theorem v576_eq : res_main_v576 V0 = dzSum V0 30 (by omega) := by
  unfold res_main_v576 res_main_v433
  rfl

/-- Tap `q`'s row of the weight's gradient, in its place. -/
def dwTerm (q : ℕ) (hq : q < 31) : FVec Ideal S31x512 .f32 :=
  pad S31x512 ![q, 0] ![30 - q, 0] ![0, 0] (broadcastInDim S1x512 ![1] bcast_S512_S1x512_1
    (Host.reduceAdd (shapeCast S1x512 (Host.reduceAdd (mulf (shapeCast S2048x512 (rD V0) shapeCasts_S2048x512_S2048x512)
      (extractStridedSlice S2048x512 ![q, 0] (res_main_v16 V0) (slices_shift q hq))) (constant S_ .f32 0x00000000#32) reducesTo_S2048x512_S512_d0 h_S_)
      shapeCasts_S512_S1x512) (constant S_ .f32 0x00000000#32) reducesTo_S1x512_S512_d0 h_S_)) (constant S_ .f32 0x00000000#32) (pads_row q hq) h_S_

def dwSum : (n : ℕ) → n < 31 → FVec Ideal S31x512 .f32
  | 0, _ => dwTerm V0 30 (by omega)
  | n + 1, h => addf (dwSum n (by omega)) (dwTerm V0 (29 - n) (by omega))

theorem v568_eq : res_main_v568 V0 = dwSum V0 29 (by omega) := by
  unfold res_main_v568 res_main_v458 res_main_v348
  rfl

theorem ct_apply (i : S2048x512.Idx) : shapeCast S2048x512 (rD V0) shapeCasts_S2048x512_S2048x512 i = rD V0 i :=
  shapeCast_apply _ _ _ _ rfl

theorem dzTerm_apply (q : ℕ) (hq : q < 31) (r : Fin 2048) (c : Fin 512) :
    dzTerm V0 q hq (ix2 ⟨30 + r.val, by omega⟩ c) = colz (n := 31) (rW V0) c q * colz (n := 2048) (rD V0) c (r.val + (30 - q)) := by
  unfold dzTerm
  rw [colz_of _ _ _ hq]
  by_cases h : r.val + (30 - q) < 2048
  · rw [colz_of _ _ _ h]
    refine (pad_apply_of_inside _ _ _ _ _ _ _ _ (ix2 ⟨r.val + (30 - q), h⟩ c) fun a => ?_).trans ?_
    · match a with
      | ⟨0, _⟩ => show 30 + r.val = q + (r.val + (30 - q)) * 1; omega
      | ⟨1, _⟩ => show c.val = 0 + c.val * 1; omega
    · rw [mulf_apply]
      refine congrArg₂ (· * ·) ?_ (ct_apply V0 _)
      refine (broadcastInDim_apply _ _ _ _ (ix2 (0 : Fin 1) c) fun a => ?_).trans ((broadcastInDim_apply _ _ _ _ (ix1 c) fun a => ?_).trans
        ((shapeCast_apply _ _ _ (ix2 (0 : Fin 1) c) ?_).trans (extractStridedSlice_apply _ _ _ _ _ fun a => ?_)))
      · match a with
        | ⟨0, _⟩ => rfl
        | ⟨1, _⟩ => rfl
      · match a with
        | ⟨0, _⟩ => rfl
      · exact (Shape.rowMajor_val_two (ix2 (0 : Fin 1) c)).trans ((by show 0 * 512 + c.val = c.val; omega : _ = _).trans (Shape.rowMajor_val_one (ix1 c)).symm)
      · match a with
        | ⟨0, _⟩ => rfl
        | ⟨1, _⟩ => show c.val = 0 + c.val; omega
  · rw [show colz (n := 2048) (rD V0) c (r.val + (30 - q)) = 0 from dif_neg h, mul_zero]
    refine (pad_apply_of_not_inside _ _ _ _ _ _ _ _ (0 : Fin 2) ?_).trans Ideal.ofBits_zero_f32
    rintro ⟨h0, -, h2⟩
    change q ≤ 30 + r.val at h0
    change (30 + r.val - q) / 1 < 2048 at h2
    omega

theorem dzSum_apply (n : ℕ) (hn : n < 31) (r : Fin 2048) (c : Fin 512) :
    dzSum V0 n hn (ix2 ⟨30 + r.val, by omega⟩ c)
      = ∑ i : Fin (n + 1), colz (n := 31) (rW V0) c (30 - i.val) * colz (n := 2048) (rD V0) c (r.val + i.val) := by
  induction n with
  | zero => simp only [dzSum, dzTerm_apply]; simp
  | succ k ih =>
    rw [Fin.sum_univ_castSucc]
    show dzSum V0 k _ _ + dzTerm V0 (29 - k) _ _ = _
    rw [ih (by omega), dzTerm_apply]
    congr 1
    show colz (n := 31) (rW V0) c (29 - k) * colz (n := 2048) (rD V0) c (r.val + (30 - (29 - k))) = colz (n := 31) (rW V0) c (30 - (k + 1)) * colz (n := 2048) (rD V0) c (r.val + (k + 1))
    rw [show 30 - (k + 1) = 29 - k by omega, show 30 - (29 - k) = k + 1 by omega]

/-- The cotangent of the convolution's input. -/
theorem dz_eq : res_main_v584 V0 = dzF (rD V0) (rW V0) := by
  funext i
  obtain ⟨r, c, rfl⟩ : ∃ (r : Fin 2048) (c : Fin 512), i = ix2 r c := ⟨i 0, i 1, ValueIdx.eq_ix2 i⟩
  unfold res_main_v584
  rw [v576_eq]
  refine (extractStridedSlice_apply _ _ _ _ (ix2 ⟨30 + r.val, by omega⟩ c) fun a => ?_).trans (dzSum_apply V0 30 (by omega) r c)
  match a with
  | ⟨0, _⟩ => rfl
  | ⟨1, _⟩ => show c.val = 0 + c.val; omega

theorem val_eq : res_main_v2 V0 = valU (rU V0) := by
  funext i
  refine extractStridedSlice_apply ![0, 0] (rU V0) slices_S2048x7680_S2048x512_0_0 _ _ fun a => ?_
  match a with
  | ⟨0, _⟩ => show (i 0).val = 0 + (i 0).val; omega
  | ⟨1, _⟩ => show (i 1).val = 0 + (i 1).val; omega

theorem gate_eq (i : S2048x512.Idx) : res_main_v10 V0 i = sg (gateU (rU V0) i) := by
  have e : extractStridedSlice S2048x512 ![0, 512] (rU V0) slices_S2048x7680_S2048x512_0_512 i = gateU (rU V0) i := by
    refine extractStridedSlice_apply _ _ _ _ _ fun a => ?_
    match a with
    | ⟨0, _⟩ => show (i 0).val = 0 + (i 0).val; omega
    | ⟨1, _⟩ => rfl
  show Ideal.div (Ideal.ofBits .f32 0x3F800000#32) (Ideal.ofBits .f32 0x3F800000#32
    + Ideal.exp (-(extractStridedSlice S2048x512 ![0, 512] (rU V0) slices_S2048x7680_S2048x512_0_512 i))) = _
  rw [e, Ideal.ofBits_one_f32]
  rfl

/-- The gated input under its zero rows. -/
theorem z_apply (s : Fin 2078) (c : Fin 512) :
    res_main_v16 V0 (ix2 s c) = under (colz (n := 2048) (gated (valU (rU V0)) (gateU (rU V0))) c) s.val := by
  unfold res_main_v16 under
  by_cases h : s.val < 30
  · rw [if_pos h]
    refine (concatenate_pair_apply_left (t := S2078x512) (0 : Fin 2) _ _ concatenates_S30x512_S2048x512_S2078x512_d0 (ix2 s c) rfl (ix2 (⟨s.val, h⟩ : Fin 30) c) fun b => ?_).trans ?_
    · match b with
      | ⟨0, _⟩ => rfl
      | ⟨1, _⟩ => rfl
    · exact Ideal.ofBits_zero_f32
  · rw [if_neg h, colz_of _ _ _ (by omega)]
    refine (concatenate_pair_apply_right (t := S2078x512) (0 : Fin 2) _ _ concatenates_S30x512_S2048x512_S2078x512_d0 (ix2 s c) rfl rfl (ix2 (⟨s.val - 30, by omega⟩ : Fin 2048) c)
      (fun b hb => ?_) ?_).trans ?_
    · match b with
      | ⟨0, _⟩ => exact absurd rfl hb
      | ⟨1, _⟩ => rfl
    · show s.val - 30 + 30 = s.val; omega
    · rw [mulf_apply, val_eq, gate_eq]
      rfl

theorem reduce_row (x : FVec Ideal S1x512 .f32) (c : Fin 512) :
    Host.reduceAdd x (constant S_ .f32 0x00000000#32) reducesTo_S1x512_S512_d0 h_S_ (ix1 c) = x (ix2 0 c) := by
  refine (Ideal.hostReduceAdd_r2_a0 _ _ _ _).trans ?_
  rw [Fin.sum_univ_one]
  exact (congrArg (· + _) Ideal.ofBits_zero_f32).trans (zero_add _)

theorem reduce_col (x : FVec Ideal S2048x512 .f32) (c : Fin 512) :
    Host.reduceAdd x (constant S_ .f32 0x00000000#32) reducesTo_S2048x512_S512_d0 h_S_ (ix1 c) = ∑ t : Fin 2048, x (ix2 t c) := by
  refine (Ideal.hostReduceAdd_r2_a0 _ _ _ _).trans ?_
  exact (congrArg (· + _) Ideal.ofBits_zero_f32).trans (zero_add _)

theorem row_of_flat {α : Type} (x : S512.Idx → α) (c : Fin 512) : shapeCast S1x512 x shapeCasts_S512_S1x512 (ix2 0 c) = x (ix1 c) :=
  shapeCast_apply _ _ _ _ ((Shape.rowMajor_val_one (ix1 c)).trans (((Shape.rowMajor_val_two (ix2 (0 : Fin 1) c)).trans (by show 0 * 512 + c.val = c.val; omega)).symm))

theorem dwTerm_apply (q : ℕ) (hq : q < 31) (j : Fin 31) (c : Fin 512) :
    dwTerm V0 q hq (ix2 j c) = if j.val = q then dwAt (colz (n := 2048) (rD V0) c) (colz (n := 2048) (gated (valU (rU V0)) (gateU (rU V0))) c) j.val else 0 := by
  unfold dwTerm
  by_cases h : j.val = q
  · subst h
    rw [if_pos rfl]
    refine (pad_apply_of_inside _ _ _ _ _ _ _ _ (ix2 (0 : Fin 1) c) fun a => ?_).trans ?_
    · match a with
      | ⟨0, _⟩ => show j.val = j.val + 0 * 1; omega
      | ⟨1, _⟩ => show c.val = 0 + c.val * 1; omega
    · refine (broadcastInDim_apply _ _ _ _ (ix1 c) fun a => ?_).trans ?_
      · match a with
        | ⟨0, _⟩ => rfl
      rw [reduce_row, row_of_flat, reduce_col]
      unfold dwAt
      refine Finset.sum_congr rfl fun t _ => ?_
      rw [mulf_apply]
      refine congrArg₂ (· * ·) ((ct_apply V0 _).trans (colz_of _ _ _ t.isLt).symm) ?_
      refine (extractStridedSlice_apply _ _ _ _ (ix2 (⟨t.val + j.val, by omega⟩ : Fin 2078) c) fun a => ?_).trans (z_apply V0 _ c)
      match a with
      | ⟨0, _⟩ => show t.val + j.val = j.val + t.val; omega
      | ⟨1, _⟩ => show c.val = 0 + c.val; omega
  · rw [if_neg h]
    refine (pad_apply_of_not_inside _ _ _ _ _ _ _ _ (0 : Fin 2) ?_).trans Ideal.ofBits_zero_f32
    rintro ⟨h0, -, h2⟩
    change q ≤ j.val at h0
    change (j.val - q) / 1 < 1 at h2
    omega

theorem dwSum_apply (n : ℕ) (hn : n < 31) (j : Fin 31) (c : Fin 512) :
    dwSum V0 n hn (ix2 j c) = if 30 - n ≤ j.val then dwAt (colz (n := 2048) (rD V0) c) (colz (n := 2048) (gated (valU (rU V0)) (gateU (rU V0))) c) j.val else 0 := by
  induction n with
  | zero =>
    show dwTerm V0 30 _ _ = _
    rw [dwTerm_apply]
    exact if_congr (by omega) rfl rfl
  | succ k ih =>
    show dwSum V0 k _ _ + dwTerm V0 (29 - k) _ _ = _
    rw [ih (by omega), dwTerm_apply]
    by_cases h : j.val = 29 - k
    · rw [if_neg (by omega), if_pos h, if_pos (by omega), zero_add]
    · rw [if_neg h, add_zero]
      exact if_congr (by omega) rfl rfl

theorem dw_all (j : Fin 31) (c : Fin 512) : addf (res_main_v568 V0) (dwTerm V0 0 (by omega)) (ix2 j c)
    = dwAt (colz (n := 2048) (rD V0) c) (colz (n := 2048) (gated (valU (rU V0)) (gateU (rU V0))) c) j.val := by
  rw [v568_eq]
  exact (dwSum_apply V0 30 (by omega) j c).trans (if_pos (by omega))

/-! ## The four results -/

theorem sl_pad_da (x : FVec Ideal S2048x512 .bf16) (r : Fin 2048) (c : Fin 512) :
    pad S2048x7680 ![0, 0] ![0, 7168] ![0, 0] x (constant S_ .bf16 0x0000#16) pads_S2048x512_S2048x7680_000_071680 h_S_ (ix2 r ⟨c.val, by omega⟩) = x (ix2 r c)
    ∧ pad S2048x7680 ![0, 0] ![0, 7168] ![0, 0] x (constant S_ .bf16 0x0000#16) pads_S2048x512_S2048x7680_000_071680 h_S_ (ix2 r ⟨512 + c.val, by omega⟩) = 0 := by
  refine ⟨pad_apply_of_inside _ _ _ _ _ _ _ _ (ix2 r c) fun a => ?_, (pad_apply_of_not_inside _ _ _ _ _ _ _ _ (1 : Fin 2) ?_).trans Ideal.ofBits_zero_bf16⟩
  · match a with
    | ⟨0, _⟩ => show r.val = 0 + r.val * 1; omega
    | ⟨1, _⟩ => show c.val = 0 + c.val * 1; omega
  · rintro ⟨h0, -, h2⟩
    change (512 + c.val - 0) / 1 < 512 at h2
    omega

theorem sl_pad_dg (x : FVec Ideal S2048x512 .bf16) (r : Fin 2048) (c : Fin 512) :
    pad S2048x7680 ![0, 512] ![0, 6656] ![0, 0] x (constant S_ .bf16 0x0000#16) pads_S2048x512_S2048x7680_000_51266560 h_S_ (ix2 r ⟨c.val, by omega⟩) = 0
    ∧ pad S2048x7680 ![0, 512] ![0, 6656] ![0, 0] x (constant S_ .bf16 0x0000#16) pads_S2048x512_S2048x7680_000_51266560 h_S_ (ix2 r ⟨512 + c.val, by omega⟩) = x (ix2 r c) := by
  refine ⟨(pad_apply_of_not_inside _ _ _ _ _ _ _ _ (1 : Fin 2) ?_).trans Ideal.ofBits_zero_bf16, pad_apply_of_inside _ _ _ _ _ _ _ _ (ix2 r c) fun a => ?_⟩
  · rintro ⟨h0, -, h2⟩
    change 512 ≤ c.val at h0
    omega
  · match a with
    | ⟨0, _⟩ => show r.val = 0 + r.val * 1; omega
    | ⟨1, _⟩ => show 512 + c.val = 512 + c.val * 1; omega

theorem out_da : extractStridedSlice S2048x512 ![0, 0] (res_main_v592 V0) slices_S2048x7680_S2048x512_0_0 = daF (rD V0) (rU V0) (rW V0) := by
  funext i
  obtain ⟨r, c, rfl⟩ : ∃ (r : Fin 2048) (c : Fin 512), i = ix2 r c := ⟨i 0, i 1, ValueIdx.eq_ix2 i⟩
  refine (extractStridedSlice_apply _ _ _ _ (ix2 r (⟨c.val, by omega⟩ : Fin 7680)) fun a => ?_).trans ?_
  · match a with
    | ⟨0, _⟩ => show r.val = 0 + r.val; omega
    | ⟨1, _⟩ => show c.val = 0 + c.val; omega
  · unfold res_main_v592
    refine (congrArg₂ (· + ·) (sl_pad_dg _ r c).1 (sl_pad_da _ r c).1).trans ?_
    rw [zero_add, truncf_apply, mulf_apply, dz_eq, gate_eq]
    rfl

theorem out_dg : extractStridedSlice S2048x512 ![0, 512] (res_main_v592 V0) slices_S2048x7680_S2048x512_0_512 = dgF (rD V0) (rU V0) (rW V0) := by
  funext i
  obtain ⟨r, c, rfl⟩ : ∃ (r : Fin 2048) (c : Fin 512), i = ix2 r c := ⟨i 0, i 1, ValueIdx.eq_ix2 i⟩
  refine (extractStridedSlice_apply _ _ _ _ (ix2 r (⟨512 + c.val, by omega⟩ : Fin 7680)) fun a => ?_).trans ?_
  · match a with
    | ⟨0, _⟩ => show r.val = 0 + r.val; omega
    | ⟨1, _⟩ => rfl
  · unfold res_main_v592
    refine (congrArg₂ (· + ·) (sl_pad_dg _ r c).2 (sl_pad_da _ r c).2).trans ?_
    rw [add_zero, truncf_apply, mulf_apply, mulf_apply, mulf_apply, dz_eq, val_eq]
    refine Eq.trans (b := valU (rU V0) (ix2 r c) * dzF (rD V0) (rW V0) (ix2 r c) * (sg (gateU (rU V0) (ix2 r c)) * (Ideal.ofBits .f32 0x3F800000#32 - sg (gateU (rU V0) (ix2 r c))))) ?_ ?_
    · rw [← gate_eq]
      rfl
    rw [Ideal.ofBits_one_f32]
    unfold dgF
    rw [mul_comm (valU (rU V0) (ix2 r c)), ← mul_assoc]

theorem out_dw : pad S32x512 ![0, 0] ![1, 0] ![0, 0] (addf (res_main_v568 V0) (dwTerm V0 0 (by omega))) (sitofp .f32 (constantI S_ 32 0#32) : FVec Ideal S_ .f32)
    pads_S31x512_S32x512_010_000 h_S_ = dwF (rD V0) (rU V0) := by
  funext i
  obtain ⟨j, c, rfl⟩ : ∃ (j : Fin 32) (c : Fin 512), i = ix2 j c := ⟨i 0, i 1, ValueIdx.eq_ix2 i⟩
  unfold dwF
  by_cases h : j.val < 31
  · refine Eq.trans ?_ (if_pos h).symm
    refine (pad_apply_of_inside _ _ _ _ _ _ _ _ (ix2 (⟨j.val, h⟩ : Fin 31) c) fun a => ?_).trans (dw_all V0 ⟨j.val, h⟩ c)
    match a with
    | ⟨0, _⟩ => show j.val = 0 + j.val * 1; omega
    | ⟨1, _⟩ => show c.val = 0 + c.val * 1; omega
  · refine Eq.trans ?_ (if_neg h).symm
    refine (pad_apply_of_not_inside _ _ _ _ _ _ _ _ (0 : Fin 2) ?_).trans ?_
    · rintro ⟨h0, -, h2⟩
      change (j.val - 0) / 1 < 31 at h2
      omega
    · show (((0#32 : BitVec 32).toInt : ℝ) : EReal) = 0
      simp

theorem out_db : shapeCast S1x512 (Host.reduceAdd (shapeCast S1x512 (Host.reduceAdd (res_main_v239 V0) (constant S_ .f32 0x00000000#32) reducesTo_S2048x512_S512_d0 h_S_)
    shapeCasts_S512_S1x512) (constant S_ .f32 0x00000000#32) reducesTo_S1x512_S512_d0 h_S_) shapeCasts_S512_S1x512 = dbF (rD V0) := by
  funext i
  obtain ⟨j, c, rfl⟩ : ∃ (j : Fin 1) (c : Fin 512), i = ix2 j c := ⟨i 0, i 1, ValueIdx.eq_ix2 i⟩
  obtain rfl : j = 0 := Subsingleton.elim _ _
  rw [row_of_flat, reduce_row, row_of_flat, reduce_col]
  exact Finset.sum_congr rfl fun t _ => ct_apply V0 _

/-- The run of the reference: the same functions of its arguments as the kernel's. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v593) = daF (m ((c.tc : Thread nD τ).loc main_arg0)) (m ((c.tc : Thread nD τ).loc main_arg1)) (m ((c.tc : Thread nD τ).loc main_arg2))
      ∧ r.2.mem ((c.tc : Thread nD τ).loc main_v594) = dgF (m ((c.tc : Thread nD τ).loc main_arg0)) (m ((c.tc : Thread nD τ).loc main_arg1)) (m ((c.tc : Thread nD τ).loc main_arg2))
      ∧ r.2.mem ((c.tc : Thread nD τ).loc main_v595) = dwF (m ((c.tc : Thread nD τ).loc main_arg0)) (m ((c.tc : Thread nD τ).loc main_arg1))
      ∧ r.2.mem ((c.tc : Thread nD τ).loc main_v596) = dbF (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out_da (launchContents m c)), (h c).2.1.trans (out_dg (launchContents m c)),
    (h c).2.2.1.trans (out_dw (launchContents m c)), (h c).2.2.2.1.trans (out_db (launchContents m c)), (h c).2.2.2.2⟩) (Value.run (F := Ideal) m ρ)

end Cert.ReferenceIdeal.Conv

end
-- ==== Proof.ConvClaim.lean ====
/- The claims about the convolution's backward pass, from the runs of the two programs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.ConvReference
public import Idealize.ShloMosaic.Lib.Quiescent

@[expose] public section

noncomputable section

namespace Cert.Conv

open Idealize.ShloMosaic Idealize.SL.Sem

/-- The printed program and its idealised one have the same pieces: nothing was rewritten. -/
theorem pieces_eq : @Cert.Kernel.defs₀ Bits _ _ = @Cert.KernelIdeal.defs₀ Bits _ _ := by
  funext p l a
  unfold Cert.Kernel.defs₀ Cert.KernelIdeal.defs₀
  cases p
  · match l, a with
    | 0, (t, s) => rfl
  · rfl
  · rfl

theorem defs_eq : @Cert.Kernel.defs Bits _ _ = @Cert.KernelIdeal.defs Bits _ _ := by
  unfold Cert.Kernel.defs Cert.KernelIdeal.defs
  rw [pieces_eq]
  rfl

theorem kernel_frame : Cert.quiescent_Kernel := fun m ρ _ => by
  rw [defs_eq]
  exact Cert.KernelIdeal.Conv.frame (F := Bits) m ρ

theorem kernelIdeal_frame : Cert.quiescent_KernelIdeal := fun m ρ _ => Cert.KernelIdeal.Conv.frame (F := Ideal) m ρ

theorem reference_frame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Kernel and reference leave the same four arrays. -/
theorem same_values : Cert.algebraic_KernelIdeal_ReferenceIdeal := fun m ρ m' ρ' _ hag =>
  ⟨_, _, _, _, Cert.KernelIdeal.Conv.run m ρ, (θ_run Cert.ReferenceIdeal.defs _ _).mono (fun r h c => by
    obtain ⟨h0, h1, h2, h3, hargs⟩ := h c
    obtain ⟨e0, e1, e2⟩ := hag c
    rw [e0, e1, e2] at h0 h1
    rw [e0, e1] at h2
    rw [e0] at h3
    exact ⟨h0, h1, h2, h3, hargs⟩) (Cert.ReferenceIdeal.Conv.run m' ρ')⟩

end Cert.Conv

end
-- ==== Proof.Products.lean ====
/- Products of matrices over the extended reals, read at an entry: plain, with the second factor transposed, with the
   first factor transposed; for the matrix unit's product into a zero accumulator and for the host's `dot_general`. -/
module

public import Idealize.ShloMosaic.Lib.MatmulPlain
public import Idealize.ShloMosaic.Lib.StackMember
public import Idealize.ShloMosaic.Lib.Pipeline.Value

@[expose] public section

noncomputable section

namespace Cert.Products

open Idealize.ShloMosaic
open Idealize.ShloMosaic.ValueIdx

variable {M K N : ℕ} {φ₁ φ₂ : FTy}

/-- The sum over a one-axis contraction's indices, with both factors named by the contracted coordinate. -/
theorem sum_of {sl sr so : Shape} (d : DotDims sl sr so) (K : ℕ) (h1 : d.contr.rank = 1) (h2 : d.contr.size ⟨0, by omega⟩ = K)
    (x : sl.Idx → EReal) (y : sr.Idx → EReal) (j : so.Idx) (L : Fin K → sl.Idx) (R : Fin K → sr.Idx)
    (hL : ∀ k, d.lhsIdx j ((contrEquiv1 d K h1 h2).symm k) = L k) (hR : ∀ k, d.rhsIdx j ((contrEquiv1 d K h1 h2).symm k) = R k) :
    ∑ k : d.contr.Idx, x (d.lhsIdx j k) * y (d.rhsIdx j k) = ∑ k : Fin K, x (L k) * y (R k) := by
  rw [← Equiv.sum_comp (contrEquiv1 d K h1 h2).symm]
  exact Finset.sum_congr rfl fun k _ => by rw [hL, hR]

section plain
variable (w : DotDims.WF ⟨2, ![M, K]⟩ ⟨2, ![K, N]⟩ ⟨2, ![M, N]⟩ [1] [0] [0] [1] [] [])

theorem nn_sum (x : (⟨2, ![M, K]⟩ : Shape).Idx → EReal) (y : (⟨2, ![K, N]⟩ : Shape).Idx → EReal) (r : Fin M) (c : Fin N) :
    (let d : DotDims _ _ _ := ⟨[1], [0], [0], [1], [], [], w⟩; ∑ k : d.contr.Idx, x (d.lhsIdx (ix2 r c) k) * y (d.rhsIdx (ix2 r c) k))
      = ∑ k : Fin K, x (ix2 r k) * y (ix2 k c) := by
  refine sum_of (⟨[1], [0], [0], [1], [], [], w⟩ : DotDims _ _ _) K rfl rfl x y _ _ _ (fun k => ?_) fun k => ?_ <;>
    (have hk := contrEquiv1_symm_val (⟨[1], [0], [0], [1], [], [], w⟩ : DotDims _ _ _) K rfl rfl k
     funext a; apply Fin.ext)
  · match a with
    | ⟨0, _⟩ => rfl
    | ⟨1, _⟩ => exact hk
  · match a with
    | ⟨0, _⟩ => exact hk
    | ⟨1, _⟩ => rfl

theorem nn (p : Option ContractPrecision) (x : FVec Ideal ⟨2, ![M, K]⟩ φ₁) (y : FVec Ideal ⟨2, ![K, N]⟩ φ₂) (r : Fin M) (c : Fin N) :
    matmul (⟨[1], [0], [0], [1], [], [], w⟩ : DotDims _ _ _) p x y (constant ⟨2, ![M, N]⟩ .f32 0x00000000#32) (ix2 r c)
      = ∑ k : Fin K, x (ix2 r k) * y (ix2 k c) := by
  rw [matmul, Ideal.matmul_constant_zero_apply]
  exact nn_sum w x y r c

theorem host_nn (p : Option ContractPrecision) (x : FVec Ideal ⟨2, ![M, K]⟩ φ₁) (y : FVec Ideal ⟨2, ![K, N]⟩ φ₂) (r : Fin M) (c : Fin N) :
    Host.dotGeneral (⟨[1], [0], [0], [1], [], [], w⟩ : DotDims _ _ _) p x y (ix2 r c) = ∑ k : Fin K, x (ix2 r k) * y (ix2 k c) := by
  rw [Host.dotGeneral, Ideal.dotGeneral_apply]
  exact nn_sum w x y r c

end plain

section secondTransposed
variable (w : DotDims.WF ⟨2, ![M, K]⟩ ⟨2, ![N, K]⟩ ⟨2, ![M, N]⟩ [1] [1] [0] [0] [] [])

theorem nt_sum (x : (⟨2, ![M, K]⟩ : Shape).Idx → EReal) (y : (⟨2, ![N, K]⟩ : Shape).Idx → EReal) (r : Fin M) (c : Fin N) :
    (let d : DotDims _ _ _ := ⟨[1], [1], [0], [0], [], [], w⟩; ∑ k : d.contr.Idx, x (d.lhsIdx (ix2 r c) k) * y (d.rhsIdx (ix2 r c) k))
      = ∑ k : Fin K, x (ix2 r k) * y (ix2 c k) := by
  refine sum_of (⟨[1], [1], [0], [0], [], [], w⟩ : DotDims _ _ _) K rfl rfl x y _ _ _ (fun k => ?_) fun k => ?_ <;>
    (have hk := contrEquiv1_symm_val (⟨[1], [1], [0], [0], [], [], w⟩ : DotDims _ _ _) K rfl rfl k
     funext a; apply Fin.ext)
  · match a with
    | ⟨0, _⟩ => rfl
    | ⟨1, _⟩ => exact hk
  · match a with
    | ⟨0, _⟩ => rfl
    | ⟨1, _⟩ => exact hk

theorem nt (p : Option ContractPrecision) (x : FVec Ideal ⟨2, ![M, K]⟩ φ₁) (y : FVec Ideal ⟨2, ![N, K]⟩ φ₂) (r : Fin M) (c : Fin N) :
    matmul (⟨[1], [1], [0], [0], [], [], w⟩ : DotDims _ _ _) p x y (constant ⟨2, ![M, N]⟩ .f32 0x00000000#32) (ix2 r c)
      = ∑ k : Fin K, x (ix2 r k) * y (ix2 c k) := by
  rw [matmul, Ideal.matmul_constant_zero_apply]
  exact nt_sum w x y r c

theorem host_nt (p : Option ContractPrecision) (x : FVec Ideal ⟨2, ![M, K]⟩ φ₁) (y : FVec Ideal ⟨2, ![N, K]⟩ φ₂) (r : Fin M) (c : Fin N) :
    Host.dotGeneral (⟨[1], [1], [0], [0], [], [], w⟩ : DotDims _ _ _) p x y (ix2 r c) = ∑ k : Fin K, x (ix2 r k) * y (ix2 c k) := by
  rw [Host.dotGeneral, Ideal.dotGeneral_apply]
  exact nt_sum w x y r c

end secondTransposed

section firstTransposed
variable (w : DotDims.WF ⟨2, ![K, M]⟩ ⟨2, ![K, N]⟩ ⟨2, ![M, N]⟩ [0] [0] [1] [1] [] [])

theorem tn_sum (x : (⟨2, ![K, M]⟩ : Shape).Idx → EReal) (y : (⟨2, ![K, N]⟩ : Shape).Idx → EReal) (r : Fin M) (c : Fin N) :
    (let d : DotDims _ _ _ := ⟨[0], [0], [1], [1], [], [], w⟩; ∑ k : d.contr.Idx, x (d.lhsIdx (ix2 r c) k) * y (d.rhsIdx (ix2 r c) k))
      = ∑ k : Fin K, x (ix2 k r) * y (ix2 k c) := by
  refine sum_of (⟨[0], [0], [1], [1], [], [], w⟩ : DotDims _ _ _) K rfl rfl x y _ _ _ (fun k => ?_) fun k => ?_ <;>
    (have hk := contrEquiv1_symm_val (⟨[0], [0], [1], [1], [], [], w⟩ : DotDims _ _ _) K rfl rfl k
     funext a; apply Fin.ext)
  · match a with
    | ⟨0, _⟩ => exact hk
    | ⟨1, _⟩ => rfl
  · match a with
    | ⟨0, _⟩ => exact hk
    | ⟨1, _⟩ => rfl

theorem tn (p : Option ContractPrecision) (x : FVec Ideal ⟨2, ![K, M]⟩ φ₁) (y : FVec Ideal ⟨2, ![K, N]⟩ φ₂) (r : Fin M) (c : Fin N) :
    matmul (⟨[0], [0], [1], [1], [], [], w⟩ : DotDims _ _ _) p x y (constant ⟨2, ![M, N]⟩ .f32 0x00000000#32) (ix2 r c)
      = ∑ k : Fin K, x (ix2 k r) * y (ix2 k c) := by
  rw [matmul, Ideal.matmul_constant_zero_apply]
  exact tn_sum w x y r c

theorem host_tn (p : Option ContractPrecision) (x : FVec Ideal ⟨2, ![K, M]⟩ φ₁) (y : FVec Ideal ⟨2, ![K, N]⟩ φ₂) (r : Fin M) (c : Fin N) :
    Host.dotGeneral (⟨[0], [0], [1], [1], [], [], w⟩ : DotDims _ _ _) p x y (ix2 r c) = ∑ k : Fin K, x (ix2 k r) * y (ix2 k c) := by
  rw [Host.dotGeneral, Ideal.dotGeneral_apply]
  exact tn_sum w x y r c

end firstTransposed

end Cert.Products

end
-- ==== Proof.MmFf1.lean ====
/- The MLP's first product, h @ w1, block by block against the whole product. -/
module

public import proofs.«01_k».proof.Proof.Gen.Kernel2Ideal.Value
public import proofs.«01_k».proof.Proof.Gen.Reference2Ideal.Run
public import proofs.«01_k».proof.Proof.Products
public import Idealize.ShloMosaic.Lib.Pipeline.ValueKit.Basic

@[expose] public section

set_option maxRecDepth 16384

noncomputable section

namespace Cert.Kernel2Ideal.Mm

open Cert.Kernel2Ideal Cert.Kernel2Ideal.Gen Cert.Kernel2Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The product, entry by entry. -/
def prod (h : S2048x1024.Idx → EReal) (w : S1024x4096.Idx → EReal) : S2048x4096.Idx → EReal :=
  fun i => ∑ k : Fin 1024, h (ix2 (i 0) k) * w (ix2 k (i 1))

/-- Which block of each array a grid point takes. -/
theorem index0 : ∀ t : Fin cfg0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) :=
  (by decide +kernel : ∀ t : Fin grid0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4))

theorem flush0 : ∀ t : Fin cfg0.N, (cfg0.win 2).flush t = true :=
  (by decide +kernel : ∀ t : Fin grid0.N, (cfg0.win 2).flush t = true)

theorem iblk0 (c : Dev nD) (t : Fin cfg0.N) (a k : Fin 1024) (r : Fin 2048) (h : r.val = t.val / 4 * 1024 + a.val) :
    iblk m c 0 t (ix2 a k) = m ((c.tc : Thread nD τ).loc main_arg0) (ix2 r k) := by
  obtain ⟨⟨e0, e1⟩, -⟩ := index0 t
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 1024 + 1 * k.val = k.val; rw [e1]; omega

theorem iblk1 (c : Dev nD) (t : Fin cfg0.N) (k b : Fin 1024) (s : Fin 4096) (h : s.val = t.val % 4 * 1024 + b.val) :
    iblk m c 1 t (ix2 k b) = m ((c.tc : Thread nD τ).loc main_arg1) (ix2 k s) := by
  obtain ⟨-, ⟨e0, e1⟩, -⟩ := index0 t
  refine congrArg (m ((c.tc : Thread nD τ).loc main_arg1)) (funext fun x => Fin.ext ?_)
  match x with
  | ⟨0, _⟩ => show win0_1.index t 0 * 1024 + 1 * k.val = k.val; rw [e0]; omega
  | ⟨1, _⟩ => show win0_1.index t 1 * 1024 + 1 * b.val = s.val; rw [e1]; omega

theorem out_apply (x y : Vec Ideal S1024x1024 .bf16) (a b : Fin 1024) :
    out0_2 x y (ix2 a b) = ∑ k : Fin 1024, (x (ix2 a k) : EReal) * y (ix2 k b) := by
  unfold out0_2
  rw [View.canon_cons_unit_lit _ _ _ (by decide), View.ld_unit_lit _ x (by decide), View.ld_unit_lit _ y (by decide)]
  exact Products.nn (φ₁ := .bf16) (φ₂ := .bf16) _ none x y a b

theorem final (c : Dev nD) : (dats m 0 c).arrAt 2 cfg0.N = prod (m ((c.tc : Thread nD τ).loc main_arg0)) (m ((c.tc : Thread nD τ).loc main_arg1)) := by
  funext i
  obtain ⟨r, s, rfl⟩ : ∃ (r : Fin 2048) (s : Fin 4096), i = ix2 r s := ⟨i 0, i 1, ValueIdx.eq_ix2 i⟩
  let t : Fin cfg0.N := ⟨r.val / 1024 * 4 + s.val / 1024, by show _ < 8; omega⟩
  have h0 : r.val = t.val / 4 * 1024 + r.val % 1024 := by show r.val = (r.val / 1024 * 4 + s.val / 1024) / 4 * 1024 + _; omega
  have h1 : s.val = t.val % 4 * 1024 + s.val % 1024 := by show s.val = (r.val / 1024 * 4 + s.val / 1024) % 4 * 1024 + _; omega
  let a : Fin 1024 := ⟨r.val % 1024, by omega⟩
  let b : Fin 1024 := ⟨s.val % 1024, by omega⟩
  have ha : a.val = r.val % 1024 := rfl
  have hb : b.val = s.val % 1024 := rfl
  obtain ⟨-, -, e0, e1⟩ := index0 t
  have h := (blocks2 m c t (flush0 t)).trans (flushed2 m c t)
  refine Eq.trans (congrArg _ (funext fun x => Fin.ext ?_)) ((congrFun h (ix2 a b)).trans ?_)
  · match x with
    | ⟨0, _⟩ => show r.val = win0_2.index t 0 * 1024 + 1 * a.val; rw [e0]; omega
    | ⟨1, _⟩ => show s.val = win0_2.index t 1 * 1024 + 1 * b.val; rw [e1]; omega
  · refine (out_apply _ _ a b).trans (Finset.sum_congr rfl fun k _ => ?_)
    rw [iblk0 m c t a k r h0, iblk1 m c t k b s h1]

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.Kernel2Ideal.Mm

namespace Cert.Reference2Ideal.Mm

open Cert.Reference2Ideal Idealize.ShloMosaic.TcCoe Idealize.SL.Sem
open Idealize.ShloMosaic
open Idealize.ShloMosaic.ValueIdx

theorem out_eq (h : FVec Ideal S2048x1024 .bf16) (w : FVec Ideal S1024x4096 .bf16) (p q) :
    truncf .bf16 (Host.dotGeneral dot_S2048x1024_S1024x4096_S2048x4096_1_0_0_1_n_n none (extf .f32 h p) (extf .f32 w p)) q
      = Cert.Kernel2Ideal.Mm.prod h w := by
  funext i
  obtain ⟨r, s, rfl⟩ : ∃ (r : Fin 2048) (s : Fin 4096), i = ix2 r s := ⟨i 0, i 1, ValueIdx.eq_ix2 i⟩
  exact Products.host_nn (φ₁ := .f32) (φ₂ := .f32) _ none _ _ r s

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v3) = Cert.Kernel2Ideal.Mm.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _ _ _), (h c).2⟩) (Cert.Reference2Ideal.Value.run m ρ)

end Cert.Reference2Ideal.Mm

end
-- ==== Proof.MmDff2.lean ====
/- The cotangent of the MLP's hidden layer: (ct @ w2ᵀ) times the derivative of the squared rectifier. -/
module

public import proofs.«01_k».proof.Proof.Gen.Kernel3Ideal.Value
public import proofs.«01_k».proof.Proof.Gen.Reference3Ideal.Run
public import proofs.«01_k».proof.Proof.Products
public import Idealize.ShloMosaic.Lib.Pipeline.ValueKit.Basic

@[expose] public section

set_option maxRecDepth 16384

noncomputable section

namespace Cert.Kernel3Ideal.Mm

open Cert.Kernel3Ideal Cert.Kernel3Ideal.Gen Cert.Kernel3Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The product of the cotangent with the transposed weights, times the activation's slope 2·max(f, 0), entry by entry. -/
def prod (ct : S2048x1024.Idx → EReal) (w : S4096x1024.Idx → EReal) (f : S2048x4096.Idx → EReal) : S2048x4096.Idx → EReal :=
  fun i => (∑ k : Fin 1024, ct (ix2 (i 0) k) * w (ix2 (i 1) k))
    * (Ideal.ofBits .f32 0x40000000#32 * max (f i) (Ideal.ofBits .f32 0x00000000#32))

/-- Which block of each array a grid point takes. -/
theorem index0 : ∀ t : Fin cfg0.N, (win0_0.index t 0 = t.val / 4 ∧ win0_0.index t 1 = 0) ∧ (win0_1.index t 0 = t.val % 4 ∧ win0_1.index t 1 = 0)
    ∧ (win0_2.index t 0 = t.val / 4 ∧ win0_2.index t 1 = t.val % 4) ∧ (win0_3.index t 0 = t.val / 4 ∧ win0_3.index t 1 = t.val % 4) :=
  (by decide +kernel : ∀ t : Fin grid0.N, (win0_0.index t 0 = t.val / 4 ∧ win0_0.index t 1 = 0) ∧ (win0_1.index t 0 = t.val % 4 ∧ win0_1.index t 1 = 0)
    ∧ (win0_2.index t 0 = t.val / 4 ∧ win0_2.index t 1 = t.val % 4) ∧ (win0_3.index t 0 = t.val / 4 ∧ win0_3.index t 1 = t.val % 4))

theorem flush0 : ∀ t : Fin cfg0.N, (cfg0.win 3).flush t = true :=
  (by decide +kernel : ∀ t : Fin grid0.N, (cfg0.win 3).flush t = true)

theorem iblk0 (c : Dev nD) (t : Fin cfg0.N) (a k : Fin 1024) (r : Fin 2048) (h : r.val = t.val / 4 * 1024 + a.val) :
    iblk m c 0 t (ix2 a k) = m ((c.tc : Thread nD τ).loc main_arg0) (ix2 r k) := by
  obtain ⟨⟨e0, e1⟩, -⟩ := index0 t
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 1024 + 1 * k.val = k.val; rw [e1]; omega

theorem iblk1 (c : Dev nD) (t : Fin cfg0.N) (b k : Fin 1024) (s : Fin 4096) (h : s.val = t.val % 4 * 1024 + b.val) :
    iblk m c 1 t (ix2 b k) = m ((c.tc : Thread nD τ).loc main_arg1) (ix2 s k) := by
  obtain ⟨-, ⟨e0, e1⟩, -⟩ := index0 t
  refine congrArg (m ((c.tc : Thread nD τ).loc main_arg1)) (funext fun x => Fin.ext ?_)
  match x with
  | ⟨0, _⟩ => show win0_1.index t 0 * 1024 + 1 * b.val = s.val; rw [e0]; omega
  | ⟨1, _⟩ => show win0_1.index t 1 * 1024 + 1 * k.val = k.val; rw [e1]; omega

theorem iblk2 (c : Dev nD) (t : Fin cfg0.N) (a b : Fin 1024) (r : Fin 2048) (s : Fin 4096) (h : r.val = t.val / 4 * 1024 + a.val)
    (h' : s.val = t.val % 4 * 1024 + b.val) : iblk m c 2 t (ix2 a b) = m ((c.tc : Thread nD τ).loc main_arg2) (ix2 r s) := by
  obtain ⟨-, -, ⟨e0, e1⟩, -⟩ := index0 t
  refine congrArg (m ((c.tc : Thread nD τ).loc main_arg2)) (funext fun x => Fin.ext ?_)
  match x with
  | ⟨0, _⟩ => show win0_2.index t 0 * 1024 + 1 * a.val = r.val; rw [e0]; omega
  | ⟨1, _⟩ => show win0_2.index t 1 * 1024 + 1 * b.val = s.val; rw [e1]; omega

theorem out_apply (x : Vec Ideal S1024x1024 .f32) (y z : Vec Ideal S1024x1024 .bf16) (a b : Fin 1024) :
    out0_3 x y z (ix2 a b) = (∑ k : Fin 1024, (x (ix2 a k) : EReal) * y (ix2 b k))
      * (Ideal.ofBits .f32 0x40000000#32 * max (z (ix2 a b) : EReal) (Ideal.ofBits .f32 0x00000000#32)) := by
  unfold out0_3
  rw [View.canon_cons_unit_lit _ _ _ (by decide), View.ld_unit_lit _ x (by decide), View.ld_unit_lit _ y (by decide), View.ld_unit_lit _ z (by decide)]
  exact congrArg (· * (Ideal.ofBits .f32 0x40000000#32 * max (z (ix2 a b) : EReal) (Ideal.ofBits .f32 0x00000000#32)))
    (Products.nt (φ₁ := .bf16) (φ₂ := .bf16) _ none x y a b)

theorem final (c : Dev nD) : (dats m 0 c).arrAt 3 cfg0.N
    = prod (m ((c.tc : Thread nD τ).loc main_arg0)) (m ((c.tc : Thread nD τ).loc main_arg1)) (m ((c.tc : Thread nD τ).loc main_arg2)) := by
  funext i
  obtain ⟨r, s, rfl⟩ : ∃ (r : Fin 2048) (s : Fin 4096), i = ix2 r s := ⟨i 0, i 1, ValueIdx.eq_ix2 i⟩
  let t : Fin cfg0.N := ⟨r.val / 1024 * 4 + s.val / 1024, by show _ < 8; omega⟩
  have h0 : r.val = t.val / 4 * 1024 + r.val % 1024 := by show r.val = (r.val / 1024 * 4 + s.val / 1024) / 4 * 1024 + _; omega
  have h1 : s.val = t.val % 4 * 1024 + s.val % 1024 := by show s.val = (r.val / 1024 * 4 + s.val / 1024) % 4 * 1024 + _; omega
  let a : Fin 1024 := ⟨r.val % 1024, by omega⟩
  let b : Fin 1024 := ⟨s.val % 1024, by omega⟩
  have ha : a.val = r.val % 1024 := rfl
  have hb : b.val = s.val % 1024 := rfl
  obtain ⟨-, -, -, e0, e1⟩ := index0 t
  have h := (blocks3 m c t (flush0 t)).trans (flushed3 m c t)
  refine Eq.trans (congrArg _ (funext fun x => Fin.ext ?_)) ((congrFun h (ix2 a b)).trans ?_)
  · match x with
    | ⟨0, _⟩ => show r.val = win0_3.index t 0 * 1024 + 1 * a.val; rw [e0]; omega
    | ⟨1, _⟩ => show s.val = win0_3.index t 1 * 1024 + 1 * b.val; rw [e1]; omega
  · refine (out_apply _ _ _ a b).trans ?_
    rw [iblk2 m c t a b r s h0 h1]
    refine congrArg (· * _) (Finset.sum_congr rfl fun k _ => ?_)
    rw [iblk0 m c t a k r h0, iblk1 m c t b k s h1]

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Cert.Kernel3Ideal.Mm

namespace Cert.Reference3Ideal.Mm

open Cert.Reference3Ideal Idealize.ShloMosaic.TcCoe Idealize.SL.Sem
open Idealize.ShloMosaic
open Idealize.ShloMosaic.ValueIdx

/-- Where f is positive the entry is the product times the slope; elsewhere the slope is zero, and so is the entry. -/
theorem select_eq (f s : EReal) : Scalar.select (FloatOps.cmpf (F := Ideal) (φ := .f32) .ogt f (Ideal.ofBits .f32 0x00000000#32))
    (s * (Ideal.ofBits .f32 0x40000000#32 * max f (Ideal.ofBits .f32 0x00000000#32))) (Ideal.ofBits .f32 0x00000000#32)
      = s * (Ideal.ofBits .f32 0x40000000#32 * max f (Ideal.ofBits .f32 0x00000000#32)) := by
  rw [Ideal.ofBits_zero_f32]
  change Scalar.select (Ideal.cmp .ogt f 0) _ _ = _
  by_cases h : 0 < f
  · simp [Scalar.select, Ideal.cmp, h]
  · have h' : max f 0 = 0 := max_eq_right (not_lt.1 h)
    simp [Scalar.select, Ideal.cmp, h, h']

theorem out_eq (ct : FVec Ideal S2048x1024 .f32) (w : FVec Ideal S4096x1024 .bf16) (f : FVec Ideal S2048x4096 .bf16) (p q) (hb) :
    truncf .bf16 (select (cmpf .ogt (extf .f32 f p) (broadcastInDim S2048x4096 ![] hb (constant S_ .f32 0x00000000#32)))
      (mulf (Host.dotGeneral dot_S2048x1024_S4096x1024_S2048x4096_1_1_0_0_n_n none ct (extf .f32 w p))
        (mulf (broadcastInDim S2048x4096 ![] hb (constant S_ .f32 0x40000000#32))
          (maximumf (extf .f32 f p) (broadcastInDim S2048x4096 ![] hb (constant S_ .f32 0x00000000#32)))))
      (broadcastInDim S2048x4096 ![] hb (constant S_ .f32 0x00000000#32))) q
      = Cert.Kernel3Ideal.Mm.prod ct w f := by
  funext i
  obtain ⟨r, s, rfl⟩ : ∃ (r : Fin 2048) (s : Fin 4096), i = ix2 r s := ⟨i 0, i 1, ValueIdx.eq_ix2 i⟩
  refine (select_eq (f (ix2 r s)) _).trans ?_
  exact congrArg (· * _) (Products.host_nt (φ₁ := .f32) (φ₂ := .f32) _ none _ _ r s)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v14) = Cert.Kernel3Ideal.Mm.prod (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out_eq _ _ _ _ _ _), (h c).2⟩) (Cert.Reference3Ideal.Value.run m ρ)

end Cert.Reference3Ideal.Mm

end
-- ==== Proof.MmGwFf2.lean ====
/- The gradient of the MLP's second weights: the transposed squared rectifier of f times the cotangent. -/
module

public import proofs.«01_k».proof.Proof.Gen.Kernel4Ideal.Value
public import proofs.«01_k».proof.Proof.Gen.Reference4Ideal.Run
public import proofs.«01_k».proof.Proof.Products
public import Idealize.ShloMosaic.Lib.Pipeline.ValueKit.Basic

@[expose] public section

set_option maxRecDepth 16384

noncomputable section

namespace Cert.Kernel4Ideal.Mm

open Cert.Kernel4Ideal Cert.Kernel4Ideal.Gen Cert.Kernel4Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The squared rectifier. -/
def sq (x : EReal) : EReal := max x (Ideal.ofBits .f32 0x00000000#32) * max x (Ideal.ofBits .f32 0x00000000#32)

/-- The transposed squared rectifier of f times the cotangent, entry by entry. -/
def prod (f : S2048x4096.Idx → EReal) (ct : S2048x1024.Idx → EReal) : S4096x1024.Idx → EReal :=
  fun i => ∑ k : Fin 2048, sq (f (ix2 k (i 0))) * ct (ix2 k (i 1))

/-- Which block of each array a grid point takes. -/
theorem index0 : ∀ t : Fin cfg0.N, (win0_0.index t 0 = 0 ∧ win0_0.index t 1 = t.val) ∧ (win0_1.index t 0 = 0 ∧ win0_1.index t 1 = 0)
    ∧ (win0_2.index t 0 = t.val ∧ win0_2.index t 1 = 0) :=
  (by decide +kernel : ∀ t : Fin grid0.N, (win0_0.index t 0 = 0 ∧ win0_0.index t 1 = t.val) ∧ (win0_1.index t 0 = 0 ∧ win0_1.index t 1 = 0)
    ∧ (win0_2.index t 0 = t.val ∧ win0_2.index t 1 = 0))

theorem flush0 : ∀ t : Fin cfg0.N, (cfg0.win 2).flush t = true :=
  (by decide +kernel : ∀ t : Fin grid0.N, (cfg0.win 2).flush t = true)

theorem iblk0 (c : Dev nD) (t : Fin cfg0.N) (k : Fin 2048) (a : Fin 1024) (r : Fin 4096) (h : r.val = t.val * 1024 + a.val) :
    iblk m c 0 t (ix2 k a) = m ((c.tc : Thread nD τ).loc main_arg0) (ix2 k r) := by
  obtain ⟨⟨e0, e1⟩, -⟩ := index0 t
  refine congrArg (m ((c.tc : Thread nD τ).loc main_arg0)) (funext fun x => Fin.ext ?_)
  match x with
  | ⟨0, _⟩ => show win0_0.index t 0 * 2048 + 1 * k.val = k.val; rw [e0]; omega
  | ⟨1, _⟩ => show win0_0.index t 1 * 1024 + 1 * a.val = r.val; rw [e1]; omega

theorem iblk1 (c : Dev nD) (t : Fin cfg0.N) (k : Fin 2048) (b : Fin 1024) :
    iblk m c 1 t (ix2 k b) = m ((c.tc : Thread nD τ).loc main_arg1) (ix2 k b) := by
  obtain ⟨-, ⟨e0, e1⟩, -⟩ := index0 t
  refine congrArg (m ((c.tc : Thread nD τ).loc main_arg1)) (funext fun x => Fin.ext ?_)
  match x with
  | ⟨0, _⟩ => show win0_1.index t 0 * 2048 + 1 * k.val = k.val; rw [e0]; omega
  | ⟨1, _⟩ => show win0_1.index t 1 * 1024 + 1 * b.val = b.val; rw [e1]; omega

theorem out_apply (x : Vec Ideal S2048x1024 .bf16) (y : Vec Ideal S2048x1024 .f32) (a b : Fin 1024) :
    out0_2 x y (ix2 a b) = ∑ k : Fin 2048, sq (x (ix2 k a)) * y (ix2 k b) := by
  unfold out0_2
  rw [View.canon_cons_unit_lit _ _ _ (by decide), View.ld_unit_lit _ x (by decide), View.ld_unit_lit _ y (by decide)]
  exact Products.tn (φ₁ := .bf16) (φ₂ := .bf16) _ none (fun i => sq (x i)) y a b

theorem final (c : Dev nD) : (dats m 0 c).arrAt 2 cfg0.N = prod (m ((c.tc : Thread nD τ).loc main_arg0)) (m ((c.tc : Thread nD τ).loc main_arg1)) := by
  funext i
  obtain ⟨r, s, rfl⟩ : ∃ (r : Fin 4096) (s : Fin 1024), i = ix2 r s := ⟨i 0, i 1, ValueIdx.eq_ix2 i⟩
  let t : Fin cfg0.N := ⟨r.val / 1024, by show _ < 4; omega⟩
  have h0 : r.val = t.val * 1024 + r.val % 1024 := by show r.val = r.val / 1024 * 1024 + _; omega
  let a : Fin 1024 := ⟨r.val % 1024, by omega⟩
  have ha : a.val = r.val % 1024 := rfl
  obtain ⟨-, -, e0, e1⟩ := index0 t
  have h := (blocks2 m c t (flush0 t)).trans (flushed2 m c t)
  refine Eq.trans (congrArg _ (funext fun x => Fin.ext ?_)) ((congrFun h (ix2 a s)).trans ?_)
  · match x with
    | ⟨0, _⟩ => show r.val = win0_2.index t 0 * 1024 + 1 * a.val; rw [e0]; omega
    | ⟨1, _⟩ => show s.val = win0_2.index t 1 * 1024 + 1 * s.val; rw [e1]; omega
  · refine (out_apply _ _ a s).trans (Finset.sum_congr rfl fun k _ => ?_)
    rw [iblk0 m c t k a r h0, iblk1 m c t k s]

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.Kernel4Ideal.Mm

namespace Cert.Reference4Ideal.Mm

open Cert.Reference4Ideal Idealize.ShloMosaic.TcCoe Idealize.SL.Sem
open Idealize.ShloMosaic
open Idealize.ShloMosaic.ValueIdx

theorem out_eq (f : FVec Ideal S2048x4096 .bf16) (ct : FVec Ideal S2048x1024 .f32) (p q) (hb) (ht) :
    truncf .bf16 (transpose S4096x1024 [1, 0] (Host.dotGeneral dot_S2048x1024_S2048x4096_S1024x4096_0_0_1_1_n_n none ct
      (mulf (maximumf (extf .f32 f p) (broadcastInDim S2048x4096 ![] hb (constant S_ .f32 0x00000000#32)))
        (maximumf (extf .f32 f p) (broadcastInDim S2048x4096 ![] hb (constant S_ .f32 0x00000000#32))))) ht) q
      = Cert.Kernel4Ideal.Mm.prod f ct := by
  funext i
  obtain ⟨r, s, rfl⟩ : ∃ (r : Fin 4096) (s : Fin 1024), i = ix2 r s := ⟨i 0, i 1, ValueIdx.eq_ix2 i⟩
  rw [truncf_apply]
  refine (transpose_apply [1, 0] _ ht (ix2 r s) (ix2 s r) (fun e => ?_)).trans ?_
  · match e with
    | ⟨0, _⟩ => rfl
    | ⟨1, _⟩ => rfl
  · refine (Products.host_tn (φ₁ := .f32) (φ₂ := .f32) _ none ct (fun i => Cert.Kernel4Ideal.Mm.sq (f i)) s r).trans ?_
    exact Finset.sum_congr rfl fun k _ => mul_comm _ _

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v7) = Cert.Kernel4Ideal.Mm.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _ _ _ _ _), (h c).2⟩) (Cert.Reference4Ideal.Value.run m ρ)

end Cert.Reference4Ideal.Mm

end
-- ==== Proof.MmGwFf1.lean ====
/- The gradient of the MLP's first weights: the transposed activations times the cotangent, in eight slots of columns. -/
module

public import proofs.«01_k».proof.Proof.Gen.Kernel5Ideal.Value
public import proofs.«01_k».proof.Proof.Gen.Reference5Ideal.Run
public import proofs.«01_k».proof.Proof.Products
public import Idealize.ShloMosaic.Lib.Pipeline.ValueKit.Basic

@[expose] public section

set_option maxRecDepth 16384

noncomputable section

namespace Cert.Kernel5Ideal.Mm

open Cert.Kernel5Ideal Cert.Kernel5Ideal.Gen Cert.Kernel5Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The transposed activations times the cotangent, laid out in eight slots of 512 columns, entry by entry. -/
def prod (h : S2048x1024.Idx → EReal) (df : S2048x4096.Idx → EReal) : S8x1024x512.Idx → EReal :=
  fun i => ∑ k : Fin 2048, h (ix2 k (i 1)) * df (ix2 k ⟨(i 0).val * 512 + (i 2).val, by
    have h0 : (i 0).val < 8 := (i 0).isLt
    have h2 : (i 2).val < 512 := (i 2).isLt
    omega⟩)

/-- Which block of each array a grid point takes. -/
theorem index0 : ∀ t : Fin cfg0.N, (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) :=
  (by decide +kernel : ∀ t : Fin grid0.N, (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0))

theorem flush0 : ∀ t : Fin cfg0.N, (cfg0.win 2).flush t = true :=
  (by decide +kernel : ∀ t : Fin grid0.N, (cfg0.win 2).flush t = true)

theorem iblk0 (c : Dev nD) (t : Fin cfg0.N) (k : Fin 2048) (a : Fin 1024) :
    iblk m c 0 t (ix2 k a) = m ((c.tc : Thread nD τ).loc main_arg0) (ix2 k a) := by
  obtain ⟨⟨e0, e1⟩, -⟩ := index0 t
  refine congrArg (m ((c.tc : Thread nD τ).loc main_arg0)) (funext fun x => Fin.ext ?_)
  match x with
  | ⟨0, _⟩ => show win0_0.index t 0 * 2048 + 1 * k.val = k.val; rw [e0]; omega
  | ⟨1, _⟩ => show win0_0.index t 1 * 1024 + 1 * a.val = a.val; rw [e1]; omega

theorem iblk1 (c : Dev nD) (t : Fin cfg0.N) (k : Fin 2048) (b : Fin 512) (s : Fin 4096) (h : s.val = t.val * 512 + b.val) :
    iblk m c 1 t (ix2 k b) = m ((c.tc : Thread nD τ).loc main_arg1) (ix2 k s) := by
  obtain ⟨-, ⟨e0, e1⟩, -⟩ := index0 t
  refine congrArg (m ((c.tc : Thread nD τ).loc main_arg1)) (funext fun x => Fin.ext ?_)
  match x with
  | ⟨0, _⟩ => show win0_1.index t 0 * 2048 + 1 * k.val = k.val; rw [e0]; omega
  | ⟨1, _⟩ => show win0_1.index t 1 * 512 + 1 * b.val = s.val; rw [e1]; omega

theorem out_apply (x : Vec Ideal S2048x1024 .bf16) (y : Vec Ideal S2048x512 .bf16) (a : Fin 1024) (b : Fin 512) :
    out0_2 x y (ix3 0 a b) = ∑ k : Fin 2048, (x (ix2 k a) : EReal) * y (ix2 k b) := by
  unfold out0_2
  rw [View.canon_cons_unit_lit _ _ _ (by decide), View.ld_unit_lit _ x (by decide), View.ld_unit_lit _ y (by decide)]
  refine (shapeCast_apply _ _ (ix3 0 a b) (ix2 a b) ?_).trans
    (Products.tn (φ₁ := .bf16) (φ₂ := .bf16) _ none x y a b)
  rw [Shape.rowMajor_val_two, Shape.rowMajor_val_three]
  show a.val * 512 + b.val = (0 * 1024 + a.val) * 512 + b.val
  omega

theorem final (c : Dev nD) : (dats m 0 c).arrAt 2 cfg0.N = prod (m ((c.tc : Thread nD τ).loc main_arg0)) (m ((c.tc : Thread nD τ).loc main_arg1)) := by
  funext i
  obtain ⟨p, r, s, rfl⟩ : ∃ (p : Fin 8) (r : Fin 1024) (s : Fin 512), i = ix3 p r s := ⟨i 0, i 1, i 2, ValueIdx.eq_ix3 i⟩
  let t : Fin cfg0.N := p
  have ht : t.val = p.val := rfl
  obtain ⟨-, -, e0, e1, e2⟩ := index0 t
  have h := (blocks2 m c t (flush0 t)).trans (flushed2 m c t)
  refine Eq.trans (congrArg _ (funext fun x => Fin.ext ?_)) ((congrFun h (ix3 0 r s)).trans ?_)
  · match x with
    | ⟨0, _⟩ => show p.val = win0_2.index t 0 * 1 + 1 * 0; rw [e0]; omega
    | ⟨1, _⟩ => show r.val = win0_2.index t 1 * 1024 + 1 * r.val; rw [e1]; omega
    | ⟨2, _⟩ => show s.val = win0_2.index t 2 * 512 + 1 * s.val; rw [e2]; omega
  · refine (out_apply _ _ r s).trans (Finset.sum_congr rfl fun k _ => ?_)
    rw [iblk0 m c t k r, iblk1 m c t k s ⟨p.val * 512 + s.val, by have := p.isLt; have := s.isLt; omega⟩ rfl]

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.Kernel5Ideal.Mm

namespace Cert.Reference5Ideal.Mm

open Cert.Reference5Ideal Idealize.ShloMosaic.TcCoe Idealize.SL.Sem
open Idealize.ShloMosaic
open Idealize.ShloMosaic.ValueIdx

theorem out_eq (h : FVec Ideal S2048x1024 .bf16) (df : FVec Ideal S2048x4096 .bf16) (p q) (ht) (hs) (ht') :
    transpose S8x1024x512 [1, 0, 2] (shapeCast S1024x8x512 (truncf .bf16 (transpose S1024x4096 [1, 0]
      (Host.dotGeneral dot_S2048x4096_S2048x1024_S4096x1024_0_0_1_1_n_n none (extf .f32 df p) (extf .f32 h p)) ht) q) hs) ht'
      = Cert.Kernel5Ideal.Mm.prod h df := by
  funext i
  obtain ⟨u, r, s, rfl⟩ : ∃ (u : Fin 8) (r : Fin 1024) (s : Fin 512), i = ix3 u r s := ⟨i 0, i 1, i 2, ValueIdx.eq_ix3 i⟩
  refine (transpose_apply (s := S1024x8x512) [1, 0, 2] _ ht' (ix3 u r s) (ix3 r u s) (fun e => ?_)).trans ?_
  · match e with
    | ⟨0, _⟩ => rfl
    | ⟨1, _⟩ => rfl
    | ⟨2, _⟩ => rfl
  let v : Fin 4096 := ⟨u.val * 512 + s.val, by omega⟩
  refine (shapeCast_apply _ _ (ix3 r u s) (ix2 r v) ?_).trans ?_
  · rw [Shape.rowMajor_val_two, Shape.rowMajor_val_three]
    show r.val * 4096 + (u.val * 512 + s.val) = (r.val * 8 + u.val) * 512 + s.val
    omega
  rw [truncf_apply]
  refine (transpose_apply [1, 0] _ ht (ix2 r v) (ix2 v r) (fun e => ?_)).trans ?_
  · match e with
    | ⟨0, _⟩ => rfl
    | ⟨1, _⟩ => rfl
  · refine (Products.host_tn (φ₁ := .f32) (φ₂ := .f32) _ none df h v r).trans ?_
    exact Finset.sum_congr rfl fun k _ => mul_comm _ _

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v8) = Cert.Kernel5Ideal.Mm.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _ _ _ _ _ _), (h c).2⟩) (Cert.Reference5Ideal.Value.run m ρ)

end Cert.Reference5Ideal.Mm

end
-- ==== Proof.RmsBwd.lean ====
/- The backward pass of the RMS norm on one row: two ways of writing it agree on all extended reals. -/
module

public import Idealize.ShloMosaic.Lib.Pipeline.Value
public import Idealize.ShloMosaic.Lib.KernelVsHost

@[expose] public section

noncomputable section

namespace Cert.Rms

open Idealize.ShloMosaic

/-- The number of columns, the constant under the root, and minus one half, as the programs carry them. -/
abbrev cols : EReal := Ideal.ofBits .f32 0x44800000#32
abbrev eps : EReal := Ideal.ofBits .f32 0x358637BD#32
abbrev mhalf : EReal := Ideal.ofBits .f32 0xBF000000#32

theorem cols_eq : cols = ((1024 : ℝ) : EReal) := by
  unfold cols
  simp [Ideal.ofBits, Ideal.ieee, -EReal.coe_mul]; norm_num

theorem mhalf_eq : mhalf = ((-(1 / 2) : ℝ) : EReal) := by
  unfold mhalf
  simp [Ideal.ofBits, Ideal.ieee, -EReal.coe_mul, -EReal.coe_neg]; norm_num

theorem eps_pos : ∃ e : ℝ, 0 < e ∧ eps = (e : EReal) := by
  refine ⟨8796093 * (2 : ℝ) ^ (-43 : ℤ), by positivity, ?_⟩
  unfold eps
  simp [Ideal.ofBits, Ideal.ieee, -EReal.coe_mul]

variable {n : ℕ}

/-- What stands under the root for a row, and its reciprocal root. -/
def under (x : Fin n → EReal) : EReal := Ideal.div (∑ k, x k * x k) cols + eps
def inv (x : Fin n → EReal) : EReal := Ideal.rsqrt (under x)

theorem div_cols (x : EReal) : Ideal.div x cols = x * ((1 / 1024 : ℝ) : EReal) := by
  rw [cols_eq, Ideal.div_coe (by norm_num)]

theorem sq_nonneg (x : EReal) : 0 ≤ x * x := by
  induction x with
  | bot => simp
  | top => simp
  | coe r => rw [← EReal.coe_mul]; exact_mod_cast mul_self_nonneg r

/-- Under the root stands +∞ or a positive real. -/
theorem under_cases (x : Fin n → EReal) : under x = ⊤ ∨ ∃ v : ℝ, 0 < v ∧ under x = (v : EReal) := by
  obtain ⟨e, he, h⟩ := eps_pos
  have h0 : 0 ≤ Ideal.div (∑ k, x k * x k) cols := by
    rw [div_cols]
    exact mul_nonneg (Finset.sum_nonneg fun k _ => sq_nonneg (x k)) (by exact_mod_cast (by norm_num : (0 : ℝ) ≤ 1 / 1024))
  unfold under
  rw [h]
  generalize Ideal.div (∑ k, x k * x k) cols = s at h0
  induction s with
  | bot => exact absurd h0 (by simp)
  | top => left; rfl
  | coe r => exact .inr ⟨r + e, by have : (0 : ℝ) ≤ r := (by exact_mod_cast h0); linarith, by push_cast; rfl⟩

/-- A nonnegative real goes into a sum. -/
theorem mul_sum (c : ℝ) (hc : 0 ≤ c) (f : Fin n → EReal) : (c : EReal) * ∑ k, f k = ∑ k, (c : EReal) * f k := by
  classical
  refine Finset.induction_on (Finset.univ : Finset (Fin n)) (by simp) fun a s ha ih => ?_
  rw [Finset.sum_insert ha, Finset.sum_insert ha, EReal.left_distrib_of_nonneg_of_ne_top (by exact_mod_cast hc) (EReal.coe_ne_top c), ih]

/-- The cotangent of the normed row `a` sent back: `r (a - x r mean (a x r))`. -/
def back (a x : Fin n → EReal) (j : Fin n) : EReal := inv x * (a j - x j * inv x * Ideal.div (∑ k, a k * (x k * inv x)) cols)

/-- The cotangent of the mean of the squares. -/
def coef (a x : Fin n → EReal) : EReal := Ideal.div ((∑ k, x k * a k) * (mhalf * Ideal.div (inv x) (under x))) cols

/-- The same, as differentiating line by line gives it. -/
theorem back_eq (a x : Fin n → EReal) (j : Fin n) : a j * inv x + x j * coef a x + coef a x * x j = back a x j := by
  unfold back coef inv
  rw [div_cols, div_cols, mhalf_eq]
  rcases under_cases x with h | ⟨v, hv, h⟩
  · rw [h]
    simp [Ideal.div]
  · have hr : Ideal.rsqrt (v : EReal) = (((Real.sqrt v)⁻¹ : ℝ) : EReal) := by
      rw [Ideal.rsqrt_coe, if_neg (not_lt.2 hv.le), if_neg hv.ne']
    rw [h, hr, Ideal.div_coe hv.ne']
    have hq : 0 ≤ (Real.sqrt v)⁻¹ := inv_nonneg.2 (Real.sqrt_nonneg v)
    have hqq : 1 / v = (Real.sqrt v)⁻¹ * (Real.sqrt v)⁻¹ := by
      rw [← mul_inv, Real.mul_self_sqrt hv.le, one_div]
    rw [hqq]
    generalize (Real.sqrt v)⁻¹ = q at hq
    have hs : ∑ k, a k * (x k * (q : EReal)) = (q : EReal) * ∑ k, x k * a k := by
      rw [mul_sum q hq]
      exact Finset.sum_congr rfl fun k _ => by rw [mul_comm (a k), mul_comm (x k), mul_assoc]
    rw [hs, sub_eq_add_neg, EReal.left_distrib_of_nonneg_of_ne_top (by exact_mod_cast hq) (EReal.coe_ne_top q), mul_comm (a j), add_assoc]
    refine congrArg₂ (fun p q : EReal => p + q) rfl ?_
    generalize ∑ k, x k * a k = S
    generalize x j = y
    have e1 : S * (((-(1 / 2) : ℝ) : EReal) * ((q : EReal) * ((q * q : ℝ) : EReal))) * ((1 / 1024 : ℝ) : EReal)
        = ((-(q * (q * q)) / 2048 : ℝ) : EReal) * S := by
      rw [mul_assoc, mul_comm S]
      refine congrArg (fun z : EReal => z * S) ?_
      rw [← EReal.coe_mul, ← EReal.coe_mul, ← EReal.coe_mul]
      exact congrArg _ (by ring)
    have e2 : (q : EReal) * -(y * (q : EReal) * ((q : EReal) * S * ((1 / 1024 : ℝ) : EReal))) = ((-(q * (q * q)) / 1024 : ℝ) : EReal) * (S * y) := by
      have : y * (q : EReal) * ((q : EReal) * S * ((1 / 1024 : ℝ) : EReal)) = ((q * (q * (1 / 1024)) : ℝ) : EReal) * (S * y) := by
        rw [EReal.coe_mul, EReal.coe_mul]
        ac_rfl
      rw [this, ← EReal.neg_mul, ← mul_assoc, ← EReal.coe_neg, ← EReal.coe_mul]
      exact congrArg (fun z : ℝ => (z : EReal) * (S * y)) (by ring)
    rw [e1, e2, mul_comm y, mul_assoc]
    generalize S * y = z
    have h2 : (q * (q * q) / 2048 : ℝ) + q * (q * q) / 2048 = q * (q * q) / 1024 := by ring
    have hn : (0 : ℝ) ≤ q * (q * q) / 2048 := by positivity
    rw [neg_div, neg_div, EReal.coe_neg, EReal.coe_neg, EReal.neg_mul, EReal.neg_mul, ← h2, EReal.coe_add,
      EReal.right_distrib_of_nonneg (by exact_mod_cast hn) (by exact_mod_cast hn)]
    generalize ((q * (q * q) / 2048 : ℝ) : EReal) * z = w
    induction w with
    | bot => simp
    | top => simp
    | coe r => rw [← EReal.coe_neg, ← EReal.coe_add, ← EReal.coe_add, ← EReal.coe_neg, neg_add]

end Cert.Rms

end
-- ==== Proof.RmsRows.lean ====
/- The backward pass of the RMS norm on a block of rows, and on all rows: what the matrices of a kernel and of a reference hold. -/
module

public import proofs.«01_k».proof.Proof.RmsBwd
public import Idealize.ShloMosaic.Lib.Pointwise.Reduce
public import Idealize.ShloMosaic.Lib.IdealHost
public import Idealize.ShloMosaic.Lib.ValueLayout

@[expose] public section

set_option maxRecDepth 16384

noncomputable section

namespace Cert.Rms

open Idealize.ShloMosaic hiding ix0 ix1 ix2 ix3
open Idealize.ShloMosaic.ValueIdx

abbrev Srow : Shape := ⟨2, ![1, 1024]⟩
abbrev Sgain : Shape := ⟨1, ![1024]⟩

/-! ### A kernel's block of 512 rows -/

abbrev Sblock : Shape := ⟨2, ![512, 1024]⟩
abbrev Scol : Shape := ⟨2, ![512, 1]⟩
abbrev Svec : Shape := ⟨1, ![512]⟩

/-- A row's sum, laid out as a column. -/
theorem rowSum_apply (v : FVec Ideal Sblock .f32) (hr : Sblock.Reduces [1] Svec) (hs : Svec.ShapeCasts Scol) (p q) (a : Fin 512) :
    shapeCast Scol (multiReduction .add [1] Svec v 0x00000000#32 hr p q) hs (ix2 a (0 : Fin 1)) = ∑ k : Fin 1024, v (ix2 a k) := by
  refine (shapeCast_apply _ _ (ix2 a (0 : Fin 1)) (ix1 a) ?_).trans ?_
  · rw [Shape.rowMajor_val_one, Shape.rowMajor_val_two]
    show a.val = a.val * 1 + 0
    omega
  · exact Ideal.reduceAdd_r2_a1 _ _ _

/-- A column's sum over the block, laid out as a row. -/
theorem colSum_apply (v : FVec Ideal Sblock .f32) (hr : Sblock.Reduces [0] Sgain) (hs : Sgain.ShapeCasts Srow) (p q) (b : Fin 1024) :
    shapeCast Srow (multiReduction .add [0] Sgain v 0x00000000#32 hr p q) hs (ix2 (0 : Fin 1) b) = ∑ k : Fin 512, v (ix2 k b) := by
  refine (shapeCast_apply _ _ (ix2 (0 : Fin 1) b) (ix1 b) ?_).trans ?_
  · rw [Shape.rowMajor_val_one, Shape.rowMajor_val_two]
    show b.val = 0 * 1024 + b.val
    omega
  · exact Ideal.reduceAdd_r2_a0 _ _ _

/-- A column repeated along the rows. -/
theorem colBroadcast_apply (v : FVec Ideal Scol .f32) (h : Scol.Broadcasts Sblock) (a : Fin 512) (b : Fin 1024) :
    broadcastTo Sblock v h (ix2 a b) = v (ix2 a (0 : Fin 1)) :=
  broadcastTo_apply v h (ix2 a b) (ix2 a (0 : Fin 1)) fun x => by
    match x with
    | ⟨0, _⟩ => rfl
    | ⟨1, _⟩ => rfl

theorem inv_block (x : FVec Ideal Sblock .f32) (hr : Sblock.Reduces [1] Svec) (hs : Svec.ShapeCasts Scol) (p q) (a : Fin 512) :
    rsqrt (addf (divf (shapeCast Scol (multiReduction .add [1] Svec (mulf x x) 0x00000000#32 hr p q) hs) (broadcast Scol (Scalar.ofBits (F := Ideal) .f32 0x44800000#32)))
      (broadcast Scol (Scalar.ofBits (F := Ideal) .f32 0x358637BD#32))) (ix2 a (0 : Fin 1)) = inv fun k : Fin 1024 => x (ix2 a k) :=
  congrArg (fun s : EReal => Ideal.rsqrt (Ideal.div s cols + eps)) (rowSum_apply (mulf x x) hr hs p q a)

/-- The cotangent of a block of rows: `h` is the cotangent of the scaled rows, `i` the column of reciprocal roots. -/
theorem back_block (h x r : FVec Ideal Sblock .f32) (g : FVec Ideal Srow .f32) (i : FVec Ideal Scol .f32)
    (hi : ∀ a : Fin 512, i (ix2 a (0 : Fin 1)) = inv fun k : Fin 1024 => x (ix2 a k))
    (hg : Srow.ShapeCasts Srow) (hb : Srow.Broadcasts Sblock) (hc : Scol.Broadcasts Sblock) (hr : Sblock.Reduces [1] Svec) (hs : Svec.ShapeCasts Scol) (p q)
    (a : Fin 512) (b : Fin 1024) :
    addf r (mulf (broadcastTo Sblock i hc) (subf (mulf h (broadcastTo Sblock (shapeCast Srow g hg) hb))
      (mulf (mulf x (broadcastTo Sblock i hc)) (broadcastTo Sblock (divf (shapeCast Scol (multiReduction .add [1] Svec
        (mulf (mulf h (broadcastTo Sblock (shapeCast Srow g hg) hb)) (mulf x (broadcastTo Sblock i hc))) 0x00000000#32 hr p q) hs)
        (broadcast Scol (Scalar.ofBits (F := Ideal) .f32 0x44800000#32))) hc)))) (ix2 a b)
      = r (ix2 a b) + back (fun k : Fin 1024 => h (ix2 a k) * g (ix2 (0 : Fin 1) k)) (fun k : Fin 1024 => x (ix2 a k)) b := by
  have hn : ∀ k : Fin 1024, mulf x (broadcastTo Sblock i hc) (ix2 a k) = x (ix2 a k) * inv fun k : Fin 1024 => x (ix2 a k) := fun k =>
    congrArg (fun z : EReal => x (ix2 a k) * z) ((colBroadcast_apply i hc a k).trans (hi a))
  have hd : ∀ k : Fin 1024, mulf h (broadcastTo Sblock (shapeCast Srow g hg) hb) (ix2 a k) = h (ix2 a k) * g (ix2 (0 : Fin 1) k) := fun k =>
    congrArg (fun z : EReal => h (ix2 a k) * z) ((broadcastTo_1b_ab_apply _ hb a k).trans (shapeCast_apply _ _ _ (ix2 (0 : Fin 1) k) rfl))
  generalize mulf x (broadcastTo Sblock i hc) = y at hn ⊢
  generalize mulf h (broadcastTo Sblock (shapeCast Srow g hg) hb) = d at hd ⊢
  refine congrArg (fun z : EReal => r (ix2 a b) + z) ?_
  refine congrArg₂ (fun z w : EReal => z * w) ((colBroadcast_apply i hc a b).trans (hi a)) ?_
  refine congrArg₂ (fun z w : EReal => z - w) (hd b) ?_
  refine congrArg₂ (fun z w : EReal => z * w) (hn b) ?_
  refine (colBroadcast_apply _ hc a b).trans ?_
  refine congrArg (fun z : EReal => Ideal.div z cols) ((rowSum_apply (mulf d y) hr hs p q a).trans (Finset.sum_congr rfl fun k _ => ?_))
  exact congrArg₂ (fun z w : EReal => z * w) (hd k) (hn k)

/-- The block's part of the gain's gradient. -/
theorem gain_block (h x : FVec Ideal Sblock .f32) (i : FVec Ideal Scol .f32) (hi : ∀ a : Fin 512, i (ix2 a (0 : Fin 1)) = inv fun k : Fin 1024 => x (ix2 a k))
    (hc : Scol.Broadcasts Sblock) (hr : Sblock.Reduces [0] Sgain) (hs : Sgain.ShapeCasts Srow) (p q) (b : Fin 1024) :
    shapeCast Srow (multiReduction .add [0] Sgain (mulf h (mulf x (broadcastTo Sblock i hc))) 0x00000000#32 hr p q) hs (ix2 (0 : Fin 1) b)
      = ∑ a : Fin 512, h (ix2 a b) * (x (ix2 a b) * inv fun k : Fin 1024 => x (ix2 a k)) :=
  (colSum_apply _ hr hs p q b).trans (Finset.sum_congr rfl fun a _ =>
    congrArg (fun z : EReal => h (ix2 a b) * (x (ix2 a b) * z)) ((colBroadcast_apply i hc a b).trans (hi a)))

/-! ### The reference's 2048 rows -/

abbrev Sall : Shape := ⟨2, ![2048, 1024]⟩
abbrev Sallcol : Shape := ⟨2, ![2048, 1]⟩
abbrev Sallvec : Shape := ⟨1, ![2048]⟩
abbrev Snil : Shape := ⟨0, ![]⟩

/-- The cotangent of the block input: the residual's plus the one through the norm. -/
def dx (h x r : Sall.Idx → EReal) (g : Sgain.Idx → EReal) : Sall.Idx → EReal := fun i =>
  r i + back (fun k : Fin 1024 => h (ix2 (i 0) k) * g (ix1 k)) (fun k : Fin 1024 => x (ix2 (i 0) k)) (i 1)

/-- The gain's gradient. -/
def dg (h x : Sall.Idx → EReal) : Srow.Idx → EReal := fun i =>
  ∑ a : Fin 2048, h (ix2 a (i 1)) * (x (ix2 a (i 1)) * inv fun k : Fin 1024 => x (ix2 a k))

variable (h x r : FVec Ideal Sall .f32) (g : FVec Ideal Sgain .f32)

theorem hostRowSum_apply (v : FVec Ideal Sall .f32) (hr : Sall.ReducesTo [1] Sallvec) (hu : 0 < Snil.numel) (a : Fin 2048) :
    Host.reduceAdd v (constant (F := Ideal) Snil .f32 0x00000000#32) hr hu (ix1 a) = ∑ k : Fin 1024, v (ix2 a k) := by
  refine (hostReduceAdd_apply v _ hr hu (ix1 a)).trans ((Ideal.hostReduceAdd_r2_a1 hr v _ (ix1 a)).trans ?_)
  refine Eq.trans (congrArg₂ (fun p q : EReal => p + q) Ideal.ofBits_zero_f32 rfl) (zero_add _)

theorem splat_apply (hn : Snil.BroadcastsInDim Sallcol ![]) (c : BitVec 32) (i : Sallcol.Idx) :
    broadcastInDim Sallcol ![] hn (constant (F := Ideal) Snil .f32 c) i = Ideal.ofBits .f32 c := rfl

/-- What stands under the root, as a column, and its reciprocal root. -/
theorem under_all (hr : Sall.ReducesTo [1] Sallvec) (hu : 0 < Snil.numel) (hb : Sallvec.BroadcastsInDim Sallcol ![0]) (hn : Snil.BroadcastsInDim Sallcol ![]) (a : Fin 2048) :
    addf (Host.divf (broadcastInDim Sallcol ![0] hb (Host.reduceAdd (mulf x x) (constant (F := Ideal) Snil .f32 0x00000000#32) hr hu))
        (broadcastInDim Sallcol ![] hn (constant (F := Ideal) Snil .f32 0x44800000#32)))
      (broadcastInDim Sallcol ![] hn (constant (F := Ideal) Snil .f32 0x358637BD#32)) (ix2 a (0 : Fin 1)) = under fun k : Fin 1024 => x (ix2 a k) := by
  have e := hostRowSum_apply (mulf x x) hr hu a
  generalize Host.reduceAdd (mulf x x) (constant (F := Ideal) Snil .f32 0x00000000#32) hr hu = v at e ⊢
  have e' : broadcastInDim Sallcol ![0] hb v (ix2 a (0 : Fin 1)) = v (ix1 a) := broadcastInDim_apply ![0] hb v (ix2 a (0 : Fin 1)) (ix1 a) fun y => by
    match y with
    | ⟨0, _⟩ => rfl
  generalize broadcastInDim Sallcol ![0] hb v = w at e' ⊢
  show Ideal.div (w (ix2 a (0 : Fin 1))) _ + _ = _
  rw [e', e]
  rfl

theorem allcol_apply (v : FVec Ideal Sallcol .f32) (hb : Sallcol.BroadcastsInDim Sall ![0, 1]) (a : Fin 2048) (b : Fin 1024) :
    broadcastInDim Sall ![0, 1] hb v (ix2 a b) = v (ix2 a (0 : Fin 1)) :=
  broadcastInDim_apply ![0, 1] hb v (ix2 a b) (ix2 a (0 : Fin 1)) fun y => by
    match y with
    | ⟨0, _⟩ => rfl
    | ⟨1, _⟩ => rfl

theorem gain_apply (h1 : Sgain.BroadcastsInDim Srow ![1]) (h2 : Srow.BroadcastsInDim Sall ![0, 1]) (a : Fin 2048) (b : Fin 1024) :
    broadcastInDim Sall ![0, 1] h2 (broadcastInDim Srow ![1] h1 g) (ix2 a b) = g (ix1 b) := by
  refine (broadcastInDim_apply ![0, 1] h2 _ (ix2 a b) (ix2 (0 : Fin 1) b) fun y => ?_).trans
    (broadcastInDim_apply ![1] h1 g (ix2 (0 : Fin 1) b) (ix1 b) fun y => ?_)
  · match y with
    | ⟨0, _⟩ => rfl
    | ⟨1, _⟩ => rfl
  · match y with
    | ⟨0, _⟩ => rfl

/-- The cotangent of the mean of the squares, repeated along the rows; `u` is the column under the root. -/
theorem coef_all (d : FVec Ideal Sall .f32) (u : FVec Ideal Sallcol .f32) (hu' : ∀ a : Fin 2048, u (ix2 a (0 : Fin 1)) = under fun k : Fin 1024 => x (ix2 a k))
    (hr : Sall.ReducesTo [1] Sallvec) (hu : 0 < Snil.numel) (hs : Sallvec.ShapeCasts Sallcol) (hn : Snil.BroadcastsInDim Sallcol ![])
    (hr' : Sallcol.ReducesTo [1] Sallvec) (hb : Sallvec.BroadcastsInDim Sall ![0]) (a : Fin 2048) (b : Fin 1024) :
    broadcastInDim Sall ![0] hb (Host.reduceAdd (Host.divf (mulf (shapeCast Sallcol (Host.reduceAdd (mulf x d) (constant (F := Ideal) Snil .f32 0x00000000#32) hr hu) hs)
        (mulf (broadcastInDim Sallcol ![] hn (constant (F := Ideal) Snil .f32 0xBF000000#32)) (Host.divf (Host.rsqrt u) u)))
        (broadcastInDim Sallcol ![] hn (constant (F := Ideal) Snil .f32 0x44800000#32))) (constant (F := Ideal) Snil .f32 0x00000000#32) hr' hu) (ix2 a b)
      = coef (fun k : Fin 1024 => d (ix2 a k)) (fun k : Fin 1024 => x (ix2 a k)) := by
  refine (broadcastInDim_apply ![0] hb _ (ix2 a b) (ix1 a) fun y => ?_).trans ?_
  · match y with
    | ⟨0, _⟩ => rfl
  refine (hostReduceAdd_apply _ _ hr' hu (ix1 a)).trans ((Ideal.hostReduceAdd_r2_a1 hr' _ _ (ix1 a)).trans ?_)
  refine Eq.trans (congrArg₂ (fun p q : EReal => p + q) Ideal.ofBits_zero_f32 (Fin.sum_univ_one _)) ((zero_add _).trans ?_)
  refine congrArg (fun s : EReal => Ideal.div s cols) ?_
  refine congrArg₂ (fun p q : EReal => p * q) ?_ (congrArg (fun v : EReal => mhalf * Ideal.div (Ideal.rsqrt v) v) (hu' a))
  refine (shapeCast_apply _ _ _ (ix1 a) ?_).trans (hostRowSum_apply (mulf x d) hr hu a)
  rw [Shape.rowMajor_val_one, Shape.rowMajor_val_two]
  show a.val = a.val * 1 + 0
  omega

theorem inv_all (u : FVec Ideal Sallcol .f32) (hu' : ∀ a : Fin 2048, u (ix2 a (0 : Fin 1)) = under fun k : Fin 1024 => x (ix2 a k))
    (hb : Sallcol.BroadcastsInDim Sall ![0, 1]) (a : Fin 2048) (b : Fin 1024) :
    broadcastInDim Sall ![0, 1] hb (Host.rsqrt u) (ix2 a b) = inv fun k : Fin 1024 => x (ix2 a k) :=
  (allcol_apply (Host.rsqrt u) hb a b).trans (congrArg Ideal.rsqrt (hu' a))

/-- The reference's cotangent of the block input; `d` is the cotangent of the normed rows, `c` that of the mean of the squares. -/
theorem dx_all (d c i : FVec Ideal Sall .f32) (hd : ∀ (a : Fin 2048) (k : Fin 1024), d (ix2 a k) = h (ix2 a k) * g (ix1 k))
    (hc : ∀ (a : Fin 2048) (b : Fin 1024), c (ix2 a b) = coef (fun k : Fin 1024 => d (ix2 a k)) (fun k : Fin 1024 => x (ix2 a k)))
    (hi : ∀ (a : Fin 2048) (b : Fin 1024), i (ix2 a b) = inv fun k : Fin 1024 => x (ix2 a k)) :
    addf r (addf (addf (mulf d i) (mulf x c)) (mulf c x)) = dx h x r g := by
  funext j
  obtain ⟨a, b, rfl⟩ : ∃ (a : Fin 2048) (b : Fin 1024), j = ix2 a b := ⟨j 0, j 1, ValueIdx.eq_ix2 j⟩
  refine congrArg (fun z : EReal => r (ix2 a b) + z) ?_
  have e := back_eq (fun k : Fin 1024 => d (ix2 a k)) (fun k : Fin 1024 => x (ix2 a k)) b
  rw [← hc a b, ← hi a b] at e
  refine e.trans ?_
  exact congrArg (fun f => back f (fun k : Fin 1024 => x (ix2 a k)) b) (funext fun k => hd a k)

/-- A column's sum over all rows, and the sum over one row. -/
theorem hostColSum_apply (v : FVec Ideal Sall .f32) (hr : Sall.ReducesTo [0] Sgain) (hu : 0 < Snil.numel) (b : Fin 1024) :
    Host.reduceAdd v (constant (F := Ideal) Snil .f32 0x00000000#32) hr hu (ix1 b) = ∑ k : Fin 2048, v (ix2 k b) := by
  refine (hostReduceAdd_apply v _ hr hu (ix1 b)).trans ((Ideal.hostReduceAdd_r2_a0 hr v _ (ix1 b)).trans ?_)
  refine Eq.trans (congrArg₂ (fun p q : EReal => p + q) Ideal.ofBits_zero_f32 rfl) (zero_add _)

theorem hostOneSum_apply (v : FVec Ideal Srow .f32) (hr : Srow.ReducesTo [0] Sgain) (hu : 0 < Snil.numel) (b : Fin 1024) :
    Host.reduceAdd v (constant (F := Ideal) Snil .f32 0x00000000#32) hr hu (ix1 b) = v (ix2 (0 : Fin 1) b) := by
  refine (hostReduceAdd_apply v _ hr hu (ix1 b)).trans ((Ideal.hostReduceAdd_r2_a0 hr v _ (ix1 b)).trans ?_)
  refine Eq.trans (congrArg₂ (fun p q : EReal => p + q) Ideal.ofBits_zero_f32 (Fin.sum_univ_one _)) (zero_add _)

theorem toRow_apply (v : FVec Ideal Sgain .f32) (hs : Sgain.ShapeCasts Srow) (b : Fin 1024) : shapeCast Srow v hs (ix2 (0 : Fin 1) b) = v (ix1 b) :=
  shapeCast_apply _ _ _ (ix1 b) (by
    rw [Shape.rowMajor_val_one, Shape.rowMajor_val_two]
    show b.val = 0 * 1024 + b.val
    omega)

/-- The reference's gradient of the gain. -/
theorem dg_all (i : FVec Ideal Sall .f32) (hi : ∀ (a : Fin 2048) (b : Fin 1024), i (ix2 a b) = inv fun k : Fin 1024 => x (ix2 a k))
    (hr : Sall.ReducesTo [0] Sgain) (hr' : Srow.ReducesTo [0] Sgain) (hu : 0 < Snil.numel) (hs : Sgain.ShapeCasts Srow) :
    shapeCast Srow (Host.reduceAdd (shapeCast Srow (Host.reduceAdd (mulf (mulf x i) h) (constant (F := Ideal) Snil .f32 0x00000000#32) hr hu) hs)
      (constant (F := Ideal) Snil .f32 0x00000000#32) hr' hu) hs = dg h x := by
  funext j
  obtain ⟨z, b, rfl⟩ : ∃ (z : Fin 1) (b : Fin 1024), j = ix2 z b := ⟨j 0, j 1, ValueIdx.eq_ix2 j⟩
  obtain rfl : z = 0 := Subsingleton.elim _ _
  rw [toRow_apply, hostOneSum_apply, toRow_apply, hostColSum_apply]
  refine Finset.sum_congr rfl fun a _ => ?_
  refine (mul_comm _ _).trans (congrArg (fun z : EReal => h (ix2 a b) * (x (ix2 a b) * z)) (hi a b))

/-! ### Blocks of rows and all rows -/

/-- Row `r`'s part of the gain's gradient at column `b`. -/
def gainTerm (h x : Sall.Idx → EReal) (b : Fin 1024) (r : Fin 2048) : EReal := h (ix2 r b) * (x (ix2 r b) * inv fun k : Fin 1024 => x (ix2 r k))

/-- A sum over 2048 rows, block by block. -/
theorem sum_blocks (f : Fin 2048 → EReal) : ∑ j : Fin 4, ∑ a : Fin 512, f ⟨512 * j.val + a.val, by omega⟩ = ∑ r : Fin 2048, f r := by
  rw [← Finset.sum_product']
  refine Fintype.sum_equiv (finProdFinEquiv (m := 4) (n := 512)) _ _ fun x => congrArg f (Fin.ext ?_)
  show 512 * x.1.val + x.2.val = x.2.val + 512 * x.1.val
  omega

/-- The gain's gradient after `n + 1` blocks of rows, block by block … -/
def gainUpTo (h x : Sall.Idx → EReal) (b : Fin 1024) (n : ℕ) (hn : n < 4) : EReal :=
  ∑ j : Fin (n + 1), ∑ a : Fin 512, gainTerm h x b ⟨512 * j.val + a.val, by omega⟩

theorem gainUpTo_zero (h x : Sall.Idx → EReal) (b : Fin 1024) (hn : 0 < 4) :
    gainUpTo h x b 0 hn = ∑ a : Fin 512, gainTerm h x b ⟨a.val, by omega⟩ :=
  (Fin.sum_univ_one _).trans (Finset.sum_congr rfl fun a _ => congrArg (gainTerm h x b) (Fin.ext (by show 512 * 0 + a.val = a.val; omega)))

theorem gainUpTo_succ (h x : Sall.Idx → EReal) (b : Fin 1024) (n : ℕ) (hn : n + 1 < 4) :
    gainUpTo h x b (n + 1) hn = gainUpTo h x b n (by omega) + ∑ a : Fin 512, gainTerm h x b ⟨512 * (n + 1) + a.val, by omega⟩ :=
  Fin.sum_univ_castSucc _

/-- … and after the last. -/
theorem gainUpTo_last (h x : Sall.Idx → EReal) (b : Fin 1024) : gainUpTo h x b 3 (by omega) = dg h x (ix2 (0 : Fin 1) b) :=
  sum_blocks (gainTerm h x b)

end Cert.Rms

end
-- ==== Proof.MmDff1.lean ====
/- The MLP's input cotangent: the cotangent of the hidden layer times the weights, in two halves, sent back through the RMS norm,
   and the gradient of the norm's gain summed over the blocks of rows. -/
module

public import proofs.«01_k».proof.Proof.Gen.Kernel6Ideal.Value
public import proofs.«01_k».proof.Proof.Gen.Reference6Ideal.Run
public import proofs.«01_k».proof.Proof.Products
public import proofs.«01_k».proof.Proof.RmsRows
public import Idealize.ShloMosaic.Lib.Pipeline.ValueKit.Acc

@[expose] public section

set_option maxRecDepth 16384

noncomputable section

namespace Cert.Kernel6Ideal.Mm

open Cert.Kernel6Ideal Cert.Kernel6Ideal.Gen Cert.Kernel6Ideal.Value Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

/-- The cotangent of the scaled rows: df times the transposed weights. -/
def prod (f : S2048x4096.Idx → EReal) (w : S1024x4096.Idx → EReal) : S2048x1024.Idx → EReal :=
  fun i => ∑ k : Fin 4096, f (ix2 (i 0) k) * w (ix2 (i 1) k)

/-- Its 4096 terms in two halves. -/
theorem prod_split (f : S2048x4096.Idx → EReal) (w : S1024x4096.Idx → EReal) (r : Fin 2048) (b : Fin 1024) :
    prod f w (ix2 r b) = ∑ k : Fin 2048, f (ix2 r (Fin.castAdd 2048 k)) * w (ix2 b (Fin.castAdd 2048 k))
      + ∑ k : Fin 2048, f (ix2 r (Fin.natAdd 2048 k)) * w (ix2 b (Fin.natAdd 2048 k)) :=
  Fin.sum_univ_add (a := 2048) (b := 2048) fun k : Fin 4096 => f (ix2 r k) * w (ix2 b k)

/-! ### What the points leave -/

/-- The scratch after the first point of a row of blocks. -/
theorem scratch_eq (c : Dev nD) (u : Fin cfg0.N) (h : u.val % 2 = 0) : (outsAt0 m c u.val u.isLt).2.2.2 = k0_pay1 (iblk m c 0 u) (iblk m c 1 u) := by
  rw [outsAt0_A m c u h (by omega)]
  frame_out

theorem kept_eq (c : Dev nD) (u : Fin cfg0.N) (h : u.val % 2 = 0) :
    (outsAt0 m c u.val u.isLt).2.1 = (outsAt0 m c (u.val - 1) (Nat.lt_of_le_of_lt (Nat.sub_le _ _) u.isLt)).2.1 := by
  rw [outsAt0_A m c u h (by omega)]
  rfl

theorem dx_eq (c : Dev nD) (t : Fin cfg0.N) (h : t.val % 2 = 1) (s : Vec Ideal S512x1024 .f32)
    (hs : (outsAt0 m c (t.val - 1) (Nat.lt_of_le_of_lt (Nat.sub_le _ _) t.isLt)).2.2.2 = s) :
    (outsAt0 m c t.val t.isLt).1 = k0_pay8 s (iblk m c 0 t) (iblk m c 1 t) (iblk m c 2 t) (iblk m c 4 t) (iblk m c 3 t) := by
  by_cases h3 : t.val < 2
  · rw [outsAt0_B m c t (by omega) h h3 (by omega), hs]
    frame_out
    exact congrArg (fun z => k0_pay8 z (iblk m c 0 t) (iblk m c 1 t) (iblk m c 2 t) (iblk m c 4 t) (iblk m c 3 t)) ((Memref.isWhole_whole cc0_scratch0).read_unread _)
  · rw [outsAt0_C m c t (by omega) h h3 (by omega), hs]
    frame_out
    exact congrArg (fun z => k0_pay8 z (iblk m c 0 t) (iblk m c 1 t) (iblk m c 2 t) (iblk m c 4 t) (iblk m c 3 t)) ((Memref.isWhole_whole cc0_scratch0).read_unread _)

theorem dxr_eq (c : Dev nD) (t : Fin cfg0.N) (h : t.val % 2 = 1) (s : Vec Ideal S512x1024 .f32)
    (hs : (outsAt0 m c (t.val - 1) (Nat.lt_of_le_of_lt (Nat.sub_le _ _) t.isLt)).2.2.2 = s) :
    (outsAt0 m c t.val t.isLt).2.2.1 = k0_pay9 s (iblk m c 0 t) (iblk m c 1 t) (iblk m c 2 t) (iblk m c 4 t) (iblk m c 3 t) := by
  by_cases h3 : t.val < 2
  · rw [outsAt0_B m c t (by omega) h h3 (by omega), hs]
    frame_out
    exact congrArg (fun z => k0_pay9 z (iblk m c 0 t) (iblk m c 1 t) (iblk m c 2 t) (iblk m c 4 t) (iblk m c 3 t)) ((Memref.isWhole_whole cc0_scratch0).read_unread _)
  · rw [outsAt0_C m c t (by omega) h h3 (by omega), hs]
    frame_out
    exact congrArg (fun z => k0_pay9 z (iblk m c 0 t) (iblk m c 1 t) (iblk m c 2 t) (iblk m c 4 t) (iblk m c 3 t)) ((Memref.isWhole_whole cc0_scratch0).read_unread _)

theorem dg_first (c : Dev nD) (t : Fin cfg0.N) (h : t.val % 2 = 1) (h3 : t.val < 2) (s : Vec Ideal S512x1024 .f32)
    (hs : (outsAt0 m c (t.val - 1) (Nat.lt_of_le_of_lt (Nat.sub_le _ _) t.isLt)).2.2.2 = s) :
    (outsAt0 m c t.val t.isLt).2.1 = k0_pay7 s (iblk m c 0 t) (iblk m c 1 t) (iblk m c 2 t) := by
  rw [outsAt0_B m c t (by omega) h h3 (by omega), hs]
  frame_out
  exact congrArg (fun z => k0_pay7 z (iblk m c 0 t) (iblk m c 1 t) (iblk m c 2 t)) ((Memref.isWhole_whole cc0_scratch0).read_unread _)

theorem dg_next (c : Dev nD) (t : Fin cfg0.N) (h : t.val % 2 = 1) (h3 : ¬ t.val < 2) (s : Vec Ideal S512x1024 .f32) (o : Vec Ideal S1x1024 .f32)
    (hs : (outsAt0 m c (t.val - 1) (Nat.lt_of_le_of_lt (Nat.sub_le _ _) t.isLt)).2.2.2 = s)
    (ho : (outsAt0 m c (t.val - 1) (Nat.lt_of_le_of_lt (Nat.sub_le _ _) t.isLt)).2.1 = o) :
    (outsAt0 m c t.val t.isLt).2.1 = k0_pay3 (k0_pay7 s (iblk m c 0 t) (iblk m c 1 t) (iblk m c 2 t)) o := by
  rw [outsAt0_C m c t (by omega) h h3 (by omega), hs, ho]
  frame_out
  exact congrArg (fun z => k0_pay3 (k0_pay7 z (iblk m c 0 t) (iblk m c 1 t) (iblk m c 2 t)) o) ((Memref.isWhole_whole cc0_scratch0).read_unread _)

/-! ### The blocks read -/

/-- Which block of each array a grid point takes. -/
theorem index0 : ∀ t : Fin cfg0.N, (win0_0.index t 0 = t.val / 2 ∧ win0_0.index t 1 = t.val % 2) ∧ (win0_1.index t 0 = 0 ∧ win0_1.index t 1 = t.val % 2)
    ∧ (win0_2.index t 0 = t.val / 2 ∧ win0_2.index t 1 = 0) ∧ (win0_3.index t 0 = t.val / 2 ∧ win0_3.index t 1 = 0) ∧ (win0_4.index t 0 = 0 ∧ win0_4.index t 1 = 0)
    ∧ (win0_5.index t 0 = t.val / 2 ∧ win0_5.index t 1 = 0) ∧ (win0_7.index t 0 = t.val / 2 ∧ win0_7.index t 1 = 0) :=
  (by decide +kernel : ∀ t : Fin grid0.N, (win0_0.index t 0 = t.val / 2 ∧ win0_0.index t 1 = t.val % 2) ∧ (win0_1.index t 0 = 0 ∧ win0_1.index t 1 = t.val % 2)
    ∧ (win0_2.index t 0 = t.val / 2 ∧ win0_2.index t 1 = 0) ∧ (win0_3.index t 0 = t.val / 2 ∧ win0_3.index t 1 = 0) ∧ (win0_4.index t 0 = 0 ∧ win0_4.index t 1 = 0)
    ∧ (win0_5.index t 0 = t.val / 2 ∧ win0_5.index t 1 = 0) ∧ (win0_7.index t 0 = t.val / 2 ∧ win0_7.index t 1 = 0))

theorem iblk0 (c : Dev nD) (t : Fin cfg0.N) (a : Fin 512) (k : Fin 2048) (r : Fin 2048) (l : Fin 4096) (hr : r.val = t.val / 2 * 512 + a.val)
    (hl : l.val = t.val % 2 * 2048 + k.val) : iblk m c 0 t (ix2 a k) = m ((c.tc : Thread nD τ).loc main_arg0) (ix2 r l) := by
  obtain ⟨⟨e0, e1⟩, -⟩ := index0 t
  show V m c main_arg0 _ = _
  rw [V_main_arg0]
  refine congrArg (m ((c.tc : Thread nD τ).loc main_arg0)) (funext fun x => Fin.ext ?_)
  match x with
  | ⟨0, _⟩ => show win0_0.index t 0 * 512 + 1 * a.val = r.val; rw [e0]; omega
  | ⟨1, _⟩ => show win0_0.index t 1 * 2048 + 1 * k.val = l.val; rw [e1]; omega

theorem iblk1 (c : Dev nD) (t : Fin cfg0.N) (b : Fin 1024) (k : Fin 2048) (l : Fin 4096)
    (hl : l.val = t.val % 2 * 2048 + k.val) : iblk m c 1 t (ix2 b k) = m ((c.tc : Thread nD τ).loc main_arg1) (ix2 b l) := by
  obtain ⟨-, ⟨e0, e1⟩, -⟩ := index0 t
  show V m c main_arg1 _ = _
  rw [V_main_arg1]
  refine congrArg (m ((c.tc : Thread nD τ).loc main_arg1)) (funext fun x => Fin.ext ?_)
  match x with
  | ⟨0, _⟩ => show win0_1.index t 0 * 1024 + 1 * b.val = b.val; rw [e0]; omega
  | ⟨1, _⟩ => show win0_1.index t 1 * 2048 + 1 * k.val = l.val; rw [e1]; omega

theorem iblk2 (c : Dev nD) (t : Fin cfg0.N) (a : Fin 512) (b : Fin 1024) (r : Fin 2048) (hr : r.val = t.val / 2 * 512 + a.val) :
    iblk m c 2 t (ix2 a b) = m ((c.tc : Thread nD τ).loc main_arg2) (ix2 r b) := by
  obtain ⟨-, -, ⟨e0, e1⟩, -⟩ := index0 t
  show V m c main_arg2 _ = _
  rw [V_main_arg2]
  refine congrArg (m ((c.tc : Thread nD τ).loc main_arg2)) (funext fun x => Fin.ext ?_)
  match x with
  | ⟨0, _⟩ => show win0_2.index t 0 * 512 + 1 * a.val = r.val; rw [e0]; omega
  | ⟨1, _⟩ => show win0_2.index t 1 * 1024 + 1 * b.val = b.val; rw [e1]; omega

theorem iblk3 (c : Dev nD) (t : Fin cfg0.N) (a : Fin 512) (b : Fin 1024) (r : Fin 2048) (hr : r.val = t.val / 2 * 512 + a.val) :
    iblk m c 3 t (ix2 a b) = m ((c.tc : Thread nD τ).loc main_arg3) (ix2 r b) := by
  obtain ⟨-, -, -, ⟨e0, e1⟩, -⟩ := index0 t
  show V m c main_arg3 _ = _
  rw [V_main_arg3]
  refine congrArg (m ((c.tc : Thread nD τ).loc main_arg3)) (funext fun x => Fin.ext ?_)
  match x with
  | ⟨0, _⟩ => show win0_3.index t 0 * 512 + 1 * a.val = r.val; rw [e0]; omega
  | ⟨1, _⟩ => show win0_3.index t 1 * 1024 + 1 * b.val = b.val; rw [e1]; omega

/-- The gain comes as one row. -/
theorem V_gain (c : Dev nD) : V m c main_v0 = shapeCast S1x1024 (m ((c.tc : Thread nD τ).loc main_arg4)) shapeCasts_S1024_S1x1024 := by
  show StableHlo.after (List.flatten [hostOps0]) (fun b => m (c, b)) (Proc.devRef .tc main_v0) = _
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem iblk4 (c : Dev nD) (t : Fin cfg0.N) (b : Fin 1024) : iblk m c 4 t (ix2 (0 : Fin 1) b) = m ((c.tc : Thread nD τ).loc main_arg4) (ix1 b) := by
  obtain ⟨-, -, -, -, ⟨e0, e1⟩, -⟩ := index0 t
  refine Eq.trans ?_ ((congrFun (V_gain m c) (ix2 (0 : Fin 1) b)).trans (Rms.toRow_apply _ _ b))
  show V m c main_v0 _ = _
  refine congrArg (V m c main_v0) (funext fun x => Fin.ext ?_)
  match x with
  | ⟨0, _⟩ => show win0_4.index t 0 * 1 + 1 * 0 = 0; rw [e0]
  | ⟨1, _⟩ => show win0_4.index t 1 * 1024 + 1 * b.val = b.val; rw [e1]; omega

/-! ### The payloads read -/

theorem pay1_apply (x : Vec Ideal S512x2048 .bf16) (y : Vec Ideal S1024x2048 .bf16) (a : Fin 512) (b : Fin 1024) :
    k0_pay1 x y (ix2 a b) = ∑ k : Fin 2048, (x (ix2 a k) : EReal) * y (ix2 b k) := by
  unfold k0_pay1
  refine (shapeCast_apply _ _ (ix2 a b) (ix2 a b) rfl).trans ?_
  exact Products.nt (φ₁ := .bf16) (φ₂ := .bf16) _ none x y a b

theorem pay4_apply (s : Vec Ideal S512x1024 .f32) (x : Vec Ideal S512x2048 .bf16) (y : Vec Ideal S1024x2048 .bf16) (a : Fin 512) (b : Fin 1024) :
    k0_pay4 s x y (ix2 a b) = (s (ix2 a b) + ∑ k : Fin 2048, (x (ix2 a k) : EReal) * y (ix2 b k) : EReal) := by
  unfold k0_pay4
  exact congrArg (fun v : EReal => (s (ix2 a b) + v : EReal)) (Products.nt (φ₁ := .bf16) (φ₂ := .bf16) _ none x y a b)

theorem pay5_apply (x : Vec Ideal S512x1024 .f32) (a : Fin 512) : k0_pay5 x (ix2 a (0 : Fin 1)) = Rms.inv fun k : Fin 1024 => x (ix2 a k) :=
  Rms.inv_block x _ _ _ _ a

theorem pay8_apply (s : Vec Ideal S512x1024 .f32) (x : Vec Ideal S512x2048 .bf16) (y : Vec Ideal S1024x2048 .bf16) (z : Vec Ideal S512x1024 .f32)
    (g : Vec Ideal S1x1024 .f32) (r : Vec Ideal S512x1024 .f32) (a : Fin 512) (b : Fin 1024) :
    k0_pay8 s x y z g r (ix2 a b) = r (ix2 a b) + Rms.back (fun k : Fin 1024 => k0_pay4 s x y (ix2 a k) * g (ix2 (0 : Fin 1) k)) (fun k : Fin 1024 => z (ix2 a k)) b := by
  unfold k0_pay8 k0_pay6
  generalize k0_pay4 s x y = h
  exact Rms.back_block h z r g (k0_pay5 z) (pay5_apply z) _ _ _ _ _ _ _ a b

theorem pay7_apply (s : Vec Ideal S512x1024 .f32) (x : Vec Ideal S512x2048 .bf16) (y : Vec Ideal S1024x2048 .bf16) (z : Vec Ideal S512x1024 .f32) (b : Fin 1024) :
    k0_pay7 s x y z (ix2 (0 : Fin 1) b) = ∑ a : Fin 512, (k0_pay4 s x y (ix2 a b) * (z (ix2 a b) * Rms.inv fun k : Fin 1024 => z (ix2 a k)) : EReal) := by
  unfold k0_pay7 k0_pay6
  generalize k0_pay4 s x y = h
  exact Rms.gain_block h z (k0_pay5 z) (pay5_apply z) _ _ _ _ _ b

theorem pay3_apply (v o : Vec Ideal S1x1024 .f32) (b : Fin 1024) : k0_pay3 v o (ix2 (0 : Fin 1) b) = (o (ix2 (0 : Fin 1) b) + v (ix2 (0 : Fin 1) b) : EReal) := by
  unfold k0_pay3
  exact congrArg (fun z : EReal => (z + v (ix2 (0 : Fin 1) b) : EReal)) (shapeCast_apply _ _ (ix2 (0 : Fin 1) b) (ix2 (0 : Fin 1) b) rfl)

/-! ### A block of rows -/

/-- The arguments, read as matrices. -/
abbrev argH (c : Dev nD) : S2048x1024.Idx → EReal := prod (m ((c.tc : Thread nD τ).loc main_arg0)) (m ((c.tc : Thread nD τ).loc main_arg1))
abbrev argX (c : Dev nD) : S2048x1024.Idx → EReal := m ((c.tc : Thread nD τ).loc main_arg2)
abbrev argR (c : Dev nD) : S2048x1024.Idx → EReal := m ((c.tc : Thread nD τ).loc main_arg3)
abbrev argG (c : Dev nD) : S1024.Idx → EReal := m ((c.tc : Thread nD τ).loc main_arg4)

/-- What the second point of a row of blocks finds in the scratch. -/
abbrev half (c : Dev nD) (u : Fin cfg0.N) : Vec Ideal S512x1024 .f32 := k0_pay1 (iblk m c 0 u) (iblk m c 1 u)

theorem h_apply (c : Dev nD) (u t : Fin cfg0.N) (h : t.val % 2 = 1) (hu : u.val + 1 = t.val) (a : Fin 512) (b : Fin 1024) (r : Fin 2048)
    (hr : r.val = t.val / 2 * 512 + a.val) : k0_pay4 (half m c u) (iblk m c 0 t) (iblk m c 1 t) (ix2 a b) = argH m c (ix2 r b) := by
  unfold half
  rw [pay4_apply, pay1_apply]
  refine Eq.trans ?_ (prod_split (m ((c.tc : Thread nD τ).loc main_arg0)) (m ((c.tc : Thread nD τ).loc main_arg1)) r b).symm
  refine congrArg₂ (fun p q : EReal => p + q) (Finset.sum_congr rfl fun k _ => ?_) (Finset.sum_congr rfl fun k _ => ?_)
  · have hk : (Fin.castAdd 2048 k : Fin 4096).val = k.val := rfl
    rw [iblk0 m c u a k r (Fin.castAdd 2048 k) (by omega) (by omega), iblk1 m c u b k (Fin.castAdd 2048 k) (by omega)]
  · have hk : (Fin.natAdd 2048 k : Fin 4096).val = 2048 + k.val := rfl
    rw [iblk0 m c t a k r (Fin.natAdd 2048 k) (by omega) (by omega), iblk1 m c t b k (Fin.natAdd 2048 k) (by omega)]

theorem before_eq (c : Dev nD) (u t : Fin cfg0.N) (h : t.val % 2 = 1) (hu : u.val + 1 = t.val) :
    outsAt0 m c (t.val - 1) (Nat.lt_of_le_of_lt (Nat.sub_le _ _) t.isLt) = outsAt0 m c u.val u.isLt := by
  obtain ⟨n, hn⟩ := t
  obtain rfl : n = u.val + 1 := hu.symm
  rfl

theorem dx_block (c : Dev nD) (u t : Fin cfg0.N) (h : t.val % 2 = 1) (hu : u.val + 1 = t.val) (a : Fin 512) (b : Fin 1024) (r : Fin 2048)
    (hr : r.val = t.val / 2 * 512 + a.val) :
    k0_pay8 (half m c u) (iblk m c 0 t) (iblk m c 1 t) (iblk m c 2 t) (iblk m c 4 t) (iblk m c 3 t) (ix2 a b)
      = Rms.dx (argH m c) (argX m c) (argR m c) (argG m c) (ix2 r b) := by
  rw [pay8_apply]
  refine congrArg₂ (fun p q : EReal => p + q) (iblk3 m c t a b r hr) ?_
  refine congrArg₂ (fun f z => Rms.back f z b) (funext fun k => ?_) (funext fun k => iblk2 m c t a k r hr)
  exact congrArg₂ (fun p q : EReal => p * q) (h_apply m c u t h hu a k r hr) (iblk4 m c t k)

theorem dg_block (c : Dev nD) (u t : Fin cfg0.N) (h : t.val % 2 = 1) (hu : u.val + 1 = t.val) (b : Fin 1024) (f : Fin 512 → Fin 2048)
    (hf : ∀ a, (f a).val = t.val / 2 * 512 + a.val) :
    k0_pay7 (half m c u) (iblk m c 0 t) (iblk m c 1 t) (iblk m c 2 t) (ix2 (0 : Fin 1) b) = ∑ a : Fin 512, Rms.gainTerm (argH m c) (argX m c) b (f a) := by
  rw [pay7_apply]
  refine Finset.sum_congr rfl fun a _ => ?_
  refine congrArg₂ (fun p q : EReal => p * q) (h_apply m c u t h hu a b (f a) (hf a)) ?_
  exact congrArg₂ (fun p q : EReal => p * q) (iblk2 m c t a b (f a) (hf a)) (congrArg Rms.inv (funext fun k => iblk2 m c t a k (f a) (hf a)))

/-- The gain's gradient after each row of blocks. -/
theorem dg_at (c : Dev nD) (b : Fin 1024) : ∀ (n : ℕ) (hn : n < 4) (t : Fin cfg0.N), t.val = 2 * n + 1 →
    (outsAt0 m c t.val t.isLt).2.1 (ix2 (0 : Fin 1) b) = Rms.gainUpTo (argH m c) (argX m c) b n hn := by
  intro n
  induction n with
  | zero =>
    intro hn t ht
    let u : Fin cfg0.N := ⟨t.val - 1, Nat.lt_of_le_of_lt (Nat.sub_le _ _) t.isLt⟩
    have hu : u.val + 1 = t.val := by show t.val - 1 + 1 = _; omega
    rw [dg_first m c t (by omega) (by omega) (half m c u) (scratch_eq m c u (by omega)), Rms.gainUpTo_zero]
    exact dg_block m c u t (by omega) hu b _ fun a => by show a.val = _; omega
  | succ n ih =>
    intro hn t ht
    have hN : cfg0.N = 8 := N_0
    let u : Fin cfg0.N := ⟨t.val - 1, Nat.lt_of_le_of_lt (Nat.sub_le _ _) t.isLt⟩
    let v : Fin cfg0.N := ⟨u.val - 1, Nat.lt_of_le_of_lt (Nat.sub_le _ _) u.isLt⟩
    have hu : u.val + 1 = t.val := by show t.val - 1 + 1 = _; omega
    have hv : v.val + 1 = u.val := by show u.val - 1 + 1 = _; omega
    rw [dg_next m c t (by omega) (by omega) (half m c u) _ (scratch_eq m c u (by omega)) (kept_eq m c u (by omega)), pay3_apply, Rms.gainUpTo_succ]
    refine congrArg₂ (fun p q : EReal => p + q) (ih (by omega) v (by omega)) ?_
    exact dg_block m c u t (by omega) hu b _ fun a => by show 512 * (n + 1) + a.val = _; omega

/-! ### The arrays at the end -/

/-- The points that write back write to different blocks. -/
theorem inj5 : ∀ t t' : Fin cfg0.N, (cfg0.win 5).flush t = true → (cfg0.win 5).flush t' = true → win0_5.index t = win0_5.index t' → t = t' :=
  (by decide +kernel : ∀ t t' : Fin grid0.N, (cfg0.win 5).flush t = true → (cfg0.win 5).flush t' = true → win0_5.index t = win0_5.index t' → t = t')

theorem inj6 : ∀ t t' : Fin cfg0.N, (cfg0.win 6).flush t = true → (cfg0.win 6).flush t' = true → win0_6.index t = win0_6.index t' → t = t' :=
  (by decide +kernel : ∀ t t' : Fin grid0.N, (cfg0.win 6).flush t = true → (cfg0.win 6).flush t' = true → win0_6.index t = win0_6.index t' → t = t')

theorem inj7 : ∀ t t' : Fin cfg0.N, (cfg0.win 7).flush t = true → (cfg0.win 7).flush t' = true → win0_7.index t = win0_7.index t' → t = t' :=
  (by decide +kernel : ∀ t t' : Fin grid0.N, (cfg0.win 7).flush t = true → (cfg0.win 7).flush t' = true → win0_7.index t = win0_7.index t' → t = t')

theorem index6 : ∀ t : Fin cfg0.N, win0_6.index t 0 = 0 ∧ win0_6.index t 1 = 0 :=
  (by decide +kernel : ∀ t : Fin grid0.N, win0_6.index t 0 = 0 ∧ win0_6.index t 1 = 0)

theorem final_dx (c : Dev nD) : (dats m 0 c).arrAt 5 cfg0.N = Rms.dx (argH m c) (argX m c) (argR m c) (argG m c) := by
  funext i
  obtain ⟨r, s, rfl⟩ : ∃ (r : Fin 2048) (s : Fin 1024), i = ix2 r s := ⟨i 0, i 1, ValueIdx.eq_ix2 i⟩
  have hr := r.isLt
  let t : Fin cfg0.N := ⟨r.val / 512 * 2 + 1, by show _ < 8; omega⟩
  let u : Fin cfg0.N := ⟨r.val / 512 * 2, by show _ < 8; omega⟩
  let a : Fin 512 := ⟨r.val % 512, by omega⟩
  have ht0 : t.val / 2 = r.val / 512 := by show (r.val / 512 * 2 + 1) / 2 = _; omega
  have ht1 : t.val % 2 = 1 := by show (r.val / 512 * 2 + 1) % 2 = _; omega
  have hu1 : u.val % 2 = 0 := by show (r.val / 512 * 2) % 2 = _; omega
  have ha : a.val = r.val % 512 := rfl
  obtain ⟨-, -, -, -, -, ⟨e0, e1⟩, f0, f1⟩ := index0 t
  have h := ((dats m 0 c).read_blk_arrAt_eq_flushed 5 (fun t t' hf hf' hne => (cfg0.win 5).disjoint_blk fun h => hne (inj5 t t' hf hf' h))
    cfg0.N t t.isLt ((flush0_5 t).2 ht1)).trans (flushed5 m c t)
  refine Eq.trans (congrArg _ (funext fun x => Fin.ext ?_)) ((congrFun h (ix2 a s)).trans ?_)
  · match x with
    | ⟨0, _⟩ => show r.val = win0_5.index t 0 * 512 + 1 * a.val; rw [e0]; omega
    | ⟨1, _⟩ => show s.val = win0_5.index t 1 * 1024 + 1 * s.val; rw [e1]; omega
  · refine (congrFun (dx_eq m c t ht1 (half m c u) (scratch_eq m c u hu1)) (ix2 a s)).trans ?_
    exact dx_block m c u t ht1 rfl a s r (by omega)

theorem final_dxr (c : Dev nD) : (dats m 0 c).arrAt 7 cfg0.N = Rms.dx (argH m c) (argX m c) (argR m c) (argG m c) := by
  funext i
  obtain ⟨r, s, rfl⟩ : ∃ (r : Fin 2048) (s : Fin 1024), i = ix2 r s := ⟨i 0, i 1, ValueIdx.eq_ix2 i⟩
  have hr := r.isLt
  let t : Fin cfg0.N := ⟨r.val / 512 * 2 + 1, by show _ < 8; omega⟩
  let u : Fin cfg0.N := ⟨r.val / 512 * 2, by show _ < 8; omega⟩
  let a : Fin 512 := ⟨r.val % 512, by omega⟩
  have ht0 : t.val / 2 = r.val / 512 := by show (r.val / 512 * 2 + 1) / 2 = _; omega
  have ht1 : t.val % 2 = 1 := by show (r.val / 512 * 2 + 1) % 2 = _; omega
  have hu1 : u.val % 2 = 0 := by show (r.val / 512 * 2) % 2 = _; omega
  have ha : a.val = r.val % 512 := rfl
  obtain ⟨-, -, -, -, -, ⟨e0, e1⟩, f0, f1⟩ := index0 t
  have h := ((dats m 0 c).read_blk_arrAt_eq_flushed 7 (fun t t' hf hf' hne => (cfg0.win 7).disjoint_blk fun h => hne (inj7 t t' hf hf' h))
    cfg0.N t t.isLt ((flush0_7 t).2 ht1)).trans (flushed7 m c t)
  refine Eq.trans (congrArg _ (funext fun x => Fin.ext ?_)) ((congrFun h (ix2 a s)).trans ?_)
  · match x with
    | ⟨0, _⟩ => show r.val = win0_7.index t 0 * 512 + 1 * a.val; rw [f0]; omega
    | ⟨1, _⟩ => show s.val = win0_7.index t 1 * 1024 + 1 * s.val; rw [f1]; omega
  · refine (congrFun (dxr_eq m c t ht1 (half m c u) (scratch_eq m c u hu1)) (ix2 a s)).trans ?_
    exact dx_block m c u t ht1 rfl a s r (by omega)

theorem final_dg (c : Dev nD) : (dats m 0 c).arrAt 6 cfg0.N = Rms.dg (argH m c) (argX m c) := by
  funext i
  obtain ⟨z, s, rfl⟩ : ∃ (z : Fin 1) (s : Fin 1024), i = ix2 z s := ⟨i 0, i 1, ValueIdx.eq_ix2 i⟩
  obtain rfl : z = 0 := Subsingleton.elim _ _
  let t : Fin cfg0.N := ⟨7, by show _ < 8; omega⟩
  obtain ⟨e0, e1⟩ := index6 t
  have h := ((dats m 0 c).read_blk_arrAt_eq_flushed 6 (fun t t' hf hf' hne => (cfg0.win 6).disjoint_blk fun h => hne (inj6 t t' hf hf' h))
    cfg0.N t t.isLt ((flush0_6 t).2 rfl)).trans (flushed6 m c t)
  refine Eq.trans (congrArg _ (funext fun x => Fin.ext ?_)) ((congrFun h (ix2 (0 : Fin 1) s)).trans ?_)
  · match x with
    | ⟨0, _⟩ => show 0 = win0_6.index t 0 * 1 + 1 * 0; rw [e0]
    | ⟨1, _⟩ => show s.val = win0_6.index t 1 * 1024 + 1 * s.val; rw [e1]; omega
  · exact (dg_at m c s 3 (by omega) t rfl).trans (Rms.gainUpTo_last _ _ s)

theorem run : θ_run defs (onTc (τ := τ) (main (F := Ideal))) ⟨m, fun _ => 0, ρ⟩ fun r => ∀ c : Dev nD,
      r.2.mem ((c.tc : Thread nD τ).loc main_v1_0) = Rms.dx (argH m c) (argX m c) (argR m c) (argG m c)
      ∧ r.2.mem ((c.tc : Thread nD τ).loc main_v1_1) = Rms.dg (argH m c) (argX m c)
      ∧ r.2.mem ((c.tc : Thread nD τ).loc main_v1_2) = Rms.dx (argH m c) (argX m c) (argR m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(post5 m r h c).trans (final_dx m c), (post6 m r h c).trans (final_dg m c), (post7 m r h c).trans (final_dxr m c),
      kept_main_arg0 m r h c, kept_main_arg1 m r h c, kept_main_arg2 m r h c, kept_main_arg3 m r h c, kept_main_arg4 m r h c⟩)
    (run_main m ρ)

end Cert.Kernel6Ideal.Mm

namespace Cert.Reference6Ideal.Mm

open Cert.Reference6Ideal Cert.Reference6Ideal.Gen Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

/-- The product, as the reference writes it. -/
theorem prod_eq (f : FVec Ideal S2048x4096 .bf16) (w : FVec Ideal S1024x4096 .bf16) (p q) :
    Host.dotGeneral dot_S2048x4096_S1024x4096_S2048x1024_1_1_0_0_n_n none (extf .f32 f p) (extf .f32 w q) = Cert.Kernel6Ideal.Mm.prod f w := by
  funext i
  obtain ⟨r, s, rfl⟩ : ∃ (r : Fin 2048) (s : Fin 1024), i = ix2 r s := ⟨i 0, i 1, ValueIdx.eq_ix2 i⟩
  exact Products.host_nt (φ₁ := .f32) (φ₂ := .f32) _ none f w r s

abbrev argH (c : Dev nD) : S2048x1024.Idx → EReal := Cert.Kernel6Ideal.Mm.prod (m ((c.tc : Thread nD τ).loc main_arg0)) (m ((c.tc : Thread nD τ).loc main_arg1))

theorem dx_eq (c : Dev nD) : Cert.Reference6Ideal.Value.res_main_v40 m c
    = Rms.dx (argH m c) (m ((c.tc : Thread nD τ).loc main_arg2)) (m ((c.tc : Thread nD τ).loc main_arg3)) (m ((c.tc : Thread nD τ).loc main_arg4)) := by
  unfold Cert.Reference6Ideal.Value.res_main_v40
  rw [prod_eq]
  have hu := Rms.under_all (m ((c.tc : Thread nD τ).loc main_arg2)) reducesTo_S2048x1024_S2048_d1 h_S_ bcast_S2048_S2048x1_0 bcast_S_S2048x1
  refine Rms.dx_all (argH m c) _ _ (m ((c.tc : Thread nD τ).loc main_arg4)) _ _ _
    (fun a k => congrArg (fun z : EReal => argH m c (ix2 a k) * z) (Rms.gain_apply _ _ _ a k)) ?_ ?_
  · exact Rms.coef_all _ _ _ hu _ _ _ _ _ _
  · exact Rms.inv_all _ _ hu _

theorem dxr_eq (c : Dev nD) : Cert.Reference6Ideal.Value.res_main_v42 m c
    = Rms.dx (argH m c) (m ((c.tc : Thread nD τ).loc main_arg2)) (m ((c.tc : Thread nD τ).loc main_arg3)) (m ((c.tc : Thread nD τ).loc main_arg4)) :=
  Eq.trans rfl (dx_eq m c)

theorem run : θ_run defs (onTc (τ := τ) (main (F := Ideal))) ⟨m, fun _ => 0, ρ⟩ fun r => ∀ c : Dev nD,
      r.2.mem ((c.tc : Thread nD τ).loc main_v40)
        = Rms.dx (argH m c) (m ((c.tc : Thread nD τ).loc main_arg2)) (m ((c.tc : Thread nD τ).loc main_arg3)) (m ((c.tc : Thread nD τ).loc main_arg4))
      ∧ r.2.mem ((c.tc : Thread nD τ).loc main_v41) = Rms.dg (argH m c) (m ((c.tc : Thread nD τ).loc main_arg2))
      ∧ r.2.mem ((c.tc : Thread nD τ).loc main_v42)
        = Rms.dx (argH m c) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, hk⟩ := h c
    refine ⟨h0.trans (dx_eq m c), h1.trans ?_, h2.trans (dxr_eq m c), hk⟩
    rw [prod_eq]
    have hu := Rms.under_all (m ((c.tc : Thread nD τ).loc main_arg2)) reducesTo_S2048x1024_S2048_d1 h_S_ bcast_S2048_S2048x1_0 bcast_S_S2048x1
    exact Rms.dg_all (argH m c) (m ((c.tc : Thread nD τ).loc main_arg2)) _ (Rms.inv_all _ _ hu _) _ _ _ _) (Cert.Reference6Ideal.Value.run m ρ)

end Cert.Reference6Ideal.Mm

end
-- ==== Proof.MmFf2.lean ====
/- The feed-forward block's second product: the residual plus the squared rectifier times the weights, the 4096 terms of each
   sum taken in two halves. -/
module

public import proofs.«01_k».proof.Proof.Gen.Kernel7Ideal.Value
public import proofs.«01_k».proof.Proof.Gen.Reference7Ideal.Run
public import proofs.«01_k».proof.Proof.Products
public import Idealize.ShloMosaic.Lib.Pipeline.ValueKit.Acc

@[expose] public section

set_option maxRecDepth 16384

noncomputable section

namespace Cert.Kernel7Ideal.Mm

open Cert.Kernel7Ideal Cert.Kernel7Ideal.Gen Cert.Kernel7Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The squared rectifier. -/
def sq (x : EReal) : EReal := max x (Ideal.ofBits .f32 0x00000000#32) * max x (Ideal.ofBits .f32 0x00000000#32)

/-- The residual plus the squared rectifier of f times the weights, entry by entry. -/
def prod (f : S2048x4096.Idx → EReal) (w : S4096x1024.Idx → EReal) (x : S2048x1024.Idx → EReal) : S2048x1024.Idx → EReal :=
  fun i => x i + ∑ k : Fin 4096, sq (f (ix2 (i 0) k)) * w (ix2 k (i 1))

/-- Which block of each array a grid point takes. -/
theorem index0 : ∀ t : Fin cfg0.N, (win0_0.index t 0 = t.val / 2 ∧ win0_0.index t 1 = t.val % 2) ∧ (win0_1.index t 0 = t.val % 2 ∧ win0_1.index t 1 = 0)
    ∧ (win0_2.index t 0 = t.val / 2 ∧ win0_2.index t 1 = 0) ∧ (win0_3.index t 0 = t.val / 2 ∧ win0_3.index t 1 = 0) :=
  (by decide +kernel : ∀ t : Fin grid0.N, (win0_0.index t 0 = t.val / 2 ∧ win0_0.index t 1 = t.val % 2) ∧ (win0_1.index t 0 = t.val % 2 ∧ win0_1.index t 1 = 0)
    ∧ (win0_2.index t 0 = t.val / 2 ∧ win0_2.index t 1 = 0) ∧ (win0_3.index t 0 = t.val / 2 ∧ win0_3.index t 1 = 0))

/-- The points that write back write to different blocks. -/
theorem inj3 : ∀ t t' : Fin cfg0.N, (cfg0.win 3).flush t = true → (cfg0.win 3).flush t' = true → win0_3.index t = win0_3.index t' → t = t' :=
  (by decide +kernel : ∀ t t' : Fin grid0.N, (cfg0.win 3).flush t = true → (cfg0.win 3).flush t' = true → win0_3.index t = win0_3.index t' → t = t')

theorem iblk0 (c : Dev nD) (t : Fin cfg0.N) (a : Fin 1024) (k : Fin 2048) (r : Fin 2048) (l : Fin 4096) (hr : r.val = t.val / 2 * 1024 + a.val)
    (hl : l.val = t.val % 2 * 2048 + k.val) : iblk m c 0 t (ix2 a k) = m ((c.tc : Thread nD τ).loc main_arg0) (ix2 r l) := by
  obtain ⟨⟨e0, e1⟩, -⟩ := index0 t
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 2048 + 1 * k.val = l.val; rw [e1]; omega

theorem iblk1 (c : Dev nD) (t : Fin cfg0.N) (k : Fin 2048) (b : Fin 1024) (l : Fin 4096)
    (hl : l.val = t.val % 2 * 2048 + k.val) : iblk m c 1 t (ix2 k b) = m ((c.tc : Thread nD τ).loc main_arg1) (ix2 l b) := by
  obtain ⟨-, ⟨e0, e1⟩, -⟩ := index0 t
  refine congrArg (m ((c.tc : Thread nD τ).loc main_arg1)) (funext fun x => Fin.ext ?_)
  match x with
  | ⟨0, _⟩ => show win0_1.index t 0 * 2048 + 1 * k.val = l.val; rw [e0]; omega
  | ⟨1, _⟩ => show win0_1.index t 1 * 1024 + 1 * b.val = b.val; rw [e1]; omega

theorem iblk2 (c : Dev nD) (t : Fin cfg0.N) (a b : Fin 1024) (r : Fin 2048) (hr : r.val = t.val / 2 * 1024 + a.val) :
    iblk m c 2 t (ix2 a b) = m ((c.tc : Thread nD τ).loc main_arg2) (ix2 r b) := by
  obtain ⟨-, -, ⟨e0, e1⟩, -⟩ := index0 t
  refine congrArg (m ((c.tc : Thread nD τ).loc main_arg2)) (funext fun x => Fin.ext ?_)
  match x with
  | ⟨0, _⟩ => show win0_2.index t 0 * 1024 + 1 * a.val = r.val; rw [e0]; omega
  | ⟨1, _⟩ => show win0_2.index t 1 * 1024 + 1 * b.val = b.val; rw [e1]; omega

/-- The first half's product … -/
theorem pay1_apply (x : Vec Ideal S1024x2048 .bf16) (y : Vec Ideal S2048x1024 .bf16) (a b : Fin 1024) :
    k0_pay1 x y (ix2 a b) = ∑ k : Fin 2048, sq (x (ix2 a k)) * y (ix2 k b) := by
  unfold k0_pay1
  refine (shapeCast_apply _ _ (ix2 a b) (ix2 a b) rfl).trans ?_
  exact Products.nn (φ₁ := .bf16) (φ₂ := .bf16) _ none (fun i => sq (x i)) y a b

/-- … and the second's, added to the first and to the residual. -/
theorem pay3_apply (s : Vec Ideal S1024x1024 .f32) (x : Vec Ideal S1024x2048 .bf16) (y : Vec Ideal S2048x1024 .bf16) (z : Vec Ideal S1024x1024 .f32) (a b : Fin 1024) :
    k0_pay3 s x y z (ix2 a b) = z (ix2 a b) + (s (ix2 a b) + ∑ k : Fin 2048, sq (x (ix2 a k)) * y (ix2 k b) : EReal) := by
  unfold k0_pay3
  exact congrArg (fun v : EReal => z (ix2 a b) + (s (ix2 a b) + v : EReal)) (Products.nn (φ₁ := .bf16) (φ₂ := .bf16) _ none (fun i => sq (x i)) y a b)

/-- What the second point of a row of blocks leaves, the scratch holding what the first left. -/
theorem outs_eq (c : Dev nD) (t u : Fin cfg0.N) (h : t.val % 2 = 1) (hu : u.val + 1 = t.val) :
    (outsAt0 m c t.val t.isLt).1 = k0_pay3 (k0_pay1 (iblk m c 0 u) (iblk m c 1 u)) (iblk m c 0 t) (iblk m c 1 t) (iblk m c 2 t) := by
  obtain ⟨n, hn⟩ := t
  obtain rfl : n = u.val + 1 := hu.symm
  rw [outsAt0_B m c ⟨u.val + 1, hn⟩ (by show ¬ (u.val + 1) % 2 = 0; omega) h]
  have e : (outsAt0 m c (u.val + 1 - 1) (Nat.lt_of_le_of_lt (Nat.sub_le _ _) hn)).2 = k0_pay1 (iblk m c 0 u) (iblk m c 1 u) := by
    show (outsAt0 m c u.val u.isLt).2 = _
    rw [outsAt0_A m c u (by omega) (by omega)]
    frame_out
  generalize hs : (outsAt0 m c (u.val + 1 - 1) (Nat.lt_of_le_of_lt (Nat.sub_le _ _) hn)).2 = s at e ⊢
  frame_out
  subst e
  exact congrArg (fun z => k0_pay3 z (iblk m c 0 ⟨u.val + 1, hn⟩) (iblk m c 1 ⟨u.val + 1, hn⟩) (iblk m c 2 ⟨u.val + 1, hn⟩))
    ((Memref.isWhole_whole cc0_scratch0).read_unread _)

theorem final (c : Dev nD) : (dats m 0 c).arrAt 3 cfg0.N
    = prod (m ((c.tc : Thread nD τ).loc main_arg0)) (m ((c.tc : Thread nD τ).loc main_arg1)) (m ((c.tc : Thread nD τ).loc main_arg2)) := by
  funext i
  obtain ⟨r, s, rfl⟩ : ∃ (r : Fin 2048) (s : Fin 1024), i = ix2 r s := ⟨i 0, i 1, ValueIdx.eq_ix2 i⟩
  have hr := r.isLt
  let t : Fin cfg0.N := ⟨r.val / 1024 * 2 + 1, by show _ < 4; omega⟩
  let u : Fin cfg0.N := ⟨r.val / 1024 * 2, by show _ < 4; omega⟩
  let a : Fin 1024 := ⟨r.val % 1024, by omega⟩
  have ht0 : t.val / 2 = r.val / 1024 := by show (r.val / 1024 * 2 + 1) / 2 = _; omega
  have ht1 : t.val % 2 = 1 := by show (r.val / 1024 * 2 + 1) % 2 = _; omega
  have hu0 : u.val / 2 = r.val / 1024 := by show (r.val / 1024 * 2) / 2 = _; omega
  have hu1 : u.val % 2 = 0 := by show (r.val / 1024 * 2) % 2 = _; omega
  have ha : a.val = r.val % 1024 := rfl
  obtain ⟨-, -, -, e0, e1⟩ := index0 t
  have h := ((dats m 0 c).read_blk_arrAt_eq_flushed 3 (fun t t' hf hf' hne => (cfg0.win 3).disjoint_blk fun h => hne (inj3 t t' hf hf' h))
    cfg0.N t t.isLt ((flush0_3 t).2 ht1)).trans (flushed3 m c t)
  refine Eq.trans (congrArg _ (funext fun x => Fin.ext ?_)) ((congrFun h (ix2 a s)).trans ?_)
  · match x with
    | ⟨0, _⟩ => show r.val = win0_3.index t 0 * 1024 + 1 * a.val; rw [e0]; omega
    | ⟨1, _⟩ => show s.val = win0_3.index t 1 * 1024 + 1 * s.val; rw [e1]; omega
  · refine (congrFun (outs_eq m c t u ht1 rfl) (ix2 a s)).trans ?_
    rw [pay3_apply, pay1_apply, iblk2 m c t a s r (by omega)]
    refine congrArg₂ (fun p q : EReal => p + q) rfl ?_
    refine Eq.trans ?_ (Fin.sum_univ_add (a := 2048) (b := 2048) fun k : Fin 4096 =>
      sq (m ((c.tc : Thread nD τ).loc main_arg0) (ix2 r k)) * m ((c.tc : Thread nD τ).loc main_arg1) (ix2 k s)).symm
    refine congrArg₂ (fun p q : EReal => p + q) (Finset.sum_congr rfl fun k _ => ?_) (Finset.sum_congr rfl fun k _ => ?_)
    · have hk : (Fin.castAdd 2048 k : Fin 4096).val = k.val := rfl
      rw [iblk0 m c u a k r (Fin.castAdd 2048 k) (by omega) (by omega), iblk1 m c u k s (Fin.castAdd 2048 k) (by omega)]
    · have hk : (Fin.natAdd 2048 k : Fin 4096).val = 2048 + k.val := rfl
      rw [iblk0 m c t a k r (Fin.natAdd 2048 k) (by omega) (by omega), iblk1 m c t k s (Fin.natAdd 2048 k) (by omega)]

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Cert.Kernel7Ideal.Mm

namespace Cert.Reference7Ideal.Mm

open Cert.Reference7Ideal Idealize.ShloMosaic.TcCoe Idealize.SL.Sem
open Idealize.ShloMosaic
open Idealize.ShloMosaic.ValueIdx

theorem out_eq (f : FVec Ideal S2048x4096 .bf16) (w : FVec Ideal S4096x1024 .bf16) (x : FVec Ideal S2048x1024 .f32) (p p') (hb) :
    addf x (Host.dotGeneral dot_S2048x4096_S4096x1024_S2048x1024_1_0_0_1_n_n none
      (mulf (maximumf (extf .f32 f p) (broadcastInDim S2048x4096 ![] hb (constant S_ .f32 0x00000000#32)))
        (maximumf (extf .f32 f p) (broadcastInDim S2048x4096 ![] hb (constant S_ .f32 0x00000000#32)))) (extf .f32 w p'))
      = Cert.Kernel7Ideal.Mm.prod f w x := by
  funext i
  obtain ⟨r, s, rfl⟩ : ∃ (r : Fin 2048) (s : Fin 1024), i = ix2 r s := ⟨i 0, i 1, ValueIdx.eq_ix2 i⟩
  exact congrArg (fun v : EReal => x (ix2 r s) + v) (Products.host_nn (φ₁ := .f32) (φ₂ := .f32) _ none (fun i => Cert.Kernel7Ideal.Mm.sq (f i)) w r s)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5) = Cert.Kernel7Ideal.Mm.prod (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out_eq _ _ _ _ _ _), (h c).2⟩) (Cert.Reference7Ideal.Value.run m ρ)

end Cert.Reference7Ideal.Mm

end
-- ==== Proof.Slots.lean ====
/- Weights of 7680 columns cut into eight slots of 1024: slot d holds the columns 960d … 960d + 959, in an even slot followed
   by 64 columns of zeros, in an odd slot preceded by them. -/
module

public import Idealize.ShloMosaic.Lib.Pipeline.Value
public import Idealize.ShloMosaic.Lib.KernelVsHost

@[expose] public section

set_option maxRecDepth 16384

noncomputable section

namespace Cert.Slots

open Idealize.ShloMosaic
open Idealize.ShloMosaic.ValueIdx

abbrev Sw : Shape := ⟨2, ![1024, 7680]⟩
abbrev Scut : Shape := ⟨2, ![1024, 960]⟩
abbrev Stile : Shape := ⟨2, ![1024, 1024]⟩
abbrev Sone : Shape := ⟨3, ![1, 1024, 1024]⟩
abbrev Sall : Shape := ⟨3, ![8, 1024, 1024]⟩
abbrev Snil : Shape := ⟨0, ![]⟩

/-- 960 columns from column `o` with 64 columns of `z` behind them … -/
def even (w : Sw.Idx → EReal) (z : Snil.Idx → EReal) (o : Nat) (hs : Sw.Slices ![0, o] Scut)
    (hp : Scut.Pads (![0, 0] : Fin 2 → Nat) ![0, 64] ![0, 0] Stile) (hz : 0 < Snil.numel)
    (hb : Stile.BroadcastsInDim Sone (![1, 2] : Fin 2 → Fin Sone.rank)) : Sone.Idx → EReal :=
  broadcastInDim Sone ![1, 2] hb (pad Stile ![0, 0] ![0, 64] ![0, 0] (extractStridedSlice Scut ![0, o] w hs) z hp hz)

/-- … and with them in front. -/
def odd (w : Sw.Idx → EReal) (z : Snil.Idx → EReal) (o : Nat) (hs : Sw.Slices ![0, o] Scut)
    (hp : Scut.Pads (![0, 64] : Fin 2 → Nat) ![0, 0] ![0, 0] Stile) (hz : 0 < Snil.numel)
    (hb : Stile.BroadcastsInDim Sone (![1, 2] : Fin 2 → Fin Sone.rank)) : Sone.Idx → EReal :=
  broadcastInDim Sone ![1, 2] hb (pad Stile ![0, 64] ![0, 0] ![0, 0] (extractStridedSlice Scut ![0, o] w hs) z hp hz)

variable (w : Sw.Idx → EReal) (z : Snil.Idx → EReal) (o : Nat) (hs : Sw.Slices ![0, o] Scut) (hz : 0 < Snil.numel)
  (hb : Stile.BroadcastsInDim Sone (![1, 2] : Fin 2 → Fin Sone.rank)) (r j : Fin 1024)

theorem bcast_apply (x : Stile.Idx → EReal) : broadcastInDim Sone ![1, 2] hb x (ix3 (0 : Fin 1) r j) = x (ix2 r j) :=
  broadcastInDim_apply ![1, 2] hb x _ _ fun a => by
    match a with
    | ⟨0, _⟩ => rfl
    | ⟨1, _⟩ => rfl

theorem even_in (hp) (s : Fin 7680) (h : j.val < 960) (e : s.val = o + j.val) : even w z o hs hp hz hb (ix3 (0 : Fin 1) r j) = w (ix2 r s) := by
  unfold even
  rw [bcast_apply]
  refine (pad_apply_of_inside ![0, 0] ![0, 64] ![0, 0] (extractStridedSlice Scut ![0, o] w hs) z hp hz (ix2 r j) (ix2 r (⟨j.val, h⟩ : Fin 960)) fun a => ?_).trans ?_
  · match a with
    | ⟨0, _⟩ => show r.val = 0 + r.val * 1; omega
    | ⟨1, _⟩ => show j.val = 0 + j.val * 1; omega
  · refine extractStridedSlice_apply _ w hs _ (ix2 r s) fun a => ?_
    match a with
    | ⟨0, _⟩ => show r.val = 0 + r.val; omega
    | ⟨1, _⟩ => exact e

theorem even_out (hp) (h0 : ∀ i, z i = 0) (h : 960 ≤ j.val) : even w z o hs hp hz hb (ix3 (0 : Fin 1) r j) = 0 := by
  unfold even
  rw [bcast_apply]
  refine (pad_apply_of_not_inside ![0, 0] ![0, 64] ![0, 0] (extractStridedSlice Scut ![0, o] w hs) z hp hz (ix2 r j) (1 : Fin 2) fun hc => ?_).trans (h0 _)
  have h1 : (j.val - 0) / 1 < 960 := hc.2.2
  omega

theorem odd_in (hp) (s : Fin 7680) (h : 64 ≤ j.val) (e : s.val + 64 = o + j.val) : odd w z o hs hp hz hb (ix3 (0 : Fin 1) r j) = w (ix2 r s) := by
  unfold odd
  rw [bcast_apply]
  refine (pad_apply_of_inside ![0, 64] ![0, 0] ![0, 0] (extractStridedSlice Scut ![0, o] w hs) z hp hz (ix2 r j) (ix2 r (⟨j.val - 64, by omega⟩ : Fin 960)) fun a => ?_).trans ?_
  · match a with
    | ⟨0, _⟩ => show r.val = 0 + r.val * 1; omega
    | ⟨1, _⟩ => show j.val = 64 + (j.val - 64) * 1; omega
  · refine extractStridedSlice_apply _ w hs _ (ix2 r s) fun a => ?_
    match a with
    | ⟨0, _⟩ => show r.val = 0 + r.val; omega
    | ⟨1, _⟩ => show s.val = o + (j.val - 64); omega

theorem odd_out (hp) (h0 : ∀ i, z i = 0) (h : j.val < 64) : odd w z o hs hp hz hb (ix3 (0 : Fin 1) r j) = 0 := by
  unfold odd
  rw [bcast_apply]
  refine (pad_apply_of_not_inside ![0, 64] ![0, 0] ![0, 0] (extractStridedSlice Scut ![0, o] w hs) z hp hz (ix2 r j) (1 : Fin 2) fun hc => ?_).trans (h0 _)
  have h1 : 64 ≤ j.val := hc.1
  omega

/-- Eight slabs stacked: entry (d, r, j) is slab d's entry (r, j). -/
theorem stack_apply (f : Fin 8 → Sone.Idx → EReal) (h) (d : Fin 8) :
    concatenate Sall 0 [⟨Sone, f 0⟩, ⟨Sone, f 1⟩, ⟨Sone, f 2⟩, ⟨Sone, f 3⟩, ⟨Sone, f 4⟩, ⟨Sone, f 5⟩, ⟨Sone, f 6⟩, ⟨Sone, f 7⟩] h (ix3 d r j)
      = f d (ix3 (0 : Fin 1) r j) :=
  concatenate_ofFn_unit_apply (t := Sall) (s₁ := Sone) 0 f h rfl rfl (ix3 d r j) d rfl (ix3 (0 : Fin 1) r j) fun b hb => by
    match b with
    | ⟨0, _⟩ => exact absurd rfl hb
    | ⟨1, _⟩ => rfl
    | ⟨2, _⟩ => rfl

/-- The eight slots, for a padding of `z`. -/
def slots (hs : ∀ d : Fin 8, Sw.Slices ![0, 960 * d.val] Scut) (hp : Scut.Pads (![0, 0] : Fin 2 → Nat) ![0, 64] ![0, 0] Stile)
    (hq : Scut.Pads (![0, 64] : Fin 2 → Nat) ![0, 0] ![0, 0] Stile) (d : Fin 8) : Sone.Idx → EReal :=
  if d.val % 2 = 0 then even w z (960 * d.val) (hs d) hp hz hb else odd w z (960 * d.val) (hs d) hq hz hb

/-- In the pair of slots 2q, 2q + 1, column c < 896 of the first is column 1920q + c of the weights … -/
theorem slots_left (hs) (hp) (hq) (q : Fin 4) (d : Fin 8) (hd : d.val = 2 * q.val) (s : Fin 7680) (h : j.val < 896) (e : s.val = 1920 * q.val + j.val) :
    slots w z hz hb hs hp hq d (ix3 (0 : Fin 1) r j) = w (ix2 r s) := by
  unfold slots
  rw [if_pos (by omega)]
  exact even_in w z _ _ hz hb r j hp s (by omega) (by omega)

/-- … column 128 ≤ c of the second is column 1920q + 896 + c … -/
theorem slots_right (hs) (hp) (hq) (q : Fin 4) (d : Fin 8) (hd : d.val = 2 * q.val + 1) (s : Fin 7680) (h : 128 ≤ j.val) (e : s.val = 1920 * q.val + 896 + j.val) :
    slots w z hz hb hs hp hq d (ix3 (0 : Fin 1) r j) = w (ix2 r s) := by
  unfold slots
  rw [if_neg (by omega)]
  exact odd_in w z _ _ hz hb r j hq s (by omega) (by omega)

/-- … and the last 128 columns of the first and the first 128 of the second add to the weights' columns there. -/
theorem slots_middle (hs) (hp) (hq) (h0 : ∀ i, z i = 0) (q : Fin 4) (d d' : Fin 8) (hd : d.val = 2 * q.val) (hd' : d'.val = 2 * q.val + 1)
    (b b' : Fin 1024) (hb' : b.val = 896 + b'.val) (s : Fin 7680) (e : s.val = 1920 * q.val + b.val) :
    slots w z hz hb hs hp hq d (ix3 (0 : Fin 1) r b) + slots w z hz hb hs hp hq d' (ix3 (0 : Fin 1) r b') = w (ix2 r s) := by
  unfold slots
  rw [if_pos (by omega), if_neg (by omega)]
  by_cases h : b'.val < 64
  · rw [even_in w z _ _ hz hb r b hp s (by omega) (by omega), odd_out w z _ _ hz hb r b' hq h0 h, add_zero]
  · rw [even_out w z _ _ hz hb r b hp h0 (by omega), odd_in w z _ _ hz hb r b' hq s (by omega) (by omega), zero_add]

end Cert.Slots

end
-- ==== Proof.MmIn.lean ====
/- The input projection: the activations times weights that arrive in eight slots overlapping in pairs, the overlap added first. -/
module

public import proofs.«01_k».proof.Proof.Gen.Kernel8Ideal.Value
public import proofs.«01_k».proof.Proof.Gen.Reference8Ideal.Run
public import proofs.«01_k».proof.Proof.Products
public import proofs.«01_k».proof.Proof.Slots
public import Idealize.ShloMosaic.Lib.Pipeline.ValueKit.Acc

@[expose] public section

set_option maxRecDepth 16384

noncomputable section

namespace Cert.Kernel8Ideal.Mm

open Cert.Kernel8Ideal Cert.Kernel8Ideal.Gen Cert.Kernel8Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The activations times the weights. -/
def prod (x : S2048x1024.Idx → EReal) (w : S1024x7680.Idx → EReal) : S2048x7680.Idx → EReal :=
  fun i => ∑ k : Fin 1024, x (ix2 (i 0) k) * w (ix2 k (i 1))

/-- The slots the host prepares: entry (d, r, j) of slot d. -/
def slot (w : S1024x7680.Idx → EReal) (d : Fin 8) : S1x1024x1024.Idx → EReal :=
  Slots.slots w (sitofp .bf16 (constantI S_ 32 0#32) : FVec Ideal S_ .bf16) h_S_ bcast_S1024x1024_S1x1024x1024_1_2
    (fun d => ⟨rfl, by decide +revert⟩) pads_S1024x960_S1024x1024_000_0640 pads_S1024x960_S1024x1024_000_6400 d

theorem V_slots (c : Dev nD) (d : Fin 8) (r j : Fin 1024) :
    V m c main_v24 (ix3 d r j) = slot (m ((c.tc : Thread nD τ).loc main_arg1)) d (ix3 (0 : Fin 1) r j) := by
  refine Eq.trans (congrFun (?_ : V m c main_v24 = concatenate S8x1024x1024 0 [⟨S1x1024x1024, slot (m ((c.tc : Thread nD τ).loc main_arg1)) 0⟩, ⟨S1x1024x1024, slot (m ((c.tc : Thread nD τ).loc main_arg1)) 1⟩,
    ⟨S1x1024x1024, slot (m ((c.tc : Thread nD τ).loc main_arg1)) 2⟩, ⟨S1x1024x1024, slot (m ((c.tc : Thread nD τ).loc main_arg1)) 3⟩, ⟨S1x1024x1024, slot (m ((c.tc : Thread nD τ).loc main_arg1)) 4⟩,
    ⟨S1x1024x1024, slot (m ((c.tc : Thread nD τ).loc main_arg1)) 5⟩, ⟨S1x1024x1024, slot (m ((c.tc : Thread nD τ).loc main_arg1)) 6⟩, ⟨S1x1024x1024, slot (m ((c.tc : Thread nD τ).loc main_arg1)) 7⟩]
    concatenates_S1x1024x1024_S1x1024x1024_S1x1024x1024_S1x1024x1024_S1x1024x1024_S1x1024x1024_S1x1024x1024_S1x1024x1024_S8x1024x1024_d0) (ix3 d r j)) (Slots.stack_apply r j _ _ d)
  show StableHlo.after (List.flatten [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16]) (fun b => m (c, b)) (Proc.devRef .tc main_v24) = _
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append,
    StableHlo.TRef.binary, StableHlo.TRef.unary, StableHlo.TRef.toBuf, StableHlo.TRef.ofBuf, cast_eq]
  after_results_simp
  rfl

/-- Which block of each array a grid point takes. -/
theorem index0 : ∀ t : Fin cfg0.N, (win0_0.index t 0 = t.val % 2 ∧ win0_0.index t 1 = 0)
    ∧ (win0_1.index t 0 = 2 * (t.val / 2) ∧ win0_1.index t 1 = 0 ∧ win0_1.index t 2 = 0)
    ∧ (win0_2.index t 0 = 2 * (t.val / 2) + 1 ∧ win0_2.index t 1 = 0 ∧ win0_2.index t 2 = 0)
    ∧ (win0_3.index t 0 = t.val % 2 ∧ win0_3.index t 1 = t.val / 2) :=
  (by decide +kernel : ∀ t : Fin grid0.N, (win0_0.index t 0 = t.val % 2 ∧ win0_0.index t 1 = 0)
    ∧ (win0_1.index t 0 = 2 * (t.val / 2) ∧ win0_1.index t 1 = 0 ∧ win0_1.index t 2 = 0)
    ∧ (win0_2.index t 0 = 2 * (t.val / 2) + 1 ∧ win0_2.index t 1 = 0 ∧ win0_2.index t 2 = 0)
    ∧ (win0_3.index t 0 = t.val % 2 ∧ win0_3.index t 1 = t.val / 2))

theorem flush0 : ∀ t : Fin cfg0.N, (cfg0.win 3).flush t = true :=
  (by decide +kernel : ∀ t : Fin grid0.N, (cfg0.win 3).flush t = true)

theorem iblk0 (c : Dev nD) (t : Fin cfg0.N) (a k : Fin 1024) (r : Fin 2048) (h : r.val = t.val % 2 * 1024 + a.val) :
    iblk m c 0 t (ix2 a k) = m ((c.tc : Thread nD τ).loc main_arg0) (ix2 r k) := by
  obtain ⟨⟨e0, e1⟩, -⟩ := index0 t
  show V m c main_arg0 _ = _
  rw [V_main_arg0]
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 1024 + 1 * k.val = k.val; rw [e1]; omega

theorem iblk1 (c : Dev nD) (t : Fin cfg0.N) (d : Fin 8) (hd : d.val = 2 * (t.val / 2)) (k j : Fin 1024) :
    iblk m c 1 t (ix3 (0 : Fin 1) k j) = slot (m ((c.tc : Thread nD τ).loc main_arg1)) d (ix3 (0 : Fin 1) k j) := by
  obtain ⟨-, ⟨e0, e1, e2⟩, -⟩ := index0 t
  refine Eq.trans ?_ (V_slots m c d k j)
  show V m c main_v24 _ = _
  refine congrArg (V m c main_v24) (funext fun x => Fin.ext ?_)
  match x with
  | ⟨0, _⟩ => show win0_1.index t 0 * 1 + 1 * 0 = d.val; rw [e0]; omega
  | ⟨1, _⟩ => show win0_1.index t 1 * 1024 + 1 * k.val = k.val; rw [e1]; omega
  | ⟨2, _⟩ => show win0_1.index t 2 * 1024 + 1 * j.val = j.val; rw [e2]; omega

theorem iblk2 (c : Dev nD) (t : Fin cfg0.N) (d : Fin 8) (hd : d.val = 2 * (t.val / 2) + 1) (k j : Fin 1024) :
    iblk m c 2 t (ix3 (0 : Fin 1) k j) = slot (m ((c.tc : Thread nD τ).loc main_arg1)) d (ix3 (0 : Fin 1) k j) := by
  obtain ⟨-, -, ⟨e0, e1, e2⟩, -⟩ := index0 t
  refine Eq.trans ?_ (V_slots m c d k j)
  show V m c main_v24 _ = _
  refine congrArg (V m c main_v24) (funext fun x => Fin.ext ?_)
  match x with
  | ⟨0, _⟩ => show win0_2.index t 0 * 1 + 1 * 0 = d.val; rw [e0]; omega
  | ⟨1, _⟩ => show win0_2.index t 1 * 1024 + 1 * k.val = k.val; rw [e1]; omega
  | ⟨2, _⟩ => show win0_2.index t 2 * 1024 + 1 * j.val = j.val; rw [e2]; omega

theorem pay1_apply (v : Vec Ideal S1x1024x1024 .bf16) (k j : Fin 1024) : k0_pay1 v (ix2 k j) = v (ix3 (0 : Fin 1) k j) := by
  unfold k0_pay1
  refine shapeCast_apply _ _ (ix2 k j) (ix3 (0 : Fin 1) k j) ?_
  rw [Shape.rowMajor_val_two, Shape.rowMajor_val_three]
  show (0 * 1024 + k.val) * 1024 + j.val = k.val * 1024 + j.val
  omega

theorem pay2_apply (v : Vec Ideal S1x1024x1024 .bf16) (k j : Fin 1024) : k0_pay2 v (ix2 k j) = v (ix3 (0 : Fin 1) k j) :=
  pay1_apply v k j

theorem pay3_apply (x : Vec Ideal S1024x1024 .bf16) (v : Vec Ideal S1x1024x1024 .bf16) (a : Fin 1024) (b : Fin 896) (z : Fin 1024) (hz : z.val = b.val) :
    k0_pay3 x v (ix2 a b) = ∑ k : Fin 1024, (x (ix2 a k) : EReal) * v (ix3 (0 : Fin 1) k z) := by
  unfold k0_pay3
  rw [truncf_apply]
  refine (Products.nn (φ₁ := .bf16) (φ₂ := .bf16) _ none x _ a b).trans (Finset.sum_congr rfl fun k _ => congrArg _ ?_)
  refine Eq.trans ?_ (pay1_apply v k z)
  generalize k0_pay1 v = w
  refine extractStridedSlice_apply _ w _ _ (ix2 k z) fun e => ?_
  match e with
  | ⟨0, _⟩ => show k.val = 0 + k.val; omega
  | ⟨1, _⟩ => show z.val = 0 + b.val; omega

theorem pay5_apply (x : Vec Ideal S1024x1024 .bf16) (v : Vec Ideal S1x1024x1024 .bf16) (a : Fin 1024) (b : Fin 896) (z : Fin 1024) (hz : z.val = 128 + b.val) :
    k0_pay5 x v (ix2 a b) = ∑ k : Fin 1024, (x (ix2 a k) : EReal) * v (ix3 (0 : Fin 1) k z) := by
  unfold k0_pay5
  rw [truncf_apply]
  refine (Products.nn (φ₁ := .bf16) (φ₂ := .bf16) _ none x _ a b).trans (Finset.sum_congr rfl fun k _ => congrArg _ ?_)
  refine Eq.trans ?_ (pay2_apply v k z)
  generalize k0_pay2 v = w
  refine extractStridedSlice_apply _ w _ _ (ix2 k z) fun e => ?_
  match e with
  | ⟨0, _⟩ => show k.val = 0 + k.val; omega
  | ⟨1, _⟩ => show z.val = 128 + b.val; omega

theorem pay4_apply (x : Vec Ideal S1024x1024 .bf16) (v u : Vec Ideal S1x1024x1024 .bf16) (a : Fin 1024) (b : Fin 128) (z y : Fin 1024)
    (hz : z.val = 896 + b.val) (hy : y.val = b.val) :
    k0_pay4 x v u (ix2 a b) = ∑ k : Fin 1024, (x (ix2 a k) : EReal) * (v (ix3 (0 : Fin 1) k z) + u (ix3 (0 : Fin 1) k y) : EReal) := by
  unfold k0_pay4
  rw [truncf_apply]
  refine (Products.nn (φ₁ := .bf16) (φ₂ := .bf16) _ none x _ a b).trans (Finset.sum_congr rfl fun k _ => congrArg _ ?_)
  rw [← pay1_apply v k z, ← pay2_apply u k y]
  generalize k0_pay1 v = w
  generalize k0_pay2 u = w'
  refine congrArg₂ (fun p q : EReal => p + q) ?_ ?_
  · refine extractStridedSlice_apply _ w _ _ (ix2 k z) fun e => ?_
    match e with
    | ⟨0, _⟩ => show k.val = 0 + k.val; omega
    | ⟨1, _⟩ => show z.val = 896 + b.val; omega
  · refine extractStridedSlice_apply _ w' _ _ (ix2 k y) fun e => ?_
    match e with
    | ⟨0, _⟩ => show k.val = 0 + k.val; omega
    | ⟨1, _⟩ => show y.val = 0 + b.val; omega

/-- The three stores that make up a block. -/
abbrev pieces (x : Vec Ideal S1024x1024 .bf16) (v u : Vec Ideal S1x1024x1024 .bf16) : List (View.Piece (Elt Ideal) S1024x1920 .bf16) :=
  [⟨Rect.unit ![0, 1024] ![1024, 896] inb_S1024x1920_S1024x896_0_1024, k0_pay5 x u⟩,
    ⟨Rect.unit ![0, 896] ![1024, 128] inb_S1024x1920_S1024x128_0_896, k0_pay4 x v u⟩,
    ⟨Rect.unit ![0, 0] ![1024, 896] inb_S1024x1920_S1024x896_0_0, k0_pay3 x v⟩]

theorem outs_eq (c : Dev nD) (t : Fin cfg0.N) :
    outsAt0 m c t = View.canon (pieces (iblk m c 0 t) (iblk m c 1 t) (iblk m c 2 t)) := by
  unfold outsAt0
  frame_out

theorem canon_right (x : Vec Ideal S1024x1024 .bf16) (v u : Vec Ideal S1x1024x1024 .bf16) (a : Fin 1024) (b : Fin 1920) (b' : Fin 896) (h : b.val = 1024 + b'.val) :
    View.canon (pieces x v u) (ix2 a b) = k0_pay5 x u (ix2 a b') := by
  have he : (ix2 a b : S1024x1920.Idx) = (Rect.unit (s := S1024x1920) ![0, 1024] ![1024, 896] inb_S1024x1920_S1024x896_0_1024).emb (ix2 a b') := funext fun w => Fin.ext (by
    match w with
    | ⟨0, _⟩ => show a.val = 0 + 1 * a.val; omega
    | ⟨1, _⟩ => show b.val = 1024 + 1 * b'.val; omega)
  rw [he, View.canon_cons_emb]

theorem canon_middle (x : Vec Ideal S1024x1024 .bf16) (v u : Vec Ideal S1x1024x1024 .bf16) (a : Fin 1024) (b : Fin 1920) (b' : Fin 128) (h : b.val = 896 + b'.val) :
    View.canon (pieces x v u) (ix2 a b) = k0_pay4 x v u (ix2 a b') := by
  have he : (ix2 a b : S1024x1920.Idx) = (Rect.unit (s := S1024x1920) ![0, 896] ![1024, 128] inb_S1024x1920_S1024x128_0_896).emb (ix2 a b') := funext fun w => Fin.ext (by
    match w with
    | ⟨0, _⟩ => show a.val = 0 + 1 * a.val; omega
    | ⟨1, _⟩ => show b.val = 896 + 1 * b'.val; omega)
  have hn : (ix2 a b : S1024x1920.Idx) ∉ (Rect.unit (s := S1024x1920) ![0, 1024] ![1024, 896] inb_S1024x1920_S1024x896_0_1024).set := fun hm => by
    have h1 : 1024 ≤ b.val := (Rect.mem_set_unit.1 hm (1 : Fin 2)).1
    omega
  rw [View.canon_cons_of_not_mem (e := .bf16) (⟨Rect.unit ![0, 1024] ![1024, 896] inb_S1024x1920_S1024x896_0_1024, k0_pay5 x u⟩ : View.Piece (Elt Ideal) S1024x1920 .bf16) _ hn,
    he, View.canon_cons_emb]

theorem canon_left (x : Vec Ideal S1024x1024 .bf16) (v u : Vec Ideal S1x1024x1024 .bf16) (a : Fin 1024) (b : Fin 1920) (b' : Fin 896) (h : b.val = b'.val) :
    View.canon (pieces x v u) (ix2 a b) = k0_pay3 x v (ix2 a b') := by
  have he : (ix2 a b : S1024x1920.Idx) = (Rect.unit (s := S1024x1920) ![0, 0] ![1024, 896] inb_S1024x1920_S1024x896_0_0).emb (ix2 a b') := funext fun w => Fin.ext (by
    match w with
    | ⟨0, _⟩ => show a.val = 0 + 1 * a.val; omega
    | ⟨1, _⟩ => show b.val = 0 + 1 * b'.val; omega)
  have hn : (ix2 a b : S1024x1920.Idx) ∉ (Rect.unit (s := S1024x1920) ![0, 1024] ![1024, 896] inb_S1024x1920_S1024x896_0_1024).set := fun hm => by
    have h1 : 1024 ≤ b.val := (Rect.mem_set_unit.1 hm (1 : Fin 2)).1
    omega
  have hn' : (ix2 a b : S1024x1920.Idx) ∉ (Rect.unit (s := S1024x1920) ![0, 896] ![1024, 128] inb_S1024x1920_S1024x128_0_896).set := fun hm => by
    have h1 : 896 ≤ b.val := (Rect.mem_set_unit.1 hm (1 : Fin 2)).1
    omega
  rw [View.canon_cons_of_not_mem (e := .bf16) (⟨Rect.unit ![0, 1024] ![1024, 896] inb_S1024x1920_S1024x896_0_1024, k0_pay5 x u⟩ : View.Piece (Elt Ideal) S1024x1920 .bf16) _ hn,
    View.canon_cons_of_not_mem (e := .bf16) (⟨Rect.unit ![0, 896] ![1024, 128] inb_S1024x1920_S1024x128_0_896, k0_pay4 x v u⟩ : View.Piece (Elt Ideal) S1024x1920 .bf16) _ hn',
    he, View.canon_cons_emb]

/-- A block of the result, from the block of activations and the pair of slots. -/
theorem out_apply (x : Vec Ideal S1024x1024 .bf16) (w : S1024x7680.Idx → EReal) (q : Fin 4) (d d' : Fin 8) (hd : d.val = 2 * q.val) (hd' : d'.val = 2 * q.val + 1)
    (v u : Vec Ideal S1x1024x1024 .bf16) (hv : ∀ k j : Fin 1024, v (ix3 (0 : Fin 1) k j) = slot w d (ix3 (0 : Fin 1) k j))
    (hu : ∀ k j : Fin 1024, u (ix3 (0 : Fin 1) k j) = slot w d' (ix3 (0 : Fin 1) k j))
    (a : Fin 1024) (b : Fin 1920) (s : Fin 7680) (hs : s.val = 1920 * q.val + b.val) :
    View.canon (pieces x v u) (ix2 a b) = ∑ k : Fin 1024, (x (ix2 a k) : EReal) * w (ix2 k s) := by
  have h0 : ∀ i, (sitofp .bf16 (constantI S_ 32 0#32) : FVec Ideal S_ .bf16) i = 0 := fun i => by
    show (((0#32 : BitVec 32).toInt : ℝ) : EReal) = 0
    norm_num
  by_cases h1 : b.val < 896
  · rw [canon_left x v u a b ⟨b.val, h1⟩ rfl, pay3_apply x v a _ (⟨b.val, by omega⟩ : Fin 1024) rfl]
    refine Finset.sum_congr rfl fun k _ => congrArg _ ((hv k _).trans ?_)
    exact Slots.slots_left w _ h_S_ _ k _ _ _ _ q d hd s h1 hs
  by_cases h2 : b.val < 1024
  · rw [canon_middle x v u a b ⟨b.val - 896, by omega⟩ (by show b.val = 896 + (b.val - 896); omega),
      pay4_apply x v u a _ (⟨b.val, h2⟩ : Fin 1024) (⟨b.val - 896, by omega⟩ : Fin 1024) (by show b.val = 896 + (b.val - 896); omega) rfl]
    refine Finset.sum_congr rfl fun k _ => congrArg _ ((congrArg₂ (fun p q : EReal => p + q) (hv k _) (hu k _)).trans ?_)
    exact Slots.slots_middle w _ h_S_ _ k _ _ _ h0 q d d' hd hd' _ _ (by show b.val = 896 + (b.val - 896); omega) s hs
  · have hb := b.isLt
    rw [canon_right x v u a b ⟨b.val - 1024, by omega⟩ (by show b.val = 1024 + (b.val - 1024); omega),
      pay5_apply x u a _ (⟨b.val - 896, by omega⟩ : Fin 1024) (by show b.val - 896 = 128 + (b.val - 1024); omega)]
    refine Finset.sum_congr rfl fun k _ => congrArg _ ((hu k _).trans ?_)
    exact Slots.slots_right w _ h_S_ _ k _ _ _ _ q d' hd' s (by show 128 ≤ b.val - 896; omega) (by show s.val = 1920 * q.val + 896 + (b.val - 896); omega)

theorem final (c : Dev nD) : (dats m 0 c).arrAt 3 cfg0.N = prod (m ((c.tc : Thread nD τ).loc main_arg0)) (m ((c.tc : Thread nD τ).loc main_arg1)) := by
  funext i
  obtain ⟨r, s, rfl⟩ : ∃ (r : Fin 2048) (s : Fin 7680), i = ix2 r s := ⟨i 0, i 1, ValueIdx.eq_ix2 i⟩
  have hr := r.isLt
  have hs := s.isLt
  let q : Fin 4 := ⟨s.val / 1920, by omega⟩
  let t : Fin cfg0.N := ⟨s.val / 1920 * 2 + r.val / 1024, by show _ < 8; omega⟩
  let a : Fin 1024 := ⟨r.val % 1024, by omega⟩
  let b : Fin 1920 := ⟨s.val % 1920, by omega⟩
  have hq : q.val = s.val / 1920 := rfl
  have ht0 : t.val / 2 = s.val / 1920 := by show (s.val / 1920 * 2 + r.val / 1024) / 2 = _; omega
  have ht1 : t.val % 2 = r.val / 1024 := by show (s.val / 1920 * 2 + r.val / 1024) % 2 = _; omega
  have ha : a.val = r.val % 1024 := rfl
  have hb : b.val = s.val % 1920 := rfl
  obtain ⟨-, -, -, e0, e1⟩ := index0 t
  have h := (blocks3 m c t (flush0 t)).trans (flushed3 m c t)
  refine Eq.trans (congrArg _ (funext fun x => Fin.ext ?_)) ((congrFun h (ix2 a b)).trans ?_)
  · match x with
    | ⟨0, _⟩ => show r.val = win0_3.index t 0 * 1024 + 1 * a.val; rw [e0]; omega
    | ⟨1, _⟩ => show s.val = win0_3.index t 1 * 1920 + 1 * b.val; rw [e1]; omega
  · rw [outs_eq m c t]
    refine (out_apply (iblk m c 0 t) (m ((c.tc : Thread nD τ).loc main_arg1)) q ⟨2 * q.val, by omega⟩ ⟨2 * q.val + 1, by omega⟩ rfl rfl
      (iblk m c 1 t) (iblk m c 2 t) (fun k j => iblk1 m c t _ (by show 2 * q.val = _; omega) k j) (fun k j => iblk2 m c t _ (by show 2 * q.val + 1 = _; omega) k j)
      a b s (by omega)).trans (Finset.sum_congr rfl fun k _ => ?_)
    rw [iblk0 m c t a k r (by omega)]

theorem run : θ_run defs (onTc (τ := τ) (main (F := Ideal))) ⟨m, fun _ => 0, ρ⟩ fun r => ∀ c : Dev nD,
      r.2.mem ((c.tc : Thread nD τ).loc main_v25) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.Kernel8Ideal.Mm

namespace Cert.Reference8Ideal.Mm

open Cert.Reference8Ideal Idealize.ShloMosaic.TcCoe Idealize.SL.Sem
open Idealize.ShloMosaic
open Idealize.ShloMosaic.ValueIdx

theorem out_eq (x : FVec Ideal S2048x1024 .bf16) (w : FVec Ideal S1024x7680 .bf16) (p q) :
    truncf .bf16 (Host.dotGeneral dot_S2048x1024_S1024x7680_S2048x7680_1_0_0_1_n_n none (extf .f32 x p) (extf .f32 w p)) q
      = Cert.Kernel8Ideal.Mm.prod x w := by
  funext i
  obtain ⟨r, s, rfl⟩ : ∃ (r : Fin 2048) (s : Fin 7680), i = ix2 r s := ⟨i 0, i 1, ValueIdx.eq_ix2 i⟩
  rw [truncf_apply]
  exact Products.host_nn (φ₁ := .f32) (φ₂ := .f32) _ none x w r s

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v3) = Cert.Kernel8Ideal.Mm.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _ _ _), (h c).2⟩) (Cert.Reference8Ideal.Value.run m ρ)

end Cert.Reference8Ideal.Mm

end
-- ==== Proof.MmGwIn.lean ====
/- The gradient of the input projection's weights: the transposed activations times the cotangent, in eight slots that overlap in pairs. -/
module

public import proofs.«01_k».proof.Proof.Gen.Kernel9Ideal.Value
public import proofs.«01_k».proof.Proof.Gen.Reference9Ideal.Run
public import proofs.«01_k».proof.Proof.Products
public import Idealize.ShloMosaic.Lib.Pipeline.ValueKit.Basic

@[expose] public section

set_option maxRecDepth 16384

noncomputable section

namespace Cert.Kernel9Ideal.Mm

open Cert.Kernel9Ideal Cert.Kernel9Ideal.Gen Cert.Kernel9Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The transposed activations times the cotangent, laid out in eight slots of 1024 columns: slots 2q and 2q + 1 begin at
    columns 1920q and 1920q + 896, so the two share 128 columns. -/
def prod (h : S2048x1024.Idx → EReal) (du : S2048x7680.Idx → EReal) : S8x1024x1024.Idx → EReal :=
  fun i => ∑ k : Fin 2048, h (ix2 k (i 1)) * du (ix2 k ⟨(i 0).val / 2 * 1920 + (i 0).val % 2 * 896 + (i 2).val, by
    have h0 : (i 0).val < 8 := (i 0).isLt
    have h2 : (i 2).val < 1024 := (i 2).isLt
    omega⟩)

/-- Which block of each array a grid point takes. -/
theorem index0 : ∀ t : Fin cfg0.N, (win0_0.index t 0 = 0 ∧ win0_0.index t 1 = t.val % 2) ∧ (win0_1.index t 0 = 0 ∧ win0_1.index t 1 = t.val / 2)
    ∧ (win0_2.index t 0 = t.val / 2 ∧ win0_2.index t 1 = t.val % 2 ∧ win0_2.index t 2 = 0) :=
  (by decide +kernel : ∀ t : Fin grid0.N, (win0_0.index t 0 = 0 ∧ win0_0.index t 1 = t.val % 2) ∧ (win0_1.index t 0 = 0 ∧ win0_1.index t 1 = t.val / 2)
    ∧ (win0_2.index t 0 = t.val / 2 ∧ win0_2.index t 1 = t.val % 2 ∧ win0_2.index t 2 = 0))

theorem flush0 : ∀ t : Fin cfg0.N, (cfg0.win 2).flush t = true :=
  (by decide +kernel : ∀ t : Fin grid0.N, (cfg0.win 2).flush t = true)

theorem iblk0 (c : Dev nD) (t : Fin cfg0.N) (k : Fin 2048) (a : Fin 512) (r : Fin 1024) (h : r.val = t.val % 2 * 512 + a.val) :
    iblk m c 0 t (ix2 k a) = m ((c.tc : Thread nD τ).loc main_arg0) (ix2 k r) := by
  obtain ⟨⟨e0, e1⟩, -⟩ := index0 t
  refine congrArg (m ((c.tc : Thread nD τ).loc main_arg0)) (funext fun x => Fin.ext ?_)
  match x with
  | ⟨0, _⟩ => show win0_0.index t 0 * 2048 + 1 * k.val = k.val; rw [e0]; omega
  | ⟨1, _⟩ => show win0_0.index t 1 * 512 + 1 * a.val = r.val; rw [e1]; omega

theorem iblk1 (c : Dev nD) (t : Fin cfg0.N) (k : Fin 2048) (b : Fin 1920) (s : Fin 7680) (h : s.val = t.val / 2 * 1920 + b.val) :
    iblk m c 1 t (ix2 k b) = m ((c.tc : Thread nD τ).loc main_arg1) (ix2 k s) := by
  obtain ⟨-, ⟨e0, e1⟩, -⟩ := index0 t
  refine congrArg (m ((c.tc : Thread nD τ).loc main_arg1)) (funext fun x => Fin.ext ?_)
  match x with
  | ⟨0, _⟩ => show win0_1.index t 0 * 2048 + 1 * k.val = k.val; rw [e0]; omega
  | ⟨1, _⟩ => show win0_1.index t 1 * 1920 + 1 * b.val = s.val; rw [e1]; omega

theorem pay1_apply (x : Vec Ideal S2048x512 .bf16) (y : Vec Ideal S2048x1920 .bf16) (a : Fin 512) (z : Fin 1920) :
    k0_pay1 x y (ix2 a z) = ∑ k : Fin 2048, (x (ix2 k a) : EReal) * y (ix2 k z) := by
  unfold k0_pay1
  exact Products.tn (φ₁ := .bf16) (φ₂ := .bf16) _ none x y a z

/-- The piece a point stores in its pair's first slot … -/
theorem pay2_apply (x : Vec Ideal S2048x512 .bf16) (y : Vec Ideal S2048x1920 .bf16) (a : Fin 512) (b : Fin 1024) (z : Fin 1920) (hz : z.val = b.val) :
    k0_pay2 x y (ix3 0 a b) = ∑ k : Fin 2048, (x (ix2 k a) : EReal) * y (ix2 k z) := by
  unfold k0_pay2
  refine (shapeCast_apply _ _ (ix3 (0 : Fin 1) a b) (ix2 a b) ?_).trans ?_
  · rw [Shape.rowMajor_val_two, Shape.rowMajor_val_three]
    show a.val * 1024 + b.val = (0 * 512 + a.val) * 1024 + b.val
    omega
  rw [truncf_apply]
  refine Eq.trans ?_ (pay1_apply x y a z)
  generalize k0_pay1 x y = w
  refine extractStridedSlice_apply _ w _ _ (ix2 a z) (fun e => ?_)
  match e with
  | ⟨0, _⟩ => show a.val = 0 + a.val; omega
  | ⟨1, _⟩ => show z.val = 0 + b.val; omega

/-- … and in its second. -/
theorem pay3_apply (x : Vec Ideal S2048x512 .bf16) (y : Vec Ideal S2048x1920 .bf16) (a : Fin 512) (b : Fin 1024) (z : Fin 1920) (hz : z.val = 896 + b.val) :
    k0_pay3 x y (ix3 0 a b) = ∑ k : Fin 2048, (x (ix2 k a) : EReal) * y (ix2 k z) := by
  unfold k0_pay3
  refine (shapeCast_apply _ _ (ix3 (0 : Fin 1) a b) (ix2 a b) ?_).trans ?_
  · rw [Shape.rowMajor_val_two, Shape.rowMajor_val_three]
    show a.val * 1024 + b.val = (0 * 512 + a.val) * 1024 + b.val
    omega
  rw [truncf_apply]
  refine Eq.trans ?_ (pay1_apply x y a z)
  generalize k0_pay1 x y = w
  refine extractStridedSlice_apply _ w _ _ (ix2 a z) (fun e => ?_)
  match e with
  | ⟨0, _⟩ => show a.val = 0 + a.val; omega
  | ⟨1, _⟩ => show z.val = 896 + b.val; omega

/-- The pair's first slot is left by the earlier store … -/
theorem out_apply0 (x : Vec Ideal S2048x512 .bf16) (y : Vec Ideal S2048x1920 .bf16) (a : Fin 512) (b : Fin 1024) (z : Fin 1920) (hz : z.val = b.val) :
    out0_2 x y (ix3 (0 : Fin 2) a b) = ∑ k : Fin 2048, (x (ix2 k a) : EReal) * y (ix2 k z) := by
  unfold out0_2
  rw [View.ld_unit_lit _ x (by decide), View.ld_unit_lit _ y (by decide)]
  have hn : (ix3 (0 : Fin 2) a b : S2x512x1024.Idx) ∉ r0_3.set := fun hm => by
    have h : 1 ≤ 0 := (Rect.mem_set_unit.1 hm (0 : Fin 3)).1
    omega
  have he : (ix3 (0 : Fin 2) a b : S2x512x1024.Idx) = r0_2.emb (ix3 (0 : Fin 1) a b) := funext fun w => Fin.ext (by
    match w with
    | ⟨0, _⟩ => show 0 = 0 + 1 * 0; rfl
    | ⟨1, _⟩ => show a.val = 0 + 1 * a.val; omega
    | ⟨2, _⟩ => show b.val = 0 + 1 * b.val; omega)
  rw [View.canon_cons_of_not_mem (e := .bf16) (⟨r0_3, k0_pay3 x y⟩ : View.Piece (Elt Ideal) S2x512x1024 .bf16) [⟨r0_2, k0_pay2 x y⟩] hn, he, View.canon_cons_emb]
  exact pay2_apply x y a b z hz

/-- … and its second by the later. -/
theorem out_apply1 (x : Vec Ideal S2048x512 .bf16) (y : Vec Ideal S2048x1920 .bf16) (a : Fin 512) (b : Fin 1024) (z : Fin 1920) (hz : z.val = 896 + b.val) :
    out0_2 x y (ix3 (1 : Fin 2) a b) = ∑ k : Fin 2048, (x (ix2 k a) : EReal) * y (ix2 k z) := by
  unfold out0_2
  rw [View.ld_unit_lit _ x (by decide), View.ld_unit_lit _ y (by decide)]
  have he : (ix3 (1 : Fin 2) a b : S2x512x1024.Idx) = r0_3.emb (ix3 (0 : Fin 1) a b) := funext fun w => Fin.ext (by
    match w with
    | ⟨0, _⟩ => show 1 = 1 + 1 * 0; rfl
    | ⟨1, _⟩ => show a.val = 0 + 1 * a.val; omega
    | ⟨2, _⟩ => show b.val = 0 + 1 * b.val; omega)
  rw [he, View.canon_cons_emb]
  exact pay3_apply x y a b z hz

theorem out_apply (x : Vec Ideal S2048x512 .bf16) (y : Vec Ideal S2048x1920 .bf16) (e : Fin 2) (a : Fin 512) (b : Fin 1024) (z : Fin 1920)
    (hz : z.val = e.val * 896 + b.val) : out0_2 x y (ix3 e a b) = ∑ k : Fin 2048, (x (ix2 k a) : EReal) * y (ix2 k z) := by
  obtain rfl | rfl : e = 0 ∨ e = 1 := by omega
  · exact out_apply0 x y a b z (by simpa using hz)
  · exact out_apply1 x y a b z (by simpa using hz)

theorem final (c : Dev nD) : (dats m 0 c).arrAt 2 cfg0.N = prod (m ((c.tc : Thread nD τ).loc main_arg0)) (m ((c.tc : Thread nD τ).loc main_arg1)) := by
  funext i
  obtain ⟨p, r, s, rfl⟩ : ∃ (p : Fin 8) (r : Fin 1024) (s : Fin 1024), i = ix3 p r s := ⟨i 0, i 1, i 2, ValueIdx.eq_ix3 i⟩
  have hp := p.isLt
  have hs := s.isLt
  let t : Fin cfg0.N := ⟨p.val / 2 * 2 + r.val / 512, by show _ < 8; omega⟩
  let e : Fin 2 := ⟨p.val % 2, by omega⟩
  let a : Fin 512 := ⟨r.val % 512, by omega⟩
  let z : Fin 1920 := ⟨p.val % 2 * 896 + s.val, by omega⟩
  have ht0 : t.val / 2 = p.val / 2 := by show (p.val / 2 * 2 + r.val / 512) / 2 = _; omega
  have ht1 : t.val % 2 = r.val / 512 := by show (p.val / 2 * 2 + r.val / 512) % 2 = _; omega
  have he : e.val = p.val % 2 := rfl
  have ha : a.val = r.val % 512 := rfl
  have hz : z.val = p.val % 2 * 896 + s.val := rfl
  obtain ⟨-, -, e0, e1, e2⟩ := index0 t
  have h := (blocks2 m c t (flush0 t)).trans (flushed2 m c t)
  refine Eq.trans (congrArg _ (funext fun x => Fin.ext ?_)) ((congrFun h (ix3 e a s)).trans ?_)
  · match x with
    | ⟨0, _⟩ => show p.val = win0_2.index t 0 * 2 + 1 * e.val; rw [e0]; omega
    | ⟨1, _⟩ => show r.val = win0_2.index t 1 * 512 + 1 * a.val; rw [e1]; omega
    | ⟨2, _⟩ => show s.val = win0_2.index t 2 * 1024 + 1 * s.val; rw [e2]; omega
  · refine (out_apply _ _ e a s z hz).trans (Finset.sum_congr rfl fun k _ => ?_)
    rw [iblk0 m c t k a r (by omega), iblk1 m c t k z ⟨p.val / 2 * 1920 + p.val % 2 * 896 + s.val, by omega⟩
      (by show p.val / 2 * 1920 + p.val % 2 * 896 + s.val = t.val / 2 * 1920 + z.val; omega)]

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.Kernel9Ideal.Mm

namespace Cert.Reference9Ideal.Mm

open Cert.Reference9Ideal Idealize.ShloMosaic.TcCoe Idealize.SL.Sem
open Idealize.ShloMosaic
open Idealize.ShloMosaic.ValueIdx

/-- The gradient's columns grouped in four groups of 1920. -/
theorem grouped_apply (h : FVec Ideal S2048x1024 .bf16) (du : FVec Ideal S2048x7680 .bf16) (p q) (ht) (hs) (r : Fin 1024) (u : Fin 4) (z : Fin 1920)
    (v : Fin 7680) (hv : v.val = u.val * 1920 + z.val) :
    shapeCast S1024x4x1920 (truncf .bf16 (transpose S1024x7680 [1, 0]
      (Host.dotGeneral dot_S2048x7680_S2048x1024_S7680x1024_0_0_1_1_n_n none (extf .f32 du p) (extf .f32 h p)) ht) q) hs (ix3 r u z)
      = ∑ k : Fin 2048, (h (ix2 k r) : EReal) * du (ix2 k v) := by
  refine (shapeCast_apply _ _ (ix3 r u z) (ix2 r v) ?_).trans ?_
  · rw [Shape.rowMajor_val_two, Shape.rowMajor_val_three]
    show r.val * 7680 + v.val = (r.val * 4 + u.val) * 1920 + z.val
    omega
  rw [truncf_apply]
  refine (transpose_apply [1, 0] _ ht (ix2 r v) (ix2 v r) (fun e => ?_)).trans ?_
  · match e with
    | ⟨0, _⟩ => rfl
    | ⟨1, _⟩ => rfl
  · refine (Products.host_tn (φ₁ := .f32) (φ₂ := .f32) _ none du h v r).trans ?_
    exact Finset.sum_congr rfl fun k _ => mul_comm _ _

theorem out_eq (h : FVec Ideal S2048x1024 .bf16) (du : FVec Ideal S2048x7680 .bf16) (p q) (ht) (hs) (hb) (h1) (h2) (hc) (ht') (hs') :
    shapeCast S8x1024x1024 (transpose S4x2x1024x1024 [1, 2, 0, 3] (concatenate S1024x4x2x1024 2
      [⟨S1024x4x1x1024, broadcastInDim S1024x4x1x1024 ![0, 1, 3] hb (extractStridedSlice S1024x4x1024 ![0, 0, 0]
        (shapeCast S1024x4x1920 (truncf .bf16 (transpose S1024x7680 [1, 0]
          (Host.dotGeneral dot_S2048x7680_S2048x1024_S7680x1024_0_0_1_1_n_n none (extf .f32 du p) (extf .f32 h p)) ht) q) hs) h1)⟩,
       ⟨S1024x4x1x1024, broadcastInDim S1024x4x1x1024 ![0, 1, 3] hb (extractStridedSlice S1024x4x1024 ![0, 0, 896]
        (shapeCast S1024x4x1920 (truncf .bf16 (transpose S1024x7680 [1, 0]
          (Host.dotGeneral dot_S2048x7680_S2048x1024_S7680x1024_0_0_1_1_n_n none (extf .f32 du p) (extf .f32 h p)) ht) q) hs) h2)⟩] hc) ht') hs'
      = Cert.Kernel9Ideal.Mm.prod h du := by
  funext i
  obtain ⟨w, r, s, rfl⟩ : ∃ (w : Fin 8) (r : Fin 1024) (s : Fin 1024), i = ix3 w r s := ⟨i 0, i 1, i 2, ValueIdx.eq_ix3 i⟩
  have hw := w.isLt
  have hs0 := s.isLt
  let u : Fin 4 := ⟨w.val / 2, by omega⟩
  let e : Fin 2 := ⟨w.val % 2, by omega⟩
  have hu : u.val = w.val / 2 := rfl
  have he : e.val = w.val % 2 := rfl
  refine (shapeCast_apply _ _ (ix3 w r s) (ix4 u e r s) ?_).trans ?_
  · rw [Shape.rowMajor_val_four, Shape.rowMajor_val_three]
    show ((u.val * 2 + e.val) * 1024 + r.val) * 1024 + s.val = (w.val * 1024 + r.val) * 1024 + s.val
    omega
  refine (transpose_apply (s := S1024x4x2x1024) [1, 2, 0, 3] _ ht' (ix4 u e r s) (ix4 r u e s) (fun e => ?_)).trans ?_
  · match e with
    | ⟨0, _⟩ => rfl
    | ⟨1, _⟩ => rfl
    | ⟨2, _⟩ => rfl
    | ⟨3, _⟩ => rfl
  rcases Nat.mod_two_eq_zero_or_one w.val with h0 | h0
  · refine (concatenate_pair_apply_left (t := S1024x4x2x1024) (2 : Fin 4) _ _ hc (ix4 r u e s) rfl (ix4 r u (0 : Fin 1) s) (fun b => ?_)).trans ?_
    · match b with
      | ⟨0, _⟩ => rfl
      | ⟨1, _⟩ => rfl
      | ⟨2, _⟩ => exact (he.trans h0).symm
      | ⟨3, _⟩ => rfl
    refine (broadcastInDim_apply ![0, 1, 3] hb _ _ (ix3 r u s) (fun b => ?_)).trans ?_
    · match b with
      | ⟨0, _⟩ => rfl
      | ⟨1, _⟩ => rfl
      | ⟨2, _⟩ => rfl
    let z : Fin 1920 := ⟨s.val, by omega⟩
    refine (extractStridedSlice_apply ![0, 0, 0] _ h1 (ix3 r u s) (ix3 r u z) (fun b => ?_)).trans ?_
    · match b with
      | ⟨0, _⟩ => show r.val = 0 + r.val; omega
      | ⟨1, _⟩ => show u.val = 0 + u.val; omega
      | ⟨2, _⟩ => show s.val = 0 + s.val; omega
    exact grouped_apply h du p q ht hs r u z ⟨w.val / 2 * 1920 + w.val % 2 * 896 + s.val, by omega⟩
      (by show w.val / 2 * 1920 + w.val % 2 * 896 + s.val = w.val / 2 * 1920 + s.val; omega)
  · refine (concatenate_pair_apply_right (t := S1024x4x2x1024) (2 : Fin 4) _ _ hc (ix4 r u e s) rfl rfl (ix4 r u (0 : Fin 1) s) (fun b hb => ?_) ?_).trans ?_
    · match b with
      | ⟨0, _⟩ => rfl
      | ⟨1, _⟩ => rfl
      | ⟨2, _⟩ => exact absurd rfl hb
      | ⟨3, _⟩ => rfl
    · show 0 + 1 = e.val; omega
    refine (broadcastInDim_apply ![0, 1, 3] hb _ _ (ix3 r u s) (fun b => ?_)).trans ?_
    · match b with
      | ⟨0, _⟩ => rfl
      | ⟨1, _⟩ => rfl
      | ⟨2, _⟩ => rfl
    let z : Fin 1920 := ⟨896 + s.val, by omega⟩
    refine (extractStridedSlice_apply ![0, 0, 896] _ h2 (ix3 r u s) (ix3 r u z) (fun b => ?_)).trans ?_
    · match b with
      | ⟨0, _⟩ => show r.val = 0 + r.val; omega
      | ⟨1, _⟩ => show u.val = 0 + u.val; omega
      | ⟨2, _⟩ => rfl
    exact grouped_apply h du p q ht hs r u z ⟨w.val / 2 * 1920 + w.val % 2 * 896 + s.val, by omega⟩
      (by show w.val / 2 * 1920 + w.val % 2 * 896 + s.val = w.val / 2 * 1920 + (896 + s.val); omega)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v14) = Cert.Kernel9Ideal.Mm.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _ _ _ _ _ _ _ _ _ _ _), (h c).2⟩) (Cert.Reference9Ideal.Value.run m ρ)

end Cert.Reference9Ideal.Mm

end
-- ==== Proof.MmDin.lean ====
/- The input projection's input cotangent: the cotangent of the projection times the weights, which arrive in eight slots
   overlapping in pairs, summed over four parts; sent back through the RMS norm, and the gradient of the norm's gain. -/
module

public import proofs.«01_k».proof.Proof.Gen.Kernel10Ideal.Value
public import proofs.«01_k».proof.Proof.Gen.Reference10Ideal.Run
public import proofs.«01_k».proof.Proof.Products
public import proofs.«01_k».proof.Proof.Slots
public import proofs.«01_k».proof.Proof.RmsRows
public import Idealize.ShloMosaic.Lib.Pipeline.ValueKit.Acc

@[expose] public section

set_option maxRecDepth 16384

noncomputable section

namespace Cert.Kernel10Ideal.Mm

open Cert.Kernel10Ideal Cert.Kernel10Ideal.Gen Cert.Kernel10Ideal.Value Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

/-! ### The sum over the 7680 columns -/

/-- The cotangent of the scaled rows: du times the transposed weights. -/
def prod (f : S2048x7680.Idx → EReal) (w : S1024x7680.Idx → EReal) : S2048x1024.Idx → EReal :=
  fun i => ∑ k : Fin 7680, f (ix2 (i 0) k) * w (ix2 (i 1) k)

/-- One of its terms. -/
def term (f : S2048x7680.Idx → EReal) (w : S1024x7680.Idx → EReal) (r : Fin 2048) (b : Fin 1024) (k : Fin 7680) : EReal := f (ix2 r k) * w (ix2 b k)

/-- The sum after `n + 1` parts of 1920 columns … -/
def upTo (f : S2048x7680.Idx → EReal) (w : S1024x7680.Idx → EReal) (r : Fin 2048) (b : Fin 1024) (n : ℕ) (hn : n < 4) : EReal :=
  ∑ j : Fin (n + 1), ∑ k : Fin 1920, term f w r b ⟨1920 * j.val + k.val, by omega⟩

theorem upTo_zero (f : S2048x7680.Idx → EReal) (w : S1024x7680.Idx → EReal) (r : Fin 2048) (b : Fin 1024) (hn : 0 < 4) :
    upTo f w r b 0 hn = ∑ k : Fin 1920, term f w r b ⟨1920 * 0 + k.val, by omega⟩ := Fin.sum_univ_one _

theorem upTo_succ (f : S2048x7680.Idx → EReal) (w : S1024x7680.Idx → EReal) (r : Fin 2048) (b : Fin 1024) (n : ℕ) (hn : n + 1 < 4) :
    upTo f w r b (n + 1) hn = upTo f w r b n (by omega) + ∑ k : Fin 1920, term f w r b ⟨1920 * (n + 1) + k.val, by omega⟩ := Fin.sum_univ_castSucc _

/-- … and after all four. -/
theorem upTo_last (f : S2048x7680.Idx → EReal) (w : S1024x7680.Idx → EReal) (r : Fin 2048) (b : Fin 1024) : upTo f w r b 3 (by omega) = prod f w (ix2 r b) := by
  show ∑ j : Fin 4, ∑ k : Fin 1920, term f w r b ⟨1920 * j.val + k.val, by omega⟩ = ∑ k : Fin 7680, term f w r b k
  rw [← Finset.sum_product']
  refine Fintype.sum_equiv (finProdFinEquiv (m := 4) (n := 1920)) _ _ fun x => congrArg (term f w r b) (Fin.ext ?_)
  show 1920 * x.1.val + x.2.val = x.2.val + 1920 * x.1.val
  omega

/-- A part's columns: those of its first slot alone, those of both, those of its second alone. -/
theorem split_part (f : Fin 1920 → EReal) :
    ∑ k, f k = ∑ k : Fin 896, f ⟨k.val, by omega⟩ + ∑ k : Fin 128, f ⟨896 + k.val, by omega⟩ + ∑ k : Fin 896, f ⟨1024 + k.val, by omega⟩ :=
  (Fin.sum_univ_add (a := 1024) (b := 896) f).trans
    (congrArg (fun z : EReal => z + ∑ k : Fin 896, f ⟨1024 + k.val, by omega⟩) (Fin.sum_univ_add (a := 896) (b := 128) fun k : Fin 1024 => f ⟨k.val, by omega⟩))

/-! ### What the points leave -/

/-- The three strips of columns of a block of du. -/
abbrev left (x : Vec Ideal S512x1920 .bf16) : Vec Ideal S512x896 .bf16 := View.ld x (Rect.unit ![0, 0] ![512, 896] inb_S512x1920_S512x896_0_0)
abbrev middle (x : Vec Ideal S512x1920 .bf16) : Vec Ideal S512x128 .bf16 := View.ld x (Rect.unit ![0, 896] ![512, 128] inb_S512x1920_S512x128_0_896)
abbrev right (x : Vec Ideal S512x1920 .bf16) : Vec Ideal S512x896 .bf16 := View.ld x (Rect.unit ![0, 1024] ![512, 896] inb_S512x1920_S512x896_0_1024)

/-- The part of the product that a grid point computes. -/
abbrev part (c : Dev nD) (t : Fin cfg0.N) : Vec Ideal S512x1024 .f32 :=
  k0_pay1 (iblk m c 1 t) (iblk m c 2 t) (left (iblk m c 0 t)) (middle (iblk m c 0 t)) (right (iblk m c 0 t))

abbrev before (c : Dev nD) (t : Fin cfg0.N) := outsAt0 m c (t.val - 1) (Nat.lt_of_le_of_lt (Nat.sub_le _ _) t.isLt)

theorem scratch_first (c : Dev nD) (t : Fin cfg0.N) (h : t.val % 4 = 0) :
    (outsAt0 m c t.val t.isLt).2.2 = k0_pay2 (iblk m c 1 t) (iblk m c 2 t) (left (iblk m c 0 t)) (middle (iblk m c 0 t)) (right (iblk m c 0 t)) := by
  rw [outsAt0_A m c t h (by omega) (by omega)]
  frame_out

theorem scratch_next (c : Dev nD) (t : Fin cfg0.N) (h : 1 ≤ t.val % 4 ∧ t.val % 4 ≤ 2) (s : Vec Ideal S512x1024 .f32) (hs : (outsAt0 m c (t.val - 1) (Nat.lt_of_le_of_lt (Nat.sub_le _ _) t.isLt)).2.2 = s) :
    (outsAt0 m c t.val t.isLt).2.2 = k0_pay3 (iblk m c 1 t) (iblk m c 2 t) (left (iblk m c 0 t)) (middle (iblk m c 0 t)) (right (iblk m c 0 t)) s := by
  rw [outsAt0_B m c t (by omega) h (by omega), hs]
  frame_out
  exact congrArg (k0_pay3 _ _ _ _ _) ((Memref.isWhole_whole cc0_scratch0).read_unread s)

/-- The gain's gradient stays as it is until a row of blocks is complete. -/
theorem kept_eq (c : Dev nD) (t : Fin cfg0.N) (h : t.val % 4 ≠ 3) : (outsAt0 m c t.val t.isLt).2.1 = (before m c t).2.1 := by
  by_cases h0 : t.val % 4 = 0
  · rw [outsAt0_A m c t h0 (by omega) (by omega)]
    rfl
  · rw [outsAt0_B m c t h0 (by omega) (by omega)]
    rfl

theorem dx_eq (c : Dev nD) (t : Fin cfg0.N) (h : t.val % 4 = 3) (s : Vec Ideal S512x1024 .f32) (hs : (outsAt0 m c (t.val - 1) (Nat.lt_of_le_of_lt (Nat.sub_le _ _) t.isLt)).2.2 = s) :
    (outsAt0 m c t.val t.isLt).1 = k0_pay9 (k0_pay1 (iblk m c 1 t) (iblk m c 2 t) (left (iblk m c 0 t)) (middle (iblk m c 0 t)) (right (iblk m c 0 t))) s (iblk m c 3 t) (iblk m c 4 t) (iblk m c 5 t) := by
  by_cases h3 : t.val < 4
  · rw [outsAt0_C m c t (by omega) (by omega) h h3 (by omega), hs]
    frame_out
    exact congrArg (fun z => k0_pay9 (k0_pay1 (iblk m c 1 t) (iblk m c 2 t) (left (iblk m c 0 t)) (middle (iblk m c 0 t)) (right (iblk m c 0 t))) z (iblk m c 3 t) (iblk m c 4 t) (iblk m c 5 t)) ((Memref.isWhole_whole cc0_scratch0).read_unread s)
  · rw [outsAt0_D m c t (by omega) (by omega) h h3 (by omega), hs]
    frame_out
    exact congrArg (fun z => k0_pay9 (k0_pay1 (iblk m c 1 t) (iblk m c 2 t) (left (iblk m c 0 t)) (middle (iblk m c 0 t)) (right (iblk m c 0 t))) z (iblk m c 3 t) (iblk m c 4 t) (iblk m c 5 t)) ((Memref.isWhole_whole cc0_scratch0).read_unread s)

theorem dg_first (c : Dev nD) (t : Fin cfg0.N) (h : t.val % 4 = 3) (h3 : t.val < 4) (s : Vec Ideal S512x1024 .f32) (hs : (outsAt0 m c (t.val - 1) (Nat.lt_of_le_of_lt (Nat.sub_le _ _) t.isLt)).2.2 = s) :
    (outsAt0 m c t.val t.isLt).2.1 = k0_pay8 (k0_pay1 (iblk m c 1 t) (iblk m c 2 t) (left (iblk m c 0 t)) (middle (iblk m c 0 t)) (right (iblk m c 0 t))) s (iblk m c 3 t) := by
  rw [outsAt0_C m c t (by omega) (by omega) h h3 (by omega), hs]
  frame_out
  exact congrArg (fun z => k0_pay8 (k0_pay1 (iblk m c 1 t) (iblk m c 2 t) (left (iblk m c 0 t)) (middle (iblk m c 0 t)) (right (iblk m c 0 t))) z (iblk m c 3 t)) ((Memref.isWhole_whole cc0_scratch0).read_unread s)

theorem dg_next (c : Dev nD) (t : Fin cfg0.N) (h : t.val % 4 = 3) (h3 : ¬ t.val < 4) (s : Vec Ideal S512x1024 .f32) (o : Vec Ideal S1x1024 .f32)
    (hs : (outsAt0 m c (t.val - 1) (Nat.lt_of_le_of_lt (Nat.sub_le _ _) t.isLt)).2.2 = s) (ho : (outsAt0 m c (t.val - 1) (Nat.lt_of_le_of_lt (Nat.sub_le _ _) t.isLt)).2.1 = o) :
    (outsAt0 m c t.val t.isLt).2.1 = k0_pay4 (k0_pay8 (k0_pay1 (iblk m c 1 t) (iblk m c 2 t) (left (iblk m c 0 t)) (middle (iblk m c 0 t)) (right (iblk m c 0 t))) s (iblk m c 3 t)) o := by
  rw [outsAt0_D m c t (by omega) (by omega) h h3 (by omega), hs, ho]
  frame_out
  exact congrArg (fun z => k0_pay4 (k0_pay8 (k0_pay1 (iblk m c 1 t) (iblk m c 2 t) (left (iblk m c 0 t)) (middle (iblk m c 0 t)) (right (iblk m c 0 t))) z (iblk m c 3 t)) o) ((Memref.isWhole_whole cc0_scratch0).read_unread s)

/-! ### The blocks read -/

/-- The slots the host prepares: entry (d, r, j) of slot d. -/
def slot (w : S1024x7680.Idx → EReal) (d : Fin 8) : S1x1024x1024.Idx → EReal :=
  Slots.slots w (sitofp .bf16 (constantI S_ 32 0#32) : FVec Ideal S_ .bf16) h_S_ bcast_S1024x1024_S1x1024x1024_1_2
    (fun d => ⟨rfl, by decide +revert⟩) pads_S1024x960_S1024x1024_000_0640 pads_S1024x960_S1024x1024_000_6400 d

theorem V_slots (c : Dev nD) (d : Fin 8) (r j : Fin 1024) :
    V m c main_v24 (ix3 d r j) = slot (m ((c.tc : Thread nD τ).loc main_arg1)) d (ix3 (0 : Fin 1) r j) := by
  refine Eq.trans (congrFun (?_ : V m c main_v24 = concatenate S8x1024x1024 0 [⟨S1x1024x1024, slot (m ((c.tc : Thread nD τ).loc main_arg1)) 0⟩, ⟨S1x1024x1024, slot (m ((c.tc : Thread nD τ).loc main_arg1)) 1⟩,
    ⟨S1x1024x1024, slot (m ((c.tc : Thread nD τ).loc main_arg1)) 2⟩, ⟨S1x1024x1024, slot (m ((c.tc : Thread nD τ).loc main_arg1)) 3⟩, ⟨S1x1024x1024, slot (m ((c.tc : Thread nD τ).loc main_arg1)) 4⟩,
    ⟨S1x1024x1024, slot (m ((c.tc : Thread nD τ).loc main_arg1)) 5⟩, ⟨S1x1024x1024, slot (m ((c.tc : Thread nD τ).loc main_arg1)) 6⟩, ⟨S1x1024x1024, slot (m ((c.tc : Thread nD τ).loc main_arg1)) 7⟩]
    concatenates_S1x1024x1024_S1x1024x1024_S1x1024x1024_S1x1024x1024_S1x1024x1024_S1x1024x1024_S1x1024x1024_S1x1024x1024_S8x1024x1024_d0) (ix3 d r j)) (Slots.stack_apply r j _ _ d)
  show StableHlo.after (List.flatten [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16]) (fun b => m (c, b)) (Proc.devRef .tc main_v24) = _
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, List.flatten_cons, List.flatten_nil, List.append_nil, List.cons_append, List.nil_append,
    StableHlo.TRef.binary, StableHlo.TRef.unary, StableHlo.TRef.toBuf, StableHlo.TRef.ofBuf, cast_eq]
  after_results_simp
  rfl

/-- Which block of each array a grid point takes. -/
theorem index0 : ∀ t : Fin cfg0.N, (win0_0.index t 0 = t.val / 4 ∧ win0_0.index t 1 = t.val % 4)
    ∧ (win0_1.index t 0 = 2 * (t.val % 4) ∧ win0_1.index t 1 = 0 ∧ win0_1.index t 2 = 0)
    ∧ (win0_2.index t 0 = 2 * (t.val % 4) + 1 ∧ win0_2.index t 1 = 0 ∧ win0_2.index t 2 = 0)
    ∧ (win0_3.index t 0 = t.val / 4 ∧ win0_3.index t 1 = 0)
    ∧ (win0_4.index t 0 = 0 ∧ win0_4.index t 1 = 0)
    ∧ (win0_5.index t 0 = t.val / 4 ∧ win0_5.index t 1 = 0)
    ∧ (win0_6.index t 0 = t.val / 4 ∧ win0_6.index t 1 = 0)
    ∧ (win0_7.index t 0 = 0 ∧ win0_7.index t 1 = 0) :=
  (by decide +kernel : ∀ t : Fin grid0.N, (win0_0.index t 0 = t.val / 4 ∧ win0_0.index t 1 = t.val % 4)
    ∧ (win0_1.index t 0 = 2 * (t.val % 4) ∧ win0_1.index t 1 = 0 ∧ win0_1.index t 2 = 0)
    ∧ (win0_2.index t 0 = 2 * (t.val % 4) + 1 ∧ win0_2.index t 1 = 0 ∧ win0_2.index t 2 = 0)
    ∧ (win0_3.index t 0 = t.val / 4 ∧ win0_3.index t 1 = 0)
    ∧ (win0_4.index t 0 = 0 ∧ win0_4.index t 1 = 0)
    ∧ (win0_5.index t 0 = t.val / 4 ∧ win0_5.index t 1 = 0)
    ∧ (win0_6.index t 0 = t.val / 4 ∧ win0_6.index t 1 = 0)
    ∧ (win0_7.index t 0 = 0 ∧ win0_7.index t 1 = 0))

theorem iblk0 (c : Dev nD) (t : Fin cfg0.N) (a : Fin 512) (k : Fin 1920) (r : Fin 2048) (l : Fin 7680) (hr : r.val = t.val / 4 * 512 + a.val)
    (hl : l.val = 1920 * (t.val % 4) + k.val) : iblk m c 0 t (ix2 a k) = m ((c.tc : Thread nD τ).loc main_arg0) (ix2 r l) := by
  obtain ⟨⟨e0, e1⟩, -⟩ := index0 t
  show V m c main_arg0 _ = _
  rw [V_main_arg0]
  refine congrArg (m ((c.tc : Thread nD τ).loc main_arg0)) (funext fun x => Fin.ext ?_)
  match x with
  | ⟨0, _⟩ => show win0_0.index t 0 * 512 + 1 * a.val = r.val; rw [e0]; omega
  | ⟨1, _⟩ => show win0_0.index t 1 * 1920 + 1 * k.val = l.val; rw [e1]; omega

theorem iblk1 (c : Dev nD) (t : Fin cfg0.N) (d : Fin 8) (hd : d.val = 2 * (t.val % 4)) (k j : Fin 1024) :
    iblk m c 1 t (ix3 (0 : Fin 1) k j) = slot (m ((c.tc : Thread nD τ).loc main_arg1)) d (ix3 (0 : Fin 1) k j) := by
  obtain ⟨-, ⟨e0, e1, e2⟩, -⟩ := index0 t
  refine Eq.trans ?_ (V_slots m c d k j)
  show V m c main_v24 _ = _
  refine congrArg (V m c main_v24) (funext fun x => Fin.ext ?_)
  match x with
  | ⟨0, _⟩ => show win0_1.index t 0 * 1 + 1 * 0 = d.val; rw [e0]; omega
  | ⟨1, _⟩ => show win0_1.index t 1 * 1024 + 1 * k.val = k.val; rw [e1]; omega
  | ⟨2, _⟩ => show win0_1.index t 2 * 1024 + 1 * j.val = j.val; rw [e2]; omega

theorem iblk2 (c : Dev nD) (t : Fin cfg0.N) (d : Fin 8) (hd : d.val = 2 * (t.val % 4) + 1) (k j : Fin 1024) :
    iblk m c 2 t (ix3 (0 : Fin 1) k j) = slot (m ((c.tc : Thread nD τ).loc main_arg1)) d (ix3 (0 : Fin 1) k j) := by
  obtain ⟨-, -, ⟨e0, e1, e2⟩, -⟩ := index0 t
  refine Eq.trans ?_ (V_slots m c d k j)
  show V m c main_v24 _ = _
  refine congrArg (V m c main_v24) (funext fun x => Fin.ext ?_)
  match x with
  | ⟨0, _⟩ => show win0_2.index t 0 * 1 + 1 * 0 = d.val; rw [e0]; omega
  | ⟨1, _⟩ => show win0_2.index t 1 * 1024 + 1 * k.val = k.val; rw [e1]; omega
  | ⟨2, _⟩ => show win0_2.index t 2 * 1024 + 1 * j.val = j.val; rw [e2]; omega

theorem iblk3 (c : Dev nD) (t : Fin cfg0.N) (a : Fin 512) (b : Fin 1024) (r : Fin 2048) (hr : r.val = t.val / 4 * 512 + a.val) :
    iblk m c 3 t (ix2 a b) = m ((c.tc : Thread nD τ).loc main_arg2) (ix2 r b) := by
  obtain ⟨-, -, -, ⟨e0, e1⟩, -⟩ := index0 t
  show V m c main_arg2 _ = _
  rw [V_main_arg2]
  refine congrArg (m ((c.tc : Thread nD τ).loc main_arg2)) (funext fun x => Fin.ext ?_)
  match x with
  | ⟨0, _⟩ => show win0_3.index t 0 * 512 + 1 * a.val = r.val; rw [e0]; omega
  | ⟨1, _⟩ => show win0_3.index t 1 * 1024 + 1 * b.val = b.val; rw [e1]; omega

theorem iblk5 (c : Dev nD) (t : Fin cfg0.N) (a : Fin 512) (b : Fin 1024) (r : Fin 2048) (hr : r.val = t.val / 4 * 512 + a.val) :
    iblk m c 5 t (ix2 a b) = m ((c.tc : Thread nD τ).loc main_arg3) (ix2 r b) := by
  obtain ⟨-, -, -, -, -, ⟨e0, e1⟩, -⟩ := index0 t
  show V m c main_arg3 _ = _
  rw [V_main_arg3]
  refine congrArg (m ((c.tc : Thread nD τ).loc main_arg3)) (funext fun x => Fin.ext ?_)
  match x with
  | ⟨0, _⟩ => show win0_5.index t 0 * 512 + 1 * a.val = r.val; rw [e0]; omega
  | ⟨1, _⟩ => show win0_5.index t 1 * 1024 + 1 * b.val = b.val; rw [e1]; omega

/-- The gain comes as one row. -/
theorem V_gain (c : Dev nD) : V m c main_v25 = shapeCast S1x1024 (m ((c.tc : Thread nD τ).loc main_arg4)) shapeCasts_S1024_S1x1024 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v25) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
    StableHlo.TRef.binary, StableHlo.TRef.unary, StableHlo.TRef.toBuf, StableHlo.TRef.ofBuf, cast_eq]
  after_results_simp
  rfl

theorem iblk4 (c : Dev nD) (t : Fin cfg0.N) (b : Fin 1024) : iblk m c 4 t (ix2 (0 : Fin 1) b) = m ((c.tc : Thread nD τ).loc main_arg4) (ix1 b) := by
  obtain ⟨-, -, -, -, ⟨e0, e1⟩, -⟩ := index0 t
  refine Eq.trans ?_ ((congrFun (V_gain m c) (ix2 (0 : Fin 1) b)).trans (Rms.toRow_apply _ _ b))
  show V m c main_v25 _ = _
  refine congrArg (V m c main_v25) (funext fun x => Fin.ext ?_)
  match x with
  | ⟨0, _⟩ => show win0_4.index t 0 * 1 + 1 * 0 = 0; rw [e0]
  | ⟨1, _⟩ => show win0_4.index t 1 * 1024 + 1 * b.val = b.val; rw [e1]; omega

/-! ### The payloads read -/

theorem left_apply (x : Vec Ideal S512x1920 .bf16) (a : Fin 512) (k : Fin 896) (l : Fin 1920) (h : l.val = k.val) : left x (ix2 a k) = x (ix2 a l) :=
  congrArg x (funext fun e => Fin.ext (by
    match e with
    | ⟨0, _⟩ => show 0 + 1 * a.val = a.val; omega
    | ⟨1, _⟩ => show 0 + 1 * k.val = l.val; omega))

theorem middle_apply (x : Vec Ideal S512x1920 .bf16) (a : Fin 512) (k : Fin 128) (l : Fin 1920) (h : l.val = 896 + k.val) : middle x (ix2 a k) = x (ix2 a l) :=
  congrArg x (funext fun e => Fin.ext (by
    match e with
    | ⟨0, _⟩ => show 0 + 1 * a.val = a.val; omega
    | ⟨1, _⟩ => show 896 + 1 * k.val = l.val; omega))

theorem right_apply (x : Vec Ideal S512x1920 .bf16) (a : Fin 512) (k : Fin 896) (l : Fin 1920) (h : l.val = 1024 + k.val) : right x (ix2 a k) = x (ix2 a l) :=
  congrArg x (funext fun e => Fin.ext (by
    match e with
    | ⟨0, _⟩ => show 0 + 1 * a.val = a.val; omega
    | ⟨1, _⟩ => show 1024 + 1 * k.val = l.val; omega))

/-- A slot's tile, and a strip of its columns. -/
theorem tile_apply (v : Vec Ideal S1x1024x1024 .bf16) (b j : Fin 1024) (hs : S1x1024x1024.ShapeCasts S1024x1024) :
    shapeCast S1024x1024 v hs (ix2 b j) = v (ix3 (0 : Fin 1) b j) := by
  refine shapeCast_apply _ _ (ix2 b j) (ix3 (0 : Fin 1) b j) ?_
  rw [Shape.rowMajor_val_two, Shape.rowMajor_val_three]
  show (0 * 1024 + b.val) * 1024 + j.val = b.val * 1024 + j.val
  omega

theorem strip_apply {n : ℕ} (o : ℕ) (v : Vec Ideal S1x1024x1024 .bf16) (b : Fin 1024) (k : Fin n) (j : Fin 1024) (hj : j.val = o + k.val)
    (hs : S1x1024x1024.ShapeCasts S1024x1024) (h : S1024x1024.Slices ![0, o] ⟨2, ![1024, n]⟩) :
    extractStridedSlice ⟨2, ![1024, n]⟩ ![0, o] (shapeCast S1024x1024 v hs) h (ix2 b k) = v (ix3 (0 : Fin 1) b j) := by
  refine Eq.trans ?_ (tile_apply v b j hs)
  generalize shapeCast S1024x1024 v hs = w
  refine extractStridedSlice_apply _ w _ _ (ix2 b j) fun e => ?_
  match e with
  | ⟨0, _⟩ => show b.val = 0 + b.val; omega
  | ⟨1, _⟩ => exact hj

theorem pay1_apply (v u : Vec Ideal S1x1024x1024 .bf16) (x : Vec Ideal S512x896 .bf16) (y : Vec Ideal S512x128 .bf16) (z : Vec Ideal S512x896 .bf16)
    (a : Fin 512) (b : Fin 1024) :
    k0_pay1 v u x y z (ix2 a b) = ((∑ k : Fin 896, (x (ix2 a k) : EReal) * v (ix3 (0 : Fin 1) b (⟨k.val, by omega⟩ : Fin 1024)))
      + (∑ k : Fin 128, (y (ix2 a k) : EReal) * (v (ix3 (0 : Fin 1) b (⟨896 + k.val, by omega⟩ : Fin 1024)) + u (ix3 (0 : Fin 1) b (⟨k.val, by omega⟩ : Fin 1024)) : EReal))
      + (∑ k : Fin 896, (z (ix2 a k) : EReal) * u (ix3 (0 : Fin 1) b (⟨128 + k.val, by omega⟩ : Fin 1024))) : EReal) := by
  unfold k0_pay1
  refine congrArg₂ (fun p q : EReal => p + q) (congrArg₂ (fun p q : EReal => p + q) ?_ ?_) ?_
  · exact (Products.nt (φ₁ := .bf16) (φ₂ := .bf16) _ none x _ a b).trans (Finset.sum_congr rfl fun k _ => congrArg _ (strip_apply 0 v b k _ (by show k.val = _; omega) _ _))
  · exact (Products.nt (φ₁ := .bf16) (φ₂ := .bf16) _ none y _ a b).trans (Finset.sum_congr rfl fun k _ => congrArg _
      (congrArg₂ (fun p q : EReal => p + q) (strip_apply 896 v b k _ rfl _ _) (strip_apply 0 u b k _ (by show k.val = _; omega) _ _)))
  · exact (Products.nt (φ₁ := .bf16) (φ₂ := .bf16) _ none z _ a b).trans (Finset.sum_congr rfl fun k _ => congrArg _ (strip_apply 128 u b k _ rfl _ _))

theorem pay2_apply (v u : Vec Ideal S1x1024x1024 .bf16) (x : Vec Ideal S512x896 .bf16) (y : Vec Ideal S512x128 .bf16) (z : Vec Ideal S512x896 .bf16)
    (a : Fin 512) (b : Fin 1024) : k0_pay2 v u x y z (ix2 a b) = k0_pay1 v u x y z (ix2 a b) := by
  unfold k0_pay2
  exact shapeCast_apply _ _ (ix2 a b) (ix2 a b) rfl

theorem pay3_apply (v u : Vec Ideal S1x1024x1024 .bf16) (x : Vec Ideal S512x896 .bf16) (y : Vec Ideal S512x128 .bf16) (z : Vec Ideal S512x896 .bf16)
    (s : Vec Ideal S512x1024 .f32) (a : Fin 512) (b : Fin 1024) : k0_pay3 v u x y z s (ix2 a b) = (s (ix2 a b) + k0_pay1 v u x y z (ix2 a b) : EReal) := by
  unfold k0_pay3
  exact shapeCast_apply _ _ (ix2 a b) (ix2 a b) rfl

theorem pay6_apply (x : Vec Ideal S512x1024 .f32) (a : Fin 512) : k0_pay6 x (ix2 a (0 : Fin 1)) = Rms.inv fun k : Fin 1024 => x (ix2 a k) :=
  Rms.inv_block x _ _ _ _ a

theorem pay9_apply (v s z : Vec Ideal S512x1024 .f32) (g : Vec Ideal S1x1024 .f32) (r : Vec Ideal S512x1024 .f32) (a : Fin 512) (b : Fin 1024) :
    k0_pay9 v s z g r (ix2 a b) = r (ix2 a b) + Rms.back (fun k : Fin 1024 => k0_pay5 v s (ix2 a k) * g (ix2 (0 : Fin 1) k)) (fun k : Fin 1024 => z (ix2 a k)) b := by
  unfold k0_pay9 k0_pay7
  generalize k0_pay5 v s = h
  exact Rms.back_block h z r g (k0_pay6 z) (pay6_apply z) _ _ _ _ _ _ _ a b

theorem pay8_apply (v s z : Vec Ideal S512x1024 .f32) (b : Fin 1024) :
    k0_pay8 v s z (ix2 (0 : Fin 1) b) = ∑ a : Fin 512, (k0_pay5 v s (ix2 a b) * (z (ix2 a b) * Rms.inv fun k : Fin 1024 => z (ix2 a k)) : EReal) := by
  unfold k0_pay8 k0_pay7
  generalize k0_pay5 v s = h
  exact Rms.gain_block h z (k0_pay6 z) (pay6_apply z) _ _ _ _ _ b

theorem pay4_apply (v o : Vec Ideal S1x1024 .f32) (b : Fin 1024) : k0_pay4 v o (ix2 (0 : Fin 1) b) = (o (ix2 (0 : Fin 1) b) + v (ix2 (0 : Fin 1) b) : EReal) := by
  unfold k0_pay4
  exact congrArg (fun z : EReal => (z + v (ix2 (0 : Fin 1) b) : EReal)) (shapeCast_apply _ _ (ix2 (0 : Fin 1) b) (ix2 (0 : Fin 1) b) rfl)

/-! ### A block of rows -/

/-- The arguments, read as matrices. -/
abbrev argU (c : Dev nD) : S2048x7680.Idx → EReal := m ((c.tc : Thread nD τ).loc main_arg0)
abbrev argW (c : Dev nD) : S1024x7680.Idx → EReal := m ((c.tc : Thread nD τ).loc main_arg1)
abbrev argH (c : Dev nD) : S2048x1024.Idx → EReal := prod (m ((c.tc : Thread nD τ).loc main_arg0)) (m ((c.tc : Thread nD τ).loc main_arg1))
abbrev argX (c : Dev nD) : S2048x1024.Idx → EReal := m ((c.tc : Thread nD τ).loc main_arg2)
abbrev argR (c : Dev nD) : S2048x1024.Idx → EReal := m ((c.tc : Thread nD τ).loc main_arg3)
abbrev argG (c : Dev nD) : S1024.Idx → EReal := m ((c.tc : Thread nD τ).loc main_arg4)

theorem zero_apply (i : S_.Idx) : (sitofp .bf16 (constantI S_ 32 0#32) : FVec Ideal S_ .bf16) i = 0 := by
  show (((0#32 : BitVec 32).toInt : ℝ) : EReal) = 0
  norm_num

/-- A grid point's part is the sum over its 1920 columns. -/
theorem part_apply (c : Dev nD) (t : Fin cfg0.N) (q : ℕ) (hq : q < 4) (ht : t.val % 4 = q) (a : Fin 512) (b : Fin 1024) (r : Fin 2048) (hr : r.val = t.val / 4 * 512 + a.val) :
    part m c t (ix2 a b) = ∑ k : Fin 1920, term (argU m c) (argW m c) r b ⟨1920 * q + k.val, by omega⟩ := by
  subst ht
  have h1 := iblk1 m c t ⟨2 * (t.val % 4), by omega⟩ rfl
  have h2 := iblk2 m c t ⟨2 * (t.val % 4) + 1, by omega⟩ rfl
  refine (pay1_apply _ _ _ _ _ a b).trans (Eq.trans ?_ (split_part fun k => term (argU m c) (argW m c) r b ⟨1920 * (t.val % 4) + k.val, by omega⟩).symm)
  refine congrArg₂ (fun p q : EReal => p + q) (congrArg₂ (fun p q : EReal => p + q) ?_ ?_) ?_ <;> refine Finset.sum_congr rfl fun k _ => ?_
  · refine congrArg₂ (fun p q : EReal => p * q) ((left_apply _ a k ⟨k.val, by omega⟩ rfl).trans (iblk0 m c t a _ r _ hr rfl)) ((h1 b _).trans ?_)
    exact Slots.slots_left _ _ _ _ b _ _ _ _ ⟨t.val % 4, by omega⟩ _ rfl _ k.isLt rfl
  · refine congrArg₂ (fun p q : EReal => p * q) ((middle_apply _ a k ⟨896 + k.val, by omega⟩ rfl).trans (iblk0 m c t a _ r _ hr rfl))
      ((congrArg₂ (fun p q : EReal => p + q) (h1 b _) (h2 b _)).trans ?_)
    exact Slots.slots_middle _ _ _ _ b _ _ _ zero_apply ⟨t.val % 4, by omega⟩ _ _ rfl rfl _ _ rfl _ rfl
  · refine congrArg₂ (fun p q : EReal => p * q) ((right_apply _ a k ⟨1024 + k.val, by omega⟩ rfl).trans (iblk0 m c t a _ r _ hr rfl)) ((h2 b _).trans ?_)
    exact Slots.slots_right _ _ _ _ b _ _ _ _ ⟨t.val % 4, by omega⟩ _ rfl _ (by show 128 ≤ 128 + k.val; omega) (by show 1920 * (t.val % 4) + (1024 + k.val) = 1920 * (t.val % 4) + 896 + (128 + k.val); omega)

/-- The scratch after each of the first three points of a row of blocks. -/
theorem scratch_at (c : Dev nD) (a : Fin 512) (b : Fin 1024) (r : Fin 2048) : ∀ (n : ℕ) (hn : n < 3) (t : Fin cfg0.N), t.val % 4 = n → r.val = t.val / 4 * 512 + a.val →
    (outsAt0 m c t.val t.isLt).2.2 (ix2 a b) = upTo (argU m c) (argW m c) r b n (by omega) := by
  intro n
  induction n with
  | zero =>
    intro hn t ht hr
    rw [scratch_first m c t ht, pay2_apply, upTo_zero]
    exact part_apply m c t 0 (by omega) ht a b r hr
  | succ n ih =>
    intro hn t ht hr
    rw [scratch_next m c t (by omega) _ rfl, pay3_apply, upTo_succ]
    refine congrArg₂ (fun p q : EReal => p + q) ?_ (part_apply m c t (n + 1) (by omega) ht a b r hr)
    exact ih (by omega) ⟨t.val - 1, Nat.lt_of_le_of_lt (Nat.sub_le _ _) t.isLt⟩ (by show (t.val - 1) % 4 = n; omega) (by show _ = (t.val - 1) / 4 * 512 + a.val; omega)

/-- What the last point of a row of blocks makes of it: the whole product. -/
theorem h_apply (c : Dev nD) (t : Fin cfg0.N) (h : t.val % 4 = 3) (a : Fin 512) (b : Fin 1024) (r : Fin 2048) (hr : r.val = t.val / 4 * 512 + a.val) :
    k0_pay5 (part m c t) (before m c t).2.2 (ix2 a b) = argH m c (ix2 r b) := by
  refine Eq.trans ?_ (upTo_last (argU m c) (argW m c) r b)
  rw [upTo_succ]
  refine congrArg₂ (fun p q : EReal => p + q) ?_ (part_apply m c t 3 (by omega) h a b r hr)
  exact scratch_at m c a b r 2 (by omega) ⟨t.val - 1, Nat.lt_of_le_of_lt (Nat.sub_le _ _) t.isLt⟩ (by show (t.val - 1) % 4 = 2; omega) (by show _ = (t.val - 1) / 4 * 512 + a.val; omega)

theorem dx_block (c : Dev nD) (t : Fin cfg0.N) (h : t.val % 4 = 3) (a : Fin 512) (b : Fin 1024) (r : Fin 2048) (hr : r.val = t.val / 4 * 512 + a.val) :
    k0_pay9 (part m c t) (before m c t).2.2 (iblk m c 3 t) (iblk m c 4 t) (iblk m c 5 t) (ix2 a b)
      = Rms.dx (argH m c) (argX m c) (argR m c) (argG m c) (ix2 r b) := by
  refine (pay9_apply _ _ _ _ _ a b).trans ?_
  refine congrArg₂ (fun p q : EReal => p + q) (iblk5 m c t a b r hr) ?_
  refine congrArg₂ (fun f z => Rms.back f z b) (funext fun k => ?_) (funext fun k => iblk3 m c t a k r hr)
  exact congrArg₂ (fun p q : EReal => p * q) (h_apply m c t h a k r hr) (iblk4 m c t k)

theorem dg_block (c : Dev nD) (t : Fin cfg0.N) (h : t.val % 4 = 3) (b : Fin 1024) (f : Fin 512 → Fin 2048) (hf : ∀ a, (f a).val = t.val / 4 * 512 + a.val) :
    k0_pay8 (part m c t) (before m c t).2.2 (iblk m c 3 t) (ix2 (0 : Fin 1) b) = ∑ a : Fin 512, Rms.gainTerm (argH m c) (argX m c) b (f a) := by
  refine (pay8_apply _ _ _ b).trans ?_
  refine Finset.sum_congr rfl fun a _ => ?_
  refine congrArg₂ (fun p q : EReal => p * q) (h_apply m c t h a b (f a) (hf a)) ?_
  exact congrArg₂ (fun p q : EReal => p * q) (iblk3 m c t a b (f a) (hf a)) (congrArg Rms.inv (funext fun k => iblk3 m c t a k (f a) (hf a)))

/-- The gain's gradient stays over the first three points of a row of blocks. -/
theorem carried (c : Dev nD) (s t : Fin cfg0.N) (h : t.val % 4 = 3) (hs : s.val + 4 = t.val) : (before m c t).2.1 = (outsAt0 m c s.val s.isLt).2.1 := by
  obtain ⟨n, hn⟩ := t
  obtain rfl : n = s.val + 4 := hs.symm
  exact ((kept_eq m c ⟨s.val + 3, by omega⟩ (by show (s.val + 3) % 4 ≠ 3; have : (s.val + 4) % 4 = 3 := h; omega)).trans
    (kept_eq m c ⟨s.val + 2, by omega⟩ (by show (s.val + 2) % 4 ≠ 3; have : (s.val + 4) % 4 = 3 := h; omega))).trans
    (kept_eq m c ⟨s.val + 1, by omega⟩ (by show (s.val + 1) % 4 ≠ 3; have : (s.val + 4) % 4 = 3 := h; omega))

/-- The gain's gradient after each row of blocks. -/
theorem dg_at (c : Dev nD) (b : Fin 1024) : ∀ (n : ℕ) (hn : n < 4) (t : Fin cfg0.N), t.val = 4 * n + 3 →
    (outsAt0 m c t.val t.isLt).2.1 (ix2 (0 : Fin 1) b) = Rms.gainUpTo (argH m c) (argX m c) b n hn := by
  intro n
  induction n with
  | zero =>
    intro hn t ht
    rw [dg_first m c t (by omega) (by omega) _ rfl, Rms.gainUpTo_zero]
    exact dg_block m c t (by omega) b _ fun a => by show a.val = _; omega
  | succ n ih =>
    intro hn t ht
    let s : Fin cfg0.N := ⟨t.val - 4, Nat.lt_of_le_of_lt (Nat.sub_le _ _) t.isLt⟩
    have hs : s.val + 4 = t.val := by show t.val - 4 + 4 = _; omega
    rw [dg_next m c t (by omega) (by omega) _ _ rfl (carried m c s t (by omega) hs), pay4_apply, Rms.gainUpTo_succ]
    refine congrArg₂ (fun p q : EReal => p + q) (ih (by omega) s (by omega)) ?_
    exact dg_block m c t (by omega) b _ fun a => by show 512 * (n + 1) + a.val = _; omega

/-! ### The arrays at the end -/

/-- The points that write back write to different blocks. -/
theorem inj6 : ∀ t t' : Fin cfg0.N, (cfg0.win 6).flush t = true → (cfg0.win 6).flush t' = true → win0_6.index t = win0_6.index t' → t = t' :=
  (by decide +kernel : ∀ t t' : Fin grid0.N, (cfg0.win 6).flush t = true → (cfg0.win 6).flush t' = true → win0_6.index t = win0_6.index t' → t = t')

theorem inj7 : ∀ t t' : Fin cfg0.N, (cfg0.win 7).flush t = true → (cfg0.win 7).flush t' = true → win0_7.index t = win0_7.index t' → t = t' :=
  (by decide +kernel : ∀ t t' : Fin grid0.N, (cfg0.win 7).flush t = true → (cfg0.win 7).flush t' = true → win0_7.index t = win0_7.index t' → t = t')

theorem final_dx (c : Dev nD) : (dats m 0 c).arrAt 6 cfg0.N = Rms.dx (argH m c) (argX m c) (argR m c) (argG m c) := by
  funext i
  obtain ⟨r, s, rfl⟩ : ∃ (r : Fin 2048) (s : Fin 1024), i = ix2 r s := ⟨i 0, i 1, ValueIdx.eq_ix2 i⟩
  have hr := r.isLt
  let t : Fin cfg0.N := ⟨r.val / 512 * 4 + 3, by show _ < 16; omega⟩
  let a : Fin 512 := ⟨r.val % 512, by omega⟩
  have ht0 : t.val / 4 = r.val / 512 := by show (r.val / 512 * 4 + 3) / 4 = _; omega
  have ht1 : t.val % 4 = 3 := by show (r.val / 512 * 4 + 3) % 4 = _; omega
  have ha : a.val = r.val % 512 := rfl
  obtain ⟨-, -, -, -, -, -, ⟨e0, e1⟩, -⟩ := index0 t
  have h := ((dats m 0 c).read_blk_arrAt_eq_flushed 6 (fun t t' hf hf' hne => (cfg0.win 6).disjoint_blk fun h => hne (inj6 t t' hf hf' h))
    cfg0.N t t.isLt ((flush0_6 t).2 ht1)).trans (flushed6 m c t)
  refine Eq.trans (congrArg _ (funext fun x => Fin.ext ?_)) ((congrFun h (ix2 a s)).trans ?_)
  · match x with
    | ⟨0, _⟩ => show r.val = win0_6.index t 0 * 512 + 1 * a.val; rw [e0]; omega
    | ⟨1, _⟩ => show s.val = win0_6.index t 1 * 1024 + 1 * s.val; rw [e1]; omega
  · exact (congrFun (dx_eq m c t ht1 _ rfl) (ix2 a s)).trans (dx_block m c t ht1 a s r (by omega))

theorem final_dg (c : Dev nD) : (dats m 0 c).arrAt 7 cfg0.N = Rms.dg (argH m c) (argX m c) := by
  funext i
  obtain ⟨z, s, rfl⟩ : ∃ (z : Fin 1) (s : Fin 1024), i = ix2 z s := ⟨i 0, i 1, ValueIdx.eq_ix2 i⟩
  obtain rfl : z = 0 := Subsingleton.elim _ _
  let t : Fin cfg0.N := ⟨15, by show _ < 16; omega⟩
  obtain ⟨-, -, -, -, -, -, -, e0, e1⟩ := index0 t
  have h := ((dats m 0 c).read_blk_arrAt_eq_flushed 7 (fun t t' hf hf' hne => (cfg0.win 7).disjoint_blk fun h => hne (inj7 t t' hf hf' h))
    cfg0.N t t.isLt ((flush0_7 t).2 rfl)).trans (flushed7 m c t)
  refine Eq.trans (congrArg _ (funext fun x => Fin.ext ?_)) ((congrFun h (ix2 (0 : Fin 1) s)).trans ?_)
  · match x with
    | ⟨0, _⟩ => show 0 = win0_7.index t 0 * 1 + 1 * 0; rw [e0]
    | ⟨1, _⟩ => show s.val = win0_7.index t 1 * 1024 + 1 * s.val; rw [e1]; omega
  · exact (dg_at m c s 3 (by omega) t rfl).trans (Rms.gainUpTo_last _ _ s)

theorem run : θ_run defs (onTc (τ := τ) (main (F := Ideal))) ⟨m, fun _ => 0, ρ⟩ fun r => ∀ c : Dev nD,
      r.2.mem ((c.tc : Thread nD τ).loc main_v26_0) = Rms.dx (argH m c) (argX m c) (argR m c) (argG m c)
      ∧ r.2.mem ((c.tc : Thread nD τ).loc main_v26_1) = Rms.dg (argH m c) (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(post6 m r h c).trans (final_dx m c), (post7 m r h c).trans (final_dg m c),
      kept_main_arg0 m r h c, kept_main_arg1 m r h c, kept_main_arg2 m r h c, kept_main_arg3 m r h c, kept_main_arg4 m r h c⟩)
    (run_main m ρ)

end Cert.Kernel10Ideal.Mm

namespace Cert.Reference10Ideal.Mm

open Cert.Reference10Ideal Cert.Reference10Ideal.Gen Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

/-- The product, as the reference writes it. -/
theorem prod_eq (f : FVec Ideal S2048x7680 .bf16) (w : FVec Ideal S1024x7680 .bf16) (p q) :
    Host.dotGeneral dot_S2048x7680_S1024x7680_S2048x1024_1_1_0_0_n_n none (extf .f32 f p) (extf .f32 w q) = Cert.Kernel10Ideal.Mm.prod f w := by
  funext i
  obtain ⟨r, s, rfl⟩ : ∃ (r : Fin 2048) (s : Fin 1024), i = ix2 r s := ⟨i 0, i 1, ValueIdx.eq_ix2 i⟩
  exact Products.host_nt (φ₁ := .f32) (φ₂ := .f32) _ none f w r s

abbrev argH (c : Dev nD) : S2048x1024.Idx → EReal := Cert.Kernel10Ideal.Mm.prod (m ((c.tc : Thread nD τ).loc main_arg0)) (m ((c.tc : Thread nD τ).loc main_arg1))

theorem dx_eq (c : Dev nD) : Cert.Reference10Ideal.Value.res_main_v40 m c
    = Rms.dx (argH m c) (m ((c.tc : Thread nD τ).loc main_arg2)) (m ((c.tc : Thread nD τ).loc main_arg3)) (m ((c.tc : Thread nD τ).loc main_arg4)) := by
  unfold Cert.Reference10Ideal.Value.res_main_v40
  rw [prod_eq]
  have hu := Rms.under_all (m ((c.tc : Thread nD τ).loc main_arg2)) reducesTo_S2048x1024_S2048_d1 h_S_ bcast_S2048_S2048x1_0 bcast_S_S2048x1
  refine Rms.dx_all (argH m c) _ _ (m ((c.tc : Thread nD τ).loc main_arg4)) _ _ _
    (fun a k => congrArg (fun z : EReal => argH m c (ix2 a k) * z) (Rms.gain_apply _ _ _ a k)) ?_ ?_
  · exact Rms.coef_all _ _ _ hu _ _ _ _ _ _
  · exact Rms.inv_all _ _ hu _

theorem run : θ_run defs (onTc (τ := τ) (main (F := Ideal))) ⟨m, fun _ => 0, ρ⟩ fun r => ∀ c : Dev nD,
      r.2.mem ((c.tc : Thread nD τ).loc main_v40)
        = Rms.dx (argH m c) (m ((c.tc : Thread nD τ).loc main_arg2)) (m ((c.tc : Thread nD τ).loc main_arg3)) (m ((c.tc : Thread nD τ).loc main_arg4))
      ∧ r.2.mem ((c.tc : Thread nD τ).loc main_v41) = Rms.dg (argH m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, hk⟩ := h c
    refine ⟨h0.trans (dx_eq m c), h1.trans ?_, hk⟩
    rw [prod_eq]
    have hu := Rms.under_all (m ((c.tc : Thread nD τ).loc main_arg2)) reducesTo_S2048x1024_S2048_d1 h_S_ bcast_S2048_S2048x1_0 bcast_S_S2048x1
    exact Rms.dg_all (argH m c) (m ((c.tc : Thread nD τ).loc main_arg2)) _ (Rms.inv_all _ _ hu _) _ _ _ _) (Cert.Reference10Ideal.Value.run m ρ)

end Cert.Reference10Ideal.Mm

end
-- ==== Proof.RmsFwd.lean ====
/- The RMS norm of rows, scaled by its gain: what the matrices of a kernel's block and of a reference hold. -/
module

public import proofs.«01_k».proof.Proof.RmsRows

@[expose] public section

set_option maxRecDepth 16384

noncomputable section

namespace Cert.Rms

open Idealize.ShloMosaic hiding ix0 ix1 ix2 ix3
open Idealize.ShloMosaic.ValueIdx

/-- The rows over their root mean squares, times the gain. -/
def normed (x : Sall.Idx → EReal) (g : Sgain.Idx → EReal) : Sall.Idx → EReal := fun i =>
  x i * inv (fun k : Fin 1024 => x (ix2 (i 0) k)) * g (ix1 (i 1))

/-- A kernel's block of 512 rows. -/
theorem normed_block (x : FVec Ideal Sblock .f32) (g : FVec Ideal Srow .f32) (hg : Srow.ShapeCasts Srow) (hb : Srow.Broadcasts Sblock)
    (hc : Scol.Broadcasts Sblock) (hr : Sblock.Reduces [1] Svec) (hs : Svec.ShapeCasts Scol) (p q) (a : Fin 512) (b : Fin 1024) :
    mulf (mulf x (broadcastTo Sblock (rsqrt (addf (divf (shapeCast Scol (multiReduction .add [1] Svec (mulf x x) 0x00000000#32 hr p q) hs)
        (broadcast Scol (Scalar.ofBits (F := Ideal) .f32 0x44800000#32))) (broadcast Scol (Scalar.ofBits (F := Ideal) .f32 0x358637BD#32)))) hc))
      (broadcastTo Sblock (shapeCast Srow g hg) hb) (ix2 a b)
      = x (ix2 a b) * inv (fun k : Fin 1024 => x (ix2 a k)) * g (ix2 (0 : Fin 1) b) := by
  have hi := (colBroadcast_apply _ hc a b).trans (inv_block x hr hs p q a)
  refine congrArg₂ (fun z w : EReal => z * w) (congrArg (fun z : EReal => x (ix2 a b) * z) hi) ?_
  exact (broadcastTo_1b_ab_apply _ hb a b).trans (shapeCast_apply _ _ _ (ix2 (0 : Fin 1) b) rfl)

/-- A reference's 2048 rows. -/
theorem normed_all (x : FVec Ideal Sall .f32) (g : FVec Ideal Sgain .f32) (hr : Sall.ReducesTo [1] Sallvec) (hu : 0 < Snil.numel)
    (hb : Sallvec.BroadcastsInDim Sallcol ![0]) (hn : Snil.BroadcastsInDim Sallcol ![]) (hc : Sallcol.BroadcastsInDim Sall ![0, 1])
    (h1 : Sgain.BroadcastsInDim Srow ![1]) (h2 : Srow.BroadcastsInDim Sall ![0, 1]) :
    mulf (mulf x (broadcastInDim Sall ![0, 1] hc (Host.rsqrt (addf (Host.divf (broadcastInDim Sallcol ![0] hb
        (Host.reduceAdd (mulf x x) (constant (F := Ideal) Snil .f32 0x00000000#32) hr hu))
        (broadcastInDim Sallcol ![] hn (constant (F := Ideal) Snil .f32 0x44800000#32)))
        (broadcastInDim Sallcol ![] hn (constant (F := Ideal) Snil .f32 0x358637BD#32))))))
      (broadcastInDim Sall ![0, 1] h2 (broadcastInDim Srow ![1] h1 g)) = normed x g := by
  funext j
  obtain ⟨a, b, rfl⟩ : ∃ (a : Fin 2048) (b : Fin 1024), j = ix2 a b := ⟨j 0, j 1, ValueIdx.eq_ix2 j⟩
  refine congrArg₂ (fun z w : EReal => z * w) (congrArg (fun z : EReal => x (ix2 a b) * z) ?_) (gain_apply g h1 h2 a b)
  exact inv_all x _ (fun a => under_all x hr hu hb hn a) hc a b

end Cert.Rms

end
-- ==== Proof.MmOut.lean ====
/- The output projection with its residual, x + mg @ w, and its rows' RMS norm with the gain. -/
module

public import proofs.«01_k».proof.Proof.Gen.Kernel11Ideal.Value
public import proofs.«01_k».proof.Proof.Gen.Reference11Ideal.Run
public import proofs.«01_k».proof.Proof.Products
public import proofs.«01_k».proof.Proof.RmsFwd
public import Idealize.ShloMosaic.Lib.Pipeline.ValueKit.Basic

@[expose] public section

set_option maxRecDepth 16384

noncomputable section

namespace Cert.Kernel11Ideal.Mm

open Cert.Kernel11Ideal Cert.Kernel11Ideal.Gen Cert.Kernel11Ideal.Value Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

/-- The residual plus the product, entry by entry. -/
def prod (z : S2048x1024.Idx → EReal) (w : S1024x1024.Idx → EReal) (x : S2048x1024.Idx → EReal) : S2048x1024.Idx → EReal :=
  fun i => x i + ∑ k : Fin 1024, z (ix2 (i 0) k) * w (ix2 k (i 1))

/-- Which block of each array a grid point takes. -/
theorem index0 : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0))

theorem flush4 : ∀ t : Fin cfg0.N, (cfg0.win 4).flush t = true :=
  (by decide +kernel : ∀ t : Fin grid0.N, (cfg0.win 4).flush t = true)

theorem flush5 : ∀ t : Fin cfg0.N, (cfg0.win 5).flush t = true :=
  (by decide +kernel : ∀ t : Fin grid0.N, (cfg0.win 5).flush t = true)

theorem iblk0 (c : Dev nD) (t : Fin cfg0.N) (a : Fin 512) (k : Fin 1024) (r : Fin 2048) (h : r.val = t.val * 512 + a.val) :
    iblk m c 0 t (ix2 a k) = m ((c.tc : Thread nD τ).loc main_arg0) (ix2 r k) := by
  obtain ⟨⟨e0, e1⟩, -⟩ := index0 t
  show V m c main_arg0 _ = _
  rw [V_main_arg0]
  refine congrArg (m ((c.tc : Thread nD τ).loc main_arg0)) (funext fun x => Fin.ext ?_)
  match x with
  | ⟨0, _⟩ => show win0_0.index t 0 * 512 + 1 * a.val = r.val; rw [e0]; omega
  | ⟨1, _⟩ => show win0_0.index t 1 * 1024 + 1 * k.val = k.val; rw [e1]; omega

theorem iblk1 (c : Dev nD) (t : Fin cfg0.N) (k b : Fin 1024) :
    iblk m c 1 t (ix2 k b) = m ((c.tc : Thread nD τ).loc main_arg1) (ix2 k b) := by
  obtain ⟨-, ⟨e0, e1⟩, -⟩ := index0 t
  show V m c main_arg1 _ = _
  rw [V_main_arg1]
  refine congrArg (m ((c.tc : Thread nD τ).loc main_arg1)) (funext fun x => Fin.ext ?_)
  match x with
  | ⟨0, _⟩ => show win0_1.index t 0 * 1024 + 1 * k.val = k.val; rw [e0]; omega
  | ⟨1, _⟩ => show win0_1.index t 1 * 1024 + 1 * b.val = b.val; rw [e1]; omega

theorem iblk2 (c : Dev nD) (t : Fin cfg0.N) (a : Fin 512) (b : Fin 1024) (r : Fin 2048) (h : r.val = t.val * 512 + a.val) :
    iblk m c 2 t (ix2 a b) = m ((c.tc : Thread nD τ).loc main_arg2) (ix2 r b) := by
  obtain ⟨-, -, ⟨e0, e1⟩, -⟩ := index0 t
  show V m c main_arg2 _ = _
  rw [V_main_arg2]
  refine congrArg (m ((c.tc : Thread nD τ).loc main_arg2)) (funext fun x => Fin.ext ?_)
  match x with
  | ⟨0, _⟩ => show win0_2.index t 0 * 512 + 1 * a.val = r.val; rw [e0]; omega
  | ⟨1, _⟩ => show win0_2.index t 1 * 1024 + 1 * b.val = b.val; rw [e1]; omega

/-- The gain comes as one row. -/
theorem V_gain (c : Dev nD) : V m c main_v0 = shapeCast S1x1024 (m ((c.tc : Thread nD τ).loc main_arg3)) shapeCasts_S1024_S1x1024 := by
  show StableHlo.after (List.flatten [hostOps0]) (fun b => m (c, b)) (Proc.devRef .tc main_v0) = _
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem iblk3 (c : Dev nD) (t : Fin cfg0.N) (b : Fin 1024) : iblk m c 3 t (ix2 (0 : Fin 1) b) = m ((c.tc : Thread nD τ).loc main_arg3) (ix1 b) := by
  obtain ⟨-, -, -, ⟨e0, e1⟩, -⟩ := index0 t
  refine Eq.trans ?_ ((congrFun (V_gain m c) (ix2 (0 : Fin 1) b)).trans (Rms.toRow_apply _ _ b))
  show V m c main_v0 _ = _
  refine congrArg (V m c main_v0) (funext fun x => Fin.ext ?_)
  match x with
  | ⟨0, _⟩ => show win0_3.index t 0 * 1 + 1 * 0 = 0; rw [e0]
  | ⟨1, _⟩ => show win0_3.index t 1 * 1024 + 1 * b.val = b.val; rw [e1]; omega

/-! ### The blocks read -/

theorem pay1_apply (z : Vec Ideal S512x1024 .bf16) (w : Vec Ideal S1024x1024 .bf16) (x : Vec Ideal S512x1024 .f32) (a : Fin 512) (b : Fin 1024) :
    k0_pay1 z w x (ix2 a b) = x (ix2 a b) + ∑ k : Fin 1024, (z (ix2 a k) : EReal) * w (ix2 k b) :=
  congrArg (fun s : EReal => x (ix2 a b) + s) (Products.nn (φ₁ := .bf16) (φ₂ := .bf16) _ none z w a b)

theorem pay2_apply (z : Vec Ideal S512x1024 .bf16) (w : Vec Ideal S1024x1024 .bf16) (x : Vec Ideal S512x1024 .f32) (g : Vec Ideal S1x1024 .f32)
    (a : Fin 512) (b : Fin 1024) : k0_pay2 z w x g (ix2 a b)
      = k0_pay1 z w x (ix2 a b) * Rms.inv (fun k : Fin 1024 => k0_pay1 z w x (ix2 a k)) * g (ix2 (0 : Fin 1) b) := by
  unfold k0_pay2
  generalize k0_pay1 z w x = y
  exact Rms.normed_block y g _ _ _ _ _ _ _ a b

theorem out4_eq (z : Vec Ideal S512x1024 .bf16) (w : Vec Ideal S1024x1024 .bf16) (x : Vec Ideal S512x1024 .f32) (g : Vec Ideal S1x1024 .f32) :
    out0_4 z w x g = k0_pay1 z w x := by
  unfold out0_4
  rw [View.canon_cons_unit_lit _ _ _ (by decide), View.ld_unit_lit _ z (by decide), View.ld_unit_lit _ w (by decide), View.ld_unit_lit _ x (by decide)]

theorem out5_eq (z : Vec Ideal S512x1024 .bf16) (w : Vec Ideal S1024x1024 .bf16) (x : Vec Ideal S512x1024 .f32) (g : Vec Ideal S1x1024 .f32) :
    out0_5 z w x g = k0_pay2 z w x g := by
  unfold out0_5
  rw [View.canon_cons_unit_lit _ _ _ (by decide), View.ld_unit_lit _ z (by decide), View.ld_unit_lit _ w (by decide), View.ld_unit_lit _ x (by decide),
    View.ld_unit_lit _ g (by decide)]

/-! ### The blocks against the whole arrays -/

abbrev argH (c : Dev nD) : S2048x1024.Idx → EReal :=
  prod (m ((c.tc : Thread nD τ).loc main_arg0)) (m ((c.tc : Thread nD τ).loc main_arg1)) (m ((c.tc : Thread nD τ).loc main_arg2))
abbrev argG (c : Dev nD) : S1024.Idx → EReal := m ((c.tc : Thread nD τ).loc main_arg3)

theorem block_apply (c : Dev nD) (t : Fin cfg0.N) (a : Fin 512) (b : Fin 1024) (r : Fin 2048) (h : r.val = t.val * 512 + a.val) :
    k0_pay1 (iblk m c 0 t) (iblk m c 1 t) (iblk m c 2 t) (ix2 a b) = argH m c (ix2 r b) := by
  refine (pay1_apply _ _ _ a b).trans (congrArg₂ (fun p q : EReal => p + q) (iblk2 m c t a b r h) (Finset.sum_congr rfl fun k _ => ?_))
  exact congrArg₂ (fun p q : EReal => p * q) (iblk0 m c t a k r h) (iblk1 m c t k b)

theorem normed_apply (c : Dev nD) (t : Fin cfg0.N) (a : Fin 512) (b : Fin 1024) (r : Fin 2048) (h : r.val = t.val * 512 + a.val) :
    k0_pay2 (iblk m c 0 t) (iblk m c 1 t) (iblk m c 2 t) (iblk m c 3 t) (ix2 a b) = Rms.normed (argH m c) (argG m c) (ix2 r b) := by
  refine (pay2_apply _ _ _ _ a b).trans (congrArg₂ (fun p q : EReal => p * q) ?_ (iblk3 m c t b))
  exact congrArg₂ (fun p q : EReal => p * q) (block_apply m c t a b r h) (congrArg Rms.inv (funext fun k => block_apply m c t a k r h))

theorem final_sum (c : Dev nD) : (dats m 0 c).arrAt 4 cfg0.N = argH m c := by
  funext i
  obtain ⟨r, s, rfl⟩ : ∃ (r : Fin 2048) (s : Fin 1024), i = ix2 r s := ⟨i 0, i 1, ValueIdx.eq_ix2 i⟩
  let t : Fin cfg0.N := ⟨r.val / 512, by show _ < 4; omega⟩
  have h0 : r.val = t.val * 512 + r.val % 512 := by show r.val = r.val / 512 * 512 + _; omega
  let a : Fin 512 := ⟨r.val % 512, by omega⟩
  have ha : a.val = r.val % 512 := rfl
  obtain ⟨-, -, -, -, ⟨e0, e1⟩, -⟩ := index0 t
  have h := (blocks4 m c t (flush4 t)).trans (flushed4 m c t)
  rw [out4_eq] at h
  refine Eq.trans (congrArg _ (funext fun x => Fin.ext ?_)) ((congrFun h (ix2 a s)).trans (block_apply m c t a s r h0))
  match x with
  | ⟨0, _⟩ => show r.val = win0_4.index t 0 * 512 + 1 * a.val; rw [e0]; omega
  | ⟨1, _⟩ => show s.val = win0_4.index t 1 * 1024 + 1 * s.val; rw [e1]; omega

theorem final_normed (c : Dev nD) : (dats m 0 c).arrAt 5 cfg0.N = Rms.normed (argH m c) (argG m c) := by
  funext i
  obtain ⟨r, s, rfl⟩ : ∃ (r : Fin 2048) (s : Fin 1024), i = ix2 r s := ⟨i 0, i 1, ValueIdx.eq_ix2 i⟩
  let t : Fin cfg0.N := ⟨r.val / 512, by show _ < 4; omega⟩
  have h0 : r.val = t.val * 512 + r.val % 512 := by show r.val = r.val / 512 * 512 + _; omega
  let a : Fin 512 := ⟨r.val % 512, by omega⟩
  have ha : a.val = r.val % 512 := rfl
  obtain ⟨-, -, -, -, -, e0, e1⟩ := index0 t
  have h := (blocks5 m c t (flush5 t)).trans (flushed5 m c t)
  rw [out5_eq] at h
  refine Eq.trans (congrArg _ (funext fun x => Fin.ext ?_)) ((congrFun h (ix2 a s)).trans (normed_apply m c t a s r h0))
  match x with
  | ⟨0, _⟩ => show r.val = win0_5.index t 0 * 512 + 1 * a.val; rw [e0]; omega
  | ⟨1, _⟩ => show s.val = win0_5.index t 1 * 1024 + 1 * s.val; rw [e1]; omega

theorem run : θ_run defs (onTc (τ := τ) (main (F := Ideal))) ⟨m, fun _ => 0, ρ⟩ fun r => ∀ c : Dev nD,
      r.2.mem ((c.tc : Thread nD τ).loc main_v1_0) = argH m c
      ∧ r.2.mem ((c.tc : Thread nD τ).loc main_v1_1) = Rms.normed (argH m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_sum m c), (h c).2.1.trans (final_normed m c), (h c).2.2⟩) (run_blocks m ρ)

end Cert.Kernel11Ideal.Mm

namespace Cert.Reference11Ideal.Mm

open Cert.Reference11Ideal Cert.Reference11Ideal.Gen Idealize.ShloMosaic.TcCoe Idealize.SL.Sem
open Idealize.ShloMosaic hiding ix0 ix1 ix2 ix3
open Idealize.ShloMosaic.ValueIdx

theorem sum_eq (z : FVec Ideal S2048x1024 .bf16) (w : FVec Ideal S1024x1024 .bf16) (x : FVec Ideal S2048x1024 .f32) (p) :
    addf x (Host.dotGeneral dot_S2048x1024_S1024x1024_S2048x1024_1_0_0_1_n_n none (extf .f32 z p) (extf .f32 w p))
      = Cert.Kernel11Ideal.Mm.prod z w x := by
  funext i
  obtain ⟨r, s, rfl⟩ : ∃ (r : Fin 2048) (s : Fin 1024), i = ix2 r s := ⟨i 0, i 1, ValueIdx.eq_ix2 i⟩
  exact congrArg (fun v : EReal => x (ix2 r s) + v) (Products.host_nn (φ₁ := .f32) (φ₂ := .f32) _ none _ _ r s)

variable (m : (ℓ : Loc nD τ sig) → Buf (Elt Ideal) ℓ) (ρ : Dev nD → PrngReg)

abbrev argH (c : Dev nD) : S2048x1024.Idx → EReal :=
  Cert.Kernel11Ideal.Mm.prod (m ((c.tc : Thread nD τ).loc main_arg0)) (m ((c.tc : Thread nD τ).loc main_arg1)) (m ((c.tc : Thread nD τ).loc main_arg2))

theorem run : θ_run defs (onTc (τ := τ) (main (F := Ideal))) ⟨m, fun _ => 0, ρ⟩ fun r => ∀ c : Dev nD,
      r.2.mem ((c.tc : Thread nD τ).loc main_v3) = argH m c
      ∧ r.2.mem ((c.tc : Thread nD τ).loc main_v17) = Rms.normed (argH m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans (sum_eq _ _ _ _), (h c).2.1.trans ?_, (h c).2.2⟩) (Cert.Reference11Ideal.Value.run m ρ)
  rw [sum_eq]
  exact Rms.normed_all _ _ _ _ _ _ _ _ _

end Cert.Reference11Ideal.Mm

end
-- ==== Proof.MmDout.lean ====
/- The merged branches' cotangent: the cotangent of the output projection times the transposed weights. -/
module

public import proofs.«01_k».proof.Proof.Gen.Kernel12Ideal.Value
public import proofs.«01_k».proof.Proof.Gen.Reference12Ideal.Run
public import proofs.«01_k».proof.Proof.Products
public import Idealize.ShloMosaic.Lib.Pipeline.ValueKit.Basic

@[expose] public section

set_option maxRecDepth 16384

noncomputable section

namespace Cert.Kernel12Ideal.Mm

open Cert.Kernel12Ideal Cert.Kernel12Ideal.Gen Cert.Kernel12Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The product of the cotangent with the transposed weights, entry by entry. -/
def prod (ct : S2048x1024.Idx → EReal) (w : S1024x1024.Idx → EReal) : S2048x1024.Idx → EReal :=
  fun i => ∑ k : Fin 1024, ct (ix2 (i 0) k) * w (ix2 (i 1) k)

/-- Which block of each array a grid point takes. -/
theorem index0 : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0))

theorem flush0 : ∀ t : Fin cfg0.N, (cfg0.win 2).flush t = true :=
  (by decide +kernel : ∀ t : Fin grid0.N, (cfg0.win 2).flush t = true)

theorem iblk0 (c : Dev nD) (t : Fin cfg0.N) (a k : Fin 1024) (r : Fin 2048) (h : r.val = t.val * 1024 + a.val) :
    iblk m c 0 t (ix2 a k) = m ((c.tc : Thread nD τ).loc main_arg0) (ix2 r k) := by
  obtain ⟨⟨e0, e1⟩, -⟩ := index0 t
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 1024 + 1 * k.val = k.val; rw [e1]; omega

theorem iblk1 (c : Dev nD) (t : Fin cfg0.N) (b : Fin 1024) (k : Fin 1024) :
    iblk m c 1 t (ix2 b k) = m ((c.tc : Thread nD τ).loc main_arg1) (ix2 b k) := by
  obtain ⟨-, ⟨e0, e1⟩, -⟩ := index0 t
  refine congrArg (m ((c.tc : Thread nD τ).loc main_arg1)) (funext fun x => Fin.ext ?_)
  match x with
  | ⟨0, _⟩ => show win0_1.index t 0 * 1024 + 1 * b.val = b.val; rw [e0]; omega
  | ⟨1, _⟩ => show win0_1.index t 1 * 1024 + 1 * k.val = k.val; rw [e1]; omega

theorem out_apply (x : Vec Ideal S1024x1024 .bf16) (y : Vec Ideal S1024x1024 .bf16) (a : Fin 1024) (b : Fin 1024) :
    out0_2 x y (ix2 a b) = ∑ k : Fin 1024, (x (ix2 a k) : EReal) * y (ix2 b k) := by
  unfold out0_2
  rw [View.canon_cons_unit_lit _ _ _ (by decide), View.ld_unit_lit _ x (by decide), View.ld_unit_lit _ y (by decide)]
  exact Products.nt (φ₁ := .bf16) (φ₂ := .bf16) _ none x y a b

theorem final (c : Dev nD) : (dats m 0 c).arrAt 2 cfg0.N = prod (m ((c.tc : Thread nD τ).loc main_arg0)) (m ((c.tc : Thread nD τ).loc main_arg1)) := by
  funext i
  obtain ⟨r, s, rfl⟩ : ∃ (r : Fin 2048) (s : Fin 1024), i = ix2 r s := ⟨i 0, i 1, ValueIdx.eq_ix2 i⟩
  let t : Fin cfg0.N := ⟨r.val / 1024, by show _ < 2; omega⟩
  have h0 : r.val = t.val * 1024 + r.val % 1024 := by show r.val = r.val / 1024 * 1024 + _; omega
  let a : Fin 1024 := ⟨r.val % 1024, by omega⟩
  have ha : a.val = r.val % 1024 := rfl
  obtain ⟨-, -, e0, e1⟩ := index0 t
  have h := (blocks2 m c t (flush0 t)).trans (flushed2 m c t)
  refine Eq.trans (congrArg _ (funext fun x => Fin.ext ?_)) ((congrFun h (ix2 a s)).trans ?_)
  · match x with
    | ⟨0, _⟩ => show r.val = win0_2.index t 0 * 1024 + 1 * a.val; rw [e0]; omega
    | ⟨1, _⟩ => show s.val = win0_2.index t 1 * 1024 + 1 * s.val; rw [e1]; omega
  · refine (out_apply _ _ a s).trans (Finset.sum_congr rfl fun k _ => ?_)
    rw [iblk0 m c t a k r h0, iblk1 m c t s k]

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.Kernel12Ideal.Mm

namespace Cert.Reference12Ideal.Mm

open Cert.Reference12Ideal Cert.Reference12Ideal.Gen Idealize.ShloMosaic.TcCoe Idealize.SL.Sem
open Idealize.ShloMosaic
open Idealize.ShloMosaic.ValueIdx

theorem out_eq (ct : FVec Ideal S2048x1024 .bf16) (w : FVec Ideal S1024x1024 .bf16) (p) :
    Host.dotGeneral dot_S2048x1024_S1024x1024_S2048x1024_1_1_0_0_n_n none (extf .f32 ct p) (extf .f32 w p) = Cert.Kernel12Ideal.Mm.prod ct w := by
  funext i
  obtain ⟨r, s, rfl⟩ : ∃ (r : Fin 2048) (s : Fin 1024), i = ix2 r s := ⟨i 0, i 1, ValueIdx.eq_ix2 i⟩
  exact Products.host_nt (φ₁ := .f32) (φ₂ := .f32) _ none _ _ r s

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v4) = Cert.Kernel12Ideal.Mm.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _ _), (h c).2⟩) (Cert.Reference12Ideal.Value.run m ρ)

end Cert.Reference12Ideal.Mm

end
-- ==== Proof.MmGwOut.lean ====
/- The gradient of the output projection's weights: the transposed merged branches times the cotangent. -/
module

public import proofs.«01_k».proof.Proof.Gen.Kernel13Ideal.Value
public import proofs.«01_k».proof.Proof.Gen.Reference13Ideal.Run
public import proofs.«01_k».proof.Proof.Products
public import Idealize.ShloMosaic.Lib.Pipeline.ValueKit.Basic

@[expose] public section

set_option maxRecDepth 16384

noncomputable section

namespace Cert.Kernel13Ideal.Mm

open Cert.Kernel13Ideal Cert.Kernel13Ideal.Gen Cert.Kernel13Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The product of the transposed activations with the cotangent, entry by entry. -/
def prod (x : S2048x1024.Idx → EReal) (ct : S2048x1024.Idx → EReal) : S1024x1024.Idx → EReal :=
  fun i => ∑ k : Fin 2048, x (ix2 k (i 0)) * ct (ix2 k (i 1))

/-- The one grid point's block is the whole product. -/
theorem whole (x : Vec Ideal S2048x1024 .bf16) (y : Vec Ideal S2048x1024 .bf16) : G2 x y = prod x y := by
  funext i
  obtain ⟨r, s, rfl⟩ : ∃ (r : Fin 1024) (s : Fin 1024), i = ix2 r s := ⟨i 0, i 1, ValueIdx.eq_ix2 i⟩
  exact Products.tn (φ₁ := .bf16) (φ₂ := .bf16) _ none x y r s

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (whole _ _), (h c).2⟩) (Value.run m ρ)

end Cert.Kernel13Ideal.Mm

namespace Cert.Reference13Ideal.Mm

open Cert.Reference13Ideal Cert.Reference13Ideal.Gen Idealize.ShloMosaic.TcCoe Idealize.SL.Sem
open Idealize.ShloMosaic
open Idealize.ShloMosaic.ValueIdx

theorem out_eq (x : FVec Ideal S2048x1024 .bf16) (ct : FVec Ideal S2048x1024 .bf16) (p q) (ht) :
    truncf .bf16 (transpose S1024x1024 [1, 0] (Host.dotGeneral dot_S2048x1024_S2048x1024_S1024x1024_0_0_1_1_n_n none (extf .f32 ct p) (extf .f32 x p)) ht) q
      = Cert.Kernel13Ideal.Mm.prod x ct := by
  funext i
  obtain ⟨r, s, rfl⟩ : ∃ (r : Fin 1024) (s : Fin 1024), i = ix2 r s := ⟨i 0, i 1, ValueIdx.eq_ix2 i⟩
  rw [truncf_apply]
  refine (transpose_apply [1, 0] _ ht (ix2 r s) (ix2 s r) (fun e => ?_)).trans ?_
  · match e with
    | ⟨0, _⟩ => rfl
    | ⟨1, _⟩ => rfl
  · refine (Products.host_tn (φ₁ := .f32) (φ₂ := .f32) _ none ct x s r).trans ?_
    exact Finset.sum_congr rfl fun k _ => mul_comm _ _

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v6) = Cert.Kernel13Ideal.Mm.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _ _ _ _), (h c).2⟩) (Cert.Reference13Ideal.Value.run m ρ)

end Cert.Reference13Ideal.Mm

end
-- ==== Proof.MmDbranch.lean ====
/- A branch's cotangent: the cotangent of the branch projection times the transposed weights. -/
module

public import proofs.«01_k».proof.Proof.Gen.Kernel14Ideal.Value
public import proofs.«01_k».proof.Proof.Gen.Reference14Ideal.Run
public import proofs.«01_k».proof.Proof.Products
public import Idealize.ShloMosaic.Lib.Pipeline.ValueKit.Basic

@[expose] public section

set_option maxRecDepth 16384

noncomputable section

namespace Cert.Kernel14Ideal.Mm

open Cert.Kernel14Ideal Cert.Kernel14Ideal.Gen Cert.Kernel14Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The product of the cotangent with the transposed weights, entry by entry. -/
def prod (ct : S2048x1024.Idx → EReal) (w : S512x1024.Idx → EReal) : S2048x512.Idx → EReal :=
  fun i => ∑ k : Fin 1024, ct (ix2 (i 0) k) * w (ix2 (i 1) k)

/-- Which block of each array a grid point takes. -/
theorem index0 : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0))

theorem flush0 : ∀ t : Fin cfg0.N, (cfg0.win 2).flush t = true :=
  (by decide +kernel : ∀ t : Fin grid0.N, (cfg0.win 2).flush t = true)

theorem iblk0 (c : Dev nD) (t : Fin cfg0.N) (a k : Fin 1024) (r : Fin 2048) (h : r.val = t.val * 1024 + a.val) :
    iblk m c 0 t (ix2 a k) = m ((c.tc : Thread nD τ).loc main_arg0) (ix2 r k) := by
  obtain ⟨⟨e0, e1⟩, -⟩ := index0 t
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 1024 + 1 * k.val = k.val; rw [e1]; omega

theorem iblk1 (c : Dev nD) (t : Fin cfg0.N) (b : Fin 512) (k : Fin 1024) :
    iblk m c 1 t (ix2 b k) = m ((c.tc : Thread nD τ).loc main_arg1) (ix2 b k) := by
  obtain ⟨-, ⟨e0, e1⟩, -⟩ := index0 t
  refine congrArg (m ((c.tc : Thread nD τ).loc main_arg1)) (funext fun x => Fin.ext ?_)
  match x with
  | ⟨0, _⟩ => show win0_1.index t 0 * 512 + 1 * b.val = b.val; rw [e0]; omega
  | ⟨1, _⟩ => show win0_1.index t 1 * 1024 + 1 * k.val = k.val; rw [e1]; omega

theorem out_apply (x : Vec Ideal S1024x1024 .bf16) (y : Vec Ideal S512x1024 .bf16) (a : Fin 1024) (b : Fin 512) :
    out0_2 x y (ix2 a b) = ∑ k : Fin 1024, (x (ix2 a k) : EReal) * y (ix2 b k) := by
  unfold out0_2
  rw [View.canon_cons_unit_lit _ _ _ (by decide), View.ld_unit_lit _ x (by decide), View.ld_unit_lit _ y (by decide)]
  exact Products.nt (φ₁ := .bf16) (φ₂ := .bf16) _ none x y a b

theorem final (c : Dev nD) : (dats m 0 c).arrAt 2 cfg0.N = prod (m ((c.tc : Thread nD τ).loc main_arg0)) (m ((c.tc : Thread nD τ).loc main_arg1)) := by
  funext i
  obtain ⟨r, s, rfl⟩ : ∃ (r : Fin 2048) (s : Fin 512), i = ix2 r s := ⟨i 0, i 1, ValueIdx.eq_ix2 i⟩
  let t : Fin cfg0.N := ⟨r.val / 1024, by show _ < 2; omega⟩
  have h0 : r.val = t.val * 1024 + r.val % 1024 := by show r.val = r.val / 1024 * 1024 + _; omega
  let a : Fin 1024 := ⟨r.val % 1024, by omega⟩
  have ha : a.val = r.val % 1024 := rfl
  obtain ⟨-, -, e0, e1⟩ := index0 t
  have h := (blocks2 m c t (flush0 t)).trans (flushed2 m c t)
  refine Eq.trans (congrArg _ (funext fun x => Fin.ext ?_)) ((congrFun h (ix2 a s)).trans ?_)
  · match x with
    | ⟨0, _⟩ => show r.val = win0_2.index t 0 * 1024 + 1 * a.val; rw [e0]; omega
    | ⟨1, _⟩ => show s.val = win0_2.index t 1 * 512 + 1 * s.val; rw [e1]; omega
  · refine (out_apply _ _ a s).trans (Finset.sum_congr rfl fun k _ => ?_)
    rw [iblk0 m c t a k r h0, iblk1 m c t s k]

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.Kernel14Ideal.Mm

namespace Cert.Reference14Ideal.Mm

open Cert.Reference14Ideal Cert.Reference14Ideal.Gen Idealize.ShloMosaic.TcCoe Idealize.SL.Sem
open Idealize.ShloMosaic
open Idealize.ShloMosaic.ValueIdx

theorem out_eq (ct : FVec Ideal S2048x1024 .bf16) (w : FVec Ideal S512x1024 .bf16) (p) :
    Host.dotGeneral dot_S2048x1024_S512x1024_S2048x512_1_1_0_0_n_n none (extf .f32 ct p) (extf .f32 w p) = Cert.Kernel14Ideal.Mm.prod ct w := by
  funext i
  obtain ⟨r, s, rfl⟩ : ∃ (r : Fin 2048) (s : Fin 512), i = ix2 r s := ⟨i 0, i 1, ValueIdx.eq_ix2 i⟩
  exact Products.host_nt (φ₁ := .f32) (φ₂ := .f32) _ none _ _ r s

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v4) = Cert.Kernel14Ideal.Mm.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _ _), (h c).2⟩) (Cert.Reference14Ideal.Value.run m ρ)

end Cert.Reference14Ideal.Mm

end
-- ==== Proof.MmGwBranch.lean ====
/- The gradient of a branch projection's weights: the transposed branch times the cotangent. -/
module

public import proofs.«01_k».proof.Proof.Gen.Kernel15Ideal.Value
public import proofs.«01_k».proof.Proof.Gen.Reference15Ideal.Run
public import proofs.«01_k».proof.Proof.Products
public import Idealize.ShloMosaic.Lib.Pipeline.ValueKit.Basic

@[expose] public section

set_option maxRecDepth 16384

noncomputable section

namespace Cert.Kernel15Ideal.Mm

open Cert.Kernel15Ideal Cert.Kernel15Ideal.Gen Cert.Kernel15Ideal.Value Idealize.ShloMosaic.TcCoe Idealize.SL.Sem
open Idealize.ShloMosaic
open Idealize.ShloMosaic.ValueIdx

variable (m : (ℓ : Loc nD τ sig) → Buf (Elt Ideal) ℓ) (ρ : Dev nD → PrngReg)

/-- The product of the transposed activations with the cotangent, entry by entry. -/
def prod (x : S2048x512.Idx → EReal) (ct : S2048x1024.Idx → EReal) : S512x1024.Idx → EReal :=
  fun i => ∑ k : Fin 2048, x (ix2 k (i 0)) * ct (ix2 k (i 1))

/-- The one grid point's block is the whole product. -/
theorem whole (x : Vec Ideal S2048x512 .bf16) (y : Vec Ideal S2048x1024 .bf16) : G2 x y = prod x y := by
  funext i
  obtain ⟨r, s, rfl⟩ : ∃ (r : Fin 512) (s : Fin 1024), i = ix2 r s := ⟨i 0, i 1, ValueIdx.eq_ix2 i⟩
  exact Products.tn (φ₁ := .bf16) (φ₂ := .bf16) _ none x y r s

theorem run : θ_run defs (onTc (τ := τ) (main (F := Ideal))) ⟨m, fun _ => 0, ρ⟩ fun r => ∀ c : Dev nD,
      r.2.mem ((c.tc : Thread nD τ).loc main_v0) = prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (whole _ _), (h c).2⟩) (Value.run m ρ)

end Cert.Kernel15Ideal.Mm

namespace Cert.Reference15Ideal.Mm

open Cert.Reference15Ideal Cert.Reference15Ideal.Gen Idealize.ShloMosaic.TcCoe Idealize.SL.Sem
open Idealize.ShloMosaic
open Idealize.ShloMosaic.ValueIdx

theorem out_eq (x : FVec Ideal S2048x512 .bf16) (ct : FVec Ideal S2048x1024 .bf16) (p q) (ht) :
    truncf .bf16 (transpose S512x1024 [1, 0] (Host.dotGeneral dot_S2048x1024_S2048x512_S1024x512_0_0_1_1_n_n none (extf .f32 ct p) (extf .f32 x p)) ht) q
      = Cert.Kernel15Ideal.Mm.prod x ct := by
  funext i
  obtain ⟨r, s, rfl⟩ : ∃ (r : Fin 512) (s : Fin 1024), i = ix2 r s := ⟨i 0, i 1, ValueIdx.eq_ix2 i⟩
  rw [truncf_apply]
  refine (transpose_apply [1, 0] _ ht (ix2 r s) (ix2 s r) (fun e => ?_)).trans ?_
  · match e with
    | ⟨0, _⟩ => rfl
    | ⟨1, _⟩ => rfl
  · refine (Products.host_tn (φ₁ := .f32) (φ₂ := .f32) _ none ct x s r).trans ?_
    exact Finset.sum_congr rfl fun k _ => mul_comm _ _

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v6) = Cert.Kernel15Ideal.Mm.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq _ _ _ _ _), (h c).2⟩) (Cert.Reference15Ideal.Value.run m ρ)

end Cert.Reference15Ideal.Mm

end
-- ==== Proof.Gates.lean ====
/- The two gates of a layer, read at an entry: the logistic function of the last 2048 columns of the input projection,
   as the kernels compute it on a tile and as the host computes it on all columns and then cuts it in two halves. -/
module

public import Idealize.ShloMosaic.Lib.IdealHost
public import Idealize.ShloMosaic.Lib.KernelVsHost
public import Idealize.ShloMosaic.Lib.Pipeline.Value

@[expose] public section

noncomputable section

namespace Cert.Gates

open Idealize.ShloMosaic
open Idealize.ShloMosaic.ValueIdx

/-- A device's rows of the layer's width. -/
abbrev A : Shape := ⟨2, ![2048, 1024]⟩
/-- The input projection. -/
abbrev U : Shape := ⟨2, ![2048, 7680]⟩
/-- Its last 2048 columns. -/
abbrev B : Shape := ⟨2, ![2048, 2048]⟩
abbrev Z : Shape := ⟨0, ![]⟩

/-- The logistic function. -/
def sg (x : EReal) : EReal := Ideal.div 1 (1 + Ideal.exp (-x))

/-- The convolution's gate is column 5632 + b of the projection, the attention's is 6656 + b. -/
def colC (b : Fin 1024) : Fin 7680 := ⟨5632 + b.val, by omega⟩
def colA (b : Fin 1024) : Fin 7680 := ⟨6656 + b.val, by omega⟩

def gateC (u : U.Idx → EReal) : A.Idx → EReal := fun i => sg (u (ix2 (i 0) (colC (i 1))))
def gateA (u : U.Idx → EReal) : A.Idx → EReal := fun i => sg (u (ix2 (i 0) (colA (i 1))))

theorem tile {s : Shape} (x : FVec Ideal s .f32) (i : s.Idx) :
    divf (broadcast s (Scalar.ofBits .f32 0x3F800000#32)) (addf (broadcast s (Scalar.ofBits .f32 0x3F800000#32))
      (exp (subf (broadcast s (Scalar.ofBits .f32 0x00000000#32)) x))) i = sg (x i) := by
  show Ideal.div (Ideal.ofBits .f32 0x3F800000#32) (Ideal.ofBits .f32 0x3F800000#32 + Ideal.exp (Ideal.ofBits .f32 0x00000000#32 - x i)) = _
  rw [Ideal.ofBits_zero_f32, Ideal.ofBits_one_f32, zero_sub]
  rfl

/-- The host's gates, both halves at once. -/
abbrev both (u : FVec Ideal U .bf16) (p : FTy.bf16.bits < FTy.f32.bits) (hs : U.Slices ![0, 5632] B) (hb : Z.BroadcastsInDim B (![] : Fin 0 → Fin B.rank)) : FVec Ideal B .f32 :=
  Host.divf (broadcastInDim B ![] hb (constant Z .f32 0x3F800000#32)) (addf (broadcastInDim B ![] hb (constant Z .f32 0x3F800000#32))
    (Host.exp (Host.negf (extractStridedSlice B ![0, 5632] (extf .f32 u p) hs))))

theorem both_apply (u : FVec Ideal U .bf16) (p hs hb) (r : Fin 2048) (s : Fin 2048) (q : Fin 7680) (hq : q.val = 5632 + s.val) :
    both u p hs hb (ix2 r s) = sg (u (ix2 r q)) := by
  have e : extractStridedSlice B ![0, 5632] (extf .f32 u p) hs (ix2 r s) = u (ix2 r q) :=
    extractStridedSlice_apply _ _ _ _ (ix2 r q) fun a => by
      match a with
      | ⟨0, _⟩ => show r.val = 0 + r.val; omega
      | ⟨1, _⟩ => exact hq
  show Ideal.div (Ideal.ofBits .f32 0x3F800000#32) (Ideal.ofBits .f32 0x3F800000#32
    + Ideal.exp (-(extractStridedSlice B ![0, 5632] (extf .f32 u p) hs (ix2 r s)))) = _
  rw [e, Ideal.ofBits_one_f32]
  rfl

section halves
variable {α : Type} (x : B.Idx → α)

/-- The left and the right half of the columns. -/
theorem left_apply (h : B.Slices ![0, 0] A) (r : Fin 2048) (s : Fin 1024) (q : Fin 2048) (hq : q.val = s.val) :
    extractStridedSlice A ![0, 0] x h (ix2 r s) = x (ix2 r q) :=
  extractStridedSlice_apply _ _ _ _ (ix2 r q) fun a => by
    match a with
    | ⟨0, _⟩ => show r.val = 0 + r.val; omega
    | ⟨1, _⟩ => show q.val = 0 + s.val; omega

theorem right_apply (h : B.Slices ![0, 1024] A) (r : Fin 2048) (s : Fin 1024) (q : Fin 2048) (hq : q.val = 1024 + s.val) :
    extractStridedSlice A ![0, 1024] x h (ix2 r s) = x (ix2 r q) :=
  extractStridedSlice_apply _ _ _ _ (ix2 r q) fun a => by
    match a with
    | ⟨0, _⟩ => show r.val = 0 + r.val; omega
    | ⟨1, _⟩ => exact hq

variable (y z : A.Idx → α) (h : Shape.Concatenates [A, A] B 1)

/-- Two arrays side by side, read in the one and in the other. -/
theorem beside_left (r : Fin 2048) (s : Fin 1024) (q : Fin 2048) (hq : q.val = s.val) :
    concatenate B 1 [⟨A, y⟩, ⟨A, z⟩] h (ix2 r q) = y (ix2 r s) :=
  concatenate_pair_apply_left (t := B) (1 : Fin 2) y z h (ix2 r q) rfl (ix2 r s) fun b => by
    match b with
    | ⟨0, _⟩ => rfl
    | ⟨1, _⟩ => exact hq.symm

theorem beside_right (r : Fin 2048) (s : Fin 1024) (q : Fin 2048) (hq : q.val = 1024 + s.val) :
    concatenate B 1 [⟨A, y⟩, ⟨A, z⟩] h (ix2 r q) = z (ix2 r s) :=
  concatenate_pair_apply_right (t := B) (1 : Fin 2) y z h (ix2 r q) rfl rfl (ix2 r s)
    (fun b hb => by
      match b with
      | ⟨0, _⟩ => rfl
      | ⟨1, _⟩ => exact absurd rfl hb)
    (by show s.val + 1024 = q.val; omega)

end halves

theorem host_gateC (u : FVec Ideal U .bf16) (p hs hb h) : extractStridedSlice A ![0, 0] (both u p hs hb) h = gateC u := by
  funext i
  obtain ⟨r, s, rfl⟩ : ∃ (r : Fin 2048) (s : Fin 1024), i = ix2 r s := ⟨i 0, i 1, ValueIdx.eq_ix2 i⟩
  exact (left_apply _ h r s ⟨s.val, by omega⟩ rfl).trans (both_apply u p hs hb r _ (colC s) rfl)

theorem host_gateA (u : FVec Ideal U .bf16) (p hs hb h) : extractStridedSlice A ![0, 1024] (both u p hs hb) h = gateA u := by
  funext i
  obtain ⟨r, s, rfl⟩ : ∃ (r : Fin 2048) (s : Fin 1024), i = ix2 r s := ⟨i 0, i 1, ValueIdx.eq_ix2 i⟩
  exact (right_apply _ h r s ⟨1024 + s.val, by omega⟩ rfl).trans (both_apply u p hs hb r _ (colA s) (by show 6656 + s.val = 5632 + (1024 + s.val); omega))

/-- The cotangent of a gate's input: of the gated value v, what comes in (d) times v times the logistic function's derivative. -/
def dgate (d v g : A.Idx → EReal) : A.Idx → EReal := fun i => d i * v i * (g i * (1 - g i))

/-- The cotangents of both gate inputs side by side, as the host computes them. -/
abbrev slope (y z : FVec Ideal A .f32) (u : FVec Ideal U .bf16) (p : FTy.bf16.bits < FTy.f32.bits) (hs : U.Slices ![0, 5632] B)
    (hb : Z.BroadcastsInDim B (![] : Fin 0 → Fin B.rank)) (hc : Shape.Concatenates [A, A] B 1) : FVec Ideal B .f32 :=
  mulf (concatenate B 1 [⟨A, y⟩, ⟨A, z⟩] hc) (mulf (both u p hs hb) (subf (broadcastInDim B ![] hb (constant Z .f32 0x3F800000#32)) (both u p hs hb)))

theorem slope_apply (y z : FVec Ideal A .f32) (u : FVec Ideal U .bf16) (p hs hb hc) (r : Fin 2048) (s : Fin 2048) (q : Fin 7680)
    (hq : q.val = 5632 + s.val) (v : EReal) (hv : concatenate B 1 [⟨A, y⟩, ⟨A, z⟩] hc (ix2 r s) = v) :
    slope y z u p hs hb hc (ix2 r s) = v * (sg (u (ix2 r q)) * (1 - sg (u (ix2 r q)))) := by
  have e := both_apply u p hs hb r s q hq
  show (concatenate B 1 [⟨A, y⟩, ⟨A, z⟩] hc (ix2 r s) : EReal) * (both u p hs hb (ix2 r s) * (Ideal.ofBits .f32 0x3F800000#32 - both u p hs hb (ix2 r s))) = _
  rw [e, hv, Ideal.ofBits_one_f32]

theorem host_dgateC (d v w : FVec Ideal A .f32) (u : FVec Ideal U .bf16) (p hs hb hc h) :
    extractStridedSlice A ![0, 0] (slope (mulf d v) (mulf d w) u p hs hb hc) h = dgate d v (gateC u) := by
  funext i
  obtain ⟨r, s, rfl⟩ : ∃ (r : Fin 2048) (s : Fin 1024), i = ix2 r s := ⟨i 0, i 1, ValueIdx.eq_ix2 i⟩
  exact (left_apply _ h r s ⟨s.val, by omega⟩ rfl).trans (slope_apply _ _ u p hs hb hc r _ (colC s) rfl _ (beside_left _ _ hc r s _ rfl))

theorem host_dgateA (d v w : FVec Ideal A .f32) (u : FVec Ideal U .bf16) (p hs hb hc h) :
    extractStridedSlice A ![0, 1024] (slope (mulf d v) (mulf d w) u p hs hb hc) h = dgate d w (gateA u) := by
  funext i
  obtain ⟨r, s, rfl⟩ : ∃ (r : Fin 2048) (s : Fin 1024), i = ix2 r s := ⟨i 0, i 1, ValueIdx.eq_ix2 i⟩
  exact (right_apply _ h r s ⟨1024 + s.val, by omega⟩ rfl).trans
    (slope_apply _ _ u p hs hb hc r _ (colA s) (by show 6656 + s.val = 5632 + (1024 + s.val); omega) _ (beside_right _ _ hc r s _ rfl))

end Cert.Gates

end
-- ==== Proof.MmGatedOut.lean ====
/- The two branch projections and their gated sum. -/
module

public import proofs.«01_k».proof.Proof.Gen.Kernel16Ideal.Value
public import proofs.«01_k».proof.Proof.Gen.Reference16Ideal.Run
public import proofs.«01_k».proof.Proof.Gates
public import proofs.«01_k».proof.Proof.Products
public import Idealize.ShloMosaic.Lib.Pipeline.ValueKit.Basic

@[expose] public section

set_option maxRecDepth 16384

noncomputable section

namespace Cert.Kernel16Ideal.Mm

open Cert.Kernel16Ideal Cert.Kernel16Ideal.Gen Cert.Kernel16Ideal.Value Idealize.ShloMosaic.TcCoe Idealize.SL.Sem
open Idealize.ShloMosaic
open Idealize.ShloMosaic.ValueIdx
open Cert.Gates (sg colC colA gateC gateA)

variable (m : (ℓ : Loc nD τ sig) → Buf (Elt Ideal) ℓ) (ρ : Dev nD → PrngReg)

/-- The product of a branch with its projection, entry by entry. -/
def prod (z : S2048x512.Idx → EReal) (w : S512x1024.Idx → EReal) : S2048x1024.Idx → EReal :=
  fun i => ∑ k : Fin 512, z (ix2 (i 0) k) * w (ix2 k (i 1))

/-- The gated sum of the two branches. -/
def merged (yc ya : S2048x1024.Idx → EReal) (u : S2048x7680.Idx → EReal) : S2048x1024.Idx → EReal :=
  fun i => gateC u i * yc i + gateA u i * ya i

/-- Which block of each array a grid point takes. -/
theorem index0 : ∀ t : Fin cfg0.N, (win0_0.index t 0 = t.val / 2 ∧ win0_0.index t 1 = 0)
    ∧ (win0_1.index t 0 = t.val / 2 ∧ win0_1.index t 1 = 0)
    ∧ (win0_2.index t 0 = 0 ∧ win0_2.index t 1 = t.val % 2)
    ∧ (win0_3.index t 0 = 0 ∧ win0_3.index t 1 = t.val % 2)
    ∧ (win0_4.index t 0 = t.val / 2 ∧ win0_4.index t 1 = 11 + t.val % 2)
    ∧ (win0_5.index t 0 = t.val / 2 ∧ win0_5.index t 1 = 13 + t.val % 2)
    ∧ (win0_6.index t 0 = t.val / 2 ∧ win0_6.index t 1 = t.val % 2)
    ∧ (win0_7.index t 0 = t.val / 2 ∧ win0_7.index t 1 = t.val % 2)
    ∧ (win0_8.index t 0 = t.val / 2 ∧ win0_8.index t 1 = t.val % 2) :=
  (by decide +kernel : ∀ t : Fin grid0.N, (win0_0.index t 0 = t.val / 2 ∧ win0_0.index t 1 = 0)
    ∧ (win0_1.index t 0 = t.val / 2 ∧ win0_1.index t 1 = 0)
    ∧ (win0_2.index t 0 = 0 ∧ win0_2.index t 1 = t.val % 2)
    ∧ (win0_3.index t 0 = 0 ∧ win0_3.index t 1 = t.val % 2)
    ∧ (win0_4.index t 0 = t.val / 2 ∧ win0_4.index t 1 = 11 + t.val % 2)
    ∧ (win0_5.index t 0 = t.val / 2 ∧ win0_5.index t 1 = 13 + t.val % 2)
    ∧ (win0_6.index t 0 = t.val / 2 ∧ win0_6.index t 1 = t.val % 2)
    ∧ (win0_7.index t 0 = t.val / 2 ∧ win0_7.index t 1 = t.val % 2)
    ∧ (win0_8.index t 0 = t.val / 2 ∧ win0_8.index t 1 = t.val % 2))

theorem flush6 : ∀ t : Fin cfg0.N, (cfg0.win 6).flush t = true :=
  (by decide +kernel : ∀ t : Fin grid0.N, (cfg0.win 6).flush t = true)

theorem flush7 : ∀ t : Fin cfg0.N, (cfg0.win 7).flush t = true :=
  (by decide +kernel : ∀ t : Fin grid0.N, (cfg0.win 7).flush t = true)

theorem flush8 : ∀ t : Fin cfg0.N, (cfg0.win 8).flush t = true :=
  (by decide +kernel : ∀ t : Fin grid0.N, (cfg0.win 8).flush t = true)

/-- Every entry lies in the block of a grid point. -/
theorem place (r : Fin 2048) (s : Fin 1024) : ∃ (t : Fin cfg0.N) (a : Fin 1024) (b : Fin 512),
    r.val = t.val / 2 * 1024 + a.val ∧ s.val = t.val % 2 * 512 + b.val :=
  ⟨⟨r.val / 1024 * 2 + s.val / 512, by show _ < 4; omega⟩, ⟨r.val % 1024, by omega⟩, ⟨s.val % 512, by omega⟩,
    by show r.val = (r.val / 1024 * 2 + s.val / 512) / 2 * 1024 + r.val % 1024; omega,
    by show s.val = (r.val / 1024 * 2 + s.val / 512) % 2 * 512 + s.val % 512; omega⟩

theorem iblk0 (c : Dev nD) (t : Fin cfg0.N) (a : Fin 1024) (k : Fin 512) (r : Fin 2048) (h : r.val = t.val / 2 * 1024 + a.val) :
    iblk m c 0 t (ix2 a k) = m ((c.tc : Thread nD τ).loc main_arg0) (ix2 r k) := by
  obtain ⟨⟨e0, e1⟩, -⟩ := index0 t
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 512 + 1 * k.val = k.val; rw [e1]; omega

theorem iblk1 (c : Dev nD) (t : Fin cfg0.N) (a : Fin 1024) (k : Fin 512) (r : Fin 2048) (h : r.val = t.val / 2 * 1024 + a.val) :
    iblk m c 1 t (ix2 a k) = m ((c.tc : Thread nD τ).loc main_arg1) (ix2 r k) := by
  obtain ⟨-, ⟨e0, e1⟩, -⟩ := index0 t
  refine congrArg (m ((c.tc : Thread nD τ).loc main_arg1)) (funext fun x => Fin.ext ?_)
  match x with
  | ⟨0, _⟩ => show win0_1.index t 0 * 1024 + 1 * a.val = r.val; rw [e0]; omega
  | ⟨1, _⟩ => show win0_1.index t 1 * 512 + 1 * k.val = k.val; rw [e1]; omega

theorem iblk2 (c : Dev nD) (t : Fin cfg0.N) (k b : Fin 512) (s : Fin 1024) (h : s.val = t.val % 2 * 512 + b.val) :
    iblk m c 2 t (ix2 k b) = m ((c.tc : Thread nD τ).loc main_arg2) (ix2 k s) := by
  obtain ⟨-, -, ⟨e0, e1⟩, -⟩ := index0 t
  refine congrArg (m ((c.tc : Thread nD τ).loc main_arg2)) (funext fun x => Fin.ext ?_)
  match x with
  | ⟨0, _⟩ => show win0_2.index t 0 * 512 + 1 * k.val = k.val; rw [e0]; omega
  | ⟨1, _⟩ => show win0_2.index t 1 * 512 + 1 * b.val = s.val; rw [e1]; omega

theorem iblk3 (c : Dev nD) (t : Fin cfg0.N) (k b : Fin 512) (s : Fin 1024) (h : s.val = t.val % 2 * 512 + b.val) :
    iblk m c 3 t (ix2 k b) = m ((c.tc : Thread nD τ).loc main_arg3) (ix2 k s) := by
  obtain ⟨-, -, -, ⟨e0, e1⟩, -⟩ := index0 t
  refine congrArg (m ((c.tc : Thread nD τ).loc main_arg3)) (funext fun x => Fin.ext ?_)
  match x with
  | ⟨0, _⟩ => show win0_3.index t 0 * 512 + 1 * k.val = k.val; rw [e0]; omega
  | ⟨1, _⟩ => show win0_3.index t 1 * 512 + 1 * b.val = s.val; rw [e1]; omega

theorem iblk4 (c : Dev nD) (t : Fin cfg0.N) (a : Fin 1024) (b : Fin 512) (r : Fin 2048) (s : Fin 1024) (h : r.val = t.val / 2 * 1024 + a.val) (g : s.val = t.val % 2 * 512 + b.val) :
    iblk m c 4 t (ix2 a b) = m ((c.tc : Thread nD τ).loc main_arg4) (ix2 r (colC s)) := by
  obtain ⟨-, -, -, -, ⟨e0, e1⟩, -⟩ := index0 t
  refine congrArg (m ((c.tc : Thread nD τ).loc main_arg4)) (funext fun x => Fin.ext ?_)
  match x with
  | ⟨0, _⟩ => show win0_4.index t 0 * 1024 + 1 * a.val = r.val; rw [e0]; omega
  | ⟨1, _⟩ => show win0_4.index t 1 * 512 + 1 * b.val = 5632 + s.val; rw [e1]; omega

theorem iblk5 (c : Dev nD) (t : Fin cfg0.N) (a : Fin 1024) (b : Fin 512) (r : Fin 2048) (s : Fin 1024) (h : r.val = t.val / 2 * 1024 + a.val) (g : s.val = t.val % 2 * 512 + b.val) :
    iblk m c 5 t (ix2 a b) = m ((c.tc : Thread nD τ).loc main_arg4) (ix2 r (colA s)) := by
  obtain ⟨-, -, -, -, -, ⟨e0, e1⟩, -⟩ := index0 t
  refine congrArg (m ((c.tc : Thread nD τ).loc main_arg4)) (funext fun x => Fin.ext ?_)
  match x with
  | ⟨0, _⟩ => show win0_5.index t 0 * 1024 + 1 * a.val = r.val; rw [e0]; omega
  | ⟨1, _⟩ => show win0_5.index t 1 * 512 + 1 * b.val = 6656 + s.val; rw [e1]; omega

/-! ### The blocks read -/

theorem pay_apply (z : Vec Ideal S1024x512 .bf16) (w : Vec Ideal S512x512 .bf16) (a : Fin 1024) (b : Fin 512) :
    k0_pay1 z w (ix2 a b) = ∑ k : Fin 512, (z (ix2 a k) : EReal) * w (ix2 k b) :=
  Products.nn (φ₁ := .bf16) (φ₂ := .bf16) _ none z w a b

theorem sum_apply (z : Vec Ideal S1024x512 .bf16) (w : Vec Ideal S512x512 .bf16) (o : Vec Ideal S1024x512 .bf16) (v : Vec Ideal S512x512 .bf16)
    (x y : Vec Ideal S1024x512 .bf16) (i : S1024x512.Idx) :
    k0_pay3 z w o v x y i = sg (x i) * k0_pay1 z w i + sg (y i) * k0_pay1 o v i :=
  congrArg₂ (fun p q : EReal => p * k0_pay1 z w i + q * k0_pay1 o v i) (Gates.tile (extf .f32 x bitsLt_bf16_f32) i) (Gates.tile (extf .f32 y bitsLt_bf16_f32) i)

theorem out6_eq (z o : Vec Ideal S1024x512 .bf16) (w v : Vec Ideal S512x512 .bf16) (x y : Vec Ideal S1024x512 .bf16) : out0_6 z o w v x y = k0_pay3 z w o v x y := by
  unfold out0_6
  rw [View.canon_cons_unit_lit _ _ _ (by decide), View.ld_unit_lit _ z (by decide), View.ld_unit_lit _ w (by decide), View.ld_unit_lit _ o (by decide), View.ld_unit_lit _ v (by decide), View.ld_unit_lit _ x (by decide), View.ld_unit_lit _ y (by decide)]

theorem out7_eq (z o : Vec Ideal S1024x512 .bf16) (w v : Vec Ideal S512x512 .bf16) (x y : Vec Ideal S1024x512 .bf16) : out0_7 z o w v x y = k0_pay1 z w := by
  unfold out0_7
  rw [View.canon_cons_unit_lit _ _ _ (by decide), View.ld_unit_lit _ z (by decide), View.ld_unit_lit _ w (by decide)]
  rfl

theorem out8_eq (z o : Vec Ideal S1024x512 .bf16) (w v : Vec Ideal S512x512 .bf16) (x y : Vec Ideal S1024x512 .bf16) : out0_8 z o w v x y = k0_pay1 o v := by
  unfold out0_8
  rw [View.canon_cons_unit_lit _ _ _ (by decide), View.ld_unit_lit _ o (by decide), View.ld_unit_lit _ v (by decide)]
  rfl

/-! ### The blocks against the whole arrays -/

abbrev argC (c : Dev nD) : S2048x1024.Idx → EReal := prod (m ((c.tc : Thread nD τ).loc main_arg0)) (m ((c.tc : Thread nD τ).loc main_arg2))
abbrev argA (c : Dev nD) : S2048x1024.Idx → EReal := prod (m ((c.tc : Thread nD τ).loc main_arg1)) (m ((c.tc : Thread nD τ).loc main_arg3))

theorem blockC (c : Dev nD) (t : Fin cfg0.N) (a : Fin 1024) (b : Fin 512) (r : Fin 2048) (s : Fin 1024) (h : r.val = t.val / 2 * 1024 + a.val)
    (g : s.val = t.val % 2 * 512 + b.val) : k0_pay1 (iblk m c 0 t) (iblk m c 2 t) (ix2 a b) = argC m c (ix2 r s) :=
  (pay_apply _ _ a b).trans (Finset.sum_congr rfl fun k _ =>
    congrArg₂ (fun p q : EReal => p * q) (iblk0 m c t a k r h) (iblk2 m c t k b s g))

theorem blockA (c : Dev nD) (t : Fin cfg0.N) (a : Fin 1024) (b : Fin 512) (r : Fin 2048) (s : Fin 1024) (h : r.val = t.val / 2 * 1024 + a.val)
    (g : s.val = t.val % 2 * 512 + b.val) : k0_pay1 (iblk m c 1 t) (iblk m c 3 t) (ix2 a b) = argA m c (ix2 r s) :=
  (pay_apply _ _ a b).trans (Finset.sum_congr rfl fun k _ =>
    congrArg₂ (fun p q : EReal => p * q) (iblk1 m c t a k r h) (iblk3 m c t k b s g))

theorem blockM (c : Dev nD) (t : Fin cfg0.N) (a : Fin 1024) (b : Fin 512) (r : Fin 2048) (s : Fin 1024) (h : r.val = t.val / 2 * 1024 + a.val)
    (g : s.val = t.val % 2 * 512 + b.val) :
    k0_pay3 (iblk m c 0 t) (iblk m c 2 t) (iblk m c 1 t) (iblk m c 3 t) (iblk m c 4 t) (iblk m c 5 t) (ix2 a b)
      = merged (argC m c) (argA m c) (m ((c.tc : Thread nD τ).loc main_arg4)) (ix2 r s) :=
  (sum_apply _ _ _ _ _ _ _).trans (congrArg₂ (fun p q : EReal => p + q)
    (congrArg₂ (fun p q : EReal => p * q) (congrArg sg (iblk4 m c t a b r s h g)) (blockC m c t a b r s h g))
    (congrArg₂ (fun p q : EReal => p * q) (congrArg sg (iblk5 m c t a b r s h g)) (blockA m c t a b r s h g)))

theorem final6 (c : Dev nD) : (dats m 0 c).arrAt 6 cfg0.N = merged (argC m c) (argA m c) (m ((c.tc : Thread nD τ).loc main_arg4)) := by
  funext i
  obtain ⟨r, s, rfl⟩ : ∃ (r : Fin 2048) (s : Fin 1024), i = ix2 r s := ⟨i 0, i 1, ValueIdx.eq_ix2 i⟩
  obtain ⟨t, a, b, hr, hs⟩ := place r s
  obtain ⟨-, -, -, -, -, -, ⟨e0, e1⟩, -⟩ := index0 t
  have h := (blocks6 m c t (flush6 t)).trans (flushed6 m c t)
  rw [out6_eq] at h
  refine Eq.trans (congrArg _ (funext fun x => Fin.ext ?_)) ((congrFun h (ix2 a b)).trans (blockM m c t a b r s hr hs))
  match x with
  | ⟨0, _⟩ => show r.val = win0_6.index t 0 * 1024 + 1 * a.val; rw [e0]; omega
  | ⟨1, _⟩ => show s.val = win0_6.index t 1 * 512 + 1 * b.val; rw [e1]; omega

theorem final7 (c : Dev nD) : (dats m 0 c).arrAt 7 cfg0.N = argC m c := by
  funext i
  obtain ⟨r, s, rfl⟩ : ∃ (r : Fin 2048) (s : Fin 1024), i = ix2 r s := ⟨i 0, i 1, ValueIdx.eq_ix2 i⟩
  obtain ⟨t, a, b, hr, hs⟩ := place r s
  obtain ⟨-, -, -, -, -, -, -, ⟨e0, e1⟩, -⟩ := index0 t
  have h := (blocks7 m c t (flush7 t)).trans (flushed7 m c t)
  rw [out7_eq] at h
  refine Eq.trans (congrArg _ (funext fun x => Fin.ext ?_)) ((congrFun h (ix2 a b)).trans (blockC m c t a b r s hr hs))
  match x with
  | ⟨0, _⟩ => show r.val = win0_7.index t 0 * 1024 + 1 * a.val; rw [e0]; omega
  | ⟨1, _⟩ => show s.val = win0_7.index t 1 * 512 + 1 * b.val; rw [e1]; omega

theorem final8 (c : Dev nD) : (dats m 0 c).arrAt 8 cfg0.N = argA m c := by
  funext i
  obtain ⟨r, s, rfl⟩ : ∃ (r : Fin 2048) (s : Fin 1024), i = ix2 r s := ⟨i 0, i 1, ValueIdx.eq_ix2 i⟩
  obtain ⟨t, a, b, hr, hs⟩ := place r s
  obtain ⟨-, -, -, -, -, -, -, -, e0, e1⟩ := index0 t
  have h := (blocks8 m c t (flush8 t)).trans (flushed8 m c t)
  rw [out8_eq] at h
  refine Eq.trans (congrArg _ (funext fun x => Fin.ext ?_)) ((congrFun h (ix2 a b)).trans (blockA m c t a b r s hr hs))
  match x with
  | ⟨0, _⟩ => show r.val = win0_8.index t 0 * 1024 + 1 * a.val; rw [e0]; omega
  | ⟨1, _⟩ => show s.val = win0_8.index t 1 * 512 + 1 * b.val; rw [e1]; omega

theorem run : θ_run defs (onTc (τ := τ) (main (F := Ideal))) ⟨m, fun _ => 0, ρ⟩ fun r => ∀ c : Dev nD,
      r.2.mem ((c.tc : Thread nD τ).loc main_v0_0) = merged (argC m c) (argA m c) (m ((c.tc : Thread nD τ).loc main_arg4))
      ∧ r.2.mem ((c.tc : Thread nD τ).loc main_v0_1) = argC m c
      ∧ r.2.mem ((c.tc : Thread nD τ).loc main_v0_2) = argA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final6 m c), (h c).2.1.trans (final7 m c), (h c).2.2.1.trans (final8 m c), (h c).2.2.2⟩) (run_blocks m ρ)

end Cert.Kernel16Ideal.Mm

namespace Cert.Reference16Ideal.Mm

open Cert.Reference16Ideal Cert.Reference16Ideal.Gen Idealize.ShloMosaic.TcCoe Idealize.SL.Sem
open Idealize.ShloMosaic
open Idealize.ShloMosaic.ValueIdx
open Cert.Kernel16Ideal.Mm (prod merged)

theorem prod_eq (z : FVec Ideal S2048x512 .bf16) (w : FVec Ideal S512x1024 .bf16) (p) :
    Host.dotGeneral dot_S2048x512_S512x1024_S2048x1024_1_0_0_1_n_n none (extf .f32 z p) (extf .f32 w p) = prod z w := by
  funext i
  obtain ⟨r, s, rfl⟩ : ∃ (r : Fin 2048) (s : Fin 1024), i = ix2 r s := ⟨i 0, i 1, ValueIdx.eq_ix2 i⟩
  exact Products.host_nn (φ₁ := .f32) (φ₂ := .f32) _ none _ _ r s

theorem merged_eq (z o : FVec Ideal S2048x512 .bf16) (w v : FVec Ideal S512x1024 .bf16) (u : FVec Ideal S2048x7680 .bf16) (p hs hb h h' q) :
    truncf .bf16 (addf (mulf (extractStridedSlice S2048x1024 ![0, 0] (Gates.both u p hs hb) h)
        (Host.dotGeneral dot_S2048x512_S512x1024_S2048x1024_1_0_0_1_n_n none (extf .f32 z p) (extf .f32 w p)))
      (mulf (extractStridedSlice S2048x1024 ![0, 1024] (Gates.both u p hs hb) h')
        (Host.dotGeneral dot_S2048x512_S512x1024_S2048x1024_1_0_0_1_n_n none (extf .f32 o p) (extf .f32 v p)))) q
      = merged (prod z w) (prod o v) u := by
  rw [prod_eq, prod_eq, Gates.host_gateC, Gates.host_gateA]
  rfl

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v19) = merged (prod (m ((c.tc : Thread nD τ).loc main_arg0)) (m ((c.tc : Thread nD τ).loc main_arg2))) (prod (m ((c.tc : Thread nD τ).loc main_arg1)) (m ((c.tc : Thread nD τ).loc main_arg3))) (m ((c.tc : Thread nD τ).loc main_arg4))
      ∧ r.2.mem ((c.tc : Thread nD τ).loc main_v20) = prod (m ((c.tc : Thread nD τ).loc main_arg0)) (m ((c.tc : Thread nD τ).loc main_arg2))
      ∧ r.2.mem ((c.tc : Thread nD τ).loc main_v21) = prod (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (merged_eq _ _ _ _ _ _ _ _ _ _ _), (h c).2.1.trans (prod_eq _ _ _),
    (h c).2.2.1.trans (prod_eq _ _ _), (h c).2.2.2⟩) (Cert.Reference16Ideal.Value.run m ρ)

end Cert.Reference16Ideal.Mm

end
-- ==== Proof.GateBwd.lean ====
/- The gates' backward pass: the cotangents of the two branch products and of the two gate inputs. -/
module

public import proofs.«01_k».proof.Proof.Gen.Kernel17Ideal.Value
public import proofs.«01_k».proof.Proof.Gen.Reference17Ideal.Run
public import proofs.«01_k».proof.Proof.Gates
public import Idealize.ShloMosaic.Lib.Pipeline.ValueKit.Basic

@[expose] public section

set_option maxRecDepth 16384

noncomputable section

namespace Cert.Kernel17Ideal.Mm

open Cert.Kernel17Ideal Cert.Kernel17Ideal.Gen Cert.Kernel17Ideal.Value Idealize.ShloMosaic.TcCoe Idealize.SL.Sem
open Idealize.ShloMosaic
open Idealize.ShloMosaic.ValueIdx
open Cert.Gates (sg colC colA gateC gateA)

variable (m : (ℓ : Loc nD τ sig) → Buf (Elt Ideal) ℓ) (ρ : Dev nD → PrngReg)

/-- The cotangent of a branch product. -/
def through (d g : S2048x1024.Idx → EReal) : S2048x1024.Idx → EReal := fun i => d i * g i

/-- Which block of each array a grid point takes. -/
theorem index0 : ∀ t : Fin cfg0.N, (win0_0.index t 0 = t.val / 2 ∧ win0_0.index t 1 = t.val % 2)
    ∧ (win0_1.index t 0 = t.val / 2 ∧ win0_1.index t 1 = 11 + t.val % 2)
    ∧ (win0_2.index t 0 = t.val / 2 ∧ win0_2.index t 1 = 13 + t.val % 2)
    ∧ (win0_3.index t 0 = t.val / 2 ∧ win0_3.index t 1 = t.val % 2)
    ∧ (win0_4.index t 0 = t.val / 2 ∧ win0_4.index t 1 = t.val % 2)
    ∧ (win0_5.index t 0 = t.val / 2 ∧ win0_5.index t 1 = t.val % 2)
    ∧ (win0_6.index t 0 = t.val / 2 ∧ win0_6.index t 1 = t.val % 2)
    ∧ (win0_7.index t 0 = t.val / 2 ∧ win0_7.index t 1 = t.val % 2)
    ∧ (win0_8.index t 0 = t.val / 2 ∧ win0_8.index t 1 = t.val % 2) :=
  (by decide +kernel : ∀ t : Fin grid0.N, (win0_0.index t 0 = t.val / 2 ∧ win0_0.index t 1 = t.val % 2)
    ∧ (win0_1.index t 0 = t.val / 2 ∧ win0_1.index t 1 = 11 + t.val % 2)
    ∧ (win0_2.index t 0 = t.val / 2 ∧ win0_2.index t 1 = 13 + t.val % 2)
    ∧ (win0_3.index t 0 = t.val / 2 ∧ win0_3.index t 1 = t.val % 2)
    ∧ (win0_4.index t 0 = t.val / 2 ∧ win0_4.index t 1 = t.val % 2)
    ∧ (win0_5.index t 0 = t.val / 2 ∧ win0_5.index t 1 = t.val % 2)
    ∧ (win0_6.index t 0 = t.val / 2 ∧ win0_6.index t 1 = t.val % 2)
    ∧ (win0_7.index t 0 = t.val / 2 ∧ win0_7.index t 1 = t.val % 2)
    ∧ (win0_8.index t 0 = t.val / 2 ∧ win0_8.index t 1 = t.val % 2))

theorem flush5 : ∀ t : Fin cfg0.N, (cfg0.win 5).flush t = true :=
  (by decide +kernel : ∀ t : Fin grid0.N, (cfg0.win 5).flush t = true)

theorem flush6 : ∀ t : Fin cfg0.N, (cfg0.win 6).flush t = true :=
  (by decide +kernel : ∀ t : Fin grid0.N, (cfg0.win 6).flush t = true)

theorem flush7 : ∀ t : Fin cfg0.N, (cfg0.win 7).flush t = true :=
  (by decide +kernel : ∀ t : Fin grid0.N, (cfg0.win 7).flush t = true)

theorem flush8 : ∀ t : Fin cfg0.N, (cfg0.win 8).flush t = true :=
  (by decide +kernel : ∀ t : Fin grid0.N, (cfg0.win 8).flush t = true)

/-- Every entry lies in the block of a grid point. -/
theorem place (r : Fin 2048) (s : Fin 1024) : ∃ (t : Fin cfg0.N) (a : Fin 1024) (b : Fin 512),
    r.val = t.val / 2 * 1024 + a.val ∧ s.val = t.val % 2 * 512 + b.val :=
  ⟨⟨r.val / 1024 * 2 + s.val / 512, by show _ < 4; omega⟩, ⟨r.val % 1024, by omega⟩, ⟨s.val % 512, by omega⟩,
    by show r.val = (r.val / 1024 * 2 + s.val / 512) / 2 * 1024 + r.val % 1024; omega,
    by show s.val = (r.val / 1024 * 2 + s.val / 512) % 2 * 512 + s.val % 512; omega⟩

theorem iblk0 (c : Dev nD) (t : Fin cfg0.N) (a : Fin 1024) (b : Fin 512) (r : Fin 2048) (s : Fin 1024) (h : r.val = t.val / 2 * 1024 + a.val) (g : s.val = t.val % 2 * 512 + b.val) :
    iblk m c 0 t (ix2 a b) = m ((c.tc : Thread nD τ).loc main_arg0) (ix2 r s) := by
  obtain ⟨⟨e0, e1⟩, -⟩ := index0 t
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 512 + 1 * b.val = s.val; rw [e1]; omega

theorem iblk1 (c : Dev nD) (t : Fin cfg0.N) (a : Fin 1024) (b : Fin 512) (r : Fin 2048) (s : Fin 1024) (h : r.val = t.val / 2 * 1024 + a.val) (g : s.val = t.val % 2 * 512 + b.val) :
    iblk m c 1 t (ix2 a b) = m ((c.tc : Thread nD τ).loc main_arg1) (ix2 r (colC s)) := by
  obtain ⟨-, ⟨e0, e1⟩, -⟩ := index0 t
  refine congrArg (m ((c.tc : Thread nD τ).loc main_arg1)) (funext fun x => Fin.ext ?_)
  match x with
  | ⟨0, _⟩ => show win0_1.index t 0 * 1024 + 1 * a.val = r.val; rw [e0]; omega
  | ⟨1, _⟩ => show win0_1.index t 1 * 512 + 1 * b.val = 5632 + s.val; rw [e1]; omega

theorem iblk2 (c : Dev nD) (t : Fin cfg0.N) (a : Fin 1024) (b : Fin 512) (r : Fin 2048) (s : Fin 1024) (h : r.val = t.val / 2 * 1024 + a.val) (g : s.val = t.val % 2 * 512 + b.val) :
    iblk m c 2 t (ix2 a b) = m ((c.tc : Thread nD τ).loc main_arg1) (ix2 r (colA s)) := by
  obtain ⟨-, -, ⟨e0, e1⟩, -⟩ := index0 t
  refine congrArg (m ((c.tc : Thread nD τ).loc main_arg1)) (funext fun x => Fin.ext ?_)
  match x with
  | ⟨0, _⟩ => show win0_2.index t 0 * 1024 + 1 * a.val = r.val; rw [e0]; omega
  | ⟨1, _⟩ => show win0_2.index t 1 * 512 + 1 * b.val = 6656 + s.val; rw [e1]; omega

theorem iblk3 (c : Dev nD) (t : Fin cfg0.N) (a : Fin 1024) (b : Fin 512) (r : Fin 2048) (s : Fin 1024) (h : r.val = t.val / 2 * 1024 + a.val) (g : s.val = t.val % 2 * 512 + b.val) :
    iblk m c 3 t (ix2 a b) = m ((c.tc : Thread nD τ).loc main_arg2) (ix2 r s) := by
  obtain ⟨-, -, -, ⟨e0, e1⟩, -⟩ := index0 t
  refine congrArg (m ((c.tc : Thread nD τ).loc main_arg2)) (funext fun x => Fin.ext ?_)
  match x with
  | ⟨0, _⟩ => show win0_3.index t 0 * 1024 + 1 * a.val = r.val; rw [e0]; omega
  | ⟨1, _⟩ => show win0_3.index t 1 * 512 + 1 * b.val = s.val; rw [e1]; omega

theorem iblk4 (c : Dev nD) (t : Fin cfg0.N) (a : Fin 1024) (b : Fin 512) (r : Fin 2048) (s : Fin 1024) (h : r.val = t.val / 2 * 1024 + a.val) (g : s.val = t.val % 2 * 512 + b.val) :
    iblk m c 4 t (ix2 a b) = m ((c.tc : Thread nD τ).loc main_arg3) (ix2 r s) := by
  obtain ⟨-, -, -, -, ⟨e0, e1⟩, -⟩ := index0 t
  refine congrArg (m ((c.tc : Thread nD τ).loc main_arg3)) (funext fun x => Fin.ext ?_)
  match x with
  | ⟨0, _⟩ => show win0_4.index t 0 * 1024 + 1 * a.val = r.val; rw [e0]; omega
  | ⟨1, _⟩ => show win0_4.index t 1 * 512 + 1 * b.val = s.val; rw [e1]; omega

/-! ### The blocks read -/

theorem gate_apply (x : Vec Ideal S1024x512 .bf16) (i : S1024x512.Idx) : k0_pay2 x i = sg (x i) := Gates.tile (extf .f32 x bitsLt_bf16_f32) i

theorem pay4_apply (d : Vec Ideal S1024x512 .f32) (x : Vec Ideal S1024x512 .bf16) (i : S1024x512.Idx) : k0_pay4 d x i = d i * sg (x i) :=
  congrArg (fun p : EReal => d i * p) (gate_apply x i)

theorem pay6_apply (d : Vec Ideal S1024x512 .f32) (x v : Vec Ideal S1024x512 .bf16) (i : S1024x512.Idx) :
    k0_pay6 d x v i = d i * v i * (sg (x i) * (1 - sg (x i))) := by
  show (d i * v i * k0_pay2 x i * (Ideal.ofBits .f32 0x3F800000#32 - k0_pay2 x i) : EReal) = _
  rw [gate_apply, Ideal.ofBits_one_f32]
  exact mul_assoc _ _ _

theorem out5_eq (d : Vec Ideal S1024x512 .f32) (x y v w : Vec Ideal S1024x512 .bf16) : out0_5 d x y v w = k0_pay4 d x := by
  unfold out0_5
  rw [View.canon_cons_unit_lit _ _ _ (by decide), View.ld_unit_lit _ d (by decide), View.ld_unit_lit _ x (by decide)]

theorem out6_eq (d : Vec Ideal S1024x512 .f32) (x y v w : Vec Ideal S1024x512 .bf16) : out0_6 d x y v w = k0_pay4 d y := by
  unfold out0_6
  rw [View.canon_cons_unit_lit _ _ _ (by decide), View.ld_unit_lit _ d (by decide), View.ld_unit_lit _ y (by decide)]
  rfl

theorem out7_eq (d : Vec Ideal S1024x512 .f32) (x y v w : Vec Ideal S1024x512 .bf16) : out0_7 d x y v w = k0_pay6 d x v := by
  unfold out0_7
  rw [View.canon_cons_unit_lit _ _ _ (by decide), View.ld_unit_lit _ d (by decide), View.ld_unit_lit _ x (by decide), View.ld_unit_lit _ v (by decide)]

theorem out8_eq (d : Vec Ideal S1024x512 .f32) (x y v w : Vec Ideal S1024x512 .bf16) : out0_8 d x y v w = k0_pay6 d y w := by
  unfold out0_8
  rw [View.canon_cons_unit_lit _ _ _ (by decide), View.ld_unit_lit _ d (by decide), View.ld_unit_lit _ y (by decide), View.ld_unit_lit _ w (by decide)]
  rfl

/-! ### The blocks against the whole arrays -/

theorem block5 (c : Dev nD) (t : Fin cfg0.N) (a : Fin 1024) (b : Fin 512) (r : Fin 2048) (s : Fin 1024) (h : r.val = t.val / 2 * 1024 + a.val)
    (g : s.val = t.val % 2 * 512 + b.val) : k0_pay4 (iblk m c 0 t) (iblk m c 1 t) (ix2 a b) = through (m ((c.tc : Thread nD τ).loc main_arg0)) (gateC (m ((c.tc : Thread nD τ).loc main_arg1))) (ix2 r s) :=
  (pay4_apply _ _ _).trans (congrArg₂ (fun p q : EReal => p * sg q) (iblk0 m c t a b r s h g) (iblk1 m c t a b r s h g))

theorem block6 (c : Dev nD) (t : Fin cfg0.N) (a : Fin 1024) (b : Fin 512) (r : Fin 2048) (s : Fin 1024) (h : r.val = t.val / 2 * 1024 + a.val)
    (g : s.val = t.val % 2 * 512 + b.val) : k0_pay4 (iblk m c 0 t) (iblk m c 2 t) (ix2 a b) = through (m ((c.tc : Thread nD τ).loc main_arg0)) (gateA (m ((c.tc : Thread nD τ).loc main_arg1))) (ix2 r s) :=
  (pay4_apply _ _ _).trans (congrArg₂ (fun p q : EReal => p * sg q) (iblk0 m c t a b r s h g) (iblk2 m c t a b r s h g))

theorem block7 (c : Dev nD) (t : Fin cfg0.N) (a : Fin 1024) (b : Fin 512) (r : Fin 2048) (s : Fin 1024) (h : r.val = t.val / 2 * 1024 + a.val)
    (g : s.val = t.val % 2 * 512 + b.val) : k0_pay6 (iblk m c 0 t) (iblk m c 1 t) (iblk m c 3 t) (ix2 a b) = Gates.dgate (m ((c.tc : Thread nD τ).loc main_arg0)) (m ((c.tc : Thread nD τ).loc main_arg2)) (gateC (m ((c.tc : Thread nD τ).loc main_arg1))) (ix2 r s) :=
  (pay6_apply _ _ _ _).trans (congrArg₂ (fun p q : EReal => p * (sg q * (1 - sg q)))
    (congrArg₂ (fun p q : EReal => p * q) (iblk0 m c t a b r s h g) (iblk3 m c t a b r s h g)) (iblk1 m c t a b r s h g))

theorem block8 (c : Dev nD) (t : Fin cfg0.N) (a : Fin 1024) (b : Fin 512) (r : Fin 2048) (s : Fin 1024) (h : r.val = t.val / 2 * 1024 + a.val)
    (g : s.val = t.val % 2 * 512 + b.val) : k0_pay6 (iblk m c 0 t) (iblk m c 2 t) (iblk m c 4 t) (ix2 a b) = Gates.dgate (m ((c.tc : Thread nD τ).loc main_arg0)) (m ((c.tc : Thread nD τ).loc main_arg3)) (gateA (m ((c.tc : Thread nD τ).loc main_arg1))) (ix2 r s) :=
  (pay6_apply _ _ _ _).trans (congrArg₂ (fun p q : EReal => p * (sg q * (1 - sg q)))
    (congrArg₂ (fun p q : EReal => p * q) (iblk0 m c t a b r s h g) (iblk4 m c t a b r s h g)) (iblk2 m c t a b r s h g))

theorem final5 (c : Dev nD) : (dats m 0 c).arrAt 5 cfg0.N = through (m ((c.tc : Thread nD τ).loc main_arg0)) (gateC (m ((c.tc : Thread nD τ).loc main_arg1))) := by
  funext i
  obtain ⟨r, s, rfl⟩ : ∃ (r : Fin 2048) (s : Fin 1024), i = ix2 r s := ⟨i 0, i 1, ValueIdx.eq_ix2 i⟩
  obtain ⟨t, a, b, hr, hs⟩ := place r s
  obtain ⟨-, -, -, -, -, ⟨e0, e1⟩, -⟩ := index0 t
  have h := (blocks5 m c t (flush5 t)).trans (flushed5 m c t)
  rw [out5_eq] at h
  refine Eq.trans (congrArg _ (funext fun x => Fin.ext ?_)) ((congrFun h (ix2 a b)).trans (block5 m c t a b r s hr hs))
  match x with
  | ⟨0, _⟩ => show r.val = win0_5.index t 0 * 1024 + 1 * a.val; rw [e0]; omega
  | ⟨1, _⟩ => show s.val = win0_5.index t 1 * 512 + 1 * b.val; rw [e1]; omega

theorem final6 (c : Dev nD) : (dats m 0 c).arrAt 6 cfg0.N = through (m ((c.tc : Thread nD τ).loc main_arg0)) (gateA (m ((c.tc : Thread nD τ).loc main_arg1))) := by
  funext i
  obtain ⟨r, s, rfl⟩ : ∃ (r : Fin 2048) (s : Fin 1024), i = ix2 r s := ⟨i 0, i 1, ValueIdx.eq_ix2 i⟩
  obtain ⟨t, a, b, hr, hs⟩ := place r s
  obtain ⟨-, -, -, -, -, -, ⟨e0, e1⟩, -⟩ := index0 t
  have h := (blocks6 m c t (flush6 t)).trans (flushed6 m c t)
  rw [out6_eq] at h
  refine Eq.trans (congrArg _ (funext fun x => Fin.ext ?_)) ((congrFun h (ix2 a b)).trans (block6 m c t a b r s hr hs))
  match x with
  | ⟨0, _⟩ => show r.val = win0_6.index t 0 * 1024 + 1 * a.val; rw [e0]; omega
  | ⟨1, _⟩ => show s.val = win0_6.index t 1 * 512 + 1 * b.val; rw [e1]; omega

theorem final7 (c : Dev nD) : (dats m 0 c).arrAt 7 cfg0.N = Gates.dgate (m ((c.tc : Thread nD τ).loc main_arg0)) (m ((c.tc : Thread nD τ).loc main_arg2)) (gateC (m ((c.tc : Thread nD τ).loc main_arg1))) := by
  funext i
  obtain ⟨r, s, rfl⟩ : ∃ (r : Fin 2048) (s : Fin 1024), i = ix2 r s := ⟨i 0, i 1, ValueIdx.eq_ix2 i⟩
  obtain ⟨t, a, b, hr, hs⟩ := place r s
  obtain ⟨-, -, -, -, -, -, -, ⟨e0, e1⟩, -⟩ := index0 t
  have h := (blocks7 m c t (flush7 t)).trans (flushed7 m c t)
  rw [out7_eq] at h
  refine Eq.trans (congrArg _ (funext fun x => Fin.ext ?_)) ((congrFun h (ix2 a b)).trans (block7 m c t a b r s hr hs))
  match x with
  | ⟨0, _⟩ => show r.val = win0_7.index t 0 * 1024 + 1 * a.val; rw [e0]; omega
  | ⟨1, _⟩ => show s.val = win0_7.index t 1 * 512 + 1 * b.val; rw [e1]; omega

theorem final8 (c : Dev nD) : (dats m 0 c).arrAt 8 cfg0.N = Gates.dgate (m ((c.tc : Thread nD τ).loc main_arg0)) (m ((c.tc : Thread nD τ).loc main_arg3)) (gateA (m ((c.tc : Thread nD τ).loc main_arg1))) := by
  funext i
  obtain ⟨r, s, rfl⟩ : ∃ (r : Fin 2048) (s : Fin 1024), i = ix2 r s := ⟨i 0, i 1, ValueIdx.eq_ix2 i⟩
  obtain ⟨t, a, b, hr, hs⟩ := place r s
  obtain ⟨-, -, -, -, -, -, -, -, e0, e1⟩ := index0 t
  have h := (blocks8 m c t (flush8 t)).trans (flushed8 m c t)
  rw [out8_eq] at h
  refine Eq.trans (congrArg _ (funext fun x => Fin.ext ?_)) ((congrFun h (ix2 a b)).trans (block8 m c t a b r s hr hs))
  match x with
  | ⟨0, _⟩ => show r.val = win0_8.index t 0 * 1024 + 1 * a.val; rw [e0]; omega
  | ⟨1, _⟩ => show s.val = win0_8.index t 1 * 512 + 1 * b.val; rw [e1]; omega

theorem run : θ_run defs (onTc (τ := τ) (main (F := Ideal))) ⟨m, fun _ => 0, ρ⟩ fun r => ∀ c : Dev nD,
      r.2.mem ((c.tc : Thread nD τ).loc main_v0_0) = through (m ((c.tc : Thread nD τ).loc main_arg0)) (gateC (m ((c.tc : Thread nD τ).loc main_arg1)))
      ∧ r.2.mem ((c.tc : Thread nD τ).loc main_v0_1) = through (m ((c.tc : Thread nD τ).loc main_arg0)) (gateA (m ((c.tc : Thread nD τ).loc main_arg1)))
      ∧ r.2.mem ((c.tc : Thread nD τ).loc main_v0_2) = Gates.dgate (m ((c.tc : Thread nD τ).loc main_arg0)) (m ((c.tc : Thread nD τ).loc main_arg2)) (gateC (m ((c.tc : Thread nD τ).loc main_arg1)))
      ∧ r.2.mem ((c.tc : Thread nD τ).loc main_v0_3) = Gates.dgate (m ((c.tc : Thread nD τ).loc main_arg0)) (m ((c.tc : Thread nD τ).loc main_arg3)) (gateA (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final5 m c), (h c).2.1.trans (final6 m c), (h c).2.2.1.trans (final7 m c),
    (h c).2.2.2.1.trans (final8 m c), (h c).2.2.2.2⟩) (run_blocks m ρ)

end Cert.Kernel17Ideal.Mm

namespace Cert.Reference17Ideal.Mm

open Cert.Reference17Ideal Cert.Reference17Ideal.Gen Idealize.ShloMosaic.TcCoe Idealize.SL.Sem
open Idealize.ShloMosaic
open Idealize.ShloMosaic.ValueIdx
open Cert.Gates (gateC gateA)
open Cert.Kernel17Ideal.Mm (through)

theorem same_shape (d : FVec Ideal S2048x1024 .f32) (h) : shapeCast S2048x1024 d h = d :=
  funext fun i => shapeCast_apply d h i i rfl

/-- A gate times what comes in is what comes in times the gate. -/
theorem through_eq (g : FVec Ideal S2048x1024 .f32) (d : FVec Ideal S2048x1024 .f32) (h q) (G : S2048x1024.Idx → EReal) (e : g = G) :
    truncf .bf16 (mulf g (shapeCast S2048x1024 d h)) q = through d G := by
  rw [same_shape, e]
  exact funext fun i => mul_comm (G i) (d i)

/-- The two gates' input cotangents, the left and the right half of what the host computes at once. -/
theorem dgateC_eq (d : FVec Ideal S2048x1024 .f32) (v w : FVec Ideal S2048x1024 .bf16) (u : FVec Ideal S2048x7680 .bf16) (e p hs hb hc h q) :
    truncf .bf16 (extractStridedSlice S2048x1024 ![0, 0] (Gates.slope (mulf (shapeCast S2048x1024 d e) (extf .f32 v p))
      (mulf (shapeCast S2048x1024 d e) (extf .f32 w p)) u p hs hb hc) h) q = Gates.dgate d v (gateC u) := by
  rw [same_shape]
  exact Gates.host_dgateC d (extf .f32 v p) (extf .f32 w p) u p hs hb hc h

theorem dgateA_eq (d : FVec Ideal S2048x1024 .f32) (v w : FVec Ideal S2048x1024 .bf16) (u : FVec Ideal S2048x7680 .bf16) (e p hs hb hc h q) :
    truncf .bf16 (extractStridedSlice S2048x1024 ![0, 1024] (Gates.slope (mulf (shapeCast S2048x1024 d e) (extf .f32 v p))
      (mulf (shapeCast S2048x1024 d e) (extf .f32 w p)) u p hs hb hc) h) q = Gates.dgate d w (gateA u) := by
  rw [same_shape]
  exact Gates.host_dgateA d (extf .f32 v p) (extf .f32 w p) u p hs hb hc h

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v28) = through (m ((c.tc : Thread nD τ).loc main_arg0)) (gateC (m ((c.tc : Thread nD τ).loc main_arg1)))
      ∧ r.2.mem ((c.tc : Thread nD τ).loc main_v29) = through (m ((c.tc : Thread nD τ).loc main_arg0)) (gateA (m ((c.tc : Thread nD τ).loc main_arg1)))
      ∧ r.2.mem ((c.tc : Thread nD τ).loc main_v30) = Gates.dgate (m ((c.tc : Thread nD τ).loc main_arg0)) (m ((c.tc : Thread nD τ).loc main_arg2)) (gateC (m ((c.tc : Thread nD τ).loc main_arg1)))
      ∧ r.2.mem ((c.tc : Thread nD τ).loc main_v31) = Gates.dgate (m ((c.tc : Thread nD τ).loc main_arg0)) (m ((c.tc : Thread nD τ).loc main_arg3)) (gateA (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (through_eq _ _ _ _ _ (Gates.host_gateC _ _ _ _ _)),
    (h c).2.1.trans (through_eq _ _ _ _ _ (Gates.host_gateA _ _ _ _ _)),
    (h c).2.2.1.trans (dgateC_eq _ _ _ _ _ _ _ _ _ _ _),
    (h c).2.2.2.1.trans (dgateA_eq _ _ _ _ _ _ _ _ _ _ _), (h c).2.2.2.2⟩) (Cert.Reference17Ideal.Value.run m ρ)

end Cert.Reference17Ideal.Mm

end
-- ==== Proof.Rows.lean ====
/- The rows of a matrix of 2048 rows: their sums as a column, a column repeated along them, a row repeated over them, as
   a kernel's block and as a reference lay these out. -/
module

public import Idealize.ShloMosaic.Lib.Pointwise.Reduce
public import Idealize.ShloMosaic.Lib.IdealHost
public import Idealize.ShloMosaic.Lib.ValueLayout

@[expose] public section

set_option maxRecDepth 16384

noncomputable section

namespace Cert.Rows

open Idealize.ShloMosaic hiding ix0 ix1 ix2 ix3
open Idealize.ShloMosaic.ValueIdx

variable {d : ℕ}

abbrev Mat (d : ℕ) : Shape := ⟨2, ![2048, d]⟩
abbrev Row (d : ℕ) : Shape := ⟨2, ![1, d]⟩
abbrev Gain (d : ℕ) : Shape := ⟨1, ![d]⟩
abbrev Col : Shape := ⟨2, ![2048, 1]⟩
abbrev Height : Shape := ⟨1, ![2048]⟩
abbrev Nil : Shape := ⟨0, ![]⟩

/-! ### In a kernel -/

theorem sum_apply (v : FVec Ideal (Mat d) .f32) (hr : (Mat d).Reduces [1] Height) (hs : Height.ShapeCasts Col) (p q) (a : Fin 2048) :
    shapeCast Col (multiReduction .add [1] Height v 0x00000000#32 hr p q) hs (ix2 a (0 : Fin 1)) = ∑ k : Fin d, v (ix2 a k) := by
  refine (shapeCast_apply _ _ (ix2 a (0 : Fin 1)) (ix1 a) ?_).trans ?_
  · rw [Shape.rowMajor_val_one, Shape.rowMajor_val_two]
    show a.val = a.val * 1 + 0
    omega
  · refine (multiReduction_add_apply v _ hr p q (ix1 a)).trans ?_
    exact Ideal.reduceAdd_r2_a1 (n0 := 2048) (n1 := d) hr v (ix1 a)

theorem col_apply (v : FVec Ideal Col .f32) (h : Col.Broadcasts (Mat d)) (a : Fin 2048) (b : Fin d) :
    broadcastTo (Mat d) v h (ix2 a b) = v (ix2 a (0 : Fin 1)) :=
  broadcastTo_apply v h (ix2 a b) (ix2 a (0 : Fin 1)) fun x => by
    match x with
    | ⟨0, _⟩ => rfl
    | ⟨1, _⟩ => rfl

theorem row_apply (v : FVec Ideal (Row d) .f32) (hs : (Row d).ShapeCasts (Row d)) (h : (Row d).Broadcasts (Mat d)) (a : Fin 2048) (b : Fin d) :
    broadcastTo (Mat d) (shapeCast (Row d) v hs) h (ix2 a b) = v (ix2 (0 : Fin 1) b) :=
  (broadcastTo_1b_ab_apply _ h a b).trans (shapeCast_apply _ _ _ (ix2 (0 : Fin 1) b) rfl)

theorem toRow_apply (v : FVec Ideal (Gain d) .f32) (hs : (Gain d).ShapeCasts (Row d)) (b : Fin d) : shapeCast (Row d) v hs (ix2 (0 : Fin 1) b) = v (ix1 b) :=
  shapeCast_apply _ _ _ (ix1 b) (by
    rw [Shape.rowMajor_val_one, Shape.rowMajor_val_two]
    show b.val = 0 * d + b.val
    omega)

/-! ### On the host -/

theorem hostRowSum_apply (v : FVec Ideal (Mat d) .f32) (hr : (Mat d).ReducesTo [1] Height) (hu : 0 < Nil.numel) (a : Fin 2048) :
    Host.reduceAdd v (constant (F := Ideal) Nil .f32 0x00000000#32) hr hu (ix1 a) = ∑ k : Fin d, v (ix2 a k) := by
  refine (hostReduceAdd_apply v _ hr hu (ix1 a)).trans ((Ideal.hostReduceAdd_r2_a1 (n0 := 2048) (n1 := d) hr v _ (ix1 a)).trans ?_)
  refine Eq.trans (congrArg₂ (fun p q : EReal => p + q) Ideal.ofBits_zero_f32 rfl) (zero_add _)

theorem hostSum_apply (v : FVec Ideal (Mat d) .f32) (hr : (Mat d).ReducesTo [1] Height) (hu : 0 < Nil.numel) (hb : Height.BroadcastsInDim Col ![0]) (a : Fin 2048) :
    broadcastInDim Col ![0] hb (Host.reduceAdd v (constant (F := Ideal) Nil .f32 0x00000000#32) hr hu) (ix2 a (0 : Fin 1)) = ∑ k : Fin d, v (ix2 a k) := by
  have e := hostRowSum_apply v hr hu a
  generalize Host.reduceAdd v (constant (F := Ideal) Nil .f32 0x00000000#32) hr hu = w at e ⊢
  refine (broadcastInDim_apply ![0] hb w (ix2 a (0 : Fin 1)) (ix1 a) fun y => ?_).trans e
  match y with
  | ⟨0, _⟩ => rfl

theorem hostCol_apply (v : FVec Ideal Col .f32) (hb : Col.BroadcastsInDim (Mat d) ![0, 1]) (a : Fin 2048) (b : Fin d) :
    broadcastInDim (Mat d) ![0, 1] hb v (ix2 a b) = v (ix2 a (0 : Fin 1)) :=
  broadcastInDim_apply ![0, 1] hb v (ix2 a b) (ix2 a (0 : Fin 1)) fun y => by
    match y with
    | ⟨0, _⟩ => rfl
    | ⟨1, _⟩ => rfl

theorem hostRow_apply (g : FVec Ideal (Gain d) .f32) (h1 : (Gain d).BroadcastsInDim (Row d) ![1]) (h2 : (Row d).BroadcastsInDim (Mat d) ![0, 1]) (a : Fin 2048) (b : Fin d) :
    broadcastInDim (Mat d) ![0, 1] h2 (broadcastInDim (Row d) ![1] h1 g) (ix2 a b) = g (ix1 b) := by
  have hd : d = 1 → b.val = 0 := fun e => by have := b.isLt; omega
  refine (broadcastInDim_apply ![0, 1] h2 _ (ix2 a b) (ix2 (0 : Fin 1) b) fun y => ?_).trans
    (broadcastInDim_apply ![1] h1 g (ix2 (0 : Fin 1) b) (ix1 b) fun y => ?_)
  · match y with
    | ⟨0, _⟩ => rfl
    | ⟨1, _⟩ =>
      show b.val = if d = 1 then 0 else b.val
      split
      · exact hd ‹_›
      · rfl
  · match y with
    | ⟨0, _⟩ =>
      show b.val = if d = 1 then 0 else b.val
      split
      · exact hd ‹_›
      · rfl

end Cert.Rows

end
-- ==== Proof.RmsCall.lean ====
/- The first norm of a layer: the RMS norm of 2048 rows with its gain, in one block. -/
module

public import proofs.«01_k».proof.Proof.Gen.Kernel18Ideal.Value
public import proofs.«01_k».proof.Proof.Gen.Reference18Ideal.Run
public import proofs.«01_k».proof.Proof.RmsFwd
public import proofs.«01_k».proof.Proof.Rows
public import Idealize.ShloMosaic.Lib.Pipeline.ValueKit.Acc

@[expose] public section

set_option maxRecDepth 16384

noncomputable section

namespace Cert.Kernel18Ideal.Mm

open Cert.Kernel18Ideal Cert.Kernel18Ideal.Gen Cert.Kernel18Ideal.Value Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

theorem flush2 : ∀ t : Fin cfg0.N, (cfg0.win 2).flush t = true :=
  (by decide +kernel : ∀ t : Fin grid0.N, (cfg0.win 2).flush t = true)

/-- The one grid point takes whole arrays. -/
theorem index0 : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0))

theorem iblk0 (c : Dev nD) (t : Fin cfg0.N) (a : Fin 2048) (b : Fin 1024) : iblk m c 0 t (ix2 a b) = m ((c.tc : Thread nD τ).loc main_arg0) (ix2 a b) := by
  obtain ⟨⟨e0, e1⟩, -⟩ := index0 t
  show V m c main_arg0 _ = _
  rw [V_main_arg0]
  refine congrArg (m ((c.tc : Thread nD τ).loc main_arg0)) (funext fun x => Fin.ext ?_)
  match x with
  | ⟨0, _⟩ => show win0_0.index t 0 * 2048 + 1 * a.val = a.val; rw [e0]; omega
  | ⟨1, _⟩ => show win0_0.index t 1 * 1024 + 1 * b.val = b.val; rw [e1]; omega

/-- The gain comes as one row. -/
theorem V_gain (c : Dev nD) : V m c main_v0 = shapeCast S1x1024 (m ((c.tc : Thread nD τ).loc main_arg1)) shapeCasts_S1024_S1x1024 := by
  show StableHlo.after (List.flatten [hostOps0]) (fun b => m (c, b)) (Proc.devRef .tc main_v0) = _
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem iblk1 (c : Dev nD) (t : Fin cfg0.N) (b : Fin 1024) : iblk m c 1 t (ix2 (0 : Fin 1) b) = m ((c.tc : Thread nD τ).loc main_arg1) (ix1 b) := by
  obtain ⟨-, ⟨e0, e1⟩, -⟩ := index0 t
  refine Eq.trans ?_ ((congrFun (V_gain m c) (ix2 (0 : Fin 1) b)).trans (Rms.toRow_apply _ _ b))
  show V m c main_v0 _ = _
  refine congrArg (V m c main_v0) (funext fun x => Fin.ext ?_)
  match x with
  | ⟨0, _⟩ => show win0_1.index t 0 * 1 + 1 * 0 = 0; rw [e0]
  | ⟨1, _⟩ => show win0_1.index t 1 * 1024 + 1 * b.val = b.val; rw [e1]; omega

theorem pay1_apply (x : Vec Ideal S2048x1024 .f32) (g : Vec Ideal S1x1024 .f32) (a : Fin 2048) (b : Fin 1024) :
    k0_pay1 x g (ix2 a b) = x (ix2 a b) * Rms.inv (fun k : Fin 1024 => x (ix2 a k)) * g (ix2 (0 : Fin 1) b) := by
  unfold k0_pay1
  refine congrArg₂ (fun z w : EReal => z * w) (congrArg (fun z : EReal => x (ix2 a b) * z) ?_) (Rows.row_apply g _ _ a b)
  refine (Rows.col_apply _ broadcasts_S2048x1_S2048x1024 a b).trans ?_
  exact congrArg (fun v : EReal => Ideal.rsqrt (Ideal.div v Rms.cols + Rms.eps))
    (Rows.sum_apply (mulf x x) reduces_S2048x1024_S2048 shapeCasts_S2048_S2048x1 (.inl rfl) rfl a)

theorem block_apply (c : Dev nD) (t : Fin cfg0.N) (a : Fin 2048) (b : Fin 1024) : k0_pay1 (iblk m c 0 t) (iblk m c 1 t) (ix2 a b)
    = Rms.normed (m ((c.tc : Thread nD τ).loc main_arg0)) (m ((c.tc : Thread nD τ).loc main_arg1)) (ix2 a b) := by
  refine (pay1_apply _ _ a b).trans (congrArg₂ (fun p q : EReal => p * q) ?_ (iblk1 m c t b))
  exact congrArg₂ (fun p q : EReal => p * q) (iblk0 m c t a b) (congrArg Rms.inv (funext fun k => iblk0 m c t a k))

theorem outs_eq (c : Dev nD) (t : Fin cfg0.N) : outsAt0 m c t = k0_pay1 (iblk m c 0 t) (iblk m c 1 t) := by
  unfold outsAt0
  frame_out

theorem final (c : Dev nD) : (dats m 0 c).arrAt 2 cfg0.N
    = Rms.normed (m ((c.tc : Thread nD τ).loc main_arg0)) (m ((c.tc : Thread nD τ).loc main_arg1)) := by
  funext i
  obtain ⟨r, s, rfl⟩ : ∃ (r : Fin 2048) (s : Fin 1024), i = ix2 r s := ⟨i 0, i 1, ValueIdx.eq_ix2 i⟩
  let t : Fin cfg0.N := ⟨0, by show 0 < 1; omega⟩
  obtain ⟨-, -, e0, e1⟩ := index0 t
  have h := (blocks2 m c t (flush2 t)).trans (flushed2 m c t)
  rw [outs_eq] at h
  refine Eq.trans (congrArg _ (funext fun x => Fin.ext ?_)) ((congrFun h (ix2 r s)).trans (block_apply m c t r s))
  match x with
  | ⟨0, _⟩ => show r.val = win0_2.index t 0 * 2048 + 1 * r.val; rw [e0]; omega
  | ⟨1, _⟩ => show s.val = win0_2.index t 1 * 1024 + 1 * s.val; rw [e1]; omega

theorem run : θ_run defs (onTc (τ := τ) (main (F := Ideal))) ⟨m, fun _ => 0, ρ⟩ fun r => ∀ c : Dev nD,
      r.2.mem ((c.tc : Thread nD τ).loc main_v1) = Rms.normed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Cert.Kernel18Ideal.Mm

namespace Cert.Reference18Ideal.Mm

open Cert.Reference18Ideal Cert.Reference18Ideal.Gen Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v13) = Rms.normed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Rms.normed_all _ _ _ _ _ _ _ _ _), (h c).2⟩) (Cert.Reference18Ideal.Value.run m ρ)

end Cert.Reference18Ideal.Mm

end
-- ==== Proof.MmFf2Rms.lean ====
/- The feed-forward block's second product with the next layer's norm: the residual plus the squared rectifier times the
   weights, the 4096 terms of each sum taken in two halves, and its rows' RMS norm with the gain. -/
module

public import proofs.«01_k».proof.Proof.Gen.Kernel19Ideal.Value
public import proofs.«01_k».proof.Proof.Gen.Reference19Ideal.Run
public import proofs.«01_k».proof.Proof.MmFf2
public import proofs.«01_k».proof.Proof.RmsFwd

@[expose] public section

set_option maxRecDepth 16384

noncomputable section

namespace Cert.Kernel19Ideal.Mm

open Cert.Kernel19Ideal Cert.Kernel19Ideal.Gen Cert.Kernel19Ideal.Value Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

open Cert.Kernel7Ideal.Mm (prod)

/-- Which block of each array a grid point takes. -/
theorem index0 : ∀ t : Fin cfg0.N, (win0_0.index t 0 = t.val / 2 ∧ win0_0.index t 1 = t.val % 2) ∧ (win0_1.index t 0 = t.val % 2 ∧ win0_1.index t 1 = 0)
    ∧ (win0_2.index t 0 = t.val / 2 ∧ win0_2.index t 1 = 0) ∧ (win0_3.index t 0 = 0 ∧ win0_3.index t 1 = 0)
    ∧ (win0_4.index t 0 = t.val / 2 ∧ win0_4.index t 1 = 0) ∧ (win0_5.index t 0 = t.val / 2 ∧ win0_5.index t 1 = 0) :=
  (by decide +kernel : ∀ t : Fin grid0.N, (win0_0.index t 0 = t.val / 2 ∧ win0_0.index t 1 = t.val % 2) ∧ (win0_1.index t 0 = t.val % 2 ∧ win0_1.index t 1 = 0)
    ∧ (win0_2.index t 0 = t.val / 2 ∧ win0_2.index t 1 = 0) ∧ (win0_3.index t 0 = 0 ∧ win0_3.index t 1 = 0)
    ∧ (win0_4.index t 0 = t.val / 2 ∧ win0_4.index t 1 = 0) ∧ (win0_5.index t 0 = t.val / 2 ∧ win0_5.index t 1 = 0))

/-- The points that write back write to different blocks. -/
theorem inj4 : ∀ t t' : Fin cfg0.N, (cfg0.win 4).flush t = true → (cfg0.win 4).flush t' = true → win0_4.index t = win0_4.index t' → t = t' :=
  (by decide +kernel : ∀ t t' : Fin grid0.N, (cfg0.win 4).flush t = true → (cfg0.win 4).flush t' = true → win0_4.index t = win0_4.index t' → t = t')

theorem inj5 : ∀ t t' : Fin cfg0.N, (cfg0.win 5).flush t = true → (cfg0.win 5).flush t' = true → win0_5.index t = win0_5.index t' → t = t' :=
  (by decide +kernel : ∀ t t' : Fin grid0.N, (cfg0.win 5).flush t = true → (cfg0.win 5).flush t' = true → win0_5.index t = win0_5.index t' → t = t')

theorem iblk0 (c : Dev nD) (t : Fin cfg0.N) (a : Fin 512) (k : Fin 2048) (r : Fin 2048) (l : Fin 4096) (hr : r.val = t.val / 2 * 512 + a.val)
    (hl : l.val = t.val % 2 * 2048 + k.val) : iblk m c 0 t (ix2 a k) = m ((c.tc : Thread nD τ).loc main_arg0) (ix2 r l) := by
  obtain ⟨⟨e0, e1⟩, -⟩ := index0 t
  show V m c main_arg0 _ = _
  rw [V_main_arg0]
  refine congrArg (m ((c.tc : Thread nD τ).loc main_arg0)) (funext fun x => Fin.ext ?_)
  match x with
  | ⟨0, _⟩ => show win0_0.index t 0 * 512 + 1 * a.val = r.val; rw [e0]; omega
  | ⟨1, _⟩ => show win0_0.index t 1 * 2048 + 1 * k.val = l.val; rw [e1]; omega

theorem iblk1 (c : Dev nD) (t : Fin cfg0.N) (k : Fin 2048) (b : Fin 1024) (l : Fin 4096)
    (hl : l.val = t.val % 2 * 2048 + k.val) : iblk m c 1 t (ix2 k b) = m ((c.tc : Thread nD τ).loc main_arg1) (ix2 l b) := by
  obtain ⟨-, ⟨e0, e1⟩, -⟩ := index0 t
  show V m c main_arg1 _ = _
  rw [V_main_arg1]
  refine congrArg (m ((c.tc : Thread nD τ).loc main_arg1)) (funext fun x => Fin.ext ?_)
  match x with
  | ⟨0, _⟩ => show win0_1.index t 0 * 2048 + 1 * k.val = l.val; rw [e0]; omega
  | ⟨1, _⟩ => show win0_1.index t 1 * 1024 + 1 * b.val = b.val; rw [e1]; omega

theorem iblk2 (c : Dev nD) (t : Fin cfg0.N) (a : Fin 512) (b : Fin 1024) (r : Fin 2048) (hr : r.val = t.val / 2 * 512 + a.val) :
    iblk m c 2 t (ix2 a b) = m ((c.tc : Thread nD τ).loc main_arg2) (ix2 r b) := by
  obtain ⟨-, -, ⟨e0, e1⟩, -⟩ := index0 t
  show V m c main_arg2 _ = _
  rw [V_main_arg2]
  refine congrArg (m ((c.tc : Thread nD τ).loc main_arg2)) (funext fun x => Fin.ext ?_)
  match x with
  | ⟨0, _⟩ => show win0_2.index t 0 * 512 + 1 * a.val = r.val; rw [e0]; omega
  | ⟨1, _⟩ => show win0_2.index t 1 * 1024 + 1 * b.val = b.val; rw [e1]; omega

/-- The gain comes as one row. -/
theorem V_gain (c : Dev nD) : V m c main_v0 = shapeCast S1x1024 (m ((c.tc : Thread nD τ).loc main_arg3)) shapeCasts_S1024_S1x1024 := by
  show StableHlo.after (List.flatten [hostOps0]) (fun b => m (c, b)) (Proc.devRef .tc main_v0) = _
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem iblk3 (c : Dev nD) (t : Fin cfg0.N) (b : Fin 1024) : iblk m c 3 t (ix2 (0 : Fin 1) b) = m ((c.tc : Thread nD τ).loc main_arg3) (ix1 b) := by
  obtain ⟨-, -, -, ⟨e0, e1⟩, -⟩ := index0 t
  refine Eq.trans ?_ ((congrFun (V_gain m c) (ix2 (0 : Fin 1) b)).trans (Rms.toRow_apply _ _ b))
  show V m c main_v0 _ = _
  refine congrArg (V m c main_v0) (funext fun x => Fin.ext ?_)
  match x with
  | ⟨0, _⟩ => show win0_3.index t 0 * 1 + 1 * 0 = 0; rw [e0]
  | ⟨1, _⟩ => show win0_3.index t 1 * 1024 + 1 * b.val = b.val; rw [e1]; omega

/-- The first half's product … -/
theorem pay1_apply (x : Vec Ideal S512x2048 .bf16) (y : Vec Ideal S2048x1024 .bf16) (a : Fin 512) (b : Fin 1024) :
    k0_pay1 x y (ix2 a b) = ∑ k : Fin 2048, Kernel7Ideal.Mm.sq (x (ix2 a k)) * y (ix2 k b) := by
  unfold k0_pay1
  refine (shapeCast_apply _ _ (ix2 a b) (ix2 a b) rfl).trans ?_
  exact Products.nn (φ₁ := .bf16) (φ₂ := .bf16) _ none (fun i => Kernel7Ideal.Mm.sq (x i)) y a b

/-- … and the second's, added to the first and to the residual … -/
theorem pay3_apply (s : Vec Ideal S512x1024 .f32) (x : Vec Ideal S512x2048 .bf16) (y : Vec Ideal S2048x1024 .bf16) (z : Vec Ideal S512x1024 .f32) (a : Fin 512)
    (b : Fin 1024) : k0_pay3 s x y z (ix2 a b) = z (ix2 a b) + (s (ix2 a b) + ∑ k : Fin 2048, Kernel7Ideal.Mm.sq (x (ix2 a k)) * y (ix2 k b) : EReal) := by
  unfold k0_pay3
  exact congrArg (fun v : EReal => z (ix2 a b) + (s (ix2 a b) + v : EReal)) (Products.nn (φ₁ := .bf16) (φ₂ := .bf16) _ none (fun i => Kernel7Ideal.Mm.sq (x i)) y a b)

/-- … and the rows' norm. -/
theorem pay4_apply (s : Vec Ideal S512x1024 .f32) (x : Vec Ideal S512x2048 .bf16) (y : Vec Ideal S2048x1024 .bf16) (z : Vec Ideal S512x1024 .f32)
    (g : Vec Ideal S1x1024 .f32) (a : Fin 512) (b : Fin 1024) : k0_pay4 s x y z g (ix2 a b)
      = k0_pay3 s x y z (ix2 a b) * Rms.inv (fun k : Fin 1024 => k0_pay3 s x y z (ix2 a k)) * g (ix2 (0 : Fin 1) b) := by
  unfold k0_pay4
  generalize k0_pay3 s x y z = y
  exact Rms.normed_block y g _ _ _ _ _ _ _ a b

/-- What the first point of a row of blocks leaves in the scratch. -/
theorem scratch_eq (c : Dev nD) (u : Fin cfg0.N) (h : u.val % 2 = 0) : (outsAt0 m c u.val u.isLt).2.2 = k0_pay1 (iblk m c 0 u) (iblk m c 1 u) := by
  rw [outsAt0_A m c u h (by omega)]
  frame_out

/-- What the second point of a row of blocks leaves, the scratch holding what the first left. -/
theorem sum_eq (c : Dev nD) (t u : Fin cfg0.N) (h : t.val % 2 = 1) (hu : u.val + 1 = t.val) :
    (outsAt0 m c t.val t.isLt).1 = k0_pay3 (k0_pay1 (iblk m c 0 u) (iblk m c 1 u)) (iblk m c 0 t) (iblk m c 1 t) (iblk m c 2 t) := by
  obtain ⟨n, hn⟩ := t
  obtain rfl : n = u.val + 1 := hu.symm
  rw [outsAt0_B m c ⟨u.val + 1, hn⟩ (by show ¬ (u.val + 1) % 2 = 0; omega) h]
  have e : (outsAt0 m c (u.val + 1 - 1) (Nat.lt_of_le_of_lt (Nat.sub_le _ _) hn)).2.2 = k0_pay1 (iblk m c 0 u) (iblk m c 1 u) :=
    scratch_eq m c u (by omega)
  generalize hs : (outsAt0 m c (u.val + 1 - 1) (Nat.lt_of_le_of_lt (Nat.sub_le _ _) hn)).2.2 = s at e ⊢
  frame_out
  subst e
  exact congrArg (fun z => k0_pay3 z (iblk m c 0 ⟨u.val + 1, hn⟩) (iblk m c 1 ⟨u.val + 1, hn⟩) (iblk m c 2 ⟨u.val + 1, hn⟩))
    ((Memref.isWhole_whole cc0_scratch0).read_unread _)

theorem norm_eq (c : Dev nD) (t u : Fin cfg0.N) (h : t.val % 2 = 1) (hu : u.val + 1 = t.val) :
    (outsAt0 m c t.val t.isLt).2.1 = k0_pay4 (k0_pay1 (iblk m c 0 u) (iblk m c 1 u)) (iblk m c 0 t) (iblk m c 1 t) (iblk m c 2 t) (iblk m c 3 t) := by
  obtain ⟨n, hn⟩ := t
  obtain rfl : n = u.val + 1 := hu.symm
  rw [outsAt0_B m c ⟨u.val + 1, hn⟩ (by show ¬ (u.val + 1) % 2 = 0; omega) h]
  have e : (outsAt0 m c (u.val + 1 - 1) (Nat.lt_of_le_of_lt (Nat.sub_le _ _) hn)).2.2 = k0_pay1 (iblk m c 0 u) (iblk m c 1 u) :=
    scratch_eq m c u (by omega)
  generalize hs : (outsAt0 m c (u.val + 1 - 1) (Nat.lt_of_le_of_lt (Nat.sub_le _ _) hn)).2.2 = s at e ⊢
  frame_out
  subst e
  exact congrArg (fun z => k0_pay4 z (iblk m c 0 ⟨u.val + 1, hn⟩) (iblk m c 1 ⟨u.val + 1, hn⟩) (iblk m c 2 ⟨u.val + 1, hn⟩) (iblk m c 3 ⟨u.val + 1, hn⟩))
    ((Memref.isWhole_whole cc0_scratch0).read_unread _)

/-! ### The blocks against the whole arrays -/

abbrev argH (c : Dev nD) : S2048x1024.Idx → EReal :=
  prod (m ((c.tc : Thread nD τ).loc main_arg0)) (m ((c.tc : Thread nD τ).loc main_arg1)) (m ((c.tc : Thread nD τ).loc main_arg2))
abbrev argG (c : Dev nD) : S1024.Idx → EReal := m ((c.tc : Thread nD τ).loc main_arg3)

theorem block_apply (c : Dev nD) (t u : Fin cfg0.N) (h : t.val % 2 = 1) (hu : u.val + 1 = t.val) (a : Fin 512) (s : Fin 1024) (r : Fin 2048)
    (hr : r.val = t.val / 2 * 512 + a.val) :
    k0_pay3 (k0_pay1 (iblk m c 0 u) (iblk m c 1 u)) (iblk m c 0 t) (iblk m c 1 t) (iblk m c 2 t) (ix2 a s) = argH m c (ix2 r s) := by
  rw [pay3_apply, pay1_apply, iblk2 m c t a s r hr]
  refine congrArg₂ (fun p q : EReal => p + q) rfl ?_
  refine Eq.trans ?_ (Fin.sum_univ_add (a := 2048) (b := 2048) fun k : Fin 4096 =>
    Kernel7Ideal.Mm.sq (m ((c.tc : Thread nD τ).loc main_arg0) (ix2 r k)) * m ((c.tc : Thread nD τ).loc main_arg1) (ix2 k s)).symm
  refine congrArg₂ (fun p q : EReal => p + q) (Finset.sum_congr rfl fun k _ => ?_) (Finset.sum_congr rfl fun k _ => ?_)
  · have hk : (Fin.castAdd 2048 k : Fin 4096).val = k.val := rfl
    rw [iblk0 m c u a k r (Fin.castAdd 2048 k) (by omega) (by omega), iblk1 m c u k s (Fin.castAdd 2048 k) (by omega)]
  · have hk : (Fin.natAdd 2048 k : Fin 4096).val = 2048 + k.val := rfl
    rw [iblk0 m c t a k r (Fin.natAdd 2048 k) (by omega) (by omega), iblk1 m c t k s (Fin.natAdd 2048 k) (by omega)]

theorem normed_apply (c : Dev nD) (t u : Fin cfg0.N) (h : t.val % 2 = 1) (hu : u.val + 1 = t.val) (a : Fin 512) (s : Fin 1024) (r : Fin 2048)
    (hr : r.val = t.val / 2 * 512 + a.val) :
    k0_pay4 (k0_pay1 (iblk m c 0 u) (iblk m c 1 u)) (iblk m c 0 t) (iblk m c 1 t) (iblk m c 2 t) (iblk m c 3 t) (ix2 a s)
      = Rms.normed (argH m c) (argG m c) (ix2 r s) := by
  refine (pay4_apply _ _ _ _ _ a s).trans (congrArg₂ (fun p q : EReal => p * q) ?_ (iblk3 m c t s))
  exact congrArg₂ (fun p q : EReal => p * q) (block_apply m c t u h hu a s r hr) (congrArg Rms.inv (funext fun k => block_apply m c t u h hu a k r hr))

theorem final_sum (c : Dev nD) : (dats m 0 c).arrAt 4 cfg0.N = argH m c := by
  funext i
  obtain ⟨r, s, rfl⟩ : ∃ (r : Fin 2048) (s : Fin 1024), i = ix2 r s := ⟨i 0, i 1, ValueIdx.eq_ix2 i⟩
  have hr := r.isLt
  let t : Fin cfg0.N := ⟨r.val / 512 * 2 + 1, by show _ < 8; omega⟩
  let u : Fin cfg0.N := ⟨r.val / 512 * 2, by show _ < 8; omega⟩
  let a : Fin 512 := ⟨r.val % 512, by omega⟩
  have ht0 : t.val / 2 = r.val / 512 := by show (r.val / 512 * 2 + 1) / 2 = _; omega
  have ht1 : t.val % 2 = 1 := by show (r.val / 512 * 2 + 1) % 2 = _; omega
  have ha : a.val = r.val % 512 := rfl
  obtain ⟨-, -, -, -, ⟨e0, e1⟩, -⟩ := index0 t
  have h := ((dats m 0 c).read_blk_arrAt_eq_flushed 4 (fun t t' hf hf' hne => (cfg0.win 4).disjoint_blk fun h => hne (inj4 t t' hf hf' h))
    cfg0.N t t.isLt ((flush0_4 t).2 ht1)).trans (flushed4 m c t)
  refine Eq.trans (congrArg _ (funext fun x => Fin.ext ?_)) ((congrFun h (ix2 a s)).trans ?_)
  · match x with
    | ⟨0, _⟩ => show r.val = win0_4.index t 0 * 512 + 1 * a.val; rw [e0]; omega
    | ⟨1, _⟩ => show s.val = win0_4.index t 1 * 1024 + 1 * s.val; rw [e1]; omega
  · exact (congrFun (sum_eq m c t u ht1 rfl) (ix2 a s)).trans (block_apply m c t u ht1 rfl a s r (by omega))

theorem final_normed (c : Dev nD) : (dats m 0 c).arrAt 5 cfg0.N = Rms.normed (argH m c) (argG m c) := by
  funext i
  obtain ⟨r, s, rfl⟩ : ∃ (r : Fin 2048) (s : Fin 1024), i = ix2 r s := ⟨i 0, i 1, ValueIdx.eq_ix2 i⟩
  have hr := r.isLt
  let t : Fin cfg0.N := ⟨r.val / 512 * 2 + 1, by show _ < 8; omega⟩
  let u : Fin cfg0.N := ⟨r.val / 512 * 2, by show _ < 8; omega⟩
  let a : Fin 512 := ⟨r.val % 512, by omega⟩
  have ht0 : t.val / 2 = r.val / 512 := by show (r.val / 512 * 2 + 1) / 2 = _; omega
  have ht1 : t.val % 2 = 1 := by show (r.val / 512 * 2 + 1) % 2 = _; omega
  have ha : a.val = r.val % 512 := rfl
  obtain ⟨-, -, -, -, -, e0, e1⟩ := index0 t
  have h := ((dats m 0 c).read_blk_arrAt_eq_flushed 5 (fun t t' hf hf' hne => (cfg0.win 5).disjoint_blk fun h => hne (inj5 t t' hf hf' h))
    cfg0.N t t.isLt ((flush0_5 t).2 ht1)).trans (flushed5 m c t)
  refine Eq.trans (congrArg _ (funext fun x => Fin.ext ?_)) ((congrFun h (ix2 a s)).trans ?_)
  · match x with
    | ⟨0, _⟩ => show r.val = win0_5.index t 0 * 512 + 1 * a.val; rw [e0]; omega
    | ⟨1, _⟩ => show s.val = win0_5.index t 1 * 1024 + 1 * s.val; rw [e1]; omega
  · exact (congrFun (norm_eq m c t u ht1 rfl) (ix2 a s)).trans (normed_apply m c t u ht1 rfl a s r (by omega))

theorem run : θ_run defs (onTc (τ := τ) (main (F := Ideal))) ⟨m, fun _ => 0, ρ⟩ fun r => ∀ c : Dev nD,
      r.2.mem ((c.tc : Thread nD τ).loc main_v1_0) = argH m c
      ∧ r.2.mem ((c.tc : Thread nD τ).loc main_v1_1) = Rms.normed (argH m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_sum m c), (h c).2.1.trans (final_normed m c), (h c).2.2⟩) (run_blocks m ρ)

end Cert.Kernel19Ideal.Mm

namespace Cert.Reference19Ideal.Mm

open Cert.Reference19Ideal Cert.Reference19Ideal.Gen Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

abbrev argH (c : Dev nD) : S2048x1024.Idx → EReal :=
  Cert.Kernel7Ideal.Mm.prod (m ((c.tc : Thread nD τ).loc main_arg0)) (m ((c.tc : Thread nD τ).loc main_arg1)) (m ((c.tc : Thread nD τ).loc main_arg2))

theorem run : θ_run defs (onTc (τ := τ) (main (F := Ideal))) ⟨m, fun _ => 0, ρ⟩ fun r => ∀ c : Dev nD,
      r.2.mem ((c.tc : Thread nD τ).loc main_v5) = argH m c
      ∧ r.2.mem ((c.tc : Thread nD τ).loc main_v19) = Rms.normed (argH m c) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans (Cert.Reference7Ideal.Mm.out_eq _ _ _ _ _ _), (h c).2.1.trans ?_, (h c).2.2⟩)
    (Cert.Reference19Ideal.Value.run m ρ)
  rw [show addf _ _ = argH m c from Cert.Reference7Ideal.Mm.out_eq _ _ _ _ _ _]
  exact Rms.normed_all _ _ _ _ _ _ _ _ _

end Cert.Reference19Ideal.Mm

end
-- ==== Proof.LnSwish.lean ====
/- The layer norm of rows of 512 with gain and shift, then the swish, forward. -/
module

public import proofs.«01_k».proof.Proof.Gen.Kernel20Ideal.Value
public import proofs.«01_k».proof.Proof.Gen.Reference20Ideal.Run
public import proofs.«01_k».proof.Proof.Gates
public import proofs.«01_k».proof.Proof.Rows
public import Idealize.ShloMosaic.Lib.Pipeline.ValueKit.Basic

@[expose] public section

set_option maxRecDepth 16384

noncomputable section

namespace Cert.Ln

open Idealize.ShloMosaic hiding ix0 ix1 ix2 ix3
open Idealize.ShloMosaic.ValueIdx
open Cert.Rows

abbrev M : Shape := Mat 512

/-- 512, and what is added under the root. -/
def cols : EReal := Ideal.ofBits .f32 0x44000000#32
def eps : EReal := Ideal.ofBits .f32 0x358637BD#32

/-- A row less its mean. -/
def centred (x : Fin 512 → EReal) (b : Fin 512) : EReal := x b - Ideal.div (∑ k : Fin 512, x k) cols

/-- The reciprocal root of a centred row's mean square. -/
def inv (z : Fin 512 → EReal) : EReal := Ideal.rsqrt (Ideal.div (∑ k : Fin 512, z k * z k) cols + eps)

/-- The layer norm with gain and shift. -/
def normed (x : M.Idx → EReal) (g s : (Gain 512).Idx → EReal) : M.Idx → EReal := fun i =>
  centred (fun k => x (ix2 (i 0) k)) (i 1) * inv (centred fun k => x (ix2 (i 0) k)) * g (ix1 (i 1)) + s (ix1 (i 1))

/-- Its swish, y times the logistic function of y. -/
def swished (x : M.Idx → EReal) (g s : (Gain 512).Idx → EReal) : M.Idx → EReal := fun i => normed x g s i * Gates.sg (normed x g s i)

/-! ### The kernel's block -/

abbrev cent (x : FVec Ideal M .f32) (hr : M.Reduces [1] Height) (hs : Height.ShapeCasts Col) (hc : Col.Broadcasts M) (p : FKind.Formats .f32) (q : (0x00000000#32 : BitVec 32) = FKind.add.neutral .f32 p) : FVec Ideal M .f32 :=
  subf x (broadcastTo M (divf (shapeCast Col (multiReduction .add [1] Height x 0x00000000#32 hr p q) hs) (broadcast Col (Scalar.ofBits (F := Ideal) .f32 0x44000000#32))) hc)

theorem cent_apply (x : FVec Ideal M .f32) (hr hs hc p q) (a : Fin 2048) (b : Fin 512) : cent x hr hs hc p q (ix2 a b) = centred (fun k => x (ix2 a k)) b :=
  congrArg (fun v : EReal => x (ix2 a b) - v) ((col_apply _ hc a b).trans (congrArg (fun v : EReal => Ideal.div v cols) (sum_apply x hr hs p q a)))

abbrev affine (z : FVec Ideal M .f32) (g s : FVec Ideal (Row 512) .f32) (hr : M.Reduces [1] Height) (hs : Height.ShapeCasts Col) (hc : Col.Broadcasts M)
    (ht : (Row 512).ShapeCasts (Row 512)) (hb : (Row 512).Broadcasts M) (p : FKind.Formats .f32) (q : (0x00000000#32 : BitVec 32) = FKind.add.neutral .f32 p) : FVec Ideal M .f32 :=
  addf (mulf (mulf z (broadcastTo M (rsqrt (addf (divf (shapeCast Col (multiReduction .add [1] Height (mulf z z) 0x00000000#32 hr p q) hs)
    (broadcast Col (Scalar.ofBits (F := Ideal) .f32 0x44000000#32))) (broadcast Col (Scalar.ofBits (F := Ideal) .f32 0x358637BD#32)))) hc))
    (broadcastTo M (shapeCast (Row 512) g ht) hb)) (broadcastTo M (shapeCast (Row 512) s ht) hb)

theorem affine_apply (z : FVec Ideal M .f32) (g s : FVec Ideal (Row 512) .f32) (hr hs hc ht hb p q) (a : Fin 2048) (b : Fin 512) :
    affine z g s hr hs hc ht hb p q (ix2 a b) = z (ix2 a b) * inv (fun k => z (ix2 a k)) * g (ix2 (0 : Fin 1) b) + s (ix2 (0 : Fin 1) b) := by
  refine congrArg₂ (fun v w : EReal => v + w) (congrArg₂ (fun v w : EReal => v * w) (congrArg (fun v : EReal => z (ix2 a b) * v) ?_) (row_apply g ht hb a b)) (row_apply s ht hb a b)
  exact (col_apply _ hc a b).trans (congrArg (fun v : EReal => Ideal.rsqrt (Ideal.div v cols + eps)) (sum_apply (mulf z z) hr hs p q a))

theorem kernel_apply (x : FVec Ideal M .f32) (g s : FVec Ideal (Row 512) .f32) (hr hs hc ht hb p q) (a : Fin 2048) (b : Fin 512) :
    affine (cent x hr hs hc p q) g s hr hs hc ht hb p q (ix2 a b)
      = centred (fun k => x (ix2 a k)) b * inv (centred fun k => x (ix2 a k)) * g (ix2 (0 : Fin 1) b) + s (ix2 (0 : Fin 1) b) := by
  have e := cent_apply x hr hs hc p q a
  generalize cent x hr hs hc p q = z at e ⊢
  refine (affine_apply z g s hr hs hc ht hb p q a b).trans ?_
  rw [show (fun k => z (ix2 a k)) = centred fun k => x (ix2 a k) from funext e, e b]

/-! ### The reference's rows -/

abbrev hostCent (x : FVec Ideal M .f32) (hr : M.ReducesTo [1] Height) (hu : 0 < Nil.numel) (hb : Height.BroadcastsInDim Col ![0]) (hn : Nil.BroadcastsInDim Col ![])
    (hc : Col.BroadcastsInDim M ![0, 1]) : FVec Ideal M .f32 :=
  subf x (broadcastInDim M ![0, 1] hc (Host.divf (broadcastInDim Col ![0] hb (Host.reduceAdd x (constant (F := Ideal) Nil .f32 0x00000000#32) hr hu))
    (broadcastInDim Col ![] hn (constant (F := Ideal) Nil .f32 0x44000000#32))))

theorem hostCent_apply (x : FVec Ideal M .f32) (hr hu hb hn hc) (a : Fin 2048) (b : Fin 512) : hostCent x hr hu hb hn hc (ix2 a b) = centred (fun k => x (ix2 a k)) b :=
  congrArg (fun v : EReal => x (ix2 a b) - v) ((hostCol_apply _ hc a b).trans (congrArg (fun v : EReal => Ideal.div v cols) (hostSum_apply x hr hu hb a)))

abbrev hostAffine (z : FVec Ideal M .f32) (g s : FVec Ideal (Gain 512) .f32) (hr : M.ReducesTo [1] Height) (hu : 0 < Nil.numel) (hb : Height.BroadcastsInDim Col ![0])
    (hn : Nil.BroadcastsInDim Col ![]) (hc : Col.BroadcastsInDim M ![0, 1]) (h1 : (Gain 512).BroadcastsInDim (Row 512) ![1]) (h2 : (Row 512).BroadcastsInDim M ![0, 1]) :
    FVec Ideal M .f32 :=
  addf (mulf (mulf z (broadcastInDim M ![0, 1] hc (Host.rsqrt (addf (Host.divf (broadcastInDim Col ![0] hb (Host.reduceAdd (mulf z z) (constant (F := Ideal) Nil .f32 0x00000000#32) hr hu))
    (broadcastInDim Col ![] hn (constant (F := Ideal) Nil .f32 0x44000000#32))) (broadcastInDim Col ![] hn (constant (F := Ideal) Nil .f32 0x358637BD#32))))))
    (broadcastInDim M ![0, 1] h2 (broadcastInDim (Row 512) ![1] h1 g))) (broadcastInDim M ![0, 1] h2 (broadcastInDim (Row 512) ![1] h1 s))

theorem hostAffine_apply (z : FVec Ideal M .f32) (g s : FVec Ideal (Gain 512) .f32) (hr hu hb hn hc h1 h2) (a : Fin 2048) (b : Fin 512) :
    hostAffine z g s hr hu hb hn hc h1 h2 (ix2 a b) = z (ix2 a b) * inv (fun k => z (ix2 a k)) * g (ix1 b) + s (ix1 b) := by
  refine congrArg₂ (fun v w : EReal => v + w) (congrArg₂ (fun v w : EReal => v * w) (congrArg (fun v : EReal => z (ix2 a b) * v) ?_) (hostRow_apply g h1 h2 a b)) (hostRow_apply s h1 h2 a b)
  exact (hostCol_apply _ hc a b).trans (congrArg (fun v : EReal => Ideal.rsqrt (Ideal.div v cols + eps)) (hostSum_apply (mulf z z) hr hu hb a))

theorem host_eq (x : FVec Ideal M .f32) (g s : FVec Ideal (Gain 512) .f32) (hr hu hb hn hc h1 h2) :
    hostAffine (hostCent x hr hu hb hn hc) g s hr hu hb hn hc h1 h2 = normed x g s := by
  funext i
  obtain ⟨a, b, rfl⟩ : ∃ (a : Fin 2048) (b : Fin 512), i = ix2 a b := ⟨i 0, i 1, ValueIdx.eq_ix2 i⟩
  have e := hostCent_apply x hr hu hb hn hc a
  generalize hostCent x hr hu hb hn hc = z at e ⊢
  refine (hostAffine_apply z g s hr hu hb hn hc h1 h2 a b).trans ?_
  rw [show (fun k => z (ix2 a k)) = centred fun k => x (ix2 a k) from funext e, e b]
  rfl

/-- The host's swish. -/
theorem hostSwish (y : FVec Ideal M .f32) (hn : Nil.BroadcastsInDim M (![] : Fin 0 → Fin M.rank)) (i : M.Idx) :
    mulf y (Host.divf (broadcastInDim M ![] hn (constant (F := Ideal) Nil .f32 0x3F800000#32)) (addf (broadcastInDim M ![] hn (constant (F := Ideal) Nil .f32 0x3F800000#32))
      (Host.exp (Host.negf y)))) i = y i * Gates.sg (y i) := by
  show y i * Ideal.div (Ideal.ofBits .f32 0x3F800000#32) (Ideal.ofBits .f32 0x3F800000#32 + Ideal.exp (-(y i))) = _
  rw [Ideal.ofBits_one_f32]
  rfl

end Cert.Ln

namespace Cert.Kernel20Ideal.Mm

open Cert.Kernel20Ideal Cert.Kernel20Ideal.Gen Cert.Kernel20Ideal.Value Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

theorem flush3 : ∀ t : Fin cfg0.N, (cfg0.win 3).flush t = true :=
  (by decide +kernel : ∀ t : Fin grid0.N, (cfg0.win 3).flush t = true)

/-- The one grid point takes whole arrays. -/
theorem index0 : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0))

theorem iblk0 (c : Dev nD) (t : Fin cfg0.N) (a : Fin 2048) (b : Fin 512) : iblk m c 0 t (ix2 a b) = m ((c.tc : Thread nD τ).loc main_arg0) (ix2 a b) := by
  obtain ⟨⟨e0, e1⟩, -⟩ := index0 t
  show V m c main_arg0 _ = _
  rw [V_main_arg0]
  refine congrArg (m ((c.tc : Thread nD τ).loc main_arg0)) (funext fun x => Fin.ext ?_)
  match x with
  | ⟨0, _⟩ => show win0_0.index t 0 * 2048 + 1 * a.val = a.val; rw [e0]; omega
  | ⟨1, _⟩ => show win0_0.index t 1 * 512 + 1 * b.val = b.val; rw [e1]; omega

/-- Gain and shift come as rows. -/
theorem V_gain (c : Dev nD) : V m c main_v0 = shapeCast S1x512 (m ((c.tc : Thread nD τ).loc main_arg1)) shapeCasts_S512_S1x512 := by
  show StableHlo.after (List.flatten [hostOps0]) (fun b => m (c, b)) (Proc.devRef .tc main_v0) = _
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem V_shift (c : Dev nD) : V m c main_v1 = shapeCast S1x512 (m ((c.tc : Thread nD τ).loc main_arg2)) shapeCasts_S512_S1x512 := by
  show StableHlo.after (List.flatten [hostOps0]) (fun b => m (c, b)) (Proc.devRef .tc main_v1) = _
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem iblk1 (c : Dev nD) (t : Fin cfg0.N) (b : Fin 512) : iblk m c 1 t (ix2 (0 : Fin 1) b) = m ((c.tc : Thread nD τ).loc main_arg1) (ix1 b) := by
  obtain ⟨-, ⟨e0, e1⟩, -⟩ := index0 t
  refine Eq.trans ?_ ((congrFun (V_gain m c) (ix2 (0 : Fin 1) b)).trans (Rows.toRow_apply _ _ b))
  show V m c main_v0 _ = _
  refine congrArg (V m c main_v0) (funext fun x => Fin.ext ?_)
  match x with
  | ⟨0, _⟩ => show win0_1.index t 0 * 1 + 1 * 0 = 0; rw [e0]
  | ⟨1, _⟩ => show win0_1.index t 1 * 512 + 1 * b.val = b.val; rw [e1]; omega

theorem iblk2 (c : Dev nD) (t : Fin cfg0.N) (b : Fin 512) : iblk m c 2 t (ix2 (0 : Fin 1) b) = m ((c.tc : Thread nD τ).loc main_arg2) (ix1 b) := by
  obtain ⟨-, -, ⟨e0, e1⟩, -⟩ := index0 t
  refine Eq.trans ?_ ((congrFun (V_shift m c) (ix2 (0 : Fin 1) b)).trans (Rows.toRow_apply _ _ b))
  show V m c main_v1 _ = _
  refine congrArg (V m c main_v1) (funext fun x => Fin.ext ?_)
  match x with
  | ⟨0, _⟩ => show win0_2.index t 0 * 1 + 1 * 0 = 0; rw [e0]
  | ⟨1, _⟩ => show win0_2.index t 1 * 512 + 1 * b.val = b.val; rw [e1]; omega

theorem pay1_eq (x : Vec Ideal S2048x512 .f32) (g s : Vec Ideal S1x512 .f32) (i : S2048x512.Idx) :
    k0_pay1 x g s i = Ln.affine (Ln.cent x reduces_S2048x512_S2048 shapeCasts_S2048_S2048x1 broadcasts_S2048x1_S2048x512 (.inl rfl) rfl) g s reduces_S2048x512_S2048
        shapeCasts_S2048_S2048x1 broadcasts_S2048x1_S2048x512 shapeCasts_S1x512_S1x512 broadcasts_S1x512_S2048x512 (.inl rfl) rfl i
      * Gates.sg (Ln.affine (Ln.cent x reduces_S2048x512_S2048 shapeCasts_S2048_S2048x1 broadcasts_S2048x1_S2048x512 (.inl rfl) rfl) g s reduces_S2048x512_S2048
        shapeCasts_S2048_S2048x1 broadcasts_S2048x1_S2048x512 shapeCasts_S1x512_S1x512 broadcasts_S1x512_S2048x512 (.inl rfl) rfl i) :=
  congrArg (fun v : EReal => Ln.affine (Ln.cent x reduces_S2048x512_S2048 shapeCasts_S2048_S2048x1 broadcasts_S2048x1_S2048x512 (.inl rfl) rfl) g s reduces_S2048x512_S2048
        shapeCasts_S2048_S2048x1 broadcasts_S2048x1_S2048x512 shapeCasts_S1x512_S1x512 broadcasts_S1x512_S2048x512 (.inl rfl) rfl i * v) (Gates.tile _ i)

theorem block_apply (c : Dev nD) (t : Fin cfg0.N) (a : Fin 2048) (b : Fin 512) :
    k0_pay1 (iblk m c 0 t) (iblk m c 1 t) (iblk m c 2 t) (ix2 a b)
      = Ln.swished (m ((c.tc : Thread nD τ).loc main_arg0)) (m ((c.tc : Thread nD τ).loc main_arg1)) (m ((c.tc : Thread nD τ).loc main_arg2)) (ix2 a b) := by
  have e := Ln.kernel_apply (iblk m c 0 t) (iblk m c 1 t) (iblk m c 2 t) reduces_S2048x512_S2048 shapeCasts_S2048_S2048x1 broadcasts_S2048x1_S2048x512
    shapeCasts_S1x512_S1x512 broadcasts_S1x512_S2048x512 (.inl rfl) rfl a b
  rw [show (fun k => iblk m c 0 t (ix2 a k)) = fun k => m ((c.tc : Thread nD τ).loc main_arg0) (ix2 a k) from funext fun k => iblk0 m c t a k, iblk1, iblk2] at e
  refine (pay1_eq _ _ _ _).trans ?_
  rw [e]
  rfl

theorem out3_eq (x : Vec Ideal S2048x512 .f32) (g s : Vec Ideal S1x512 .f32) : out0_3 x g s = k0_pay1 x g s := by
  unfold out0_3
  rw [View.canon_cons_unit_lit _ _ _ (by decide), View.ld_unit_lit _ x (by decide), View.ld_unit_lit _ g (by decide), View.ld_unit_lit _ s (by decide)]

theorem final (c : Dev nD) : (dats m 0 c).arrAt 3 cfg0.N
    = Ln.swished (m ((c.tc : Thread nD τ).loc main_arg0)) (m ((c.tc : Thread nD τ).loc main_arg1)) (m ((c.tc : Thread nD τ).loc main_arg2)) := by
  funext i
  obtain ⟨r, s, rfl⟩ : ∃ (r : Fin 2048) (s : Fin 512), i = ix2 r s := ⟨i 0, i 1, ValueIdx.eq_ix2 i⟩
  let t : Fin cfg0.N := ⟨0, by show 0 < 1; omega⟩
  obtain ⟨-, -, -, e0, e1⟩ := index0 t
  have h := (blocks3 m c t (flush3 t)).trans (flushed3 m c t)
  rw [out3_eq] at h
  refine Eq.trans (congrArg _ (funext fun x => Fin.ext ?_)) ((congrFun h (ix2 r s)).trans (block_apply m c t r s))
  match x with
  | ⟨0, _⟩ => show r.val = win0_3.index t 0 * 2048 + 1 * r.val; rw [e0]; omega
  | ⟨1, _⟩ => show s.val = win0_3.index t 1 * 512 + 1 * s.val; rw [e1]; omega

theorem run : θ_run defs (onTc (τ := τ) (main (F := Ideal))) ⟨m, fun _ => 0, ρ⟩ fun r => ∀ c : Dev nD,
      r.2.mem ((c.tc : Thread nD τ).loc main_v2) = Ln.swished (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Cert.Kernel20Ideal.Mm

namespace Cert.Reference20Ideal.Mm

open Cert.Reference20Ideal Cert.Reference20Ideal.Gen Idealize.ShloMosaic.TcCoe Idealize.SL.Sem
open Idealize.ShloMosaic hiding ix0 ix1 ix2 ix3
open Idealize.ShloMosaic.ValueIdx

theorem out_eq (x : FVec Ideal S2048x512 .f32) (g s : FVec Ideal S512 .f32) (hr hu hb hn hc h1 h2 hm p) :
    truncf .bf16 (mulf (Ln.hostAffine (Ln.hostCent x hr hu hb hn hc) g s hr hu hb hn hc h1 h2) (Host.divf (broadcastInDim S2048x512 ![] hm (constant (F := Ideal) S_ .f32 0x3F800000#32))
      (addf (broadcastInDim S2048x512 ![] hm (constant (F := Ideal) S_ .f32 0x3F800000#32)) (Host.exp (Host.negf (Ln.hostAffine (Ln.hostCent x hr hu hb hn hc) g s hr hu hb hn hc h1 h2)))))) p
      = Ln.swished x g s := by
  rw [Ln.host_eq x g s hr hu hb hn hc h1 h2]
  funext i
  exact Ln.hostSwish (Ln.normed x g s) hm i

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v23) = Ln.swished (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out_eq _ _ _ _ _ _ _ _ _ _ _ _), (h c).2⟩) (Cert.Reference20Ideal.Value.run m ρ)

end Cert.Reference20Ideal.Mm

end
-- ==== Proof.ConvFwdTile.lean ====
/-
  The forward convolution kernel on one block of 128 channels, as plain functions of the block's inputs, over any
  floats. A tile of 128 output rows starts at the bias and adds, for each of the 31 taps in the order `p = 0 … 30`, the
  weight row `30 - lag p` times the padded gated input `lag p` rows earlier: the kernel turns the tile's window of 160
  rows by `p / 4` rows and reads 128 rows of it at a multiple of eight (`fwdAcc`). The sixteen tiles fill the block
  (`out_eq`).
-/
module

public import proofs.«01_k».proof.Proof.Gen.Kernel21Ideal.Frame
public import proofs.«01_k».proof.Proof.ConvBlock

@[expose] public section

set_option maxRecDepth 16384

noncomputable section

namespace Cert.Kernel21Ideal.Mm

open Cert.Kernel21Ideal.Gen Idealize.ShloMosaic Idealize.ShloMosaic.TcCoe Idealize.ShloMosaic.ValueIdx
open Cert.KernelIdeal.Conv (lag turned slices_row slices_rows win win_inb zpad)

variable {F : FTy → Type} [FloatOps F]

/-- A tile after the first taps. `w` is the weight, `b` the bias, `z` the window of the padded gated input. -/
def fwdAcc (w : FVec F S32x128 .f32) (b : FVec F S1x128 .f32) (z : FVec F S160x128 .f32) : ℕ → FVec F S128x128 .f32
  | 0 => addf (broadcast S128x128 (Scalar.ofBits .f32 0x00000000#32 : F .f32)) (broadcastTo S128x128 b broadcasts_S1x128_S128x128)
  | p + 1 => addf (fwdAcc w b z p)
      (mulf (broadcastTo S128x128 (extractStridedSlice S1x128 ![30 - lag p, 0] w (slices_row _ (by omega))) broadcasts_S1x128_S128x128)
        (extractStridedSlice S128x128 ![32 - 8 * (p % 4), 0] (turned (p / 4) z) (slices_rows _ (by omega))))

/-- The block: each row from the tile that holds it. -/
def fwdBlock (a g : Vec F S2048x128 .bf16) (w : Vec F S32x128 .f32) (b : Vec F S1x128 .f32) : Vec F S2048x128 .f32 := fun y =>
  fwdAcc (k0_pay3 w) (k0_pay4 b) (win (zpad a g) ((y 0).val / 128) (by have := (y 0).isLt; change _ < 2048 at this; omega)) 31
    (ix2 ⟨(y 0).val % 128, Nat.mod_lt _ (by decide)⟩ (y 1))

/-- The padded gated input, as the two stores leave it. -/
theorem read_zpad (m : Memref sig .tc .vmem S2080x128 .f32) (f : BufTy.Contents (Elt F) m.view.ty) (a g : Vec F S2048x128 .bf16) (h0 h1) :
    m.view.read (Elt F) (m.view.writes (Elt F) f [⟨Rect.unit (s := S2080x128) ![32, 0] S2048x128.size h0, k0_pay2 a g⟩, ⟨Rect.unit (s := S2080x128) ![0, 0] S32x128.size h1, k0_pay1 (F := F)⟩]) = zpad a g := by
  funext y
  have hy := (y 0).isLt; change _ < 2080 at hy
  unfold zpad
  by_cases h : (y 0).val < 32
  · rw [dif_pos h]
    exact (View.read_writes_cons_rows_of_not_mem m.view f h0 _ _ y rfl rfl (.inl h)).trans
      (View.read_writes_cons_rows_of_mem m.view f h1 _ _ y (ix2 ⟨(y 0).val, h⟩ (y 1)) rfl (Nat.zero_add _).symm rfl)
  · rw [dif_neg h]
    exact View.read_writes_cons_rows_of_mem m.view f h0 _ _ y (ix2 ⟨(y 0).val - 32, by omega⟩ (y 1)) rfl
      (by show (y 0).val = 32 + ((y 0).val - 32); omega) rfl

theorem trips_eq : k0_t1_loop.trips = 16 := by decide +kernel

section Body

variable (𝒱 : Variants) (bd : Option 𝒱.V) (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S32x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2080x128 .f32) (harg6 : arg6.IsWhole)
  (a g : Vec F S2048x128 .bf16) (w : Vec F S32x128 .f32) (b : Vec F S1x128 .f32) (X : BufTy.Contents (Elt F) arg6.view.ty)

set_option maxHeartbeats 1000000 in
/-- One trip stores one tile. -/
theorem trip_eq (k : Fin k0_t1_loop.trips) :
    tripL_k0_t1 (F := F) 𝒱 c bd i arg1 harg1 arg2 harg2 arg3 harg3 arg4 harg4 arg5 harg5 arg6 harg6 w b X k
      = [⟨Rect.unit (s := S2048x128) (k0_off2 k) S128x128.size (k0_off2_inb k),
          fwdAcc (k0_pay3 w) (k0_pay4 b) (arg6.view.readAt (Elt F) (Rect.unit (s := S2080x128) (k0_off1 k) S160x128.size (k0_off1_inb k)).toLoadRect X) 31⟩] := by
  unfold tripL_k0_t1 trip_k0_t1
  rfl

/-- What the first `k` tiles leave: the block's rows below `128 * k`. -/
theorem tiles_done (hX : arg6.view.read (Elt F) X = zpad a g) (v : View sig .tc .vmem S2048x128 .f32) (G : BufTy.Contents (Elt F) v.ty) : ∀ (k : ℕ) (hk : k ≤ 16),
      ∀ y, (y 0).val < 128 * k → v.read (Elt F) (v.writes (Elt F) G
        (pb_k0_t1 (F := F) 𝒱 c bd i arg1 harg1 arg2 harg2 arg3 harg3 arg4 harg4 arg5 harg5 arg6 harg6 w b X k)) y = fwdBlock a g w b y
  | 0, _ => fun y h => absurd h (by omega)
  | k + 1, hk => by
    have ih := tiles_done hX v G k (Nat.le_of_succ_le hk)
    have hk' : k < k0_t1_loop.trips := by rw [trips_eq]; exact hk
    have e6 : arg6.view.readAt (Elt F) (Rect.unit (s := S2080x128) (k0_off1 ⟨k, hk'⟩) S160x128.size (k0_off1_inb ⟨k, hk'⟩)).toLoadRect X = win (zpad a g) k hk := by
      rw [← hX]; exact View.readAt_unit arg6.view X (k0_off1_inb ⟨k, hk'⟩) (k0_off1_eq ⟨k, hk'⟩) (win_inb _ hk)
    have e := pb_k0_t1_succ (F := F) 𝒱 c bd i arg1 harg1 arg2 harg2 arg3 harg3 arg4 harg4 arg5 harg5 arg6 harg6 w b X ⟨k, hk'⟩
    rw [trip_eq, e6] at e
    intro y hy
    rw [show pb_k0_t1 (F := F) 𝒱 c bd i arg1 harg1 arg2 harg2 arg3 harg3 arg4 harg4 arg5 harg5 arg6 harg6 w b X (k + 1) = _ from e, View.writes_append]
    by_cases h : (y 0).val < 128 * k
    · exact (View.read_writes_cons_rows_of_not_mem v _ (k0_off2_inb ⟨k, hk'⟩) _ _ y (k0_off2_eq ⟨k, hk'⟩) rfl (.inl h)).trans (ih y h)
    · have e : (y 0).val / 128 = k := by omega
      refine (View.read_writes_cons_rows_of_mem v _ (k0_off2_inb ⟨k, hk'⟩) _ _ y (ix2 ⟨(y 0).val % 128, Nat.mod_lt _ (by decide)⟩ (y 1)) (k0_off2_eq ⟨k, hk'⟩)
        (by show (y 0).val = 128 * k + (y 0).val % 128; omega) rfl).trans ?_
      have same : ∀ (q : ℕ) (hq : q < 16), q = k → win (zpad a g) k hk = win (zpad a g) q hq := by rintro _ _ rfl; rfl
      unfold fwdBlock
      rw [same _ _ e]

/-- What the body leaves in the result's block. -/
theorem out_eq : out0_A_4 c i arg1 harg1 arg2 harg2 arg3 harg3 arg4 harg4 arg5 harg5 arg6 harg6 a g w b = fwdBlock a g w b := by
  have r1 : arg1.view.readAt (Elt F) (Rect.unit (s := S2048x128) ![0, 0] S2048x128.size inb_S2048x128_S2048x128_0_0).toLoadRect (harg1.unread a) = a :=
    (View.readAt_full _ _ _).trans (harg1.read_unread a)
  have r2 : arg2.view.readAt (Elt F) (Rect.unit (s := S2048x128) ![0, 0] S2048x128.size inb_S2048x128_S2048x128_0_0).toLoadRect (harg2.unread g) = g :=
    (View.readAt_full _ _ _).trans (harg2.read_unread g)
  have r3 : arg3.view.readAt (Elt F) (Rect.unit (s := S32x128) ![0, 0] S32x128.size inb_S32x128_S32x128_0_0).toLoadRect (harg3.unread w) = w :=
    (View.readAt_full _ _ _).trans (harg3.read_unread w)
  have r4 : arg4.view.readAt (Elt F) (Rect.unit (s := S1x128) ![0, 0] S1x128.size inb_S1x128_S1x128_0_0).toLoadRect (harg4.unread b) = b :=
    (View.readAt_full _ _ _).trans (harg4.read_unread b)
  unfold out0_A_4 kernelRun0_A
  dsimp only
  have hX : arg6.view.read (Elt F) (arg6.view.writes (Elt F) arg6.view.junk (kernelRun0_A.sl.HS0_2 c arg1 harg1 arg2 harg2 a g)) = zpad a g := by
    unfold kernelRun0_A.sl.HS0_2
    refine (read_zpad arg6 _ _ _ _ _).trans ?_
    rw [r1, r2]
  have T := tiles_done Variants.none none c i arg1 harg1 arg2 harg2 arg3 harg3 arg4 harg4 arg5 harg5 arg6 harg6 a g w b _ hX VO0_4 VO0_4.junk 16 le_rfl
  rw [← trips_eq] at T
  have e : ∀ (w' : Vec F S32x128 .f32) (b' : Vec F S1x128 .f32), w' = w → b' = b →
      VO0_4.read (Elt F) (VO0_4.writes (Elt F) VO0_4.junk
        (pb_k0_t1 (F := F) Variants.none c none i arg1 harg1 arg2 harg2 arg3 harg3 arg4 harg4 arg5 harg5 arg6 harg6 w' b'
          (arg6.view.writes (Elt F) arg6.view.junk (kernelRun0_A.sl.HS0_2 c arg1 harg1 arg2 harg2 a g)) k0_t1_loop.trips)) = fwdBlock a g w b := by
    rintro _ _ rfl rfl
    exact funext fun y => T y (by rw [trips_eq]; exact (y 0).isLt)
  exact e _ _ r3 r4

end Body

end Cert.Kernel21Ideal.Mm

end
-- ==== Proof.ConvFwd.lean ====
/-
  The forward convolution: kernel and reference leave the same array. At the extended reals an entry is the bias plus
  the sum over the 31 taps of the weight times the gated input under its 30 rows of zeros (`convF`); the kernel takes
  the taps in the order of `ConvFwdTile`, the reference from the first to the last.
-/
module

public import proofs.«01_k».proof.Proof.ConvFwdTile
public import proofs.«01_k».proof.Proof.ConvReference
public import proofs.«01_k».proof.Proof.Gen.Reference21Ideal.Run

@[expose] public section

set_option maxRecDepth 16384

noncomputable section

namespace Cert.ConvFwd

open Idealize.ShloMosaic.ValueIdx
open Idealize.ShloMosaic hiding ix0 ix1 ix2 ix3
open Cert.KernelIdeal.Conv (colz under gated valU gateU)

/-- A column of the causal convolution at row `t`, without the bias. -/
def convAt (w z : ℕ → EReal) (t : ℕ) : EReal := ∑ j : Fin 31, w j.val * under z (t + j.val)

/-- The convolution of the gated input, with the bias. -/
def convF (u : (⟨2, ![2048, 7680]⟩ : Shape).Idx → EReal) (w : (⟨2, ![31, 512]⟩ : Shape).Idx → EReal)
    (b : (⟨1, ![512]⟩ : Shape).Idx → EReal) : (⟨2, ![2048, 512]⟩ : Shape).Idx → EReal := fun i =>
  b (ix1 (i 1)) + convAt (colz (n := 31) w (i 1)) (colz (n := 2048) (gated (valU u) (gateU u)) (i 1)) (i 0).val

end Cert.ConvFwd

namespace Cert.Kernel21Ideal.Mm

open Cert.Kernel21Ideal.Gen Idealize.ShloMosaic.TcCoe Idealize.ShloMosaic.ValueIdx
open Idealize.ShloMosaic hiding ix0 ix1 ix2 ix3
open Idealize.SL.Sem
open Cert.KernelIdeal.Conv (lag lag_lt lagEquiv turned turned_apply win win_apply zpad zpad_apply colz colz_of under gated valU gateU)
open Cert.ConvFwd (convAt convF)

/-- A tile's entry: the bias and the sum over the taps taken so far. -/
theorem fwdAcc_apply (w : FVec Ideal S32x128 .f32) (b : FVec Ideal S1x128 .f32) (z : FVec Ideal S160x128 .f32) (r c : Fin 128) (n : ℕ) (hn : n ≤ 31) :
    fwdAcc w b z n (ix2 r c) = b (ix2 0 c) + ∑ p : Fin n, w (ix2 ⟨30 - lag p.val, by omega⟩ c)
      * z (ix2 ⟨32 + r.val - lag p.val, by omega⟩ c) := by
  induction n with
  | zero =>
    have e : broadcastTo S128x128 b broadcasts_S1x128_S128x128 (ix2 r c) = b (ix2 0 c) := congrArg b (funext fun a => Fin.ext (by
      match a with
      | ⟨0, _⟩ => rfl
      | ⟨1, _⟩ => rfl))
    refine (congrArg (fun x : EReal => Ideal.ofBits .f32 0x00000000#32 + x) e).trans ?_
    rw [Ideal.ofBits_zero_f32, zero_add, Finset.univ_eq_empty, Finset.sum_empty, add_zero]
  | succ p ih =>
    have hl := lag_lt p (by omega)
    show fwdAcc w b z p (ix2 r c) + (broadcastTo S128x128 _ _ (ix2 r c)) * (extractStridedSlice S128x128 _ _ _ (ix2 r c)) = _
    rw [ih (by omega), Fin.sum_univ_castSucc, add_assoc]
    congr 2
    congr 1
    · refine extractStridedSlice_apply _ w _ _ (ix2 ⟨30 - lag p, by omega⟩ c) ?_
      intro a
      match a with
      | ⟨0, _⟩ => rfl
      | ⟨1, _⟩ => show c.val = 0 + c.val; omega
    · refine (extractStridedSlice_apply _ _ _ _ (ix2 ⟨32 - 8 * (p % 4) + r.val, by omega⟩ c) ?_).trans ?_
      · intro a
        match a with
        | ⟨0, _⟩ => rfl
        | ⟨1, _⟩ => show c.val = 0 + c.val; omega
      · rw [turned_apply _ (by omega) _ _ _ (by show p / 4 ≤ 32 - 8 * (p % 4) + r.val; omega)]
        congr 2
        apply Fin.ext
        show 32 - 8 * (p % 4) + r.val - p / 4 = 32 + r.val - lag p
        unfold lag; omega

/-- A block's entry. -/
theorem fwdBlock_apply (a g : Vec Ideal S2048x128 .bf16) (w : Vec Ideal S32x128 .f32) (b : Vec Ideal S1x128 .f32) (t : Fin 2048) (c : Fin 128) :
    fwdBlock a g w b (ix2 t c) = b (ix2 0 c) + convAt (colz (n := 32) w c) (colz (n := 2048) (gated a g) c) t.val := by
  refine (fwdAcc_apply _ _ _ ⟨t.val % 128, by omega⟩ c 31 le_rfl).trans ?_
  refine congrArg₂ (fun p q : EReal => p + q) (shapeCast_apply b _ _ _ rfl) ?_
  unfold convAt
  refine Fintype.sum_equiv (lagEquiv.trans Fin.revPerm) _ _ fun p => ?_
  have hl := lag_lt p.val p.isLt
  have e : ((lagEquiv.trans Fin.revPerm) p).val = 30 - lag p.val := by
    show 31 - (lag p.val + 1) = 30 - lag p.val; omega
  rw [e, win_apply, colz_of _ _ _ (by omega)]
  refine congrArg₂ (fun p q : EReal => p * q) (shapeCast_apply w _ _ _ rfl) ((zpad_apply a g _ c ?_).trans ?_)
  · show 2 ≤ 128 * (t.val / 128) + (32 + t.val % 128 - lag p.val); omega
  · congr 1
    show 128 * (t.val / 128) + (32 + t.val % 128 - lag p.val) - 2 = t.val + (30 - lag p.val); omega

/-! ## The result array -/

variable (m : (ℓ : Loc nD τ sig) → Buf (Elt Ideal) ℓ) (ρ : Dev nD → PrngReg)

/-- The arguments: the projection's output (value half in columns 0…511, gate half in 512…1023), the taps, the bias. -/
abbrev argU (c : Dev nD) : Vec Ideal S2048x7680 .bf16 := m ((c : Thread nD τ).loc main_arg0)
abbrev argW (c : Dev nD) : Vec Ideal S31x512 .f32 := m ((c : Thread nD τ).loc main_arg1)
abbrev argB (c : Dev nD) : Vec Ideal S512 .f32 := m ((c : Thread nD τ).loc main_arg2)

/-- The weight the host pads to 32 rows, and the bias it makes a row. -/
theorem V_main_v0 (c : Dev nD) : V m c main_v0
    = pad S32x512 ![0, 0] ![1, 0] ![0, 0] (argW m c) (sitofp .f32 (constantI S_ 32 0#32) : FVec Ideal S_ .f32) pads_S31x512_S32x512_010_000 h_S_ := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp

theorem V_main_v1 (c : Dev nD) : V m c main_v1 = shapeCast S1x512 (argB m c) shapeCasts_S512_S1x512 := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

theorem index0 : ∀ t : Fin cfg0.N, (win0_0.index t 0 = 0 ∧ win0_0.index t 1 = t.val) ∧ (win0_1.index t 0 = 0 ∧ win0_1.index t 1 = t.val + 4)
    ∧ (win0_2.index t 0 = 0 ∧ win0_2.index t 1 = t.val) ∧ (win0_3.index t 0 = 0 ∧ win0_3.index t 1 = t.val)
    ∧ (win0_4.index t 0 = 0 ∧ win0_4.index t 1 = t.val) :=
  (by decide +kernel : ∀ t : Fin grid0.N, _)

/-- The grid point whose blocks hold column `ch`, and the lane there. -/
def ptOf (ch : Fin 512) : Fin cfg0.N := ⟨ch.val / 128, by show ch.val / 128 < 4; omega⟩
def laneOf (ch : Fin 512) : Fin 128 := ⟨ch.val % 128, by omega⟩

theorem pt_lane (ch : Fin 512) : 128 * (ptOf ch).val + (laneOf ch).val = ch.val := by
  show 128 * (ch.val / 128) + ch.val % 128 = ch.val; omega

theorem val_at (c : Dev nD) (ch : Fin 512) (r : Fin 2048) : iblk m c 0 (ptOf ch) (ix2 r (laneOf ch)) = valU (argU m c) (ix2 r ch) := by
  obtain ⟨⟨e0, e1⟩, -⟩ := index0 (ptOf ch)
  have hp := pt_lane ch
  show V m c main_arg0 _ = _
  rw [V_main_arg0]
  refine congrArg (argU m c) (funext fun a => Fin.ext ?_)
  match a with
  | ⟨0, _⟩ => show win0_0.index (ptOf ch) 0 * 2048 + 1 * r.val = r.val; rw [e0]; omega
  | ⟨1, _⟩ => show win0_0.index (ptOf ch) 1 * 128 + 1 * (laneOf ch).val = ch.val; rw [e1]; omega

theorem gate_at (c : Dev nD) (ch : Fin 512) (r : Fin 2048) : iblk m c 1 (ptOf ch) (ix2 r (laneOf ch)) = gateU (argU m c) (ix2 r ch) := by
  obtain ⟨-, ⟨e0, e1⟩, -⟩ := index0 (ptOf ch)
  have hp := pt_lane ch
  show V m c main_arg0 _ = _
  rw [V_main_arg0]
  refine congrArg (argU m c) (funext fun a => Fin.ext ?_)
  match a with
  | ⟨0, _⟩ => show win0_1.index (ptOf ch) 0 * 2048 + 1 * r.val = r.val; rw [e0]; omega
  | ⟨1, _⟩ => show win0_1.index (ptOf ch) 1 * 128 + 1 * (laneOf ch).val = 512 + ch.val; rw [e1]; omega

theorem tap_at (c : Dev nD) (ch : Fin 512) (j : Fin 31) : iblk m c 2 (ptOf ch) (ix2 ⟨j.val, by omega⟩ (laneOf ch)) = argW m c (ix2 j ch) := by
  obtain ⟨-, -, ⟨e0, e1⟩, -⟩ := index0 (ptOf ch)
  have hp := pt_lane ch
  show V m c main_v0 _ = _
  rw [V_main_v0]
  refine pad_apply_of_inside _ _ _ (argW m c) _ _ _ _ (ix2 j ch) fun a => ?_
  match a with
  | ⟨0, _⟩ => show win0_2.index (ptOf ch) 0 * 32 + 1 * j.val = 0 + j.val * 1; rw [e0]; omega
  | ⟨1, _⟩ => show win0_2.index (ptOf ch) 1 * 128 + 1 * (laneOf ch).val = 0 + ch.val * 1; rw [e1]; omega

theorem bias_at (c : Dev nD) (ch : Fin 512) : iblk m c 3 (ptOf ch) (ix2 0 (laneOf ch)) = argB m c (ix1 ch) := by
  obtain ⟨-, -, -, ⟨e0, e1⟩, -⟩ := index0 (ptOf ch)
  have hp := pt_lane ch
  show V m c main_v1 _ = _
  rw [V_main_v1]
  refine Eq.trans (congrArg _ (funext fun a => Fin.ext ?_)) (Cert.ReferenceIdeal.Conv.row_of_flat (argB m c) ch)
  match a with
  | ⟨0, _⟩ => show win0_3.index (ptOf ch) 0 * 1 + 1 * 0 = 0; rw [e0]
  | ⟨1, _⟩ => show win0_3.index (ptOf ch) 1 * 128 + 1 * (laneOf ch).val = ch.val; rw [e1]; omega

theorem inj4 : ∀ t t' : Fin cfg0.N, win0_4.index t = win0_4.index t' → t = t' :=
  (by decide +kernel : ∀ t t' : Fin grid0.N, win0_4.index t = win0_4.index t' → t = t')

/-- The result at an entry is what the grid point of its column wrote there. -/
theorem arr4 (c : Dev nD) (r : Fin 2048) (ch : Fin 512) :
    ((dats m 0 c).arrAt 4 cfg0.N : Vec Ideal S2048x512 .f32) (ix2 r ch) = (dats m 0 c).after 4 (ptOf ch) (ix2 r (laneOf ch)) := by
  obtain ⟨-, -, -, -, ⟨e0, e1⟩⟩ := index0 (ptOf ch)
  have h := (dats m 0 c).read_blk_arrAt_eq_flushed 4 (fun t t' _ _ hne => (cfg0.win 4).disjoint_blk fun h => hne (inj4 t t' h))
    cfg0.N (ptOf ch) (ptOf ch).isLt (flush0_4 _)
  refine Eq.trans (congrArg _ (funext fun a => Fin.ext ?_)) (congrFun h (ix2 r (laneOf ch)))
  have hp := pt_lane ch
  match a with
  | ⟨0, _⟩ => show r.val = win0_4.index (ptOf ch) 0 * 2048 + 1 * r.val; rw [e0]; omega
  | ⟨1, _⟩ => show ch.val = win0_4.index (ptOf ch) 1 * 128 + 1 * (laneOf ch).val; rw [e1]; omega

/-- The convolution's sum over the padded weight's column is the one over the argument's. -/
theorem conv_cols (c : Dev nD) (ch : Fin 512) (t : ℕ) :
    convAt (colz (n := 32) (iblk m c 2 (ptOf ch)) (laneOf ch)) (colz (n := 2048) (gated (iblk m c 0 (ptOf ch)) (iblk m c 1 (ptOf ch)) : S2048x128.Idx → EReal) (laneOf ch)) t
      = convAt (colz (n := 31) (argW m c) ch) (colz (n := 2048) (gated (valU (argU m c)) (gateU (argU m c))) ch) t := by
  have e : colz (n := 2048) (gated (iblk m c 0 (ptOf ch)) (iblk m c 1 (ptOf ch)) : S2048x128.Idx → EReal) (laneOf ch)
      = colz (n := 2048) (gated (valU (argU m c)) (gateU (argU m c))) ch := by
    funext s
    unfold colz
    refine dite_congr rfl (fun h => ?_) fun _ => rfl
    unfold gated
    rw [val_at, gate_at]
  rw [e]
  unfold convAt
  refine Finset.sum_congr rfl fun j _ => congrArg (fun x : EReal => x * _) ?_
  rw [colz_of _ _ _ (by omega : j.val < 32), colz_of _ _ _ j.isLt]
  exact tap_at m c ch j

theorem final (c : Dev nD) : (dats m 0 c).arrAt 4 cfg0.N = convF (argU m c) (argW m c) (argB m c) := by
  funext i
  obtain ⟨r, ch, rfl⟩ : ∃ (r : Fin 2048) (ch : Fin 512), i = ix2 r ch := ⟨i 0, i 1, ValueIdx.eq_ix2 i⟩
  refine (arr4 m c r ch).trans ?_
  rw [after0_4]
  unfold outsAt0
  rw [out_eq]
  refine (fwdBlock_apply _ _ _ _ r (laneOf ch)).trans ?_
  rw [conv_cols, bias_at]
  rfl

/-- The run of @main: the result as a function of the arguments, the arguments unchanged. -/
theorem run : θ_run defs (onTc (τ := τ) (main (F := Ideal))) ⟨m, fun _ => 0, ρ⟩ fun r => ∀ c : Dev nD,
      r.2.mem ((c.tc : Thread nD τ).loc main_v2) = convF (argU m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 4).trans (final m c), h.2 c⟩) (θ_run_and (run_main m ρ) (unchanged m ρ))

end Cert.Kernel21Ideal.Mm

namespace Cert.Reference21Ideal.Mm

open Cert.Reference21Ideal Cert.Reference21Ideal.Gen Cert.Reference21Ideal.Value Idealize.ShloMosaic.TcCoe Idealize.ShloMosaic.ValueIdx
open Idealize.ShloMosaic hiding ix0 ix1 ix2 ix3
open Idealize.ShloMosaic.StableHlo Idealize.SL.Sem
open Cert.KernelIdeal.Conv (colz colz_of under sg gated valU gateU)
open Cert.ReferenceIdeal.Conv (slices_tap slices_shift)
open Cert.ConvFwd (convAt convF)

variable (V0 : Valuation τ sig (Elt Ideal))

abbrev rU : FVec Ideal S2048x7680 .bf16 := V0 (Proc.devRef .tc main_arg0)
abbrev rW : FVec Ideal S31x512 .f32 := V0 (Proc.devRef .tc main_arg1)
abbrev rB : FVec Ideal S512 .f32 := V0 (Proc.devRef .tc main_arg2)

/-- The value half's and the gate half's entries. -/
theorem val_apply (i : S2048x512.Idx) : extractStridedSlice S2048x512 ![0, 0] (rU V0) slices_S2048x7680_S2048x512_0_0 i = valU (rU V0) i := by
  refine extractStridedSlice_apply ![0, 0] (rU V0) slices_S2048x7680_S2048x512_0_0 _ _ fun a => ?_
  match a with
  | ⟨0, _⟩ => show (i 0).val = 0 + (i 0).val; omega
  | ⟨1, _⟩ => show (i 1).val = 0 + (i 1).val; omega

theorem gate_apply (i : S2048x512.Idx) : extractStridedSlice S2048x512 ![0, 512] (rU V0) slices_S2048x7680_S2048x512_0_512 i = gateU (rU V0) i := by
  refine extractStridedSlice_apply _ _ _ _ _ fun a => ?_
  match a with
  | ⟨0, _⟩ => show (i 0).val = 0 + (i 0).val; omega
  | ⟨1, _⟩ => rfl

/-- The gated input under its zero rows. -/
theorem z_apply (s : Fin 2078) (c : Fin 512) :
    res_main_v12 V0 (ix2 s c) = under (colz (n := 2048) (gated (valU (rU V0)) (gateU (rU V0))) c) s.val := by
  unfold res_main_v12 under
  by_cases h : s.val < 30
  · rw [if_pos h]
    refine (concatenate_pair_apply_left (t := S2078x512) (0 : Fin 2) _ _ concatenates_S30x512_S2048x512_S2078x512_d0 (ix2 s c) rfl (ix2 (⟨s.val, h⟩ : Fin 30) c) fun b => ?_).trans ?_
    · match b with
      | ⟨0, _⟩ => rfl
      | ⟨1, _⟩ => rfl
    · exact Ideal.ofBits_zero_f32
  · rw [if_neg h, colz_of _ _ _ (by omega)]
    refine (concatenate_pair_apply_right (t := S2078x512) (0 : Fin 2) _ _ concatenates_S30x512_S2048x512_S2078x512_d0 (ix2 s c) rfl rfl (ix2 (⟨s.val - 30, by omega⟩ : Fin 2048) c)
      (fun b hb => ?_) ?_).trans ?_
    · match b with
      | ⟨0, _⟩ => exact absurd rfl hb
      | ⟨1, _⟩ => rfl
    · show s.val - 30 + 30 = s.val; omega
    · refine congrArg₂ (fun p q : EReal => p * Ideal.div (Ideal.ofBits .f32 0x3F800000#32) (Ideal.ofBits .f32 0x3F800000#32 + Ideal.exp (-q)))
        (val_apply V0 _) (gate_apply V0 _) |>.trans ?_
      beta_reduce
      rw [Ideal.ofBits_one_f32]
      rfl

/-- The sum after the first taps. -/
def refAcc : (n : ℕ) → n ≤ 31 → FVec Ideal S2048x512 .f32
  | 0, _ => addf (broadcastInDim S2048x512 ![0, 1] bcast_S1x512_S2048x512_0_1 (broadcastInDim S1x512 ![1] bcast_S512_S1x512_1 (rB V0)))
      (broadcastInDim S2048x512 ![] bcast_S_S2048x512 (constant S_ .f32 0x00000000#32))
  | n + 1, h => addf (refAcc n (by omega)) (mulf (broadcastInDim S2048x512 ![0, 1] bcast_S1x512_S2048x512_0_1
      (broadcastInDim S1x512 ![1] bcast_S512_S1x512_1 (shapeCast S512 (extractStridedSlice S1x512 ![n, 0] (rW V0) (slices_tap n (by omega))) shapeCasts_S1x512_S512)))
      (extractStridedSlice S2048x512 ![n, 0] (res_main_v12 V0) (slices_shift n (by omega))))

theorem row_apply (x : FVec Ideal S512 .f32) (r : Fin 2048) (c : Fin 512) :
    broadcastInDim S2048x512 ![0, 1] bcast_S1x512_S2048x512_0_1 (broadcastInDim S1x512 ![1] bcast_S512_S1x512_1 x) (ix2 r c) = x (ix1 c) := by
  refine (broadcastInDim_apply _ _ _ _ (ix2 (0 : Fin 1) c) fun a => ?_).trans (broadcastInDim_apply _ _ _ _ (ix1 c) fun a => ?_)
  · match a with
    | ⟨0, _⟩ => rfl
    | ⟨1, _⟩ => rfl
  · match a with
    | ⟨0, _⟩ => rfl

theorem refAcc_apply (n : ℕ) (hn : n ≤ 31) (r : Fin 2048) (c : Fin 512) :
    refAcc V0 n hn (ix2 r c) = rB V0 (ix1 c) + ∑ j : Fin n, colz (n := 31) (rW V0) c j.val
      * under (colz (n := 2048) (gated (valU (rU V0)) (gateU (rU V0))) c) (r.val + j.val) := by
  induction n with
  | zero =>
    refine (congrArg₂ (fun p q : EReal => p + q) (row_apply (rB V0) r c) Ideal.ofBits_zero_f32).trans ?_
    rw [Finset.univ_eq_empty, Finset.sum_empty]
  | succ k ih =>
    rw [Fin.sum_univ_castSucc, ← add_assoc]
    refine congrArg₂ (fun p q : EReal => p + q) (ih (by omega)) (congrArg₂ (fun p q : EReal => p * q) ?_ ?_)
    · rw [row_apply]
      refine ((shapeCast_apply _ _ _ (ix2 (0 : Fin 1) c) ?_).trans (extractStridedSlice_apply _ _ _ _ _ fun a => ?_)).trans (colz_of _ _ _ (by show k < 31; omega)).symm
      · exact (Shape.rowMajor_val_two (ix2 (0 : Fin 1) c)).trans ((by show 0 * 512 + c.val = c.val; omega : _ = _).trans (Shape.rowMajor_val_one (ix1 c)).symm)
      · match a with
        | ⟨0, _⟩ => rfl
        | ⟨1, _⟩ => show c.val = 0 + c.val; omega
    · refine (extractStridedSlice_apply _ _ _ _ (ix2 (⟨r.val + k, by omega⟩ : Fin 2078) c) fun a => ?_).trans (z_apply V0 _ c)
      match a with
      | ⟨0, _⟩ => show r.val + k = k + r.val; omega
      | ⟨1, _⟩ => show c.val = 0 + c.val; omega

theorem out_eq : refAcc V0 31 le_rfl = convF (rU V0) (rW V0) (rB V0) := by
  funext i
  obtain ⟨r, c, rfl⟩ : ∃ (r : Fin 2048) (c : Fin 512), i = ix2 r c := ⟨i 0, i 1, ValueIdx.eq_ix2 i⟩
  exact refAcc_apply V0 31 le_rfl r c

variable (m : (ℓ : Loc nD τ sig) → Buf (Elt Ideal) ℓ) (ρ : Dev nD → PrngReg)

/-- The run of the reference: the same function of the arguments. -/
theorem run : θ_run defs (onTc (τ := τ) (main (F := Ideal))) ⟨m, fun _ => 0, ρ⟩ fun r => ∀ c : Dev nD,
      r.2.mem ((c.tc : Thread nD τ).loc main_v233) = convF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((by unfold res_main_v177 res_main_v93; rfl : _ = refAcc (launchContents m c) 31 le_rfl).trans (out_eq (launchContents m c))), (h c).2⟩)
    (Cert.Reference21Ideal.Value.run m ρ)

end Cert.Reference21Ideal.Mm

end
-- ==== Proof.Loss.lean ====
/- The loss head: half the sum over the rows of their mean squared differences, and its derivative. -/
module

public import proofs.«01_k».proof.Proof.Gen.Kernel22Ideal.Value
public import proofs.«01_k».proof.Proof.Gen.Reference22Ideal.Run
public import proofs.«01_k».proof.Proof.Rows
public import Idealize.ShloMosaic.Lib.Pipeline.ValueKit.Acc

@[expose] public section

set_option maxRecDepth 16384

noncomputable section

namespace Cert.Loss

open Idealize.ShloMosaic hiding ix0 ix1 ix2 ix3
open Idealize.ShloMosaic.ValueIdx
open Cert.Rows

abbrev One : Shape := ⟨2, ![1, 1]⟩

/-! ### The constants -/

theorem half_eq : Ideal.ofBits .f32 0x3F000000#32 = (((1 : ℝ) / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem cols_eq : Ideal.ofBits .f32 0x44800000#32 = ((1024 : ℝ) : EReal) := by
  simp [Ideal.ofBits, Ideal.ieee, -EReal.coe_mul]; norm_num

theorem mean_eq : Ideal.ofBits .f32 0x3A800000#32 = (((1 : ℝ) / 1024 : ℝ) : EReal) := by
  simp [Ideal.ofBits, Ideal.ieee, -EReal.coe_mul]; norm_num

theorem halfMean_eq : Ideal.ofBits .f32 0x3A000000#32 = (((1 : ℝ) / 2048 : ℝ) : EReal) := by
  simp [Ideal.ofBits, Ideal.ieee, -EReal.coe_mul]; norm_num

/-! ### What both compute -/

/-- The entries' differences. -/
def diff (x y : (Mat 1024).Idx → EReal) : (Mat 1024).Idx → EReal := fun i => x i - y i

/-- The loss of the differences: the sum of their squares over 2048. -/
def loss (d : (Mat 1024).Idx → EReal) : One.Idx → EReal := fun _ =>
  (∑ r : Fin 2048, ∑ k : Fin 1024, d (ix2 r k) * d (ix2 r k)) * (((1 : ℝ) / 2048 : ℝ) : EReal)

/-- Its derivative. -/
def slope (d : (Mat 1024).Idx → EReal) : (Mat 1024).Idx → EReal := fun i => d i * (((1 : ℝ) / 1024 : ℝ) : EReal)

/-- A real factor that is not negative comes out of a sum. -/
theorem sum_mul {ι : Type} (s : Finset ι) (f : ι → EReal) (r : ℝ) (hr : 0 ≤ r) : ∑ a ∈ s, f a * (r : EReal) = (∑ a ∈ s, f a) * (r : EReal) := by
  classical
  induction s using Finset.induction_on with
  | empty => simp
  | insert a s ha ih =>
    rw [Finset.sum_insert ha, Finset.sum_insert ha, ih]
    exact (EReal.right_distrib_of_nonneg_of_ne_top (by exact_mod_cast hr) (EReal.coe_ne_top r) _ _).symm

/-- Two arrays of one entry are equal where their entries are. -/
theorem one_ext (v w : One.Idx → EReal) (h : v (ix2 (0 : Fin 1) (0 : Fin 1)) = w (ix2 (0 : Fin 1) (0 : Fin 1))) : v = w := by
  funext i
  obtain ⟨y, z, rfl⟩ : ∃ (y : Fin 1) (z : Fin 1), i = ix2 y z := ⟨i 0, i 1, ValueIdx.eq_ix2 i⟩
  rw [Subsingleton.elim y 0, Subsingleton.elim z 0]
  exact h

/-! ### The reference -/

theorem vecSum_apply (v : FVec Ideal Height .f32) (hr : Height.ReducesTo [0] Nil) (hu : 0 < Nil.numel) (j : Nil.Idx) :
    Host.reduceAdd v (constant (F := Ideal) Nil .f32 0x00000000#32) hr hu j = ∑ a : Fin 2048, v (ix1 a) := by
  refine (hostReduceAdd_apply v _ hr hu j).trans ((Ideal.hostReduceAdd_r1_a0 (n0 := 2048) hr v _ j).trans ?_)
  refine Eq.trans (congrArg₂ (fun p q : EReal => p + q) Ideal.ofBits_zero_f32 rfl) (zero_add _)

theorem host_loss (d : FVec Ideal (Mat 1024) .f32) (hr : (Mat 1024).ReducesTo [1] Height) (hr' : Height.ReducesTo [0] Nil) (hu : 0 < Nil.numel)
    (hb : Nil.BroadcastsInDim Height (![] : Fin 0 → Fin Height.rank)) (hs : Nil.ShapeCasts One) :
    shapeCast One (mulf (constant (F := Ideal) Nil .f32 0x3F000000#32)
      (Host.reduceAdd (Host.divf (Host.reduceAdd (mulf d d) (constant (F := Ideal) Nil .f32 0x00000000#32) hr hu)
        (broadcastInDim Height ![] hb (constant (F := Ideal) Nil .f32 0x44800000#32))) (constant (F := Ideal) Nil .f32 0x00000000#32) hr' hu)) hs = loss d := by
  funext i
  have row : ∀ a : Fin 2048, Host.divf (Host.reduceAdd (mulf d d) (constant (F := Ideal) Nil .f32 0x00000000#32) hr hu)
      (broadcastInDim Height ![] hb (constant (F := Ideal) Nil .f32 0x44800000#32)) (ix1 a)
      = (∑ k : Fin 1024, d (ix2 a k) * d (ix2 a k) : EReal) * (((1 : ℝ) / 1024 : ℝ) : EReal) := fun a =>
    (congrArg₂ (fun p q : EReal => Ideal.div p q) (hostRowSum_apply (mulf d d) hr hu a) cols_eq).trans (Ideal.div_coe (by norm_num) _)
  refine (congrArg₂ (fun p q : EReal => p * q) half_eq ((vecSum_apply _ hr' hu _).trans (Finset.sum_congr rfl fun a _ => row a))).trans ?_
  rw [sum_mul _ _ _ (by norm_num), mul_left_comm, ← EReal.coe_mul]
  exact congrArg (fun c : ℝ => (∑ r : Fin 2048, ∑ k : Fin 1024, d (ix2 r k) * d (ix2 r k) : EReal) * (c : EReal)) (by norm_num)

theorem host_slope (d : FVec Ideal (Mat 1024) .f32) (h1 : Height.BroadcastsInDim (Mat 1024) ![0]) (h2 : Nil.BroadcastsInDim Height (![] : Fin 0 → Fin Height.rank))
    (h3 : Nil.BroadcastsInDim (Mat 1024) (![] : Fin 0 → Fin (Mat 1024).rank)) :
    mulf (broadcastInDim (Mat 1024) ![0] h1 (Host.divf (broadcastInDim Height ![] h2 (mulf (constant (F := Ideal) Nil .f32 0x3F000000#32) (constant (F := Ideal) Nil .f32 0x3F800000#32)))
        (broadcastInDim Height ![] h2 (constant (F := Ideal) Nil .f32 0x44800000#32))))
      (mulf (broadcastInDim (Mat 1024) ![] h3 (constant (F := Ideal) Nil .f32 0x40000000#32)) d) = slope d := by
  funext i
  show Ideal.div (Ideal.ofBits .f32 0x3F000000#32 * Ideal.ofBits .f32 0x3F800000#32) (Ideal.ofBits .f32 0x44800000#32) * (Ideal.ofBits .f32 0x40000000#32 * d i) = _
  rw [Ideal.ofBits_one_f32, mul_one, half_eq, cols_eq, two_eq, Ideal.div_coe (by norm_num), ← mul_assoc, ← EReal.coe_mul, ← EReal.coe_mul, mul_comm]
  exact congrArg (fun c : ℝ => (d i : EReal) * (c : EReal)) (by norm_num)

end Cert.Loss

namespace Cert.Kernel22Ideal.Mm

open Cert.Kernel22Ideal Cert.Kernel22Ideal.Gen Cert.Kernel22Ideal.Value Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

/-- Which block of each array a grid point takes. -/
theorem index0 : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0))

theorem iblk0 (c : Dev nD) (t : Fin cfg0.N) (a b : Fin 1024) (r : Fin 2048) (h : r.val = t.val * 1024 + a.val) :
    iblk m c 0 t (ix2 a b) = m ((c.tc : Thread nD τ).loc main_arg0) (ix2 r b) := by
  obtain ⟨⟨e0, e1⟩, -⟩ := index0 t
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 1024 + 1 * b.val = b.val; rw [e1]; omega

theorem iblk1 (c : Dev nD) (t : Fin cfg0.N) (a b : Fin 1024) (r : Fin 2048) (h : r.val = t.val * 1024 + a.val) :
    iblk m c 1 t (ix2 a b) = m ((c.tc : Thread nD τ).loc main_arg1) (ix2 r b) := by
  obtain ⟨-, ⟨e0, e1⟩, -⟩ := index0 t
  refine congrArg (m ((c.tc : Thread nD τ).loc main_arg1)) (funext fun x => Fin.ext ?_)
  match x with
  | ⟨0, _⟩ => show win0_1.index t 0 * 1024 + 1 * a.val = r.val; rw [e0]; omega
  | ⟨1, _⟩ => show win0_1.index t 1 * 1024 + 1 * b.val = b.val; rw [e1]; omega

/-! ### The blocks' sums -/

theorem colSum_apply (v : FVec Ideal S1024x1024 .f32) (b : Fin 1024) :
    shapeCast S1x1024 (multiReduction .add [0] S1024 v 0x00000000#32 reduces_S1024x1024_S1024 (.inl rfl) rfl) shapeCasts_S1024_S1x1024 (ix2 (0 : Fin 1) b)
      = ∑ k : Fin 1024, v (ix2 k b) := by
  refine (shapeCast_apply _ _ (ix2 (0 : Fin 1) b) (ix1 b) ?_).trans ?_
  · rw [Shape.rowMajor_val_one, Shape.rowMajor_val_two]
    show b.val = 0 * 1024 + b.val
    omega
  · refine (multiReduction_add_apply v _ reduces_S1024x1024_S1024 (.inl rfl) rfl (ix1 b)).trans ?_
    exact Ideal.reduceAdd_r2_a0 (n0 := 1024) (n1 := 1024) reduces_S1024x1024_S1024 v (ix1 b)

theorem rowSum_apply (v : FVec Ideal S1x1024 .f32) :
    shapeCast S1x1 (multiReduction .add [1] S1 v 0x00000000#32 reduces_S1x1024_S1 (.inl rfl) rfl) shapeCasts_S1_S1x1 (ix2 (0 : Fin 1) (0 : Fin 1))
      = ∑ k : Fin 1024, v (ix2 (0 : Fin 1) k) := by
  refine (shapeCast_apply _ _ (ix2 (0 : Fin 1) (0 : Fin 1)) (ix1 (0 : Fin 1)) ?_).trans ?_
  · rw [Shape.rowMajor_val_one, Shape.rowMajor_val_two]
    rfl
  · refine (multiReduction_add_apply v _ reduces_S1x1024_S1 (.inl rfl) rfl (ix1 (0 : Fin 1))).trans ?_
    exact Ideal.reduceAdd_r2_a1 (n0 := 1) (n1 := 1024) reduces_S1x1024_S1 v (ix1 (0 : Fin 1))

theorem pay1_apply (b : Fin 1024) : k0_pay1 (F := Ideal) (ix2 (0 : Fin 1) b) = (0 : EReal) := by
  unfold k0_pay1
  exact (shapeCast_apply _ _ (ix2 (0 : Fin 1) b) (ix2 (0 : Fin 1) b) rfl).trans Ideal.ofBits_zero_f32

theorem pay4_apply (x y : Vec Ideal S1024x1024 .f32) (s : Vec Ideal S1x1024 .f32) (b : Fin 1024) : k0_pay4 x y s (ix2 (0 : Fin 1) b)
    = (s (ix2 (0 : Fin 1) b) + ∑ k : Fin 1024, k0_pay2 x y (ix2 k b) * k0_pay2 x y (ix2 k b) : EReal) := by
  unfold k0_pay4
  refine (shapeCast_apply _ _ (ix2 (0 : Fin 1) b) (ix2 (0 : Fin 1) b) rfl).trans ?_
  exact congrArg (fun z : EReal => s (ix2 (0 : Fin 1) b) + z) (colSum_apply (mulf (k0_pay2 x y) (k0_pay2 x y)) b)

theorem pay5_apply (s : Vec Ideal S1x1024 .f32) : k0_pay5 s (ix2 (0 : Fin 1) (0 : Fin 1)) = (∑ k : Fin 1024, s (ix2 (0 : Fin 1) k) : EReal) * (((1 : ℝ) / 2048 : ℝ) : EReal) :=
  congrArg₂ (fun p q : EReal => p * q) (rowSum_apply s) Loss.halfMean_eq

theorem pay3_apply (x y : Vec Ideal S1024x1024 .f32) (a b : Fin 1024) : k0_pay3 x y (ix2 a b) = (k0_pay2 x y (ix2 a b) : EReal) * (((1 : ℝ) / 1024 : ℝ) : EReal) :=
  congrArg (fun q : EReal => (k0_pay2 x y (ix2 a b) : EReal) * q) Loss.mean_eq

/-! ### What the two points leave -/

theorem scratch_eq (c : Dev nD) (u : Fin cfg0.N) (h : u.val % 2 = 0) :
    (outsAt0 m c u.val u.isLt).2.2 = k0_pay4 (iblk m c 0 u) (iblk m c 1 u) (k0_pay1 (F := Ideal)) := by
  rw [outsAt0_A m c u h (by omega)]
  frame_out

theorem loss_eq (c : Dev nD) (t u : Fin cfg0.N) (h : t.val % 2 = 1) (hu : u.val + 1 = t.val) :
    (outsAt0 m c t.val t.isLt).1 = k0_pay5 (k0_pay4 (iblk m c 0 t) (iblk m c 1 t) (k0_pay4 (iblk m c 0 u) (iblk m c 1 u) (k0_pay1 (F := Ideal)))) := by
  obtain ⟨n, hn⟩ := t
  obtain rfl : n = u.val + 1 := hu.symm
  rw [outsAt0_B m c ⟨u.val + 1, hn⟩ (by show ¬ (u.val + 1) % 2 = 0; omega) h]
  have e : (outsAt0 m c (u.val + 1 - 1) (Nat.lt_of_le_of_lt (Nat.sub_le _ _) hn)).2.2 = k0_pay4 (iblk m c 0 u) (iblk m c 1 u) (k0_pay1 (F := Ideal)) :=
    scratch_eq m c u (by omega)
  generalize hs : (outsAt0 m c (u.val + 1 - 1) (Nat.lt_of_le_of_lt (Nat.sub_le _ _) hn)).2.2 = s at e ⊢
  frame_out
  subst e
  exact congrArg (fun z => k0_pay5 (k0_pay4 (iblk m c 0 ⟨u.val + 1, hn⟩) (iblk m c 1 ⟨u.val + 1, hn⟩) z)) ((Memref.isWhole_whole cc0_scratch0).read_unread _)

theorem slope_eq (c : Dev nD) (t : Fin cfg0.N) : (outsAt0 m c t.val t.isLt).2.1 = k0_pay3 (iblk m c 0 t) (iblk m c 1 t) := by
  by_cases h : t.val % 2 = 0
  · rw [outsAt0_A m c t h (by omega)]
    frame_out
  · rw [outsAt0_B m c t h (by omega)]
    frame_out

/-! ### The blocks against the whole arrays -/

abbrev argD (c : Dev nD) : S2048x1024.Idx → EReal := Loss.diff (m ((c.tc : Thread nD τ).loc main_arg0)) (m ((c.tc : Thread nD τ).loc main_arg1))

theorem block_apply (c : Dev nD) (t : Fin cfg0.N) (a b : Fin 1024) (r : Fin 2048) (h : r.val = t.val * 1024 + a.val) :
    k0_pay2 (iblk m c 0 t) (iblk m c 1 t) (ix2 a b) = argD m c (ix2 r b) :=
  congrArg₂ (fun p q : EReal => p - q) (iblk0 m c t a b r h) (iblk1 m c t a b r h)

theorem final_slope (c : Dev nD) : (dats m 0 c).arrAt 3 cfg0.N = Loss.slope (argD m c) := by
  funext i
  obtain ⟨r, s, rfl⟩ : ∃ (r : Fin 2048) (s : Fin 1024), i = ix2 r s := ⟨i 0, i 1, ValueIdx.eq_ix2 i⟩
  let t : Fin cfg0.N := ⟨r.val / 1024, by show _ < 2; omega⟩
  have h0 : r.val = t.val * 1024 + r.val % 1024 := by show r.val = r.val / 1024 * 1024 + _; omega
  let a : Fin 1024 := ⟨r.val % 1024, by omega⟩
  have ha : a.val = r.val % 1024 := rfl
  obtain ⟨-, -, -, e0, e1⟩ := index0 t
  have h := (blocks3 m c t (flush0_3 t)).trans (flushed3 m c t)
  rw [slope_eq] at h
  refine Eq.trans (congrArg _ (funext fun x => Fin.ext ?_)) ((congrFun h (ix2 a s)).trans ?_)
  · match x with
    | ⟨0, _⟩ => show r.val = win0_3.index t 0 * 1024 + 1 * a.val; rw [e0]; omega
    | ⟨1, _⟩ => show s.val = win0_3.index t 1 * 1024 + 1 * s.val; rw [e1]; omega
  · exact (pay3_apply _ _ a s).trans (congrArg (fun p : EReal => p * (((1 : ℝ) / 1024 : ℝ) : EReal)) (block_apply m c t a s r h0))

/-- The scratch's columns: each column's squares, of both blocks of rows. -/
theorem columns (c : Dev nD) (t u : Fin cfg0.N) (ht : t.val = 1) (hu : u.val = 0) (b : Fin 1024) :
    k0_pay4 (iblk m c 0 t) (iblk m c 1 t) (k0_pay4 (iblk m c 0 u) (iblk m c 1 u) (k0_pay1 (F := Ideal))) (ix2 (0 : Fin 1) b)
      = (∑ r : Fin 2048, argD m c (ix2 r b) * argD m c (ix2 r b) : EReal) := by
  rw [pay4_apply, pay4_apply, pay1_apply, zero_add]
  refine Eq.trans ?_ (Fin.sum_univ_add (a := 1024) (b := 1024) fun r : Fin 2048 => (argD m c (ix2 r b) * argD m c (ix2 r b) : EReal)).symm
  refine congrArg₂ (fun p q : EReal => p + q) (Finset.sum_congr rfl fun k _ => ?_) (Finset.sum_congr rfl fun k _ => ?_)
  · have hk : (Fin.castAdd 1024 k : Fin 2048).val = k.val := rfl
    exact congrArg (fun p : EReal => p * p) (block_apply m c u k b (Fin.castAdd 1024 k) (by omega))
  · have hk : (Fin.natAdd 1024 k : Fin 2048).val = 1024 + k.val := rfl
    exact congrArg (fun p : EReal => p * p) (block_apply m c t k b (Fin.natAdd 1024 k) (by omega))

/-- What the second point leaves of the loss. -/
theorem loss_apply (c : Dev nD) (t u : Fin cfg0.N) (ht : t.val = 1) (hu : u.val = 0) :
    (outsAt0 m c t.val t.isLt).1 (ix2 (0 : Fin 1) (0 : Fin 1)) = Loss.loss (argD m c) (ix2 (0 : Fin 1) (0 : Fin 1)) := by
  rw [loss_eq m c t u (by omega) (by omega), pay5_apply]
  unfold Loss.loss
  refine congrArg (fun p : EReal => p * (((1 : ℝ) / 2048 : ℝ) : EReal)) ?_
  exact (Finset.sum_congr rfl fun b _ => columns m c t u ht hu b).trans
    (Finset.sum_comm (f := fun (b : Fin 1024) (r : Fin 2048) => (argD m c (ix2 r b) * argD m c (ix2 r b) : EReal)))

/-- The loss is written once, at the second point. -/
theorem flush_inj (t t' : Fin cfg0.N) (h : (cfg0.win 2).flush t = true) (h' : (cfg0.win 2).flush t' = true) : t = t' := by
  have h1 := (flush0_2 t).1 h
  have h2 := (flush0_2 t').1 h'
  have l1 : t.val < 2 := t.isLt
  have l2 : t'.val < 2 := t'.isLt
  exact Fin.ext (by omega)

theorem block_loss (c : Dev nD) (t : Fin cfg0.N) (ht : t.val = 1) :
    ((cfg0.win 2).blk t).view.read (Elt Ideal) ((dats m 0 c).arrAt 2 cfg0.N) = (outsAt0 m c t.val t.isLt).1 :=
  ((dats m 0 c).read_blk_arrAt_eq_flushed 2 (fun t t' hf hf' hne => absurd (flush_inj t t' hf hf') hne) cfg0.N t t.isLt ((flush0_2 t).2 (by omega))).trans
    (flushed2 m c t)

/-- The loss's one entry, as an entry of the array and of its block. -/
theorem entry (c : Dev nD) (t : Fin cfg0.N) :
    (dats m 0 c).arrAt 2 cfg0.N (ix2 (0 : Fin 1) (0 : Fin 1)) = ((cfg0.win 2).blk t).view.read (Elt Ideal) ((dats m 0 c).arrAt 2 cfg0.N) (ix2 (0 : Fin 1) (0 : Fin 1)) := by
  obtain ⟨-, -, ⟨e0, e1⟩, -⟩ := index0 t
  generalize (dats m 0 c).arrAt 2 cfg0.N = v
  refine congrArg v (funext fun x => Fin.ext ?_)
  match x with
  | ⟨0, _⟩ => show 0 = win0_2.index t 0 * 1 + 1 * 0; rw [e0]
  | ⟨1, _⟩ => show 0 = win0_2.index t 1 * 1 + 1 * 0; rw [e1]

theorem final_loss (c : Dev nD) : (dats m 0 c).arrAt 2 cfg0.N = Loss.loss (argD m c) := by
  have h : (dats m 0 c).arrAt 2 cfg0.N (ix2 (0 : Fin 1) (0 : Fin 1)) = Loss.loss (argD m c) (ix2 (0 : Fin 1) (0 : Fin 1)) :=
    (entry m c ⟨1, by show _ < 2; omega⟩).trans ((congrFun (block_loss m c ⟨1, by show _ < 2; omega⟩ rfl) (ix2 (0 : Fin 1) (0 : Fin 1))).trans
      (loss_apply m c ⟨1, by show _ < 2; omega⟩ ⟨0, by show _ < 2; omega⟩ rfl rfl))
  generalize (dats m 0 c).arrAt 2 cfg0.N = v at h ⊢
  generalize Loss.loss (argD m c) = w at h ⊢
  exact Loss.one_ext v w h

theorem run : θ_run defs (onTc (τ := τ) (main (F := Ideal))) ⟨m, fun _ => 0, ρ⟩ fun r => ∀ c : Dev nD,
      r.2.mem ((c.tc : Thread nD τ).loc main_v0_0) = Loss.loss (Loss.diff (m ((c.tc : Thread nD τ).loc main_arg0)) (m ((c.tc : Thread nD τ).loc main_arg1)))
      ∧ r.2.mem ((c.tc : Thread nD τ).loc main_v0_1) = Loss.slope (Loss.diff (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_loss m c), (h c).2.1.trans (final_slope m c), (h c).2.2⟩) (run_blocks m ρ)

end Cert.Kernel22Ideal.Mm

namespace Cert.Reference22Ideal.Mm

open Cert.Reference22Ideal Cert.Reference22Ideal.Gen Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v15) = Loss.loss (Loss.diff (m ((c.tc : Thread nD τ).loc main_arg0)) (m ((c.tc : Thread nD τ).loc main_arg1)))
      ∧ r.2.mem ((c.tc : Thread nD τ).loc main_v14) = Loss.slope (Loss.diff (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Loss.host_loss _ _ _ _ _ _), (h c).2.1.trans (Loss.host_slope _ _ _ _), (h c).2.2⟩)
    (Cert.Reference22Ideal.Value.run m ρ)

end Cert.Reference22Ideal.Mm

end
-- ==== Proof.LnBwdRow.lean ====
/- The backward pass of the layer norm and the swish on one row of 512: two ways of writing it agree where the cotangent and
   the gain are finite, whatever the row holds. -/
module

public import proofs.«01_k».proof.Proof.LnSwish
public import proofs.«01_k».proof.Proof.RmsBwd

@[expose] public section

noncomputable section

namespace Cert.Ln

open Idealize.ShloMosaic

/-! ### The swish -/

/-- The swish's derivative at `y` times the cotangent `c`. -/
def dswish (c y : EReal) : EReal := c * (Gates.sg y * (1 + y * (1 - Gates.sg y)))

theorem sg_top : Gates.sg ⊤ = 1 := by
  show Ideal.div 1 (1 + Ideal.exp (-⊤)) = 1
  rw [EReal.neg_top, Ideal.exp_bot, add_zero, ← EReal.coe_one, Ideal.div_coe one_ne_zero, div_one, EReal.coe_one, one_mul]

theorem sg_bot : Gates.sg ⊥ = 0 := by
  show Ideal.div 1 (1 + Ideal.exp (-⊥)) = 0
  rw [EReal.neg_bot, Ideal.exp_top, ← EReal.coe_one, EReal.coe_add_top]
  simp [Ideal.div]

theorem sg_coe (y : ℝ) : ∃ s : ℝ, Gates.sg (y : EReal) = (s : EReal) := by
  have h : (1 + Real.exp (-y) : ℝ) ≠ 0 := by positivity
  refine ⟨1 / (1 + Real.exp (-y)), ?_⟩
  show Ideal.div 1 (1 + Ideal.exp (-(y : EReal))) = _
  rw [← EReal.coe_neg, Ideal.exp_coe, ← EReal.coe_one, ← EReal.coe_add, Ideal.div_coe h, EReal.coe_one, one_mul]

theorem one_sub_one : (1 : EReal) - 1 = 0 := by
  rw [← EReal.coe_one, ← EReal.coe_sub, sub_self, EReal.coe_zero]

/-- Of a finite cotangent it is finite, and it is what differentiating line by line gives. -/
theorem dswish_cases (c : ℝ) (y : EReal) : (∃ d : ℝ, dswish (c : EReal) y = (d : EReal))
    ∧ (c : EReal) * Gates.sg y + (y * (c : EReal)) * (Gates.sg y * (1 - Gates.sg y)) = dswish (c : EReal) y := by
  unfold dswish
  induction y with
  | bot =>
    rw [sg_bot]
    refine ⟨⟨0, ?_⟩, ?_⟩ <;> simp
  | top =>
    rw [sg_top, one_sub_one]
    refine ⟨⟨c, ?_⟩, ?_⟩ <;> simp
  | coe y =>
    obtain ⟨s, h⟩ := sg_coe y
    rw [h, ← EReal.coe_one]
    refine ⟨⟨c * (s * (1 + y * (1 - s))), by push_cast; rfl⟩, ?_⟩
    simp only [← EReal.coe_sub, ← EReal.coe_mul, ← EReal.coe_add]
    exact congrArg _ (by ring)

/-! ### The norm -/

theorem cols_eq : cols = ((512 : ℝ) : EReal) := by
  unfold cols
  simp [Ideal.ofBits, Ideal.ieee, -EReal.coe_mul]; norm_num

theorem div_cols (x : EReal) : Ideal.div x cols = x * ((1 / 512 : ℝ) : EReal) := by
  rw [cols_eq, Ideal.div_coe (by norm_num)]

/-- What stands under the root. -/
def under (z : Fin 512 → EReal) : EReal := Ideal.div (∑ k : Fin 512, z k * z k) cols + eps

/-- The cotangent of the normed row sent back to the row: `r ((a - mean a) - z r mean (a z r))`, with `z` the centred row. -/
def back (a z : Fin 512 → EReal) (j : Fin 512) : EReal :=
  inv z * ((a j - Ideal.div (∑ k : Fin 512, a k) cols) - z j * inv z * Ideal.div (∑ k : Fin 512, a k * (z k * inv z)) cols)

/-- Line by line: the cotangent of the mean of the squares, that of the centred row, and that of the row. -/
def coef (a z : Fin 512 → EReal) : EReal := Ideal.div ((∑ k : Fin 512, z k * a k) * (Rms.mhalf * Ideal.div (inv z) (under z))) cols
def lineZ (a z : Fin 512 → EReal) (j : Fin 512) : EReal := a j * inv z + z j * coef a z + coef a z * z j
def line (a z : Fin 512 → EReal) (j : Fin 512) : EReal := lineZ a z j + Ideal.div (∑ k : Fin 512, -(lineZ a z k)) cols

/-- Under the root stands +∞, or a positive real and then the row is finite. -/
theorem under_cases (z : Fin 512 → EReal) : under z = ⊤ ∨ ∃ v : ℝ, 0 < v ∧ under z = (v : EReal) ∧ ∀ k, ∃ r : ℝ, z k = (r : EReal) := by
  obtain ⟨e, he, h⟩ := Rms.eps_pos
  have h0 : 0 ≤ ∑ k : Fin 512, z k * z k := Finset.sum_nonneg fun k _ => Rms.sq_nonneg (z k)
  have hk : ∀ k : Fin 512, z k * z k ≤ ∑ k : Fin 512, z k * z k := fun k =>
    Finset.single_le_sum (f := fun k => z k * z k) (fun k _ => Rms.sq_nonneg (z k)) (Finset.mem_univ k)
  unfold under
  rw [show eps = (e : EReal) from h, div_cols]
  generalize ∑ k : Fin 512, z k * z k = s at h0 hk
  induction s with
  | bot => exact absurd h0 (by simp)
  | top =>
    left
    rw [EReal.top_mul_coe_of_pos (by norm_num), EReal.top_add_coe]
  | coe r =>
    have hr : (0 : ℝ) ≤ r := by exact_mod_cast h0
    refine .inr ⟨r * (1 / 512) + e, by positivity, by push_cast; rfl, fun k => ?_⟩
    have := hk k
    generalize z k = y at this ⊢
    induction y with
    | bot => exact absurd this (by simp)
    | top => exact absurd this (by simp)
    | coe q => exact ⟨q, rfl⟩

/-- A sum of reals, in the extended reals. -/
theorem coe_sum (f : Fin 512 → ℝ) : ∑ k : Fin 512, ((f k : ℝ) : EReal) = ((∑ k : Fin 512, f k : ℝ) : EReal) := by
  classical
  refine Finset.induction_on (Finset.univ : Finset (Fin 512)) (by simp) fun a s ha ih => ?_
  rw [Finset.sum_insert ha, Finset.sum_insert ha, ih, EReal.coe_add]

/-- A centred row that is finite comes from a finite row, and sums to zero. -/
theorem centred_sum (x : Fin 512 → EReal) (w : Fin 512 → ℝ) (h : ∀ k, centred x k = (w k : EReal)) : ∑ k : Fin 512, w k = 0 := by
  have hx : ∀ k, ∃ r : ℝ, x k = (r : EReal) := fun k => by
    have hk := h k
    unfold centred at hk
    generalize Ideal.div (∑ k : Fin 512, x k) cols = u at hk
    generalize x k = y at hk ⊢
    induction y with
    | bot => exact absurd hk (by rw [EReal.bot_sub]; exact EReal.bot_ne_coe _)
    | top =>
      induction u with
      | top => exact absurd hk (by rw [sub_eq_add_neg, EReal.neg_top, EReal.add_bot]; exact EReal.bot_ne_coe _)
      | bot => exact absurd hk (by simp)
      | coe u => exact absurd hk (by rw [EReal.top_sub_coe]; exact EReal.top_ne_coe _)
    | coe y => exact ⟨y, rfl⟩
  choose y hy using hx
  have hw : ∀ k, w k = y k - (∑ k : Fin 512, y k) * (1 / 512) := fun k => by
    have hk := h k
    unfold centred at hk
    rw [div_cols, Finset.sum_congr rfl fun k _ => hy k, coe_sum, hy k, ← EReal.coe_mul, ← EReal.coe_sub] at hk
    exact (EReal.coe_injective hk).symm
  rw [Finset.sum_congr rfl fun k _ => hw k, Finset.sum_sub_distrib, Finset.sum_const, Finset.card_univ, Fintype.card_fin, nsmul_eq_mul]
  push_cast
  ring

/-- The identity over the reals: `q` is the reciprocal root. -/
theorem real_eq (a w : Fin 512 → ℝ) (q : ℝ) (h0 : ∑ k : Fin 512, w k = 0) (j : Fin 512) :
    let c : ℝ := (∑ k : Fin 512, w k * a k) * (-(1 / 2) * (q * (q * q))) * (1 / 512)
    (a j * q + w j * c + c * w j) + (∑ k : Fin 512, -(a k * q + w k * c + c * w k)) * (1 / 512)
      = q * ((a j - (∑ k : Fin 512, a k) * (1 / 512)) - w j * q * ((∑ k : Fin 512, a k * (w k * q)) * (1 / 512))) := by
  intro c
  have h1 : ∑ k : Fin 512, -(a k * q + w k * c + c * w k) = -((∑ k : Fin 512, a k) * q) := by
    rw [Finset.sum_neg_distrib, Finset.sum_add_distrib, Finset.sum_add_distrib, ← Finset.sum_mul, ← Finset.sum_mul, ← Finset.mul_sum, h0]
    ring
  have h2 : ∑ k : Fin 512, a k * (w k * q) = (∑ k : Fin 512, w k * a k) * q := by
    rw [Finset.sum_mul]
    exact Finset.sum_congr rfl fun k _ => by ring
  rw [h1, h2]
  show (a j * q + w j * ((∑ k : Fin 512, w k * a k) * (-(1 / 2) * (q * (q * q))) * (1 / 512)) + _ * w j) + _ = _
  simp only [c]
  ring

theorem back_eq (a : Fin 512 → ℝ) (x : Fin 512 → EReal) (j : Fin 512) :
    line (fun k => (a k : EReal)) (centred x) j = back (fun k => (a k : EReal)) (centred x) j := by
  have hz := centred_sum x
  generalize centred x = z at hz
  have hi : inv z = Ideal.rsqrt (under z) := rfl
  rcases under_cases z with h | ⟨v, hv, h, hr⟩
  · have hi0 : inv z = 0 := by rw [hi, h, Ideal.rsqrt_top]
    have hc : coef (fun k => (a k : EReal)) z = 0 := by
      unfold coef
      rw [hi0, h, div_cols]
      simp [Ideal.div]
    have hl : ∀ k, lineZ (fun k => (a k : EReal)) z k = 0 := fun k => by
      unfold lineZ
      rw [hi0, hc]
      simp
    unfold line back
    rw [hi0, Finset.sum_congr rfl fun k _ => congrArg (fun v : EReal => -v) (hl k), hl, zero_mul, div_cols]
    simp
  · choose w hw using hr
    obtain rfl : z = fun k => (w k : EReal) := funext hw
    have h0 := hz w fun k => rfl
    have hq : Ideal.rsqrt (v : EReal) = (((Real.sqrt v)⁻¹ : ℝ) : EReal) := by
      rw [Ideal.rsqrt_coe, if_neg (not_lt.2 hv.le), if_neg hv.ne']
    have hqq : 1 / v = (Real.sqrt v)⁻¹ * (Real.sqrt v)⁻¹ := by
      rw [← mul_inv, Real.mul_self_sqrt hv.le, one_div]
    have e := real_eq a w ((Real.sqrt v)⁻¹) h0 j
    unfold line back lineZ coef
    rw [hi, h, hq, Rms.mhalf_eq, Ideal.div_coe hv.ne', hqq]
    generalize (Real.sqrt v)⁻¹ = q at e
    simp only [div_cols, ← EReal.coe_mul, ← EReal.coe_add, ← EReal.coe_sub, ← EReal.coe_neg, coe_sum]
    exact congrArg _ e

end Cert.Ln

end
-- ==== Proof.LnBwdRows.lean ====
/- The backward pass of the layer norm and the swish on all rows: what the matrices of a kernel and of a reference hold. -/
module

public import proofs.«01_k».proof.Proof.LnBwdRow

@[expose] public section

set_option maxRecDepth 16384

noncomputable section

namespace Cert.Ln

open Idealize.ShloMosaic hiding ix0 ix1 ix2 ix3
open Idealize.ShloMosaic.ValueIdx
open Cert.Rows

/-- Row `a` of the input, centred. -/
def zrow (x : M.Idx → EReal) (a : Fin 2048) : Fin 512 → EReal := centred fun k => x (ix2 a k)

/-- The cotangent of the norm's result, of the input, and the gradients of gain and shift. -/
def dy (ct x : M.Idx → EReal) (g s : (Gain 512).Idx → EReal) : M.Idx → EReal := fun i => dswish (ct i) (normed x g s i)
def dz (ct x : M.Idx → EReal) (g s : (Gain 512).Idx → EReal) : M.Idx → EReal := fun i =>
  back (fun k => dy ct x g s (ix2 (i 0) k) * g (ix1 k)) (zrow x (i 0)) (i 1)
def dgain (ct x : M.Idx → EReal) (g s : (Gain 512).Idx → EReal) : (Row 512).Idx → EReal := fun i =>
  ∑ a : Fin 2048, dy ct x g s (ix2 a (i 1)) * (zrow x a (i 1) * inv (zrow x a))
def dshift (ct x : M.Idx → EReal) (g s : (Gain 512).Idx → EReal) : (Row 512).Idx → EReal := fun i =>
  ∑ a : Fin 2048, dy ct x g s (ix2 a (i 1))

/-! ### In a kernel -/

/-- A column's sum over all rows, laid out as a row. -/
theorem colSum_apply (v : FVec Ideal M .f32) (hr : M.Reduces [0] (Gain 512)) (hs : (Gain 512).ShapeCasts (Row 512)) (p q) (b : Fin 512) :
    shapeCast (Row 512) (multiReduction .add [0] (Gain 512) v 0x00000000#32 hr p q) hs (ix2 (0 : Fin 1) b) = ∑ a : Fin 2048, v (ix2 a b) :=
  (toRow_apply _ hs b).trans ((multiReduction_add_apply v _ hr p q (ix1 b)).trans (Ideal.reduceAdd_r2_a0 (n0 := 2048) (n1 := 512) hr v (ix1 b)))

/-- The column of reciprocal roots. -/
theorem inv_apply (z : FVec Ideal M .f32) (hr : M.Reduces [1] Height) (hs : Height.ShapeCasts Col) (p q) (a : Fin 2048) :
    rsqrt (addf (divf (shapeCast Col (multiReduction .add [1] Height (mulf z z) 0x00000000#32 hr p q) hs) (broadcast Col (Scalar.ofBits (F := Ideal) .f32 0x44000000#32)))
      (broadcast Col (Scalar.ofBits (F := Ideal) .f32 0x358637BD#32))) (ix2 a (0 : Fin 1)) = inv fun k => z (ix2 a k) :=
  congrArg (fun v : EReal => Ideal.rsqrt (Ideal.div v cols + eps)) (sum_apply (mulf z z) hr hs p q a)

/-- The cotangent sent back: `d` that of the normed rows, `xh` the normed rows, `i` the column of reciprocal roots. -/
theorem back_block (d xh : FVec Ideal M .f32) (i : FVec Ideal Col .f32) (hr : M.Reduces [1] Height) (hs : Height.ShapeCasts Col) (hc : Col.Broadcasts M) (p q)
    (z : Fin 512 → EReal) (a : Fin 2048) (hx : ∀ k, xh (ix2 a k) = z k * inv z) (hi : i (ix2 a (0 : Fin 1)) = inv z) (b : Fin 512) :
    mulf (broadcastTo M i hc) (subf (subf d (broadcastTo M (divf (shapeCast Col (multiReduction .add [1] Height d 0x00000000#32 hr p q) hs)
        (broadcast Col (Scalar.ofBits (F := Ideal) .f32 0x44000000#32))) hc))
      (mulf xh (broadcastTo M (divf (shapeCast Col (multiReduction .add [1] Height (mulf d xh) 0x00000000#32 hr p q) hs)
        (broadcast Col (Scalar.ofBits (F := Ideal) .f32 0x44000000#32))) hc))) (ix2 a b)
      = back (fun k => d (ix2 a k)) z b := by
  refine congrArg₂ (fun v w : EReal => v * w) ((col_apply i hc a b).trans hi) ?_
  refine congrArg₂ (fun v w : EReal => v - w) (congrArg (fun v : EReal => d (ix2 a b) - v) ?_) (congrArg₂ (fun v w : EReal => v * w) (hx b) ?_)
  · exact (col_apply _ hc a b).trans (congrArg (fun v : EReal => Ideal.div v cols) (sum_apply d hr hs p q a))
  · refine (col_apply _ hc a b).trans (congrArg (fun v : EReal => Ideal.div v cols) ((sum_apply (mulf d xh) hr hs p q a).trans ?_))
    exact Finset.sum_congr rfl fun k _ => congrArg (fun v : EReal => d (ix2 a k) * v) (hx k)

/-! ### On the host -/

/-- The logistic function. -/
abbrev hostSg (y : FVec Ideal M .f32) (hm : Nil.BroadcastsInDim M (![] : Fin 0 → Fin M.rank)) : FVec Ideal M .f32 :=
  Host.divf (broadcastInDim M ![] hm (constant (F := Ideal) Nil .f32 0x3F800000#32)) (addf (broadcastInDim M ![] hm (constant (F := Ideal) Nil .f32 0x3F800000#32))
    (Host.exp (Host.negf y)))

theorem hostSg_apply (y : FVec Ideal M .f32) (hm) (i : M.Idx) : hostSg y hm i = Gates.sg (y i) := by
  show Ideal.div (Ideal.ofBits .f32 0x3F800000#32) (Ideal.ofBits .f32 0x3F800000#32 + Ideal.exp (-(y i))) = _
  rw [Ideal.ofBits_one_f32]
  rfl

/-- The swish's cotangent, line by line. -/
abbrev hostDy (ct y : FVec Ideal M .f32) (hm : Nil.BroadcastsInDim M (![] : Fin 0 → Fin M.rank)) : FVec Ideal M .f32 :=
  addf (mulf ct (hostSg y hm)) (mulf (mulf y ct) (mulf (hostSg y hm) (subf (broadcastInDim M ![] hm (constant (F := Ideal) Nil .f32 0x3F800000#32)) (hostSg y hm))))

theorem hostDy_apply (ct y : FVec Ideal M .f32) (hm) (i : M.Idx) (h : ∃ c : ℝ, ct i = (c : EReal)) : hostDy ct y hm i = dswish (ct i) (y i) := by
  have e := hostSg_apply y hm i
  unfold hostDy
  generalize hostSg y hm = s at e ⊢
  show ct i * s i + (y i * ct i) * (s i * (Ideal.ofBits .f32 0x3F800000#32 - s i)) = _
  rw [Ideal.ofBits_one_f32, e]
  obtain ⟨c, hc⟩ := h
  rw [hc]
  exact (dswish_cases c (y i)).2

/-- What stands under the root, as a column. -/
abbrev hostUnder (z : FVec Ideal M .f32) (hr : M.ReducesTo [1] Height) (hu : 0 < Nil.numel) (hb : Height.BroadcastsInDim Col ![0]) (hn : Nil.BroadcastsInDim Col ![]) :
    FVec Ideal Col .f32 :=
  addf (Host.divf (broadcastInDim Col ![0] hb (Host.reduceAdd (mulf z z) (constant (F := Ideal) Nil .f32 0x00000000#32) hr hu))
    (broadcastInDim Col ![] hn (constant (F := Ideal) Nil .f32 0x44000000#32))) (broadcastInDim Col ![] hn (constant (F := Ideal) Nil .f32 0x358637BD#32))

theorem hostUnder_apply (z : FVec Ideal M .f32) (hr hu hb hn) (a : Fin 2048) : hostUnder z hr hu hb hn (ix2 a (0 : Fin 1)) = under fun k => z (ix2 a k) :=
  congrArg (fun v : EReal => Ideal.div v cols + eps) (hostSum_apply (mulf z z) hr hu hb a)

/-- A sum over the one entry of each row of a column, repeated along the rows. -/
theorem hostOne_apply (v : FVec Ideal Col .f32) (hr : Col.ReducesTo [1] Height) (hu : 0 < Nil.numel) (hb : Height.BroadcastsInDim M ![0]) (a : Fin 2048) (b : Fin 512) :
    broadcastInDim M ![0] hb (Host.reduceAdd v (constant (F := Ideal) Nil .f32 0x00000000#32) hr hu) (ix2 a b) = v (ix2 a (0 : Fin 1)) := by
  refine (broadcastInDim_apply ![0] hb _ (ix2 a b) (ix1 a) fun y => ?_).trans ?_
  · match y with
    | ⟨0, _⟩ => rfl
  refine (hostReduceAdd_apply v _ hr hu (ix1 a)).trans ((Ideal.hostReduceAdd_r2_a1 (n0 := 2048) (n1 := 1) hr v _ (ix1 a)).trans ?_)
  exact Eq.trans (congrArg₂ (fun p q : EReal => p + q) Ideal.ofBits_zero_f32 (Fin.sum_univ_one _)) (zero_add _)

/-- A row's sum as a column. -/
theorem hostCast_apply (v : FVec Ideal M .f32) (hr : M.ReducesTo [1] Height) (hu : 0 < Nil.numel) (hs : Height.ShapeCasts Col) (a : Fin 2048) :
    shapeCast Col (Host.reduceAdd v (constant (F := Ideal) Nil .f32 0x00000000#32) hr hu) hs (ix2 a (0 : Fin 1)) = ∑ k : Fin 512, v (ix2 a k) := by
  refine (shapeCast_apply _ _ _ (ix1 a) ?_).trans (hostRowSum_apply v hr hu a)
  rw [Shape.rowMajor_val_one, Shape.rowMajor_val_two]
  show a.val = a.val * 1 + 0
  omega

/-- The cotangent of the mean of the squares, repeated along the rows. -/
abbrev hostCoef (d z : FVec Ideal M .f32) (u : FVec Ideal Col .f32) (hr : M.ReducesTo [1] Height) (hu : 0 < Nil.numel) (hs : Height.ShapeCasts Col) (hn : Nil.BroadcastsInDim Col ![])
    (hr' : Col.ReducesTo [1] Height) (hb : Height.BroadcastsInDim M ![0]) : FVec Ideal M .f32 :=
  broadcastInDim M ![0] hb (Host.reduceAdd (Host.divf (mulf (shapeCast Col (Host.reduceAdd (mulf z d) (constant (F := Ideal) Nil .f32 0x00000000#32) hr hu) hs)
    (mulf (broadcastInDim Col ![] hn (constant (F := Ideal) Nil .f32 0xBF000000#32)) (Host.divf (Host.rsqrt u) u)))
    (broadcastInDim Col ![] hn (constant (F := Ideal) Nil .f32 0x44000000#32))) (constant (F := Ideal) Nil .f32 0x00000000#32) hr' hu)

theorem hostCoef_apply (d z : FVec Ideal M .f32) (u : FVec Ideal Col .f32) (hr hu hs hn hr' hb) (a : Fin 2048) (hu' : u (ix2 a (0 : Fin 1)) = under fun k => z (ix2 a k)) (b : Fin 512) :
    hostCoef d z u hr hu hs hn hr' hb (ix2 a b) = coef (fun k => d (ix2 a k)) fun k => z (ix2 a k) := by
  refine (hostOne_apply _ hr' hu hb a b).trans (congrArg (fun v : EReal => Ideal.div v cols) ?_)
  exact congrArg₂ (fun p q : EReal => p * q) (hostCast_apply (mulf z d) hr hu hs a) (congrArg (fun v : EReal => Rms.mhalf * Ideal.div (Ideal.rsqrt v) v) hu')

/-- The cotangent of the centred rows. -/
abbrev hostLineZ (d z c : FVec Ideal M .f32) (u : FVec Ideal Col .f32) (hc : Col.BroadcastsInDim M ![0, 1]) : FVec Ideal M .f32 :=
  addf (addf (mulf d (broadcastInDim M ![0, 1] hc (Host.rsqrt u))) (mulf z c)) (mulf c z)

theorem hostLineZ_apply (d z c : FVec Ideal M .f32) (u : FVec Ideal Col .f32) (hc) (a : Fin 2048) (hu' : u (ix2 a (0 : Fin 1)) = under fun k => z (ix2 a k)) (b : Fin 512)
    (h : c (ix2 a b) = coef (fun k => d (ix2 a k)) fun k => z (ix2 a k)) : hostLineZ d z c u hc (ix2 a b) = lineZ (fun k => d (ix2 a k)) (fun k => z (ix2 a k)) b := by
  show d (ix2 a b) * broadcastInDim M ![0, 1] hc (Host.rsqrt u) (ix2 a b) + z (ix2 a b) * c (ix2 a b) + c (ix2 a b) * z (ix2 a b) = _
  rw [h, show broadcastInDim M ![0, 1] hc (Host.rsqrt u) (ix2 a b) = inv fun k => z (ix2 a k) from (hostCol_apply (Host.rsqrt u) hc a b).trans (congrArg Ideal.rsqrt hu')]
  rfl

/-- The cotangent of the rows. -/
abbrev hostLine (l : FVec Ideal M .f32) (hr : M.ReducesTo [1] Height) (hu : 0 < Nil.numel) (hs : Height.ShapeCasts Col) (hn : Nil.BroadcastsInDim Col ![])
    (hr' : Col.ReducesTo [1] Height) (hb : Height.BroadcastsInDim M ![0]) : FVec Ideal M .f32 :=
  addf l (broadcastInDim M ![0] hb (Host.reduceAdd (Host.divf (shapeCast Col (Host.reduceAdd (Host.negf l) (constant (F := Ideal) Nil .f32 0x00000000#32) hr hu) hs)
    (broadcastInDim Col ![] hn (constant (F := Ideal) Nil .f32 0x44000000#32))) (constant (F := Ideal) Nil .f32 0x00000000#32) hr' hu))

theorem hostLine_apply (l : FVec Ideal M .f32) (hr hu hs hn hr' hb) (a : Fin 2048) (b : Fin 512) :
    hostLine l hr hu hs hn hr' hb (ix2 a b) = (l (ix2 a b) + Ideal.div (∑ k : Fin 512, -(l (ix2 a k))) cols : EReal) :=
  congrArg (fun v : EReal => l (ix2 a b) + v) ((hostOne_apply _ hr' hu hb a b).trans (congrArg (fun v : EReal => Ideal.div v cols) (hostCast_apply (Host.negf l) hr hu hs a)))

/-- A column's sum over all rows, then over one row. -/
theorem hostColSum_apply (v : FVec Ideal M .f32) (hr : M.ReducesTo [0] (Gain 512)) (hr' : (Row 512).ReducesTo [0] (Gain 512)) (hu : 0 < Nil.numel)
    (hs : (Gain 512).ShapeCasts (Row 512)) (b : Fin 512) :
    shapeCast (Row 512) (Host.reduceAdd (shapeCast (Row 512) (Host.reduceAdd v (constant (F := Ideal) Nil .f32 0x00000000#32) hr hu) hs)
      (constant (F := Ideal) Nil .f32 0x00000000#32) hr' hu) hs (ix2 (0 : Fin 1) b) = ∑ a : Fin 2048, v (ix2 a b) := by
  refine (toRow_apply _ hs b).trans ?_
  refine (hostReduceAdd_apply _ _ hr' hu (ix1 b)).trans ((Ideal.hostReduceAdd_r2_a0 (n0 := 1) (n1 := 512) hr' _ _ (ix1 b)).trans ?_)
  refine Eq.trans (congrArg₂ (fun p q : EReal => p + q) Ideal.ofBits_zero_f32 (Fin.sum_univ_one _)) ((zero_add _).trans ?_)
  refine (toRow_apply _ hs b).trans ?_
  refine (hostReduceAdd_apply v _ hr hu (ix1 b)).trans ((Ideal.hostReduceAdd_r2_a0 (n0 := 2048) (n1 := 512) hr v _ (ix1 b)).trans ?_)
  exact Eq.trans (congrArg₂ (fun p q : EReal => p + q) Ideal.ofBits_zero_f32 rfl) (zero_add _)

/-! ### The reference's results -/

variable (ct x : FVec Ideal M .f32) (g s : FVec Ideal (Gain 512) .f32)

theorem dy_all (hct : ∀ i, ∃ c : ℝ, ct i = (c : EReal)) (hr hu hb hn hc h1 h2 hm) :
    hostDy ct (hostAffine (hostCent x hr hu hb hn hc) g s hr hu hb hn hc h1 h2) hm = dy ct x g s := by
  rw [host_eq x g s hr hu hb hn hc h1 h2]
  funext i
  exact hostDy_apply ct (normed x g s) hm i (hct i)

/-- The gradient of the shift … -/
theorem dshift_all (d : FVec Ideal M .f32) (hd : d = dy ct x g s)
    (hr : M.ReducesTo [0] (Gain 512)) (hr' : (Row 512).ReducesTo [0] (Gain 512)) (hu : 0 < Nil.numel) (hs : (Gain 512).ShapeCasts (Row 512)) :
    shapeCast (Row 512) (Host.reduceAdd (shapeCast (Row 512) (Host.reduceAdd d (constant (F := Ideal) Nil .f32 0x00000000#32) hr hu) hs)
      (constant (F := Ideal) Nil .f32 0x00000000#32) hr' hu) hs = dshift ct x g s := by
  funext i
  obtain ⟨z, b, rfl⟩ : ∃ (z : Fin 1) (b : Fin 512), i = ix2 z b := ⟨i 0, i 1, ValueIdx.eq_ix2 i⟩
  obtain rfl : z = 0 := Subsingleton.elim _ _
  subst hd
  exact hostColSum_apply (dy ct x g s) hr hr' hu hs b

/-- … of the gain … -/
theorem dgain_all (d z : FVec Ideal M .f32) (u : FVec Ideal Col .f32) (hd : d = dy ct x g s) (hz : ∀ a k, z (ix2 a k) = zrow x a k)
    (hu' : ∀ a, u (ix2 a (0 : Fin 1)) = under (zrow x a))
    (hr : M.ReducesTo [0] (Gain 512)) (hr' : (Row 512).ReducesTo [0] (Gain 512)) (hu : 0 < Nil.numel) (hs : (Gain 512).ShapeCasts (Row 512))
    (hc : Col.BroadcastsInDim M ![0, 1]) :
    shapeCast (Row 512) (Host.reduceAdd (shapeCast (Row 512) (Host.reduceAdd (mulf (mulf z (broadcastInDim M ![0, 1] hc (Host.rsqrt u))) d)
      (constant (F := Ideal) Nil .f32 0x00000000#32) hr hu) hs) (constant (F := Ideal) Nil .f32 0x00000000#32) hr' hu) hs = dgain ct x g s := by
  funext i
  obtain ⟨o, b, rfl⟩ : ∃ (o : Fin 1) (b : Fin 512), i = ix2 o b := ⟨i 0, i 1, ValueIdx.eq_ix2 i⟩
  obtain rfl : o = 0 := Subsingleton.elim _ _
  subst hd
  refine (hostColSum_apply _ hr hr' hu hs b).trans (Finset.sum_congr rfl fun a _ => ?_)
  refine (mul_comm _ _).trans (congrArg (fun v : EReal => dy ct x g s (ix2 a b) * v) ?_)
  exact congrArg₂ (fun v w : EReal => v * w) (hz a b) ((hostCol_apply (Host.rsqrt u) hc a b).trans (congrArg Ideal.rsqrt (hu' a)))

/-- … and the cotangent of the input. -/
theorem dz_all (hct : ∀ i, ∃ c : ℝ, ct i = (c : EReal)) (hg : ∀ i, ∃ c : ℝ, g i = (c : EReal)) (d z : FVec Ideal M .f32) (u : FVec Ideal Col .f32) (hd : d = dy ct x g s)
    (hz : ∀ a k, z (ix2 a k) = zrow x a k) (hu' : ∀ a, u (ix2 a (0 : Fin 1)) = under (zrow x a)) (hr hu hs hn hr' hb hc)
    (h1 : (Gain 512).BroadcastsInDim (Row 512) ![1]) (h2 : (Row 512).BroadcastsInDim M ![0, 1]) :
    hostLine (hostLineZ (mulf d (broadcastInDim M ![0, 1] h2 (broadcastInDim (Row 512) ![1] h1 g))) z
      (hostCoef (mulf d (broadcastInDim M ![0, 1] h2 (broadcastInDim (Row 512) ![1] h1 g))) z u hr hu hs hn hr' hb) u hc) hr hu hs hn hr' hb = dz ct x g s := by
  funext i
  obtain ⟨a, b, rfl⟩ : ∃ (a : Fin 2048) (b : Fin 512), i = ix2 a b := ⟨i 0, i 1, ValueIdx.eq_ix2 i⟩
  have hk : ∀ k : Fin 512, mulf d (broadcastInDim M ![0, 1] h2 (broadcastInDim (Row 512) ![1] h1 g)) (ix2 a k) = dy ct x g s (ix2 a k) * g (ix1 k) := fun k =>
    congrArg₂ (fun v w : EReal => v * w) (congrFun hd (ix2 a k)) (hostRow_apply g h1 h2 a k)
  generalize mulf d (broadcastInDim M ![0, 1] h2 (broadcastInDim (Row 512) ![1] h1 g)) = dn at hk ⊢
  have hzr : (fun k => z (ix2 a k)) = zrow x a := funext (hz a)
  have hua : u (ix2 a (0 : Fin 1)) = under fun k => z (ix2 a k) := by rw [hzr]; exact hu' a
  have hl : ∀ k, hostLineZ dn z (hostCoef dn z u hr hu hs hn hr' hb) u hc (ix2 a k) = lineZ (fun k => dn (ix2 a k)) (fun k => z (ix2 a k)) k := fun k =>
    hostLineZ_apply dn z _ u hc a hua k (hostCoef_apply dn z u hr hu hs hn hr' hb a hua k)
  generalize hostLineZ dn z (hostCoef dn z u hr hu hs hn hr' hb) u hc = l at hl ⊢
  refine (hostLine_apply l hr hu hs hn hr' hb a b).trans ?_
  have hreal : ∀ k : Fin 512, ∃ r : ℝ, dn (ix2 a k) = (r : EReal) := fun k => by
    obtain ⟨c, hc⟩ := hct (ix2 a k)
    obtain ⟨e, he⟩ := hg (ix1 k)
    obtain ⟨r, hr⟩ := (dswish_cases c (normed x g s (ix2 a k))).1
    refine ⟨r * e, (hk k).trans ?_⟩
    rw [he, show dy ct x g s (ix2 a k) = (r : EReal) from (congrArg (fun v : EReal => dswish v (normed x g s (ix2 a k))) hc).trans hr, EReal.coe_mul]
  choose w hw using hreal
  have hdn : (fun k => dn (ix2 a k)) = fun k => (w k : EReal) := funext hw
  rw [Finset.sum_congr rfl fun k _ => congrArg (fun v : EReal => -v) (hl k), hl b, hdn, hzr]
  refine (back_eq w (fun k => x (ix2 a k)) b).trans ?_
  show back (fun k => (w k : EReal)) (zrow x a) b = back (fun k => dy ct x g s (ix2 a k) * g (ix1 k)) (zrow x a) b
  exact congrArg (fun f => back f (zrow x a) b) (funext fun k => (hw k).symm.trans (hk k))

/-! ### A finite array -/

/-- Where the absolute value is below +∞, the entry is finite. -/
theorem finite_of (v : EReal) (h : Ideal.cmp .olt (max v (-v)) (Ideal.ofBits .f32 0x7F800000#32) = 1#1) : ∃ r : ℝ, v = (r : EReal) := by
  have ht : Ideal.ofBits .f32 0x7F800000#32 = (⊤ : EReal) := by simp [Ideal.ofBits, Ideal.ieee]
  rw [ht] at h
  induction v with
  | bot => exact absurd h (by simp [Ideal.cmp])
  | top => exact absurd h (by simp [Ideal.cmp])
  | coe r => exact ⟨r, rfl⟩

end Cert.Ln

end
-- ==== Proof.Combine.lean ====
/- The three groups' outputs weighted by the softmax of their log-sums: where the largest log-sum is finite the weights are the
   exponentials over their sum, whether one divides by the sum or multiplies by its reciprocal. -/
module

public import proofs.«01_k».proof.Proof.Gen.Kernel23Ideal.Frame
public import proofs.«01_k».proof.Proof.Gen.Reference23Ideal.Run
public import proofs.«01_k».proof.Proof.Gen.Pre_top23
public import proofs.«01_k».proof.Proof.LnBwdRows
public import Idealize.ShloMosaic.Lib.Pointwise.Tactic
public import Idealize.ShloMosaic.Lib.Pipeline.Value
public import Idealize.ShloMosaic.Lib.Pipeline.ValueKit.Basic

@[expose] public section

set_option maxRecDepth 16384

noncomputable section

namespace Cert.Mix

open Idealize.ShloMosaic hiding ix0 ix1 ix2 ix3
open Idealize.ShloMosaic.ValueIdx
open Cert.Rows

abbrev M : Shape := Mat 512
abbrev One : Shape := ⟨3, ![1, 2048, 512]⟩
abbrev Three : Shape := ⟨3, ![3, 2048, 512]⟩

/-! ### At one entry -/

/-- The largest of the log-sums. -/
def top (l0 l1 l2 : EReal) : EReal := max (max l0 l1) l2

/-- The sum of the exponentials. -/
def total (l0 l1 l2 : EReal) : EReal :=
  Ideal.exp (l0 - top l0 l1 l2) + Ideal.exp (l1 - top l0 l1 l2) + Ideal.exp (l2 - top l0 l1 l2)

/-- A weight, by the sum's reciprocal. -/
def weight (l0 l1 l2 l : EReal) : EReal := Ideal.exp (l - top l0 l1 l2) * Ideal.div (Ideal.ofBits .f32 0x3F800000#32) (total l0 l1 l2)

/-- The combination. -/
def mixed (o0 o1 o2 l0 l1 l2 : M.Idx → EReal) : M.Idx → EReal := fun i =>
  weight (l0 i) (l1 i) (l2 i) (l0 i) * o0 i + weight (l0 i) (l1 i) (l2 i) (l1 i) * o1 i + weight (l0 i) (l1 i) (l2 i) (l2 i) * o2 i

theorem exp_nonneg (x : EReal) : 0 ≤ Ideal.exp x := by
  induction x with
  | bot => exact le_of_eq Ideal.exp_bot.symm
  | top => rw [Ideal.exp_top]; exact le_top
  | coe r => rw [Ideal.exp_coe]; exact_mod_cast (Real.exp_pos r).le

theorem exp_self (r : ℝ) : Ideal.exp ((r : EReal) - (r : EReal)) = 1 := by
  rw [← EReal.coe_sub, sub_self, Ideal.exp_coe, Real.exp_zero, EReal.coe_one]

/-- One of the exponentials is that of zero. -/
theorem total_ne (l0 l1 l2 : EReal) (h : ∃ r : ℝ, top l0 l1 l2 = (r : EReal)) : total l0 l1 l2 ≠ 0 := by
  obtain ⟨r, h⟩ := h
  have hm : l0 = (r : EReal) ∨ l1 = (r : EReal) ∨ l2 = (r : EReal) := by
    unfold top at h
    rcases max_choice (max l0 l1) l2 with e | e
    · rcases max_choice l0 l1 with e' | e'
      · exact .inl (by rw [← h, e, e'])
      · exact .inr (.inl (by rw [← h, e, e']))
    · exact .inr (.inr (by rw [← h, e]))
  unfold total
  rw [h]
  have p0 := exp_nonneg (l0 - (r : EReal))
  have p1 := exp_nonneg (l1 - (r : EReal))
  have p2 := exp_nonneg (l2 - (r : EReal))
  refine ne_of_gt (lt_of_lt_of_le zero_lt_one ?_)
  rcases hm with e | e | e
  · rw [e, exp_self]
    exact le_add_of_le_of_nonneg (le_add_of_nonneg_right p1) p2
  · rw [e, exp_self]
    exact le_add_of_le_of_nonneg (le_add_of_nonneg_left p0) p2
  · rw [e, exp_self]
    exact le_add_of_nonneg_left (add_nonneg p0 p1)

theorem weight_eq (l0 l1 l2 l : EReal) (h : ∃ r : ℝ, top l0 l1 l2 = (r : EReal)) :
    Ideal.div (Ideal.exp (l - top l0 l1 l2)) (total l0 l1 l2) = weight l0 l1 l2 l := by
  unfold weight
  rw [Ideal.ofBits_one_f32]
  unfold Ideal.div
  rw [if_neg (total_ne l0 l1 l2 h), if_neg (total_ne l0 l1 l2 h), one_mul]

/-! ### The host's three groups, stacked -/

abbrev pieces (x0 x1 x2 : FVec Ideal M .f32) (hb : M.BroadcastsInDim One ![1, 2]) : List ((s : Shape) × (s.Idx → EReal)) :=
  [⟨One, broadcastInDim One ![1, 2] hb x0⟩, ⟨One, broadcastInDim One ![1, 2] hb x1⟩, ⟨One, broadcastInDim One ![1, 2] hb x2⟩]

abbrev stack (x0 x1 x2 : FVec Ideal M .f32) (hb : M.BroadcastsInDim One ![1, 2]) (hc : Shape.Concatenates [One, One, One] Three 0) : FVec Ideal Three .f32 :=
  concatenate Three 0 (pieces x0 x1 x2 hb) hc

theorem layer_apply (x : FVec Ideal M .f32) (hb : M.BroadcastsInDim One ![1, 2]) (a : Fin 2048) (b : Fin 512) :
    broadcastInDim One ![1, 2] hb x (ix3 (0 : Fin 1) a b) = x (ix2 a b) :=
  broadcastInDim_apply ![1, 2] hb x (ix3 (0 : Fin 1) a b) (ix2 a b) fun y => by
    match y with
    | ⟨0, _⟩ => rfl
    | ⟨1, _⟩ => rfl

theorem stack_apply0 (x0 x1 x2 : FVec Ideal M .f32) (hb hc) (a : Fin 2048) (b : Fin 512) : stack x0 x1 x2 hb hc (ix3 (0 : Fin 3) a b) = x0 (ix2 a b) :=
  (concatenate_apply_piece (t := Three) 0 (pieces x0 x1 x2 hb) hc (ix3 (0 : Fin 3) a b) 0 (by show 0 < 3; omega) One (broadcastInDim One ![1, 2] hb x0) rfl rfl 0 rfl
    (ix3 (0 : Fin 1) a b) (fun y hy => by
      match y with
      | ⟨0, _⟩ => exact absurd rfl hy
      | ⟨1, _⟩ => rfl
      | ⟨2, _⟩ => rfl) rfl).trans (layer_apply x0 hb a b)

theorem stack_apply1 (x0 x1 x2 : FVec Ideal M .f32) (hb hc) (a : Fin 2048) (b : Fin 512) : stack x0 x1 x2 hb hc (ix3 (1 : Fin 3) a b) = x1 (ix2 a b) :=
  (concatenate_apply_piece (t := Three) 0 (pieces x0 x1 x2 hb) hc (ix3 (1 : Fin 3) a b) 1 (by show 1 < 3; omega) One (broadcastInDim One ![1, 2] hb x1) rfl rfl 1 rfl
    (ix3 (0 : Fin 1) a b) (fun y hy => by
      match y with
      | ⟨0, _⟩ => exact absurd rfl hy
      | ⟨1, _⟩ => rfl
      | ⟨2, _⟩ => rfl) rfl).trans (layer_apply x1 hb a b)

theorem stack_apply2 (x0 x1 x2 : FVec Ideal M .f32) (hb hc) (a : Fin 2048) (b : Fin 512) : stack x0 x1 x2 hb hc (ix3 (2 : Fin 3) a b) = x2 (ix2 a b) :=
  (concatenate_apply_piece (t := Three) 0 (pieces x0 x1 x2 hb) hc (ix3 (2 : Fin 3) a b) 2 (by show 2 < 3; omega) One (broadcastInDim One ![1, 2] hb x2) rfl rfl 2 rfl
    (ix3 (0 : Fin 1) a b) (fun y hy => by
      match y with
      | ⟨0, _⟩ => exact absurd rfl hy
      | ⟨1, _⟩ => rfl
      | ⟨2, _⟩ => rfl) rfl).trans (layer_apply x2 hb a b)

/-- One array repeated over the groups. -/
theorem spread_apply (x : FVec Ideal M .f32) (hb : M.BroadcastsInDim One ![1, 2]) (h3 : One.BroadcastsInDim Three ![0, 1, 2]) (k : Fin 3) (a : Fin 2048) (b : Fin 512) :
    broadcastInDim Three ![0, 1, 2] h3 (broadcastInDim One ![1, 2] hb x) (ix3 k a b) = x (ix2 a b) :=
  (broadcastInDim_apply ![0, 1, 2] h3 _ (ix3 k a b) (ix3 (0 : Fin 1) a b) fun y => by
    match y with
    | ⟨0, _⟩ => rfl
    | ⟨1, _⟩ => rfl
    | ⟨2, _⟩ => rfl).trans (layer_apply x hb a b)

theorem ofBits_bot : Ideal.ofBits .f32 0xFF800000#32 = (⊥ : EReal) := by simp [Ideal.ofBits, Ideal.ieee]

theorem max_apply (v : FVec Ideal Three .f32) (hr : Three.ReducesTo [0] M) (hu : 0 < Nil.numel) (a : Fin 2048) (b : Fin 512) :
    Host.reduce FloatOps.maximumf v (constant (F := Ideal) Nil .f32 0xFF800000#32) hr hu (ix2 a b)
      = top (v (ix3 (0 : Fin 3) a b)) (v (ix3 (1 : Fin 3) a b)) (v (ix3 (2 : Fin 3) a b)) := by
  have e : Host.reduce FloatOps.maximumf v (constant (F := Ideal) Nil .f32 0xFF800000#32) hr hu (ix2 a b)
      = (Finset.univ : Finset (Fin 3)).fold max (Ideal.ofBits .f32 0xFF800000#32) fun k : Fin 3 => v (ix3 k a b) := by
    simp only [pointwise]
    rfl
  rw [e, ofBits_bot]
  have f : ∀ w : Fin 3 → EReal, (Finset.univ : Finset (Fin 3)).fold max ⊥ w = max (w 0) (max (w 1) (max (w 2) ⊥)) := fun w => rfl
  rw [f, max_bot_right, ← max_assoc]
  rfl

theorem sum_apply (v : FVec Ideal Three .f32) (hr : Three.ReducesTo [0] M) (hu : 0 < Nil.numel) (a : Fin 2048) (b : Fin 512) :
    Host.reduceAdd v (constant (F := Ideal) Nil .f32 0x00000000#32) hr hu (ix2 a b)
      = v (ix3 (0 : Fin 3) a b) + v (ix3 (1 : Fin 3) a b) + v (ix3 (2 : Fin 3) a b) := by
  refine (hostReduceAdd_apply v _ hr hu (ix2 a b)).trans ((Ideal.hostReduceAdd_r3_a0 (n0 := 3) (n1 := 2048) (n2 := 512) hr v _ (ix2 a b)).trans ?_)
  refine (congrArg₂ (fun p q : EReal => p + q) Ideal.ofBits_zero_f32 rfl).trans ((zero_add _).trans ?_)
  exact Fin.sum_univ_three (fun k : Fin 3 => v (ix3 k a b))

abbrev hostExps (l : FVec Ideal Three .f32) (hr : Three.ReducesTo [0] M) (hu : 0 < Nil.numel) (hn : Nil.BroadcastsInDim M (![] : Fin 0 → Fin M.rank))
    (hb : M.BroadcastsInDim One ![1, 2]) (h3 : One.BroadcastsInDim Three ![0, 1, 2]) : FVec Ideal Three .f32 :=
  Host.exp (subf l (broadcastInDim Three ![0, 1, 2] h3 (broadcastInDim One ![1, 2] hb (maximumf (broadcastInDim M ![] hn (constant (F := Ideal) Nil .f32 0xFF800000#32))
    (Host.reduce FloatOps.maximumf l (constant (F := Ideal) Nil .f32 0xFF800000#32) hr hu)))))

theorem exps_apply (l : FVec Ideal Three .f32) (g : FVec Ideal M .f32) (hb : M.BroadcastsInDim One ![1, 2]) (h3 : One.BroadcastsInDim Three ![0, 1, 2])
    (k : Fin 3) (a : Fin 2048) (b : Fin 512) :
    Host.exp (subf l (broadcastInDim Three ![0, 1, 2] h3 (broadcastInDim One ![1, 2] hb g))) (ix3 k a b) = Ideal.exp (l (ix3 k a b) - g (ix2 a b)) := by
  rw [← spread_apply g hb h3 k a b]
  rfl

theorem max_const_apply (z : FVec Ideal Nil .f32) (w : EReal) (hz : ∀ i, z i = w) (g : FVec Ideal M .f32) (hn : Nil.BroadcastsInDim M (![] : Fin 0 → Fin M.rank)) (i : M.Idx) :
    maximumf (broadcastInDim M ![] hn z) g i = max w (g i) :=
  congrArg (fun t : EReal => max t (g i)) (hz _)

theorem hostExps_apply (l : FVec Ideal Three .f32) (hr hu hn hb h3) (k : Fin 3) (a : Fin 2048) (b : Fin 512) :
    hostExps l hr hu hn hb h3 (ix3 k a b)
      = Ideal.exp (l (ix3 k a b) - top (l (ix3 (0 : Fin 3) a b)) (l (ix3 (1 : Fin 3) a b)) (l (ix3 (2 : Fin 3) a b))) := by
  refine (exps_apply l _ hb h3 k a b).trans ?_
  rw [max_const_apply (constant (F := Ideal) Nil .f32 0xFF800000#32) (⊥ : EReal) (fun _ => ofBits_bot) _ hn (ix2 a b), max_bot_left, max_apply l hr hu a b]

abbrev hostMix (e o : FVec Ideal Three .f32) (hr : Three.ReducesTo [0] M) (hu : 0 < Nil.numel)
    (hb : M.BroadcastsInDim One ![1, 2]) (h3 : One.BroadcastsInDim Three ![0, 1, 2]) : FVec Ideal M .f32 :=
  Host.reduceAdd (mulf (Host.divf e (broadcastInDim Three ![0, 1, 2] h3 (broadcastInDim One ![1, 2] hb (Host.reduceAdd e (constant (F := Ideal) Nil .f32 0x00000000#32) hr hu)))) o)
    (constant (F := Ideal) Nil .f32 0x00000000#32) hr hu

theorem hostMix_apply (e o : FVec Ideal Three .f32) (hr hu hb h3) (a : Fin 2048) (b : Fin 512) :
    hostMix e o hr hu hb h3 (ix2 a b)
      = Ideal.div (e (ix3 (0 : Fin 3) a b)) (e (ix3 (0 : Fin 3) a b) + e (ix3 (1 : Fin 3) a b) + e (ix3 (2 : Fin 3) a b)) * o (ix3 (0 : Fin 3) a b)
        + Ideal.div (e (ix3 (1 : Fin 3) a b)) (e (ix3 (0 : Fin 3) a b) + e (ix3 (1 : Fin 3) a b) + e (ix3 (2 : Fin 3) a b)) * o (ix3 (1 : Fin 3) a b)
        + Ideal.div (e (ix3 (2 : Fin 3) a b)) (e (ix3 (0 : Fin 3) a b) + e (ix3 (1 : Fin 3) a b) + e (ix3 (2 : Fin 3) a b)) * o (ix3 (2 : Fin 3) a b) := by
  refine (sum_apply _ hr hu a b).trans ?_
  have s : ∀ k : Fin 3, broadcastInDim Three ![0, 1, 2] h3 (broadcastInDim One ![1, 2] hb (Host.reduceAdd e (constant (F := Ideal) Nil .f32 0x00000000#32) hr hu)) (ix3 k a b)
      = e (ix3 (0 : Fin 3) a b) + e (ix3 (1 : Fin 3) a b) + e (ix3 (2 : Fin 3) a b) := fun k => (spread_apply _ hb h3 k a b).trans (sum_apply e hr hu a b)
  generalize broadcastInDim Three ![0, 1, 2] h3 (broadcastInDim One ![1, 2] hb (Host.reduceAdd e (constant (F := Ideal) Nil .f32 0x00000000#32) hr hu)) = w at s ⊢
  show Ideal.div (e _) (w _) * o _ + Ideal.div (e _) (w _) * o _ + Ideal.div (e _) (w _) * o _ = _
  rw [s 0, s 1, s 2]

theorem host_eq (o0 o1 o2 l0 l1 l2 : FVec Ideal M .f32) (h : ∀ i, ∃ r : ℝ, top (l0 i) (l1 i) (l2 i) = (r : EReal)) (hb hc hr hu hn h3) :
    hostMix (hostExps (stack l0 l1 l2 hb hc) hr hu hn hb h3) (stack o0 o1 o2 hb hc) hr hu hb h3 = mixed o0 o1 o2 l0 l1 l2 := by
  funext i
  obtain ⟨a, b, rfl⟩ : ∃ (a : Fin 2048) (b : Fin 512), i = ix2 a b := ⟨i 0, i 1, ValueIdx.eq_ix2 i⟩
  have he := fun k : Fin 3 => hostExps_apply (stack l0 l1 l2 hb hc) hr hu hn hb h3 k a b
  rw [stack_apply0, stack_apply1, stack_apply2] at he
  have e0 := he 0
  have e1 := he 1
  have e2 := he 2
  rw [stack_apply0] at e0
  rw [stack_apply1] at e1
  rw [stack_apply2] at e2
  clear he
  have q0 := stack_apply0 o0 o1 o2 hb hc a b
  have q1 := stack_apply1 o0 o1 o2 hb hc a b
  have q2 := stack_apply2 o0 o1 o2 hb hc a b
  generalize hostExps (stack l0 l1 l2 hb hc) hr hu hn hb h3 = e at e0 e1 e2 ⊢
  generalize stack o0 o1 o2 hb hc = o at q0 q1 q2 ⊢
  refine (hostMix_apply e o hr hu hb h3 a b).trans ?_
  rw [e0, e1, e2, q0, q1, q2]
  have w := fun l : EReal => weight_eq (l0 (ix2 a b)) (l1 (ix2 a b)) (l2 (ix2 a b)) l (h (ix2 a b))
  unfold total at w
  rw [w, w, w]
  rfl

end Cert.Mix

namespace Cert.Kernel23Ideal.Mm

open Cert.Kernel23Ideal Cert.Kernel23Ideal.Gen Idealize.ShloMosaic.TcCoe Idealize.SL.Sem
open Idealize.ShloMosaic hiding ix0 ix1 ix2 ix3
open Idealize.ShloMosaic.ValueIdx

variable (m : (ℓ : Loc nD τ sig) → Buf (Elt Ideal) ℓ) (ρ : Dev nD → PrngReg)

/-- A grid point takes a block of 1024 rows of each array. -/
theorem index0 : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0))

theorem apart : ∀ t t' : Fin cfg0.N, win0_6.index t = win0_6.index t' → t = t' :=
  (by decide +kernel : ∀ t t' : Fin grid0.N, win0_6.index t = win0_6.index t' → t = t')

theorem flush6 : ∀ t : Fin cfg0.N, (cfg0.win 6).flush t = true :=
  (by decide +kernel : ∀ t : Fin grid0.N, (cfg0.win 6).flush t = true)

theorem iblk0 (c : Dev nD) (t : Fin cfg0.N) (a : Fin 1024) (b : Fin 512) (r : Fin 2048) (h : r.val = t.val * 1024 + a.val) :
    iblk m c 0 t (ix2 a b) = m ((c.tc : Thread nD τ).loc main_arg0) (ix2 r b) := by
  obtain ⟨⟨e0, e1⟩, -⟩ := index0 t
  refine congrArg (m ((c.tc : Thread nD τ).loc main_arg0)) (funext fun x => Fin.ext ?_)
  match x with
  | ⟨0, _⟩ => show win0_0.index t 0 * 1024 + 1 * a.val = r.val; rw [e0]; omega
  | ⟨1, _⟩ => show win0_0.index t 1 * 512 + 1 * b.val = b.val; rw [e1]; omega

theorem iblk1 (c : Dev nD) (t : Fin cfg0.N) (a : Fin 1024) (b : Fin 512) (r : Fin 2048) (h : r.val = t.val * 1024 + a.val) :
    iblk m c 1 t (ix2 a b) = m ((c.tc : Thread nD τ).loc main_arg1) (ix2 r b) := by
  obtain ⟨-, ⟨e0, e1⟩, -⟩ := index0 t
  refine congrArg (m ((c.tc : Thread nD τ).loc main_arg1)) (funext fun x => Fin.ext ?_)
  match x with
  | ⟨0, _⟩ => show win0_1.index t 0 * 1024 + 1 * a.val = r.val; rw [e0]; omega
  | ⟨1, _⟩ => show win0_1.index t 1 * 512 + 1 * b.val = b.val; rw [e1]; omega

theorem iblk2 (c : Dev nD) (t : Fin cfg0.N) (a : Fin 1024) (b : Fin 512) (r : Fin 2048) (h : r.val = t.val * 1024 + a.val) :
    iblk m c 2 t (ix2 a b) = m ((c.tc : Thread nD τ).loc main_arg2) (ix2 r b) := by
  obtain ⟨-, -, ⟨e0, e1⟩, -⟩ := index0 t
  refine congrArg (m ((c.tc : Thread nD τ).loc main_arg2)) (funext fun x => Fin.ext ?_)
  match x with
  | ⟨0, _⟩ => show win0_2.index t 0 * 1024 + 1 * a.val = r.val; rw [e0]; omega
  | ⟨1, _⟩ => show win0_2.index t 1 * 512 + 1 * b.val = b.val; rw [e1]; omega

theorem iblk3 (c : Dev nD) (t : Fin cfg0.N) (a : Fin 1024) (b : Fin 512) (r : Fin 2048) (h : r.val = t.val * 1024 + a.val) :
    iblk m c 3 t (ix2 a b) = m ((c.tc : Thread nD τ).loc main_arg3) (ix2 r b) := by
  obtain ⟨-, -, -, ⟨e0, e1⟩, -⟩ := index0 t
  refine congrArg (m ((c.tc : Thread nD τ).loc main_arg3)) (funext fun x => Fin.ext ?_)
  match x with
  | ⟨0, _⟩ => show win0_3.index t 0 * 1024 + 1 * a.val = r.val; rw [e0]; omega
  | ⟨1, _⟩ => show win0_3.index t 1 * 512 + 1 * b.val = b.val; rw [e1]; omega

theorem iblk4 (c : Dev nD) (t : Fin cfg0.N) (a : Fin 1024) (b : Fin 512) (r : Fin 2048) (h : r.val = t.val * 1024 + a.val) :
    iblk m c 4 t (ix2 a b) = m ((c.tc : Thread nD τ).loc main_arg4) (ix2 r b) := by
  obtain ⟨-, -, -, -, ⟨e0, e1⟩, -⟩ := index0 t
  refine congrArg (m ((c.tc : Thread nD τ).loc main_arg4)) (funext fun x => Fin.ext ?_)
  match x with
  | ⟨0, _⟩ => show win0_4.index t 0 * 1024 + 1 * a.val = r.val; rw [e0]; omega
  | ⟨1, _⟩ => show win0_4.index t 1 * 512 + 1 * b.val = b.val; rw [e1]; omega

theorem iblk5 (c : Dev nD) (t : Fin cfg0.N) (a : Fin 1024) (b : Fin 512) (r : Fin 2048) (h : r.val = t.val * 1024 + a.val) :
    iblk m c 5 t (ix2 a b) = m ((c.tc : Thread nD τ).loc main_arg5) (ix2 r b) := by
  obtain ⟨-, -, -, -, -, ⟨e0, e1⟩, -⟩ := index0 t
  refine congrArg (m ((c.tc : Thread nD τ).loc main_arg5)) (funext fun x => Fin.ext ?_)
  match x with
  | ⟨0, _⟩ => show win0_5.index t 0 * 1024 + 1 * a.val = r.val; rw [e0]; omega
  | ⟨1, _⟩ => show win0_5.index t 1 * 512 + 1 * b.val = b.val; rw [e1]; omega

theorem pay1_apply (l0 l1 l2 : Vec Ideal S1024x512 .f32) (o0 o1 o2 : Vec Ideal S1024x512 .bf16) (i : S1024x512.Idx) :
    k0_pay1 l0 l1 l2 o0 o1 o2 i = Mix.weight (l0 i) (l1 i) (l2 i) (l0 i) * o0 i + Mix.weight (l0 i) (l1 i) (l2 i) (l1 i) * o1 i
      + Mix.weight (l0 i) (l1 i) (l2 i) (l2 i) * o2 i := rfl

theorem out6_eq (o0 o1 o2 : Vec Ideal S1024x512 .bf16) (l0 l1 l2 : Vec Ideal S1024x512 .f32) : out0_6 o0 o1 o2 l0 l1 l2 = k0_pay1 l0 l1 l2 o0 o1 o2 := by
  unfold out0_6
  rw [View.canon_cons_unit_lit _ _ _ (by decide), View.ld_unit_lit _ o0 (by decide), View.ld_unit_lit _ o1 (by decide), View.ld_unit_lit _ o2 (by decide),
    View.ld_unit_lit _ l0 (by decide), View.ld_unit_lit _ l1 (by decide), View.ld_unit_lit _ l2 (by decide)]

theorem block_apply (c : Dev nD) (t : Fin cfg0.N) (a : Fin 1024) (b : Fin 512) (r : Fin 2048) (h : r.val = t.val * 1024 + a.val) :
    out0_6 (iblk m c 0 t) (iblk m c 1 t) (iblk m c 2 t) (iblk m c 3 t) (iblk m c 4 t) (iblk m c 5 t) (ix2 a b)
      = Mix.mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r b) := by
  rw [out6_eq, pay1_apply, iblk0 m c t a b r h, iblk1 m c t a b r h, iblk2 m c t a b r h, iblk3 m c t a b r h, iblk4 m c t a b r h, iblk5 m c t a b r h]
  rfl

/-- The blocks of the two grid points share no entry, so each stays as its point wrote it. -/
theorem written (c : Dev nD) (t : Fin cfg0.N) : ((cfg0.win 6).blk t).view.read (Elt Ideal) ((dats m 0 c).arrAt 6 cfg0.N)
    = (cfg0.win 6).cut (grid0.coords t) (out0_6 (iblk m c 0 t) (iblk m c 1 t) (iblk m c 2 t) (iblk m c 3 t) (iblk m c 4 t) (iblk m c 5 t)) := by
  refine ((dats m 0 c).read_blk_arrAt_eq_flushed 6 (fun t t' _ _ hne => (cfg0.win 6).disjoint_blk fun h => hne (apart t t' h)) cfg0.N t t.isLt (flush6 t)).trans ?_
  show (cfg0.win 6).cut (grid0.coords t) ((dats m 0 c).after 6 t) = _
  rw [after0_6]

theorem final (c : Dev nD) : (dats m 0 c).arrAt 6 cfg0.N
    = Mix.mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨r, s, rfl⟩ : ∃ (r : Fin 2048) (s : Fin 512), i = ix2 r s := ⟨i 0, i 1, ValueIdx.eq_ix2 i⟩
  let t : Fin cfg0.N := ⟨r.val / 1024, by show _ < 2; omega⟩
  have hr : r.val = t.val * 1024 + (⟨r.val % 1024, by omega⟩ : Fin 1024).val := by show r.val = r.val / 1024 * 1024 + r.val % 1024; omega
  obtain ⟨-, -, -, -, -, -, e0, e1⟩ := index0 t
  refine Eq.trans (congrArg _ (funext fun x => Fin.ext ?_)) ((congrFun (written m c t) (ix2 (⟨r.val % 1024, by omega⟩ : Fin 1024) s)).trans (block_apply m c t _ s r hr))
  match x with
  | ⟨0, _⟩ => show r.val = win0_6.index t 0 * 1024 + 1 * (r.val % 1024); rw [e0]; show r.val = r.val / 1024 * 1024 + _; omega
  | ⟨1, _⟩ => show s.val = win0_6.index t 1 * 512 + 1 * s.val; rw [e1]; omega

theorem run : θ_run defs (onTc (τ := τ) (main (F := Ideal))) ⟨m, fun _ => 0, ρ⟩ fun r => ∀ c : Dev nD,
      r.2.mem ((c.tc : Thread nD τ).loc main_v0) = Mix.mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c), ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_main m ρ)

end Cert.Kernel23Ideal.Mm

namespace Cert.Reference23Ideal.Mm

open Cert.Reference23Ideal Cert.Reference23Ideal.Gen Idealize.ShloMosaic.TcCoe Idealize.SL.Sem
open Idealize.ShloMosaic hiding ix0 ix1 ix2 ix3

variable (m : (ℓ : Loc nD τ sig) → Buf (Elt Ideal) ℓ) (ρ : Dev nD → PrngReg)

/-- The largest log-sum at an entry. -/
def top (c : Dev nD) (i : S2048x512.Idx) : EReal :=
  Mix.top (m ((c.tc : Thread nD τ).loc main_arg3) i) (m ((c.tc : Thread nD τ).loc main_arg4) i) (m ((c.tc : Thread nD τ).loc main_arg5) i)

theorem out_eq (c : Dev nD) (h : ∀ i, ∃ r : ℝ, top m c i = (r : EReal)) : Value.res_out0 m c
    = Mix.mixed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Value.res_out0 Value.res_main_v24
  exact Mix.host_eq _ _ _ _ _ _ h _ _ _ _ _ _

theorem run (h : ∀ c i, ∃ r : ℝ, top m c i = (r : EReal)) : θ_run defs (onTc (τ := τ) (main (F := Ideal))) ⟨m, fun _ => 0, ρ⟩ fun r => ∀ c : Dev nD,
      r.2.mem ((c.tc : Thread nD τ).loc main_v24) = Mix.mixed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ q c => ⟨(q c).1.trans (out_eq m c (h c)), (q c).2⟩) (Cert.Reference23Ideal.Value.run m ρ)

end Cert.Reference23Ideal.Mm

namespace Cert.Pre_top23.Mm

open Cert.Pre_top23 Cert.Pre_top23.Gen
open Idealize.ShloMosaic hiding ix0 ix1 ix2 ix3

/-- What the precondition says: the largest log-sum is finite at every entry. -/
theorem finite (o0 o1 o2 : FVec Ideal S2048x512 .bf16) (l0 l1 l2 : FVec Ideal S2048x512 .f32) (h : Cert.Pre_top23.fn (F := Ideal) o0 o1 o2 l0 l1 l2 = fun _ => 1#1)
    (i : S2048x512.Idx) : ∃ r : ℝ, Mix.top (l0 i) (l1 i) (l2 i) = (r : EReal) :=
  Ln.finite_of _ (congrFun h i)

end Cert.Pre_top23.Mm

end
-- ==== Proof.LnBwd.lean ====
/- The backward pass of the layer norm and the swish: the cotangent of the input and the gradients of gain and shift. -/
module

public import proofs.«01_k».proof.Proof.Gen.Kernel34Ideal.Value
public import proofs.«01_k».proof.Proof.Gen.Reference34Ideal.Run
public import proofs.«01_k».proof.Proof.Gen.Pre_reals34
public import proofs.«01_k».proof.Proof.LnBwdRows
public import Idealize.ShloMosaic.Lib.Pipeline.ValueKit.Acc

@[expose] public section

set_option maxRecDepth 16384

noncomputable section

namespace Cert.Kernel34Ideal.Mm

open Cert.Kernel34Ideal Cert.Kernel34Ideal.Gen Cert.Kernel34Ideal.Value Idealize.ShloMosaic.TcCoe Idealize.SL.Sem
open Idealize.ShloMosaic hiding ix0 ix1 ix2 ix3
open Idealize.ShloMosaic.ValueIdx

/-! ### The block's values -/

theorem pay3_apply (x : Vec Ideal S2048x512 .f32) (a : Fin 2048) (b : Fin 512) : k0_pay3 x (ix2 a b) = Ln.zrow x a b :=
  Ln.cent_apply x reduces_S2048x512_S2048 shapeCasts_S2048_S2048x1 broadcasts_S2048x1_S2048x512 (.inl rfl) rfl a b

theorem pay4_apply (x : Vec Ideal S2048x512 .f32) (a : Fin 2048) : k0_pay4 x (ix2 a (0 : Fin 1)) = Ln.inv (Ln.zrow x a) := by
  have e := pay3_apply x a
  unfold k0_pay4
  generalize k0_pay3 x = z at e ⊢
  refine (Ln.inv_apply z reduces_S2048x512_S2048 shapeCasts_S2048_S2048x1 (.inl rfl) rfl a).trans ?_
  exact congrArg Ln.inv (funext e)

theorem pay5_apply (x : Vec Ideal S2048x512 .f32) (a : Fin 2048) (b : Fin 512) : k0_pay5 x (ix2 a b) = Ln.zrow x a b * Ln.inv (Ln.zrow x a) := by
  have e := pay3_apply x a b
  have e' := pay4_apply x a
  unfold k0_pay5
  generalize k0_pay3 x = z at e ⊢
  generalize k0_pay4 x = i at e' ⊢
  exact congrArg₂ (fun v w : EReal => v * w) e ((Rows.col_apply i broadcasts_S2048x1_S2048x512 a b).trans e')

theorem pay6_apply (x : Vec Ideal S2048x512 .f32) (g s : Vec Ideal S1x512 .f32) (a : Fin 2048) (b : Fin 512) :
    k0_pay6 x g s (ix2 a b) = Ln.zrow x a b * Ln.inv (Ln.zrow x a) * g (ix2 (0 : Fin 1) b) + s (ix2 (0 : Fin 1) b) := by
  have e := pay5_apply x a b
  unfold k0_pay6
  generalize k0_pay5 x = z at e ⊢
  exact congrArg₂ (fun v w : EReal => v + w) (congrArg₂ (fun v w : EReal => v * w) e (Rows.row_apply g shapeCasts_S1x512_S1x512 broadcasts_S1x512_S2048x512 a b))
    (Rows.row_apply s shapeCasts_S1x512_S1x512 broadcasts_S1x512_S2048x512 a b)

theorem pay7_apply (x : Vec Ideal S2048x512 .f32) (g s : Vec Ideal S1x512 .f32) (i : S2048x512.Idx) : k0_pay7 x g s i = Gates.sg (k0_pay6 x g s i) := by
  unfold k0_pay7
  generalize k0_pay6 x g s = y
  exact Gates.tile y i

theorem pay8_apply (x : Vec Ideal S2048x512 .f32) (g s : Vec Ideal S1x512 .f32) (i : S2048x512.Idx) :
    k0_pay8 x g s i = (k0_pay6 x g s i * (1 - Gates.sg (k0_pay6 x g s i)) : EReal) := by
  have e := pay7_apply x g s i
  unfold k0_pay8
  generalize k0_pay7 x g s = w at e ⊢
  generalize k0_pay6 x g s = y at e ⊢
  show y i * (Ideal.ofBits .f32 0x3F800000#32 - w i) = _
  rw [Ideal.ofBits_one_f32, e]

/-- The cotangent of the norm's result. -/
theorem pay9_apply (ct x : Vec Ideal S2048x512 .f32) (g s : Vec Ideal S1x512 .f32) (i : S2048x512.Idx) :
    k0_pay9 (k0_pay7 x g s) ct (k0_pay8 x g s) i = Ln.dswish (ct i) (k0_pay6 x g s i) := by
  have e := pay7_apply x g s i
  have e' := pay8_apply x g s i
  unfold k0_pay9
  generalize k0_pay7 x g s = w at e ⊢
  generalize k0_pay8 x g s = v at e' ⊢
  show ct i * (w i * (Ideal.ofBits .f32 0x3F800000#32 + v i)) = _
  rw [Ideal.ofBits_one_f32, e, e']
  rfl

theorem zero_row (b : Fin 512) : shapeCast S1x512 (k0_pay1 (F := Ideal)) shapeCasts_S1x512_S1x512 (ix2 (0 : Fin 1) b) = (0 : EReal) :=
  (shapeCast_apply _ _ (ix2 (0 : Fin 1) b) (ix2 (0 : Fin 1) b) rfl).trans Ideal.ofBits_zero_f32

theorem zero_row' (b : Fin 512) : shapeCast S1x512 (k0_pay2 (F := Ideal)) shapeCasts_S1x512_S1x512 (ix2 (0 : Fin 1) b) = (0 : EReal) :=
  (shapeCast_apply _ _ (ix2 (0 : Fin 1) b) (ix2 (0 : Fin 1) b) rfl).trans Ideal.ofBits_zero_f32

theorem pay10_apply (xh w ct v : Vec Ideal S2048x512 .f32) (b : Fin 512) :
    k0_pay10 xh w ct v (k0_pay1 (F := Ideal)) (ix2 (0 : Fin 1) b) = (∑ a : Fin 2048, k0_pay9 w ct v (ix2 a b) * xh (ix2 a b) : EReal) := by
  unfold k0_pay10
  generalize k0_pay9 w ct v = d
  exact (congrArg₂ (fun p q : EReal => p + q) (zero_row b) (Ln.colSum_apply (mulf d xh) reduces_S2048x512_S512 shapeCasts_S512_S1x512 (.inl rfl) rfl b)).trans (zero_add _)

theorem pay11_apply (w ct v : Vec Ideal S2048x512 .f32) (b : Fin 512) :
    k0_pay11 w ct v (k0_pay2 (F := Ideal)) (ix2 (0 : Fin 1) b) = (∑ a : Fin 2048, k0_pay9 w ct v (ix2 a b) : EReal) := by
  unfold k0_pay11
  generalize k0_pay9 w ct v = d
  exact (congrArg₂ (fun p q : EReal => p + q) (zero_row' b) (Ln.colSum_apply d reduces_S2048x512_S512 shapeCasts_S512_S1x512 (.inl rfl) rfl b)).trans (zero_add _)

theorem pay12_apply (i : FVec Ideal S2048x1 .f32) (xh w ct v : Vec Ideal S2048x512 .f32) (g : Vec Ideal S1x512 .f32) (z : Fin 512 → EReal) (a : Fin 2048)
    (hx : ∀ k, xh (ix2 a k) = z k * Ln.inv z) (hi : i (ix2 a (0 : Fin 1)) = Ln.inv z) (b : Fin 512) :
    k0_pay12 i xh w ct v g (ix2 a b) = Ln.back (fun k => k0_pay9 w ct v (ix2 a k) * g (ix2 (0 : Fin 1) k)) z b := by
  unfold k0_pay12
  generalize k0_pay9 w ct v = d
  refine (Ln.back_block (mulf d (broadcastTo S2048x512 (shapeCast S1x512 g shapeCasts_S1x512_S1x512) broadcasts_S1x512_S2048x512)) xh i reduces_S2048x512_S2048
    shapeCasts_S2048_S2048x1 broadcasts_S2048x1_S2048x512 (.inl rfl) rfl z a hx hi b).trans ?_
  exact congrArg (fun f => Ln.back f z b) (funext fun k => congrArg (fun p : EReal => d (ix2 a k) * p)
    (Rows.row_apply g shapeCasts_S1x512_S1x512 broadcasts_S1x512_S2048x512 a k))

variable (m : (ℓ : Loc nD τ sig) → Buf (Elt Ideal) ℓ) (ρ : Dev nD → PrngReg)

/-! ### What the one point leaves -/

theorem dz_eq (c : Dev nD) (t : Fin cfg0.N) : (outsAt0 m c t).1 = k0_pay12 (k0_pay4 (iblk m c 1 t)) (k0_pay5 (iblk m c 1 t))
    (k0_pay7 (iblk m c 1 t) (iblk m c 2 t) (iblk m c 3 t)) (iblk m c 0 t) (k0_pay8 (iblk m c 1 t) (iblk m c 2 t) (iblk m c 3 t)) (iblk m c 2 t) := by
  unfold outsAt0
  frame_out

theorem dg_eq (c : Dev nD) (t : Fin cfg0.N) : (outsAt0 m c t).2.1 = k0_pay10 (k0_pay5 (iblk m c 1 t))
    (k0_pay7 (iblk m c 1 t) (iblk m c 2 t) (iblk m c 3 t)) (iblk m c 0 t) (k0_pay8 (iblk m c 1 t) (iblk m c 2 t) (iblk m c 3 t)) (k0_pay1 (F := Ideal)) := by
  unfold outsAt0
  frame_out

theorem ds_eq (c : Dev nD) (t : Fin cfg0.N) : (outsAt0 m c t).2.2 = k0_pay11
    (k0_pay7 (iblk m c 1 t) (iblk m c 2 t) (iblk m c 3 t)) (iblk m c 0 t) (k0_pay8 (iblk m c 1 t) (iblk m c 2 t) (iblk m c 3 t)) (k0_pay2 (F := Ideal)) := by
  unfold outsAt0
  frame_out

/-! ### The arrays read -/

/-- The one grid point takes whole arrays. -/
theorem index0 : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0))

theorem flush0 : ∀ t : Fin cfg0.N, (cfg0.win 4).flush t = true ∧ (cfg0.win 5).flush t = true ∧ (cfg0.win 6).flush t = true :=
  (by decide +kernel : ∀ t : Fin grid0.N, (cfg0.win 4).flush t = true ∧ (cfg0.win 5).flush t = true ∧ (cfg0.win 6).flush t = true)

theorem iblk0 (c : Dev nD) (t : Fin cfg0.N) (a : Fin 2048) (b : Fin 512) : iblk m c 0 t (ix2 a b) = m ((c.tc : Thread nD τ).loc main_arg0) (ix2 a b) := by
  obtain ⟨⟨e0, e1⟩, -⟩ := index0 t
  show V m c main_arg0 _ = _
  rw [V_main_arg0]
  refine congrArg (m ((c.tc : Thread nD τ).loc main_arg0)) (funext fun x => Fin.ext ?_)
  match x with
  | ⟨0, _⟩ => show win0_0.index t 0 * 2048 + 1 * a.val = a.val; rw [e0]; omega
  | ⟨1, _⟩ => show win0_0.index t 1 * 512 + 1 * b.val = b.val; rw [e1]; omega

theorem iblk1 (c : Dev nD) (t : Fin cfg0.N) (a : Fin 2048) (b : Fin 512) : iblk m c 1 t (ix2 a b) = m ((c.tc : Thread nD τ).loc main_arg1) (ix2 a b) := by
  obtain ⟨-, ⟨e0, e1⟩, -⟩ := index0 t
  show V m c main_arg1 _ = _
  rw [V_main_arg1]
  refine congrArg (m ((c.tc : Thread nD τ).loc main_arg1)) (funext fun x => Fin.ext ?_)
  match x with
  | ⟨0, _⟩ => show win0_1.index t 0 * 2048 + 1 * a.val = a.val; rw [e0]; omega
  | ⟨1, _⟩ => show win0_1.index t 1 * 512 + 1 * b.val = b.val; rw [e1]; omega

/-- Gain and shift come as rows. -/
theorem V_gain (c : Dev nD) : V m c main_v0 = shapeCast S1x512 (m ((c.tc : Thread nD τ).loc main_arg2)) shapeCasts_S512_S1x512 := by
  show StableHlo.after (List.flatten [hostOps0]) (fun b => m (c, b)) (Proc.devRef .tc main_v0) = _
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem V_shift (c : Dev nD) : V m c main_v1 = shapeCast S1x512 (m ((c.tc : Thread nD τ).loc main_arg3)) shapeCasts_S512_S1x512 := by
  show StableHlo.after (List.flatten [hostOps0]) (fun b => m (c, b)) (Proc.devRef .tc main_v1) = _
  simp only [hostOps0, List.flatten_cons, List.flatten_nil, List.append_nil, List.cons_append, List.nil_append,
    StableHlo.TRef.binary, StableHlo.TRef.unary, StableHlo.TRef.toBuf, StableHlo.TRef.ofBuf, cast_eq]
  after_results_simp
  rfl

theorem iblk2 (c : Dev nD) (t : Fin cfg0.N) (b : Fin 512) : iblk m c 2 t (ix2 (0 : Fin 1) b) = m ((c.tc : Thread nD τ).loc main_arg2) (ix1 b) := by
  obtain ⟨-, -, ⟨e0, e1⟩, -⟩ := index0 t
  refine Eq.trans ?_ ((congrFun (V_gain m c) (ix2 (0 : Fin 1) b)).trans (Rows.toRow_apply _ _ b))
  show V m c main_v0 _ = _
  refine congrArg (V m c main_v0) (funext fun x => Fin.ext ?_)
  match x with
  | ⟨0, _⟩ => show win0_2.index t 0 * 1 + 1 * 0 = 0; rw [e0]
  | ⟨1, _⟩ => show win0_2.index t 1 * 512 + 1 * b.val = b.val; rw [e1]; omega

theorem iblk3 (c : Dev nD) (t : Fin cfg0.N) (b : Fin 512) : iblk m c 3 t (ix2 (0 : Fin 1) b) = m ((c.tc : Thread nD τ).loc main_arg3) (ix1 b) := by
  obtain ⟨-, -, -, ⟨e0, e1⟩, -⟩ := index0 t
  refine Eq.trans ?_ ((congrFun (V_shift m c) (ix2 (0 : Fin 1) b)).trans (Rows.toRow_apply _ _ b))
  show V m c main_v1 _ = _
  refine congrArg (V m c main_v1) (funext fun x => Fin.ext ?_)
  match x with
  | ⟨0, _⟩ => show win0_3.index t 0 * 1 + 1 * 0 = 0; rw [e0]
  | ⟨1, _⟩ => show win0_3.index t 1 * 512 + 1 * b.val = b.val; rw [e1]; omega

/-! ### The results -/

abbrev argC (c : Dev nD) : S2048x512.Idx → EReal := m ((c.tc : Thread nD τ).loc main_arg0)
abbrev argX (c : Dev nD) : S2048x512.Idx → EReal := m ((c.tc : Thread nD τ).loc main_arg1)
abbrev argG (c : Dev nD) : S512.Idx → EReal := m ((c.tc : Thread nD τ).loc main_arg2)
abbrev argS (c : Dev nD) : S512.Idx → EReal := m ((c.tc : Thread nD τ).loc main_arg3)

theorem row_eq (c : Dev nD) (t : Fin cfg0.N) (a : Fin 2048) : Ln.zrow (iblk m c 1 t) a = Ln.zrow (argX m c) a :=
  congrArg Ln.centred (funext fun k => iblk1 m c t a k)

theorem norm_apply (c : Dev nD) (t : Fin cfg0.N) (a : Fin 2048) (b : Fin 512) :
    k0_pay6 (iblk m c 1 t) (iblk m c 2 t) (iblk m c 3 t) (ix2 a b) = Ln.normed (argX m c) (argG m c) (argS m c) (ix2 a b) := by
  refine (pay6_apply _ _ _ a b).trans ?_
  rw [row_eq m c t a, iblk2 m c t b, iblk3 m c t b]
  rfl

theorem dy_apply (c : Dev nD) (t : Fin cfg0.N) (a : Fin 2048) (b : Fin 512) :
    k0_pay9 (k0_pay7 (iblk m c 1 t) (iblk m c 2 t) (iblk m c 3 t)) (iblk m c 0 t) (k0_pay8 (iblk m c 1 t) (iblk m c 2 t) (iblk m c 3 t)) (ix2 a b)
      = Ln.dy (argC m c) (argX m c) (argG m c) (argS m c) (ix2 a b) := by
  refine (pay9_apply _ _ _ _ (ix2 a b)).trans ?_
  rw [norm_apply m c t a b, iblk0 m c t a b]
  rfl

theorem dz_apply (c : Dev nD) (t : Fin cfg0.N) (a : Fin 2048) (b : Fin 512) :
    (outsAt0 m c t).1 (ix2 a b) = Ln.dz (argC m c) (argX m c) (argG m c) (argS m c) (ix2 a b) := by
  rw [dz_eq]
  refine (pay12_apply _ _ _ _ _ _ (Ln.zrow (iblk m c 1 t) a) a (fun k => pay5_apply _ a k) (pay4_apply _ a) b).trans ?_
  rw [row_eq m c t a]
  show _ = Ln.back (fun k => Ln.dy (argC m c) (argX m c) (argG m c) (argS m c) (ix2 a k) * argG m c (ix1 k)) (Ln.zrow (argX m c) a) b
  exact congrArg (fun f => Ln.back f (Ln.zrow (argX m c) a) b) (funext fun k => congrArg₂ (fun p q : EReal => p * q) (dy_apply m c t a k) (iblk2 m c t k))

theorem dg_apply (c : Dev nD) (t : Fin cfg0.N) (b : Fin 512) :
    (outsAt0 m c t).2.1 (ix2 (0 : Fin 1) b) = Ln.dgain (argC m c) (argX m c) (argG m c) (argS m c) (ix2 (0 : Fin 1) b) := by
  rw [dg_eq]
  refine (pay10_apply _ _ _ _ b).trans (Finset.sum_congr rfl fun a _ => ?_)
  exact congrArg₂ (fun p q : EReal => p * q) (dy_apply m c t a b) ((pay5_apply _ a b).trans (congrArg (fun z : Fin 512 → EReal => z b * Ln.inv z) (row_eq m c t a)))

theorem ds_apply (c : Dev nD) (t : Fin cfg0.N) (b : Fin 512) :
    (outsAt0 m c t).2.2 (ix2 (0 : Fin 1) b) = Ln.dshift (argC m c) (argX m c) (argG m c) (argS m c) (ix2 (0 : Fin 1) b) := by
  rw [ds_eq]
  exact (pay11_apply _ _ _ b).trans (Finset.sum_congr rfl fun a _ => dy_apply m c t a b)

theorem final_dz (c : Dev nD) : (dats m 0 c).arrAt 4 cfg0.N = Ln.dz (argC m c) (argX m c) (argG m c) (argS m c) := by
  funext i
  obtain ⟨r, s, rfl⟩ : ∃ (r : Fin 2048) (s : Fin 512), i = ix2 r s := ⟨i 0, i 1, ValueIdx.eq_ix2 i⟩
  let t : Fin cfg0.N := ⟨0, by show 0 < 1; omega⟩
  obtain ⟨-, -, -, -, ⟨e0, e1⟩, -⟩ := index0 t
  have h := (blocks4 m c t (flush0 t).1).trans (flushed4 m c t)
  refine Eq.trans (congrArg _ (funext fun x => Fin.ext ?_)) ((congrFun h (ix2 r s)).trans (dz_apply m c t r s))
  match x with
  | ⟨0, _⟩ => show r.val = win0_4.index t 0 * 2048 + 1 * r.val; rw [e0]; omega
  | ⟨1, _⟩ => show s.val = win0_4.index t 1 * 512 + 1 * s.val; rw [e1]; omega

theorem final_dg (c : Dev nD) : (dats m 0 c).arrAt 5 cfg0.N = Ln.dgain (argC m c) (argX m c) (argG m c) (argS m c) := by
  funext i
  obtain ⟨r, s, rfl⟩ : ∃ (r : Fin 1) (s : Fin 512), i = ix2 r s := ⟨i 0, i 1, ValueIdx.eq_ix2 i⟩
  obtain rfl : r = 0 := Subsingleton.elim _ _
  let t : Fin cfg0.N := ⟨0, by show 0 < 1; omega⟩
  obtain ⟨-, -, -, -, -, ⟨e0, e1⟩, -⟩ := index0 t
  have h := (blocks5 m c t (flush0 t).2.1).trans (flushed5 m c t)
  refine Eq.trans (congrArg _ (funext fun x => Fin.ext ?_)) ((congrFun h (ix2 (0 : Fin 1) s)).trans (dg_apply m c t s))
  match x with
  | ⟨0, _⟩ => show 0 = win0_5.index t 0 * 1 + 1 * 0; rw [e0]
  | ⟨1, _⟩ => show s.val = win0_5.index t 1 * 512 + 1 * s.val; rw [e1]; omega

theorem final_ds (c : Dev nD) : (dats m 0 c).arrAt 6 cfg0.N = Ln.dshift (argC m c) (argX m c) (argG m c) (argS m c) := by
  funext i
  obtain ⟨r, s, rfl⟩ : ∃ (r : Fin 1) (s : Fin 512), i = ix2 r s := ⟨i 0, i 1, ValueIdx.eq_ix2 i⟩
  obtain rfl : r = 0 := Subsingleton.elim _ _
  let t : Fin cfg0.N := ⟨0, by show 0 < 1; omega⟩
  obtain ⟨-, -, -, -, -, -, e0, e1⟩ := index0 t
  have h := (blocks6 m c t (flush0 t).2.2).trans (flushed6 m c t)
  refine Eq.trans (congrArg _ (funext fun x => Fin.ext ?_)) ((congrFun h (ix2 (0 : Fin 1) s)).trans (ds_apply m c t s))
  match x with
  | ⟨0, _⟩ => show 0 = win0_6.index t 0 * 1 + 1 * 0; rw [e0]
  | ⟨1, _⟩ => show s.val = win0_6.index t 1 * 512 + 1 * s.val; rw [e1]; omega

theorem run : θ_run defs (onTc (τ := τ) (main (F := Ideal))) ⟨m, fun _ => 0, ρ⟩ fun r => ∀ c : Dev nD,
      r.2.mem ((c.tc : Thread nD τ).loc main_v2_0) = Ln.dz (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2_1) = Ln.dgain (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2_2) = Ln.dshift (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_dz m c), (h c).2.1.trans (final_dg m c), (h c).2.2.1.trans (final_ds m c), (h c).2.2.2⟩) (run_blocks m ρ)

end Cert.Kernel34Ideal.Mm

namespace Cert.Reference34Ideal.Mm

open Cert.Reference34Ideal Cert.Reference34Ideal.Gen Idealize.ShloMosaic.TcCoe Idealize.SL.Sem
open Idealize.ShloMosaic hiding ix0 ix1 ix2 ix3
open Idealize.ShloMosaic.ValueIdx

/-- The cotangent of the norm's result, and what stands under the root. -/
abbrev hd (ct x : FVec Ideal S2048x512 .f32) (g s : FVec Ideal S512 .f32) : FVec Ideal S2048x512 .f32 :=
  Ln.hostDy ct (Ln.hostAffine (Ln.hostCent x reducesTo_S2048x512_S2048_d1 h_S_ bcast_S2048_S2048x1_0 bcast_S_S2048x1 bcast_S2048x1_S2048x512_0_1) g s
    reducesTo_S2048x512_S2048_d1 h_S_ bcast_S2048_S2048x1_0 bcast_S_S2048x1 bcast_S2048x1_S2048x512_0_1 bcast_S512_S1x512_1 bcast_S1x512_S2048x512_0_1) bcast_S_S2048x512
abbrev hz (x : FVec Ideal S2048x512 .f32) : FVec Ideal S2048x512 .f32 :=
  Ln.hostCent x reducesTo_S2048x512_S2048_d1 h_S_ bcast_S2048_S2048x1_0 bcast_S_S2048x1 bcast_S2048x1_S2048x512_0_1
abbrev hu (x : FVec Ideal S2048x512 .f32) : FVec Ideal S2048x1 .f32 :=
  Ln.hostUnder (hz x) reducesTo_S2048x512_S2048_d1 h_S_ bcast_S2048_S2048x1_0 bcast_S_S2048x1

variable (ct x : FVec Ideal S2048x512 .f32) (g s : FVec Ideal S512 .f32)

theorem hz_apply (a : Fin 2048) (k : Fin 512) : hz x (ix2 a k) = Ln.zrow x a k :=
  Ln.hostCent_apply x reducesTo_S2048x512_S2048_d1 h_S_ bcast_S2048_S2048x1_0 bcast_S_S2048x1 bcast_S2048x1_S2048x512_0_1 a k

theorem hu_apply (a : Fin 2048) : hu x (ix2 a (0 : Fin 1)) = Ln.under (Ln.zrow x a) := by
  have e := hz_apply x a
  unfold hu
  generalize hz x = z at e ⊢
  exact (Ln.hostUnder_apply z reducesTo_S2048x512_S2048_d1 h_S_ bcast_S2048_S2048x1_0 bcast_S_S2048x1 a).trans (congrArg Ln.under (funext e))

theorem hd_eq (hct : ∀ i, ∃ c : ℝ, ct i = (c : EReal)) : hd ct x g s = Ln.dy ct x g s :=
  Ln.dy_all ct x g s hct reducesTo_S2048x512_S2048_d1 h_S_ bcast_S2048_S2048x1_0 bcast_S_S2048x1 bcast_S2048x1_S2048x512_0_1 bcast_S512_S1x512_1 bcast_S1x512_S2048x512_0_1
    bcast_S_S2048x512

variable (m : (ℓ : Loc nD τ sig) → Buf (Elt Ideal) ℓ) (ρ : Dev nD → PrngReg)

abbrev argC (c : Dev nD) : S2048x512.Idx → EReal := m ((c.tc : Thread nD τ).loc main_arg0)
abbrev argX (c : Dev nD) : S2048x512.Idx → EReal := m ((c.tc : Thread nD τ).loc main_arg1)
abbrev argG (c : Dev nD) : S512.Idx → EReal := m ((c.tc : Thread nD τ).loc main_arg2)
abbrev argS (c : Dev nD) : S512.Idx → EReal := m ((c.tc : Thread nD τ).loc main_arg3)

theorem out2_eq (c : Dev nD) (hct : ∀ i, ∃ r : ℝ, argC m c i = (r : EReal)) : Value.res_main_v59 m c = Ln.dshift (argC m c) (argX m c) (argG m c) (argS m c) :=
  Ln.dshift_all (argC m c) (argX m c) (argG m c) (argS m c) (hd (argC m c) (argX m c) (argG m c) (argS m c)) (hd_eq _ _ _ _ hct) _ _ _ _

theorem out1_eq (c : Dev nD) (hct : ∀ i, ∃ r : ℝ, argC m c i = (r : EReal)) : Value.res_main_v58 m c = Ln.dgain (argC m c) (argX m c) (argG m c) (argS m c) :=
  Ln.dgain_all (argC m c) (argX m c) (argG m c) (argS m c) (hd (argC m c) (argX m c) (argG m c) (argS m c)) (hz (argX m c)) (hu (argX m c)) (hd_eq _ _ _ _ hct)
    (hz_apply _) (hu_apply _) _ _ _ _ _

theorem out0_eq (c : Dev nD) (hct : ∀ i, ∃ r : ℝ, argC m c i = (r : EReal)) (hg : ∀ i, ∃ r : ℝ, argG m c i = (r : EReal)) :
    Value.res_main_v57 m c = Ln.dz (argC m c) (argX m c) (argG m c) (argS m c) :=
  Ln.dz_all (argC m c) (argX m c) (argG m c) (argS m c) hct hg (hd (argC m c) (argX m c) (argG m c) (argS m c)) (hz (argX m c)) (hu (argX m c)) (hd_eq _ _ _ _ hct)
    (hz_apply _) (hu_apply _) _ _ _ _ _ _ _ _ _

/-- The reference's results where the cotangent and the gain are finite. -/
theorem run (hct : ∀ c i, ∃ r : ℝ, argC m c i = (r : EReal)) (hg : ∀ c i, ∃ r : ℝ, argG m c i = (r : EReal)) :
    θ_run defs (onTc (τ := τ) (main (F := Ideal))) ⟨m, fun _ => 0, ρ⟩ fun r => ∀ c : Dev nD,
      r.2.mem ((c.tc : Thread nD τ).loc main_v57) = Ln.dz (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v58) = Ln.dgain (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v59) = Ln.dshift (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out0_eq m c (hct c) (hg c)), (h c).2.1.trans (out1_eq m c (hct c)), (h c).2.2.1.trans (out2_eq m c (hct c)), (h c).2.2.2⟩)
    (Cert.Reference34Ideal.Value.run m ρ)

end Cert.Reference34Ideal.Mm

/-! ### The precondition -/

namespace Cert.Pre_reals34.Mm

open Cert.Pre_reals34 Cert.Pre_reals34.Gen
open Idealize.ShloMosaic hiding ix0 ix1 ix2 ix3
open Idealize.ShloMosaic.ValueIdx

theorem and_one {p q : BitVec 1} (h : IntOp.andi p q = 1#1) : p = 1#1 ∧ q = 1#1 := by
  revert p q
  decide

/-- What the precondition says: cotangent and gain are finite. -/
theorem finite (ct x : FVec Ideal S2048x512 .f32) (g s : FVec Ideal S512 .f32) (h : Cert.Pre_reals34.fn (F := Ideal) ct x g s = fun _ => 1#1) :
    (∀ i, ∃ r : ℝ, ct i = (r : EReal)) ∧ ∀ i, ∃ r : ℝ, g i = (r : EReal) := by
  have hb : ∀ (a : Fin 2048) (b : Fin 512), broadcastInDim S2048x512 ![0, 1] bcast_S1x512_S2048x512_0_1 (broadcastInDim S1x512 ![1] bcast_S512_S1x512_1
      (cmpf .olt (Host.absf g) (broadcastInDim S512 ![] bcast_S_S512 (constant (F := Ideal) S_ .f32 0x7F800000#32)))) (ix2 a b)
        = cmpf .olt (Host.absf g) (broadcastInDim S512 ![] bcast_S_S512 (constant (F := Ideal) S_ .f32 0x7F800000#32)) (ix1 b) := fun a b => by
    generalize cmpf .olt (Host.absf g) (broadcastInDim S512 ![] bcast_S_S512 (constant (F := Ideal) S_ .f32 0x7F800000#32)) = v
    refine (broadcastInDim_apply ![0, 1] _ _ (ix2 a b) (ix2 (0 : Fin 1) b) fun y => ?_).trans (broadcastInDim_apply ![1] _ v (ix2 (0 : Fin 1) b) (ix1 b) fun y => ?_)
    · match y with
      | ⟨0, _⟩ => rfl
      | ⟨1, _⟩ => rfl
    · match y with
      | ⟨0, _⟩ => rfl
  have hi : ∀ (a : Fin 2048) (b : Fin 512), _ := fun a b => and_one (congrFun h (ix2 a b))
  refine ⟨fun i => ?_, fun i => ?_⟩
  · obtain ⟨a, b, rfl⟩ : ∃ (a : Fin 2048) (b : Fin 512), i = ix2 a b := ⟨i 0, i 1, ValueIdx.eq_ix2 i⟩
    exact Ln.finite_of _ (hi a b).1
  · obtain ⟨b, rfl⟩ : ∃ b : Fin 512, i = ix1 b := ⟨i 0, ValueIdx.eq_ix1 i⟩
    exact Ln.finite_of _ ((hb 0 b).symm.trans (hi 0 b).2)

end Cert.Pre_reals34.Mm

end
-- ==== Proof.MmClaim.lean ====
/- The claims about the products, each from the runs of its two programs. -/
module

public import proofs.«01_k».proof.Defs
public import proofs.«01_k».proof.Proof.Gen.Kernel2.Frame
public import proofs.«01_k».proof.Proof.MmFf1
public import proofs.«01_k».proof.Proof.Gen.Kernel3.Frame
public import proofs.«01_k».proof.Proof.MmDff2
public import proofs.«01_k».proof.Proof.Gen.Kernel4.Frame
public import proofs.«01_k».proof.Proof.MmGwFf2
public import proofs.«01_k».proof.Proof.Gen.Kernel5.Frame
public import proofs.«01_k».proof.Proof.MmGwFf1
public import proofs.«01_k».proof.Proof.Gen.Kernel6.Frame
public import proofs.«01_k».proof.Proof.MmDff1
public import proofs.«01_k».proof.Proof.Gen.Kernel7.Frame
public import proofs.«01_k».proof.Proof.MmFf2
public import proofs.«01_k».proof.Proof.Gen.Kernel8.Frame
public import proofs.«01_k».proof.Proof.MmIn
public import proofs.«01_k».proof.Proof.Gen.Kernel9.Frame
public import proofs.«01_k».proof.Proof.MmGwIn
public import proofs.«01_k».proof.Proof.Gen.Kernel10.Frame
public import proofs.«01_k».proof.Proof.MmDin
public import proofs.«01_k».proof.Proof.Gen.Kernel11.Frame
public import proofs.«01_k».proof.Proof.MmOut
public import proofs.«01_k».proof.Proof.Gen.Kernel12.Frame
public import proofs.«01_k».proof.Proof.MmDout
public import proofs.«01_k».proof.Proof.Gen.Kernel13.Frame
public import proofs.«01_k».proof.Proof.MmGwOut
public import proofs.«01_k».proof.Proof.Gen.Kernel14.Frame
public import proofs.«01_k».proof.Proof.MmDbranch
public import proofs.«01_k».proof.Proof.Gen.Kernel15.Frame
public import proofs.«01_k».proof.Proof.MmGwBranch
public import proofs.«01_k».proof.Proof.Gen.Kernel16.Frame
public import proofs.«01_k».proof.Proof.MmGatedOut
public import proofs.«01_k».proof.Proof.Gen.Kernel17.Frame
public import proofs.«01_k».proof.Proof.GateBwd
public import proofs.«01_k».proof.Proof.Gen.Kernel18.Frame
public import proofs.«01_k».proof.Proof.RmsCall
public import proofs.«01_k».proof.Proof.Gen.Kernel19.Frame
public import proofs.«01_k».proof.Proof.MmFf2Rms
public import proofs.«01_k».proof.Proof.Gen.Kernel20.Frame
public import proofs.«01_k».proof.Proof.LnSwish
public import proofs.«01_k».proof.Proof.Gen.Kernel21.Frame
public import proofs.«01_k».proof.Proof.ConvFwd
public import proofs.«01_k».proof.Proof.Gen.Kernel22.Frame
public import proofs.«01_k».proof.Proof.Loss
public import proofs.«01_k».proof.Proof.Gen.Kernel23.Frame
public import proofs.«01_k».proof.Proof.Combine
public import proofs.«01_k».proof.Proof.Gen.Kernel34.Frame
public import proofs.«01_k».proof.Proof.LnBwd
public import Idealize.ShloMosaic.Lib.Quiescent

@[expose] public section

noncomputable section

namespace Cert.Mm

open Idealize.ShloMosaic Idealize.SL.Sem

/-! ### The MLP's first product -/

theorem kernel2_frame : Cert.quiescent_Kernel2 := fun m ρ _ => Cert.Kernel2.Gen.frame m ρ

theorem kernel2Ideal_frame : Cert.quiescent_Kernel2Ideal := fun m ρ _ => Cert.Kernel2Ideal.Gen.frame m ρ

theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem same_values2 : Cert.algebraic_Kernel2Ideal_Reference2Ideal := fun m ρ m' ρ' _ hag =>
  ⟨_, Cert.Kernel2Ideal.Mm.run m ρ, (θ_run Cert.Reference2Ideal.defs _ _).mono (fun r h c => by
    obtain ⟨h0, hargs⟩ := h c
    obtain ⟨e0, e1⟩ := hag c
    rw [e0, e1] at h0
    exact ⟨h0, hargs⟩) (Cert.Reference2Ideal.Mm.run m' ρ')⟩

/-! ### The cotangent of the MLP's hidden layer -/

theorem kernel3_frame : Cert.quiescent_Kernel3 := fun m ρ _ => Cert.Kernel3.Gen.frame m ρ

theorem kernel3Ideal_frame : Cert.quiescent_Kernel3Ideal := fun m ρ _ => Cert.Kernel3Ideal.Gen.frame m ρ

theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem same_values3 : Cert.algebraic_Kernel3Ideal_Reference3Ideal := fun m ρ m' ρ' _ hag =>
  ⟨_, Cert.Kernel3Ideal.Mm.run m ρ, (θ_run Cert.Reference3Ideal.defs _ _).mono (fun r h c => by
    obtain ⟨h0, hargs⟩ := h c
    obtain ⟨e0, e1, e2⟩ := hag c
    rw [e0, e1, e2] at h0
    exact ⟨h0, hargs⟩) (Cert.Reference3Ideal.Mm.run m' ρ')⟩

/-! ### The gradient of the MLP's second weights -/

theorem kernel4_frame : Cert.quiescent_Kernel4 := fun m ρ _ => Cert.Kernel4.Gen.frame m ρ

theorem kernel4Ideal_frame : Cert.quiescent_Kernel4Ideal := fun m ρ _ => Cert.Kernel4Ideal.Gen.frame m ρ

theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem same_values4 : Cert.algebraic_Kernel4Ideal_Reference4Ideal := fun m ρ m' ρ' _ hag =>
  ⟨_, Cert.Kernel4Ideal.Mm.run m ρ, (θ_run Cert.Reference4Ideal.defs _ _).mono (fun r h c => by
    obtain ⟨h0, hargs⟩ := h c
    obtain ⟨e0, e1⟩ := hag c
    rw [e0, e1] at h0
    exact ⟨h0, hargs⟩) (Cert.Reference4Ideal.Mm.run m' ρ')⟩

/-! ### The gradient of the MLP's first weights -/

theorem kernel5_frame : Cert.quiescent_Kernel5 := fun m ρ _ => Cert.Kernel5.Gen.frame m ρ

theorem kernel5Ideal_frame : Cert.quiescent_Kernel5Ideal := fun m ρ _ => Cert.Kernel5Ideal.Gen.frame m ρ

theorem reference5_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem same_values5 : Cert.algebraic_Kernel5Ideal_Reference5Ideal := fun m ρ m' ρ' _ hag =>
  ⟨_, Cert.Kernel5Ideal.Mm.run m ρ, (θ_run Cert.Reference5Ideal.defs _ _).mono (fun r h c => by
    obtain ⟨h0, hargs⟩ := h c
    obtain ⟨e0, e1⟩ := hag c
    rw [e0, e1] at h0
    exact ⟨h0, hargs⟩) (Cert.Reference5Ideal.Mm.run m' ρ')⟩

/-! ### The MLP's input cotangent -/

theorem kernel6_frame : Cert.quiescent_Kernel6 := fun m ρ _ => Cert.Kernel6.Gen.frame m ρ

theorem kernel6Ideal_frame : Cert.quiescent_Kernel6Ideal := fun m ρ _ => Cert.Kernel6Ideal.Gen.frame m ρ

theorem reference6_frame : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem same_values6 : Cert.algebraic_Kernel6Ideal_Reference6Ideal := fun m ρ m' ρ' _ hag =>
  ⟨_, _, _, Cert.Kernel6Ideal.Mm.run m ρ, (θ_run Cert.Reference6Ideal.defs _ _).mono (fun r h c => by
    obtain ⟨h0, h1, h2, hargs⟩ := h c
    obtain ⟨e0, e1, e2, e3, e4⟩ := hag c
    unfold Cert.Reference6Ideal.Mm.argH at h0 h1 h2
    simp only [e0, e1, e2, e3, e4] at h0 h1 h2
    exact ⟨h0, h1, h2, hargs⟩) (Cert.Reference6Ideal.Mm.run m' ρ')⟩

/-! ### The MLP's second product -/

theorem kernel7_frame : Cert.quiescent_Kernel7 := fun m ρ _ => Cert.Kernel7.Gen.frame m ρ

theorem kernel7Ideal_frame : Cert.quiescent_Kernel7Ideal := fun m ρ _ => Cert.Kernel7Ideal.Gen.frame m ρ

theorem reference7_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem same_values7 : Cert.algebraic_Kernel7Ideal_Reference7Ideal := fun m ρ m' ρ' _ hag =>
  ⟨_, Cert.Kernel7Ideal.Mm.run m ρ, (θ_run Cert.Reference7Ideal.defs _ _).mono (fun r h c => by
    obtain ⟨h0, hargs⟩ := h c
    obtain ⟨e0, e1, e2⟩ := hag c
    rw [e0, e1, e2] at h0
    exact ⟨h0, hargs⟩) (Cert.Reference7Ideal.Mm.run m' ρ')⟩

/-! ### The input projection -/

theorem kernel8_frame : Cert.quiescent_Kernel8 := fun m ρ _ => Cert.Kernel8.Gen.frame m ρ

theorem kernel8Ideal_frame : Cert.quiescent_Kernel8Ideal := fun m ρ _ => Cert.Kernel8Ideal.Gen.frame m ρ

theorem reference8_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem same_values8 : Cert.algebraic_Kernel8Ideal_Reference8Ideal := fun m ρ m' ρ' _ hag =>
  ⟨_, Cert.Kernel8Ideal.Mm.run m ρ, (θ_run Cert.Reference8Ideal.defs _ _).mono (fun r h c => by
    obtain ⟨h0, hargs⟩ := h c
    obtain ⟨e0, e1⟩ := hag c
    rw [e0, e1] at h0
    exact ⟨h0, hargs⟩) (Cert.Reference8Ideal.Mm.run m' ρ')⟩

/-! ### The gradient of the input projection's weights -/

theorem kernel9_frame : Cert.quiescent_Kernel9 := fun m ρ _ => Cert.Kernel9.Gen.frame m ρ

theorem kernel9Ideal_frame : Cert.quiescent_Kernel9Ideal := fun m ρ _ => Cert.Kernel9Ideal.Gen.frame m ρ

theorem reference9_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem same_values9 : Cert.algebraic_Kernel9Ideal_Reference9Ideal := fun m ρ m' ρ' _ hag =>
  ⟨_, Cert.Kernel9Ideal.Mm.run m ρ, (θ_run Cert.Reference9Ideal.defs _ _).mono (fun r h c => by
    obtain ⟨h0, hargs⟩ := h c
    obtain ⟨e0, e1⟩ := hag c
    rw [e0, e1] at h0
    exact ⟨h0, hargs⟩) (Cert.Reference9Ideal.Mm.run m' ρ')⟩

/-! ### The input projection's input cotangent -/

theorem kernel10_frame : Cert.quiescent_Kernel10 := fun m ρ _ => Cert.Kernel10.Gen.frame m ρ

theorem kernel10Ideal_frame : Cert.quiescent_Kernel10Ideal := fun m ρ _ => Cert.Kernel10Ideal.Gen.frame m ρ

theorem reference10_frame : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem same_values10 : Cert.algebraic_Kernel10Ideal_Reference10Ideal := fun m ρ m' ρ' _ hag =>
  ⟨_, _, Cert.Kernel10Ideal.Mm.run m ρ, (θ_run Cert.Reference10Ideal.defs _ _).mono (fun r h c => by
    obtain ⟨h0, h1, hargs⟩ := h c
    obtain ⟨e0, e1, e2, e3, e4⟩ := hag c
    unfold Cert.Reference10Ideal.Mm.argH at h0 h1
    simp only [e0, e1, e2, e3, e4] at h0 h1
    exact ⟨h0, h1, hargs⟩) (Cert.Reference10Ideal.Mm.run m' ρ')⟩

/-! ### The output projection and the norm after it -/

theorem kernel11_frame : Cert.quiescent_Kernel11 := fun m ρ _ => Cert.Kernel11.Gen.frame m ρ

theorem kernel11Ideal_frame : Cert.quiescent_Kernel11Ideal := fun m ρ _ => Cert.Kernel11Ideal.Gen.frame m ρ

theorem reference11_frame : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem same_values11 : Cert.algebraic_Kernel11Ideal_Reference11Ideal := fun m ρ m' ρ' _ hag =>
  ⟨_, _, Cert.Kernel11Ideal.Mm.run m ρ, (θ_run Cert.Reference11Ideal.defs _ _).mono (fun r h c => by
    obtain ⟨h0, h1, hargs⟩ := h c
    obtain ⟨e0, e1, e2, e3⟩ := hag c
    unfold Cert.Reference11Ideal.Mm.argH at h0 h1
    simp only [e0, e1, e2, e3] at h0 h1
    exact ⟨h0, h1, hargs⟩) (Cert.Reference11Ideal.Mm.run m' ρ')⟩

/-! ### The output projection's input cotangent -/

theorem kernel12_frame : Cert.quiescent_Kernel12 := fun m ρ _ => Cert.Kernel12.Gen.frame m ρ

theorem kernel12Ideal_frame : Cert.quiescent_Kernel12Ideal := fun m ρ _ => Cert.Kernel12Ideal.Gen.frame m ρ

theorem reference12_frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem same_values12 : Cert.algebraic_Kernel12Ideal_Reference12Ideal := fun m ρ m' ρ' _ hag =>
  ⟨_, Cert.Kernel12Ideal.Mm.run m ρ, (θ_run Cert.Reference12Ideal.defs _ _).mono (fun r h c => by
    obtain ⟨h0, hargs⟩ := h c
    obtain ⟨e0, e1⟩ := hag c
    rw [e0, e1] at h0
    exact ⟨h0, hargs⟩) (Cert.Reference12Ideal.Mm.run m' ρ')⟩

/-! ### The gradient of the output projection's weights -/

theorem kernel13_frame : Cert.quiescent_Kernel13 := fun m ρ _ => Cert.Kernel13.Gen.frame m ρ

theorem kernel13Ideal_frame : Cert.quiescent_Kernel13Ideal := fun m ρ _ => Cert.Kernel13Ideal.Gen.frame m ρ

theorem reference13_frame : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem same_values13 : Cert.algebraic_Kernel13Ideal_Reference13Ideal := fun m ρ m' ρ' _ hag =>
  ⟨_, Cert.Kernel13Ideal.Mm.run m ρ, (θ_run Cert.Reference13Ideal.defs _ _).mono (fun r h c => by
    obtain ⟨h0, hargs⟩ := h c
    obtain ⟨e0, e1⟩ := hag c
    rw [e0, e1] at h0
    exact ⟨h0, hargs⟩) (Cert.Reference13Ideal.Mm.run m' ρ')⟩

/-! ### The branch projections' input cotangent -/

theorem kernel14_frame : Cert.quiescent_Kernel14 := fun m ρ _ => Cert.Kernel14.Gen.frame m ρ

theorem kernel14Ideal_frame : Cert.quiescent_Kernel14Ideal := fun m ρ _ => Cert.Kernel14Ideal.Gen.frame m ρ

theorem reference14_frame : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem same_values14 : Cert.algebraic_Kernel14Ideal_Reference14Ideal := fun m ρ m' ρ' _ hag =>
  ⟨_, Cert.Kernel14Ideal.Mm.run m ρ, (θ_run Cert.Reference14Ideal.defs _ _).mono (fun r h c => by
    obtain ⟨h0, hargs⟩ := h c
    obtain ⟨e0, e1⟩ := hag c
    rw [e0, e1] at h0
    exact ⟨h0, hargs⟩) (Cert.Reference14Ideal.Mm.run m' ρ')⟩

/-! ### The gradient of the branch projections' weights -/

theorem kernel15_frame : Cert.quiescent_Kernel15 := fun m ρ _ => Cert.Kernel15.Gen.frame m ρ

theorem kernel15Ideal_frame : Cert.quiescent_Kernel15Ideal := fun m ρ _ => Cert.Kernel15Ideal.Gen.frame m ρ

theorem reference15_frame : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem same_values15 : Cert.algebraic_Kernel15Ideal_Reference15Ideal := fun m ρ m' ρ' _ hag =>
  ⟨_, Cert.Kernel15Ideal.Mm.run m ρ, (θ_run Cert.Reference15Ideal.defs _ _).mono (fun r h c => by
    obtain ⟨h0, hargs⟩ := h c
    obtain ⟨e0, e1⟩ := hag c
    rw [e0, e1] at h0
    exact ⟨h0, hargs⟩) (Cert.Reference15Ideal.Mm.run m' ρ')⟩

/-! ### The branch projections and their gates -/

theorem kernel16_frame : Cert.quiescent_Kernel16 := fun m ρ _ => Cert.Kernel16.Gen.frame m ρ

theorem kernel16Ideal_frame : Cert.quiescent_Kernel16Ideal := fun m ρ _ => Cert.Kernel16Ideal.Gen.frame m ρ

theorem reference16_frame : Cert.quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

theorem same_values16 : Cert.algebraic_Kernel16Ideal_Reference16Ideal := fun m ρ m' ρ' _ hag =>
  ⟨_, _, _, Cert.Kernel16Ideal.Mm.run m ρ, (θ_run Cert.Reference16Ideal.defs _ _).mono (fun r h c => by
    obtain ⟨h0, h1, h2, hargs⟩ := h c
    obtain ⟨e0, e1, e2, e3, e4⟩ := hag c
    simp only [e0, e1, e2, e3, e4] at h0 h1 h2
    exact ⟨h0, h1, h2, hargs⟩) (Cert.Reference16Ideal.Mm.run m' ρ')⟩

/-! ### The gates' backward pass -/

theorem kernel17_frame : Cert.quiescent_Kernel17 := fun m ρ _ => Cert.Kernel17.Gen.frame m ρ

theorem kernel17Ideal_frame : Cert.quiescent_Kernel17Ideal := fun m ρ _ => Cert.Kernel17Ideal.Gen.frame m ρ

theorem reference17_frame : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

theorem same_values17 : Cert.algebraic_Kernel17Ideal_Reference17Ideal := fun m ρ m' ρ' _ hag =>
  ⟨_, _, _, _, Cert.Kernel17Ideal.Mm.run m ρ, (θ_run Cert.Reference17Ideal.defs _ _).mono (fun r h c => by
    obtain ⟨h0, h1, h2, h3, hargs⟩ := h c
    obtain ⟨e0, e1, e2, e3⟩ := hag c
    simp only [e0, e1, e2, e3] at h0 h1 h2 h3
    exact ⟨h0, h1, h2, h3, hargs⟩) (Cert.Reference17Ideal.Mm.run m' ρ')⟩

/-! ### The first norm of the first layer -/

theorem kernel18_frame : Cert.quiescent_Kernel18 := fun m ρ _ => Cert.Kernel18.Gen.frame m ρ

theorem kernel18Ideal_frame : Cert.quiescent_Kernel18Ideal := fun m ρ _ => Cert.Kernel18Ideal.Gen.frame m ρ

theorem reference18_frame : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem same_values18 : Cert.algebraic_Kernel18Ideal_Reference18Ideal := fun m ρ m' ρ' _ hag =>
  ⟨_, Cert.Kernel18Ideal.Mm.run m ρ, (θ_run Cert.Reference18Ideal.defs _ _).mono (fun r h c => by
    obtain ⟨h0, hargs⟩ := h c
    obtain ⟨e0, e1, e2⟩ := hag c
    rw [e0, e1] at h0
    exact ⟨h0, hargs⟩) (Cert.Reference18Ideal.Mm.run m' ρ')⟩

/-! ### The MLP's second product and the next layer's norm -/

theorem kernel19_frame : Cert.quiescent_Kernel19 := fun m ρ _ => Cert.Kernel19.Gen.frame m ρ

theorem kernel19Ideal_frame : Cert.quiescent_Kernel19Ideal := fun m ρ _ => Cert.Kernel19Ideal.Gen.frame m ρ

theorem reference19_frame : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

theorem same_values19 : Cert.algebraic_Kernel19Ideal_Reference19Ideal := fun m ρ m' ρ' _ hag =>
  ⟨_, _, Cert.Kernel19Ideal.Mm.run m ρ, (θ_run Cert.Reference19Ideal.defs _ _).mono (fun r h c => by
    obtain ⟨h0, h1, hargs⟩ := h c
    obtain ⟨e0, e1, e2, e3⟩ := hag c
    unfold Cert.Reference19Ideal.Mm.argH at h0 h1
    simp only [e0, e1, e2, e3] at h0 h1
    exact ⟨h0, h1, hargs⟩) (Cert.Reference19Ideal.Mm.run m' ρ')⟩

/-! ### The layer norm and swish -/

theorem kernel20_frame : Cert.quiescent_Kernel20 := fun m ρ _ => Cert.Kernel20.Gen.frame m ρ

theorem kernel20Ideal_frame : Cert.quiescent_Kernel20Ideal := fun m ρ _ => Cert.Kernel20Ideal.Gen.frame m ρ

theorem reference20_frame : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem same_values20 : Cert.algebraic_Kernel20Ideal_Reference20Ideal := fun m ρ m' ρ' _ hag =>
  ⟨_, Cert.Kernel20Ideal.Mm.run m ρ, (θ_run Cert.Reference20Ideal.defs _ _).mono (fun r h c => by
    obtain ⟨h0, hargs⟩ := h c
    obtain ⟨e0, e1, e2⟩ := hag c
    rw [e0, e1, e2] at h0
    exact ⟨h0, hargs⟩) (Cert.Reference20Ideal.Mm.run m' ρ')⟩

/-! ### The gated convolution -/

theorem kernel21_frame : Cert.quiescent_Kernel21 := fun m ρ _ => Cert.Kernel21.Gen.frame m ρ

theorem kernel21Ideal_frame : Cert.quiescent_Kernel21Ideal := fun m ρ _ => Cert.Kernel21Ideal.Gen.frame m ρ

theorem reference21_frame : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem same_values21 : Cert.algebraic_Kernel21Ideal_Reference21Ideal := fun m ρ m' ρ' _ hag =>
  ⟨_, Cert.Kernel21Ideal.Mm.run m ρ, (θ_run Cert.Reference21Ideal.defs _ _).mono (fun r h c => by
    obtain ⟨h0, hargs⟩ := h c
    obtain ⟨e0, e1, e2⟩ := hag c
    rw [e0, e1, e2] at h0
    exact ⟨h0, hargs⟩) (Cert.Reference21Ideal.Mm.run m' ρ')⟩

/-! ### The loss and its gradient -/

theorem kernel22_frame : Cert.quiescent_Kernel22 := fun m ρ _ => Cert.Kernel22.Gen.frame m ρ

theorem kernel22Ideal_frame : Cert.quiescent_Kernel22Ideal := fun m ρ _ => Cert.Kernel22Ideal.Gen.frame m ρ

theorem reference22_frame : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run (F := Ideal) m ρ)

theorem same_values22 : Cert.algebraic_Kernel22Ideal_Reference22Ideal := fun m ρ m' ρ' _ hag =>
  ⟨_, _, Cert.Kernel22Ideal.Mm.run m ρ, (θ_run Cert.Reference22Ideal.defs _ _).mono (fun r h c => by
    obtain ⟨h0, h1, hargs⟩ := h c
    obtain ⟨e0, e1⟩ := hag c
    simp only [e0, e1] at h0 h1
    exact ⟨h0, h1, hargs⟩) (Cert.Reference22Ideal.Mm.run m' ρ')⟩

/-! ### The weighted sum of the groups -/

theorem kernel23_frame : Cert.quiescent_Kernel23 := fun m ρ _ => Cert.Kernel23.Gen.frame m ρ

theorem kernel23Ideal_frame : Cert.quiescent_Kernel23Ideal := fun m ρ _ => Cert.Kernel23Ideal.Gen.frame m ρ

theorem reference23_frame : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem kernel23Ideal_frame_pre : Cert.quiescent_Kernel23Ideal_pre_top23 := fun m ρ _ => Cert.Kernel23Ideal.Gen.frame m ρ

theorem reference23_frame_pre : Cert.quiescent_Reference23Ideal_pre_top23 := fun m ρ _ => reference23_frame m ρ trivial

/-- Where the largest log-sum is finite. -/
theorem same_values23 : Cert.algebraic_Kernel23Ideal_Reference23Ideal_pre_top23 := fun m ρ m' ρ' hpre hag =>
  have hf : ∀ c i, ∃ r : ℝ, Cert.Reference23Ideal.Mm.top m' c i = (r : EReal) := fun c i => by
    unfold Cert.Reference23Ideal.Mm.top
    rw [(hag c).2.2.2.1, (hag c).2.2.2.2.1, (hag c).2.2.2.2.2]
    exact Cert.Pre_top23.Mm.finite _ _ _ _ _ _ (hpre c) i
  ⟨_, Cert.Kernel23Ideal.Mm.run m ρ, (θ_run Cert.Reference23Ideal.defs _ _).mono (fun r h c => by
    obtain ⟨h0, hargs⟩ := h c
    obtain ⟨e0, e1, e2, e3, e4, e5⟩ := hag c
    rw [e0, e1, e2, e3, e4, e5] at h0
    exact ⟨h0, hargs⟩) (Cert.Reference23Ideal.Mm.run m' ρ' hf)⟩

/-! ### The layer norm's and swish's backward pass -/

theorem kernel34_frame : Cert.quiescent_Kernel34 := fun m ρ _ => Cert.Kernel34.Gen.frame m ρ

theorem kernel34Ideal_frame : Cert.quiescent_Kernel34Ideal := fun m ρ _ => Cert.Kernel34Ideal.Gen.frame m ρ

theorem reference34_frame : Cert.quiescent_Reference34Ideal := fun m ρ _ =>
  (θ_run Cert.Reference34Ideal.defs _ _).mono (fun r h => ⟨fun c => (h c).2.2.2, sem_eq_zero_of_no_sems (by decide) r.2⟩)
    (Cert.Reference34Ideal.Value.run (F := Ideal) m ρ)

theorem kernel34Ideal_frame_pre : Cert.quiescent_Kernel34Ideal_pre_reals34 := fun m ρ _ => Cert.Kernel34Ideal.Gen.frame m ρ

theorem reference34_frame_pre : Cert.quiescent_Reference34Ideal_pre_reals34 := fun m ρ _ => reference34_frame m ρ trivial

/-- Where cotangent and gain are finite. -/
theorem same_values34 : Cert.algebraic_Kernel34Ideal_Reference34Ideal_pre_reals34 := fun m ρ m' ρ' hpre hag =>
  have hf := fun c => Cert.Pre_reals34.Mm.finite _ _ _ _ (hpre c)
  have hct : ∀ c i, ∃ r : ℝ, Cert.Reference34Ideal.Mm.argC m' c i = (r : EReal) := fun c i => by
    unfold Cert.Reference34Ideal.Mm.argC
    rw [(hag c).1]
    exact (hf c).1 i
  have hg : ∀ c i, ∃ r : ℝ, Cert.Reference34Ideal.Mm.argG m' c i = (r : EReal) := fun c i => by
    unfold Cert.Reference34Ideal.Mm.argG
    rw [(hag c).2.2.1]
    exact (hf c).2 i
  ⟨_, _, _, Cert.Kernel34Ideal.Mm.run m ρ, (θ_run Cert.Reference34Ideal.defs _ _).mono (fun r h c => by
    obtain ⟨h0, h1, h2, hargs⟩ := h c
    obtain ⟨e0, e1, e2, e3⟩ := hag c
    rw [e0, e1, e2, e3] at h0 h1 h2
    exact ⟨h0, h1, h2, hargs⟩) (Cert.Reference34Ideal.Mm.run m' ρ' hct hg)⟩

end Cert.Mm

end
-- ==== Proof.Adamw.lean ====
/- AdamW: a weight's change and its two new moments, entry by entry, at each shape that the weights have on a device. Every
   kernel's blocks join to the whole arrays (its generated run says so), so the two programs' runs name the same arrays. -/
module

public import proofs.«01_k».proof.Defs
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import Idealize.ShloMosaic.Lib.Quiescent

@[expose] public section

noncomputable section

namespace Cert.Adamw

open Idealize.ShloMosaic Idealize.ShloMosaic.TcCoe Idealize.SL.Sem

variable {I : Type}

/-- The first moment: the old one times beta1, plus the gradient times 1 - beta1. -/
def first (g m : I → EReal) : I → EReal := fun i => Ideal.ofBits .f32 0x3F666666#32 * m i + Ideal.ofBits .f32 0x3DCCCCCD#32 * g i

/-- The second moment: the old one times beta2, plus the gradient's square times 1 - beta2. -/
def second (g v : I → EReal) : I → EReal := fun i => Ideal.ofBits .f32 0x3F7FBE77#32 * v i + Ideal.ofBits .f32 0x3A83126F#32 * (g i * g i)

/-- The weight's change: minus the rate times (the first moment over the root of the second, both without their bias, plus the weight's decay). -/
def change (w g m v : I → EReal) : I → EReal := fun i => Ideal.ofBits .f32 0xBA83126F#32 *
  (Ideal.div (Ideal.div (first g m i) (Ideal.ofBits .f32 0x3F26BD02#32)) (Ideal.sqrt (Ideal.div (second g v i) (Ideal.ofBits .f32 0x3C231ACC#32)) + Ideal.ofBits .f32 0x322BCC77#32)
    + Ideal.ofBits .f32 0x3C23D70A#32 * w i)

/-! ### The norm gains, 4 layers of 1024 -/

theorem kernel24_frame : Cert.quiescent_Kernel24 := fun m ρ _ => Cert.Kernel24.Gen.frame m ρ

theorem kernel24Ideal_frame : Cert.quiescent_Kernel24Ideal := fun m ρ _ => Cert.Kernel24Ideal.Gen.frame m ρ

theorem reference24_frame : Cert.quiescent_Reference24Ideal := fun m ρ _ =>
  (θ_run Cert.Reference24Ideal.defs _ _).mono (fun r h => ⟨fun c => (h c).2.2.2, sem_eq_zero_of_no_sems (by decide) r.2⟩)
    (Cert.Reference24Ideal.Value.run (F := Ideal) m ρ)

theorem same_values24 : Cert.algebraic_Kernel24Ideal_Reference24Ideal := fun m ρ m' ρ' _ hag =>
  ⟨fun c => change (m ((c.tc : Thread _ _).loc Cert.Kernel24Ideal.main_arg0)) (m ((c.tc : Thread _ _).loc Cert.Kernel24Ideal.main_arg1))
      (m ((c.tc : Thread _ _).loc Cert.Kernel24Ideal.main_arg2)) (m ((c.tc : Thread _ _).loc Cert.Kernel24Ideal.main_arg3)),
    fun c => first (m ((c.tc : Thread _ _).loc Cert.Kernel24Ideal.main_arg1)) (m ((c.tc : Thread _ _).loc Cert.Kernel24Ideal.main_arg2)),
    fun c => second (m ((c.tc : Thread _ _).loc Cert.Kernel24Ideal.main_arg1)) (m ((c.tc : Thread _ _).loc Cert.Kernel24Ideal.main_arg3)),
    Cert.Kernel24Ideal.Value.run m ρ, (θ_run Cert.Reference24Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference24Ideal.Value.run m' ρ')⟩

/-! ### The convolution's bias, norm gain and norm shift, 4 layers of 512 -/

theorem kernel25_frame : Cert.quiescent_Kernel25 := fun m ρ _ => Cert.Kernel25.Gen.frame m ρ

theorem kernel25Ideal_frame : Cert.quiescent_Kernel25Ideal := fun m ρ _ => Cert.Kernel25Ideal.Gen.frame m ρ

theorem reference25_frame : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

theorem same_values25 : Cert.algebraic_Kernel25Ideal_Reference25Ideal := fun m ρ m' ρ' _ hag =>
  ⟨fun c => change (m ((c.tc : Thread _ _).loc Cert.Kernel25Ideal.main_arg0)) (m ((c.tc : Thread _ _).loc Cert.Kernel25Ideal.main_arg1))
      (m ((c.tc : Thread _ _).loc Cert.Kernel25Ideal.main_arg2)) (m ((c.tc : Thread _ _).loc Cert.Kernel25Ideal.main_arg3)),
    fun c => first (m ((c.tc : Thread _ _).loc Cert.Kernel25Ideal.main_arg1)) (m ((c.tc : Thread _ _).loc Cert.Kernel25Ideal.main_arg2)),
    fun c => second (m ((c.tc : Thread _ _).loc Cert.Kernel25Ideal.main_arg1)) (m ((c.tc : Thread _ _).loc Cert.Kernel25Ideal.main_arg3)),
    Cert.Kernel25Ideal.Value.run m ρ, (θ_run Cert.Reference25Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference25Ideal.Value.run m' ρ')⟩

/-! ### The attention's head norm gains, 4 layers of 64 -/

theorem kernel26_frame : Cert.quiescent_Kernel26 := fun m ρ _ => Cert.Kernel26.Gen.frame m ρ

theorem kernel26Ideal_frame : Cert.quiescent_Kernel26Ideal := fun m ρ _ => Cert.Kernel26Ideal.Gen.frame m ρ

theorem reference26_frame : Cert.quiescent_Reference26Ideal := fun m ρ _ =>
  (θ_run Cert.Reference26Ideal.defs _ _).mono (fun r h => ⟨fun c => (h c).2.2.2, sem_eq_zero_of_no_sems (by decide) r.2⟩)
    (Cert.Reference26Ideal.Value.run (F := Ideal) m ρ)

theorem same_values26 : Cert.algebraic_Kernel26Ideal_Reference26Ideal := fun m ρ m' ρ' _ hag =>
  ⟨fun c => change (m ((c.tc : Thread _ _).loc Cert.Kernel26Ideal.main_arg0)) (m ((c.tc : Thread _ _).loc Cert.Kernel26Ideal.main_arg1))
      (m ((c.tc : Thread _ _).loc Cert.Kernel26Ideal.main_arg2)) (m ((c.tc : Thread _ _).loc Cert.Kernel26Ideal.main_arg3)),
    fun c => first (m ((c.tc : Thread _ _).loc Cert.Kernel26Ideal.main_arg1)) (m ((c.tc : Thread _ _).loc Cert.Kernel26Ideal.main_arg2)),
    fun c => second (m ((c.tc : Thread _ _).loc Cert.Kernel26Ideal.main_arg1)) (m ((c.tc : Thread _ _).loc Cert.Kernel26Ideal.main_arg3)),
    Cert.Kernel26Ideal.Value.run m ρ, (θ_run Cert.Reference26Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference26Ideal.Value.run m' ρ')⟩

/-! ### The relative bias table -/

theorem kernel27_frame : Cert.quiescent_Kernel27 := fun m ρ _ => Cert.Kernel27.Gen.frame m ρ

theorem kernel27Ideal_frame : Cert.quiescent_Kernel27Ideal := fun m ρ _ => Cert.Kernel27Ideal.Gen.frame m ρ

theorem reference27_frame : Cert.quiescent_Reference27Ideal := fun m ρ _ =>
  (θ_run Cert.Reference27Ideal.defs _ _).mono (fun r h => ⟨fun c => (h c).2.2.2, sem_eq_zero_of_no_sems (by decide) r.2⟩)
    (Cert.Reference27Ideal.Value.run (F := Ideal) m ρ)

theorem same_values27 : Cert.algebraic_Kernel27Ideal_Reference27Ideal := fun m ρ m' ρ' _ hag =>
  ⟨fun c => change (m ((c.tc : Thread _ _).loc Cert.Kernel27Ideal.main_arg0)) (m ((c.tc : Thread _ _).loc Cert.Kernel27Ideal.main_arg1))
      (m ((c.tc : Thread _ _).loc Cert.Kernel27Ideal.main_arg2)) (m ((c.tc : Thread _ _).loc Cert.Kernel27Ideal.main_arg3)),
    fun c => first (m ((c.tc : Thread _ _).loc Cert.Kernel27Ideal.main_arg1)) (m ((c.tc : Thread _ _).loc Cert.Kernel27Ideal.main_arg2)),
    fun c => second (m ((c.tc : Thread _ _).loc Cert.Kernel27Ideal.main_arg1)) (m ((c.tc : Thread _ _).loc Cert.Kernel27Ideal.main_arg3)),
    Cert.Kernel27Ideal.Value.run m ρ, (θ_run Cert.Reference27Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference27Ideal.Value.run m' ρ')⟩

/-! ### The depthwise weights, 4 layers of 31 taps -/

theorem kernel28_frame : Cert.quiescent_Kernel28 := fun m ρ _ => Cert.Kernel28.Gen.frame m ρ

theorem kernel28Ideal_frame : Cert.quiescent_Kernel28Ideal := fun m ρ _ => Cert.Kernel28Ideal.Gen.frame m ρ

theorem reference28_frame : Cert.quiescent_Reference28Ideal := fun m ρ _ =>
  (θ_run Cert.Reference28Ideal.defs _ _).mono (fun r h => ⟨fun c => (h c).2.2.2, sem_eq_zero_of_no_sems (by decide) r.2⟩)
    (Cert.Reference28Ideal.Value.run (F := Ideal) m ρ)

theorem same_values28 : Cert.algebraic_Kernel28Ideal_Reference28Ideal := fun m ρ m' ρ' _ hag =>
  ⟨fun c => change (m ((c.tc : Thread _ _).loc Cert.Kernel28Ideal.main_arg0)) (m ((c.tc : Thread _ _).loc Cert.Kernel28Ideal.main_arg1))
      (m ((c.tc : Thread _ _).loc Cert.Kernel28Ideal.main_arg2)) (m ((c.tc : Thread _ _).loc Cert.Kernel28Ideal.main_arg3)),
    fun c => first (m ((c.tc : Thread _ _).loc Cert.Kernel28Ideal.main_arg1)) (m ((c.tc : Thread _ _).loc Cert.Kernel28Ideal.main_arg2)),
    fun c => second (m ((c.tc : Thread _ _).loc Cert.Kernel28Ideal.main_arg1)) (m ((c.tc : Thread _ _).loc Cert.Kernel28Ideal.main_arg3)),
    Cert.Kernel28Ideal.Value.run m ρ, (θ_run Cert.Reference28Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference28Ideal.Value.run m' ρ')⟩

/-! ### The branch projections' weights, 4 layers of 512 rows -/

theorem kernel29_frame : Cert.quiescent_Kernel29 := fun m ρ _ => Cert.Kernel29.Gen.frame m ρ

theorem kernel29Ideal_frame : Cert.quiescent_Kernel29Ideal := fun m ρ _ => Cert.Kernel29Ideal.Gen.frame m ρ

theorem reference29_frame : Cert.quiescent_Reference29Ideal := fun m ρ _ =>
  (θ_run Cert.Reference29Ideal.defs _ _).mono (fun r h => ⟨fun c => (h c).2.2.2, sem_eq_zero_of_no_sems (by decide) r.2⟩)
    (Cert.Reference29Ideal.Value.run (F := Ideal) m ρ)

theorem same_values29 : Cert.algebraic_Kernel29Ideal_Reference29Ideal := fun m ρ m' ρ' _ hag =>
  ⟨fun c => change (m ((c.tc : Thread _ _).loc Cert.Kernel29Ideal.main_arg0)) (m ((c.tc : Thread _ _).loc Cert.Kernel29Ideal.main_arg1))
      (m ((c.tc : Thread _ _).loc Cert.Kernel29Ideal.main_arg2)) (m ((c.tc : Thread _ _).loc Cert.Kernel29Ideal.main_arg3)),
    fun c => first (m ((c.tc : Thread _ _).loc Cert.Kernel29Ideal.main_arg1)) (m ((c.tc : Thread _ _).loc Cert.Kernel29Ideal.main_arg2)),
    fun c => second (m ((c.tc : Thread _ _).loc Cert.Kernel29Ideal.main_arg1)) (m ((c.tc : Thread _ _).loc Cert.Kernel29Ideal.main_arg3)),
    Cert.Kernel29Ideal.Value.run m ρ, (θ_run Cert.Reference29Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference29Ideal.Value.run m' ρ')⟩

/-! ### The output projection's weights, 4 layers of 128 rows -/

theorem kernel30_frame : Cert.quiescent_Kernel30 := fun m ρ _ => Cert.Kernel30.Gen.frame m ρ

theorem kernel30Ideal_frame : Cert.quiescent_Kernel30Ideal := fun m ρ _ => Cert.Kernel30Ideal.Gen.frame m ρ

theorem reference30_frame : Cert.quiescent_Reference30Ideal := fun m ρ _ =>
  (θ_run Cert.Reference30Ideal.defs _ _).mono (fun r h => ⟨fun c => (h c).2.2.2, sem_eq_zero_of_no_sems (by decide) r.2⟩)
    (Cert.Reference30Ideal.Value.run (F := Ideal) m ρ)

theorem same_values30 : Cert.algebraic_Kernel30Ideal_Reference30Ideal := fun m ρ m' ρ' _ hag =>
  ⟨fun c => change (m ((c.tc : Thread _ _).loc Cert.Kernel30Ideal.main_arg0)) (m ((c.tc : Thread _ _).loc Cert.Kernel30Ideal.main_arg1))
      (m ((c.tc : Thread _ _).loc Cert.Kernel30Ideal.main_arg2)) (m ((c.tc : Thread _ _).loc Cert.Kernel30Ideal.main_arg3)),
    fun c => first (m ((c.tc : Thread _ _).loc Cert.Kernel30Ideal.main_arg1)) (m ((c.tc : Thread _ _).loc Cert.Kernel30Ideal.main_arg2)),
    fun c => second (m ((c.tc : Thread _ _).loc Cert.Kernel30Ideal.main_arg1)) (m ((c.tc : Thread _ _).loc Cert.Kernel30Ideal.main_arg3)),
    Cert.Kernel30Ideal.Value.run m ρ, (θ_run Cert.Reference30Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference30Ideal.Value.run m' ρ')⟩

/-! ### The MLP's first weights, 4 layers of 1024 rows -/

theorem kernel31_frame : Cert.quiescent_Kernel31 := fun m ρ _ => Cert.Kernel31.Gen.frame m ρ

theorem kernel31Ideal_frame : Cert.quiescent_Kernel31Ideal := fun m ρ _ => Cert.Kernel31Ideal.Gen.frame m ρ

theorem reference31_frame : Cert.quiescent_Reference31Ideal := fun m ρ _ =>
  (θ_run Cert.Reference31Ideal.defs _ _).mono (fun r h => ⟨fun c => (h c).2.2.2, sem_eq_zero_of_no_sems (by decide) r.2⟩)
    (Cert.Reference31Ideal.Value.run (F := Ideal) m ρ)

theorem same_values31 : Cert.algebraic_Kernel31Ideal_Reference31Ideal := fun m ρ m' ρ' _ hag =>
  ⟨fun c => change (m ((c.tc : Thread _ _).loc Cert.Kernel31Ideal.main_arg0)) (m ((c.tc : Thread _ _).loc Cert.Kernel31Ideal.main_arg1))
      (m ((c.tc : Thread _ _).loc Cert.Kernel31Ideal.main_arg2)) (m ((c.tc : Thread _ _).loc Cert.Kernel31Ideal.main_arg3)),
    fun c => first (m ((c.tc : Thread _ _).loc Cert.Kernel31Ideal.main_arg1)) (m ((c.tc : Thread _ _).loc Cert.Kernel31Ideal.main_arg2)),
    fun c => second (m ((c.tc : Thread _ _).loc Cert.Kernel31Ideal.main_arg1)) (m ((c.tc : Thread _ _).loc Cert.Kernel31Ideal.main_arg3)),
    Cert.Kernel31Ideal.Value.run m ρ, (θ_run Cert.Reference31Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference31Ideal.Value.run m' ρ')⟩

/-! ### The MLP's second weights, 4 layers of 512 rows -/

theorem kernel32_frame : Cert.quiescent_Kernel32 := fun m ρ _ => Cert.Kernel32.Gen.frame m ρ

theorem kernel32Ideal_frame : Cert.quiescent_Kernel32Ideal := fun m ρ _ => Cert.Kernel32Ideal.Gen.frame m ρ

theorem reference32_frame : Cert.quiescent_Reference32Ideal := fun m ρ _ =>
  (θ_run Cert.Reference32Ideal.defs _ _).mono (fun r h => ⟨fun c => (h c).2.2.2, sem_eq_zero_of_no_sems (by decide) r.2⟩)
    (Cert.Reference32Ideal.Value.run (F := Ideal) m ρ)

theorem same_values32 : Cert.algebraic_Kernel32Ideal_Reference32Ideal := fun m ρ m' ρ' _ hag =>
  ⟨fun c => change (m ((c.tc : Thread _ _).loc Cert.Kernel32Ideal.main_arg0)) (m ((c.tc : Thread _ _).loc Cert.Kernel32Ideal.main_arg1))
      (m ((c.tc : Thread _ _).loc Cert.Kernel32Ideal.main_arg2)) (m ((c.tc : Thread _ _).loc Cert.Kernel32Ideal.main_arg3)),
    fun c => first (m ((c.tc : Thread _ _).loc Cert.Kernel32Ideal.main_arg1)) (m ((c.tc : Thread _ _).loc Cert.Kernel32Ideal.main_arg2)),
    fun c => second (m ((c.tc : Thread _ _).loc Cert.Kernel32Ideal.main_arg1)) (m ((c.tc : Thread _ _).loc Cert.Kernel32Ideal.main_arg3)),
    Cert.Kernel32Ideal.Value.run m ρ, (θ_run Cert.Reference32Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference32Ideal.Value.run m' ρ')⟩

/-! ### The input projection's weights, 4 layers of 1024 rows -/

theorem kernel33_frame : Cert.quiescent_Kernel33 := fun m ρ _ => Cert.Kernel33.Gen.frame m ρ

theorem kernel33Ideal_frame : Cert.quiescent_Kernel33Ideal := fun m ρ _ => Cert.Kernel33Ideal.Gen.frame m ρ

theorem reference33_frame : Cert.quiescent_Reference33Ideal := fun m ρ _ =>
  (θ_run Cert.Reference33Ideal.defs _ _).mono (fun r h => ⟨fun c => (h c).2.2.2, sem_eq_zero_of_no_sems (by decide) r.2⟩)
    (Cert.Reference33Ideal.Value.run (F := Ideal) m ρ)

theorem same_values33 : Cert.algebraic_Kernel33Ideal_Reference33Ideal := fun m ρ m' ρ' _ hag =>
  ⟨fun c => change (m ((c.tc : Thread _ _).loc Cert.Kernel33Ideal.main_arg0)) (m ((c.tc : Thread _ _).loc Cert.Kernel33Ideal.main_arg1))
      (m ((c.tc : Thread _ _).loc Cert.Kernel33Ideal.main_arg2)) (m ((c.tc : Thread _ _).loc Cert.Kernel33Ideal.main_arg3)),
    fun c => first (m ((c.tc : Thread _ _).loc Cert.Kernel33Ideal.main_arg1)) (m ((c.tc : Thread _ _).loc Cert.Kernel33Ideal.main_arg2)),
    fun c => second (m ((c.tc : Thread _ _).loc Cert.Kernel33Ideal.main_arg1)) (m ((c.tc : Thread _ _).loc Cert.Kernel33Ideal.main_arg3)),
    Cert.Kernel33Ideal.Value.run m ρ, (θ_run Cert.Reference33Ideal.defs _ _).mono (fun r h c => by
      obtain ⟨h0, h1, h2, hargs⟩ := h c
      obtain ⟨e0, e1, e2, e3⟩ := hag c
      rw [e0, e1, e2, e3] at h0
      rw [e1, e2] at h1
      rw [e1, e3] at h2
      exact ⟨h0, h1, h2, hargs⟩) (Cert.Reference33Ideal.Value.run m' ρ')⟩

end Cert.Adamw

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.ConvClaim
public import Idealize.ShloMosaic.Adequacy
public import Idealize.ShloMosaic.Init
public import proofs.«01_k».proof.Proof.MmClaim
public import proofs.«01_k».proof.Proof.Adamw
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Kernel25
public import proofs.«01_k».proof.Proof.Gen.Kernel25Ideal
public import proofs.«01_k».proof.Proof.Gen.Reference25Ideal
public import proofs.«01_k».proof.Proof.Gen.Kernel26
public import proofs.«01_k».proof.Proof.Gen.Kernel26Ideal
public import proofs.«01_k».proof.Proof.Gen.Reference26Ideal
public import proofs.«01_k».proof.Proof.Gen.Kernel27
public import proofs.«01_k».proof.Proof.Gen.Kernel27Ideal
public import proofs.«01_k».proof.Proof.Gen.Reference27Ideal
public import proofs.«01_k».proof.Proof.Gen.Kernel28
public import proofs.«01_k».proof.Proof.Gen.Kernel28Ideal
public import proofs.«01_k».proof.Proof.Gen.Reference28Ideal
public import proofs.«01_k».proof.Proof.Gen.Kernel29
public import proofs.«01_k».proof.Proof.Gen.Kernel29Ideal
public import proofs.«01_k».proof.Proof.Gen.Reference29Ideal
public import proofs.«01_k».proof.Proof.Gen.Kernel30
public import proofs.«01_k».proof.Proof.Gen.Kernel30Ideal
public import proofs.«01_k».proof.Proof.Gen.Reference30Ideal
public import proofs.«01_k».proof.Proof.Gen.Kernel31
public import proofs.«01_k».proof.Proof.Gen.Kernel31Ideal
public import proofs.«01_k».proof.Proof.Gen.Reference31Ideal
public import proofs.«01_k».proof.Proof.Gen.Kernel32
public import proofs.«01_k».proof.Proof.Gen.Kernel32Ideal
public import proofs.«01_k».proof.Proof.Gen.Reference32Ideal
public import proofs.«01_k».proof.Proof.Gen.Kernel33
public import proofs.«01_k».proof.Proof.Gen.Kernel33Ideal
public import proofs.«01_k».proof.Proof.Gen.Reference33Ideal
public import proofs.«01_k».proof.Proof.Gen.Kernel34
public import proofs.«01_k».proof.Proof.Gen.Kernel34Ideal
public import proofs.«01_k».proof.Proof.Gen.Reference34Ideal
public import proofs.«01_k».proof.Proof.Gen.Pre_top23
public import proofs.«01_k».proof.Proof.Gen.Pre_reals34

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts, Cert.Pre_top23.Gen.facts, Cert.Pre_reals34.Gen.facts,
  Cert.Conv.kernel_frame, Cert.Conv.kernelIdeal_frame, Cert.Conv.reference_frame,
  Cert.Mm.kernel2_frame, Cert.Mm.kernel2Ideal_frame, Cert.Mm.reference2_frame,
  Cert.Mm.kernel3_frame, Cert.Mm.kernel3Ideal_frame, Cert.Mm.reference3_frame,
  Cert.Mm.kernel4_frame, Cert.Mm.kernel4Ideal_frame, Cert.Mm.reference4_frame,
  Cert.Mm.kernel5_frame, Cert.Mm.kernel5Ideal_frame, Cert.Mm.reference5_frame,
  Cert.Mm.kernel6_frame, Cert.Mm.kernel6Ideal_frame, Cert.Mm.reference6_frame,
  Cert.Mm.kernel7_frame, Cert.Mm.kernel7Ideal_frame, Cert.Mm.reference7_frame,
  Cert.Mm.kernel8_frame, Cert.Mm.kernel8Ideal_frame, Cert.Mm.reference8_frame,
  Cert.Mm.kernel9_frame, Cert.Mm.kernel9Ideal_frame, Cert.Mm.reference9_frame,
  Cert.Mm.kernel10_frame, Cert.Mm.kernel10Ideal_frame, Cert.Mm.reference10_frame,
  Cert.Mm.kernel11_frame, Cert.Mm.kernel11Ideal_frame, Cert.Mm.reference11_frame,
  Cert.Mm.kernel12_frame, Cert.Mm.kernel12Ideal_frame, Cert.Mm.reference12_frame,
  Cert.Mm.kernel13_frame, Cert.Mm.kernel13Ideal_frame, Cert.Mm.reference13_frame,
  Cert.Mm.kernel14_frame, Cert.Mm.kernel14Ideal_frame, Cert.Mm.reference14_frame,
  Cert.Mm.kernel15_frame, Cert.Mm.kernel15Ideal_frame, Cert.Mm.reference15_frame,
  Cert.Mm.kernel16_frame, Cert.Mm.kernel16Ideal_frame, Cert.Mm.reference16_frame,
  Cert.Mm.kernel17_frame, Cert.Mm.kernel17Ideal_frame, Cert.Mm.reference17_frame,
  Cert.Mm.kernel18_frame, Cert.Mm.kernel18Ideal_frame, Cert.Mm.reference18_frame,
  Cert.Mm.kernel19_frame, Cert.Mm.kernel19Ideal_frame, Cert.Mm.reference19_frame,
  Cert.Mm.kernel20_frame, Cert.Mm.kernel20Ideal_frame, Cert.Mm.reference20_frame,
  Cert.Mm.kernel21_frame, Cert.Mm.kernel21Ideal_frame, Cert.Mm.reference21_frame,
  Cert.Mm.kernel22_frame, Cert.Mm.kernel22Ideal_frame, Cert.Mm.reference22_frame,
  Cert.Mm.kernel23_frame, Cert.Mm.kernel23Ideal_frame, Cert.Mm.kernel23Ideal_frame_pre, Cert.Mm.reference23_frame, Cert.Mm.reference23_frame_pre,
  Cert.Adamw.kernel24_frame, Cert.Adamw.kernel24Ideal_frame, Cert.Adamw.reference24_frame,
  Cert.Adamw.kernel25_frame, Cert.Adamw.kernel25Ideal_frame, Cert.Adamw.reference25_frame,
  Cert.Adamw.kernel26_frame, Cert.Adamw.kernel26Ideal_frame, Cert.Adamw.reference26_frame,
  Cert.Adamw.kernel27_frame, Cert.Adamw.kernel27Ideal_frame, Cert.Adamw.reference27_frame,
  Cert.Adamw.kernel28_frame, Cert.Adamw.kernel28Ideal_frame, Cert.Adamw.reference28_frame,
  Cert.Adamw.kernel29_frame, Cert.Adamw.kernel29Ideal_frame, Cert.Adamw.reference29_frame,
  Cert.Adamw.kernel30_frame, Cert.Adamw.kernel30Ideal_frame, Cert.Adamw.reference30_frame,
  Cert.Adamw.kernel31_frame, Cert.Adamw.kernel31Ideal_frame, Cert.Adamw.reference31_frame,
  Cert.Adamw.kernel32_frame, Cert.Adamw.kernel32Ideal_frame, Cert.Adamw.reference32_frame,
  Cert.Adamw.kernel33_frame, Cert.Adamw.kernel33Ideal_frame, Cert.Adamw.reference33_frame,
  Cert.Mm.kernel34_frame, Cert.Mm.kernel34Ideal_frame, Cert.Mm.kernel34Ideal_frame_pre, Cert.Mm.reference34_frame, Cert.Mm.reference34_frame_pre,
  trivial, Cert.Conv.same_values,
  trivial, Cert.Mm.same_values2,
  trivial, Cert.Mm.same_values3,
  trivial, Cert.Mm.same_values4,
  trivial, Cert.Mm.same_values5,
  trivial, Cert.Mm.same_values6,
  trivial, Cert.Mm.same_values7,
  trivial, Cert.Mm.same_values8,
  trivial, Cert.Mm.same_values9,
  trivial, Cert.Mm.same_values10,
  trivial, Cert.Mm.same_values11,
  trivial, Cert.Mm.same_values12,
  trivial, Cert.Mm.same_values13,
  trivial, Cert.Mm.same_values14,
  trivial, Cert.Mm.same_values15,
  trivial, Cert.Mm.same_values16,
  trivial, Cert.Mm.same_values17,
  trivial, Cert.Mm.same_values18,
  trivial, Cert.Mm.same_values19,
  trivial, Cert.Mm.same_values20,
  trivial, Cert.Mm.same_values21,
  trivial, Cert.Mm.same_values22,
  trivial, Cert.Mm.same_values23,
  trivial, Cert.Adamw.same_values24,
  trivial, Cert.Adamw.same_values25,
  trivial, Cert.Adamw.same_values26,
  trivial, Cert.Adamw.same_values27,
  trivial, Cert.Adamw.same_values28,
  trivial, Cert.Adamw.same_values29,
  trivial, Cert.Adamw.same_values30,
  trivial, Cert.Adamw.same_values31,
  trivial, Cert.Adamw.same_values32,
  trivial, Cert.Adamw.same_values33,
  trivial, Cert.Mm.same_values34⟩
end Cert.Proof

end
